-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite2 [hPre_finite2 : Cert.Pre_finite2.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite2.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite2 [hPre_finite2 : Cert.Pre_finite2.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite2.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnUpW (m : (ℓ : Loc Cert.FfnUpW.nD Cert.FfnUpW.τ Cert.FfnUpW.sig) → Buf (Elt Bits) ℓ) : Prop :=
  True

def Pre_FfnUpWIdeal (m : (ℓ : Loc Cert.FfnUpWIdeal.nD Cert.FfnUpWIdeal.τ Cert.FfnUpWIdeal.sig) → Buf (Elt Ideal) ℓ) : Prop :=
  True

def Pre_FfnUpWRefIdeal (m : (ℓ : Loc Cert.FfnUpWRefIdeal.nD Cert.FfnUpWRefIdeal.τ Cert.FfnUpWRefIdeal.sig) → Buf (Elt Ideal) ℓ) : Prop :=
  True

def Pre_FfnDownW (m : (ℓ : Loc Cert.FfnDownW.nD Cert.FfnDownW.τ Cert.FfnDownW.sig) → Buf (Elt Bits) ℓ) : Prop :=
  True

def Pre_FfnDownWIdeal (m : (ℓ : Loc Cert.FfnDownWIdeal.nD Cert.FfnDownWIdeal.τ Cert.FfnDownWIdeal.sig) → Buf (Elt Ideal) ℓ) : Prop :=
  True

def Pre_FfnDownWRefIdeal (m : (ℓ : Loc Cert.FfnDownWRefIdeal.nD Cert.FfnDownWRefIdeal.τ Cert.FfnDownWRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInW (m : (ℓ : Loc Cert.MixInW.nD Cert.MixInW.τ Cert.MixInW.sig) → Buf (Elt Bits) ℓ) : Prop :=
  True

def Pre_MixInWIdeal (m : (ℓ : Loc Cert.MixInWIdeal.nD Cert.MixInWIdeal.τ Cert.MixInWIdeal.sig) → Buf (Elt Ideal) ℓ) : Prop :=
  True

def Pre_MixInWRefIdeal (m : (ℓ : Loc Cert.MixInWRefIdeal.nD Cert.MixInWRefIdeal.τ Cert.MixInWRefIdeal.sig) → Buf (Elt Ideal) ℓ) : Prop :=
  True

def Pre_MixOutW (m : (ℓ : Loc Cert.MixOutW.nD Cert.MixOutW.τ Cert.MixOutW.sig) → Buf (Elt Bits) ℓ) : Prop :=
  True

def Pre_MixOutWIdeal (m : (ℓ : Loc Cert.MixOutWIdeal.nD Cert.MixOutWIdeal.τ Cert.MixOutWIdeal.sig) → Buf (Elt Ideal) ℓ) : Prop :=
  True

def Pre_MixOutWRefIdeal (m : (ℓ : Loc Cert.MixOutWRefIdeal.nD Cert.MixOutWRefIdeal.τ Cert.MixOutWRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_MixRes (m : (ℓ : Loc Cert.MixRes.nD Cert.MixRes.τ Cert.MixRes.sig) → Buf (Elt Bits) ℓ) : Prop :=
  True

def Pre_MixResIdeal (m : (ℓ : Loc Cert.MixResIdeal.nD Cert.MixResIdeal.τ Cert.MixResIdeal.sig) → Buf (Elt Ideal) ℓ) : Prop :=
  True

def Pre_MixResRefIdeal (m : (ℓ : Loc Cert.MixResRefIdeal.nD Cert.MixResRefIdeal.τ Cert.MixResRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdIdeal_finite14 [hPre_finite14 : Cert.Pre_finite14.Facts] (m : (ℓ : Loc Cert.RmsBwdIdeal.nD Cert.RmsBwdIdeal.τ Cert.RmsBwdIdeal.sig) → Buf (Elt Ideal) ℓ) : Prop :=
  ∀ c : Dev Cert.RmsBwdIdeal.nD,
    (Cert.Pre_finite14.fn (F := Ideal) (m ((c.tc : Thread Cert.RmsBwdIdeal.nD Cert.RmsBwdIdeal.τ).loc Cert.RmsBwdIdeal.main_arg0)) (m ((c.tc : Thread Cert.RmsBwdIdeal.nD Cert.RmsBwdIdeal.τ).loc Cert.RmsBwdIdeal.main_arg1)) (m ((c.tc : Thread Cert.RmsBwdIdeal.nD Cert.RmsBwdIdeal.τ).loc Cert.RmsBwdIdeal.main_arg2)) (m ((c.tc : Thread Cert.RmsBwdIdeal.nD Cert.RmsBwdIdeal.τ).loc Cert.RmsBwdIdeal.main_arg3))) = (fun _ => 1#1)

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRefIdeal_finite14 [hPre_finite14 : Cert.Pre_finite14.Facts] (m : (ℓ : Loc Cert.RmsBwdRefIdeal.nD Cert.RmsBwdRefIdeal.τ Cert.RmsBwdRefIdeal.sig) → Buf (Elt Ideal) ℓ) : Prop :=
  ∀ c : Dev Cert.RmsBwdRefIdeal.nD,
    (Cert.Pre_finite14.fn (F := Ideal) (m ((c.tc : Thread Cert.RmsBwdRefIdeal.nD Cert.RmsBwdRefIdeal.τ).loc Cert.RmsBwdRefIdeal.main_arg0)) (m ((c.tc : Thread Cert.RmsBwdRefIdeal.nD Cert.RmsBwdRefIdeal.τ).loc Cert.RmsBwdRefIdeal.main_arg1)) (m ((c.tc : Thread Cert.RmsBwdRefIdeal.nD Cert.RmsBwdRefIdeal.τ).loc Cert.RmsBwdRefIdeal.main_arg2)) (m ((c.tc : Thread Cert.RmsBwdRefIdeal.nD Cert.RmsBwdRefIdeal.τ).loc Cert.RmsBwdRefIdeal.main_arg3))) = (fun _ => 1#1)

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_finite2 [hFfnBwdIdeal : Cert.FfnBwdIdeal.Facts] [hPre_finite2 : Cert.Pre_finite2.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite2 m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_finite2 [hFfnRefIdeal : Cert.FfnRefIdeal.Facts] [hPre_finite2 : Cert.Pre_finite2.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite2 m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3))
      ∧ r.2.sem = fun _ => 0)

def quiescent_FfnUpW [hFfnUpW : Cert.FfnUpW.Facts] : Prop :=
  ∀ (m : (ℓ : Loc Cert.FfnUpW.nD Cert.FfnUpW.τ Cert.FfnUpW.sig) → Buf (Elt Bits) ℓ) (g : Dev Cert.FfnUpW.nD → PrngReg), Pre_FfnUpW m →
    θ_run (Cert.FfnUpW.defs (F := Bits)) (onTc (τ := Cert.FfnUpW.τ) (Cert.FfnUpW.main (F := Bits))) ⟨m, fun _ => 0, g⟩ (fun r => (∀ c : Dev Cert.FfnUpW.nD,
      r.2.mem ((c.tc : Thread Cert.FfnUpW.nD Cert.FfnUpW.τ).loc Cert.FfnUpW.main_arg0) = m ((c.tc : Thread Cert.FfnUpW.nD Cert.FfnUpW.τ).loc Cert.FfnUpW.main_arg0)
      ∧ r.2.mem ((c.tc : Thread Cert.FfnUpW.nD Cert.FfnUpW.τ).loc Cert.FfnUpW.main_arg1) = m ((c.tc : Thread Cert.FfnUpW.nD Cert.FfnUpW.τ).loc Cert.FfnUpW.main_arg1))
      ∧ r.2.sem = fun _ => 0)

def quiescent_FfnUpWIdeal [hFfnUpWIdeal : Cert.FfnUpWIdeal.Facts] : Prop :=
  ∀ (m : (ℓ : Loc Cert.FfnUpWIdeal.nD Cert.FfnUpWIdeal.τ Cert.FfnUpWIdeal.sig) → Buf (Elt Ideal) ℓ) (g : Dev Cert.FfnUpWIdeal.nD → PrngReg), Pre_FfnUpWIdeal m →
    θ_run (Cert.FfnUpWIdeal.defs (F := Ideal)) (onTc (τ := Cert.FfnUpWIdeal.τ) (Cert.FfnUpWIdeal.main (F := Ideal))) ⟨m, fun _ => 0, g⟩ (fun r => (∀ c : Dev Cert.FfnUpWIdeal.nD,
      r.2.mem ((c.tc : Thread Cert.FfnUpWIdeal.nD Cert.FfnUpWIdeal.τ).loc Cert.FfnUpWIdeal.main_arg0) = m ((c.tc : Thread Cert.FfnUpWIdeal.nD Cert.FfnUpWIdeal.τ).loc Cert.FfnUpWIdeal.main_arg0)
      ∧ r.2.mem ((c.tc : Thread Cert.FfnUpWIdeal.nD Cert.FfnUpWIdeal.τ).loc Cert.FfnUpWIdeal.main_arg1) = m ((c.tc : Thread Cert.FfnUpWIdeal.nD Cert.FfnUpWIdeal.τ).loc Cert.FfnUpWIdeal.main_arg1))
      ∧ r.2.sem = fun _ => 0)

def quiescent_FfnUpWRefIdeal [hFfnUpWRefIdeal : Cert.FfnUpWRefIdeal.Facts] : Prop :=
  ∀ (m : (ℓ : Loc Cert.FfnUpWRefIdeal.nD Cert.FfnUpWRefIdeal.τ Cert.FfnUpWRefIdeal.sig) → Buf (Elt Ideal) ℓ) (g : Dev Cert.FfnUpWRefIdeal.nD → PrngReg), Pre_FfnUpWRefIdeal m →
    θ_run (Cert.FfnUpWRefIdeal.defs (F := Ideal)) (onTc (τ := Cert.FfnUpWRefIdeal.τ) (Cert.FfnUpWRefIdeal.main (F := Ideal))) ⟨m, fun _ => 0, g⟩ (fun r => (∀ c : Dev Cert.FfnUpWRefIdeal.nD,
      r.2.mem ((c.tc : Thread Cert.FfnUpWRefIdeal.nD Cert.FfnUpWRefIdeal.τ).loc Cert.FfnUpWRefIdeal.main_arg0) = m ((c.tc : Thread Cert.FfnUpWRefIdeal.nD Cert.FfnUpWRefIdeal.τ).loc Cert.FfnUpWRefIdeal.main_arg0)
      ∧ r.2.mem ((c.tc : Thread Cert.FfnUpWRefIdeal.nD Cert.FfnUpWRefIdeal.τ).loc Cert.FfnUpWRefIdeal.main_arg1) = m ((c.tc : Thread Cert.FfnUpWRefIdeal.nD Cert.FfnUpWRefIdeal.τ).loc Cert.FfnUpWRefIdeal.main_arg1))
      ∧ r.2.sem = fun _ => 0)

def quiescent_FfnDownW [hFfnDownW : Cert.FfnDownW.Facts] : Prop :=
  ∀ (m : (ℓ : Loc Cert.FfnDownW.nD Cert.FfnDownW.τ Cert.FfnDownW.sig) → Buf (Elt Bits) ℓ) (g : Dev Cert.FfnDownW.nD → PrngReg), Pre_FfnDownW m →
    θ_run (Cert.FfnDownW.defs (F := Bits)) (onTc (τ := Cert.FfnDownW.τ) (Cert.FfnDownW.main (F := Bits))) ⟨m, fun _ => 0, g⟩ (fun r => (∀ c : Dev Cert.FfnDownW.nD,
      r.2.mem ((c.tc : Thread Cert.FfnDownW.nD Cert.FfnDownW.τ).loc Cert.FfnDownW.main_arg0) = m ((c.tc : Thread Cert.FfnDownW.nD Cert.FfnDownW.τ).loc Cert.FfnDownW.main_arg0)
      ∧ r.2.mem ((c.tc : Thread Cert.FfnDownW.nD Cert.FfnDownW.τ).loc Cert.FfnDownW.main_arg1) = m ((c.tc : Thread Cert.FfnDownW.nD Cert.FfnDownW.τ).loc Cert.FfnDownW.main_arg1))
      ∧ r.2.sem = fun _ => 0)

def quiescent_FfnDownWIdeal [hFfnDownWIdeal : Cert.FfnDownWIdeal.Facts] : Prop :=
  ∀ (m : (ℓ : Loc Cert.FfnDownWIdeal.nD Cert.FfnDownWIdeal.τ Cert.FfnDownWIdeal.sig) → Buf (Elt Ideal) ℓ) (g : Dev Cert.FfnDownWIdeal.nD → PrngReg), Pre_FfnDownWIdeal m →
    θ_run (Cert.FfnDownWIdeal.defs (F := Ideal)) (onTc (τ := Cert.FfnDownWIdeal.τ) (Cert.FfnDownWIdeal.main (F := Ideal))) ⟨m, fun _ => 0, g⟩ (fun r => (∀ c : Dev Cert.FfnDownWIdeal.nD,
      r.2.mem ((c.tc : Thread Cert.FfnDownWIdeal.nD Cert.FfnDownWIdeal.τ).loc Cert.FfnDownWIdeal.main_arg0) = m ((c.tc : Thread Cert.FfnDownWIdeal.nD Cert.FfnDownWIdeal.τ).loc Cert.FfnDownWIdeal.main_arg0)
      ∧ r.2.mem ((c.tc : Thread Cert.FfnDownWIdeal.nD Cert.FfnDownWIdeal.τ).loc Cert.FfnDownWIdeal.main_arg1) = m ((c.tc : Thread Cert.FfnDownWIdeal.nD Cert.FfnDownWIdeal.τ).loc Cert.FfnDownWIdeal.main_arg1))
      ∧ r.2.sem = fun _ => 0)

def quiescent_FfnDownWRefIdeal [hFfnDownWRefIdeal : Cert.FfnDownWRefIdeal.Facts] : Prop :=
  ∀ (m : (ℓ : Loc Cert.FfnDownWRefIdeal.nD Cert.FfnDownWRefIdeal.τ Cert.FfnDownWRefIdeal.sig) → Buf (Elt Ideal) ℓ) (g : Dev Cert.FfnDownWRefIdeal.nD → PrngReg), Pre_FfnDownWRefIdeal m →
    θ_run (Cert.FfnDownWRefIdeal.defs (F := Ideal)) (onTc (τ := Cert.FfnDownWRefIdeal.τ) (Cert.FfnDownWRefIdeal.main (F := Ideal))) ⟨m, fun _ => 0, g⟩ (fun r => (∀ c : Dev Cert.FfnDownWRefIdeal.nD,
      r.2.mem ((c.tc : Thread Cert.FfnDownWRefIdeal.nD Cert.FfnDownWRefIdeal.τ).loc Cert.FfnDownWRefIdeal.main_arg0) = m ((c.tc : Thread Cert.FfnDownWRefIdeal.nD Cert.FfnDownWRefIdeal.τ).loc Cert.FfnDownWRefIdeal.main_arg0)
      ∧ r.2.mem ((c.tc : Thread Cert.FfnDownWRefIdeal.nD Cert.FfnDownWRefIdeal.τ).loc Cert.FfnDownWRefIdeal.main_arg1) = m ((c.tc : Thread Cert.FfnDownWRefIdeal.nD Cert.FfnDownWRefIdeal.τ).loc Cert.FfnDownWRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInW [hMixInW : Cert.MixInW.Facts] : Prop :=
  ∀ (m : (ℓ : Loc Cert.MixInW.nD Cert.MixInW.τ Cert.MixInW.sig) → Buf (Elt Bits) ℓ) (g : Dev Cert.MixInW.nD → PrngReg), Pre_MixInW m →
    θ_run (Cert.MixInW.defs (F := Bits)) (onTc (τ := Cert.MixInW.τ) (Cert.MixInW.main (F := Bits))) ⟨m, fun _ => 0, g⟩ (fun r => (∀ c : Dev Cert.MixInW.nD,
      r.2.mem ((c.tc : Thread Cert.MixInW.nD Cert.MixInW.τ).loc Cert.MixInW.main_arg0) = m ((c.tc : Thread Cert.MixInW.nD Cert.MixInW.τ).loc Cert.MixInW.main_arg0)
      ∧ r.2.mem ((c.tc : Thread Cert.MixInW.nD Cert.MixInW.τ).loc Cert.MixInW.main_arg1) = m ((c.tc : Thread Cert.MixInW.nD Cert.MixInW.τ).loc Cert.MixInW.main_arg1))
      ∧ r.2.sem = fun _ => 0)

def quiescent_MixInWIdeal [hMixInWIdeal : Cert.MixInWIdeal.Facts] : Prop :=
  ∀ (m : (ℓ : Loc Cert.MixInWIdeal.nD Cert.MixInWIdeal.τ Cert.MixInWIdeal.sig) → Buf (Elt Ideal) ℓ) (g : Dev Cert.MixInWIdeal.nD → PrngReg), Pre_MixInWIdeal m →
    θ_run (Cert.MixInWIdeal.defs (F := Ideal)) (onTc (τ := Cert.MixInWIdeal.τ) (Cert.MixInWIdeal.main (F := Ideal))) ⟨m, fun _ => 0, g⟩ (fun r => (∀ c : Dev Cert.MixInWIdeal.nD,
      r.2.mem ((c.tc : Thread Cert.MixInWIdeal.nD Cert.MixInWIdeal.τ).loc Cert.MixInWIdeal.main_arg0) = m ((c.tc : Thread Cert.MixInWIdeal.nD Cert.MixInWIdeal.τ).loc Cert.MixInWIdeal.main_arg0)
      ∧ r.2.mem ((c.tc : Thread Cert.MixInWIdeal.nD Cert.MixInWIdeal.τ).loc Cert.MixInWIdeal.main_arg1) = m ((c.tc : Thread Cert.MixInWIdeal.nD Cert.MixInWIdeal.τ).loc Cert.MixInWIdeal.main_arg1))
      ∧ r.2.sem = fun _ => 0)

def quiescent_MixInWRefIdeal [hMixInWRefIdeal : Cert.MixInWRefIdeal.Facts] : Prop :=
  ∀ (m : (ℓ : Loc Cert.MixInWRefIdeal.nD Cert.MixInWRefIdeal.τ Cert.MixInWRefIdeal.sig) → Buf (Elt Ideal) ℓ) (g : Dev Cert.MixInWRefIdeal.nD → PrngReg), Pre_MixInWRefIdeal m →
    θ_run (Cert.MixInWRefIdeal.defs (F := Ideal)) (onTc (τ := Cert.MixInWRefIdeal.τ) (Cert.MixInWRefIdeal.main (F := Ideal))) ⟨m, fun _ => 0, g⟩ (fun r => (∀ c : Dev Cert.MixInWRefIdeal.nD,
      r.2.mem ((c.tc : Thread Cert.MixInWRefIdeal.nD Cert.MixInWRefIdeal.τ).loc Cert.MixInWRefIdeal.main_arg0) = m ((c.tc : Thread Cert.MixInWRefIdeal.nD Cert.MixInWRefIdeal.τ).loc Cert.MixInWRefIdeal.main_arg0)
      ∧ r.2.mem ((c.tc : Thread Cert.MixInWRefIdeal.nD Cert.MixInWRefIdeal.τ).loc Cert.MixInWRefIdeal.main_arg1) = m ((c.tc : Thread Cert.MixInWRefIdeal.nD Cert.MixInWRefIdeal.τ).loc Cert.MixInWRefIdeal.main_arg1))
      ∧ r.2.sem = fun _ => 0)

def quiescent_MixOutW [hMixOutW : Cert.MixOutW.Facts] : Prop :=
  ∀ (m : (ℓ : Loc Cert.MixOutW.nD Cert.MixOutW.τ Cert.MixOutW.sig) → Buf (Elt Bits) ℓ) (g : Dev Cert.MixOutW.nD → PrngReg), Pre_MixOutW m →
    θ_run (Cert.MixOutW.defs (F := Bits)) (onTc (τ := Cert.MixOutW.τ) (Cert.MixOutW.main (F := Bits))) ⟨m, fun _ => 0, g⟩ (fun r => (∀ c : Dev Cert.MixOutW.nD,
      r.2.mem ((c.tc : Thread Cert.MixOutW.nD Cert.MixOutW.τ).loc Cert.MixOutW.main_arg0) = m ((c.tc : Thread Cert.MixOutW.nD Cert.MixOutW.τ).loc Cert.MixOutW.main_arg0)
      ∧ r.2.mem ((c.tc : Thread Cert.MixOutW.nD Cert.MixOutW.τ).loc Cert.MixOutW.main_arg1) = m ((c.tc : Thread Cert.MixOutW.nD Cert.MixOutW.τ).loc Cert.MixOutW.main_arg1))
      ∧ r.2.sem = fun _ => 0)

def quiescent_MixOutWIdeal [hMixOutWIdeal : Cert.MixOutWIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg), Pre_MixOutWIdeal m →
    θ_run (Cert.MixOutWIdeal.defs (F := Ideal)) (onTc (τ := Cert.MixOutWIdeal.τ) (Cert.MixOutWIdeal.main (F := Ideal))) ⟨m, fun _ => 0, g⟩ (fun r => (∀ c : Dev Cert.MixOutWIdeal.nD,
      r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
      ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ r.2.sem = fun _ => 0)

def quiescent_MixOutWRefIdeal [hMixOutWRefIdeal : Cert.MixOutWRefIdeal.Facts] : Prop :=
  ∀ (m : (ℓ : Loc Cert.MixOutWRefIdeal.nD Cert.MixOutWRefIdeal.τ Cert.MixOutWRefIdeal.sig) → Buf (Elt Ideal) ℓ) (g : Dev Cert.MixOutWRefIdeal.nD → PrngReg), Pre_MixOutWRefIdeal m →
    θ_run (Cert.MixOutWRefIdeal.defs (F := Ideal)) (onTc (τ := Cert.MixOutWRefIdeal.τ) (Cert.MixOutWRefIdeal.main (F := Ideal))) ⟨m, fun _ => 0, g⟩ (fun r => (∀ c : Dev Cert.MixOutWRefIdeal.nD,
      r.2.mem ((c.tc : Thread Cert.MixOutWRefIdeal.nD Cert.MixOutWRefIdeal.τ).loc Cert.MixOutWRefIdeal.main_arg0) = m ((c.tc : Thread Cert.MixOutWRefIdeal.nD Cert.MixOutWRefIdeal.τ).loc Cert.MixOutWRefIdeal.main_arg0)
      ∧ r.2.mem ((c.tc : Thread Cert.MixOutWRefIdeal.nD Cert.MixOutWRefIdeal.τ).loc Cert.MixOutWRefIdeal.main_arg1) = m ((c.tc : Thread Cert.MixOutWRefIdeal.nD Cert.MixOutWRefIdeal.τ).loc Cert.MixOutWRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2))
      ∧ r.2.sem = fun _ => 0)

def quiescent_MixRes [hMixRes : Cert.MixRes.Facts] : Prop :=
  ∀ (m : (ℓ : Loc Cert.MixRes.nD Cert.MixRes.τ Cert.MixRes.sig) → Buf (Elt Bits) ℓ) (g : Dev Cert.MixRes.nD → PrngReg), Pre_MixRes m →
    θ_run (Cert.MixRes.defs (F := Bits)) (onTc (τ := Cert.MixRes.τ) (Cert.MixRes.main (F := Bits))) ⟨m, fun _ => 0, g⟩ (fun r => (∀ c : Dev Cert.MixRes.nD,
      r.2.mem ((c.tc : Thread Cert.MixRes.nD Cert.MixRes.τ).loc Cert.MixRes.main_arg0) = m ((c.tc : Thread Cert.MixRes.nD Cert.MixRes.τ).loc Cert.MixRes.main_arg0)
      ∧ r.2.mem ((c.tc : Thread Cert.MixRes.nD Cert.MixRes.τ).loc Cert.MixRes.main_arg1) = m ((c.tc : Thread Cert.MixRes.nD Cert.MixRes.τ).loc Cert.MixRes.main_arg1)
      ∧ r.2.mem ((c.tc : Thread Cert.MixRes.nD Cert.MixRes.τ).loc Cert.MixRes.main_arg2) = m ((c.tc : Thread Cert.MixRes.nD Cert.MixRes.τ).loc Cert.MixRes.main_arg2)
      ∧ r.2.mem ((c.tc : Thread Cert.MixRes.nD Cert.MixRes.τ).loc Cert.MixRes.main_arg3) = m ((c.tc : Thread Cert.MixRes.nD Cert.MixRes.τ).loc Cert.MixRes.main_arg3))
      ∧ r.2.sem = fun _ => 0)

def quiescent_MixResIdeal [hMixResIdeal : Cert.MixResIdeal.Facts] : Prop :=
  ∀ (m : (ℓ : Loc Cert.MixResIdeal.nD Cert.MixResIdeal.τ Cert.MixResIdeal.sig) → Buf (Elt Ideal) ℓ) (g : Dev Cert.MixResIdeal.nD → PrngReg), Pre_MixResIdeal m →
    θ_run (Cert.MixResIdeal.defs (F := Ideal)) (onTc (τ := Cert.MixResIdeal.τ) (Cert.MixResIdeal.main (F := Ideal))) ⟨m, fun _ => 0, g⟩ (fun r => (∀ c : Dev Cert.MixResIdeal.nD,
      r.2.mem ((c.tc : Thread Cert.MixResIdeal.nD Cert.MixResIdeal.τ).loc Cert.MixResIdeal.main_arg0) = m ((c.tc : Thread Cert.MixResIdeal.nD Cert.MixResIdeal.τ).loc Cert.MixResIdeal.main_arg0)
      ∧ r.2.mem ((c.tc : Thread Cert.MixResIdeal.nD Cert.MixResIdeal.τ).loc Cert.MixResIdeal.main_arg1) = m ((c.tc : Thread Cert.MixResIdeal.nD Cert.MixResIdeal.τ).loc Cert.MixResIdeal.main_arg1)
      ∧ r.2.mem ((c.tc : Thread Cert.MixResIdeal.nD Cert.MixResIdeal.τ).loc Cert.MixResIdeal.main_arg2) = m ((c.tc : Thread Cert.MixResIdeal.nD Cert.MixResIdeal.τ).loc Cert.MixResIdeal.main_arg2)
      ∧ r.2.mem ((c.tc : Thread Cert.MixResIdeal.nD Cert.MixResIdeal.τ).loc Cert.MixResIdeal.main_arg3) = m ((c.tc : Thread Cert.MixResIdeal.nD Cert.MixResIdeal.τ).loc Cert.MixResIdeal.main_arg3))
      ∧ r.2.sem = fun _ => 0)

def quiescent_MixResRefIdeal [hMixResRefIdeal : Cert.MixResRefIdeal.Facts] : Prop :=
  ∀ (m : (ℓ : Loc Cert.MixResRefIdeal.nD Cert.MixResRefIdeal.τ Cert.MixResRefIdeal.sig) → Buf (Elt Ideal) ℓ) (g : Dev Cert.MixResRefIdeal.nD → PrngReg), Pre_MixResRefIdeal m →
    θ_run (Cert.MixResRefIdeal.defs (F := Ideal)) (onTc (τ := Cert.MixResRefIdeal.τ) (Cert.MixResRefIdeal.main (F := Ideal))) ⟨m, fun _ => 0, g⟩ (fun r => (∀ c : Dev Cert.MixResRefIdeal.nD,
      r.2.mem ((c.tc : Thread Cert.MixResRefIdeal.nD Cert.MixResRefIdeal.τ).loc Cert.MixResRefIdeal.main_arg0) = m ((c.tc : Thread Cert.MixResRefIdeal.nD Cert.MixResRefIdeal.τ).loc Cert.MixResRefIdeal.main_arg0)
      ∧ r.2.mem ((c.tc : Thread Cert.MixResRefIdeal.nD Cert.MixResRefIdeal.τ).loc Cert.MixResRefIdeal.main_arg1) = m ((c.tc : Thread Cert.MixResRefIdeal.nD Cert.MixResRefIdeal.τ).loc Cert.MixResRefIdeal.main_arg1)
      ∧ r.2.mem ((c.tc : Thread Cert.MixResRefIdeal.nD Cert.MixResRefIdeal.τ).loc Cert.MixResRefIdeal.main_arg2) = m ((c.tc : Thread Cert.MixResRefIdeal.nD Cert.MixResRefIdeal.τ).loc Cert.MixResRefIdeal.main_arg2)
      ∧ r.2.mem ((c.tc : Thread Cert.MixResRefIdeal.nD Cert.MixResRefIdeal.τ).loc Cert.MixResRefIdeal.main_arg3) = m ((c.tc : Thread Cert.MixResRefIdeal.nD Cert.MixResRefIdeal.τ).loc Cert.MixResRefIdeal.main_arg3))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdIdeal_pre_finite14 [hRmsBwdIdeal : Cert.RmsBwdIdeal.Facts] [hPre_finite14 : Cert.Pre_finite14.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal_finite14 m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_RmsBwdRefIdeal_pre_finite14 [hRmsBwdRefIdeal : Cert.RmsBwdRefIdeal.Facts] [hPre_finite14 : Cert.Pre_finite14.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal_finite14 m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4)
      ∧ r.2.mem ((c.tc : Thread Cert.AdamUp.nD Cert.AdamUp.τ).loc Cert.AdamUp.main_arg5) = m ((c.tc : Thread Cert.AdamUp.nD Cert.AdamUp.τ).loc Cert.AdamUp.main_arg5))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
      ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4)
      ∧ r.2.mem ((c.tc : Thread Cert.AdamUpRefIdeal.nD Cert.AdamUpRefIdeal.τ).loc Cert.AdamUpRefIdeal.main_arg5) = m ((c.tc : Thread Cert.AdamUpRefIdeal.nD Cert.AdamUpRefIdeal.τ).loc Cert.AdamUpRefIdeal.main_arg5))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4)
      ∧ r.2.mem ((c.tc : Thread Cert.AdamDown.nD Cert.AdamDown.τ).loc Cert.AdamDown.main_arg5) = m ((c.tc : Thread Cert.AdamDown.nD Cert.AdamDown.τ).loc Cert.AdamDown.main_arg5))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
      ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4)
      ∧ r.2.mem ((c.tc : Thread Cert.AdamDownRefIdeal.nD Cert.AdamDownRefIdeal.τ).loc Cert.AdamDownRefIdeal.main_arg5) = m ((c.tc : Thread Cert.AdamDownRefIdeal.nD Cert.AdamDownRefIdeal.τ).loc Cert.AdamDownRefIdeal.main_arg5))
      ∧ r.2.sem = fun _ => 0)

def preserves_AttnBwd_AttnBwdIdeal : Prop :=
  IdealRules.named_const.Statement Cert.AttnBwdIdeal.κ "mask" .f32 0xF149F2CA#32 ⊥

def algebraic_AttnBwdIdeal_AttnRefIdeal_pre_finite [hAttnBwdIdeal : Cert.AttnBwdIdeal.Facts] [hAttnRefIdeal : Cert.AttnRefIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)
      ∧ m' ((c.tc : Thread Cert.AttnRefIdeal.nD Cert.AttnRefIdeal.τ).loc Cert.AttnRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v4_0)) (v1 : (c : Dev Cert.AttnBwdIdeal.nD) → Buf (Elt Ideal) ((c.tc : Thread Cert.AttnBwdIdeal.nD Cert.AttnBwdIdeal.τ).loc Cert.AttnBwdIdeal.main_v4_1)) (v2 : (c : Dev Cert.AttnBwdIdeal.nD) → Buf (Elt Ideal) ((c.tc : Thread Cert.AttnBwdIdeal.nD Cert.AttnBwdIdeal.τ).loc Cert.AttnBwdIdeal.main_v4_2)) (v3 : (c : Dev Cert.AttnBwdIdeal.nD) → Buf (Elt Ideal) ((c.tc : Thread Cert.AttnBwdIdeal.nD Cert.AttnBwdIdeal.τ).loc Cert.AttnBwdIdeal.main_v4_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v4_0) = v0 c
          ∧ r.2.mem ((c.tc : Thread Cert.AttnBwdIdeal.nD Cert.AttnBwdIdeal.τ).loc Cert.AttnBwdIdeal.main_v4_1) = v1 c
          ∧ r.2.mem ((c.tc : Thread Cert.AttnBwdIdeal.nD Cert.AttnBwdIdeal.τ).loc Cert.AttnBwdIdeal.main_v4_2) = v2 c
          ∧ r.2.mem ((c.tc : Thread Cert.AttnBwdIdeal.nD Cert.AttnBwdIdeal.τ).loc Cert.AttnBwdIdeal.main_v4_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v121) = v0 c
          ∧ r.2.mem ((c.tc : Thread Cert.AttnRefIdeal.nD Cert.AttnRefIdeal.τ).loc Cert.AttnRefIdeal.main_v139) = v1 c
          ∧ r.2.mem ((c.tc : Thread Cert.AttnRefIdeal.nD Cert.AttnRefIdeal.τ).loc Cert.AttnRefIdeal.main_v138) = v2 c
          ∧ r.2.mem ((c.tc : Thread Cert.AttnRefIdeal.nD Cert.AttnRefIdeal.τ).loc Cert.AttnRefIdeal.main_v141) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_FfnBwd_FfnBwdIdeal : Prop :=
  True

def algebraic_FfnBwdIdeal_FfnRefIdeal_pre_finite2 [hFfnBwdIdeal : Cert.FfnBwdIdeal.Facts] [hFfnRefIdeal : Cert.FfnRefIdeal.Facts] [hPre_finite2 : Cert.Pre_finite2.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_finite2 m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v11) = v0 c
          ∧ r.2.mem ((c.tc : Thread Cert.FfnRefIdeal.nD Cert.FfnRefIdeal.τ).loc Cert.FfnRefIdeal.main_v12) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v28) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3))

def preserves_FfnUpW_FfnUpWIdeal : Prop :=
  True

def algebraic_FfnUpWIdeal_FfnUpWRefIdeal [hFfnUpWIdeal : Cert.FfnUpWIdeal.Facts] [hFfnUpWRefIdeal : Cert.FfnUpWRefIdeal.Facts] : Prop :=
  ∀ (m : (ℓ : Loc Cert.FfnUpWIdeal.nD Cert.FfnUpWIdeal.τ Cert.FfnUpWIdeal.sig) → Buf (Elt Ideal) ℓ) (g : Dev Cert.FfnUpWIdeal.nD → PrngReg)
    (m' : (ℓ : Loc Cert.FfnUpWRefIdeal.nD Cert.FfnUpWRefIdeal.τ Cert.FfnUpWRefIdeal.sig) → Buf (Elt Ideal) ℓ) (g' : Dev Cert.FfnUpWRefIdeal.nD → PrngReg), Pre_FfnUpWIdeal m →
    (∀ c : Dev Cert.FfnUpWIdeal.nD,
      m' ((c.tc : Thread Cert.FfnUpWRefIdeal.nD Cert.FfnUpWRefIdeal.τ).loc Cert.FfnUpWRefIdeal.main_arg0) = m ((c.tc : Thread Cert.FfnUpWIdeal.nD Cert.FfnUpWIdeal.τ).loc Cert.FfnUpWIdeal.main_arg0)
      ∧ m' ((c.tc : Thread Cert.FfnUpWRefIdeal.nD Cert.FfnUpWRefIdeal.τ).loc Cert.FfnUpWRefIdeal.main_arg1) = m ((c.tc : Thread Cert.FfnUpWIdeal.nD Cert.FfnUpWIdeal.τ).loc Cert.FfnUpWIdeal.main_arg1)) →
    ∃ (v0 : (c : Dev Cert.FfnUpWIdeal.nD) → Buf (Elt Ideal) ((c.tc : Thread Cert.FfnUpWIdeal.nD Cert.FfnUpWIdeal.τ).loc Cert.FfnUpWIdeal.main_v0)),
      θ_run (Cert.FfnUpWIdeal.defs (F := Ideal)) (onTc (τ := Cert.FfnUpWIdeal.τ) (Cert.FfnUpWIdeal.main (F := Ideal))) ⟨m, fun _ => 0, g⟩ (fun r => ∀ c : Dev Cert.FfnUpWIdeal.nD,
          r.2.mem ((c.tc : Thread Cert.FfnUpWIdeal.nD Cert.FfnUpWIdeal.τ).loc Cert.FfnUpWIdeal.main_v0) = v0 c
          ∧ r.2.mem ((c.tc : Thread Cert.FfnUpWIdeal.nD Cert.FfnUpWIdeal.τ).loc Cert.FfnUpWIdeal.main_arg0) = m ((c.tc : Thread Cert.FfnUpWIdeal.nD Cert.FfnUpWIdeal.τ).loc Cert.FfnUpWIdeal.main_arg0)
          ∧ r.2.mem ((c.tc : Thread Cert.FfnUpWIdeal.nD Cert.FfnUpWIdeal.τ).loc Cert.FfnUpWIdeal.main_arg1) = m ((c.tc : Thread Cert.FfnUpWIdeal.nD Cert.FfnUpWIdeal.τ).loc Cert.FfnUpWIdeal.main_arg1))
      ∧ θ_run (Cert.FfnUpWRefIdeal.defs (F := Ideal)) (onTc (τ := Cert.FfnUpWRefIdeal.τ) (Cert.FfnUpWRefIdeal.main (F := Ideal))) ⟨m', fun _ => 0, g'⟩ (fun r => ∀ c : Dev Cert.FfnUpWRefIdeal.nD,
          r.2.mem ((c.tc : Thread Cert.FfnUpWRefIdeal.nD Cert.FfnUpWRefIdeal.τ).loc Cert.FfnUpWRefIdeal.main_v15) = v0 c
          ∧ r.2.mem ((c.tc : Thread Cert.FfnUpWRefIdeal.nD Cert.FfnUpWRefIdeal.τ).loc Cert.FfnUpWRefIdeal.main_arg0) = m' ((c.tc : Thread Cert.FfnUpWRefIdeal.nD Cert.FfnUpWRefIdeal.τ).loc Cert.FfnUpWRefIdeal.main_arg0)
          ∧ r.2.mem ((c.tc : Thread Cert.FfnUpWRefIdeal.nD Cert.FfnUpWRefIdeal.τ).loc Cert.FfnUpWRefIdeal.main_arg1) = m' ((c.tc : Thread Cert.FfnUpWRefIdeal.nD Cert.FfnUpWRefIdeal.τ).loc Cert.FfnUpWRefIdeal.main_arg1))

def preserves_FfnDownW_FfnDownWIdeal : Prop :=
  True

def algebraic_FfnDownWIdeal_FfnDownWRefIdeal [hFfnDownWIdeal : Cert.FfnDownWIdeal.Facts] [hFfnDownWRefIdeal : Cert.FfnDownWRefIdeal.Facts] : Prop :=
  ∀ (m : (ℓ : Loc Cert.FfnDownWIdeal.nD Cert.FfnDownWIdeal.τ Cert.FfnDownWIdeal.sig) → Buf (Elt Ideal) ℓ) (g : Dev Cert.FfnDownWIdeal.nD → PrngReg)
    (m' : (ℓ : Loc Cert.FfnDownWRefIdeal.nD Cert.FfnDownWRefIdeal.τ Cert.FfnDownWRefIdeal.sig) → Buf (Elt Ideal) ℓ) (g' : Dev Cert.FfnDownWRefIdeal.nD → PrngReg), Pre_FfnDownWIdeal m →
    (∀ c : Dev Cert.FfnDownWIdeal.nD,
      m' ((c.tc : Thread Cert.FfnDownWRefIdeal.nD Cert.FfnDownWRefIdeal.τ).loc Cert.FfnDownWRefIdeal.main_arg0) = m ((c.tc : Thread Cert.FfnDownWIdeal.nD Cert.FfnDownWIdeal.τ).loc Cert.FfnDownWIdeal.main_arg0)
      ∧ m' ((c.tc : Thread Cert.FfnDownWRefIdeal.nD Cert.FfnDownWRefIdeal.τ).loc Cert.FfnDownWRefIdeal.main_arg1) = m ((c.tc : Thread Cert.FfnDownWIdeal.nD Cert.FfnDownWIdeal.τ).loc Cert.FfnDownWIdeal.main_arg1)) →
    ∃ (v0 : (c : Dev Cert.FfnDownWIdeal.nD) → Buf (Elt Ideal) ((c.tc : Thread Cert.FfnDownWIdeal.nD Cert.FfnDownWIdeal.τ).loc Cert.FfnDownWIdeal.main_v0)),
      θ_run (Cert.FfnDownWIdeal.defs (F := Ideal)) (onTc (τ := Cert.FfnDownWIdeal.τ) (Cert.FfnDownWIdeal.main (F := Ideal))) ⟨m, fun _ => 0, g⟩ (fun r => ∀ c : Dev Cert.FfnDownWIdeal.nD,
          r.2.mem ((c.tc : Thread Cert.FfnDownWIdeal.nD Cert.FfnDownWIdeal.τ).loc Cert.FfnDownWIdeal.main_v0) = v0 c
          ∧ r.2.mem ((c.tc : Thread Cert.FfnDownWIdeal.nD Cert.FfnDownWIdeal.τ).loc Cert.FfnDownWIdeal.main_arg0) = m ((c.tc : Thread Cert.FfnDownWIdeal.nD Cert.FfnDownWIdeal.τ).loc Cert.FfnDownWIdeal.main_arg0)
          ∧ r.2.mem ((c.tc : Thread Cert.FfnDownWIdeal.nD Cert.FfnDownWIdeal.τ).loc Cert.FfnDownWIdeal.main_arg1) = m ((c.tc : Thread Cert.FfnDownWIdeal.nD Cert.FfnDownWIdeal.τ).loc Cert.FfnDownWIdeal.main_arg1))
      ∧ θ_run (Cert.FfnDownWRefIdeal.defs (F := Ideal)) (onTc (τ := Cert.FfnDownWRefIdeal.τ) (Cert.FfnDownWRefIdeal.main (F := Ideal))) ⟨m', fun _ => 0, g'⟩ (fun r => ∀ c : Dev Cert.FfnDownWRefIdeal.nD,
          r.2.mem ((c.tc : Thread Cert.FfnDownWRefIdeal.nD Cert.FfnDownWRefIdeal.τ).loc Cert.FfnDownWRefIdeal.main_v6) = v0 c
          ∧ r.2.mem ((c.tc : Thread Cert.FfnDownWRefIdeal.nD Cert.FfnDownWRefIdeal.τ).loc Cert.FfnDownWRefIdeal.main_arg0) = m' ((c.tc : Thread Cert.FfnDownWRefIdeal.nD Cert.FfnDownWRefIdeal.τ).loc Cert.FfnDownWRefIdeal.main_arg0)
          ∧ r.2.mem ((c.tc : Thread Cert.FfnDownWRefIdeal.nD Cert.FfnDownWRefIdeal.τ).loc Cert.FfnDownWRefIdeal.main_arg1) = m' ((c.tc : Thread Cert.FfnDownWRefIdeal.nD Cert.FfnDownWRefIdeal.τ).loc Cert.FfnDownWRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v14) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInW_MixInWIdeal : Prop :=
  True

def algebraic_MixInWIdeal_MixInWRefIdeal [hMixInWIdeal : Cert.MixInWIdeal.Facts] [hMixInWRefIdeal : Cert.MixInWRefIdeal.Facts] : Prop :=
  ∀ (m : (ℓ : Loc Cert.MixInWIdeal.nD Cert.MixInWIdeal.τ Cert.MixInWIdeal.sig) → Buf (Elt Ideal) ℓ) (g : Dev Cert.MixInWIdeal.nD → PrngReg)
    (m' : (ℓ : Loc Cert.MixInWRefIdeal.nD Cert.MixInWRefIdeal.τ Cert.MixInWRefIdeal.sig) → Buf (Elt Ideal) ℓ) (g' : Dev Cert.MixInWRefIdeal.nD → PrngReg), Pre_MixInWIdeal m →
    (∀ c : Dev Cert.MixInWIdeal.nD,
      m' ((c.tc : Thread Cert.MixInWRefIdeal.nD Cert.MixInWRefIdeal.τ).loc Cert.MixInWRefIdeal.main_arg0) = m ((c.tc : Thread Cert.MixInWIdeal.nD Cert.MixInWIdeal.τ).loc Cert.MixInWIdeal.main_arg0)
      ∧ m' ((c.tc : Thread Cert.MixInWRefIdeal.nD Cert.MixInWRefIdeal.τ).loc Cert.MixInWRefIdeal.main_arg1) = m ((c.tc : Thread Cert.MixInWIdeal.nD Cert.MixInWIdeal.τ).loc Cert.MixInWIdeal.main_arg1)) →
    ∃ (v0 : (c : Dev Cert.MixInWIdeal.nD) → Buf (Elt Ideal) ((c.tc : Thread Cert.MixInWIdeal.nD Cert.MixInWIdeal.τ).loc Cert.MixInWIdeal.main_v0)),
      θ_run (Cert.MixInWIdeal.defs (F := Ideal)) (onTc (τ := Cert.MixInWIdeal.τ) (Cert.MixInWIdeal.main (F := Ideal))) ⟨m, fun _ => 0, g⟩ (fun r => ∀ c : Dev Cert.MixInWIdeal.nD,
          r.2.mem ((c.tc : Thread Cert.MixInWIdeal.nD Cert.MixInWIdeal.τ).loc Cert.MixInWIdeal.main_v0) = v0 c
          ∧ r.2.mem ((c.tc : Thread Cert.MixInWIdeal.nD Cert.MixInWIdeal.τ).loc Cert.MixInWIdeal.main_arg0) = m ((c.tc : Thread Cert.MixInWIdeal.nD Cert.MixInWIdeal.τ).loc Cert.MixInWIdeal.main_arg0)
          ∧ r.2.mem ((c.tc : Thread Cert.MixInWIdeal.nD Cert.MixInWIdeal.τ).loc Cert.MixInWIdeal.main_arg1) = m ((c.tc : Thread Cert.MixInWIdeal.nD Cert.MixInWIdeal.τ).loc Cert.MixInWIdeal.main_arg1))
      ∧ θ_run (Cert.MixInWRefIdeal.defs (F := Ideal)) (onTc (τ := Cert.MixInWRefIdeal.τ) (Cert.MixInWRefIdeal.main (F := Ideal))) ⟨m', fun _ => 0, g'⟩ (fun r => ∀ c : Dev Cert.MixInWRefIdeal.nD,
          r.2.mem ((c.tc : Thread Cert.MixInWRefIdeal.nD Cert.MixInWRefIdeal.τ).loc Cert.MixInWRefIdeal.main_v15) = v0 c
          ∧ r.2.mem ((c.tc : Thread Cert.MixInWRefIdeal.nD Cert.MixInWRefIdeal.τ).loc Cert.MixInWRefIdeal.main_arg0) = m' ((c.tc : Thread Cert.MixInWRefIdeal.nD Cert.MixInWRefIdeal.τ).loc Cert.MixInWRefIdeal.main_arg0)
          ∧ r.2.mem ((c.tc : Thread Cert.MixInWRefIdeal.nD Cert.MixInWRefIdeal.τ).loc Cert.MixInWRefIdeal.main_arg1) = m' ((c.tc : Thread Cert.MixInWRefIdeal.nD Cert.MixInWRefIdeal.τ).loc Cert.MixInWRefIdeal.main_arg1))

def preserves_MixOutW_MixOutWIdeal : Prop :=
  True

def algebraic_MixOutWIdeal_MixOutWRefIdeal [hMixOutWIdeal : Cert.MixOutWIdeal.Facts] [hMixOutWRefIdeal : Cert.MixOutWRefIdeal.Facts] : Prop :=
  ∀ (m : (ℓ : Loc Cert.MixOutWIdeal.nD Cert.MixOutWIdeal.τ Cert.MixOutWIdeal.sig) → Buf (Elt Ideal) ℓ) (g : Dev Cert.MixOutWIdeal.nD → PrngReg)
    (m' : (ℓ : Loc Cert.MixOutWRefIdeal.nD Cert.MixOutWRefIdeal.τ Cert.MixOutWRefIdeal.sig) → Buf (Elt Ideal) ℓ) (g' : Dev Cert.MixOutWRefIdeal.nD → PrngReg), Pre_MixOutWIdeal m →
    (∀ c : Dev Cert.MixOutWIdeal.nD,
      m' ((c.tc : Thread Cert.MixOutWRefIdeal.nD Cert.MixOutWRefIdeal.τ).loc Cert.MixOutWRefIdeal.main_arg0) = m ((c.tc : Thread Cert.MixOutWIdeal.nD Cert.MixOutWIdeal.τ).loc Cert.MixOutWIdeal.main_arg0)
      ∧ m' ((c.tc : Thread Cert.MixOutWRefIdeal.nD Cert.MixOutWRefIdeal.τ).loc Cert.MixOutWRefIdeal.main_arg1) = m ((c.tc : Thread Cert.MixOutWIdeal.nD Cert.MixOutWIdeal.τ).loc Cert.MixOutWIdeal.main_arg1)) →
    ∃ (v0 : (c : Dev Cert.MixOutWIdeal.nD) → Buf (Elt Ideal) ((c.tc : Thread Cert.MixOutWIdeal.nD Cert.MixOutWIdeal.τ).loc Cert.MixOutWIdeal.main_v0)),
      θ_run (Cert.MixOutWIdeal.defs (F := Ideal)) (onTc (τ := Cert.MixOutWIdeal.τ) (Cert.MixOutWIdeal.main (F := Ideal))) ⟨m, fun _ => 0, g⟩ (fun r => ∀ c : Dev Cert.MixOutWIdeal.nD,
          r.2.mem ((c.tc : Thread Cert.MixOutWIdeal.nD Cert.MixOutWIdeal.τ).loc Cert.MixOutWIdeal.main_v0) = v0 c
          ∧ r.2.mem ((c.tc : Thread Cert.MixOutWIdeal.nD Cert.MixOutWIdeal.τ).loc Cert.MixOutWIdeal.main_arg0) = m ((c.tc : Thread Cert.MixOutWIdeal.nD Cert.MixOutWIdeal.τ).loc Cert.MixOutWIdeal.main_arg0)
          ∧ r.2.mem ((c.tc : Thread Cert.MixOutWIdeal.nD Cert.MixOutWIdeal.τ).loc Cert.MixOutWIdeal.main_arg1) = m ((c.tc : Thread Cert.MixOutWIdeal.nD Cert.MixOutWIdeal.τ).loc Cert.MixOutWIdeal.main_arg1))
      ∧ θ_run (Cert.MixOutWRefIdeal.defs (F := Ideal)) (onTc (τ := Cert.MixOutWRefIdeal.τ) (Cert.MixOutWRefIdeal.main (F := Ideal))) ⟨m', fun _ => 0, g'⟩ (fun r => ∀ c : Dev Cert.MixOutWRefIdeal.nD,
          r.2.mem ((c.tc : Thread Cert.MixOutWRefIdeal.nD Cert.MixOutWRefIdeal.τ).loc Cert.MixOutWRefIdeal.main_v6) = v0 c
          ∧ r.2.mem ((c.tc : Thread Cert.MixOutWRefIdeal.nD Cert.MixOutWRefIdeal.τ).loc Cert.MixOutWRefIdeal.main_arg0) = m' ((c.tc : Thread Cert.MixOutWRefIdeal.nD Cert.MixOutWRefIdeal.τ).loc Cert.MixOutWRefIdeal.main_arg0)
          ∧ r.2.mem ((c.tc : Thread Cert.MixOutWRefIdeal.nD Cert.MixOutWRefIdeal.τ).loc Cert.MixOutWRefIdeal.main_arg1) = m' ((c.tc : Thread Cert.MixOutWRefIdeal.nD Cert.MixOutWRefIdeal.τ).loc Cert.MixOutWRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v5) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)) (v2 : (c : Dev Cert.FfnFwdIdeal.nD) → Buf (Elt Ideal) ((c.tc : Thread Cert.FfnFwdIdeal.nD Cert.FfnFwdIdeal.τ).loc Cert.FfnFwdIdeal.main_v0_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_v0_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v25) = v0 c
          ∧ r.2.mem ((c.tc : Thread Cert.FfnFwdRefIdeal.nD Cert.FfnFwdRefIdeal.τ).loc Cert.FfnFwdRefIdeal.main_v26) = v1 c
          ∧ r.2.mem ((c.tc : Thread Cert.FfnFwdRefIdeal.nD Cert.FfnFwdRefIdeal.τ).loc Cert.FfnFwdRefIdeal.main_v27) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)) →
    ∃ (v0 : (c : Dev Cert.MixFwdIdeal.nD) → Buf (Elt Ideal) ((c.tc : Thread Cert.MixFwdIdeal.nD Cert.MixFwdIdeal.τ).loc Cert.MixFwdIdeal.main_v0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v12) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2))

def preserves_MixRes_MixResIdeal : Prop :=
  True

def algebraic_MixResIdeal_MixResRefIdeal [hMixResIdeal : Cert.MixResIdeal.Facts] [hMixResRefIdeal : Cert.MixResRefIdeal.Facts] : Prop :=
  ∀ (m : (ℓ : Loc Cert.MixResIdeal.nD Cert.MixResIdeal.τ Cert.MixResIdeal.sig) → Buf (Elt Ideal) ℓ) (g : Dev Cert.MixResIdeal.nD → PrngReg)
    (m' : (ℓ : Loc Cert.MixResRefIdeal.nD Cert.MixResRefIdeal.τ Cert.MixResRefIdeal.sig) → Buf (Elt Ideal) ℓ) (g' : Dev Cert.MixResRefIdeal.nD → PrngReg), Pre_MixResIdeal m →
    (∀ c : Dev Cert.MixResIdeal.nD,
      m' ((c.tc : Thread Cert.MixResRefIdeal.nD Cert.MixResRefIdeal.τ).loc Cert.MixResRefIdeal.main_arg0) = m ((c.tc : Thread Cert.MixResIdeal.nD Cert.MixResIdeal.τ).loc Cert.MixResIdeal.main_arg0)
      ∧ m' ((c.tc : Thread Cert.MixResRefIdeal.nD Cert.MixResRefIdeal.τ).loc Cert.MixResRefIdeal.main_arg1) = m ((c.tc : Thread Cert.MixResIdeal.nD Cert.MixResIdeal.τ).loc Cert.MixResIdeal.main_arg1)
      ∧ m' ((c.tc : Thread Cert.MixResRefIdeal.nD Cert.MixResRefIdeal.τ).loc Cert.MixResRefIdeal.main_arg2) = m ((c.tc : Thread Cert.MixResIdeal.nD Cert.MixResIdeal.τ).loc Cert.MixResIdeal.main_arg2)
      ∧ m' ((c.tc : Thread Cert.MixResRefIdeal.nD Cert.MixResRefIdeal.τ).loc Cert.MixResRefIdeal.main_arg3) = m ((c.tc : Thread Cert.MixResIdeal.nD Cert.MixResIdeal.τ).loc Cert.MixResIdeal.main_arg3)) →
    ∃ (v0 : (c : Dev Cert.MixResIdeal.nD) → Buf (Elt Ideal) ((c.tc : Thread Cert.MixResIdeal.nD Cert.MixResIdeal.τ).loc Cert.MixResIdeal.main_v0_0)) (v1 : (c : Dev Cert.MixResIdeal.nD) → Buf (Elt Ideal) ((c.tc : Thread Cert.MixResIdeal.nD Cert.MixResIdeal.τ).loc Cert.MixResIdeal.main_v0_1)),
      θ_run (Cert.MixResIdeal.defs (F := Ideal)) (onTc (τ := Cert.MixResIdeal.τ) (Cert.MixResIdeal.main (F := Ideal))) ⟨m, fun _ => 0, g⟩ (fun r => ∀ c : Dev Cert.MixResIdeal.nD,
          r.2.mem ((c.tc : Thread Cert.MixResIdeal.nD Cert.MixResIdeal.τ).loc Cert.MixResIdeal.main_v0_0) = v0 c
          ∧ r.2.mem ((c.tc : Thread Cert.MixResIdeal.nD Cert.MixResIdeal.τ).loc Cert.MixResIdeal.main_v0_1) = v1 c
          ∧ r.2.mem ((c.tc : Thread Cert.MixResIdeal.nD Cert.MixResIdeal.τ).loc Cert.MixResIdeal.main_arg0) = m ((c.tc : Thread Cert.MixResIdeal.nD Cert.MixResIdeal.τ).loc Cert.MixResIdeal.main_arg0)
          ∧ r.2.mem ((c.tc : Thread Cert.MixResIdeal.nD Cert.MixResIdeal.τ).loc Cert.MixResIdeal.main_arg1) = m ((c.tc : Thread Cert.MixResIdeal.nD Cert.MixResIdeal.τ).loc Cert.MixResIdeal.main_arg1)
          ∧ r.2.mem ((c.tc : Thread Cert.MixResIdeal.nD Cert.MixResIdeal.τ).loc Cert.MixResIdeal.main_arg2) = m ((c.tc : Thread Cert.MixResIdeal.nD Cert.MixResIdeal.τ).loc Cert.MixResIdeal.main_arg2)
          ∧ r.2.mem ((c.tc : Thread Cert.MixResIdeal.nD Cert.MixResIdeal.τ).loc Cert.MixResIdeal.main_arg3) = m ((c.tc : Thread Cert.MixResIdeal.nD Cert.MixResIdeal.τ).loc Cert.MixResIdeal.main_arg3))
      ∧ θ_run (Cert.MixResRefIdeal.defs (F := Ideal)) (onTc (τ := Cert.MixResRefIdeal.τ) (Cert.MixResRefIdeal.main (F := Ideal))) ⟨m', fun _ => 0, g'⟩ (fun r => ∀ c : Dev Cert.MixResRefIdeal.nD,
          r.2.mem ((c.tc : Thread Cert.MixResRefIdeal.nD Cert.MixResRefIdeal.τ).loc Cert.MixResRefIdeal.main_v3) = v0 c
          ∧ r.2.mem ((c.tc : Thread Cert.MixResRefIdeal.nD Cert.MixResRefIdeal.τ).loc Cert.MixResRefIdeal.main_v18) = v1 c
          ∧ r.2.mem ((c.tc : Thread Cert.MixResRefIdeal.nD Cert.MixResRefIdeal.τ).loc Cert.MixResRefIdeal.main_arg0) = m' ((c.tc : Thread Cert.MixResRefIdeal.nD Cert.MixResRefIdeal.τ).loc Cert.MixResRefIdeal.main_arg0)
          ∧ r.2.mem ((c.tc : Thread Cert.MixResRefIdeal.nD Cert.MixResRefIdeal.τ).loc Cert.MixResRefIdeal.main_arg1) = m' ((c.tc : Thread Cert.MixResRefIdeal.nD Cert.MixResRefIdeal.τ).loc Cert.MixResRefIdeal.main_arg1)
          ∧ r.2.mem ((c.tc : Thread Cert.MixResRefIdeal.nD Cert.MixResRefIdeal.τ).loc Cert.MixResRefIdeal.main_arg2) = m' ((c.tc : Thread Cert.MixResRefIdeal.nD Cert.MixResRefIdeal.τ).loc Cert.MixResRefIdeal.main_arg2)
          ∧ r.2.mem ((c.tc : Thread Cert.MixResRefIdeal.nD Cert.MixResRefIdeal.τ).loc Cert.MixResRefIdeal.main_arg3) = m' ((c.tc : Thread Cert.MixResRefIdeal.nD Cert.MixResRefIdeal.τ).loc Cert.MixResRefIdeal.main_arg3))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v18) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_RmsBwd_RmsBwdIdeal : Prop :=
  True

def algebraic_RmsBwdIdeal_RmsBwdRefIdeal_pre_finite14 [hRmsBwdIdeal : Cert.RmsBwdIdeal.Facts] [hRmsBwdRefIdeal : Cert.RmsBwdRefIdeal.Facts] [hPre_finite14 : Cert.Pre_finite14.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal_finite14 m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v40) = v0 c
          ∧ r.2.mem ((c.tc : Thread Cert.RmsBwdRefIdeal.nD Cert.RmsBwdRefIdeal.τ).loc Cert.RmsBwdRefIdeal.main_v38) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v6) = v0 c
          ∧ r.2.mem ((c.tc : Thread Cert.AdamOutRefIdeal.nD Cert.AdamOutRefIdeal.τ).loc Cert.AdamOutRefIdeal.main_v30) = v1 c
          ∧ r.2.mem ((c.tc : Thread Cert.AdamOutRefIdeal.nD Cert.AdamOutRefIdeal.τ).loc Cert.AdamOutRefIdeal.main_v11) = v2 c
          ∧ r.2.mem ((c.tc : Thread Cert.AdamOutRefIdeal.nD Cert.AdamOutRefIdeal.τ).loc Cert.AdamOutRefIdeal.main_v17) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)
      ∧ m' ((c.tc : Thread Cert.AdamUpRefIdeal.nD Cert.AdamUpRefIdeal.τ).loc Cert.AdamUpRefIdeal.main_arg5) = m ((c.tc : Thread Cert.AdamUpIdeal.nD Cert.AdamUpIdeal.τ).loc Cert.AdamUpIdeal.main_arg5)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4)
          ∧ r.2.mem ((c.tc : Thread Cert.AdamUpIdeal.nD Cert.AdamUpIdeal.τ).loc Cert.AdamUpIdeal.main_arg5) = m ((c.tc : Thread Cert.AdamUpIdeal.nD Cert.AdamUpIdeal.τ).loc Cert.AdamUpIdeal.main_arg5))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v6) = v0 c
          ∧ r.2.mem ((c.tc : Thread Cert.AdamUpRefIdeal.nD Cert.AdamUpRefIdeal.τ).loc Cert.AdamUpRefIdeal.main_v30) = v1 c
          ∧ r.2.mem ((c.tc : Thread Cert.AdamUpRefIdeal.nD Cert.AdamUpRefIdeal.τ).loc Cert.AdamUpRefIdeal.main_v11) = v2 c
          ∧ r.2.mem ((c.tc : Thread Cert.AdamUpRefIdeal.nD Cert.AdamUpRefIdeal.τ).loc Cert.AdamUpRefIdeal.main_v17) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4)
          ∧ r.2.mem ((c.tc : Thread Cert.AdamUpRefIdeal.nD Cert.AdamUpRefIdeal.τ).loc Cert.AdamUpRefIdeal.main_arg5) = m' ((c.tc : Thread Cert.AdamUpRefIdeal.nD Cert.AdamUpRefIdeal.τ).loc Cert.AdamUpRefIdeal.main_arg5))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)
      ∧ m' ((c.tc : Thread Cert.AdamDownRefIdeal.nD Cert.AdamDownRefIdeal.τ).loc Cert.AdamDownRefIdeal.main_arg5) = m ((c.tc : Thread Cert.AdamDownIdeal.nD Cert.AdamDownIdeal.τ).loc Cert.AdamDownIdeal.main_arg5)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4)
          ∧ r.2.mem ((c.tc : Thread Cert.AdamDownIdeal.nD Cert.AdamDownIdeal.τ).loc Cert.AdamDownIdeal.main_arg5) = m ((c.tc : Thread Cert.AdamDownIdeal.nD Cert.AdamDownIdeal.τ).loc Cert.AdamDownIdeal.main_arg5))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v6) = v0 c
          ∧ r.2.mem ((c.tc : Thread Cert.AdamDownRefIdeal.nD Cert.AdamDownRefIdeal.τ).loc Cert.AdamDownRefIdeal.main_v30) = v1 c
          ∧ r.2.mem ((c.tc : Thread Cert.AdamDownRefIdeal.nD Cert.AdamDownRefIdeal.τ).loc Cert.AdamDownRefIdeal.main_v11) = v2 c
          ∧ r.2.mem ((c.tc : Thread Cert.AdamDownRefIdeal.nD Cert.AdamDownRefIdeal.τ).loc Cert.AdamDownRefIdeal.main_v17) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4)
          ∧ r.2.mem ((c.tc : Thread Cert.AdamDownRefIdeal.nD Cert.AdamDownRefIdeal.τ).loc Cert.AdamDownRefIdeal.main_arg5) = m' ((c.tc : Thread Cert.AdamDownRefIdeal.nD Cert.AdamDownRefIdeal.τ).loc Cert.AdamDownRefIdeal.main_arg5))

def Claim : Prop :=
  ∃ (hAttnBwd : Cert.AttnBwd.Facts) (hAttnBwdIdeal : Cert.AttnBwdIdeal.Facts) (hAttnRefIdeal : Cert.AttnRefIdeal.Facts) (hFfnBwd : Cert.FfnBwd.Facts) (hFfnBwdIdeal : Cert.FfnBwdIdeal.Facts) (hFfnRefIdeal : Cert.FfnRefIdeal.Facts) (hFfnIn : Cert.FfnIn.Facts) (hFfnInIdeal : Cert.FfnInIdeal.Facts) (hFfnInRefIdeal : Cert.FfnInRefIdeal.Facts) (hFfnUpW : Cert.FfnUpW.Facts) (hFfnUpWIdeal : Cert.FfnUpWIdeal.Facts) (hFfnUpWRefIdeal : Cert.FfnUpWRefIdeal.Facts) (hFfnDownW : Cert.FfnDownW.Facts) (hFfnDownWIdeal : Cert.FfnDownWIdeal.Facts) (hFfnDownWRefIdeal : Cert.FfnDownWRefIdeal.Facts) (hMixIn : Cert.MixIn.Facts) (hMixInIdeal : Cert.MixInIdeal.Facts) (hMixInRefIdeal : Cert.MixInRefIdeal.Facts) (hMixInW : Cert.MixInW.Facts) (hMixInWIdeal : Cert.MixInWIdeal.Facts) (hMixInWRefIdeal : Cert.MixInWRefIdeal.Facts) (hMixOutW : Cert.MixOutW.Facts) (hMixOutWIdeal : Cert.MixOutWIdeal.Facts) (hMixOutWRefIdeal : Cert.MixOutWRefIdeal.Facts) (hMixOut : Cert.MixOut.Facts) (hMixOutIdeal : Cert.MixOutIdeal.Facts) (hMixOutRefIdeal : Cert.MixOutRefIdeal.Facts) (hFfnFwd : Cert.FfnFwd.Facts) (hFfnFwdIdeal : Cert.FfnFwdIdeal.Facts) (hFfnFwdRefIdeal : Cert.FfnFwdRefIdeal.Facts) (hMixFwd : Cert.MixFwd.Facts) (hMixFwdIdeal : Cert.MixFwdIdeal.Facts) (hMixFwdRefIdeal : Cert.MixFwdRefIdeal.Facts) (hMixRes : Cert.MixRes.Facts) (hMixResIdeal : Cert.MixResIdeal.Facts) (hMixResRefIdeal : Cert.MixResRefIdeal.Facts) (hFfnOut : Cert.FfnOut.Facts) (hFfnOutIdeal : Cert.FfnOutIdeal.Facts) (hFfnOutRefIdeal : Cert.FfnOutRefIdeal.Facts) (hRmsBwd : Cert.RmsBwd.Facts) (hRmsBwdIdeal : Cert.RmsBwdIdeal.Facts) (hRmsBwdRefIdeal : Cert.RmsBwdRefIdeal.Facts) (hAdamOut : Cert.AdamOut.Facts) (hAdamOutIdeal : Cert.AdamOutIdeal.Facts) (hAdamOutRefIdeal : Cert.AdamOutRefIdeal.Facts) (hAdamIn : Cert.AdamIn.Facts) (hAdamInIdeal : Cert.AdamInIdeal.Facts) (hAdamInRefIdeal : Cert.AdamInRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hPre_finite : Cert.Pre_finite.Facts) (hPre_finite2 : Cert.Pre_finite2.Facts) (hPre_finite14 : Cert.Pre_finite14.Facts),
    quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_FfnBwd (hFfnBwd := hFfnBwd)
    ∧ quiescent_FfnBwdIdeal (hFfnBwdIdeal := hFfnBwdIdeal)
    ∧ quiescent_FfnBwdIdeal_pre_finite2 (hFfnBwdIdeal := hFfnBwdIdeal) (hPre_finite2 := hPre_finite2)
    ∧ quiescent_FfnRefIdeal (hFfnRefIdeal := hFfnRefIdeal)
    ∧ quiescent_FfnRefIdeal_pre_finite2 (hFfnRefIdeal := hFfnRefIdeal) (hPre_finite2 := hPre_finite2)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnUpW (hFfnUpW := hFfnUpW)
    ∧ quiescent_FfnUpWIdeal (hFfnUpWIdeal := hFfnUpWIdeal)
    ∧ quiescent_FfnUpWRefIdeal (hFfnUpWRefIdeal := hFfnUpWRefIdeal)
    ∧ quiescent_FfnDownW (hFfnDownW := hFfnDownW)
    ∧ quiescent_FfnDownWIdeal (hFfnDownWIdeal := hFfnDownWIdeal)
    ∧ quiescent_FfnDownWRefIdeal (hFfnDownWRefIdeal := hFfnDownWRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInW (hMixInW := hMixInW)
    ∧ quiescent_MixInWIdeal (hMixInWIdeal := hMixInWIdeal)
    ∧ quiescent_MixInWRefIdeal (hMixInWRefIdeal := hMixInWRefIdeal)
    ∧ quiescent_MixOutW (hMixOutW := hMixOutW)
    ∧ quiescent_MixOutWIdeal (hMixOutWIdeal := hMixOutWIdeal)
    ∧ quiescent_MixOutWRefIdeal (hMixOutWRefIdeal := hMixOutWRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_MixRes (hMixRes := hMixRes)
    ∧ quiescent_MixResIdeal (hMixResIdeal := hMixResIdeal)
    ∧ quiescent_MixResRefIdeal (hMixResRefIdeal := hMixResRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_RmsBwd (hRmsBwd := hRmsBwd)
    ∧ quiescent_RmsBwdIdeal (hRmsBwdIdeal := hRmsBwdIdeal)
    ∧ quiescent_RmsBwdIdeal_pre_finite14 (hRmsBwdIdeal := hRmsBwdIdeal) (hPre_finite14 := hPre_finite14)
    ∧ quiescent_RmsBwdRefIdeal (hRmsBwdRefIdeal := hRmsBwdRefIdeal)
    ∧ quiescent_RmsBwdRefIdeal_pre_finite14 (hRmsBwdRefIdeal := hRmsBwdRefIdeal) (hPre_finite14 := hPre_finite14)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ preserves_AttnBwd_AttnBwdIdeal
    ∧ algebraic_AttnBwdIdeal_AttnRefIdeal_pre_finite (hAttnBwdIdeal := hAttnBwdIdeal) (hAttnRefIdeal := hAttnRefIdeal) (hPre_finite := hPre_finite)
    ∧ preserves_FfnBwd_FfnBwdIdeal
    ∧ algebraic_FfnBwdIdeal_FfnRefIdeal_pre_finite2 (hFfnBwdIdeal := hFfnBwdIdeal) (hFfnRefIdeal := hFfnRefIdeal) (hPre_finite2 := hPre_finite2)
    ∧ preserves_FfnIn_FfnInIdeal
    ∧ algebraic_FfnInIdeal_FfnInRefIdeal (hFfnInIdeal := hFfnInIdeal) (hFfnInRefIdeal := hFfnInRefIdeal)
    ∧ preserves_FfnUpW_FfnUpWIdeal
    ∧ algebraic_FfnUpWIdeal_FfnUpWRefIdeal (hFfnUpWIdeal := hFfnUpWIdeal) (hFfnUpWRefIdeal := hFfnUpWRefIdeal)
    ∧ preserves_FfnDownW_FfnDownWIdeal
    ∧ algebraic_FfnDownWIdeal_FfnDownWRefIdeal (hFfnDownWIdeal := hFfnDownWIdeal) (hFfnDownWRefIdeal := hFfnDownWRefIdeal)
    ∧ preserves_MixIn_MixInIdeal
    ∧ algebraic_MixInIdeal_MixInRefIdeal (hMixInIdeal := hMixInIdeal) (hMixInRefIdeal := hMixInRefIdeal)
    ∧ preserves_MixInW_MixInWIdeal
    ∧ algebraic_MixInWIdeal_MixInWRefIdeal (hMixInWIdeal := hMixInWIdeal) (hMixInWRefIdeal := hMixInWRefIdeal)
    ∧ preserves_MixOutW_MixOutWIdeal
    ∧ algebraic_MixOutWIdeal_MixOutWRefIdeal (hMixOutWIdeal := hMixOutWIdeal) (hMixOutWRefIdeal := hMixOutWRefIdeal)
    ∧ preserves_MixOut_MixOutIdeal
    ∧ algebraic_MixOutIdeal_MixOutRefIdeal (hMixOutIdeal := hMixOutIdeal) (hMixOutRefIdeal := hMixOutRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_MixRes_MixResIdeal
    ∧ algebraic_MixResIdeal_MixResRefIdeal (hMixResIdeal := hMixResIdeal) (hMixResRefIdeal := hMixResRefIdeal)
    ∧ preserves_FfnOut_FfnOutIdeal
    ∧ algebraic_FfnOutIdeal_FfnOutRefIdeal (hFfnOutIdeal := hFfnOutIdeal) (hFfnOutRefIdeal := hFfnOutRefIdeal)
    ∧ preserves_RmsBwd_RmsBwdIdeal
    ∧ algebraic_RmsBwdIdeal_RmsBwdRefIdeal_pre_finite14 (hRmsBwdIdeal := hRmsBwdIdeal) (hRmsBwdRefIdeal := hRmsBwdRefIdeal) (hPre_finite14 := hPre_finite14)
    ∧ preserves_AdamOut_AdamOutIdeal
    ∧ algebraic_AdamOutIdeal_AdamOutRefIdeal (hAdamOutIdeal := hAdamOutIdeal) (hAdamOutRefIdeal := hAdamOutRefIdeal)
    ∧ preserves_AdamIn_AdamInIdeal
    ∧ algebraic_AdamInIdeal_AdamInRefIdeal (hAdamInIdeal := hAdamInIdeal) (hAdamInRefIdeal := hAdamInRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
-- ==== Pre_finite.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S8 : S_.BroadcastsInDim S8 (![] : Fin 0 → Fin S8.rank)
  reducesTo_S8_S_d0 : S8.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .bf16) (main_v16 : IVec S_ 1) (main_v17 : FVec F S8 .f32) : IVec S_ 1 :=
  let main_cst_4 : FVec F S_ .f32 := constant S_ .f32 0x7F800000#32
  let main_v18 : FVec F S8 .f32 := broadcastInDim S8 ![] bcast_S_S8 main_cst_4
  let main_v19 : IVec S8 1 := cmpf .olt main_v17 main_v18
  let main_c_5 : IVec S_ 1 := constantI S_ 1 1#1
  let main_v20 : IVec S_ 1 := (fun x v => Host.reduce IntOp.andi x v reducesTo_S8_S_d0 h_S_) main_v19 main_c_5
  let main_v21 : IVec S_ 1 := andi main_v16 main_v20
  let main_v22 : FVec F S4096x2048 .f32 := (extf .f32 · bitsLt_bf16_f32) main_arg4
  let main_v23 : FVec F S4096x2048 .f32 := Host.absf main_v22
  let main_cst_6 : FVec F S_ .f32 := constant S_ .f32 0x7F800000#32
  let main_v24 : FVec F S4096x2048 .f32 := broadcastInDim S4096x2048 ![] bcast_S_S4096x2048 main_cst_6
  let main_v25 : IVec S4096x2048 1 := cmpf .olt main_v23 main_v24
  let main_c_7 : IVec S_ 1 := constantI S_ 1 1#1
  let main_v26 : IVec S_ 1 := (fun x v => Host.reduce IntOp.andi x v reducesTo_S4096x2048_S_d0_1 h_S_) main_v25 main_c_7
  let main_v27 : IVec S_ 1 := andi main_v21 main_v26
  main_v27

def fn {F : FTy → Type} [FloatOps F] (main_arg0 : FVec F S4096x1024 .bf16) (main_arg1 : FVec F S4096x256 .bf16) (main_arg2 : FVec F S4096x256 .bf16) (main_arg3 : FVec F S8 .f32) (main_arg4 : FVec F S4096x2048 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S8 .f32 := Host.absf main_arg3
  fn_part1 (F := F) main_arg4 main_v16 main_v17
-- ==== Pre_finite14.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_
  bitsLt_bf16_f32 : FTy.bits .bf16 < FTy.bits .f32

variable [Facts]

def fn {F : FTy → Type} [FloatOps F] (main_arg0 : FVec F S4096x2048 .f32) (main_arg1 : FVec F S1x2048 .f32) (main_arg2 : FVec F S4096x2048 .bf16) (main_arg3 : FVec F S4096x2048 .bf16) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S4096x2048 .f32 := (extf .f32 · bitsLt_bf16_f32) main_arg2
  let main_v10 : FVec F S4096x2048 .f32 := Host.absf main_v9
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v8 main_v13
  main_v14
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_v16 : IVec S_ 1) (main_v17 : FVec F S4096x5632 .f32) : IVec S_ 1 :=
  let main_v18 : FVec F S4096x5632 .f32 := Host.absf main_v17
  let main_cst_4 : FVec F S_ .f32 := constant S_ .f32 0x7F800000#32
  let main_v19 : FVec F S4096x5632 .f32 := broadcastInDim S4096x5632 ![] bcast_S_S4096x5632 main_cst_4
  let main_v20 : IVec S4096x5632 1 := cmpf .olt main_v18 main_v19
  let main_c_5 : IVec S_ 1 := constantI S_ 1 1#1
  let main_v21 : IVec S_ 1 := (fun x v => Host.reduce IntOp.andi x v reducesTo_S4096x5632_S_d0_1 h_S_) main_v20 main_c_5
  let main_v22 : IVec S_ 1 := andi main_v16 main_v21
  main_v22

def fn {F : FTy → Type} [FloatOps F] (main_arg0 : FVec F S4096x2048 .bf16) (main_arg1 : FVec F S5632x2048 .bf16) (main_arg2 : FVec F S4096x5632 .bf16) (main_arg3 : FVec F S4096x5632 .bf16) (main_arg4 : FVec F S8x128 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S5632x2048 .f32 := (extf .f32 · bitsLt_bf16_f32) main_arg1
  let main_v6 : FVec F S5632x2048 .f32 := Host.absf main_v5
  let main_cst_0 : FVec F S_ .f32 := constant S_ .f32 0x7F800000#32
  let main_v7 : FVec F S5632x2048 .f32 := broadcastInDim S5632x2048 ![] bcast_S_S5632x2048 main_cst_0
  let main_v8 : IVec S5632x2048 1 := cmpf .olt main_v6 main_v7
  let main_c_1 : IVec S_ 1 := constantI S_ 1 1#1
  let main_v9 : IVec S_ 1 := (fun x v => Host.reduce IntOp.andi x v reducesTo_S5632x2048_S_d0_1 h_S_) main_v8 main_c_1
  let main_v10 : IVec S_ 1 := andi main_v4 main_v9
  let main_v11 : FVec F S4096x5632 .f32 := (extf .f32 · bitsLt_bf16_f32) main_arg2
  let main_v12 : FVec F S4096x5632 .f32 := Host.absf main_v11
  let main_cst_2 : FVec F S_ .f32 := constant S_ .f32 0x7F800000#32
  let main_v13 : FVec F S4096x5632 .f32 := broadcastInDim S4096x5632 ![] bcast_S_S4096x5632 main_cst_2
  let main_v14 : IVec S4096x5632 1 := cmpf .olt main_v12 main_v13
  let main_c_3 : IVec S_ 1 := constantI S_ 1 1#1
  let main_v15 : IVec S_ 1 := (fun x v => Host.reduce IntOp.andi x v reducesTo_S4096x5632_S_d0_1 h_S_) main_v14 main_c_3
  let main_v16 : IVec S_ 1 := andi main_v10 main_v15
  let main_v17 : FVec F S4096x5632 .f32 := (extf .f32 · bitsLt_bf16_f32) main_arg3
  fn_part1 (F := F) main_v16 main_v17
-- ==== AttnBwd.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S2x4x1 : Shape := ⟨3, ![2, 4, 1]⟩
abbrev S2x4x128 : Shape := ⟨3, ![2, 4, 128]⟩
abbrev S_ : Shape := ⟨0, ![]⟩
abbrev S4352x256 : Shape := ⟨2, ![4352, 256]⟩
abbrev S1024x512 : Shape := ⟨2, ![1024, 512]⟩
abbrev S4352x128 : Shape := ⟨2, ![4352, 128]⟩
abbrev S1x4x128 : Shape := ⟨3, ![1, 4, 128]⟩
abbrev S4x128 : Shape := ⟨2, ![4, 128]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512x384 : Shape := ⟨2, ![512, 384]⟩
abbrev S128x128 : Shape := ⟨2, ![128, 128]⟩
abbrev S512x128 : Shape := ⟨2, ![512, 128]⟩
abbrev S384x128 : Shape := ⟨2, ![384, 128]⟩
abbrev S1x384 : Shape := ⟨2, ![1, 384]⟩
abbrev S512 : Shape := ⟨1, ![512]⟩
abbrev S1 : Shape := ⟨1, ![1]⟩
abbrev S1x1x128 : Shape := ⟨3, ![1, 1, 128]⟩
abbrev S1x128 : Shape := ⟨2, ![1, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S8, .f32⟩
  | .hbm, ⟨4, _⟩ => ⟨S4096x2048, .bf16⟩
  | .hbm, ⟨5, _⟩ => ⟨S2x4x1, .f32⟩
  | .hbm, ⟨6, _⟩ => ⟨S2x4x128, .f32⟩
  | .hbm, ⟨7, _⟩ => ⟨S_, .i32⟩
  | .hbm, ⟨8, _⟩ => ⟨S_, .bf16⟩
  | .hbm, ⟨9, _⟩ => ⟨S4352x256, .bf16⟩
  | .hbm, ⟨10, _⟩ => ⟨S_, .i32⟩
  | .hbm, ⟨11, _⟩ => ⟨S_, .bf16⟩
  | .hbm, ⟨12, _⟩ => ⟨S4352x256, .bf16⟩
  | .hbm, ⟨13, _⟩ => ⟨S4096x1024, .f32⟩
  | .hbm, ⟨14, _⟩ => ⟨S4352x256, .f32⟩
  | .hbm, ⟨15, _⟩ => ⟨S4352x256, .f32⟩
  | .hbm, ⟨16, _⟩ => ⟨S2x4x128, .f32⟩
  | .local _ .vmem, ⟨0, _⟩ => ⟨S1024x512, .bf16⟩
  | .local _ .vmem, ⟨1, _⟩ => ⟨S1024x512, .bf16⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S1x4x128, .f32⟩
  | .local _ .vmem, ⟨7, _⟩ => ⟨S1x4x128, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | .local _ .vmem, ⟨12, _⟩ => ⟨S4352x128, .f32⟩
  | .local _ .vmem, ⟨13, _⟩ => ⟨S4352x128, .f32⟩
  | .local _ .vmem, ⟨14, _⟩ => ⟨S4352x128, .f32⟩
  | .local _ .vmem, ⟨15, _⟩ => ⟨S4352x128, .f32⟩
  | .local _ .vmem, ⟨16, _⟩ => ⟨S1x4x128, .f32⟩
  | .local _ .vmem, ⟨17, _⟩ => ⟨S1x4x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_mult1 (i : grid0.Coords) : BitVec 32 :=
  let arg1 : BitVec 32 := BitVec.ofNat 32 (i 1).val
  let c8_i32 : BitVec 32 := 8#32
  let v3 : BitVec 32 := Scalar.muli arg1 c8_i32
  let c0_i32_1 : BitVec 32 := 0#32
  let v4 : BitVec 32 := Scalar.addi v3 c0_i32_1
  let c128_i32 : BitVec 32 := 128#32
  let v19 : BitVec 32 := Scalar.muli v4 c128_i32
  v19
def k0_mult2 (i : grid0.Coords) : BitVec 32 :=
  let arg1 : BitVec 32 := BitVec.ofNat 32 (i 1).val
  let c8_i32_2 : BitVec 32 := 8#32
  let v5 : BitVec 32 := Scalar.muli arg1 c8_i32_2
  let c1_i32 : BitVec 32 := 1#32
  let v6 : BitVec 32 := Scalar.addi v5 c1_i32
  let c128_i32_9 : BitVec 32 := 128#32
  let v21 : BitVec 32 := Scalar.muli v6 c128_i32_9
  v21
def k0_mult3 (i : grid0.Coords) : BitVec 32 :=
  let arg1 : BitVec 32 := BitVec.ofNat 32 (i 1).val
  let c8_i32_3 : BitVec 32 := 8#32
  let v7 : BitVec 32 := Scalar.muli arg1 c8_i32_3
  let c2_i32 : BitVec 32 := 2#32
  let v8 : BitVec 32 := Scalar.addi v7 c2_i32
  let c128_i32_10 : BitVec 32 := 128#32
  let v23 : BitVec 32 := Scalar.muli v8 c128_i32_10
  v23
def k0_mult4 (i : grid0.Coords) : BitVec 32 :=
  let arg1 : BitVec 32 := BitVec.ofNat 32 (i 1).val
  let c8_i32_4 : BitVec 32 := 8#32
  let v9 : BitVec 32 := Scalar.muli arg1 c8_i32_4
  let c3_i32 : BitVec 32 := 3#32
  let v10 : BitVec 32 := Scalar.addi v9 c3_i32
  let c128_i32_11 : BitVec 32 := 128#32
  let v25 : BitVec 32 := Scalar.muli v10 c128_i32_11
  v25
def k0_mult5 (i : grid0.Coords) : BitVec 32 :=
  let arg1 : BitVec 32 := BitVec.ofNat 32 (i 1).val
  let c8_i32_5 : BitVec 32 := 8#32
  let v11 : BitVec 32 := Scalar.muli arg1 c8_i32_5
  let c4_i32 : BitVec 32 := 4#32
  let v12 : BitVec 32 := Scalar.addi v11 c4_i32
  let c128_i32_12 : BitVec 32 := 128#32
  let v27 : BitVec 32 := Scalar.muli v12 c128_i32_12
  v27
def k0_mult6 (i : grid0.Coords) : BitVec 32 :=
  let arg1 : BitVec 32 := BitVec.ofNat 32 (i 1).val
  let c8_i32_6 : BitVec 32 := 8#32
  let v13 : BitVec 32 := Scalar.muli arg1 c8_i32_6
  let c5_i32 : BitVec 32 := 5#32
  let v14 : BitVec 32 := Scalar.addi v13 c5_i32
  let c128_i32_13 : BitVec 32 := 128#32
  let v29 : BitVec 32 := Scalar.muli v14 c128_i32_13
  v29
def k0_mult7 (i : grid0.Coords) : BitVec 32 :=
  let arg1 : BitVec 32 := BitVec.ofNat 32 (i 1).val
  let c8_i32_7 : BitVec 32 := 8#32
  let v15 : BitVec 32 := Scalar.muli arg1 c8_i32_7
  let c6_i32 : BitVec 32 := 6#32
  let v16 : BitVec 32 := Scalar.addi v15 c6_i32
  let c128_i32_14 : BitVec 32 := 128#32
  let v31 : BitVec 32 := Scalar.muli v16 c128_i32_14
  v31
def k0_mult8 (i : grid0.Coords) : BitVec 32 :=
  let arg1 : BitVec 32 := BitVec.ofNat 32 (i 1).val
  let c8_i32_8 : BitVec 32 := 8#32
  let v17 : BitVec 32 := Scalar.muli arg1 c8_i32_8
  let c7_i32 : BitVec 32 := 7#32
  let v18 : BitVec 32 := Scalar.addi v17 c7_i32
  let c128_i32_15 : BitVec 32 := 128#32
  let v33 : BitVec 32 := Scalar.muli v18 c128_i32_15
  v33
def k0_off1 (i : grid0.Coords) (c0_i32_1 : BitVec 32) : Fin 2 → Nat :=
  let arg1 : BitVec 32 := BitVec.ofNat 32 (i 1).val
  let c8_i32 : BitVec 32 := 8#32
  let v3 : BitVec 32 := Scalar.muli arg1 c8_i32
  let v4 : BitVec 32 := Scalar.addi v3 c0_i32_1
  let c128_i32 : BitVec 32 := 128#32
  let v19 : BitVec 32 := Scalar.muli v4 c128_i32
  let v20 : BitVec 32 := v19
  let v145 : Index := Scalar.indexCast v20
  let c0_148 : Index := 0#32
  ![v145.toNat, 0]
def k0_mult9 (i : grid0.Coords) : BitVec 32 :=
  let arg1 : BitVec 32 := BitVec.ofNat 32 (i 1).val
  let c1024_i32 : BitVec 32 := 1024#32
  let v673 : BitVec 32 := Scalar.muli arg1 c1024_i32
  let c0_i32_371 : BitVec 32 := 0#32
  let v674 : BitVec 32 := Scalar.addi v673 c0_i32_371
  v674
def k0_off2 (i : grid0.Coords) (c0_i32_371 : BitVec 32) : Fin 2 → Nat :=
  let arg1 : BitVec 32 := BitVec.ofNat 32 (i 1).val
  let c1024_i32 : BitVec 32 := 1024#32
  let v673 : BitVec 32 := Scalar.muli arg1 c1024_i32
  let v674 : BitVec 32 := Scalar.addi v673 c0_i32_371
  let v675 : BitVec 32 := v674
  let v676 : Index := Scalar.indexCast v675
  let c0_372 : Index := 0#32
  ![v676.toNat, 0]
def k0_mult10 (i : grid0.Coords) : BitVec 32 :=
  let arg1 : BitVec 32 := BitVec.ofNat 32 (i 1).val
  let c1024_i32_378 : BitVec 32 := 1024#32
  let v694 : BitVec 32 := Scalar.muli arg1 c1024_i32_378
  let c128_i32_379 : BitVec 32 := 128#32
  let v695 : BitVec 32 := Scalar.addi v694 c128_i32_379
  v695
def k0_mult11 (i : grid0.Coords) : BitVec 32 :=
  let arg1 : BitVec 32 := BitVec.ofNat 32 (i 1).val
  let c1024_i32_386 : BitVec 32 := 1024#32
  let v719 : BitVec 32 := Scalar.muli arg1 c1024_i32_386
  let c256_i32 : BitVec 32 := 256#32
  let v720 : BitVec 32 := Scalar.addi v719 c256_i32
  v720
def k0_mult12 (i : grid0.Coords) : BitVec 32 :=
  let arg1 : BitVec 32 := BitVec.ofNat 32 (i 1).val
  let c1024_i32_393 : BitVec 32 := 1024#32
  let v748 : BitVec 32 := Scalar.muli arg1 c1024_i32_393
  let c384_i32 : BitVec 32 := 384#32
  let v749 : BitVec 32 := Scalar.addi v748 c384_i32
  v749
def k0_mult13 (i : grid0.Coords) : BitVec 32 :=
  let arg1 : BitVec 32 := BitVec.ofNat 32 (i 1).val
  let c1024_i32_400 : BitVec 32 := 1024#32
  let v777 : BitVec 32 := Scalar.muli arg1 c1024_i32_400
  let c512_i32 : BitVec 32 := 512#32
  let v778 : BitVec 32 := Scalar.addi v777 c512_i32
  v778
def k0_mult14 (i : grid0.Coords) : BitVec 32 :=
  let arg1 : BitVec 32 := BitVec.ofNat 32 (i 1).val
  let c1024_i32_407 : BitVec 32 := 1024#32
  let v806 : BitVec 32 := Scalar.muli arg1 c1024_i32_407
  let c640_i32 : BitVec 32 := 640#32
  let v807 : BitVec 32 := Scalar.addi v806 c640_i32
  v807
def k0_mult15 (i : grid0.Coords) : BitVec 32 :=
  let arg1 : BitVec 32 := BitVec.ofNat 32 (i 1).val
  let c1024_i32_414 : BitVec 32 := 1024#32
  let v835 : BitVec 32 := Scalar.muli arg1 c1024_i32_414
  let c768_i32 : BitVec 32 := 768#32
  let v836 : BitVec 32 := Scalar.addi v835 c768_i32
  v836
def k0_mult16 (i : grid0.Coords) : BitVec 32 :=
  let arg1 : BitVec 32 := BitVec.ofNat 32 (i 1).val
  let c1024_i32_421 : BitVec 32 := 1024#32
  let v864 : BitVec 32 := Scalar.muli arg1 c1024_i32_421
  let c896_i32 : BitVec 32 := 896#32
  let v865 : BitVec 32 := Scalar.addi v864 c896_i32
  v865
def k0_mult17 (i : grid0.Coords) : BitVec 32 :=
  let arg1 : BitVec 32 := BitVec.ofNat 32 (i 1).val
  let c1024_i32_428 : BitVec 32 := 1024#32
  let v893 : BitVec 32 := Scalar.muli arg1 c1024_i32_428
  let c1024_i32_429 : BitVec 32 := 1024#32
  let v894 : BitVec 32 := Scalar.addi v893 c1024_i32_429
  v894
def k0_mult18 (i : grid0.Coords) : BitVec 32 :=
  let arg1 : BitVec 32 := BitVec.ofNat 32 (i 1).val
  let c1024_i32_436 : BitVec 32 := 1024#32
  let v918 : BitVec 32 := Scalar.muli arg1 c1024_i32_436
  let c1152_i32 : BitVec 32 := 1152#32
  let v919 : BitVec 32 := Scalar.addi v918 c1152_i32
  v919
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4352x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4352x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x4x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== AttnBwdIdeal.lean ====
variable {F : FTy → Type} [FloatOps F] [Named F]
def κ : String → Option EReal := fun
  | "mask" => some ⊥
  | _ => none
-- ==== AttnRefIdeal.lean ====
abbrev S4096x1024 : Shape := ⟨2, ![4096, 1024]⟩
abbrev S4096x256 : Shape := ⟨2, ![4096, 256]⟩
abbrev S8 : Shape := ⟨1, ![8]⟩
abbrev S4096x2048 : Shape := ⟨2, ![4096, 2048]⟩
abbrev S_ : Shape := ⟨0, ![]⟩
abbrev S4352x256 : Shape := ⟨2, ![4352, 256]⟩
abbrev S1x34x128x2x128 : Shape := ⟨5, ![1, 34, 128, 2, 128]⟩
abbrev S1x32x128x2x128 : Shape := ⟨5, ![1, 32, 128, 2, 128]⟩
abbrev S1x32x384x2x128 : Shape := ⟨5, ![1, 32, 384, 2, 128]⟩
abbrev S1x32x128x2x4x128 : Shape := ⟨6, ![1, 32, 128, 2, 4, 128]⟩
abbrev S1x32x2x384x128x4 : Shape := ⟨6, ![1, 32, 2, 384, 128, 4]⟩
abbrev S1x32x2x4x128x384 : Shape := ⟨6, ![1, 32, 2, 4, 128, 384]⟩
abbrev S4096 : Shape := ⟨1, ![4096]⟩
abbrev S32x128 : Shape := ⟨2, ![32, 128]⟩
abbrev S32 : Shape := ⟨1, ![32]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S1x32x2x4x128x1 : Shape := ⟨6, ![1, 32, 2, 4, 128, 1]⟩
abbrev S1x32x2x4x128x385 : Shape := ⟨6, ![1, 32, 2, 4, 128, 385]⟩
abbrev S1x32x2x4x128 : Shape := ⟨5, ![1, 32, 2, 4, 128]⟩
abbrev S1x32x2x128x4x128 : Shape := ⟨6, ![1, 32, 2, 128, 4, 128]⟩
abbrev S1x32x2x128x384 : Shape := ⟨5, ![1, 32, 2, 128, 384]⟩
abbrev S32x2x4x128 : Shape := ⟨4, ![32, 2, 4, 128]⟩
abbrev S2x4 : Shape := ⟨2, ![2, 4]⟩
abbrev S1x32x2x384x128 : Shape := ⟨5, ![1, 32, 2, 384, 128]⟩
abbrev S2x4x1 : Shape := ⟨3, ![2, 4, 1]⟩
abbrev S2x4x128 : Shape := ⟨3, ![2, 4, 128]⟩

abbrev nBuf : Space → Nat
  | .hbm => 186
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S8, .f32⟩
  | 4 => ⟨S4096x2048, .bf16⟩
  | 5 => ⟨S4096x256, .f32⟩
  | 6 => ⟨S_, .i32⟩
  | 7 => ⟨S_, .f32⟩
  | 8 => ⟨S4352x256, .f32⟩
  | 9 => ⟨S4096x256, .f32⟩
  | 10 => ⟨S_, .i32⟩
  | 11 => ⟨S_, .f32⟩
  | 12 => ⟨S4352x256, .f32⟩
  | 13 => ⟨S4096x1024, .f32⟩
  | 14 => ⟨S1x34x128x2x128, .f32⟩
  | 15 => ⟨S1x34x128x2x128, .f32⟩
  | 16 => ⟨S1x32x128x2x128, .f32⟩
  | 17 => ⟨S1x32x128x2x128, .f32⟩
  | 18 => ⟨S1x32x128x2x128, .f32⟩
  | 19 => ⟨S1x32x384x2x128, .f32⟩
  | 20 => ⟨S1x32x128x2x128, .f32⟩
  | 21 => ⟨S1x32x128x2x128, .f32⟩
  | 22 => ⟨S1x32x128x2x128, .f32⟩
  | 23 => ⟨S1x32x384x2x128, .f32⟩
  | 24 => ⟨S1x32x128x2x4x128, .f32⟩
  | 25 => ⟨S1x32x2x384x128x4, .f32⟩
  | 26 => ⟨S1x32x2x4x128x384, .f32⟩
  | 27 => ⟨S_, .f32⟩
  | 28 => ⟨S1x32x2x4x128x384, .f32⟩
  | 29 => ⟨S1x32x2x4x128x384, .f32⟩
  | 30 => ⟨S4096, .i32⟩
  | 31 => ⟨S32x128, .i32⟩
  | 32 => ⟨S32, .i32⟩
  | 33 => ⟨S32x1, .i32⟩
  | 34 => ⟨S_, .i32⟩
  | 35 => ⟨S32x1, .i32⟩
  | 36 => ⟨S32x1, .i32⟩
  | 37 => ⟨S_, .i32⟩
  | 38 => ⟨S32x1, .i32⟩
  | 39 => ⟨S32x1, .i32⟩
  | 40 => ⟨S384, .i32⟩
  | 41 => ⟨S1x384, .i32⟩
  | 42 => ⟨S32x384, .i32⟩
  | 43 => ⟨S32x384, .i32⟩
  | 44 => ⟨S32x384, .i32⟩
  | 45 => ⟨S32x1x384, .i32⟩
  | 46 => ⟨S_, .i32⟩
  | 47 => ⟨S32x1x384, .i32⟩
  | 48 => ⟨S32x1x384, .i1⟩
  | 49 => ⟨S32x1x384, .i32⟩
  | 50 => ⟨S_, .i32⟩
  | 51 => ⟨S32x1x384, .i32⟩
  | 52 => ⟨S32x1x384, .i1⟩
  | 53 => ⟨S32x1x384, .i1⟩
  | 54 => ⟨S32x128x1, .i32⟩
  | 55 => ⟨S32x1x384, .i32⟩
  | 56 => ⟨S32x128x384, .i32⟩
  | 57 => ⟨S32x128x384, .i32⟩
  | 58 => ⟨S32x128x384, .i32⟩
  | 59 => ⟨S32x128x384, .i32⟩
  | 60 => ⟨S_, .i32⟩
  | 61 => ⟨S32x128x384, .i32⟩
  | 62 => ⟨S32x128x384, .i1⟩
  | 63 => ⟨S32x128x384, .i1⟩
  | 64 => ⟨S32x128x384, .i1⟩
  | 65 => ⟨S1x32x1x1x128x384, .i1⟩
  | 66 => ⟨S_, .f32⟩
  | 67 => ⟨S_, .f32⟩
  | 68 => ⟨S1x32x2x4x128x384, .i1⟩
  | 69 => ⟨S1x32x2x4x128x384, .f32⟩
  | 70 => ⟨S1x32x2x4x128x384, .f32⟩
  | 71 => ⟨S_, .f32⟩
  | 72 => ⟨S1x32x2x4x128x384, .f32⟩
  | 73 => ⟨S1x1x2x4x1x1, .f32⟩
  | 74 => ⟨S1x32x2x4x128x1, .f32⟩
  | 75 => ⟨S1x32x2x4x128x385, .f32⟩
  | 76 => ⟨S_, .f32⟩
  | 77 => ⟨S1x32x2x4x128, .f32⟩
  | 78 => ⟨S1x32x2x4x128x1, .f32⟩
  | 79 => ⟨S1x32x2x4x128x385, .f32⟩
  | 80 => ⟨S1x32x2x4x128x385, .i1⟩
  | 81 => ⟨S1x32x2x4x128x385, .f32⟩
  | 82 => ⟨S_, .f32⟩
  | 83 => ⟨S1x32x2x4x128, .f32⟩
  | 84 => ⟨S_, .f32⟩
  | 85 => ⟨S1x32x2x4x128, .f32⟩
  | 86 => ⟨S1x32x2x4x128, .f32⟩
  | 87 => ⟨S_, .f32⟩
  | 88 => ⟨S1x32x2x4x128, .f32⟩
  | 89 => ⟨S1x32x2x4x128, .i1⟩
  | 90 => ⟨S_, .f32⟩
  | 91 => ⟨S1x32x2x4x128, .f32⟩
  | 92 => ⟨S1x32x2x4x128, .i1⟩
  | 93 => ⟨S_, .f32⟩
  | 94 => ⟨S1x32x2x4x128, .f32⟩
  | 95 => ⟨S_, .f32⟩
  | 96 => ⟨S1x32x2x4x128, .f32⟩
  | 97 => ⟨S_, .f32⟩
  | 98 => ⟨S1x32x2x4x128, .f32⟩
  | 99 => ⟨S1x32x2x4x128, .f32⟩
  | 100 => ⟨S1x32x2x4x128, .f32⟩
  | 101 => ⟨S1x32x2x4x128x1, .f32⟩
  | 102 => ⟨S1x32x2x4x128x385, .f32⟩
  | 103 => ⟨S1x32x2x4x128x385, .f32⟩
  | 104 => ⟨S1x32x2x4x128x385, .f32⟩
  | 105 => ⟨S_, .f32⟩
  | 106 => ⟨S1x32x2x4x128, .f32⟩
  | 107 => ⟨S1x32x2x4x128x1, .f32⟩
  | 108 => ⟨S1x32x2x4x128x385, .f32⟩
  | 109 => ⟨S1x32x2x4x128x385, .f32⟩
  | 110 => ⟨S1x32x2x4x128x1, .f32⟩
  | 111 => ⟨S_, .f32⟩
  | 112 => ⟨S1x32x2x4x128x1, .f32⟩
  | 113 => ⟨S1x32x2x4x128x1, .f32⟩
  | 114 => ⟨S1x32x2x4x128x384, .f32⟩
  | 115 => ⟨S1x32x2x128x4x128, .f32⟩
  | 116 => ⟨S1x32x128x2x4x128, .f32⟩
  | 117 => ⟨S4096x1024, .f32⟩
  | 118 => ⟨S4096x1024, .bf16⟩
  | 119 => ⟨S4096x1024, .f32⟩
  | 120 => ⟨S1x32x128x2x4x128, .f32⟩
  | 121 => ⟨S1x32x2x128x4x128, .f32⟩
  | 122 => ⟨S1x32x2x4x128x384, .f32⟩
  | 123 => ⟨S1x32x2x128x384, .f32⟩
  | 124 => ⟨S1x32x384x2x128, .f32⟩
  | 125 => ⟨S_, .f32⟩
  | 126 => ⟨S1x32x2x4x128x385, .f32⟩
  | 127 => ⟨S1x32x2x4x128x385, .f32⟩
  | _ => ⟨S4096x1024, .bf16⟩

abbrev hbmTy0_1 (i : Nat) : BufTy := match i % 128 with
  | 0 => ⟨S1x32x2x4x128x385, .f32⟩
  | 1 => ⟨S1x32x2x4x128x385, .f32⟩
  | 2 => ⟨S_, .f32⟩
  | 3 => ⟨S1x32x2x4x128, .f32⟩
  | 4 => ⟨S1x32x2x4x128x1, .f32⟩
  | 5 => ⟨S1x32x2x4x128x1, .f32⟩
  | 6 => ⟨S1x32x2x4x128x385, .f32⟩
  | 7 => ⟨S1x32x2x4x128x385, .f32⟩
  | 8 => ⟨S_, .f32⟩
  | 9 => ⟨S32x2x4x128, .f32⟩
  | 10 => ⟨S1x32x2x4x128, .f32⟩
  | 11 => ⟨S1x32x2x4x128x385, .f32⟩
  | 12 => ⟨S1x32x2x4x128x385, .f32⟩
  | 13 => ⟨S1x32x2x4x128x385, .f32⟩
  | 14 => ⟨S1x32x2x4x128x384, .f32⟩
  | 15 => ⟨S1x32x2x4x128x1, .f32⟩
  | 16 => ⟨S_, .f32⟩
  | 17 => ⟨S2x4, .f32⟩
  | 18 => ⟨S1x1x2x4x1x1, .f32⟩
  | 19 => ⟨S8, .f32⟩
  | 20 => ⟨S_, .f32⟩
  | 21 => ⟨S1x32x2x4x128x384, .f32⟩
  | 22 => ⟨S1x32x2x4x128x384, .f32⟩
  | 23 => ⟨S_, .f32⟩
  | 24 => ⟨S1x32x2x4x128x384, .f32⟩
  | 25 => ⟨S1x32x2x4x128x384, .f32⟩
  | 26 => ⟨S1x32x2x384x128x4, .f32⟩
  | 27 => ⟨S1x32x2x128x4x128, .f32⟩
  | 28 => ⟨S1x32x128x2x4x128, .f32⟩
  | 29 => ⟨S1x32x2x384x128, .f32⟩
  | 30 => ⟨S1x32x384x2x128, .f32⟩
  | 31 => ⟨S4096x1024, .f32⟩
  | 32 => ⟨S1x32x128x2x128, .f32⟩
  | 33 => ⟨S1x32x128x2x128, .f32⟩
  | 34 => ⟨S1x32x128x2x128, .f32⟩
  | 35 => ⟨S_, .f32⟩
  | 36 => ⟨S1x34x128x2x128, .f32⟩
  | 37 => ⟨S_, .f32⟩
  | 38 => ⟨S1x34x128x2x128, .f32⟩
  | 39 => ⟨S1x34x128x2x128, .f32⟩
  | 40 => ⟨S_, .f32⟩
  | 41 => ⟨S1x34x128x2x128, .f32⟩
  | 42 => ⟨S1x34x128x2x128, .f32⟩
  | 43 => ⟨S1x32x128x2x128, .f32⟩
  | 44 => ⟨S1x32x128x2x128, .f32⟩
  | 45 => ⟨S1x32x128x2x128, .f32⟩
  | 46 => ⟨S_, .f32⟩
  | 47 => ⟨S1x34x128x2x128, .f32⟩
  | 48 => ⟨S_, .f32⟩
  | 49 => ⟨S1x34x128x2x128, .f32⟩
  | 50 => ⟨S1x34x128x2x128, .f32⟩
  | 51 => ⟨S_, .f32⟩
  | 52 => ⟨S1x34x128x2x128, .f32⟩
  | 53 => ⟨S1x34x128x2x128, .f32⟩
  | 54 => ⟨S4352x256, .f32⟩
  | 55 => ⟨S4352x256, .f32⟩
  | 56 => ⟨S2x4x1, .f32⟩
  | 57 => ⟨S2x4x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_1 : Ref sig .tc := ⟨.hbm, 34, rfl⟩
abbrev main_v24 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_call2_v0 : Ref sig .tc := ⟨.hbm, 67, rfl⟩
abbrev main_v51_1 : Ref sig .tc := ⟨.hbm, 68, rfl⟩
abbrev main_call2_v2 : Ref sig .tc := ⟨.hbm, 69, rfl⟩
abbrev main_v51_0 : Ref sig .tc := ⟨.hbm, 70, rfl⟩
abbrev main_call2_cst : Ref sig .tc := ⟨.hbm, 71, rfl⟩
abbrev main_v51_2 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_7 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_8 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_cst_11 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_18 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_19 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_call3_cst : Ref sig .tc := ⟨.hbm, 148, rfl⟩
abbrev main_call3_v0 : Ref sig .tc := ⟨.hbm, 149, rfl⟩
abbrev main_v113 : Ref sig .tc := ⟨.hbm, 150, rfl⟩
abbrev main_cst_21 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_cst_22 : Ref sig .tc := ⟨.hbm, 163, rfl⟩
abbrev main_v125 : Ref sig .tc := ⟨.hbm, 164, rfl⟩
abbrev main_cst_23 : Ref sig .tc := ⟨.hbm, 165, rfl⟩
abbrev main_v126 : Ref sig .tc := ⟨.hbm, 166, rfl⟩
abbrev main_v127 : Ref sig .tc := ⟨.hbm, 167, rfl⟩
abbrev main_cst_24 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_cst_25 : Ref sig .tc := ⟨.hbm, 174, rfl⟩
abbrev main_v133 : Ref sig .tc := ⟨.hbm, 175, rfl⟩
abbrev main_cst_26 : Ref sig .tc := ⟨.hbm, 176, rfl⟩
abbrev main_v134 : Ref sig .tc := ⟨.hbm, 177, rfl⟩
abbrev main_v135 : Ref sig .tc := ⟨.hbm, 178, rfl⟩
abbrev main_cst_27 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩

abbrev nD : Nat := 1
abbrev τ : Topo := Topo.v7x

variable {F : FTy → Type} [FloatOps F]
-- ==== FfnBwd.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩
abbrev S256x2048 : Shape := ⟨2, ![256, 2048]⟩
abbrev S256x512 : Shape := ⟨2, ![256, 512]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S8x128, .f32⟩
  | .hbm, ⟨5, _⟩ => ⟨S4096x5632, .bf16⟩
  | .hbm, ⟨6, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S8x128, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S4096x2048 : Shape := ⟨2, ![4096, 2048]⟩
abbrev S5632x2048 : Shape := ⟨2, ![5632, 2048]⟩
abbrev S4096x5632 : Shape := ⟨2, ![4096, 5632]⟩
abbrev S8x128 : Shape := ⟨2, ![8, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S8x128, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x2048, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .bf16⟩
  | .hbm, ⟨32, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== FfnIn.lean ====
abbrev S4096x5632 : Shape := ⟨2, ![4096, 5632]⟩
abbrev S4x2048x1408 : Shape := ⟨3, ![4, 2048, 1408]⟩
abbrev S4096x2048 : Shape := ⟨2, ![4096, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 5
  | .vmem => 11
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S4096x2048, .bf16⟩
  | .local _ .vmem, ⟨0, _⟩ => ⟨S512x1408, .bf16⟩
  | .local _ .vmem, ⟨1, _⟩ => ⟨S512x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .bf16⟩
  | .local _ .vmem, ⟨5, _⟩ => ⟨S512x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg1 c1_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnInRefIdeal.lean ====
abbrev S4096x5632 : Shape := ⟨2, ![4096, 5632]⟩
abbrev S4x2048x1408 : Shape := ⟨3, ![4, 2048, 1408]⟩
abbrev S1x2048x1408 : Shape := ⟨3, ![1, 2048, 1408]⟩
abbrev S2048x1408 : Shape := ⟨2, ![2048, 1408]⟩
abbrev S2048x5632 : Shape := ⟨2, ![2048, 5632]⟩
abbrev S_ : Shape := ⟨0, ![]⟩
abbrev S4096x2048 : Shape := ⟨2, ![4096, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S1x2048x1408, .bf16⟩
  | .hbm, ⟨5, _⟩ => ⟨S2048x1408, .bf16⟩
  | .hbm, ⟨6, _⟩ => ⟨S1x2048x1408, .bf16⟩
  | .hbm, ⟨7, _⟩ => ⟨S2048x1408, .bf16⟩
  | .hbm, ⟨8, _⟩ => ⟨S1x2048x1408, .bf16⟩
  | .hbm, ⟨9, _⟩ => ⟨S2048x1408, .bf16⟩
  | .hbm, ⟨10, _⟩ => ⟨S1x2048x1408, .bf16⟩
  | .hbm, ⟨11, _⟩ => ⟨S2048x1408, .bf16⟩
  | .hbm, ⟨12, _⟩ => ⟨S2048x5632, .bf16⟩
  | .hbm, ⟨13, _⟩ => ⟨S2048x5632, .f32⟩
  | .hbm, ⟨14, _⟩ => ⟨S1x2048x1408, .bf16⟩
  | .hbm, ⟨15, _⟩ => ⟨S2048x1408, .bf16⟩
  | .hbm, ⟨16, _⟩ => ⟨S1x2048x1408, .bf16⟩
  | .hbm, ⟨17, _⟩ => ⟨S2048x1408, .bf16⟩
  | .hbm, ⟨18, _⟩ => ⟨S1x2048x1408, .bf16⟩
  | .hbm, ⟨19, _⟩ => ⟨S2048x1408, .bf16⟩
  | .hbm, ⟨20, _⟩ => ⟨S1x2048x1408, .bf16⟩
  | .hbm, ⟨21, _⟩ => ⟨S2048x1408, .bf16⟩
  | .hbm, ⟨22, _⟩ => ⟨S2048x5632, .bf16⟩
  | .hbm, ⟨23, _⟩ => ⟨S2048x5632, .f32⟩
  | .hbm, ⟨24, _⟩ => ⟨S_, .f32⟩
  | .hbm, ⟨25, _⟩ => ⟨S4096x2048, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== FfnUpW.lean ====
abbrev S4096x2048 : Shape := ⟨2, ![4096, 2048]⟩
abbrev S4096x5632 : Shape := ⟨2, ![4096, 5632]⟩
abbrev S4x2048x1408 : Shape := ⟨3, ![4, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpWRefIdeal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩
abbrev S2048x1408 : Shape := ⟨2, ![2048, 1408]⟩
abbrev S1x2048x1408 : Shape := ⟨3, ![1, 2048, 1408]⟩
abbrev S4x2048x1408 : Shape := ⟨3, ![4, 2048, 1408]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S1x2048x1408, .f32⟩
  | .hbm, ⟨14, _⟩ => ⟨S1x2048x1408, .f32⟩
  | .hbm, ⟨15, _⟩ => ⟨S1x2048x1408, .f32⟩
  | .hbm, ⟨16, _⟩ => ⟨S1x2048x1408, .f32⟩
  | .hbm, ⟨17, _⟩ => ⟨S4x2048x1408, .f32⟩
  | .hbm, ⟨18, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== FfnDownW.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownWRefIdeal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S4096x3584 : Shape := ⟨2, ![4096, 3584]⟩
abbrev S4x2048x896 : Shape := ⟨3, ![4, 2048, 896]⟩
abbrev S4096x2048 : Shape := ⟨2, ![4096, 2048]⟩
abbrev S512x896 : Shape := ⟨2, ![512, 896]⟩
abbrev S1x2048x896 : Shape := ⟨3, ![1, 2048, 896]⟩
abbrev S512x2048 : Shape := ⟨2, ![512, 2048]⟩
abbrev S2048x896 : Shape := ⟨2, ![2048, 896]⟩

abbrev nBuf : Space → Nat
  | .hbm => 3
  | .vmem => 14
  | .smem => 0
  | _ => 0

abbrev bufTy : (tb : Table) → Fin (tcTables nBuf tb) → BufTy
  | .hbm, ⟨0, _⟩ => ⟨S4096x3584, .bf16⟩
  | .hbm, ⟨1, _⟩ => ⟨S4x2048x896, .bf16⟩
  | .hbm, ⟨2, _⟩ => ⟨S4096x2048, .bf16⟩
  | .local _ .vmem, ⟨0, _⟩ => ⟨S512x896, .bf16⟩
  | .local _ .vmem, ⟨1, _⟩ => ⟨S512x896, .bf16⟩
  | .local _ .vmem, ⟨2, _⟩ => ⟨S1x2048x896, .bf16⟩
  | .local _ .vmem, ⟨3, _⟩ => ⟨S512x896, .bf16⟩
  | .local _ .vmem, ⟨4, _⟩ => ⟨S512x896, .bf16⟩
  | .local _ .vmem, ⟨5, _⟩ => ⟨S1x2048x896, .bf16⟩
  | .local _ .vmem, ⟨6, _⟩ => ⟨S512x896, .bf16⟩
  | .local _ .vmem, ⟨7, _⟩ => ⟨S512x896, .bf16⟩
  | .local _ .vmem, ⟨8, _⟩ => ⟨S1x2048x896, .bf16⟩
  | .local _ .vmem, ⟨9, _⟩ => ⟨S512x896, .bf16⟩
  | .local _ .vmem, ⟨10, _⟩ => ⟨S512x896, .bf16⟩
  | .local _ .vmem, ⟨11, _⟩ => ⟨S1x2048x896, .bf16⟩
  | .local _ .vmem, ⟨12, _⟩ => ⟨S512x2048, .bf16⟩
  | .local _ .vmem, ⟨13, _⟩ => ⟨S512x2048, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  ![arg0.toNat, v1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  ![arg0.toNat, v1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  ![arg0.toNat, v1.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x896 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x896 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixInRefIdeal.lean ====
abbrev S4096x3584 : Shape := ⟨2, ![4096, 3584]⟩
abbrev S4x2048x896 : Shape := ⟨3, ![4, 2048, 896]⟩
abbrev S1x2048x896 : Shape := ⟨3, ![1, 2048, 896]⟩
abbrev S2048x896 : Shape := ⟨2, ![2048, 896]⟩
abbrev S2048x3584 : Shape := ⟨2, ![2048, 3584]⟩
abbrev S_ : Shape := ⟨0, ![]⟩
abbrev S4096x2048 : Shape := ⟨2, ![4096, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4x2048x896, .bf16⟩
  | .hbm, ⟨2, _⟩ => ⟨S1x2048x896, .bf16⟩
  | .hbm, ⟨3, _⟩ => ⟨S2048x896, .bf16⟩
  | .hbm, ⟨4, _⟩ => ⟨S1x2048x896, .bf16⟩
  | .hbm, ⟨5, _⟩ => ⟨S2048x896, .bf16⟩
  | .hbm, ⟨6, _⟩ => ⟨S1x2048x896, .bf16⟩
  | .hbm, ⟨7, _⟩ => ⟨S2048x896, .bf16⟩
  | .hbm, ⟨8, _⟩ => ⟨S1x2048x896, .bf16⟩
  | .hbm, ⟨9, _⟩ => ⟨S2048x896, .bf16⟩
  | .hbm, ⟨10, _⟩ => ⟨S2048x3584, .bf16⟩
  | .hbm, ⟨11, _⟩ => ⟨S2048x3584, .f32⟩
  | .hbm, ⟨12, _⟩ => ⟨S_, .f32⟩
  | .hbm, ⟨13, _⟩ => ⟨S4096x2048, .f32⟩
  | .hbm, ⟨14, _⟩ => ⟨S4096x3584, .f32⟩
  | .hbm, ⟨15, _⟩ => ⟨S4096x3584, .f32⟩
  | .hbm, ⟨16, _⟩ => ⟨S4096x2048, .f32⟩
  | .hbm, ⟨17, _⟩ => ⟨S4096x2048, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== MixInW.lean ====
abbrev S4096x2048 : Shape := ⟨2, ![4096, 2048]⟩
abbrev S4096x3584 : Shape := ⟨2, ![4096, 3584]⟩
abbrev S4x2048x896 : Shape := ⟨3, ![4, 2048, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S4x2048x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInWRefIdeal.lean ====
abbrev S4096x2048 : Shape := ⟨2, ![4096, 2048]⟩
abbrev S4096x3584 : Shape := ⟨2, ![4096, 3584]⟩
abbrev S_ : Shape := ⟨0, ![]⟩
abbrev S2048x3584 : Shape := ⟨2, ![2048, 3584]⟩
abbrev S3584x2048 : Shape := ⟨2, ![3584, 2048]⟩
abbrev S2048x896 : Shape := ⟨2, ![2048, 896]⟩
abbrev S1x2048x896 : Shape := ⟨3, ![1, 2048, 896]⟩
abbrev S4x2048x896 : Shape := ⟨3, ![4, 2048, 896]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S_, .f32⟩
  | .hbm, ⟨3, _⟩ => ⟨S2048x3584, .f32⟩
  | .hbm, ⟨4, _⟩ => ⟨S4096x2048, .f32⟩
  | .hbm, ⟨5, _⟩ => ⟨S4096x3584, .f32⟩
  | .hbm, ⟨6, _⟩ => ⟨S4096x3584, .f32⟩
  | .hbm, ⟨7, _⟩ => ⟨S3584x2048, .f32⟩
  | .hbm, ⟨8, _⟩ => ⟨S2048x3584, .f32⟩
  | .hbm, ⟨9, _⟩ => ⟨S2048x896, .f32⟩
  | .hbm, ⟨10, _⟩ => ⟨S2048x896, .f32⟩
  | .hbm, ⟨11, _⟩ => ⟨S2048x896, .f32⟩
  | .hbm, ⟨12, _⟩ => ⟨S2048x896, .f32⟩
  | .hbm, ⟨13, _⟩ => ⟨S1x2048x896, .f32⟩
  | .hbm, ⟨14, _⟩ => ⟨S1x2048x896, .f32⟩
  | .hbm, ⟨15, _⟩ => ⟨S1x2048x896, .f32⟩
  | .hbm, ⟨16, _⟩ => ⟨S1x2048x896, .f32⟩
  | .hbm, ⟨17, _⟩ => ⟨S4x2048x896, .f32⟩
  | .hbm, ⟨18, _⟩ => ⟨S4x2048x896, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== MixOutW.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixOutWRefIdeal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixOut.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S8x128, .f32⟩
  | .local _ .vmem, ⟨5, _⟩ => ⟨S1024x512, .bf16⟩
  | .local _ .vmem, ⟨6, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutRefIdeal.lean ====
abbrev S4096x2048 : Shape := ⟨2, ![4096, 2048]⟩
abbrev S2048x2048 : Shape := ⟨2, ![2048, 2048]⟩
abbrev S8x128 : Shape := ⟨2, ![8, 128]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S2048x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== FfnFwd.lean ====
abbrev S4096x2048 : Shape := ⟨2, ![4096, 2048]⟩
abbrev S4x2048x1408 : Shape := ⟨3, ![4, 2048, 1408]⟩
abbrev S8x128 : Shape := ⟨2, ![8, 128]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S256x2048 : Shape := ⟨2, ![256, 2048]⟩
abbrev S2048x1408 : Shape := ⟨2, ![2048, 1408]⟩
abbrev S256x1408 : Shape := ⟨2, ![256, 1408]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S4096x5632, .bf16⟩
  | .hbm, ⟨5, _⟩ => ⟨S4096x5632, .bf16⟩
  | .hbm, ⟨6, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S8x128, .f32⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdRefIdeal.lean ====
abbrev S4096x2048 : Shape := ⟨2, ![4096, 2048]⟩
abbrev S4x2048x1408 : Shape := ⟨3, ![4, 2048, 1408]⟩
abbrev S8x128 : Shape := ⟨2, ![8, 128]⟩
abbrev S1x2048x1408 : Shape := ⟨3, ![1, 2048, 1408]⟩
abbrev S2048x1408 : Shape := ⟨2, ![2048, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S8x128, .f32⟩
  | .hbm, ⟨4, _⟩ => ⟨S4096x2048, .f32⟩
  | .hbm, ⟨5, _⟩ => ⟨S1x2048x1408, .bf16⟩
  | .hbm, ⟨6, _⟩ => ⟨S2048x1408, .bf16⟩
  | .hbm, ⟨7, _⟩ => ⟨S1x2048x1408, .bf16⟩
  | .hbm, ⟨8, _⟩ => ⟨S2048x1408, .bf16⟩
  | .hbm, ⟨9, _⟩ => ⟨S1x2048x1408, .bf16⟩
  | .hbm, ⟨10, _⟩ => ⟨S2048x1408, .bf16⟩
  | .hbm, ⟨11, _⟩ => ⟨S1x2048x1408, .bf16⟩
  | .hbm, ⟨12, _⟩ => ⟨S2048x1408, .bf16⟩
  | .hbm, ⟨13, _⟩ => ⟨S2048x5632, .bf16⟩
  | .hbm, ⟨14, _⟩ => ⟨S2048x5632, .f32⟩
  | .hbm, ⟨15, _⟩ => ⟨S4096x5632, .f32⟩
  | .hbm, ⟨16, _⟩ => ⟨S1x2048x1408, .bf16⟩
  | .hbm, ⟨17, _⟩ => ⟨S2048x1408, .bf16⟩
  | .hbm, ⟨18, _⟩ => ⟨S1x2048x1408, .bf16⟩
  | .hbm, ⟨19, _⟩ => ⟨S2048x1408, .bf16⟩
  | .hbm, ⟨20, _⟩ => ⟨S1x2048x1408, .bf16⟩
  | .hbm, ⟨21, _⟩ => ⟨S2048x1408, .bf16⟩
  | .hbm, ⟨22, _⟩ => ⟨S1x2048x1408, .bf16⟩
  | .hbm, ⟨23, _⟩ => ⟨S2048x1408, .bf16⟩
  | .hbm, ⟨24, _⟩ => ⟨S2048x5632, .bf16⟩
  | .hbm, ⟨25, _⟩ => ⟨S2048x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S_, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .bf16⟩
  | .hbm, ⟨38, _⟩ => ⟨S4096x5632, .bf16⟩
  | .hbm, ⟨39, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== MixFwd.lean ====
abbrev S4096x2048 : Shape := ⟨2, ![4096, 2048]⟩
abbrev S4x2048x896 : Shape := ⟨3, ![4, 2048, 896]⟩
abbrev S8x128 : Shape := ⟨2, ![8, 128]⟩
abbrev S4096x3584 : Shape := ⟨2, ![4096, 3584]⟩
abbrev S512x2048 : Shape := ⟨2, ![512, 2048]⟩
abbrev S1x2048x896 : Shape := ⟨3, ![1, 2048, 896]⟩
abbrev S512x896 : Shape := ⟨2, ![512, 896]⟩
abbrev S2048x896 : Shape := ⟨2, ![2048, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S8x128, .f32⟩
  | .hbm, ⟨3, _⟩ => ⟨S4096x3584, .bf16⟩
  | .local _ .vmem, ⟨0, _⟩ => ⟨S512x2048, .bf16⟩
  | .local _ .vmem, ⟨1, _⟩ => ⟨S512x2048, .bf16⟩
  | .local _ .vmem, ⟨2, _⟩ => ⟨S1x2048x896, .bf16⟩
  | .local _ .vmem, ⟨3, _⟩ => ⟨S1x2048x896, .bf16⟩
  | .local _ .vmem, ⟨4, _⟩ => ⟨S8x128, .f32⟩
  | .local _ .vmem, ⟨5, _⟩ => ⟨S512x896, .bf16⟩
  | .local _ .vmem, ⟨6, _⟩ => ⟨S512x896, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S512x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixFwdRefIdeal.lean ====
abbrev S4096x2048 : Shape := ⟨2, ![4096, 2048]⟩
abbrev S4x2048x896 : Shape := ⟨3, ![4, 2048, 896]⟩
abbrev S8x128 : Shape := ⟨2, ![8, 128]⟩
abbrev S1x2048x896 : Shape := ⟨3, ![1, 2048, 896]⟩
abbrev S2048x896 : Shape := ⟨2, ![2048, 896]⟩
abbrev S2048x3584 : Shape := ⟨2, ![2048, 3584]⟩
abbrev S4096x3584 : Shape := ⟨2, ![4096, 3584]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x896, .bf16⟩
  | .hbm, ⟨2, _⟩ => ⟨S8x128, .f32⟩
  | .hbm, ⟨3, _⟩ => ⟨S4096x2048, .f32⟩
  | .hbm, ⟨4, _⟩ => ⟨S1x2048x896, .bf16⟩
  | .hbm, ⟨5, _⟩ => ⟨S2048x896, .bf16⟩
  | .hbm, ⟨6, _⟩ => ⟨S1x2048x896, .bf16⟩
  | .hbm, ⟨7, _⟩ => ⟨S2048x896, .bf16⟩
  | .hbm, ⟨8, _⟩ => ⟨S1x2048x896, .bf16⟩
  | .hbm, ⟨9, _⟩ => ⟨S2048x896, .bf16⟩
  | .hbm, ⟨10, _⟩ => ⟨S1x2048x896, .bf16⟩
  | .hbm, ⟨11, _⟩ => ⟨S2048x896, .bf16⟩
  | .hbm, ⟨12, _⟩ => ⟨S2048x3584, .bf16⟩
  | .hbm, ⟨13, _⟩ => ⟨S2048x3584, .f32⟩
  | .hbm, ⟨14, _⟩ => ⟨S4096x3584, .f32⟩
  | .hbm, ⟨15, _⟩ => ⟨S4096x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== MixRes.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== MixResRefIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== FfnOut.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S512x2816 : Shape := ⟨2, ![512, 2816]⟩
abbrev S2816x1024 : Shape := ⟨2, ![2816, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg1 : BitVec 32 := BitVec.ofNat 32 (i 1).val
  let c0_i32_9 : BitVec 32 := 0#32
  let v13 : BitVec 1 := Scalar.cmpi .eq arg1 c0_i32_9
  let v14 : BitVec 32 := Scalar.extui v13
  let c0_i32_10 : BitVec 32 := 0#32
  let v15 : BitVec 1 := Scalar.cmpi .ne v14 c0_i32_10
  v15

def k0_cond5 (i : grid0.Coords) : BitVec 1 :=
  let arg1 : BitVec 32 := BitVec.ofNat 32 (i 1).val
  let c1_i32_11 : BitVec 32 := 1#32
  let v16 : BitVec 1 := Scalar.cmpi .eq arg1 c1_i32_11
  let v17 : BitVec 32 := Scalar.extui v16
  let c0_i32_12 : BitVec 32 := 0#32
  let v18 : BitVec 1 := Scalar.cmpi .ne v17 c0_i32_12
  v18

def k0_cond6 (i : grid0.Coords) : BitVec 1 :=
  let arg1 : BitVec 32 := BitVec.ofNat 32 (i 1).val
  let c1_i32_13 : BitVec 32 := 1#32
  let v19 : BitVec 1 := Scalar.cmpi .eq arg1 c1_i32_13
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnOutRefIdeal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== RmsBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_14 : BitVec 32 := 0#32
  let v35 : BitVec 1 := Scalar.cmpi .ne v34 c0_i32_14
  v35

def k0_cond2 (i : grid0.Coords) : BitVec 1 :=
  let arg0 : BitVec 32 := BitVec.ofNat 32 (i 0).val
  let c0_i32_15 : BitVec 32 := 0#32
  let v36 : BitVec 1 := Scalar.cmpi .sgt arg0 c0_i32_15
  let v37 : BitVec 32 := Scalar.extui v36
  let c0_i32_16 : BitVec 32 := 0#32
  let v38 : BitVec 1 := Scalar.cmpi .ne v37 c0_i32_16
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .bf16⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .f32⟩
  | .hbm, ⟨53, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== AdamOut.lean ====
abbrev S1 : Shape := ⟨1, ![1]⟩
abbrev S4x512x2048 : Shape := ⟨3, ![4, 512, 2048]⟩
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamOutIdeal.lean ====
abbrev S1 : Shape := ⟨1, ![1]⟩
abbrev S4x512x2048 : Shape := ⟨3, ![4, 512, 2048]⟩
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x512x2048, .f32⟩
  | .hbm, ⟨1, _⟩ => ⟨S4x256x2048, .f32⟩
  | .hbm, ⟨2, _⟩ => ⟨S4x256x2048, .f32⟩
  | .hbm, ⟨3, _⟩ => ⟨S4x512x2048, .f32⟩
  | .hbm, ⟨4, _⟩ => ⟨S4x512x2048, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamOutRefIdeal.lean ====
abbrev S1 : Shape := ⟨1, ![1]⟩
abbrev S4x512x2048 : Shape := ⟨3, ![4, 512, 2048]⟩
abbrev S4x256x2048 : Shape := ⟨3, ![4, 256, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x512x2048, .f32⟩
  | .hbm, ⟨2, _⟩ => ⟨S4x256x2048, .f32⟩
  | .hbm, ⟨3, _⟩ => ⟨S4x256x2048, .f32⟩
  | .hbm, ⟨4, _⟩ => ⟨S4x512x2048, .f32⟩
  | .hbm, ⟨5, _⟩ => ⟨S4x512x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x256x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x256x2048, .f32⟩
  | .hbm, ⟨14, _⟩ => ⟨S4x512x2048, .f32⟩
  | .hbm, ⟨15, _⟩ => ⟨S_, .f32⟩
  | .hbm, ⟨16, _⟩ => ⟨S4x512x2048, .f32⟩
  | .hbm, ⟨17, _⟩ => ⟨S4x512x2048, .f32⟩
  | .hbm, ⟨18, _⟩ => ⟨S_, .f32⟩
  | .hbm, ⟨19, _⟩ => ⟨S4x512x2048, .f32⟩
  | .hbm, ⟨20, _⟩ => ⟨S4x512x2048, .f32⟩
  | .hbm, ⟨21, _⟩ => ⟨S4x512x2048, .f32⟩
  | .hbm, ⟨22, _⟩ => ⟨S_, .f32⟩
  | .hbm, ⟨23, _⟩ => ⟨S4x512x2048, .f32⟩
  | .hbm, ⟨24, _⟩ => ⟨S4x512x2048, .f32⟩
  | .hbm, ⟨25, _⟩ => ⟨S4x512x2048, .f32⟩
  | .hbm, ⟨26, _⟩ => ⟨S_, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S_, .f32⟩
  | .hbm, ⟨31, _⟩ => ⟨S4x512x2048, .f32⟩
  | .hbm, ⟨32, _⟩ => ⟨S4x512x2048, .f32⟩
  | .hbm, ⟨33, _⟩ => ⟨S_, .f32⟩
  | .hbm, ⟨34, _⟩ => ⟨S4x512x2048, .f32⟩
  | .hbm, ⟨35, _⟩ => ⟨S4x512x2048, .f32⟩
  | .hbm, ⟨36, _⟩ => ⟨S4x512x2048, .f32⟩
  | .hbm, ⟨37, _⟩ => ⟨S_, .f32⟩
  | .hbm, ⟨38, _⟩ => ⟨S4x512x2048, .f32⟩
  | .hbm, ⟨39, _⟩ => ⟨S4x512x2048, .f32⟩
  | .hbm, ⟨40, _⟩ => ⟨S4x512x2048, .f32⟩
  | .hbm, ⟨41, _⟩ => ⟨S_, .f32⟩
  | .hbm, ⟨42, _⟩ => ⟨S4x512x2048, .f32⟩
  | .hbm, ⟨43, _⟩ => ⟨S4x512x2048, .f32⟩
  | .hbm, ⟨44, _⟩ => ⟨S4x512x2048, .f32⟩
  | .hbm, ⟨45, _⟩ => ⟨S_, .f32⟩
  | .hbm, ⟨46, _⟩ => ⟨S4x512x2048, .f32⟩
  | .hbm, ⟨47, _⟩ => ⟨S4x512x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamIn.lean ====
abbrev S1 : Shape := ⟨1, ![1]⟩
abbrev S4x2048x896 : Shape := ⟨3, ![4, 2048, 896]⟩
abbrev S4x1024x896 : Shape := ⟨3, ![4, 1024, 896]⟩
abbrev S1x512x896 : Shape := ⟨3, ![1, 512, 896]⟩
abbrev S512x896 : Shape := ⟨2, ![512, 896]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x896, .f32⟩
  | .hbm, ⟨1, _⟩ => ⟨S4x1024x896, .f32⟩
  | .hbm, ⟨2, _⟩ => ⟨S4x1024x896, .f32⟩
  | .hbm, ⟨3, _⟩ => ⟨S4x2048x896, .f32⟩
  | .hbm, ⟨4, _⟩ => ⟨S4x2048x896, .f32⟩
  | .hbm, ⟨5, _⟩ => ⟨S4x2048x896, .f32⟩
  | .hbm, ⟨6, _⟩ => ⟨S4x2048x896, .f32⟩
  | .hbm, ⟨7, _⟩ => ⟨S4x2048x896, .f32⟩
  | .hbm, ⟨8, _⟩ => ⟨S4x2048x896, .f32⟩
  | .local _ .vmem, ⟨0, _⟩ => ⟨S1x512x896, .f32⟩
  | .local _ .vmem, ⟨1, _⟩ => ⟨S1x512x896, .f32⟩
  | .local _ .vmem, ⟨2, _⟩ => ⟨S1x512x896, .f32⟩
  | .local _ .vmem, ⟨3, _⟩ => ⟨S1x512x896, .f32⟩
  | .local _ .vmem, ⟨4, _⟩ => ⟨S1x512x896, .f32⟩
  | .local _ .vmem, ⟨5, _⟩ => ⟨S1x512x896, .f32⟩
  | .local _ .vmem, ⟨6, _⟩ => ⟨S1x512x896, .f32⟩
  | .local _ .vmem, ⟨7, _⟩ => ⟨S1x512x896, .f32⟩
  | .local _ .vmem, ⟨8, _⟩ => ⟨S1x512x896, .f32⟩
  | .local _ .vmem, ⟨9, _⟩ => ⟨S1x512x896, .f32⟩
  | .local _ .vmem, ⟨10, _⟩ => ⟨S1x512x896, .f32⟩
  | .local _ .vmem, ⟨11, _⟩ => ⟨S1x512x896, .f32⟩
  | .local _ .vmem, ⟨12, _⟩ => ⟨S1x512x896, .f32⟩
  | .local _ .vmem, ⟨13, _⟩ => ⟨S1x512x896, .f32⟩
  | .local _ .vmem, ⟨14, _⟩ => ⟨S1x512x896, .f32⟩
  | .local _ .vmem, ⟨15, _⟩ => ⟨S1x512x896, .f32⟩
  | .local _ .vmem, ⟨16, _⟩ => ⟨S1x512x896, .f32⟩
  | .local _ .vmem, ⟨17, _⟩ => ⟨S1x512x896, .f32⟩
  | .local _ .smem, ⟨0, _⟩ => ⟨S1, .i32⟩
  | _, _ => ⟨S4x2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamInIdeal.lean ====
abbrev S1 : Shape := ⟨1, ![1]⟩
abbrev S4x2048x896 : Shape := ⟨3, ![4, 2048, 896]⟩
abbrev S4x1024x896 : Shape := ⟨3, ![4, 1024, 896]⟩
abbrev S1x512x896 : Shape := ⟨3, ![1, 512, 896]⟩
abbrev S512x896 : Shape := ⟨2, ![512, 896]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x896, .f32⟩
  | .hbm, ⟨1, _⟩ => ⟨S4x1024x896, .f32⟩
  | .hbm, ⟨2, _⟩ => ⟨S4x1024x896, .f32⟩
  | .hbm, ⟨3, _⟩ => ⟨S4x2048x896, .f32⟩
  | .hbm, ⟨4, _⟩ => ⟨S4x2048x896, .f32⟩
  | .hbm, ⟨5, _⟩ => ⟨S4x2048x896, .f32⟩
  | .hbm, ⟨6, _⟩ => ⟨S4x2048x896, .f32⟩
  | .hbm, ⟨7, _⟩ => ⟨S4x2048x896, .f32⟩
  | .hbm, ⟨8, _⟩ => ⟨S4x2048x896, .f32⟩
  | .local _ .vmem, ⟨0, _⟩ => ⟨S1x512x896, .f32⟩
  | .local _ .vmem, ⟨1, _⟩ => ⟨S1x512x896, .f32⟩
  | .local _ .vmem, ⟨2, _⟩ => ⟨S1x512x896, .f32⟩
  | .local _ .vmem, ⟨3, _⟩ => ⟨S1x512x896, .f32⟩
  | .local _ .vmem, ⟨4, _⟩ => ⟨S1x512x896, .f32⟩
  | .local _ .vmem, ⟨5, _⟩ => ⟨S1x512x896, .f32⟩
  | .local _ .vmem, ⟨6, _⟩ => ⟨S1x512x896, .f32⟩
  | .local _ .vmem, ⟨7, _⟩ => ⟨S1x512x896, .f32⟩
  | .local _ .vmem, ⟨8, _⟩ => ⟨S1x512x896, .f32⟩
  | .local _ .vmem, ⟨9, _⟩ => ⟨S1x512x896, .f32⟩
  | .local _ .vmem, ⟨10, _⟩ => ⟨S1x512x896, .f32⟩
  | .local _ .vmem, ⟨11, _⟩ => ⟨S1x512x896, .f32⟩
  | .local _ .vmem, ⟨12, _⟩ => ⟨S1x512x896, .f32⟩
  | .local _ .vmem, ⟨13, _⟩ => ⟨S1x512x896, .f32⟩
  | .local _ .vmem, ⟨14, _⟩ => ⟨S1x512x896, .f32⟩
  | .local _ .vmem, ⟨15, _⟩ => ⟨S1x512x896, .f32⟩
  | .local _ .vmem, ⟨16, _⟩ => ⟨S1x512x896, .f32⟩
  | .local _ .vmem, ⟨17, _⟩ => ⟨S1x512x896, .f32⟩
  | .local _ .smem, ⟨0, _⟩ => ⟨S1, .i32⟩
  | _, _ => ⟨S4x2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 2], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamInRefIdeal.lean ====
abbrev S1 : Shape := ⟨1, ![1]⟩
abbrev S4x2048x896 : Shape := ⟨3, ![4, 2048, 896]⟩
abbrev S4x1024x896 : Shape := ⟨3, ![4, 1024, 896]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2048x896, .f32⟩
  | .hbm, ⟨2, _⟩ => ⟨S4x1024x896, .f32⟩
  | .hbm, ⟨3, _⟩ => ⟨S4x1024x896, .f32⟩
  | .hbm, ⟨4, _⟩ => ⟨S4x2048x896, .f32⟩
  | .hbm, ⟨5, _⟩ => ⟨S4x2048x896, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x1024x896, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1024x896, .f32⟩
  | .hbm, ⟨14, _⟩ => ⟨S4x2048x896, .f32⟩
  | .hbm, ⟨15, _⟩ => ⟨S_, .f32⟩
  | .hbm, ⟨16, _⟩ => ⟨S4x2048x896, .f32⟩
  | .hbm, ⟨17, _⟩ => ⟨S4x2048x896, .f32⟩
  | .hbm, ⟨18, _⟩ => ⟨S_, .f32⟩
  | .hbm, ⟨19, _⟩ => ⟨S4x2048x896, .f32⟩
  | .hbm, ⟨20, _⟩ => ⟨S4x2048x896, .f32⟩
  | .hbm, ⟨21, _⟩ => ⟨S4x2048x896, .f32⟩
  | .hbm, ⟨22, _⟩ => ⟨S_, .f32⟩
  | .hbm, ⟨23, _⟩ => ⟨S4x2048x896, .f32⟩
  | .hbm, ⟨24, _⟩ => ⟨S4x2048x896, .f32⟩
  | .hbm, ⟨25, _⟩ => ⟨S4x2048x896, .f32⟩
  | .hbm, ⟨26, _⟩ => ⟨S_, .f32⟩
  | .hbm, ⟨27, _⟩ => ⟨S4x2048x896, .f32⟩
  | .hbm, ⟨28, _⟩ => ⟨S4x2048x896, .f32⟩
  | .hbm, ⟨29, _⟩ => ⟨S4x2048x896, .f32⟩
  | .hbm, ⟨30, _⟩ => ⟨S_, .f32⟩
  | .hbm, ⟨31, _⟩ => ⟨S4x2048x896, .f32⟩
  | .hbm, ⟨32, _⟩ => ⟨S4x2048x896, .f32⟩
  | .hbm, ⟨33, _⟩ => ⟨S_, .f32⟩
  | .hbm, ⟨34, _⟩ => ⟨S4x2048x896, .f32⟩
  | .hbm, ⟨35, _⟩ => ⟨S4x2048x896, .f32⟩
  | .hbm, ⟨36, _⟩ => ⟨S4x2048x896, .f32⟩
  | .hbm, ⟨37, _⟩ => ⟨S_, .f32⟩
  | .hbm, ⟨38, _⟩ => ⟨S4x2048x896, .f32⟩
  | .hbm, ⟨39, _⟩ => ⟨S4x2048x896, .f32⟩
  | .hbm, ⟨40, _⟩ => ⟨S4x2048x896, .f32⟩
  | .hbm, ⟨41, _⟩ => ⟨S_, .f32⟩
  | .hbm, ⟨42, _⟩ => ⟨S4x2048x896, .f32⟩
  | .hbm, ⟨43, _⟩ => ⟨S4x2048x896, .f32⟩
  | .hbm, ⟨44, _⟩ => ⟨S4x2048x896, .f32⟩
  | .hbm, ⟨45, _⟩ => ⟨S_, .f32⟩
  | .hbm, ⟨46, _⟩ => ⟨S4x2048x896, .f32⟩
  | .hbm, ⟨47, _⟩ => ⟨S4x2048x896, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamUp.lean ====
abbrev S1 : Shape := ⟨1, ![1]⟩
abbrev S4x2048x1408 : Shape := ⟨3, ![4, 2048, 1408]⟩
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S4x1024x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpIdeal.lean ====
abbrev S1 : Shape := ⟨1, ![1]⟩
abbrev S4x2048x1408 : Shape := ⟨3, ![4, 2048, 1408]⟩
abbrev S4x1024x1408 : Shape := ⟨3, ![4, 1024, 1408]⟩
abbrev S1x256x1408 : Shape := ⟨3, ![1, 256, 1408]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S4x2048x1408, .f32⟩
  | .hbm, ⟨1, _⟩ => ⟨S4x1024x1408, .f32⟩
  | .hbm, ⟨2, _⟩ => ⟨S4x1024x1408, .f32⟩
  | .hbm, ⟨3, _⟩ => ⟨S4x2048x1408, .f32⟩
  | .hbm, ⟨4, _⟩ => ⟨S4x2048x1408, .f32⟩
  | .hbm, ⟨5, _⟩ => ⟨S4x2048x1408, .f32⟩
  | .hbm, ⟨6, _⟩ => ⟨S4x2048x1408, .f32⟩
  | .hbm, ⟨7, _⟩ => ⟨S4x2048x1408, .f32⟩
  | .hbm, ⟨8, _⟩ => ⟨S4x2048x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpRefIdeal.lean ====
abbrev S1 : Shape := ⟨1, ![1]⟩
abbrev S4x2048x1408 : Shape := ⟨3, ![4, 2048, 1408]⟩
abbrev S4x1024x1408 : Shape := ⟨3, ![4, 1024, 1408]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2048x1408, .f32⟩
  | .hbm, ⟨2, _⟩ => ⟨S4x1024x1408, .f32⟩
  | .hbm, ⟨3, _⟩ => ⟨S4x1024x1408, .f32⟩
  | .hbm, ⟨4, _⟩ => ⟨S4x2048x1408, .f32⟩
  | .hbm, ⟨5, _⟩ => ⟨S4x2048x1408, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x1024x1408, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x1024x1408, .f32⟩
  | .hbm, ⟨14, _⟩ => ⟨S4x2048x1408, .f32⟩
  | .hbm, ⟨15, _⟩ => ⟨S_, .f32⟩
  | .hbm, ⟨16, _⟩ => ⟨S4x2048x1408, .f32⟩
  | .hbm, ⟨17, _⟩ => ⟨S4x2048x1408, .f32⟩
  | .hbm, ⟨18, _⟩ => ⟨S_, .f32⟩
  | .hbm, ⟨19, _⟩ => ⟨S4x2048x1408, .f32⟩
  | .hbm, ⟨20, _⟩ => ⟨S4x2048x1408, .f32⟩
  | .hbm, ⟨21, _⟩ => ⟨S4x2048x1408, .f32⟩
  | .hbm, ⟨22, _⟩ => ⟨S_, .f32⟩
  | .hbm, ⟨23, _⟩ => ⟨S4x2048x1408, .f32⟩
  | .hbm, ⟨24, _⟩ => ⟨S4x2048x1408, .f32⟩
  | .hbm, ⟨25, _⟩ => ⟨S4x2048x1408, .f32⟩
  | .hbm, ⟨26, _⟩ => ⟨S_, .f32⟩
  | .hbm, ⟨27, _⟩ => ⟨S4x2048x1408, .f32⟩
  | .hbm, ⟨28, _⟩ => ⟨S4x2048x1408, .f32⟩
  | .hbm, ⟨29, _⟩ => ⟨S4x2048x1408, .f32⟩
  | .hbm, ⟨30, _⟩ => ⟨S_, .f32⟩
  | .hbm, ⟨31, _⟩ => ⟨S4x2048x1408, .f32⟩
  | .hbm, ⟨32, _⟩ => ⟨S4x2048x1408, .f32⟩
  | .hbm, ⟨33, _⟩ => ⟨S_, .f32⟩
  | .hbm, ⟨34, _⟩ => ⟨S4x2048x1408, .f32⟩
  | .hbm, ⟨35, _⟩ => ⟨S4x2048x1408, .f32⟩
  | .hbm, ⟨36, _⟩ => ⟨S4x2048x1408, .f32⟩
  | .hbm, ⟨37, _⟩ => ⟨S_, .f32⟩
  | .hbm, ⟨38, _⟩ => ⟨S4x2048x1408, .f32⟩
  | .hbm, ⟨39, _⟩ => ⟨S4x2048x1408, .f32⟩
  | .hbm, ⟨40, _⟩ => ⟨S4x2048x1408, .f32⟩
  | .hbm, ⟨41, _⟩ => ⟨S_, .f32⟩
  | .hbm, ⟨42, _⟩ => ⟨S4x2048x1408, .f32⟩
  | .hbm, ⟨43, _⟩ => ⟨S4x2048x1408, .f32⟩
  | .hbm, ⟨44, _⟩ => ⟨S4x2048x1408, .f32⟩
  | .hbm, ⟨45, _⟩ => ⟨S_, .f32⟩
  | .hbm, ⟨46, _⟩ => ⟨S4x2048x1408, .f32⟩
  | .hbm, ⟨47, _⟩ => ⟨S4x2048x1408, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== AdamDown.lean ====
abbrev S1 : Shape := ⟨1, ![1]⟩
abbrev S4x1408x2048 : Shape := ⟨3, ![4, 1408, 2048]⟩
abbrev S4x704x2048 : Shape := ⟨3, ![4, 704, 2048]⟩
abbrev S1x176x2048 : Shape := ⟨3, ![1, 176, 2048]⟩
abbrev S176x2048 : Shape := ⟨2, ![176, 2048]⟩

abbrev nBuf : Space → Nat
  | .hbm => 9
  | .vmem => 18
  | .smem => 1
  | _ => 0

abbrev bufTy : (tb : Table) → Fin (tcTables nBuf tb) → BufTy
  | .hbm, ⟨0, _⟩ => ⟨S4x1408x2048, .f32⟩
  | .hbm, ⟨1, _⟩ => ⟨S4x704x2048, .f32⟩
  | .hbm, ⟨2, _⟩ => ⟨S4x704x2048, .f32⟩
  | .hbm, ⟨3, _⟩ => ⟨S4x1408x2048, .f32⟩
  | .hbm, ⟨4, _⟩ => ⟨S4x1408x2048, .f32⟩
  | .hbm, ⟨5, _⟩ => ⟨S4x1408x2048, .f32⟩
  | .hbm, ⟨6, _⟩ => ⟨S4x1408x2048, .f32⟩
  | .hbm, ⟨7, _⟩ => ⟨S4x1408x2048, .f32⟩
  | .hbm, ⟨8, _⟩ => ⟨S4x1408x2048, .f32⟩
  | .local _ .vmem, ⟨0, _⟩ => ⟨S1x176x2048, .f32⟩
  | .local _ .vmem, ⟨1, _⟩ => ⟨S1x176x2048, .f32⟩
  | .local _ .vmem, ⟨2, _⟩ => ⟨S1x176x2048, .f32⟩
  | .local _ .vmem, ⟨3, _⟩ => ⟨S1x176x2048, .f32⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .smem, ⟨0, _⟩ => ⟨S1, .i32⟩
  | _, _ => ⟨S4x1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 arg2 c0_i32
  let c0_i32_0 : BitVec 32 := 0#32
  let c0_i32_1 : BitVec 32 := 0#32
  ![arg0.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let v1 : BitVec 1 := Scalar.cmpi .eq arg1 v0
  let c0_i32 : BitVec 32 := 0#32
  let v2 : BitVec 32 := Scalar.select v1 c0_i32 arg2
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamDownRefIdeal.lean ====
abbrev S1 : Shape := ⟨1, ![1]⟩
abbrev S4x1408x2048 : Shape := ⟨3, ![4, 1408, 2048]⟩
abbrev S4x704x2048 : Shape := ⟨3, ![4, 704, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1408x2048, .f32⟩
  | .hbm, ⟨2, _⟩ => ⟨S4x704x2048, .f32⟩
  | .hbm, ⟨3, _⟩ => ⟨S4x704x2048, .f32⟩
  | .hbm, ⟨4, _⟩ => ⟨S4x1408x2048, .f32⟩
  | .hbm, ⟨5, _⟩ => ⟨S4x1408x2048, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S4x704x2048, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S4x704x2048, .f32⟩
  | .hbm, ⟨14, _⟩ => ⟨S4x1408x2048, .f32⟩
  | .hbm, ⟨15, _⟩ => ⟨S_, .f32⟩
  | .hbm, ⟨16, _⟩ => ⟨S4x1408x2048, .f32⟩
  | .hbm, ⟨17, _⟩ => ⟨S4x1408x2048, .f32⟩
  | .hbm, ⟨18, _⟩ => ⟨S_, .f32⟩
  | .hbm, ⟨19, _⟩ => ⟨S4x1408x2048, .f32⟩
  | .hbm, ⟨20, _⟩ => ⟨S4x1408x2048, .f32⟩
  | .hbm, ⟨21, _⟩ => ⟨S4x1408x2048, .f32⟩
  | .hbm, ⟨22, _⟩ => ⟨S_, .f32⟩
  | .hbm, ⟨23, _⟩ => ⟨S4x1408x2048, .f32⟩
  | .hbm, ⟨24, _⟩ => ⟨S4x1408x2048, .f32⟩
  | .hbm, ⟨25, _⟩ => ⟨S4x1408x2048, .f32⟩
  | .hbm, ⟨26, _⟩ => ⟨S_, .f32⟩
  | .hbm, ⟨27, _⟩ => ⟨S4x1408x2048, .f32⟩
  | .hbm, ⟨28, _⟩ => ⟨S4x1408x2048, .f32⟩
  | .hbm, ⟨29, _⟩ => ⟨S4x1408x2048, .f32⟩
  | .hbm, ⟨30, _⟩ => ⟨S_, .f32⟩
  | .hbm, ⟨31, _⟩ => ⟨S4x1408x2048, .f32⟩
  | .hbm, ⟨32, _⟩ => ⟨S4x1408x2048, .f32⟩
  | .hbm, ⟨33, _⟩ => ⟨S_, .f32⟩
  | .hbm, ⟨34, _⟩ => ⟨S4x1408x2048, .f32⟩
  | .hbm, ⟨35, _⟩ => ⟨S4x1408x2048, .f32⟩
  | .hbm, ⟨36, _⟩ => ⟨S4x1408x2048, .f32⟩
  | .hbm, ⟨37, _⟩ => ⟨S_, .f32⟩
  | .hbm, ⟨38, _⟩ => ⟨S4x1408x2048, .f32⟩
  | .hbm, ⟨39, _⟩ => ⟨S4x1408x2048, .f32⟩
  | .hbm, ⟨40, _⟩ => ⟨S4x1408x2048, .f32⟩
  | .hbm, ⟨41, _⟩ => ⟨S_, .f32⟩
  | .hbm, ⟨42, _⟩ => ⟨S4x1408x2048, .f32⟩
  | .hbm, ⟨43, _⟩ => ⟨S4x1408x2048, .f32⟩
  | .hbm, ⟨44, _⟩ => ⟨S4x1408x2048, .f32⟩
  | .hbm, ⟨45, _⟩ => ⟨S_, .f32⟩
  | .hbm, ⟨46, _⟩ => ⟨S4x1408x2048, .f32⟩
  | .hbm, ⟨47, _⟩ => ⟨S4x1408x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Proof.AttnRunB.lean ====
module

public import proofs.«01_k».proof.Proof.Gen.AttnBwdIdeal.Launch
public import proofs.«01_k».proof.Proof.Gen.AttnBwdIdeal.Skeleton
public import proofs.«01_k».proof.Proof.Gen.AttnBwdIdeal.Points
public import proofs.«01_k».proof.Proof.Gen.AttnBwdIdeal.Frame
public import Idealize.ShloMosaic.Lib.Tactic
public import Idealize.ShloMosaic.Lib.WordCmp

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F] [Named F]

/-- The body's test: this tile is the first of its group. -/
abbrev cond0_0 (i : grid0.Coords) : Prop := (Scalar.cmpi .ne (Scalar.extui (Scalar.cmpi .eq (BitVec.ofNat 32 (i 1).val) 0#32)) 0#32) = 1#1

theorem hcond0_0 (t : Fin cfg0.N) : cond0_0 (grid0.coords t) ↔ t.val % 4 = 0 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [cond0_0, e0, e1]
  word_cmp

/-- The 32 stores of the queries' gradient cover its block. -/
theorem cover5 (p0 p1 p2 p3 p4 p5 p6 p7 p8 p9 p10 p11 p12 p13 p14 p15 p16 p17 p18 p19 p20 p21 p22 p23 p24 p25 p26 p27 p28 p29 p30 p31 : Vec F S128x128 .f32) (y : S1024x512.Idx) :
    ∃ pc ∈ ([⟨Rect.unit (s := S1024x512) ![896, 384] S128x128.size inb_S1024x512_S128x128_896_384, p31⟩, ⟨Rect.unit (s := S1024x512) ![896, 256] S128x128.size inb_S1024x512_S128x128_896_256, p30⟩, ⟨Rect.unit (s := S1024x512) ![896, 128] S128x128.size inb_S1024x512_S128x128_896_128, p29⟩, ⟨Rect.unit (s := S1024x512) ![896, 0] S128x128.size inb_S1024x512_S128x128_896_0, p28⟩, ⟨Rect.unit (s := S1024x512) ![768, 384] S128x128.size inb_S1024x512_S128x128_768_384, p27⟩, ⟨Rect.unit (s := S1024x512) ![768, 256] S128x128.size inb_S1024x512_S128x128_768_256, p26⟩, ⟨Rect.unit (s := S1024x512) ![768, 128] S128x128.size inb_S1024x512_S128x128_768_128, p25⟩, ⟨Rect.unit (s := S1024x512) ![768, 0] S128x128.size inb_S1024x512_S128x128_768_0, p24⟩, ⟨Rect.unit (s := S1024x512) ![640, 384] S128x128.size inb_S1024x512_S128x128_640_384, p23⟩, ⟨Rect.unit (s := S1024x512) ![640, 256] S128x128.size inb_S1024x512_S128x128_640_256, p22⟩, ⟨Rect.unit (s := S1024x512) ![640, 128] S128x128.size inb_S1024x512_S128x128_640_128, p21⟩, ⟨Rect.unit (s := S1024x512) ![640, 0] S128x128.size inb_S1024x512_S128x128_640_0, p20⟩, ⟨Rect.unit (s := S1024x512) ![512, 384] S128x128.size inb_S1024x512_S128x128_512_384, p19⟩, ⟨Rect.unit (s := S1024x512) ![512, 256] S128x128.size inb_S1024x512_S128x128_512_256, p18⟩, ⟨Rect.unit (s := S1024x512) ![512, 128] S128x128.size inb_S1024x512_S128x128_512_128, p17⟩, ⟨Rect.unit (s := S1024x512) ![512, 0] S128x128.size inb_S1024x512_S128x128_512_0, p16⟩, ⟨Rect.unit (s := S1024x512) ![384, 384] S128x128.size inb_S1024x512_S128x128_384_384, p15⟩, ⟨Rect.unit (s := S1024x512) ![384, 256] S128x128.size inb_S1024x512_S128x128_384_256, p14⟩, ⟨Rect.unit (s := S1024x512) ![384, 128] S128x128.size inb_S1024x512_S128x128_384_128, p13⟩, ⟨Rect.unit (s := S1024x512) ![384, 0] S128x128.size inb_S1024x512_S128x128_384_0, p12⟩, ⟨Rect.unit (s := S1024x512) ![256, 384] S128x128.size inb_S1024x512_S128x128_256_384, p11⟩, ⟨Rect.unit (s := S1024x512) ![256, 256] S128x128.size inb_S1024x512_S128x128_256_256, p10⟩, ⟨Rect.unit (s := S1024x512) ![256, 128] S128x128.size inb_S1024x512_S128x128_256_128, p9⟩, ⟨Rect.unit (s := S1024x512) ![256, 0] S128x128.size inb_S1024x512_S128x128_256_0, p8⟩, ⟨Rect.unit (s := S1024x512) ![128, 384] S128x128.size inb_S1024x512_S128x128_128_384, p7⟩, ⟨Rect.unit (s := S1024x512) ![128, 256] S128x128.size inb_S1024x512_S128x128_128_256, p6⟩, ⟨Rect.unit (s := S1024x512) ![128, 128] S128x128.size inb_S1024x512_S128x128_128_128, p5⟩, ⟨Rect.unit (s := S1024x512) ![128, 0] S128x128.size inb_S1024x512_S128x128_128_0, p4⟩, ⟨Rect.unit (s := S1024x512) ![0, 384] S128x128.size inb_S1024x512_S128x128_0_384, p3⟩, ⟨Rect.unit (s := S1024x512) ![0, 256] S128x128.size inb_S1024x512_S128x128_0_256, p2⟩, ⟨Rect.unit (s := S1024x512) ![0, 128] S128x128.size inb_S1024x512_S128x128_0_128, p1⟩, ⟨Rect.unit (s := S1024x512) ![0, 0] S128x128.size inb_S1024x512_S128x128_0_0, p0⟩] : List (View.Piece (Elt F) S1024x512 .f32)), y ∈ pc.1.set :=
  View.cover_of_tiled [⟨Rect.unit (s := S1024x512) ![896, 384] S128x128.size inb_S1024x512_S128x128_896_384, p31⟩, ⟨Rect.unit (s := S1024x512) ![896, 256] S128x128.size inb_S1024x512_S128x128_896_256, p30⟩, ⟨Rect.unit (s := S1024x512) ![896, 128] S128x128.size inb_S1024x512_S128x128_896_128, p29⟩, ⟨Rect.unit (s := S1024x512) ![896, 0] S128x128.size inb_S1024x512_S128x128_896_0, p28⟩, ⟨Rect.unit (s := S1024x512) ![768, 384] S128x128.size inb_S1024x512_S128x128_768_384, p27⟩, ⟨Rect.unit (s := S1024x512) ![768, 256] S128x128.size inb_S1024x512_S128x128_768_256, p26⟩, ⟨Rect.unit (s := S1024x512) ![768, 128] S128x128.size inb_S1024x512_S128x128_768_128, p25⟩, ⟨Rect.unit (s := S1024x512) ![768, 0] S128x128.size inb_S1024x512_S128x128_768_0, p24⟩, ⟨Rect.unit (s := S1024x512) ![640, 384] S128x128.size inb_S1024x512_S128x128_640_384, p23⟩, ⟨Rect.unit (s := S1024x512) ![640, 256] S128x128.size inb_S1024x512_S128x128_640_256, p22⟩, ⟨Rect.unit (s := S1024x512) ![640, 128] S128x128.size inb_S1024x512_S128x128_640_128, p21⟩, ⟨Rect.unit (s := S1024x512) ![640, 0] S128x128.size inb_S1024x512_S128x128_640_0, p20⟩, ⟨Rect.unit (s := S1024x512) ![512, 384] S128x128.size inb_S1024x512_S128x128_512_384, p19⟩, ⟨Rect.unit (s := S1024x512) ![512, 256] S128x128.size inb_S1024x512_S128x128_512_256, p18⟩, ⟨Rect.unit (s := S1024x512) ![512, 128] S128x128.size inb_S1024x512_S128x128_512_128, p17⟩, ⟨Rect.unit (s := S1024x512) ![512, 0] S128x128.size inb_S1024x512_S128x128_512_0, p16⟩, ⟨Rect.unit (s := S1024x512) ![384, 384] S128x128.size inb_S1024x512_S128x128_384_384, p15⟩, ⟨Rect.unit (s := S1024x512) ![384, 256] S128x128.size inb_S1024x512_S128x128_384_256, p14⟩, ⟨Rect.unit (s := S1024x512) ![384, 128] S128x128.size inb_S1024x512_S128x128_384_128, p13⟩, ⟨Rect.unit (s := S1024x512) ![384, 0] S128x128.size inb_S1024x512_S128x128_384_0, p12⟩, ⟨Rect.unit (s := S1024x512) ![256, 384] S128x128.size inb_S1024x512_S128x128_256_384, p11⟩, ⟨Rect.unit (s := S1024x512) ![256, 256] S128x128.size inb_S1024x512_S128x128_256_256, p10⟩, ⟨Rect.unit (s := S1024x512) ![256, 128] S128x128.size inb_S1024x512_S128x128_256_128, p9⟩, ⟨Rect.unit (s := S1024x512) ![256, 0] S128x128.size inb_S1024x512_S128x128_256_0, p8⟩, ⟨Rect.unit (s := S1024x512) ![128, 384] S128x128.size inb_S1024x512_S128x128_128_384, p7⟩, ⟨Rect.unit (s := S1024x512) ![128, 256] S128x128.size inb_S1024x512_S128x128_128_256, p6⟩, ⟨Rect.unit (s := S1024x512) ![128, 128] S128x128.size inb_S1024x512_S128x128_128_128, p5⟩, ⟨Rect.unit (s := S1024x512) ![128, 0] S128x128.size inb_S1024x512_S128x128_128_0, p4⟩, ⟨Rect.unit (s := S1024x512) ![0, 384] S128x128.size inb_S1024x512_S128x128_0_384, p3⟩, ⟨Rect.unit (s := S1024x512) ![0, 256] S128x128.size inb_S1024x512_S128x128_0_256, p2⟩, ⟨Rect.unit (s := S1024x512) ![0, 128] S128x128.size inb_S1024x512_S128x128_0_128, p1⟩, ⟨Rect.unit (s := S1024x512) ![0, 0] S128x128.size inb_S1024x512_S128x128_0_0, p0⟩] S128x128.size (by rfl) y

/-- A list of ten stores over a store of the whole block covers it. -/
theorem cover6 (p0 p1 p2 p3 p4 p5 p6 p7 p8 p9 : View.Piece (Elt F) S4352x128 .f32) (w : Vec F S4352x128 .f32) (y : S4352x128.Idx) :
    ∃ pc ∈ ([p0, p1, p2, p3, p4, p5, p6, p7, p8, p9, ⟨Rect.unit (s := S4352x128) ![0, 0] S4352x128.size inb_S4352x128_S4352x128_0_0, w⟩] : List (View.Piece (Elt F) S4352x128 .f32)), y ∈ pc.1.set := by
  obtain ⟨pc, h, hy⟩ := View.cover_of_tiled [(⟨Rect.unit (s := S4352x128) ![0, 0] S4352x128.size inb_S4352x128_S4352x128_0_0, w⟩ : View.Piece (Elt F) S4352x128 .f32)] S4352x128.size (by rfl) y
  refine ⟨pc, ?_, hy⟩
  rw [List.mem_singleton] at h
  simp only [h, List.mem_cons, true_or, or_true]

/-- A list of four stores over a store of the whole block covers it. -/
theorem cover8 (p0 p1 p2 p3 : View.Piece (Elt F) S1x4x128 .f32) (w : Vec F S1x4x128 .f32) (y : S1x4x128.Idx) :
    ∃ pc ∈ ([p0, p1, p2, p3, ⟨Rect.unit (s := S1x4x128) ![0, 0, 0] S1x4x128.size inb_S1x4x128_S1x4x128_0_0_0, w⟩] : List (View.Piece (Elt F) S1x4x128 .f32)), y ∈ pc.1.set := by
  obtain ⟨pc, h, hy⟩ := View.cover_of_tiled [(⟨Rect.unit (s := S1x4x128) ![0, 0, 0] S1x4x128.size inb_S1x4x128_S1x4x128_0_0_0, w⟩ : View.Piece (Elt F) S1x4x128 .f32)] S1x4x128.size (by rfl) y
  refine ⟨pc, ?_, hy⟩
  rw [List.mem_singleton] at h
  simp only [h, List.mem_cons, true_or, or_true]

set_option maxHeartbeats 4000000 in
/-- The kernel's body at a point whose tile is a later one of its group, the accumulators found at `y6`, `y7`, `y8`: the lists of stores it
    leaves in its four outputs' buffers, newest first. -/
def runB (c : Dev nD) (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4352x128 .f32) (harg8 : arg8.IsWhole) (arg9 : Memref sig .tc .vmem S4352x128 .f32) (harg9 : arg9.IsWhole) (arg10 : Memref sig .tc .vmem S1x4x128 .f32) (harg10 : arg10.IsWhole) (hc0 : ¬cond0_0 i)
    (x0 : Vec F S1024x512 .bf16) (x1 : Vec F S4352x128 .bf16) (x2 : Vec F S4352x128 .bf16) (x3 : Vec F S1x4x128 .f32) (x4 : Vec F S1024x512 .bf16) (y6 : Vec F S4352x128 .f32) (y7 : Vec F S4352x128 .f32) (y8 : Vec F S1x4x128 .f32) :
    Σ' (L5 : List (View.Piece (Elt F) S1024x512 .f32)) (L6 L7 : List (View.Piece (Elt F) S4352x128 .f32)), { L8 : List (View.Piece (Elt F) S1x4x128 .f32) //
      ∀ (E : Set ℕ) (K : PUnit → sProp (MT nD τ sig Unit (Elt F) ℕ (UR sig nD τ) ℕ)),
        iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
         ∗ (∃ d, owns (c : Thread nD τ) arg7 fullShare d) ∗ owns (c : Thread nD τ) arg8 fullShare y6 ∗ owns (c : Thread nD τ) arg9 fullShare y7 ∗ owns (c : Thread nD τ) arg10 fullShare y8
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ f, arg7.view.loc (c : Thread nD τ) ↦[arg7.view.set]{fullShare} arg7.view.writes (Elt F) f L5)
        ∗ (arg8.view.loc (c : Thread nD τ) ↦[arg8.view.set]{fullShare} arg8.view.writes (Elt F) (harg8.unread y6) L6)
        ∗ (arg9.view.loc (c : Thread nD τ) ↦[arg9.view.set]{fullShare} arg9.view.writes (Elt F) (harg9.unread y7) L7)
        ∗ (arg10.view.loc (c : Thread nD τ) ↦[arg10.view.set]{fullShare} arg10.view.writes (Elt F) (harg10.unread y8) L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
    refine ⟨?_, ?_, ?_, ?_, fun E K => ?run⟩
    case run =>
      simp only [cc0_attn_bwd_eq_skeleton]; unfold cc0_attn_bwd_skel
      simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
      unfold owns
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
      obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; iexact H5
      isplitl [H6]
      · iexact H6
      isplitl [H7]
      · iexact H7
      iexact H8

end Cert.AttnBwdIdeal.Run

end
-- ==== Proof.AttnRunA.lean ====
module

public import proofs.«01_k».proof.Proof.AttnRunB

@[expose] public section

set_option maxRecDepth 16384

noncomputable section

namespace Cert.AttnBwdIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen

variable {F : FTy → Type} [FloatOps F] [Named F]

set_option maxHeartbeats 4000000 in
/-- The kernel's body at a point whose tile is the first of its group, the accumulators' buffers at anything: the lists of stores it
    leaves in its four outputs' buffers, newest first. -/
def runA (c : Dev nD) (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4352x128 .f32) (harg8 : arg8.IsWhole) (arg9 : Memref sig .tc .vmem S4352x128 .f32) (harg9 : arg9.IsWhole) (arg10 : Memref sig .tc .vmem S1x4x128 .f32) (harg10 : arg10.IsWhole) (hc0 : cond0_0 i)
    (x0 : Vec F S1024x512 .bf16) (x1 : Vec F S4352x128 .bf16) (x2 : Vec F S4352x128 .bf16) (x3 : Vec F S1x4x128 .f32) (x4 : Vec F S1024x512 .bf16) :
    Σ' (L5 : List (View.Piece (Elt F) S1024x512 .f32)) (L6 L7 : List (View.Piece (Elt F) S4352x128 .f32)), { L8 : List (View.Piece (Elt F) S1x4x128 .f32) //
      ∀ (E : Set ℕ) (K : PUnit → sProp (MT nD τ sig Unit (Elt F) ℕ (UR sig nD τ) ℕ)),
        iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
         ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ f, arg7.view.loc (c : Thread nD τ) ↦[arg7.view.set]{fullShare} arg7.view.writes (Elt F) f L5)
        ∗ (∃ f, arg8.view.loc (c : Thread nD τ) ↦[arg8.view.set]{fullShare} arg8.view.writes (Elt F) f L6)
        ∗ (∃ f, arg9.view.loc (c : Thread nD τ) ↦[arg9.view.set]{fullShare} arg9.view.writes (Elt F) f L7)
        ∗ (∃ f, arg10.view.loc (c : Thread nD τ) ↦[arg10.view.set]{fullShare} arg10.view.writes (Elt F) f L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
    refine ⟨?_, ?_, ?_, ?_, fun E K => ?run⟩
    case run =>
      simp only [cc0_attn_bwd_eq_skeleton]; unfold cc0_attn_bwd_skel
      simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
      unfold owns
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
      obtain rfl := harg2.eq_unread hf0; obtain rfl := harg3.eq_unread hf1; obtain rfl := harg4.eq_unread hf2; obtain rfl := harg5.eq_unread hf3; obtain rfl := harg6.eq_unread hf4
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; iexact H5
      isplitl [H6]
      · iexists _; iexact H6
      isplitl [H7]
      · iexists _; iexact H7
      iexists _; iexact H8

end Cert.AttnBwdIdeal.Run

end
-- ==== Proof.AttnTile.lean ====
module

public import proofs.«01_k».proof.Proof.AttnRunA
public import proofs.«01_k».proof.Proof.AttnRunB
public import Idealize.ShloMosaic.Lib.VecWindow

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen Cert.AttnBwdIdeal.Run

variable {F : FTy → Type} [FloatOps F] [Named F]

/-! ## A tile's blocks: what the kernel's body computes of each of its eight blocks of queries -/

/-- The number, among all the blocks of queries, of block `b` of the tile. -/
def nw (i : grid0.Coords) (b : Fin 8) : BitVec 32 := Scalar.addi (Scalar.muli (BitVec.ofNat 32 (i 1).val) 8#32) (BitVec.ofNat 32 b.val)

theorem inb_q (b h : ℕ) (hb : b < 8) (hh : h < 4) : ∀ a, (![128 * b, 128 * h] : Fin 2 → ℕ) a + S128x128.size a ≤ S1024x512.size a := by
  intro a; fin_cases a
  · show 128 * b + 128 ≤ 1024; omega
  · show 128 * h + 128 ≤ 512; omega

theorem slc_q (h : ℕ) (hh : h < 4) : S512x128.Slices ![128 * h, 0] S128x128 := ⟨rfl, by
  intro a; fin_cases a
  · show 128 * h + 128 ≤ 512; omega
  · show 0 + 128 ≤ 128; omega⟩

theorem slc_r (h : ℕ) (hh : h < 4) : S512x1.Slices ![128 * h, 0] S128x1 := ⟨rfl, by
  intro a; fin_cases a
  · show 128 * h + 128 ≤ 512; omega
  · show 0 + 1 ≤ 1; omega⟩

theorem inb_s (h : ℕ) (hh : h < 4) : ∀ a, (![0, h, 0] : Fin 3 → ℕ) a + S1x1x128.size a ≤ S1x4x128.size a := by
  intro a; fin_cases a
  · show 0 + 1 ≤ 1; omega
  · show h + 1 ≤ 4; omega
  · show 0 + 128 ≤ 128; omega

/-- What the body takes of one block: its number, the sinks of its rows, its rows of queries and of the gradient (the four
    heads below one another), and its window of keys and values. -/
structure Blk (F : FTy → Type) where
  n : BitVec 32
  sk : FVec F S512x1 .f32
  q : FVec F S512x128 .bf16
  k : Vec F S384x128 .bf16
  v : Vec F S384x128 .bf16
  g : FVec F S512x128 .bf16

namespace Blk
variable (B : Blk F)
/-- The block's scores, scaled and not yet masked. -/
def sc : FVec F S512x384 .f32 := k0_pay23 B.q B.k
/-- Its probabilities, -/
def p : FVec F S512x384 .f32 := k0_pay46 B.n B.sk k0_pay6 B.sc
/-- the sink's probability of each row, -/
def pe : FVec F S512x1 .f32 := k0_pay47 B.n B.sk k0_pay6 B.sc
/-- the gradient of the probabilities, -/
def dp : FVec F S512x384 .f32 := k0_pay32 B.g B.v
/-- each row's mean of that gradient, -/
def dl : FVec F S512x1 .f32 := k0_pay100 B.dp B.p
/-- the gradient of the scores, -/
def ds : FVec F S512x384 .bf16 := k0_pay109 B.dp B.p B.dl
/-- and the gradients of the queries, of the keys and of the values. -/
def dq : FVec F S512x128 .f32 := k0_pay118 B.ds B.k
def dk : FVec F S384x128 .f32 := k0_pay126 B.q B.ds
def dv : FVec F S384x128 .f32 := k0_pay134 B.g B.p
end Blk

/-- The rows of block `b`, its four heads below one another, as loaded from a tile. -/
def stk (arg : Memref sig .tc .vmem S1024x512 .bf16) (harg : arg.IsWhole) (x : Vec F S1024x512 .bf16) (b : Fin 8) : FVec F S512x128 .bf16 :=
  k0_pay7 (arg.view.readAt (Elt F) (Rect.unit (s := S1024x512) ![128 * b.val, 128 * 0] S128x128.size (inb_q b 0 b.isLt (by decide))).toLoadRect (harg.unread x) :)
    (arg.view.readAt (Elt F) (Rect.unit (s := S1024x512) ![128 * b.val, 128 * 1] S128x128.size (inb_q b 1 b.isLt (by decide))).toLoadRect (harg.unread x) :)
    (arg.view.readAt (Elt F) (Rect.unit (s := S1024x512) ![128 * b.val, 128 * 2] S128x128.size (inb_q b 2 b.isLt (by decide))).toLoadRect (harg.unread x) :)
    (arg.view.readAt (Elt F) (Rect.unit (s := S1024x512) ![128 * b.val, 128 * 3] S128x128.size (inb_q b 3 b.isLt (by decide))).toLoadRect (harg.unread x) :)

/-- The window of keys or of values of block `b`, as loaded. -/
def win (i : grid0.Coords) (arg : Memref sig .tc .vmem S4352x128 .bf16) (harg : arg.IsWhole) (x : Vec F S4352x128 .bf16) (b : Fin 8) : Vec F S384x128 .bf16 :=
  (arg.view.readAt (Elt F) (Rect.unit (s := S4352x128) (k0_off1 i (BitVec.ofNat 32 b.val)) S384x128.size (k0_off1_inb i b)).toLoadRect (harg.unread x) :)

/-- The sinks of the rows of a block, as loaded. -/
def snk (arg : Memref sig .tc .vmem S1x4x128 .f32) (harg : arg.IsWhole) (x : Vec F S1x4x128 .f32) : FVec F S512x1 .f32 :=
  k0_pay5 (arg.view.readAt (Elt F) (Rect.unit (s := S1x4x128) ![0, 0, 0] S1x1x1.size inb_S1x4x128_S1x1x1_0_0_0).toLoadRect (harg.unread x) :)
    (arg.view.readAt (Elt F) (Rect.unit (s := S1x4x128) ![0, 1, 0] S1x1x1.size inb_S1x4x128_S1x1x1_0_1_0).toLoadRect (harg.unread x) :)
    (arg.view.readAt (Elt F) (Rect.unit (s := S1x4x128) ![0, 2, 0] S1x1x1.size inb_S1x4x128_S1x1x1_0_2_0).toLoadRect (harg.unread x) :)
    (arg.view.readAt (Elt F) (Rect.unit (s := S1x4x128) ![0, 3, 0] S1x1x1.size inb_S1x4x128_S1x1x1_0_3_0).toLoadRect (harg.unread x) :)

/-- Block `b` as loaded from the tile's buffers. -/
def blkAt (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (x0 : Vec F S1024x512 .bf16) (x1 : Vec F S4352x128 .bf16) (x2 : Vec F S4352x128 .bf16) (x3 : Vec F S1x4x128 .f32) (x4 : Vec F S1024x512 .bf16) (b : Fin 8) : Blk F :=
  ⟨nw i b, snk arg5 harg5 x3, stk arg2 harg2 x0 b, win i arg3 harg3 x1 b, win i arg4 harg4 x2 b, stk arg6 harg6 x4 b⟩

/-! ## The stores -/

/-- The store of head `h` of block `b`'s gradient of the queries. -/
def dqPiece (d : FVec F S512x128 .f32) (b h : ℕ) (hb : b < 8) (hh : h < 4) : View.Piece (Elt F) S1024x512 .f32 :=
  ⟨Rect.unit (s := S1024x512) ![128 * b, 128 * h] S128x128.size (inb_q b h hb hh), extractStridedSlice S128x128 ![128 * h, 0] d (slc_q h hh)⟩

/-- All the stores of the gradient of the queries, newest first. -/
def dqList (d : Fin 8 → FVec F S512x128 .f32) : List (View.Piece (Elt F) S1024x512 .f32) :=
  [dqPiece (d 7) (7) 3 (by decide) (by decide), dqPiece (d 7) (7) 2 (by decide) (by decide), dqPiece (d 7) (7) 1 (by decide) (by decide), dqPiece (d 7) (7) 0 (by decide) (by decide), dqPiece (d 6) (6) 3 (by decide) (by decide), dqPiece (d 6) (6) 2 (by decide) (by decide), dqPiece (d 6) (6) 1 (by decide) (by decide), dqPiece (d 6) (6) 0 (by decide) (by decide), dqPiece (d 5) (5) 3 (by decide) (by decide), dqPiece (d 5) (5) 2 (by decide) (by decide), dqPiece (d 5) (5) 1 (by decide) (by decide), dqPiece (d 5) (5) 0 (by decide) (by decide), dqPiece (d 4) (4) 3 (by decide) (by decide), dqPiece (d 4) (4) 2 (by decide) (by decide), dqPiece (d 4) (4) 1 (by decide) (by decide), dqPiece (d 4) (4) 0 (by decide) (by decide), dqPiece (d 3) (3) 3 (by decide) (by decide), dqPiece (d 3) (3) 2 (by decide) (by decide), dqPiece (d 3) (3) 1 (by decide) (by decide), dqPiece (d 3) (3) 0 (by decide) (by decide), dqPiece (d 2) (2) 3 (by decide) (by decide), dqPiece (d 2) (2) 2 (by decide) (by decide), dqPiece (d 2) (2) 1 (by decide) (by decide), dqPiece (d 2) (2) 0 (by decide) (by decide), dqPiece (d 1) (1) 3 (by decide) (by decide), dqPiece (d 1) (1) 2 (by decide) (by decide), dqPiece (d 1) (1) 1 (by decide) (by decide), dqPiece (d 1) (1) 0 (by decide) (by decide), dqPiece (d 0) (0) 3 (by decide) (by decide), dqPiece (d 0) (0) 2 (by decide) (by decide), dqPiece (d 0) (0) 1 (by decide) (by decide), dqPiece (d 0) (0) 0 (by decide) (by decide)]

/-- A chunk of zeros. -/
def zer : FVec F S128x128 .f32 := broadcast S128x128 (Scalar.ofBits .f32 0x00000000#32)

/-- What the tile's blocks add to chunk `m` of its rows of keys: the parts of the windows that lie in it. -/
def chunk (D : Fin 8 → FVec F S384x128 .f32) : ℕ → FVec F S128x128 .f32
  | 0 => addf zer (extractStridedSlice S128x128 ![0, 0] (D 0) slices_S384x128_o0_0_S128x128)
  | 1 => addf (addf zer (extractStridedSlice S128x128 ![128, 0] (D 0) slices_S384x128_o128_0_S128x128)) (extractStridedSlice S128x128 ![0, 0] (D 1) slices_S384x128_o0_0_S128x128)
  | 2 => addf (addf (addf zer (extractStridedSlice S128x128 ![256, 0] (D 0) slices_S384x128_o256_0_S128x128)) (extractStridedSlice S128x128 ![128, 0] (D 1) slices_S384x128_o128_0_S128x128)) (extractStridedSlice S128x128 ![0, 0] (D 2) slices_S384x128_o0_0_S128x128)
  | 3 => addf (addf (addf zer (extractStridedSlice S128x128 ![256, 0] (D 1) slices_S384x128_o256_0_S128x128)) (extractStridedSlice S128x128 ![128, 0] (D 2) slices_S384x128_o128_0_S128x128)) (extractStridedSlice S128x128 ![0, 0] (D 3) slices_S384x128_o0_0_S128x128)
  | 4 => addf (addf (addf zer (extractStridedSlice S128x128 ![256, 0] (D 2) slices_S384x128_o256_0_S128x128)) (extractStridedSlice S128x128 ![128, 0] (D 3) slices_S384x128_o128_0_S128x128)) (extractStridedSlice S128x128 ![0, 0] (D 4) slices_S384x128_o0_0_S128x128)
  | 5 => addf (addf (addf zer (extractStridedSlice S128x128 ![256, 0] (D 3) slices_S384x128_o256_0_S128x128)) (extractStridedSlice S128x128 ![128, 0] (D 4) slices_S384x128_o128_0_S128x128)) (extractStridedSlice S128x128 ![0, 0] (D 5) slices_S384x128_o0_0_S128x128)
  | 6 => addf (addf (addf zer (extractStridedSlice S128x128 ![256, 0] (D 4) slices_S384x128_o256_0_S128x128)) (extractStridedSlice S128x128 ![128, 0] (D 5) slices_S384x128_o128_0_S128x128)) (extractStridedSlice S128x128 ![0, 0] (D 6) slices_S384x128_o0_0_S128x128)
  | 7 => addf (addf (addf zer (extractStridedSlice S128x128 ![256, 0] (D 5) slices_S384x128_o256_0_S128x128)) (extractStridedSlice S128x128 ![128, 0] (D 6) slices_S384x128_o128_0_S128x128)) (extractStridedSlice S128x128 ![0, 0] (D 7) slices_S384x128_o0_0_S128x128)
  | 8 => addf (addf zer (extractStridedSlice S128x128 ![256, 0] (D 6) slices_S384x128_o256_0_S128x128)) (extractStridedSlice S128x128 ![128, 0] (D 7) slices_S384x128_o128_0_S128x128)
  | 9 => addf zer (extractStridedSlice S128x128 ![256, 0] (D 7) slices_S384x128_o256_0_S128x128)
  | _ => zer

/-- The store to chunk `m`: what was loaded there, and the chunk. -/
def accPiece (i : grid0.Coords) (D : Fin 8 → FVec F S384x128 .f32) (m : ℕ) (hm : m < 10) (ld : Vec F S128x128 .f32) : View.Piece (Elt F) S4352x128 .f32 :=
  ⟨Rect.unit (s := S4352x128) (k0_off2 i (BitVec.ofNat 32 (128 * m))) S128x128.size (k0_off2_inb i ⟨m, hm⟩), addf (shapeCast S128x128 ld shapeCasts_S128x128_S128x128) (chunk D m)⟩

/-- A load of chunk `m`. -/
def accLoad (i : grid0.Coords) (arg : Memref sig .tc .vmem S4352x128 .f32) (f : arg.view.ty.Contents (Elt F)) (m : ℕ) (hm : m < 10) : Vec F S128x128 .f32 :=
  (arg.view.readAt (Elt F) (Rect.unit (s := S4352x128) (k0_off2 i (BitVec.ofNat 32 (128 * m))) S128x128.size (k0_off2_inb i ⟨m, hm⟩)).toLoadRect f :)

/-- The stores to the first `m` chunks, in a later tile: each load reads what the tile found. -/
def accListB (i : grid0.Coords) (arg : Memref sig .tc .vmem S4352x128 .f32) (f : arg.view.ty.Contents (Elt F)) (D : Fin 8 → FVec F S384x128 .f32) :
    (m : ℕ) → m ≤ 10 → List (View.Piece (Elt F) S4352x128 .f32)
  | 0, _ => []
  | m + 1, h => accPiece i D m h (accLoad i arg f m h) :: accListB i arg f D m (Nat.le_of_succ_le h)

/-- The stores to the first `m` chunks, in a first tile: over zeros, each load reading what is there by then. -/
def accListA (i : grid0.Coords) (arg : Memref sig .tc .vmem S4352x128 .f32) (D : Fin 8 → FVec F S384x128 .f32) :
    (m : ℕ) → m ≤ 10 → List (View.Piece (Elt F) S4352x128 .f32)
  | 0, _ => [⟨Rect.unit (s := S4352x128) ![0, 0] S4352x128.size inb_S4352x128_S4352x128_0_0, k0_pay2⟩]
  | m + 1, h => accPiece i D m h (accLoad i arg (arg.view.writes (Elt F) arg.view.junk (accListA i arg D m (Nat.le_of_succ_le h))) m h) :: accListA i arg D m (Nat.le_of_succ_le h)

/-- Head `h`'s part of a block's gradient of the sinks. -/
def sinkPart (h : ℕ) (hh : h < 4) (pe dl : FVec F S512x1 .f32) : FVec F S1x1 .f32 :=
  shapeCast S1x1 (multiReduction .add [0] S1 (mulf (subf (broadcast S128x1 (Scalar.ofBits .f32 0x00000000#32)) (extractStridedSlice S128x1 ![128 * h, 0] pe (slc_r h hh)))
    (extractStridedSlice S128x1 ![128 * h, 0] dl (slc_r h hh))) 0x00000000#32 reduces_S128x1_S1 (.inl rfl) rfl) shapeCasts_S1_S1x1

/-- A single zero. -/
def zer1 : FVec F S1x1 .f32 := broadcast S1x1 (Scalar.ofBits .f32 0x00000000#32)

/-- Head `h`'s gradient of the sinks over the tile's blocks. -/
def sinkSum (h : ℕ) (hh : h < 4) (pe dl : Fin 8 → FVec F S512x1 .f32) : FVec F S1x1 .f32 :=
  addf (addf (addf (addf (addf (addf (addf (addf zer1 (sinkPart h hh (pe 0) (dl 0))) (sinkPart h hh (pe 1) (dl 1))) (sinkPart h hh (pe 2) (dl 2))) (sinkPart h hh (pe 3) (dl 3))) (sinkPart h hh (pe 4) (dl 4))) (sinkPart h hh (pe 5) (dl 5))) (sinkPart h hh (pe 6) (dl 6))) (sinkPart h hh (pe 7) (dl 7))

/-- The store of head `h`'s row: what was loaded there, and the tile's sum along it. -/
def sinkPiece (pe dl : Fin 8 → FVec F S512x1 .f32) (h : ℕ) (hh : h < 4) (ld : Vec F S1x1x128 .f32) : View.Piece (Elt F) S1x4x128 .f32 :=
  ⟨Rect.unit (s := S1x4x128) ![0, h, 0] S1x1x128.size (inb_s h hh), shapeCast S1x1x128 (addf (shapeCast S1x128 ld shapeCasts_S1x1x128_S1x128)
    (broadcastTo S1x128 (shapeCast S1x1 (sinkSum h hh pe dl) shapeCasts_S1x1_S1x1) broadcasts_S1x1_S1x128)) shapeCasts_S1x128_S1x1x128⟩

/-- The stores to the first `h` rows, in a later tile, -/
def sinkListB (arg : Memref sig .tc .vmem S1x4x128 .f32) (f : arg.view.ty.Contents (Elt F)) (pe dl : Fin 8 → FVec F S512x1 .f32) :
    (h : ℕ) → h ≤ 4 → List (View.Piece (Elt F) S1x4x128 .f32)
  | 0, _ => []
  | h + 1, hh => sinkPiece pe dl h hh (arg.view.readAt (Elt F) (Rect.unit (s := S1x4x128) ![0, h, 0] S1x1x128.size (inb_s h hh)).toLoadRect f :) :: sinkListB arg f pe dl h (Nat.le_of_succ_le hh)

/-- and in a first one. -/
def sinkListA (arg : Memref sig .tc .vmem S1x4x128 .f32) (pe dl : Fin 8 → FVec F S512x1 .f32) :
    (h : ℕ) → h ≤ 4 → List (View.Piece (Elt F) S1x4x128 .f32)
  | 0, _ => [⟨Rect.unit (s := S1x4x128) ![0, 0, 0] S1x4x128.size inb_S1x4x128_S1x4x128_0_0_0, k0_pay4⟩]
  | h + 1, hh => sinkPiece pe dl h hh (arg.view.readCov (sinkListA arg pe dl h (Nat.le_of_succ_le hh)) (Rect.unit (s := S1x4x128) ![0, h, 0] S1x1x128.size (inb_s h hh)).toLoadRect :) :: sinkListA arg pe dl h (Nat.le_of_succ_le hh)

end Cert.AttnBwdIdeal.Attn

end
-- ==== Proof.AttnRead.lean ====
module

public import proofs.«01_k».proof.Proof.AttnTile
public import Idealize.ShloMosaic.Lib.WritesUnit
public import Idealize.ShloMosaic.Lib.Pipeline.ValueKit
public import Idealize.ShloMosaic.Lib.Pointwise

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen Cert.AttnBwdIdeal.Run

variable {F : FTy → Type} [FloatOps F] [Named F]

/-! ## The blocks as windows of what the buffers hold -/

theorem inb_w (I : Fin 4) (b : Fin 8) : ∀ a, (![1024 * I.val + 128 * b.val, 0] : Fin 2 → ℕ) a + S384x128.size a ≤ S4352x128.size a := by
  intro a; fin_cases a
  · show 1024 * I.val + 128 * b.val + 384 ≤ 4352; omega
  · show 0 + 128 ≤ 128; omega

/-- The rows of block `b`, its four heads below one another. -/
def stkP (x : Vec F S1024x512 .bf16) (b : Fin 8) : FVec F S512x128 .bf16 :=
  k0_pay7 (VecWindow.window (s := S1024x512) x ![128 * b.val, 128 * 0] S128x128.size (inb_q b 0 b.isLt (by decide))) (VecWindow.window (s := S1024x512) x ![128 * b.val, 128 * 1] S128x128.size (inb_q b 1 b.isLt (by decide))) (VecWindow.window (s := S1024x512) x ![128 * b.val, 128 * 2] S128x128.size (inb_q b 2 b.isLt (by decide))) (VecWindow.window (s := S1024x512) x ![128 * b.val, 128 * 3] S128x128.size (inb_q b 3 b.isLt (by decide)))
/-- The window of keys or of values of block `b` of tile `I`. -/
def winP (I : Fin 4) (x : Vec F S4352x128 .bf16) (b : Fin 8) : Vec F S384x128 .bf16 :=
  VecWindow.window (s := S4352x128) x ![1024 * I.val + 128 * b.val, 0] S384x128.size (inb_w I b)
/-- The sinks of a block's rows. -/
def snkP (x : Vec F S1x4x128 .f32) : FVec F S512x1 .f32 := k0_pay5 (VecWindow.window (s := S1x4x128) x ![0, 0, 0] S1x1x1.size inb_S1x4x128_S1x1x1_0_0_0) (VecWindow.window (s := S1x4x128) x ![0, 1, 0] S1x1x1.size inb_S1x4x128_S1x1x1_0_1_0) (VecWindow.window (s := S1x4x128) x ![0, 2, 0] S1x1x1.size inb_S1x4x128_S1x1x1_0_2_0) (VecWindow.window (s := S1x4x128) x ![0, 3, 0] S1x1x1.size inb_S1x4x128_S1x1x1_0_3_0)
/-- Block `b` of tile `I`. -/
def blkP (i : grid0.Coords) (x0 : Vec F S1024x512 .bf16) (x1 : Vec F S4352x128 .bf16) (x2 : Vec F S4352x128 .bf16) (x3 : Vec F S1x4x128 .f32) (x4 : Vec F S1024x512 .bf16) (b : Fin 8) : Blk F :=
  ⟨nw i b, snkP x3, stkP x0 b, winP (i 1) x1 b, winP (i 1) x2 b, stkP x4 b⟩

theorem stk_eq (arg : Memref sig .tc .vmem S1024x512 .bf16) (harg : arg.IsWhole) (x : Vec F S1024x512 .bf16) (b : Fin 8) : stk arg harg x b = stkP x b := by
  have e : ∀ (h : ℕ) (hh : h < 4), arg.view.readAt (Elt F) (Rect.unit (s := S1024x512) ![128 * b.val, 128 * h] S128x128.size (inb_q b h b.isLt hh)).toLoadRect (harg.unread x)
      = VecWindow.window (s := S1024x512) x ![128 * b.val, 128 * h] S128x128.size (inb_q b h b.isLt hh) := fun h hh =>
    (View.readAt_unit arg.view (harg.unread x) _ rfl _).trans (congrArg (fun f => VecWindow.window (s := S1024x512) f ![128 * b.val, 128 * h] S128x128.size (inb_q b h b.isLt hh)) (harg.read_unread x))
  unfold stk stkP
  rw [e 0 (by decide), e 1 (by decide), e 2 (by decide), e 3 (by decide)]

theorem snk_eq (arg : Memref sig .tc .vmem S1x4x128 .f32) (harg : arg.IsWhole) (x : Vec F S1x4x128 .f32) : snk arg harg x = snkP x := by
  have e : ∀ (off : Fin 3 → ℕ) (inb : ∀ a, off a + S1x1x1.size a ≤ S1x4x128.size a), arg.view.readAt (Elt F) (Rect.unit (s := S1x4x128) off S1x1x1.size inb).toLoadRect (harg.unread x)
      = VecWindow.window (s := S1x4x128) x off S1x1x1.size inb := fun off inb =>
    (View.readAt_unit arg.view (harg.unread x) _ rfl _).trans (congrArg (fun f => VecWindow.window (s := S1x4x128) f off S1x1x1.size inb) (harg.read_unread x))
  unfold snk snkP
  rw [e, e, e, e]

theorem win_eq (i : grid0.Coords) (arg : Memref sig .tc .vmem S4352x128 .bf16) (harg : arg.IsWhole) (x : Vec F S4352x128 .bf16) (b : Fin 8) : win i arg harg x b = winP (i 1) x b := by
  unfold win winP
  exact (View.readAt_unit arg.view (harg.unread x) _ (k0_off1_eq i b) (inb_w (i 1) b)).trans
    (congrArg (fun f => VecWindow.window (s := S4352x128) f ![1024 * (i 1).val + 128 * b.val, 0] S384x128.size (inb_w (i 1) b)) (harg.read_unread x))

theorem blkAt_eq (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (x0 : Vec F S1024x512 .bf16) (x1 : Vec F S4352x128 .bf16) (x2 : Vec F S4352x128 .bf16) (x3 : Vec F S1x4x128 .f32) (x4 : Vec F S1024x512 .bf16) :
    blkAt i arg2 harg2 arg3 harg3 arg4 harg4 arg5 harg5 arg6 harg6 x0 x1 x2 x3 x4 = blkP i x0 x1 x2 x3 x4 := by
  funext b
  unfold blkAt blkP
  rw [snk_eq, stk_eq, win_eq, win_eq, stk_eq]

/-! ## What the stores of the gradient of the queries leave -/

/-- The gradient of the queries over the tile. -/
def dqVal (d : Fin 8 → FVec F S512x128 .f32) : Vec F S1024x512 .f32 := fun y =>
  d ⟨(y 0).val / 128, by have h : (y 0).val < 1024 := (y 0).isLt; omega⟩
    (ix2 (⟨128 * ((y 1).val / 128) + (y 0).val % 128, by have h : (y 1).val < 512 := (y 1).isLt; omega⟩ : Fin 512) (⟨(y 1).val % 128, by omega⟩ : Fin 128))

theorem dq_mem (d : Fin 8 → FVec F S512x128 .f32) (p : View.Piece (Elt F) S1024x512 .f32) (hp : p ∈ dqList d) :
    ∃ (b : Fin 8) (h : ℕ) (hh : h < 4), p = dqPiece (d b) b h b.isLt hh := by
  unfold dqList at hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact ⟨7, 3, by decide, rfl⟩
  · exact ⟨7, 2, by decide, rfl⟩
  · exact ⟨7, 1, by decide, rfl⟩
  · exact ⟨7, 0, by decide, rfl⟩
  · exact ⟨6, 3, by decide, rfl⟩
  · exact ⟨6, 2, by decide, rfl⟩
  · exact ⟨6, 1, by decide, rfl⟩
  · exact ⟨6, 0, by decide, rfl⟩
  · exact ⟨5, 3, by decide, rfl⟩
  · exact ⟨5, 2, by decide, rfl⟩
  · exact ⟨5, 1, by decide, rfl⟩
  · exact ⟨5, 0, by decide, rfl⟩
  · exact ⟨4, 3, by decide, rfl⟩
  · exact ⟨4, 2, by decide, rfl⟩
  · exact ⟨4, 1, by decide, rfl⟩
  · exact ⟨4, 0, by decide, rfl⟩
  · exact ⟨3, 3, by decide, rfl⟩
  · exact ⟨3, 2, by decide, rfl⟩
  · exact ⟨3, 1, by decide, rfl⟩
  · exact ⟨3, 0, by decide, rfl⟩
  · exact ⟨2, 3, by decide, rfl⟩
  · exact ⟨2, 2, by decide, rfl⟩
  · exact ⟨2, 1, by decide, rfl⟩
  · exact ⟨2, 0, by decide, rfl⟩
  · exact ⟨1, 3, by decide, rfl⟩
  · exact ⟨1, 2, by decide, rfl⟩
  · exact ⟨1, 1, by decide, rfl⟩
  · exact ⟨1, 0, by decide, rfl⟩
  · exact ⟨0, 3, by decide, rfl⟩
  · exact ⟨0, 2, by decide, rfl⟩
  · exact ⟨0, 1, by decide, rfl⟩
  · exact ⟨0, 0, by decide, rfl⟩

theorem mem_dq (d : Fin 8 → FVec F S512x128 .f32) (b h : ℕ) (hb : b < 8) (hh : h < 4) : dqPiece (d ⟨b, hb⟩) b h hb hh ∈ dqList d := by
  unfold dqList
  simp only [List.mem_cons, List.not_mem_nil, or_false]
  interval_cases b <;> interval_cases h
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (rfl)))))))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inr (Or.inl rfl)))))))))))))))))))
  · exact Or.inr (Or.inr (Or.inr (Or.inr (Or.inr (Or.inr (Or.inr (Or.inr (Or.inr (Or.inr (Or.inr (Or.inr (Or.inr (Or.inr (Or.inr (Or.inr (Or.inr (Or.inr (Or.inl rfl))))))))))))))))))
  · exact Or.inr (Or.inr (Or.inr (Or.inr (Or.inr (Or.inr (Or.inr (Or.inr (Or.inr (Or.inr (Or.inr (Or.inr (Or.inr (Or.inr (Or.inr (Or.inr (Or.inr (Or.inl rfl)))))))))))))))))
  · exact Or.inr (Or.inr (Or.inr (Or.inr (Or.inr (Or.inr (Or.inr (Or.inr (Or.inr (Or.inr (Or.inr (Or.inr (Or.inr (Or.inr (Or.inr (Or.inr (Or.inl rfl))))))))))))))))
  · exact Or.inr (Or.inr (Or.inr (Or.inr (Or.inr (Or.inr (Or.inr (Or.inr (Or.inr (Or.inr (Or.inr (Or.inr (Or.inr (Or.inr (Or.inr (Or.inl rfl)))))))))))))))
  · exact Or.inr (Or.inr (Or.inr (Or.inr (Or.inr (Or.inr (Or.inr (Or.inr (Or.inr (Or.inr (Or.inr (Or.inr (Or.inr (Or.inr (Or.inl rfl))))))))))))))
  · exact Or.inr (Or.inr (Or.inr (Or.inr (Or.inr (Or.inr (Or.inr (Or.inr (Or.inr (Or.inr (Or.inr (Or.inr (Or.inr (Or.inl rfl)))))))))))))
  · exact Or.inr (Or.inr (Or.inr (Or.inr (Or.inr (Or.inr (Or.inr (Or.inr (Or.inr (Or.inr (Or.inr (Or.inr (Or.inl rfl))))))))))))
  · exact Or.inr (Or.inr (Or.inr (Or.inr (Or.inr (Or.inr (Or.inr (Or.inr (Or.inr (Or.inr (Or.inr (Or.inl rfl)))))))))))
  · exact Or.inr (Or.inr (Or.inr (Or.inr (Or.inr (Or.inr (Or.inr (Or.inr (Or.inr (Or.inr (Or.inl rfl))))))))))
  · exact Or.inr (Or.inr (Or.inr (Or.inr (Or.inr (Or.inr (Or.inr (Or.inr (Or.inr (Or.inl rfl)))))))))
  · exact Or.inr (Or.inr (Or.inr (Or.inr (Or.inr (Or.inr (Or.inr (Or.inr (Or.inl rfl))))))))
  · exact Or.inr (Or.inr (Or.inr (Or.inr (Or.inr (Or.inr (Or.inr (Or.inl rfl)))))))
  · exact Or.inr (Or.inr (Or.inr (Or.inr (Or.inr (Or.inr (Or.inl rfl))))))
  · exact Or.inr (Or.inr (Or.inr (Or.inr (Or.inr (Or.inl rfl)))))
  · exact Or.inr (Or.inr (Or.inr (Or.inr (Or.inl rfl))))
  · exact Or.inr (Or.inr (Or.inr (Or.inl rfl)))
  · exact Or.inr (Or.inr (Or.inl rfl))
  · exact Or.inr (Or.inl rfl)
  · exact Or.inl rfl

theorem read_dq (v : View sig .tc .vmem S1024x512 .f32) (f : v.ty.Contents (Elt F)) (d : Fin 8 → FVec F S512x128 .f32) :
    v.read (Elt F) (v.writes (Elt F) f (dqList d)) = dqVal d := by
  funext y
  refine View.read_writes_apply_of_pieces v f (dqVal d) _ ?_ y ?_
  · intro p hp x
    obtain ⟨b, h, hh, rfl⟩ := dq_mem d p hp
    have h0 : (x 0).val < 128 := (x 0).isLt
    have h1 : (x 1).val < 128 := (x 1).isLt
    have hb := b.isLt
    show d b _ = dqVal d ((Rect.unit (s := S1024x512) ![128 * b.val, 128 * h] S128x128.size (inb_q b h b.isLt hh)).emb x)
    have e0 : (((Rect.unit (s := S1024x512) ![128 * b.val, 128 * h] S128x128.size (inb_q b h b.isLt hh)).emb x) 0).val = 128 * b.val + 1 * (x 0).val := rfl
    have e1 : (((Rect.unit (s := S1024x512) ![128 * b.val, 128 * h] S128x128.size (inb_q b h b.isLt hh)).emb x) 1).val = 128 * h + 1 * (x 1).val := rfl
    unfold dqVal
    have eb : (⟨(((Rect.unit (s := S1024x512) ![128 * b.val, 128 * h] S128x128.size (inb_q b h b.isLt hh)).emb x) 0).val / 128, by rw [e0]; omega⟩ : Fin 8) = b := Fin.ext (by
      show (((Rect.unit (s := S1024x512) ![128 * b.val, 128 * h] S128x128.size (inb_q b h b.isLt hh)).emb x) 0).val / 128 = b.val
      rw [e0]; omega)
    rw [eb]
    refine congrArg (d b) (funext fun a => Fin.ext ?_)
    fin_cases a
    · show 128 * h + (x 0).val = 128 * ((((Rect.unit (s := S1024x512) ![128 * b.val, 128 * h] S128x128.size (inb_q b h b.isLt hh)).emb x) 1).val / 128) + (((Rect.unit (s := S1024x512) ![128 * b.val, 128 * h] S128x128.size (inb_q b h b.isLt hh)).emb x) 0).val % 128
      rw [e0, e1]; omega
    · show 0 + (x 1).val = (((Rect.unit (s := S1024x512) ![128 * b.val, 128 * h] S128x128.size (inb_q b h b.isLt hh)).emb x) 1).val % 128
      rw [e1]; omega
  · have h0 : (y 0).val < 1024 := (y 0).isLt
    have h1 : (y 1).val < 512 := (y 1).isLt
    refine ⟨_, mem_dq d ((y 0).val / 128) ((y 1).val / 128) (by omega) (by omega), ?_⟩
    show y ∈ (Rect.unit (s := S1024x512) ![128 * ((y 0).val / 128), 128 * ((y 1).val / 128)] S128x128.size (inb_q _ _ (by omega) (by omega))).set
    rw [Rect.mem_set_unit]
    intro a
    fin_cases a
    · show 128 * ((y 0).val / 128) ≤ (y 0).val ∧ (y 0).val < 128 * ((y 0).val / 128) + 128; omega
    · show 128 * ((y 1).val / 128) ≤ (y 1).val ∧ (y 1).val < 128 * ((y 1).val / 128) + 128; omega

/-! ## What the stores of the gradients of the keys and of the values leave -/

/-- What the blocks add to a row and column of the keys, from row `o` on. -/
def chunkAt (o : ℕ) (D : Fin 8 → FVec F S384x128 .f32) (x : S4352x128.Idx) : F .f32 :=
  chunk D (((x 0).val - o) / 128) (ix2 (⟨((x 0).val - o) % 128, Nat.mod_lt _ (by decide)⟩ : Fin 128) (x 1))

/-- The first `m` chunks from row `o` on added to what was there. -/
def accVal (o m : ℕ) (D : Fin 8 → FVec F S384x128 .f32) (y : Vec F S4352x128 .f32) : Vec F S4352x128 .f32 := fun x =>
  if o ≤ (x 0).val ∧ (x 0).val < o + 128 * m then FloatOps.addf (y x) (chunkAt o D x) else y x

theorem inb_c (I : Fin 4) (m : ℕ) (hm : m < 10) : ∀ a, (![1024 * I.val + 128 * m, 0] : Fin 2 → ℕ) a + S128x128.size a ≤ S4352x128.size a := by
  intro a; fin_cases a
  · show 1024 * I.val + 128 * m + 128 ≤ 4352; omega
  · show 0 + 128 ≤ 128; omega

/-- One store more. -/
theorem read_acc_step (i : grid0.Coords) (v : View sig .tc .vmem S4352x128 .f32) (f : v.ty.Contents (Elt F)) (D : Fin 8 → FVec F S384x128 .f32)
    (y : Vec F S4352x128 .f32) (m : ℕ) (hm : m < 10) (L : List (View.Piece (Elt F) S4352x128 .f32)) (ld : Vec F S128x128 .f32)
    (hL : v.read (Elt F) (v.writes (Elt F) f L) = accVal (1024 * (i 1).val) m D y)
    (hld : ld = VecWindow.window (s := S4352x128) y ![1024 * (i 1).val + 128 * m, 0] S128x128.size (inb_c (i 1) m hm)) :
    v.read (Elt F) (v.writes (Elt F) f (accPiece i D m hm ld :: L)) = accVal (1024 * (i 1).val) (m + 1) D y := by
  funext x
  have hi : (i 1).val < 4 := (i 1).isLt
  have hx0 : (x 0).val < 4352 := (x 0).isLt
  unfold accPiece
  by_cases h : 1024 * (i 1).val + 128 * m ≤ (x 0).val ∧ (x 0).val < 1024 * (i 1).val + 128 * m + 128
  · refine (View.read_writes_cons_unit_of_mem v f (k0_off2_inb i ⟨m, hm⟩) _ L x
      (ix2 (⟨(x 0).val - (1024 * (i 1).val + 128 * m), by omega⟩ : Fin 128) (x 1) : S128x128.Idx) (k0_off2_eq i ⟨m, hm⟩) ?_).trans ?_
    · intro a; fin_cases a
      · show (x 0).val = 1024 * (i 1).val + 128 * m + ((x 0).val - (1024 * (i 1).val + 128 * m)); omega
      · show (x 1).val = 0 + (x 1).val; omega
    · unfold accVal
      rw [if_pos (by omega)]
      rw [shapeCast_self]
      show FloatOps.addf (ld _) (chunk D m _) = _
      have e : ((x 0).val - 1024 * (i 1).val) / 128 = m := by omega
      have e2 : ((x 0).val - 1024 * (i 1).val) % 128 = (x 0).val - (1024 * (i 1).val + 128 * m) := by omega
      refine congrArg₂ FloatOps.addf ?_ ?_
      · subst hld
        refine congrArg y (funext fun a => Fin.ext ?_)
        fin_cases a
        · show 1024 * (i 1).val + 128 * m + 1 * ((x 0).val - (1024 * (i 1).val + 128 * m)) = (x 0).val; omega
        · show 0 + 1 * (x 1).val = (x 1).val; omega
      · unfold chunkAt
        rw [e]
        refine congrArg (chunk D m) (funext fun a => Fin.ext ?_)
        fin_cases a
        · exact e2.symm
        · rfl
  · rw [View.read_writes_cons_unit_of_not_mem v f (k0_off2_inb i ⟨m, hm⟩) _ L x (k0_off2_eq i ⟨m, hm⟩) (0 : Fin 2) (by
      show (x 0).val < 1024 * (i 1).val + 128 * m ∨ 1024 * (i 1).val + 128 * m + 128 ≤ (x 0).val; omega), hL]
    unfold accVal
    by_cases h' : 1024 * (i 1).val ≤ (x 0).val ∧ (x 0).val < 1024 * (i 1).val + 128 * m
    · rw [if_pos h', if_pos (by omega)]
    · rw [if_neg h', if_neg (by omega)]

theorem accVal_zero (o : ℕ) (D : Fin 8 → FVec F S384x128 .f32) (y : Vec F S4352x128 .f32) : accVal o 0 D y = y := by
  funext x; unfold accVal; rw [if_neg (by omega)]

theorem accLoad_eq (i : grid0.Coords) (arg : Memref sig .tc .vmem S4352x128 .f32) (f : arg.view.ty.Contents (Elt F)) (m : ℕ) (hm : m < 10) :
    accLoad i arg f m hm = VecWindow.window (s := S4352x128) (arg.view.read (Elt F) f) ![1024 * (i 1).val + 128 * m, 0] S128x128.size (inb_c (i 1) m hm) := by
  unfold accLoad
  exact View.readAt_unit arg.view f _ (k0_off2_eq i ⟨m, hm⟩) (inb_c (i 1) m hm)

theorem read_accB (i : grid0.Coords) (arg : Memref sig .tc .vmem S4352x128 .f32) (harg : arg.IsWhole) (y : Vec F S4352x128 .f32) (D : Fin 8 → FVec F S384x128 .f32) :
    ∀ (m : ℕ) (hm : m ≤ 10), arg.view.read (Elt F) (arg.view.writes (Elt F) (harg.unread y) (accListB i arg (harg.unread y) D m hm)) = accVal (1024 * (i 1).val) m D y
  | 0, _ => by rw [accVal_zero]; exact harg.read_unread y
  | m + 1, h => by
    refine read_acc_step i arg.view _ D y m h _ _ (read_accB i arg harg y D m (Nat.le_of_succ_le h)) ?_
    rw [accLoad_eq, harg.read_unread]

theorem read_accA (i : grid0.Coords) (arg : Memref sig .tc .vmem S4352x128 .f32) (D : Fin 8 → FVec F S384x128 .f32) :
    ∀ (m : ℕ) (hm : m ≤ 10) (f : arg.view.ty.Contents (Elt F)), arg.view.read (Elt F) (arg.view.writes (Elt F) f (accListA i arg D m hm)) = accVal (1024 * (i 1).val) m D k0_pay2
  | 0, _, f => by
    rw [accVal_zero]
    exact View.read_writes_full arg.view f _ _ _
  | m + 1, h, f => by
    refine read_acc_step i arg.view f D k0_pay2 m h _ _ (read_accA i arg D m (Nat.le_of_succ_le h) f) ?_
    rw [accLoad_eq, read_accA i arg D m (Nat.le_of_succ_le h)]
    funext x
    have h0 : (x 0).val < 128 := (x 0).isLt
    show accVal (1024 * (i 1).val) m D k0_pay2 ((Rect.unit (s := S4352x128) ![1024 * (i 1).val + 128 * m, 0] S128x128.size (inb_c (i 1) m h)).emb x) = k0_pay2 _
    have e0 : (((Rect.unit (s := S4352x128) ![1024 * (i 1).val + 128 * m, 0] S128x128.size (inb_c (i 1) m h)).emb x) 0).val = 1024 * (i 1).val + 128 * m + 1 * (x 0).val := rfl
    unfold accVal
    rw [if_neg (by rw [e0]; omega)]

/-! ## What the stores of the gradient of the sinks leave -/

/-- The first `k` rows of the tile's gradient of the sinks, each along its row, added to what was there. -/
def sinkVal (k : ℕ) (pe dl : Fin 8 → FVec F S512x1 .f32) (y : Vec F S1x4x128 .f32) : Vec F S1x4x128 .f32 := fun x =>
  if (x 1).val < k then FloatOps.addf (y x) (sinkSum (x 1).val (x 1).isLt pe dl (ix2 (0 : Fin 1) (0 : Fin 1))) else y x

theorem read_sink_step (v : View sig .tc .vmem S1x4x128 .f32) (f : v.ty.Contents (Elt F)) (pe dl : Fin 8 → FVec F S512x1 .f32)
    (y : Vec F S1x4x128 .f32) (h : ℕ) (hh : h < 4) (L : List (View.Piece (Elt F) S1x4x128 .f32)) (ld : Vec F S1x1x128 .f32)
    (hL : v.read (Elt F) (v.writes (Elt F) f L) = sinkVal h pe dl y)
    (hld : ld = VecWindow.window (s := S1x4x128) y ![0, h, 0] S1x1x128.size (inb_s h hh)) :
    v.read (Elt F) (v.writes (Elt F) f (sinkPiece pe dl h hh ld :: L)) = sinkVal (h + 1) pe dl y := by
  funext x
  have hx0 : (x 0).val < 1 := (x 0).isLt
  unfold sinkPiece
  by_cases hx : (x 1).val = h
  · refine (View.read_writes_cons_unit_of_mem v f (inb_s h hh) _ L x (ix3 (0 : Fin 1) (0 : Fin 1) (x 2) : S1x1x128.Idx) rfl ?_).trans ?_
    · intro a; fin_cases a
      · show (x 0).val = 0 + 0; omega
      · show (x 1).val = h + 0; omega
      · show (x 2).val = 0 + (x 2).val; omega
    · unfold sinkVal
      rw [if_pos (by omega)]
      subst hx
      subst hld
      pointwise
      refine congrArg₂ FloatOps.addf ?_ ?_
      · refine congrArg y (funext fun a => Fin.ext ?_)
        fin_cases a
        · show 0 + 1 * 0 = (x 0).val; omega
        · show (x 1).val + 1 * 0 = (x 1).val; omega
        · show 0 + 1 * (x 2).val = (x 2).val; omega
      · rfl
  · rw [View.read_writes_cons_unit_of_not_mem v f (inb_s h hh) _ L x rfl (1 : Fin 3) (by
      show (x 1).val < h ∨ h + 1 ≤ (x 1).val; omega), hL]
    unfold sinkVal
    by_cases h' : (x 1).val < h
    · rw [if_pos h', if_pos (by omega)]
    · rw [if_neg h', if_neg (by omega)]

theorem sinkVal_zero (pe dl : Fin 8 → FVec F S512x1 .f32) (y : Vec F S1x4x128 .f32) : sinkVal 0 pe dl y = y := by
  funext x; unfold sinkVal; rw [if_neg (by omega)]

theorem read_sinkB (arg : Memref sig .tc .vmem S1x4x128 .f32) (harg : arg.IsWhole) (y : Vec F S1x4x128 .f32) (pe dl : Fin 8 → FVec F S512x1 .f32) :
    ∀ (h : ℕ) (hh : h ≤ 4), arg.view.read (Elt F) (arg.view.writes (Elt F) (harg.unread y) (sinkListB arg (harg.unread y) pe dl h hh)) = sinkVal h pe dl y
  | 0, _ => by rw [sinkVal_zero]; exact harg.read_unread y
  | h + 1, hh => by
    refine read_sink_step arg.view _ pe dl y h hh _ _ (read_sinkB arg harg y pe dl h (Nat.le_of_succ_le hh)) ?_
    exact (View.readAt_unit arg.view (harg.unread y) _ rfl _).trans (congrArg (fun f => VecWindow.window (s := S1x4x128) f ![0, h, 0] S1x1x128.size (inb_s h hh)) (harg.read_unread y))

theorem read_sinkA (arg : Memref sig .tc .vmem S1x4x128 .f32) (pe dl : Fin 8 → FVec F S512x1 .f32) :
    ∀ (h : ℕ) (hh : h ≤ 4) (f : arg.view.ty.Contents (Elt F)), arg.view.read (Elt F) (arg.view.writes (Elt F) f (sinkListA arg pe dl h hh)) = sinkVal h pe dl k0_pay4
  | 0, _, f => by
    rw [sinkVal_zero]
    exact View.read_writes_full arg.view f _ _ _
  | h + 1, hh, f => by
    refine read_sink_step arg.view f pe dl k0_pay4 h hh _ _ (read_sinkA arg pe dl h (Nat.le_of_succ_le hh) f) ?_
    refine (View.readAt_unit arg.view (arg.view.writes (Elt F) arg.view.junk (sinkListA arg pe dl h (Nat.le_of_succ_le hh))) _ rfl (inb_s h hh)).trans ?_
    rw [read_sinkA arg pe dl h (Nat.le_of_succ_le hh)]
    funext x
    have h1 : (x 1).val < 1 := (x 1).isLt
    show sinkVal h pe dl k0_pay4 ((Rect.unit (s := S1x4x128) ![0, h, 0] S1x1x128.size (inb_s h hh)).emb x) = k0_pay4 _
    have e1 : (((Rect.unit (s := S1x4x128) ![0, h, 0] S1x1x128.size (inb_s h hh)).emb x) 1).val = h + 1 * (x 1).val := rfl
    unfold sinkVal
    rw [if_neg (by rw [e1]; omega)]

end Cert.AttnBwdIdeal.Attn

end
-- ==== Proof.Reals.lean ====
/- Extended reals that are real numbers: closure under the operations the two programs use, and the precondition read at an
   element. -/
module

public import Idealize.ShloMosaic.Lib.Pipeline.ValueKit
public import Idealize.ShloMosaic.Lib.Pointwise
public import Idealize.ShloMosaic.PureOps.Ideal

@[expose] public section

noncomputable section

namespace Cert.Reals

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} (hx : IsR x) (hy : IsR y) : IsR (x + y) := by
  obtain ⟨a, rfl⟩ := hx; obtain ⟨b, rfl⟩ := hy; exact ⟨a + b, by push_cast; rfl⟩
theorem IsR.mul {x y : EReal} (hx : IsR x) (hy : IsR y) : IsR (x * y) := by
  obtain ⟨a, rfl⟩ := hx; obtain ⟨b, rfl⟩ := hy; exact ⟨a * b, by push_cast; rfl⟩
theorem IsR.neg {x : EReal} (hx : IsR x) : IsR (-x) := by
  obtain ⟨a, rfl⟩ := hx; exact ⟨-a, by push_cast; rfl⟩
theorem IsR.sub {x y : EReal} (hx : IsR x) (hy : IsR y) : IsR (x - y) := by
  obtain ⟨a, rfl⟩ := hx; obtain ⟨b, rfl⟩ := hy; exact ⟨a - b, by push_cast; rfl⟩
theorem IsR.exp {x : EReal} (hx : IsR x) : IsR (Ideal.exp x) := by
  obtain ⟨a, rfl⟩ := hx; exact ⟨Real.exp a, rfl⟩

/-- The sum of reals, as a real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, ← ih]; push_cast; rfl

theorem IsR.sum {ι : Type*} (s : Finset ι) {f : ι → EReal} (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A quotient by a real other than zero, as a real. -/
theorem div_coe_coe (a : ℝ) {b : ℝ} (hb : b ≠ 0) : Ideal.div (a : EReal) (b : EReal) = ((a / b : ℝ) : EReal) := by
  rw [Ideal.div_coe hb, ← EReal.coe_mul]; congr 1; ring

/-- A bit conjunction over all indices that is one is one at each index. -/
theorem of_fold_andi {ι : Type*} [Fintype ι] (f : ι → BitVec 1) (h : Finset.fold IntOp.andi (1#1) f Finset.univ = 1#1) (k : ι) :
    f k = 1#1 := by
  classical
  have key : ∀ s : Finset ι, Finset.fold IntOp.andi (1#1) f s = 1#1 → ∀ k ∈ s, f k = 1#1 := by
    intro s
    induction s using Finset.induction_on with
    | empty => simp
    | insert a s ha ih =>
      intro h
      rw [Finset.fold_insert ha] at h
      have h2 : ∀ x y : BitVec 1, IntOp.andi x y = 1#1 → x = 1#1 ∧ y = 1#1 := by decide
      obtain ⟨h3, h4⟩ := h2 _ _ h
      intro k hk
      rcases Finset.mem_insert.mp hk with rfl | hk
      · exact h3
      · exact ih h4 k hk
  exact key _ h k (Finset.mem_univ k)

theorem andi_eq_one {x y : BitVec 1} (h : IntOp.andi x y = 1#1) : x = 1#1 ∧ y = 1#1 := by
  revert h; revert x y; decide

/-- The precondition's test at an element: a magnitude below infinity is that of a real number. -/
theorem isR_of_abs_lt {φ : FTy} (x : EReal)
    (h : BitVec.ofBool (decide (FloatOps.absf (F := Ideal) (φ := φ) x < Ideal.ofBits FTy.f32 2139095040#32)) = 1#1) : IsR x := by
  have e : Ideal.ofBits FTy.f32 2139095040#32 = ⊤ := by simp [Ideal.ofBits, Ideal.ieee]
  rw [e, Ideal.absf_def] at h
  have h' : max x (-x) < ⊤ := by
    by_contra hc
    rw [decide_eq_false hc] at h
    exact absurd h (by decide)
  induction x using EReal.rec with
  | bot => simp at h'
  | coe r => exact ⟨r, rfl⟩
  | top => simp at h'

end Cert.Reals

end
-- ==== Proof.AttnMath.lean ====
/- The gradient of the windowed attention over the reals: one block of 128 queries of one group of four heads, its window of
   384 keys, and the sums the programs form of it. Exponentials here are not shifted; the programs shift each row by its
   largest score, which changes no quotient. -/
module

public import proofs.«01_k».proof.Proof.Reals
public import Idealize.ShloMosaic.Lib.Pipeline.ValueKit
public import Idealize.ShloMosaic.Lib.Pointwise

@[expose] public section

set_option maxRecDepth 16384

noncomputable section

namespace Cert.AttnMath

open Idealize.ShloMosaic Idealize.ShloMosaic.TcCoe Idealize.SL.Sem
open Idealize.ShloMosaic.Pipeline (Dat)
open Cert.Reals

/-- The scale of the scores: the program's constant, as a real. -/
def σ : ℝ := (Ideal.ofBits .f32 1035273459#32).toReal

theorem scale_eq : Ideal.ofBits .f32 1035273459#32 = (σ : EReal) := by
  unfold σ
  rw [EReal.coe_toReal]
  · simp [Ideal.ofBits, Ideal.ieee]
    rw [← EReal.coe_mul]; exact EReal.coe_ne_top _
  · simp [Ideal.ofBits, Ideal.ieee]
    rw [← EReal.coe_mul]; exact EReal.coe_ne_bot _

theorem negInf_eq : Ideal.ofBits .f32 4286578688#32 = (⊥ : EReal) := by simp [Ideal.ofBits, Ideal.ieee]

/-- One block over the reals: queries and gradient by row (four heads of 128 rows), keys and values by window position, the
    sink of each row, and which window positions a row attends to. -/
structure RBlk where
  Q : Fin 512 → Fin 128 → ℝ
  G : Fin 512 → Fin 128 → ℝ
  K : Fin 384 → Fin 128 → ℝ
  V : Fin 384 → Fin 128 → ℝ
  s : Fin 512 → ℝ
  ok : Fin 512 → Fin 384 → Bool

namespace RBlk
variable (b : RBlk)
/-- The scaled scores, -/
def sc (R : Fin 512) (c : Fin 384) : ℝ := (∑ d, b.Q R d * b.K c d) * σ
/-- their exponentials inside the window, -/
def w (R : Fin 512) (c : Fin 384) : ℝ := if b.ok R c = true then Real.exp (b.sc R c) else 0
/-- the sum of a row's exponentials and its sink's, -/
def Z (R : Fin 512) : ℝ := ∑ c, b.w R c + Real.exp (b.s R)
/-- the probabilities, -/
def p (R : Fin 512) (c : Fin 384) : ℝ := b.w R c / b.Z R
/-- the sink's, -/
def pe (R : Fin 512) : ℝ := Real.exp (b.s R) / b.Z R
/-- the gradient of the probabilities, -/
def dp (R : Fin 512) (c : Fin 384) : ℝ := ∑ d, b.G R d * b.V c d
/-- its mean, -/
def dl (R : Fin 512) : ℝ := ∑ c, b.p R c * b.dp R c
/-- the gradient of the scores before scaling, -/
def ds (R : Fin 512) (c : Fin 384) : ℝ := b.p R c * (b.dp R c - b.dl R) * σ
/-- and the gradients of the queries, -/
def dq (R : Fin 512) (d : Fin 128) : ℝ := ∑ c, b.ds R c * b.K c d
/-- of the keys, -/
def dk (c : Fin 384) (d : Fin 128) : ℝ := ∑ R, b.ds R c * b.Q R d
/-- of the values, -/
def dv (c : Fin 384) (d : Fin 128) : ℝ := ∑ R, b.p R c * b.G R d
/-- and of a row's sink. -/
def de (R : Fin 512) : ℝ := -(b.pe R * b.dl R)

theorem w_nonneg (R : Fin 512) (c : Fin 384) : 0 ≤ b.w R c := by
  unfold w; split
  · exact (Real.exp_pos _).le
  · exact le_rfl

theorem Z_pos (R : Fin 512) : 0 < b.Z R :=
  add_pos_of_nonneg_of_pos (Finset.sum_nonneg fun c _ => b.w_nonneg R c) (Real.exp_pos _)

end RBlk

/-- A quotient of two products with the same factor. -/
theorem shift_div (a b : ℝ) {e : ℝ} (he : e ≠ 0) : a * e / (b * e) = a / b := by
  rw [mul_div_mul_right _ _ he]

/-- The largest of a row of scores none of which is infinite above, and of a real, is a real. -/
theorem isR_max_fold {ι : Type*} [Fintype ι] (f : ι → EReal) (hf : ∀ i, f i < ⊤) (s : ℝ) :
    IsR (max (Finset.fold max (⊥ : EReal) f Finset.univ) (s : EReal)) := by
  have h1 : max (Finset.fold max (⊥ : EReal) f Finset.univ) (s : EReal) < ⊤ :=
    max_lt ((Finset.fold_max_lt ⊤).mpr ⟨bot_lt_top, fun x _ => hf x⟩) (EReal.coe_lt_top s)
  have h2 : ⊥ < max (Finset.fold max (⊥ : EReal) f Finset.univ) (s : EReal) :=
    lt_of_lt_of_le (EReal.bot_lt_coe s) (le_max_right _ _)
  exact ⟨_, (EReal.coe_toReal h1.ne h2.ne').symm⟩

/-- The same where a row holds the real itself. -/
theorem isR_fold_max {ι : Type*} [Fintype ι] (f : ι → EReal) (hf : ∀ i, f i < ⊤) (k : ι) (s : ℝ) (hk : f k = (s : EReal)) :
    IsR (Finset.fold max (⊥ : EReal) f Finset.univ) := by
  have h1 : Finset.fold max (⊥ : EReal) f Finset.univ < ⊤ := (Finset.fold_max_lt ⊤).mpr ⟨bot_lt_top, fun x _ => hf x⟩
  have h2 : ⊥ < Finset.fold max (⊥ : EReal) f Finset.univ :=
    (Finset.lt_fold_max ⊥).mpr (.inr ⟨k, Finset.mem_univ k, hk ▸ EReal.bot_lt_coe s⟩)
  exact ⟨_, (EReal.coe_toReal h1.ne h2.ne').symm⟩

/-- A masked score's shifted exponential. -/
theorem exp_masked (o : Bool) (x m : ℝ) :
    Ideal.exp ((if o = true then (x : EReal) else ⊥) - (m : EReal)) = (((if o = true then Real.exp x else 0) * Real.exp (-m) : ℝ) : EReal) := by
  cases o
  · have e : (⊥ : EReal) - (m : EReal) = ⊥ := by simp
    simp only [Bool.false_eq_true, if_false, zero_mul]
    rw [e]; rfl
  · simp only [if_true]
    rw [← EReal.coe_sub, ← Real.exp_add, ← sub_eq_add_neg]; rfl

theorem exp_real (x m : ℝ) : Ideal.exp ((x : EReal) - (m : EReal)) = ((Real.exp x * Real.exp (-m) : ℝ) : EReal) := by
  rw [← EReal.coe_sub, ← Real.exp_add, ← sub_eq_add_neg]; rfl

/-! ## The arguments over the reals, and their blocks -/

/-- The arguments: queries, keys, values, sinks, and the gradient of the mixed heads. -/
structure Args where
  q : Fin 4096 → Fin 1024 → ℝ
  k : Fin 4096 → Fin 256 → ℝ
  v : Fin 4096 → Fin 256 → ℝ
  s : Fin 8 → ℝ
  g : Fin 4096 → Fin 2048 → ℝ

/-- Keys or values with 128 rows of zeros before and after. -/
def padded (x : Fin 4096 → Fin 256 → ℝ) (y : ℕ) (j : Fin 256) : ℝ := if h : 128 ≤ y ∧ y < 4224 then x ⟨y - 128, by omega⟩ j else 0

/-- Row `r` of head `h` in a block. -/
def row (h : Fin 4) (r : Fin 128) : Fin 512 := ⟨128 * h.val + r.val, by omega⟩

/-- Block `N` of group `γ`. -/
def Args.blk (A : Args) (γ : Fin 2) (N : Fin 32) : RBlk where
  Q R d := A.q ⟨128 * N.val + R.val % 128, by omega⟩ ⟨512 * γ.val + (128 * (R.val / 128) + d.val), by omega⟩
  G R d := A.g ⟨128 * N.val + R.val % 128, by omega⟩ ⟨512 * γ.val + (128 * (R.val / 128) + d.val), by omega⟩
  K c d := padded A.k (128 * N.val + c.val) ⟨128 * γ.val + d.val, by omega⟩
  V c d := padded A.v (128 * N.val + c.val) ⟨128 * γ.val + d.val, by omega⟩
  s R := A.s ⟨4 * γ.val + R.val / 128, by omega⟩
  ok R c := decide (R.val % 128 ≤ c.val ∧ c.val ≤ 256 + R.val % 128 ∧ 128 ≤ 128 * N.val + c.val ∧ 128 * N.val + c.val < 4224)

/-- What the gradients of the blocks' keys (or values) add to a padded row: the three windows it lies in, one position each. -/
def spread (D : Fin 2 → Fin 32 → Fin 384 → Fin 128 → ℝ) (y : Fin 4352) (j : Fin 256) : ℝ :=
  ∑ e : Fin 3, if h : e.val ≤ y.val / 128 ∧ y.val / 128 - e.val < 32 then
    D ⟨j.val / 128, by omega⟩ ⟨y.val / 128 - e.val, h.2⟩ ⟨128 * e.val + y.val % 128, by omega⟩ ⟨j.val % 128, by omega⟩ else 0

/-- The four results. -/
def Args.dq (A : Args) (i : Fin 4096) (j : Fin 1024) : ℝ :=
  (A.blk ⟨j.val / 512, by omega⟩ ⟨i.val / 128, by omega⟩).dq ⟨128 * (j.val % 512 / 128) + i.val % 128, by omega⟩ ⟨j.val % 128, by omega⟩
def Args.dk (A : Args) : Fin 4352 → Fin 256 → ℝ := spread fun γ N => (A.blk γ N).dk
def Args.dv (A : Args) : Fin 4352 → Fin 256 → ℝ := spread fun γ N => (A.blk γ N).dv
def Args.dsink (A : Args) (γ : Fin 2) (h : Fin 4) : ℝ := ∑ N : Fin 32, ∑ r : Fin 128, (A.blk γ N).de (row h r)

/-- A sum over a block's rows, head by head. -/
theorem sum_rows (f : Fin 512 → ℝ) : ∑ R, f R = ∑ h : Fin 4, ∑ r : Fin 128, f (row h r) := by
  rw [← Fintype.sum_prod_type']
  refine (Fintype.sum_equiv ⟨fun x : Fin 4 × Fin 128 => row x.1 x.2, fun R => (⟨R.val / 128, by omega⟩, ⟨R.val % 128, by omega⟩), ?_, ?_⟩ _ _ fun x => rfl).symm
  · rintro ⟨h, r⟩
    refine Prod.ext (Fin.ext ?_) (Fin.ext ?_)
    · show (128 * h.val + r.val) / 128 = h.val; omega
    · show (128 * h.val + r.val) % 128 = r.val; omega
  · intro R
    refine Fin.ext ?_
    show 128 * (R.val / 128) + R.val % 128 = R.val; omega

end Cert.AttnMath

end
-- ==== Proof.AttnBlk.lean ====
/- One block of the kernel over the reals: from blocks holding reals the kernel's values are those of the real block. -/
module

public import proofs.«01_k».proof.Proof.AttnMath
public import proofs.«01_k».proof.Proof.AttnRead
public import Idealize.ShloMosaic.Lib.Pipeline.ValueKit
public import Idealize.ShloMosaic.Lib.Pointwise

@[expose] public section

set_option maxRecDepth 16384

noncomputable section

namespace Cert.AttnBwdIdeal.Attn

open Idealize.ShloMosaic Idealize.ShloMosaic.TcCoe Idealize.SL.Sem
open Idealize.ShloMosaic.Pipeline (Dat)
open Cert.AttnBwdIdeal Cert.AttnBwdIdeal.Gen Cert.Reals Cert.AttnMath

/-- The kernel's block `B` is the `N`-th, and holds the real block `b`. -/
structure Rep (B : Blk Ideal) (b : RBlk) (N : Fin 32) : Prop where
  n : B.n = BitVec.ofNat 32 N.val
  sk : ∀ R, B.sk (ix2 R 0) = (b.s R : EReal)
  q : ∀ R d, B.q (ix2 R d) = (b.Q R d : EReal)
  k : ∀ c d, B.k (ix2 c d) = (b.K c d : EReal)
  v : ∀ c d, B.v (ix2 c d) = (b.V c d : EReal)
  g : ∀ R d, B.g (ix2 R d) = (b.G R d : EReal)
  ok : ∀ R c, b.ok R c = decide (R.val % 128 ≤ c.val ∧ c.val ≤ 256 + R.val % 128 ∧ 128 ≤ 128 * N.val + c.val ∧ 128 * N.val + c.val < 4224)

/-! ## The masks -/

theorem band_word : ∀ (r : Fin 128) (c : Fin 384), IntOp.cmpi .sle (IntOp.absi (IntOp.subi (IntOp.subi (BitVec.ofNat 32 c.val) 128#32) (BitVec.ofNat 32 r.val))) 128#32
    = BitVec.ofBool (decide (r.val ≤ c.val ∧ c.val ≤ 256 + r.val)) := by decide +kernel

theorem edge_word : ∀ (N : Fin 32) (c : Fin 384), IntOp.andi (IntOp.cmpi .sge (IntOp.addi (Scalar.muli (Scalar.subi (BitVec.ofNat 32 N.val) 1#32) 128#32) (BitVec.ofNat 32 c.val)) 0#32)
      (IntOp.cmpi .slt (IntOp.addi (Scalar.muli (Scalar.subi (BitVec.ofNat 32 N.val) 1#32) 128#32) (BitVec.ofNat 32 c.val)) 4096#32)
    = BitVec.ofBool (decide (128 ≤ 128 * N.val + c.val ∧ 128 * N.val + c.val < 4224)) := by decide +kernel

theorem mod_word : ∀ (R : Fin 512), IntOp.andi (BitVec.ofNat 32 R.val) 127#32 = BitVec.ofNat 32 (R.val % 128) := by decide +kernel

theorem band_at (R : Fin 512) (c : Fin 384) : (k0_pay6 (F := Ideal)) (ix2 R c) = if (R.val % 128 ≤ c.val ∧ c.val ≤ 256 + R.val % 128) then (0 : EReal) else ⊥ := by
  have e : (k0_pay6 (F := Ideal)) (ix2 R c) = Scalar.select (IntOp.cmpi .sle (IntOp.absi (IntOp.subi (IntOp.subi (BitVec.ofNat 32 c.val) 128#32) (IntOp.andi (BitVec.ofNat 32 R.val) 127#32))) 128#32) (0 : EReal) (Named.named (F := Ideal) κ "mask" (φ := .f32) 4048155338#32) := by
    unfold k0_pay6; pointwise
  rw [e, mod_word, band_word ⟨R.val % 128, by omega⟩ c]
  dsimp only
  by_cases h : (R.val % 128 ≤ c.val ∧ c.val ≤ 256 + R.val % 128)
  · rw [if_pos h, decide_eq_true h]; rfl
  · rw [if_neg h, decide_eq_false h]; rfl

theorem masked_at {B : Blk Ideal} {b : RBlk} {N : Fin 32} (h : Rep B b N) (x : FVec Ideal S512x384 .f32) (R : Fin 512) (c : Fin 384) (r : ℝ) (hx : x (ix2 R c) = (r : EReal)) :
    k0_pay41 B.n k0_pay6 x (ix2 R c) = if b.ok R c = true then (r : EReal) else ⊥ := by
  have e : ∀ (n : BitVec 32) (a y : FVec Ideal S512x384 .f32), k0_pay41 n a y (ix2 R c) = y (ix2 R c) + (a (ix2 R c) + Scalar.select (IntOp.andi (IntOp.cmpi .sge (IntOp.addi (Scalar.muli (Scalar.subi n 1#32) 128#32) (BitVec.ofNat 32 c.val)) 0#32)
      (IntOp.cmpi .slt (IntOp.addi (Scalar.muli (Scalar.subi n 1#32) 128#32) (BitVec.ofNat 32 c.val)) 4096#32)) (0 : EReal) (Named.named (F := Ideal) κ "mask" (φ := .f32) 4048155338#32)) := fun n a y => by
    unfold k0_pay41; pointwise
  rw [e, h.n, edge_word N c, band_at, hx, h.ok]
  have e2 : Named.named (F := Ideal) κ "mask" (φ := .f32) 4048155338#32 = (⊥ : EReal) := rfl
  rw [e2]
  by_cases h1 : (R.val % 128 ≤ c.val ∧ c.val ≤ 256 + R.val % 128) <;> by_cases h2 : (128 ≤ 128 * N.val + c.val ∧ 128 * N.val + c.val < 4224)
  · rw [if_pos h1, decide_eq_true h2, if_pos (decide_eq_true ⟨h1.1, h1.2, h2.1, h2.2⟩)]
    show (r : EReal) + (0 + 0) = r
    simp
  · rw [if_pos h1, decide_eq_false h2, if_neg (by simp only [decide_eq_true_eq]; tauto)]
    show (r : EReal) + (0 + ⊥) = ⊥
    simp
  · rw [if_neg h1, if_neg (by simp only [decide_eq_true_eq]; tauto)]
    simp
  · rw [if_neg h1, if_neg (by simp only [decide_eq_true_eq]; tauto)]
    simp

/-! ## The block's values -/

variable {B : Blk Ideal} {b : RBlk} {N : Fin 32} (h : Rep B b N)
include h

theorem sc_at (R : Fin 512) (c : Fin 384) : B.sc (ix2 R c) = (b.sc R c : EReal) := by
  have e : ∀ (x : FVec Ideal S512x128 .bf16) (y : FVec Ideal S384x128 .bf16), k0_pay23 x y (ix2 R c) = ((∑ d : Fin 128, x (ix2 R d) * y (ix2 c d)) * Ideal.ofBits .f32 1035273459#32 : EReal) := fun x y => by
    unfold k0_pay23; pointwise
  unfold Blk.sc RBlk.sc
  rw [e, scale_eq, EReal.coe_mul, coe_sum]
  congr 1
  exact Finset.sum_congr rfl fun d _ => by rw [h.q, h.k, EReal.coe_mul]

theorem dp_at (R : Fin 512) (c : Fin 384) : B.dp (ix2 R c) = (b.dp R c : EReal) := by
  have e : ∀ (x : FVec Ideal S512x128 .bf16) (y : FVec Ideal S384x128 .bf16), k0_pay32 x y (ix2 R c) = (∑ d : Fin 128, x (ix2 R d) * y (ix2 c d) : EReal) := fun x y => by
    unfold k0_pay32; pointwise
  unfold Blk.dp RBlk.dp
  rw [e, coe_sum]
  exact Finset.sum_congr rfl fun d _ => by rw [h.g, h.v, EReal.coe_mul]

/-- Each row's shift is a real. -/
theorem max_at (R : Fin 512) : ∃ M : ℝ, k0_pay42 B.n B.sk k0_pay6 B.sc (ix2 R 0) = (M : EReal) := by
  have e : ∀ (n : BitVec 32) (s : FVec Ideal S512x1 .f32) (a y : FVec Ideal S512x384 .f32), k0_pay42 n s a y (ix2 R 0)
      = max (Finset.fold max (Ideal.ofBits .f32 4286578688#32) (fun x : Fin 384 => k0_pay41 n a y (ix2 R x)) Finset.univ) (s (ix2 R 0)) := fun n s a y => by
    unfold k0_pay42; pointwise
  rw [e, negInf_eq, h.sk]
  exact isR_max_fold _ (fun c => by
    rw [masked_at h _ R c _ (sc_at h R c)]
    split
    · exact EReal.coe_lt_top _
    · exact bot_lt_top) _

theorem exps_at (R : Fin 512) : ∃ e : ℝ, 0 < e ∧ (∀ c, k0_pay43 B.n B.sk k0_pay6 B.sc (ix2 R c) = ((b.w R c * e : ℝ) : EReal))
    ∧ k0_pay44 B.n B.sk k0_pay6 B.sc (ix2 R 0) = ((Real.exp (b.s R) * e : ℝ) : EReal)
    ∧ k0_pay45 B.n B.sk k0_pay6 B.sc (ix2 R 0) = ((1 / (b.Z R * e) : ℝ) : EReal) := by
  obtain ⟨M, hM⟩ := max_at h R
  have e43 : ∀ (n : BitVec 32) (s : FVec Ideal S512x1 .f32) (a y : FVec Ideal S512x384 .f32) (c : Fin 384), k0_pay43 n s a y (ix2 R c)
      = Ideal.exp (k0_pay41 n a y (ix2 R c) - k0_pay42 n s a y (ix2 R 0)) := fun n s a y c => by
    unfold k0_pay43; pointwise
  have e44 : ∀ (n : BitVec 32) (s : FVec Ideal S512x1 .f32) (a y : FVec Ideal S512x384 .f32), k0_pay44 n s a y (ix2 R 0)
      = Ideal.exp (s (ix2 R 0) - k0_pay42 n s a y (ix2 R 0)) := fun n s a y => by
    unfold k0_pay44; pointwise
  have e45 : ∀ (n : BitVec 32) (s : FVec Ideal S512x1 .f32) (a y : FVec Ideal S512x384 .f32), k0_pay45 n s a y (ix2 R 0)
      = Ideal.div 1 ((∑ x : Fin 384, k0_pay43 n s a y (ix2 R x)) + k0_pay44 n s a y (ix2 R 0)) := fun n s a y => by
    unfold k0_pay45; pointwise
  have he : (0 : ℝ) < Real.exp (-M) := Real.exp_pos _
  have h43 : ∀ c, k0_pay43 B.n B.sk k0_pay6 B.sc (ix2 R c) = ((b.w R c * Real.exp (-M) : ℝ) : EReal) := fun c => by
    rw [e43, hM, masked_at h _ R c _ (sc_at h R c), exp_masked]; rfl
  have h44 : k0_pay44 B.n B.sk k0_pay6 B.sc (ix2 R 0) = ((Real.exp (b.s R) * Real.exp (-M) : ℝ) : EReal) := by
    rw [e44, hM, h.sk, exp_real]
  refine ⟨Real.exp (-M), he, h43, h44, ?_⟩
  rw [e45, h44, Finset.sum_congr rfl fun c _ => h43 c, ← coe_sum, ← EReal.coe_add, ← EReal.coe_one,
    ← Finset.sum_mul, ← add_mul]
  exact div_coe_coe 1 (mul_ne_zero (b.Z_pos R).ne' he.ne')

theorem p_at (R : Fin 512) (c : Fin 384) : B.p (ix2 R c) = (b.p R c : EReal) := by
  have e : ∀ (n : BitVec 32) (s : FVec Ideal S512x1 .f32) (a y : FVec Ideal S512x384 .f32), k0_pay46 n s a y (ix2 R c)
      = (k0_pay43 n s a y (ix2 R c) * k0_pay45 n s a y (ix2 R 0) : EReal) := fun n s a y => by
    unfold k0_pay46; pointwise
  obtain ⟨x, hx, h43, h44, h45⟩ := exps_at h R
  unfold Blk.p RBlk.p
  rw [e, h43, h45, ← EReal.coe_mul]
  congr 1
  rw [mul_one_div, shift_div _ _ hx.ne']

theorem pe_at (R : Fin 512) : B.pe (ix2 R 0) = (b.pe R : EReal) := by
  have e : ∀ (n : BitVec 32) (s : FVec Ideal S512x1 .f32) (a y : FVec Ideal S512x384 .f32), k0_pay47 n s a y (ix2 R 0)
      = (k0_pay44 n s a y (ix2 R 0) * k0_pay45 n s a y (ix2 R 0) : EReal) := fun n s a y => by
    unfold k0_pay47; pointwise
  obtain ⟨x, hx, h43, h44, h45⟩ := exps_at h R
  unfold Blk.pe RBlk.pe
  rw [e, h44, h45, ← EReal.coe_mul]
  congr 1
  rw [mul_one_div, shift_div _ _ hx.ne']

theorem dl_at (R : Fin 512) : B.dl (ix2 R 0) = (b.dl R : EReal) := by
  have e : ∀ (x y : FVec Ideal S512x384 .f32), k0_pay100 x y (ix2 R 0) = (∑ c : Fin 384, y (ix2 R c) * x (ix2 R c) : EReal) := fun x y => by
    unfold k0_pay100; pointwise
  unfold Blk.dl RBlk.dl
  rw [e, coe_sum]
  exact Finset.sum_congr rfl fun c _ => by rw [p_at h, dp_at h, EReal.coe_mul]

theorem ds_at (R : Fin 512) (c : Fin 384) : B.ds (ix2 R c) = (b.ds R c : EReal) := by
  have e : ∀ (x y : FVec Ideal S512x384 .f32) (s : FVec Ideal S512x1 .f32), k0_pay109 x y s (ix2 R c)
      = (y (ix2 R c) * (x (ix2 R c) - s (ix2 R 0)) * Ideal.ofBits .f32 1035273459#32 : EReal) := fun x y s => by
    unfold k0_pay109; pointwise
  unfold Blk.ds RBlk.ds
  rw [e, p_at h, dp_at h, dl_at h, scale_eq, EReal.coe_mul, EReal.coe_mul, EReal.coe_sub]

theorem dq_at (R : Fin 512) (d : Fin 128) : B.dq (ix2 R d) = (b.dq R d : EReal) := by
  have e : ∀ (x : FVec Ideal S512x384 .bf16) (y : FVec Ideal S384x128 .bf16), k0_pay118 x y (ix2 R d) = (∑ c : Fin 384, x (ix2 R c) * y (ix2 c d) : EReal) := fun x y => by
    unfold k0_pay118; pointwise
  unfold Blk.dq RBlk.dq
  rw [e, coe_sum]
  exact Finset.sum_congr rfl fun c _ => by rw [ds_at h, h.k, EReal.coe_mul]

theorem dk_at (c : Fin 384) (d : Fin 128) : B.dk (ix2 c d) = (b.dk c d : EReal) := by
  have e : ∀ (x : FVec Ideal S512x128 .bf16) (y : FVec Ideal S512x384 .bf16), k0_pay126 x y (ix2 c d) = (∑ R : Fin 512, y (ix2 R c) * x (ix2 R d) : EReal) := fun x y => by
    unfold k0_pay126; pointwise
  unfold Blk.dk RBlk.dk
  rw [e, coe_sum]
  exact Finset.sum_congr rfl fun R _ => by rw [ds_at h, h.q, EReal.coe_mul]

theorem dv_at (c : Fin 384) (d : Fin 128) : B.dv (ix2 c d) = (b.dv c d : EReal) := by
  have e : ∀ (x : FVec Ideal S512x128 .bf16) (y : FVec Ideal S512x384 .f32), k0_pay134 x y (ix2 c d) = (∑ R : Fin 512, y (ix2 R c) * x (ix2 R d) : EReal) := fun x y => by
    unfold k0_pay134; pointwise
  unfold Blk.dv RBlk.dv
  rw [e, coe_sum]
  exact Finset.sum_congr rfl fun R _ => by rw [p_at h, h.g, EReal.coe_mul]

end Cert.AttnBwdIdeal.Attn

end
-- ==== Proof.AttnSum.lean ====
module

public import proofs.«01_k».proof.Proof.AttnRead
public import proofs.«01_k».proof.Proof.AttnBlk
public import Idealize.ShloMosaic.Lib.Pipeline.ValueKit
public import Idealize.ShloMosaic.Lib.Pointwise

@[expose] public section

set_option maxRecDepth 16384

noncomputable section

namespace Cert.AttnBwdIdeal.Attn

open Idealize.ShloMosaic Idealize.ShloMosaic.TcCoe Idealize.SL.Sem
open Idealize.ShloMosaic.Pipeline (Dat)
open Cert.AttnBwdIdeal Cert.AttnBwdIdeal.Gen Cert.AttnMath Cert.Reals

/-! ## Sums over tiles, blocks and windows -/

/-- A sum over the blocks of a group, tile by tile. -/
theorem sum_tiles (f : Fin 32 → ℝ) : ∑ N, f N = ∑ I : Fin 4, ∑ b : Fin 8, f ⟨8 * I.val + b.val, by omega⟩ := by
  rw [← Fintype.sum_prod_type']
  refine (Fintype.sum_equiv ⟨fun x : Fin 4 × Fin 8 => (⟨8 * x.1.val + x.2.val, by omega⟩ : Fin 32), fun N => (⟨N.val / 8, by omega⟩, ⟨N.val % 8, by omega⟩), ?_, ?_⟩ _ _ fun x => rfl).symm
  · rintro ⟨I, b⟩
    refine Prod.ext (Fin.ext ?_) (Fin.ext ?_)
    · show (8 * I.val + b.val) / 8 = I.val; omega
    · show (8 * I.val + b.val) % 8 = b.val; omega
  · intro N
    refine Fin.ext ?_
    show 8 * (N.val / 8) + N.val % 8 = N.val; omega

/-- Position `r` of third `e` of a window. -/
def pos (e : Fin 3) (r : Fin 128) : Fin 384 := ⟨128 * e.val + r.val, by omega⟩

/-- What a tile's blocks add to row `r` of chunk `m` of the tile's rows: block `b`'s third `e` where `b + e = m`. -/
def chunkR (D : Fin 8 → Fin 384 → Fin 128 → ℝ) (m : ℕ) (r : Fin 128) (d : Fin 128) : ℝ :=
  ∑ b : Fin 8, ∑ e : Fin 3, if b.val + e.val = m then D b (pos e r) d else 0

theorem chunk_at (D : Fin 8 → FVec Ideal S384x128 .f32) (Dr : Fin 8 → Fin 384 → Fin 128 → ℝ) (hD : ∀ b c d, D b (ix2 c d) = (Dr b c d : EReal))
    (m : ℕ) (hm : m < 10) (r : Fin 128) (d : Fin 128) : chunk D m (ix2 r d) = (chunkR Dr m r d : EReal) := by
  have e0 : (⟨r.val, by omega⟩ : Fin 384) = pos 0 r := Fin.ext (by show r.val = 128 * 0 + r.val; omega)
  have e1 : (⟨128 + r.val, by omega⟩ : Fin 384) = pos 1 r := rfl
  have e2 : (⟨256 + r.val, by omega⟩ : Fin 384) = pos 2 r := rfl
  unfold chunkR
  interval_cases m <;> pointwise [chunk, zer] <;> simp [Fin.sum_univ_eight, Fin.sum_univ_three, e0, e1, e2, hD]

/-- What tile `I` adds to padded row `y`. -/
def tileR (I : Fin 4) (D : Fin 32 → Fin 384 → Fin 128 → ℝ) (y : Fin 4352) (d : Fin 128) : ℝ :=
  ∑ b : Fin 8, ∑ e : Fin 3, if 8 * I.val + b.val + e.val = y.val / 128 then D ⟨8 * I.val + b.val, by omega⟩ (pos e ⟨y.val % 128, by omega⟩) d else 0

theorem accVal_at (I : Fin 4) (D : Fin 8 → FVec Ideal S384x128 .f32) (Dr : Fin 32 → Fin 384 → Fin 128 → ℝ)
    (hD : ∀ b c d, D b (ix2 c d) = (Dr ⟨8 * I.val + b.val, by omega⟩ c d : EReal)) (y : Vec Ideal S4352x128 .f32) (z : ℝ) (r : Fin 4352) (d : Fin 128)
    (hy : y (ix2 r d) = (z : EReal)) : accVal (1024 * I.val) 10 D y (ix2 r d) = ((z + tileR I Dr r d : ℝ) : EReal) := by
  show (if 1024 * I.val ≤ r.val ∧ r.val < 1024 * I.val + 128 * 10 then (y (ix2 r d) + chunk D ((r.val - 1024 * I.val) / 128) (ix2 (⟨(r.val - 1024 * I.val) % 128, Nat.mod_lt _ (by decide)⟩ : Fin 128) d) : EReal) else y (ix2 r d)) = _
  by_cases h : 1024 * I.val ≤ r.val ∧ r.val < 1024 * I.val + 128 * 10
  · rw [if_pos h, hy, chunk_at D (fun b => Dr ⟨8 * I.val + b.val, by omega⟩) hD _ (by omega), ← EReal.coe_add]
    congr 2
    unfold chunkR tileR
    refine Finset.sum_congr rfl fun b _ => Finset.sum_congr rfl fun e _ => ?_
    have er : (⟨(r.val - 1024 * I.val) % 128, Nat.mod_lt _ (by decide)⟩ : Fin 128) = ⟨r.val % 128, by omega⟩ := Fin.ext (by show (r.val - 1024 * I.val) % 128 = r.val % 128; omega)
    rw [er]
    by_cases hb : b.val + e.val = (r.val - 1024 * I.val) / 128
    · rw [if_pos hb, if_pos (by omega)]
    · rw [if_neg hb, if_neg (by omega)]
  · rw [if_neg h, hy]
    have e0 : tileR I Dr r d = 0 := by
      unfold tileR
      refine Finset.sum_eq_zero fun b _ => Finset.sum_eq_zero fun e _ => if_neg ?_
      have := b.isLt
      have := e.isLt
      omega
    rw [e0, add_zero]

/-- The four tiles together. -/
theorem tiles_spread (D : Fin 2 → Fin 32 → Fin 384 → Fin 128 → ℝ) (γ : Fin 2) (y : Fin 4352) (d : Fin 128) :
    0 + tileR 0 (D γ) y d + tileR 1 (D γ) y d + tileR 2 (D γ) y d + tileR 3 (D γ) y d = spread D y ⟨128 * γ.val + d.val, by omega⟩ := by
  have h := sum_tiles fun N => ∑ e : Fin 3, if N.val + e.val = y.val / 128 then D γ N (pos e ⟨y.val % 128, by omega⟩) d else 0
  rw [Fin.sum_univ_four] at h
  rw [zero_add]
  refine Eq.trans h.symm ?_
  rw [Finset.sum_comm]
  unfold spread
  refine Finset.sum_congr rfl fun e _ => ?_
  have eγ : (⟨(128 * γ.val + d.val) / 128, by omega⟩ : Fin 2) = γ := Fin.ext (by show (128 * γ.val + d.val) / 128 = γ.val; omega)
  have ed : (⟨(128 * γ.val + d.val) % 128, by omega⟩ : Fin 128) = d := Fin.ext (by show (128 * γ.val + d.val) % 128 = d.val; omega)
  by_cases hc : e.val ≤ y.val / 128 ∧ y.val / 128 - e.val < 32
  · rw [dif_pos hc, eγ, ed, Finset.sum_eq_single (⟨y.val / 128 - e.val, hc.2⟩ : Fin 32)]
    · exact if_pos (by show y.val / 128 - e.val + e.val = y.val / 128; omega)
    · intro N _ hN
      refine if_neg fun hs => hN (Fin.ext ?_)
      show N.val = y.val / 128 - e.val
      omega
    · exact fun hn => absurd (Finset.mem_univ _) hn
  · rw [dif_neg hc]
    refine Finset.sum_eq_zero fun N _ => if_neg ?_
    have := N.isLt
    omega

/-! ## The gradient of the sinks -/

theorem sinkPart_at (h : Fin 4) (pe dl : FVec Ideal S512x1 .f32) (f : Fin 512 → ℝ)
    (hf : ∀ R, (-(HMul.hMul (α := EReal) (β := EReal) (γ := EReal) (pe (ix2 R 0)) (dl (ix2 R 0))) : EReal) = (f R : EReal)) :
    sinkPart h.val h.isLt pe dl (ix2 (0 : Fin 1) (0 : Fin 1)) = ((∑ r : Fin 128, f (row h r) : ℝ) : EReal) := by
  pointwise [sinkPart]
  rw [coe_sum]
  refine Finset.sum_congr (M := EReal) rfl fun r _ => ?_
  rw [← hf (row h r)]
  show ((0 : EReal) - _) * _ = _
  rw [zero_sub, EReal.neg_mul]
  rfl

/-- What a tile adds to the gradient of the sink of head `h`. -/
def tileS (I : Fin 4) (f : Fin 32 → Fin 512 → ℝ) (h : Fin 4) : ℝ := ∑ b : Fin 8, ∑ r : Fin 128, f ⟨8 * I.val + b.val, by omega⟩ (row h r)

theorem sinkSum_at (I : Fin 4) (h : Fin 4) (pe dl : Fin 8 → FVec Ideal S512x1 .f32) (f : Fin 32 → Fin 512 → ℝ)
    (hf : ∀ b R, (-(HMul.hMul (α := EReal) (β := EReal) (γ := EReal) (pe b (ix2 R 0)) (dl b (ix2 R 0))) : EReal) = (f ⟨8 * I.val + b.val, by omega⟩ R : EReal)) :
    sinkSum h.val h.isLt pe dl (ix2 (0 : Fin 1) (0 : Fin 1)) = (tileS I f h : EReal) := by
  have e : ∀ b, sinkPart h.val h.isLt (pe b) (dl b) (ix2 (0 : Fin 1) (0 : Fin 1)) = ((∑ r : Fin 128, f ⟨8 * I.val + b.val, by omega⟩ (row h r) : ℝ) : EReal) := fun b =>
    sinkPart_at h (pe b) (dl b) _ (hf b)
  unfold sinkSum tileS
  rw [Fin.sum_univ_eight]
  have ez : (zer1 (F := Ideal)) (ix2 (0 : Fin 1) (0 : Fin 1)) = (0 : EReal) := by pointwise [zer1]
  show ((((((((zer1 (F := Ideal) (ix2 0 0) + sinkPart h.val h.isLt (pe 0) (dl 0) (ix2 0 0)) + sinkPart h.val h.isLt (pe 1) (dl 1) (ix2 0 0)) + sinkPart h.val h.isLt (pe 2) (dl 2) (ix2 0 0)) + sinkPart h.val h.isLt (pe 3) (dl 3) (ix2 0 0)) + sinkPart h.val h.isLt (pe 4) (dl 4) (ix2 0 0)) + sinkPart h.val h.isLt (pe 5) (dl 5) (ix2 0 0)) + sinkPart h.val h.isLt (pe 6) (dl 6) (ix2 0 0)) + sinkPart h.val h.isLt (pe 7) (dl 7) (ix2 0 0)) = (_ : EReal)
  rw [ez, e, e, e, e, e, e, e, e, zero_add]
  simp only [EReal.coe_add]

theorem sinkVal_at (I : Fin 4) (pe dl : Fin 8 → FVec Ideal S512x1 .f32) (f : Fin 32 → Fin 512 → ℝ)
    (hf : ∀ b R, (-(HMul.hMul (α := EReal) (β := EReal) (γ := EReal) (pe b (ix2 R 0)) (dl b (ix2 R 0))) : EReal) = (f ⟨8 * I.val + b.val, by omega⟩ R : EReal))
    (y : Vec Ideal S1x4x128 .f32) (z : ℝ) (h : Fin 4) (l : Fin 128) (hy : y (ix3 0 h l) = (z : EReal)) :
    sinkVal 4 pe dl y (ix3 0 h l) = ((z + tileS I f h : ℝ) : EReal) := by
  show (if h.val < 4 then (y (ix3 0 h l) + sinkSum h.val h.isLt pe dl (ix2 0 0) : EReal) else y (ix3 0 h l)) = _
  rw [if_pos h.isLt, hy, sinkSum_at I h pe dl f hf, ← EReal.coe_add]

/-- The four tiles together. -/
theorem tiles_sink (f : Fin 32 → Fin 512 → ℝ) (h : Fin 4) :
    0 + tileS 0 f h + tileS 1 f h + tileS 2 f h + tileS 3 f h = ∑ N : Fin 32, ∑ r : Fin 128, f N (row h r) := by
  have e := sum_tiles fun N => ∑ r : Fin 128, f N (row h r)
  rw [Fin.sum_univ_four] at e
  rw [zero_add]
  exact e.symm

end Cert.AttnBwdIdeal.Attn

end
-- ==== Proof.AttnTileA.lean ====
module

public import proofs.«01_k».proof.Proof.AttnTile

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen Cert.AttnBwdIdeal.Run

variable {F : FTy → Type} [FloatOps F] [Named F]

/-! The stores of a first tile's run, as the lists of the blocks' results: each value the run names is, in turn, the
    block's function of the same name. -/

variable (c : Dev nD) (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4352x128 .f32) (harg8 : arg8.IsWhole) (arg9 : Memref sig .tc .vmem S4352x128 .f32) (harg9 : arg9.IsWhole) (arg10 : Memref sig .tc .vmem S1x4x128 .f32) (harg10 : arg10.IsWhole) (x0 : Vec F S1024x512 .bf16) (x1 : Vec F S4352x128 .bf16) (x2 : Vec F S4352x128 .bf16) (x3 : Vec F S1x4x128 .f32) (x4 : Vec F S1024x512 .bf16) (y6 : Vec F S4352x128 .f32) (y7 : Vec F S4352x128 .f32) (y8 : Vec F S1x4x128 .f32)

theorem runA_v69 :
    runA.sl.v69 (F := F) c arg2 harg2 x0 = stk arg2 harg2 x0 0 := by
  rw [runA.sl.v69, runA.sl.r_3, runA.sl.r_2, runA.sl.r_1]
  all_goals rfl

theorem runA_v74 :
    runA.sl.v74 (F := F) c arg2 harg2 x0 = stk arg2 harg2 x0 1 := by
  rw [runA.sl.v74]
  all_goals rfl

theorem runA_v79 :
    runA.sl.v79 (F := F) c arg2 harg2 x0 = stk arg2 harg2 x0 2 := by
  rw [runA.sl.v79]
  all_goals rfl

theorem runA_v84 :
    runA.sl.v84 (F := F) c arg2 harg2 x0 = stk arg2 harg2 x0 3 := by
  rw [runA.sl.v84]
  all_goals rfl

theorem runA_v89 :
    runA.sl.v89 (F := F) c arg2 harg2 x0 = stk arg2 harg2 x0 4 := by
  rw [runA.sl.v89]
  all_goals rfl

theorem runA_v94 :
    runA.sl.v94 (F := F) c arg2 harg2 x0 = stk arg2 harg2 x0 5 := by
  rw [runA.sl.v94, runA.sl.r_4]
  all_goals rfl

theorem runA_v99 :
    runA.sl.v99 (F := F) c arg2 harg2 x0 = stk arg2 harg2 x0 6 := by
  rw [runA.sl.v99]
  all_goals rfl

theorem runA_v104 :
    runA.sl.v104 (F := F) c arg2 harg2 x0 = stk arg2 harg2 x0 7 := by
  rw [runA.sl.v104]
  all_goals rfl

theorem runA_v109 :
    runA.sl.v109 (F := F) c arg6 harg6 x4 = stk arg6 harg6 x4 0 := by
  rw [runA.sl.v109]
  all_goals rfl

theorem runA_v114 :
    runA.sl.v114 (F := F) c arg6 harg6 x4 = stk arg6 harg6 x4 1 := by
  rw [runA.sl.v114, runA.sl.r_8, runA.sl.r_7, runA.sl.r_6, runA.sl.r_5]
  all_goals rfl

theorem runA_v119 :
    runA.sl.v119 (F := F) c arg6 harg6 x4 = stk arg6 harg6 x4 2 := by
  rw [runA.sl.v119]
  all_goals rfl

theorem runA_v124 :
    runA.sl.v124 (F := F) c arg6 harg6 x4 = stk arg6 harg6 x4 3 := by
  rw [runA.sl.v124]
  all_goals rfl

theorem runA_v129 :
    runA.sl.v129 (F := F) c arg6 harg6 x4 = stk arg6 harg6 x4 4 := by
  rw [runA.sl.v129]
  all_goals rfl

theorem runA_v134 :
    runA.sl.v134 (F := F) c arg6 harg6 x4 = stk arg6 harg6 x4 5 := by
  rw [runA.sl.v134]
  all_goals rfl

theorem runA_v139 :
    runA.sl.v139 (F := F) c arg6 harg6 x4 = stk arg6 harg6 x4 6 := by
  rw [runA.sl.v139, runA.sl.r_10, runA.sl.r_9]
  all_goals rfl

theorem runA_v144 :
    runA.sl.v144 (F := F) c arg6 harg6 x4 = stk arg6 harg6 x4 7 := by
  rw [runA.sl.v144]
  all_goals rfl

theorem runA_r :
    runA.sl.r (F := F) c arg5 harg5 x3 = snk arg5 harg5 x3 := by
  rw [runA.sl.r]
  all_goals rfl

theorem runA_v150 :
    runA.sl.v150 (F := F) c i arg2 harg2 arg3 harg3 x0 x1 = (blkAt i arg2 harg2 arg3 harg3 arg4 harg4 arg5 harg5 arg6 harg6 x0 x1 x2 x3 x4 0).sc := by
  rw [runA.sl.v150, runA.sl.v149, runA.sl.cst_150, runA.sl.v148, runA.sl.cst_149, runA.sl.v147, runA_v69 c arg2 harg2 x0]
  all_goals rfl

theorem runA_r_15 :
    runA.sl.r_15 (F := F) c i arg2 harg2 arg3 harg3 arg5 harg5 x0 x1 x3 = (blkAt i arg2 harg2 arg3 harg3 arg4 harg4 arg5 harg5 arg6 harg6 x0 x1 x2 x3 x4 0).p := by
  rw [runA.sl.r_15, runA.sl.v4, runA.sl.v3, runA_r c arg5 harg5 x3, runA_v150 c i arg2 harg2 arg3 harg3 arg4 harg4 arg5 harg5 arg6 harg6 x0 x1 x2 x3 x4]
  all_goals rfl

theorem runA_r_16 :
    runA.sl.r_16 (F := F) c i arg2 harg2 arg3 harg3 arg5 harg5 x0 x1 x3 = (blkAt i arg2 harg2 arg3 harg3 arg4 harg4 arg5 harg5 arg6 harg6 x0 x1 x2 x3 x4 0).pe := by
  rw [runA.sl.r_16, runA.sl.v4, runA.sl.v3, runA_r c arg5 harg5 x3, runA_v150 c i arg2 harg2 arg3 harg3 arg4 harg4 arg5 harg5 arg6 harg6 x0 x1 x2 x3 x4]
  all_goals rfl

theorem runA_v196 :
    runA.sl.v196 (F := F) c i arg4 harg4 arg6 harg6 x2 x4 = (blkAt i arg2 harg2 arg3 harg3 arg4 harg4 arg5 harg5 arg6 harg6 x0 x1 x2 x3 x4 0).dp := by
  rw [runA.sl.v196, runA.sl.cst_149, runA.sl.v195, runA_v109 c arg6 harg6 x4]
  all_goals rfl

theorem runA_r_39 :
    runA.sl.r_39 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dl := by
  rw [runA.sl.r_39, runA_v196 c i arg2 harg2 arg3 harg3 arg4 harg4 arg5 harg5 arg6 harg6 x0 x1 x2 x3 x4, runA_r_15 c i arg2 harg2 arg3 harg3 arg4 harg4 arg5 harg5 arg6 harg6 x0 x1 x2 x3 x4]
  all_goals rfl

theorem runA_v510 :
    runA.sl.v510 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).ds := by
  rw [runA.sl.v510, runA.sl.v509, runA.sl.v149, runA.sl.cst_150, runA.sl.v507, runA.sl.v506, runA.sl.v505, runA_r_15 c i arg2 harg2 arg3 harg3 arg4 harg4 arg5 harg5 arg6 harg6 x0 x1 x2 x3 x4, runA_v196 c i arg2 harg2 arg3 harg3 arg4 harg4 arg5 harg5 arg6 harg6 x0 x1 x2 x3 x4, runA_r_39 c i arg2 harg2 arg3 harg3 arg4 harg4 arg5 harg5 arg6 harg6 x0 x1 x2 x3 x4]
  all_goals rfl

theorem runA_v556 :
    runA.sl.v556 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dq := by
  rw [runA.sl.v556, runA.sl.cst_276, runA.sl.v147, runA_v510 c i arg2 harg2 arg3 harg3 arg4 harg4 arg5 harg5 arg6 harg6 x0 x1 x2 x3 x4]
  all_goals rfl

theorem runA_v585 :
    runA.sl.v585 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dk := by
  rw [runA.sl.v585, runA.sl.cst_291, runA_v510 c i arg2 harg2 arg3 harg3 arg4 harg4 arg5 harg5 arg6 harg6 x0 x1 x2 x3 x4, runA_v69 c arg2 harg2 x0]
  all_goals rfl

theorem runA_v594 :
    runA.sl.v594 (F := F) c i arg2 harg2 arg3 harg3 arg5 harg5 arg6 harg6 x0 x1 x3 x4 = (blkAt i arg2 harg2 arg3 harg3 arg4 harg4 arg5 harg5 arg6 harg6 x0 x1 x2 x3 x4 0).dv := by
  rw [runA.sl.v594, runA.sl.cst_291, runA.sl.v593, runA_r_15 c i arg2 harg2 arg3 harg3 arg4 harg4 arg5 harg5 arg6 harg6 x0 x1 x2 x3 x4, runA_v109 c arg6 harg6 x4]
  all_goals rfl

theorem runA_v156 :
    runA.sl.v156 (F := F) c i arg2 harg2 arg3 harg3 x0 x1 = (blkAt i arg2 harg2 arg3 harg3 arg4 harg4 arg5 harg5 arg6 harg6 x0 x1 x2 x3 x4 1).sc := by
  rw [runA.sl.v156, runA.sl.v149, runA.sl.cst_150, runA.sl.v154, runA.sl.cst_149, runA.sl.v153, runA_v74 c arg2 harg2 x0]
  all_goals rfl

theorem runA_r_17 :
    runA.sl.r_17 (F := F) c i arg2 harg2 arg3 harg3 arg5 harg5 x0 x1 x3 = (blkAt i arg2 harg2 arg3 harg3 arg4 harg4 arg5 harg5 arg6 harg6 x0 x1 x2 x3 x4 1).p := by
  rw [runA.sl.r_17, runA.sl.v6, runA.sl.v3, runA_r c arg5 harg5 x3, runA_v156 c i arg2 harg2 arg3 harg3 arg4 harg4 arg5 harg5 arg6 harg6 x0 x1 x2 x3 x4]
  all_goals rfl

theorem runA_r_18 :
    runA.sl.r_18 (F := F) c i arg2 harg2 arg3 harg3 arg5 harg5 x0 x1 x3 = (blkAt i arg2 harg2 arg3 harg3 arg4 harg4 arg5 harg5 arg6 harg6 x0 x1 x2 x3 x4 1).pe := by
  rw [runA.sl.r_18, runA.sl.v6, runA.sl.v3, runA_r c arg5 harg5 x3, runA_v156 c i arg2 harg2 arg3 harg3 arg4 harg4 arg5 harg5 arg6 harg6 x0 x1 x2 x3 x4]
  all_goals rfl

theorem runA_v200 :
    runA.sl.v200 (F := F) c i arg4 harg4 arg6 harg6 x2 x4 = (blkAt i arg2 harg2 arg3 harg3 arg4 harg4 arg5 harg5 arg6 harg6 x0 x1 x2 x3 x4 1).dp := by
  rw [runA.sl.v200, runA.sl.cst_149, runA.sl.v199, runA_v114 c arg6 harg6 x4]
  all_goals rfl

theorem runA_r_40 :
    runA.sl.r_40 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dl := by
  rw [runA.sl.r_40, runA_v200 c i arg2 harg2 arg3 harg3 arg4 harg4 arg5 harg5 arg6 harg6 x0 x1 x2 x3 x4, runA_r_17 c i arg2 harg2 arg3 harg3 arg4 harg4 arg5 harg5 arg6 harg6 x0 x1 x2 x3 x4]
  all_goals rfl

theorem runA_v516 :
    runA.sl.v516 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).ds := by
  rw [runA.sl.v516, runA.sl.v515, runA.sl.v149, runA.sl.cst_150, runA.sl.v513, runA.sl.v512, runA.sl.v511, runA_r_17 c i arg2 harg2 arg3 harg3 arg4 harg4 arg5 harg5 arg6 harg6 x0 x1 x2 x3 x4, runA_v200 c i arg2 harg2 arg3 harg3 arg4 harg4 arg5 harg5 arg6 harg6 x0 x1 x2 x3 x4, runA_r_40 c i arg2 harg2 arg3 harg3 arg4 harg4 arg5 harg5 arg6 harg6 x0 x1 x2 x3 x4]
  all_goals rfl

theorem runA_v560 :
    runA.sl.v560 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dq := by
  rw [runA.sl.v560, runA.sl.cst_276, runA.sl.v153, runA_v516 c i arg2 harg2 arg3 harg3 arg4 harg4 arg5 harg5 arg6 harg6 x0 x1 x2 x3 x4]
  all_goals rfl

theorem runA_v586 :
    runA.sl.v586 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dk := by
  rw [runA.sl.v586, runA.sl.cst_291, runA_v516 c i arg2 harg2 arg3 harg3 arg4 harg4 arg5 harg5 arg6 harg6 x0 x1 x2 x3 x4, runA_v74 c arg2 harg2 x0]
  all_goals rfl

theorem runA_v596 :
    runA.sl.v596 (F := F) c i arg2 harg2 arg3 harg3 arg5 harg5 arg6 harg6 x0 x1 x3 x4 = (blkAt i arg2 harg2 arg3 harg3 arg4 harg4 arg5 harg5 arg6 harg6 x0 x1 x2 x3 x4 1).dv := by
  rw [runA.sl.v596, runA.sl.cst_291, runA.sl.v595, runA_r_17 c i arg2 harg2 arg3 harg3 arg4 harg4 arg5 harg5 arg6 harg6 x0 x1 x2 x3 x4, runA_v114 c arg6 harg6 x4]
  all_goals rfl

theorem runA_v162 :
    runA.sl.v162 (F := F) c i arg2 harg2 arg3 harg3 x0 x1 = (blkAt i arg2 harg2 arg3 harg3 arg4 harg4 arg5 harg5 arg6 harg6 x0 x1 x2 x3 x4 2).sc := by
  rw [runA.sl.v162, runA.sl.v149, runA.sl.cst_150, runA.sl.v160, runA.sl.cst_149, runA.sl.v159, runA_v79 c arg2 harg2 x0]
  all_goals rfl

theorem runA_r_20 :
    runA.sl.r_20 (F := F) c i arg2 harg2 arg3 harg3 arg5 harg5 x0 x1 x3 = (blkAt i arg2 harg2 arg3 harg3 arg4 harg4 arg5 harg5 arg6 harg6 x0 x1 x2 x3 x4 2).p := by
  rw [runA.sl.r_20, runA.sl.r_19, runA.sl.v8, runA.sl.v3, runA_r c arg5 harg5 x3, runA_v162 c i arg2 harg2 arg3 harg3 arg4 harg4 arg5 harg5 arg6 harg6 x0 x1 x2 x3 x4]
  all_goals rfl

theorem runA_r_21 :
    runA.sl.r_21 (F := F) c i arg2 harg2 arg3 harg3 arg5 harg5 x0 x1 x3 = (blkAt i arg2 harg2 arg3 harg3 arg4 harg4 arg5 harg5 arg6 harg6 x0 x1 x2 x3 x4 2).pe := by
  rw [runA.sl.r_21, runA.sl.r_19, runA.sl.v8, runA.sl.v3, runA_r c arg5 harg5 x3, runA_v162 c i arg2 harg2 arg3 harg3 arg4 harg4 arg5 harg5 arg6 harg6 x0 x1 x2 x3 x4]
  all_goals rfl

theorem runA_v204 :
    runA.sl.v204 (F := F) c i arg4 harg4 arg6 harg6 x2 x4 = (blkAt i arg2 harg2 arg3 harg3 arg4 harg4 arg5 harg5 arg6 harg6 x0 x1 x2 x3 x4 2).dp := by
  rw [runA.sl.v204, runA.sl.cst_149, runA.sl.v203, runA_v119 c arg6 harg6 x4]
  all_goals rfl

theorem runA_r_41 :
    runA.sl.r_41 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dl := by
  rw [runA.sl.r_41, runA_v204 c i arg2 harg2 arg3 harg3 arg4 harg4 arg5 harg5 arg6 harg6 x0 x1 x2 x3 x4, runA_r_20 c i arg2 harg2 arg3 harg3 arg4 harg4 arg5 harg5 arg6 harg6 x0 x1 x2 x3 x4]
  all_goals rfl

theorem runA_v522 :
    runA.sl.v522 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).ds := by
  rw [runA.sl.v522, runA.sl.v521, runA.sl.v149, runA.sl.cst_150, runA.sl.v519, runA.sl.v518, runA.sl.v517, runA_r_20 c i arg2 harg2 arg3 harg3 arg4 harg4 arg5 harg5 arg6 harg6 x0 x1 x2 x3 x4, runA_v204 c i arg2 harg2 arg3 harg3 arg4 harg4 arg5 harg5 arg6 harg6 x0 x1 x2 x3 x4, runA_r_41 c i arg2 harg2 arg3 harg3 arg4 harg4 arg5 harg5 arg6 harg6 x0 x1 x2 x3 x4]
  all_goals rfl

theorem runA_v564 :
    runA.sl.v564 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dq := by
  rw [runA.sl.v564, runA.sl.cst_276, runA.sl.v159, runA_v522 c i arg2 harg2 arg3 harg3 arg4 harg4 arg5 harg5 arg6 harg6 x0 x1 x2 x3 x4]
  all_goals rfl

theorem runA_v587 :
    runA.sl.v587 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dk := by
  rw [runA.sl.v587, runA.sl.cst_291, runA_v522 c i arg2 harg2 arg3 harg3 arg4 harg4 arg5 harg5 arg6 harg6 x0 x1 x2 x3 x4, runA_v79 c arg2 harg2 x0]
  all_goals rfl

theorem runA_v598 :
    runA.sl.v598 (F := F) c i arg2 harg2 arg3 harg3 arg5 harg5 arg6 harg6 x0 x1 x3 x4 = (blkAt i arg2 harg2 arg3 harg3 arg4 harg4 arg5 harg5 arg6 harg6 x0 x1 x2 x3 x4 2).dv := by
  rw [runA.sl.v598, runA.sl.cst_291, runA.sl.v597, runA_r_20 c i arg2 harg2 arg3 harg3 arg4 harg4 arg5 harg5 arg6 harg6 x0 x1 x2 x3 x4, runA_v119 c arg6 harg6 x4]
  all_goals rfl

theorem runA_v168 :
    runA.sl.v168 (F := F) c i arg2 harg2 arg3 harg3 x0 x1 = (blkAt i arg2 harg2 arg3 harg3 arg4 harg4 arg5 harg5 arg6 harg6 x0 x1 x2 x3 x4 3).sc := by
  rw [runA.sl.v168, runA.sl.v149, runA.sl.cst_150, runA.sl.v166, runA.sl.cst_149, runA.sl.v165, runA_v84 c arg2 harg2 x0]
  all_goals rfl

theorem runA_r_25 :
    runA.sl.r_25 (F := F) c i arg2 harg2 arg3 harg3 arg5 harg5 x0 x1 x3 = (blkAt i arg2 harg2 arg3 harg3 arg4 harg4 arg5 harg5 arg6 harg6 x0 x1 x2 x3 x4 3).p := by
  rw [runA.sl.r_25, runA.sl.r_24, runA.sl.r_22, runA.sl.v10, runA.sl.v3, runA_r c arg5 harg5 x3, runA_v168 c i arg2 harg2 arg3 harg3 arg4 harg4 arg5 harg5 arg6 harg6 x0 x1 x2 x3 x4]
  all_goals rfl

theorem runA_r_26 :
    runA.sl.r_26 (F := F) c i arg2 harg2 arg3 harg3 arg5 harg5 x0 x1 x3 = (blkAt i arg2 harg2 arg3 harg3 arg4 harg4 arg5 harg5 arg6 harg6 x0 x1 x2 x3 x4 3).pe := by
  rw [runA.sl.r_26, runA.sl.r_24, runA.sl.r_23, runA.sl.v10, runA.sl.v3, runA_r c arg5 harg5 x3, runA_v168 c i arg2 harg2 arg3 harg3 arg4 harg4 arg5 harg5 arg6 harg6 x0 x1 x2 x3 x4]
  all_goals rfl

theorem runA_v208 :
    runA.sl.v208 (F := F) c i arg4 harg4 arg6 harg6 x2 x4 = (blkAt i arg2 harg2 arg3 harg3 arg4 harg4 arg5 harg5 arg6 harg6 x0 x1 x2 x3 x4 3).dp := by
  rw [runA.sl.v208, runA.sl.cst_149, runA.sl.v207, runA_v124 c arg6 harg6 x4]
  all_goals rfl

theorem runA_v492 :
    runA.sl.v492 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dl := by
  rw [runA.sl.v492, runA.sl.v491, runA.sl.r_42, runA_v208 c i arg2 harg2 arg3 harg3 arg4 harg4 arg5 harg5 arg6 harg6 x0 x1 x2 x3 x4, runA_r_25 c i arg2 harg2 arg3 harg3 arg4 harg4 arg5 harg5 arg6 harg6 x0 x1 x2 x3 x4]
  all_goals rfl

theorem runA_v528 :
    runA.sl.v528 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).ds := by
  rw [runA.sl.v528, runA.sl.v527, runA.sl.v149, runA.sl.cst_150, runA.sl.v525, runA.sl.v524, runA.sl.v523, runA_r_25 c i arg2 harg2 arg3 harg3 arg4 harg4 arg5 harg5 arg6 harg6 x0 x1 x2 x3 x4, runA_v208 c i arg2 harg2 arg3 harg3 arg4 harg4 arg5 harg5 arg6 harg6 x0 x1 x2 x3 x4, runA_v492 c i arg2 harg2 arg3 harg3 arg4 harg4 arg5 harg5 arg6 harg6 x0 x1 x2 x3 x4]
  all_goals rfl

theorem runA_v568 :
    runA.sl.v568 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dq := by
  rw [runA.sl.v568, runA.sl.cst_276, runA.sl.v165, runA_v528 c i arg2 harg2 arg3 harg3 arg4 harg4 arg5 harg5 arg6 harg6 x0 x1 x2 x3 x4]
  all_goals rfl

theorem runA_v588 :
    runA.sl.v588 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dk := by
  rw [runA.sl.v588, runA.sl.cst_291, runA_v528 c i arg2 harg2 arg3 harg3 arg4 harg4 arg5 harg5 arg6 harg6 x0 x1 x2 x3 x4, runA_v84 c arg2 harg2 x0]
  all_goals rfl

theorem runA_v600 :
    runA.sl.v600 (F := F) c i arg2 harg2 arg3 harg3 arg5 harg5 arg6 harg6 x0 x1 x3 x4 = (blkAt i arg2 harg2 arg3 harg3 arg4 harg4 arg5 harg5 arg6 harg6 x0 x1 x2 x3 x4 3).dv := by
  rw [runA.sl.v600, runA.sl.cst_291, runA.sl.v599, runA_r_25 c i arg2 harg2 arg3 harg3 arg4 harg4 arg5 harg5 arg6 harg6 x0 x1 x2 x3 x4, runA_v124 c arg6 harg6 x4]
  all_goals rfl

theorem runA_v174 :
    runA.sl.v174 (F := F) c i arg2 harg2 arg3 harg3 x0 x1 = (blkAt i arg2 harg2 arg3 harg3 arg4 harg4 arg5 harg5 arg6 harg6 x0 x1 x2 x3 x4 4).sc := by
  rw [runA.sl.v174, runA.sl.v149, runA.sl.cst_150, runA.sl.v172, runA.sl.cst_149, runA.sl.v171, runA_v89 c arg2 harg2 x0]
  all_goals rfl

theorem runA_r_27 :
    runA.sl.r_27 (F := F) c i arg2 harg2 arg3 harg3 arg5 harg5 x0 x1 x3 = (blkAt i arg2 harg2 arg3 harg3 arg4 harg4 arg5 harg5 arg6 harg6 x0 x1 x2 x3 x4 4).p := by
  rw [runA.sl.r_27, runA.sl.v12, runA.sl.v3, runA_r c arg5 harg5 x3, runA_v174 c i arg2 harg2 arg3 harg3 arg4 harg4 arg5 harg5 arg6 harg6 x0 x1 x2 x3 x4]
  all_goals rfl

theorem runA_r_28 :
    runA.sl.r_28 (F := F) c i arg2 harg2 arg3 harg3 arg5 harg5 x0 x1 x3 = (blkAt i arg2 harg2 arg3 harg3 arg4 harg4 arg5 harg5 arg6 harg6 x0 x1 x2 x3 x4 4).pe := by
  rw [runA.sl.r_28, runA.sl.v12, runA.sl.v3, runA_r c arg5 harg5 x3, runA_v174 c i arg2 harg2 arg3 harg3 arg4 harg4 arg5 harg5 arg6 harg6 x0 x1 x2 x3 x4]
  all_goals rfl

theorem runA_r_11 :
    runA.sl.r_11 (F := F) c i arg4 harg4 arg6 harg6 x2 x4 = (blkAt i arg2 harg2 arg3 harg3 arg4 harg4 arg5 harg5 arg6 harg6 x0 x1 x2 x3 x4 4).dp := by
  rw [runA.sl.r_11, runA.sl.cst_149, runA.sl.v211, runA_v129 c arg6 harg6 x4]
  all_goals rfl

theorem runA_v495 :
    runA.sl.v495 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dl := by
  rw [runA.sl.v495, runA.sl.v494, runA.sl.v493, runA_r_27 c i arg2 harg2 arg3 harg3 arg4 harg4 arg5 harg5 arg6 harg6 x0 x1 x2 x3 x4, runA_r_11 c i arg2 harg2 arg3 harg3 arg4 harg4 arg5 harg5 arg6 harg6 x0 x1 x2 x3 x4]
  all_goals rfl

theorem runA_v534 :
    runA.sl.v534 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).ds := by
  rw [runA.sl.v534, runA.sl.v533, runA.sl.v149, runA.sl.cst_150, runA.sl.v531, runA.sl.v530, runA.sl.v529, runA_r_27 c i arg2 harg2 arg3 harg3 arg4 harg4 arg5 harg5 arg6 harg6 x0 x1 x2 x3 x4, runA_r_11 c i arg2 harg2 arg3 harg3 arg4 harg4 arg5 harg5 arg6 harg6 x0 x1 x2 x3 x4, runA_v495 c i arg2 harg2 arg3 harg3 arg4 harg4 arg5 harg5 arg6 harg6 x0 x1 x2 x3 x4]
  all_goals rfl

theorem runA_v572 :
    runA.sl.v572 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dq := by
  rw [runA.sl.v572, runA.sl.cst_276, runA.sl.v171, runA_v534 c i arg2 harg2 arg3 harg3 arg4 harg4 arg5 harg5 arg6 harg6 x0 x1 x2 x3 x4]
  all_goals rfl

theorem runA_v589 :
    runA.sl.v589 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dk := by
  rw [runA.sl.v589, runA.sl.cst_291, runA_v534 c i arg2 harg2 arg3 harg3 arg4 harg4 arg5 harg5 arg6 harg6 x0 x1 x2 x3 x4, runA_v89 c arg2 harg2 x0]
  all_goals rfl

theorem runA_v602 :
    runA.sl.v602 (F := F) c i arg2 harg2 arg3 harg3 arg5 harg5 arg6 harg6 x0 x1 x3 x4 = (blkAt i arg2 harg2 arg3 harg3 arg4 harg4 arg5 harg5 arg6 harg6 x0 x1 x2 x3 x4 4).dv := by
  rw [runA.sl.v602, runA.sl.cst_291, runA.sl.v601, runA_r_27 c i arg2 harg2 arg3 harg3 arg4 harg4 arg5 harg5 arg6 harg6 x0 x1 x2 x3 x4, runA_v129 c arg6 harg6 x4]
  all_goals rfl

theorem runA_v180 :
    runA.sl.v180 (F := F) c i arg2 harg2 arg3 harg3 x0 x1 = (blkAt i arg2 harg2 arg3 harg3 arg4 harg4 arg5 harg5 arg6 harg6 x0 x1 x2 x3 x4 5).sc := by
  rw [runA.sl.v180, runA.sl.v149, runA.sl.cst_150, runA.sl.v178, runA.sl.cst_149, runA.sl.v177, runA_v94 c arg2 harg2 x0]
  all_goals rfl

theorem runA_r_30 :
    runA.sl.r_30 (F := F) c i arg2 harg2 arg3 harg3 arg5 harg5 x0 x1 x3 = (blkAt i arg2 harg2 arg3 harg3 arg4 harg4 arg5 harg5 arg6 harg6 x0 x1 x2 x3 x4 5).p := by
  rw [runA.sl.r_30, runA.sl.cst_237, runA.sl.cst_535, runA.sl.r_29, runA.sl.v14, runA.sl.v3, runA_r c arg5 harg5 x3, runA_v180 c i arg2 harg2 arg3 harg3 arg4 harg4 arg5 harg5 arg6 harg6 x0 x1 x2 x3 x4]
  all_goals rfl

theorem runA_r_31 :
    runA.sl.r_31 (F := F) c i arg2 harg2 arg3 harg3 arg5 harg5 x0 x1 x3 = (blkAt i arg2 harg2 arg3 harg3 arg4 harg4 arg5 harg5 arg6 harg6 x0 x1 x2 x3 x4 5).pe := by
  rw [runA.sl.r_31, runA.sl.cst_237, runA.sl.cst_535, runA.sl.r_29, runA.sl.v14, runA.sl.v3, runA_r c arg5 harg5 x3, runA_v180 c i arg2 harg2 arg3 harg3 arg4 harg4 arg5 harg5 arg6 harg6 x0 x1 x2 x3 x4]
  all_goals rfl

theorem runA_r_12 :
    runA.sl.r_12 (F := F) c i arg4 harg4 arg6 harg6 x2 x4 = (blkAt i arg2 harg2 arg3 harg3 arg4 harg4 arg5 harg5 arg6 harg6 x0 x1 x2 x3 x4 5).dp := by
  rw [runA.sl.r_12, runA_v134 c arg6 harg6 x4]
  all_goals rfl

theorem runA_v498 :
    runA.sl.v498 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dl := by
  rw [runA.sl.v498, runA.sl.v497, runA.sl.v496, runA_r_30 c i arg2 harg2 arg3 harg3 arg4 harg4 arg5 harg5 arg6 harg6 x0 x1 x2 x3 x4, runA_r_12 c i arg2 harg2 arg3 harg3 arg4 harg4 arg5 harg5 arg6 harg6 x0 x1 x2 x3 x4]
  all_goals rfl

theorem runA_v540 :
    runA.sl.v540 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).ds := by
  rw [runA.sl.v540, runA.sl.v539, runA.sl.v149, runA.sl.cst_150, runA.sl.v537, runA.sl.v536, runA.sl.v535, runA_r_30 c i arg2 harg2 arg3 harg3 arg4 harg4 arg5 harg5 arg6 harg6 x0 x1 x2 x3 x4, runA_r_12 c i arg2 harg2 arg3 harg3 arg4 harg4 arg5 harg5 arg6 harg6 x0 x1 x2 x3 x4, runA_v498 c i arg2 harg2 arg3 harg3 arg4 harg4 arg5 harg5 arg6 harg6 x0 x1 x2 x3 x4]
  all_goals rfl

theorem runA_v576 :
    runA.sl.v576 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dq := by
  rw [runA.sl.v576, runA.sl.cst_276, runA.sl.v177, runA_v540 c i arg2 harg2 arg3 harg3 arg4 harg4 arg5 harg5 arg6 harg6 x0 x1 x2 x3 x4]
  all_goals rfl

theorem runA_v590 :
    runA.sl.v590 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dk := by
  rw [runA.sl.v590, runA.sl.cst_291, runA_v540 c i arg2 harg2 arg3 harg3 arg4 harg4 arg5 harg5 arg6 harg6 x0 x1 x2 x3 x4, runA_v94 c arg2 harg2 x0]
  all_goals rfl

theorem runA_v604 :
    runA.sl.v604 (F := F) c i arg2 harg2 arg3 harg3 arg5 harg5 arg6 harg6 x0 x1 x3 x4 = (blkAt i arg2 harg2 arg3 harg3 arg4 harg4 arg5 harg5 arg6 harg6 x0 x1 x2 x3 x4 5).dv := by
  rw [runA.sl.v604, runA.sl.cst_291, runA.sl.v603, runA_r_30 c i arg2 harg2 arg3 harg3 arg4 harg4 arg5 harg5 arg6 harg6 x0 x1 x2 x3 x4, runA_v134 c arg6 harg6 x4]
  all_goals rfl

theorem runA_v186 :
    runA.sl.v186 (F := F) c i arg2 harg2 arg3 harg3 x0 x1 = (blkAt i arg2 harg2 arg3 harg3 arg4 harg4 arg5 harg5 arg6 harg6 x0 x1 x2 x3 x4 6).sc := by
  rw [runA.sl.v186, runA.sl.v149, runA.sl.cst_150, runA.sl.v184, runA.sl.cst_149, runA.sl.v183, runA_v99 c arg2 harg2 x0]
  all_goals rfl

theorem runA_r_35 :
    runA.sl.r_35 (F := F) c i arg2 harg2 arg3 harg3 arg5 harg5 x0 x1 x3 = (blkAt i arg2 harg2 arg3 harg3 arg4 harg4 arg5 harg5 arg6 harg6 x0 x1 x2 x3 x4 6).p := by
  rw [runA.sl.r_35, runA.sl.r_34, runA.sl.r_32, runA.sl.v16, runA.sl.v3, runA_r c arg5 harg5 x3, runA_v186 c i arg2 harg2 arg3 harg3 arg4 harg4 arg5 harg5 arg6 harg6 x0 x1 x2 x3 x4]
  all_goals rfl

theorem runA_r_36 :
    runA.sl.r_36 (F := F) c i arg2 harg2 arg3 harg3 arg5 harg5 x0 x1 x3 = (blkAt i arg2 harg2 arg3 harg3 arg4 harg4 arg5 harg5 arg6 harg6 x0 x1 x2 x3 x4 6).pe := by
  rw [runA.sl.r_36, runA.sl.r_34, runA.sl.r_33, runA.sl.v16, runA.sl.v3, runA_r c arg5 harg5 x3, runA_v186 c i arg2 harg2 arg3 harg3 arg4 harg4 arg5 harg5 arg6 harg6 x0 x1 x2 x3 x4]
  all_goals rfl

theorem runA_r_13 :
    runA.sl.r_13 (F := F) c i arg4 harg4 arg6 harg6 x2 x4 = (blkAt i arg2 harg2 arg3 harg3 arg4 harg4 arg5 harg5 arg6 harg6 x0 x1 x2 x3 x4 6).dp := by
  rw [runA.sl.r_13, runA_v139 c arg6 harg6 x4]
  all_goals rfl

theorem runA_v501 :
    runA.sl.v501 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dl := by
  rw [runA.sl.v501, runA.sl.v500, runA.sl.v499, runA_r_35 c i arg2 harg2 arg3 harg3 arg4 harg4 arg5 harg5 arg6 harg6 x0 x1 x2 x3 x4, runA_r_13 c i arg2 harg2 arg3 harg3 arg4 harg4 arg5 harg5 arg6 harg6 x0 x1 x2 x3 x4]
  all_goals rfl

theorem runA_v546 :
    runA.sl.v546 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).ds := by
  rw [runA.sl.v546, runA.sl.v545, runA.sl.v149, runA.sl.cst_150, runA.sl.v543, runA.sl.v542, runA.sl.v541, runA_r_35 c i arg2 harg2 arg3 harg3 arg4 harg4 arg5 harg5 arg6 harg6 x0 x1 x2 x3 x4, runA_r_13 c i arg2 harg2 arg3 harg3 arg4 harg4 arg5 harg5 arg6 harg6 x0 x1 x2 x3 x4, runA_v501 c i arg2 harg2 arg3 harg3 arg4 harg4 arg5 harg5 arg6 harg6 x0 x1 x2 x3 x4]
  all_goals rfl

theorem runA_v580 :
    runA.sl.v580 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dq := by
  rw [runA.sl.v580, runA.sl.cst_276, runA.sl.v183, runA_v546 c i arg2 harg2 arg3 harg3 arg4 harg4 arg5 harg5 arg6 harg6 x0 x1 x2 x3 x4]
  all_goals rfl

theorem runA_v591 :
    runA.sl.v591 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dk := by
  rw [runA.sl.v591, runA.sl.cst_291, runA_v546 c i arg2 harg2 arg3 harg3 arg4 harg4 arg5 harg5 arg6 harg6 x0 x1 x2 x3 x4, runA_v99 c arg2 harg2 x0]
  all_goals rfl

theorem runA_v606 :
    runA.sl.v606 (F := F) c i arg2 harg2 arg3 harg3 arg5 harg5 arg6 harg6 x0 x1 x3 x4 = (blkAt i arg2 harg2 arg3 harg3 arg4 harg4 arg5 harg5 arg6 harg6 x0 x1 x2 x3 x4 6).dv := by
  rw [runA.sl.v606, runA.sl.cst_291, runA.sl.v605, runA_r_35 c i arg2 harg2 arg3 harg3 arg4 harg4 arg5 harg5 arg6 harg6 x0 x1 x2 x3 x4, runA_v139 c arg6 harg6 x4]
  all_goals rfl

theorem runA_v192 :
    runA.sl.v192 (F := F) c i arg2 harg2 arg3 harg3 x0 x1 = (blkAt i arg2 harg2 arg3 harg3 arg4 harg4 arg5 harg5 arg6 harg6 x0 x1 x2 x3 x4 7).sc := by
  rw [runA.sl.v192, runA.sl.v149, runA.sl.cst_150, runA.sl.v190, runA.sl.cst_149, runA.sl.v189, runA_v104 c arg2 harg2 x0]
  all_goals rfl

theorem runA_r_37 :
    runA.sl.r_37 (F := F) c i arg2 harg2 arg3 harg3 arg5 harg5 x0 x1 x3 = (blkAt i arg2 harg2 arg3 harg3 arg4 harg4 arg5 harg5 arg6 harg6 x0 x1 x2 x3 x4 7).p := by
  rw [runA.sl.r_37, runA.sl.v18, runA.sl.v3, runA_r c arg5 harg5 x3, runA_v192 c i arg2 harg2 arg3 harg3 arg4 harg4 arg5 harg5 arg6 harg6 x0 x1 x2 x3 x4]
  all_goals rfl

theorem runA_r_38 :
    runA.sl.r_38 (F := F) c i arg2 harg2 arg3 harg3 arg5 harg5 x0 x1 x3 = (blkAt i arg2 harg2 arg3 harg3 arg4 harg4 arg5 harg5 arg6 harg6 x0 x1 x2 x3 x4 7).pe := by
  rw [runA.sl.r_38, runA.sl.v18, runA.sl.v3, runA_r c arg5 harg5 x3, runA_v192 c i arg2 harg2 arg3 harg3 arg4 harg4 arg5 harg5 arg6 harg6 x0 x1 x2 x3 x4]
  all_goals rfl

theorem runA_r_14 :
    runA.sl.r_14 (F := F) c i arg4 harg4 arg6 harg6 x2 x4 = (blkAt i arg2 harg2 arg3 harg3 arg4 harg4 arg5 harg5 arg6 harg6 x0 x1 x2 x3 x4 7).dp := by
  rw [runA.sl.r_14, runA_v144 c arg6 harg6 x4]
  all_goals rfl

theorem runA_v504 :
    runA.sl.v504 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dl := by
  rw [runA.sl.v504, runA.sl.v503, runA.sl.v502, runA_r_37 c i arg2 harg2 arg3 harg3 arg4 harg4 arg5 harg5 arg6 harg6 x0 x1 x2 x3 x4, runA_r_14 c i arg2 harg2 arg3 harg3 arg4 harg4 arg5 harg5 arg6 harg6 x0 x1 x2 x3 x4]
  all_goals rfl

theorem runA_v552 :
    runA.sl.v552 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).ds := by
  rw [runA.sl.v552, runA.sl.v551, runA.sl.v149, runA.sl.cst_150, runA.sl.v549, runA.sl.v548, runA.sl.v547, runA_r_37 c i arg2 harg2 arg3 harg3 arg4 harg4 arg5 harg5 arg6 harg6 x0 x1 x2 x3 x4, runA_r_14 c i arg2 harg2 arg3 harg3 arg4 harg4 arg5 harg5 arg6 harg6 x0 x1 x2 x3 x4, runA_v504 c i arg2 harg2 arg3 harg3 arg4 harg4 arg5 harg5 arg6 harg6 x0 x1 x2 x3 x4]
  all_goals rfl

theorem runA_v584 :
    runA.sl.v584 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dq := by
  rw [runA.sl.v584, runA.sl.cst_276, runA.sl.v583, runA.sl.r_43, runA_v552 c i arg2 harg2 arg3 harg3 arg4 harg4 arg5 harg5 arg6 harg6 x0 x1 x2 x3 x4]
  all_goals rfl

theorem runA_v592 :
    runA.sl.v592 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dk := by
  rw [runA.sl.v592, runA.sl.cst_291, runA_v552 c i arg2 harg2 arg3 harg3 arg4 harg4 arg5 harg5 arg6 harg6 x0 x1 x2 x3 x4, runA_v104 c arg2 harg2 x0]
  all_goals rfl

theorem runA_v608 :
    runA.sl.v608 (F := F) c i arg2 harg2 arg3 harg3 arg5 harg5 arg6 harg6 x0 x1 x3 x4 = (blkAt i arg2 harg2 arg3 harg3 arg4 harg4 arg5 harg5 arg6 harg6 x0 x1 x2 x3 x4 7).dv := by
  rw [runA.sl.v608, runA.sl.cst_291, runA.sl.v607, runA_r_37 c i arg2 harg2 arg3 harg3 arg4 harg4 arg5 harg5 arg6 harg6 x0 x1 x2 x3 x4, runA_v144 c arg6 harg6 x4]
  all_goals rfl

theorem runA_v681 :
    runA.sl.v681 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 0 := by
  rw [runA.sl.v681, runA.sl.v679, runA.sl.v680, runA.sl.cst_535, runA_v585 c i arg2 harg2 arg3 harg3 arg4 harg4 arg5 harg5 arg6 harg6 x0 x1 x2 x3 x4]
  all_goals rfl

theorem runA_v704 :
    runA.sl.v704 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 1 := by
  rw [runA.sl.v704, runA.sl.v703, runA.sl.v702, runA.sl.v700, runA.sl.v680, runA.sl.cst_535, runA_v585 c i arg2 harg2 arg3 harg3 arg4 harg4 arg5 harg5 arg6 harg6 x0 x1 x2 x3 x4, runA_v586 c i arg2 harg2 arg3 harg3 arg4 harg4 arg5 harg5 arg6 harg6 x0 x1 x2 x3 x4]
  all_goals rfl

theorem runA_v731 :
    runA.sl.v731 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 2 := by
  rw [runA.sl.v731, runA.sl.v730, runA.sl.v729, runA.sl.v728, runA.sl.v727, runA.sl.v725, runA.sl.v680, runA.sl.cst_535, runA_v585 c i arg2 harg2 arg3 harg3 arg4 harg4 arg5 harg5 arg6 harg6 x0 x1 x2 x3 x4, runA_v586 c i arg2 harg2 arg3 harg3 arg4 harg4 arg5 harg5 arg6 harg6 x0 x1 x2 x3 x4, runA_v587 c i arg2 harg2 arg3 harg3 arg4 harg4 arg5 harg5 arg6 harg6 x0 x1 x2 x3 x4]
  all_goals rfl

theorem runA_v760 :
    runA.sl.v760 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 3 := by
  rw [runA.sl.v760, runA.sl.v759, runA.sl.v758, runA.sl.v757, runA.sl.v756, runA.sl.v754, runA.sl.v680, runA.sl.cst_535, runA_v586 c i arg2 harg2 arg3 harg3 arg4 harg4 arg5 harg5 arg6 harg6 x0 x1 x2 x3 x4, runA_v587 c i arg2 harg2 arg3 harg3 arg4 harg4 arg5 harg5 arg6 harg6 x0 x1 x2 x3 x4, runA_v588 c i arg2 harg2 arg3 harg3 arg4 harg4 arg5 harg5 arg6 harg6 x0 x1 x2 x3 x4]
  all_goals rfl

theorem runA_v789 :
    runA.sl.v789 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 4 := by
  rw [runA.sl.v789, runA.sl.v788, runA.sl.v787, runA.sl.v786, runA.sl.v785, runA.sl.v783, runA.sl.v680, runA.sl.cst_535, runA_v587 c i arg2 harg2 arg3 harg3 arg4 harg4 arg5 harg5 arg6 harg6 x0 x1 x2 x3 x4, runA_v588 c i arg2 harg2 arg3 harg3 arg4 harg4 arg5 harg5 arg6 harg6 x0 x1 x2 x3 x4, runA_v589 c i arg2 harg2 arg3 harg3 arg4 harg4 arg5 harg5 arg6 harg6 x0 x1 x2 x3 x4]
  all_goals rfl

theorem runA_v818 :
    runA.sl.v818 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 5 := by
  rw [runA.sl.v818, runA.sl.v817, runA.sl.v816, runA.sl.v815, runA.sl.v814, runA.sl.v812, runA.sl.v680, runA.sl.cst_535, runA_v588 c i arg2 harg2 arg3 harg3 arg4 harg4 arg5 harg5 arg6 harg6 x0 x1 x2 x3 x4, runA_v589 c i arg2 harg2 arg3 harg3 arg4 harg4 arg5 harg5 arg6 harg6 x0 x1 x2 x3 x4, runA_v590 c i arg2 harg2 arg3 harg3 arg4 harg4 arg5 harg5 arg6 harg6 x0 x1 x2 x3 x4]
  all_goals rfl

theorem runA_v847 :
    runA.sl.v847 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 6 := by
  rw [runA.sl.v847, runA.sl.v846, runA.sl.v845, runA.sl.v844, runA.sl.v843, runA.sl.v841, runA.sl.v680, runA.sl.cst_535, runA_v589 c i arg2 harg2 arg3 harg3 arg4 harg4 arg5 harg5 arg6 harg6 x0 x1 x2 x3 x4, runA_v590 c i arg2 harg2 arg3 harg3 arg4 harg4 arg5 harg5 arg6 harg6 x0 x1 x2 x3 x4, runA_v591 c i arg2 harg2 arg3 harg3 arg4 harg4 arg5 harg5 arg6 harg6 x0 x1 x2 x3 x4]
  all_goals rfl

theorem runA_v876 :
    runA.sl.v876 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 7 := by
  rw [runA.sl.v876, runA.sl.v875, runA.sl.v874, runA.sl.v873, runA.sl.v872, runA.sl.v870, runA.sl.v680, runA.sl.cst_535, runA_v590 c i arg2 harg2 arg3 harg3 arg4 harg4 arg5 harg5 arg6 harg6 x0 x1 x2 x3 x4, runA_v591 c i arg2 harg2 arg3 harg3 arg4 harg4 arg5 harg5 arg6 harg6 x0 x1 x2 x3 x4, runA_v592 c i arg2 harg2 arg3 harg3 arg4 harg4 arg5 harg5 arg6 harg6 x0 x1 x2 x3 x4]
  all_goals rfl

theorem runA_v903 :
    runA.sl.v903 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 8 := by
  rw [runA.sl.v903, runA.sl.v902, runA.sl.v901, runA.sl.v899, runA.sl.v680, runA.sl.cst_535, runA_v591 c i arg2 harg2 arg3 harg3 arg4 harg4 arg5 harg5 arg6 harg6 x0 x1 x2 x3 x4, runA_v592 c i arg2 harg2 arg3 harg3 arg4 harg4 arg5 harg5 arg6 harg6 x0 x1 x2 x3 x4]
  all_goals rfl

theorem runA_v926 :
    runA.sl.v926 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 9 := by
  rw [runA.sl.v926, runA.sl.v924, runA.sl.v680, runA.sl.cst_535, runA_v592 c i arg2 harg2 arg3 harg3 arg4 harg4 arg5 harg5 arg6 harg6 x0 x1 x2 x3 x4]
  all_goals rfl

theorem runA_v690 :
    runA.sl.v690 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 0 := by
  rw [runA.sl.v690, runA.sl.v688, runA.sl.v680, runA.sl.cst_535, runA_v594 c i arg2 harg2 arg3 harg3 arg4 harg4 arg5 harg5 arg6 harg6 x0 x1 x2 x3 x4]
  all_goals rfl

theorem runA_v715 :
    runA.sl.v715 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 1 := by
  rw [runA.sl.v715, runA.sl.v714, runA.sl.v713, runA.sl.v711, runA.sl.v680, runA.sl.cst_535, runA_v594 c i arg2 harg2 arg3 harg3 arg4 harg4 arg5 harg5 arg6 harg6 x0 x1 x2 x3 x4, runA_v596 c i arg2 harg2 arg3 harg3 arg4 harg4 arg5 harg5 arg6 harg6 x0 x1 x2 x3 x4]
  all_goals rfl

theorem runA_v744 :
    runA.sl.v744 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 2 := by
  rw [runA.sl.v744, runA.sl.v743, runA.sl.v742, runA.sl.v741, runA.sl.v740, runA.sl.v738, runA.sl.v680, runA.sl.cst_535, runA_v594 c i arg2 harg2 arg3 harg3 arg4 harg4 arg5 harg5 arg6 harg6 x0 x1 x2 x3 x4, runA_v596 c i arg2 harg2 arg3 harg3 arg4 harg4 arg5 harg5 arg6 harg6 x0 x1 x2 x3 x4, runA_v598 c i arg2 harg2 arg3 harg3 arg4 harg4 arg5 harg5 arg6 harg6 x0 x1 x2 x3 x4]
  all_goals rfl

theorem runA_v773 :
    runA.sl.v773 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 3 := by
  rw [runA.sl.v773, runA.sl.v772, runA.sl.v771, runA.sl.v770, runA.sl.v769, runA.sl.v767, runA.sl.v680, runA.sl.cst_535, runA_v596 c i arg2 harg2 arg3 harg3 arg4 harg4 arg5 harg5 arg6 harg6 x0 x1 x2 x3 x4, runA_v598 c i arg2 harg2 arg3 harg3 arg4 harg4 arg5 harg5 arg6 harg6 x0 x1 x2 x3 x4, runA_v600 c i arg2 harg2 arg3 harg3 arg4 harg4 arg5 harg5 arg6 harg6 x0 x1 x2 x3 x4]
  all_goals rfl

theorem runA_v802 :
    runA.sl.v802 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 4 := by
  rw [runA.sl.v802, runA.sl.v801, runA.sl.v800, runA.sl.v799, runA.sl.v798, runA.sl.v796, runA.sl.v680, runA.sl.cst_535, runA_v598 c i arg2 harg2 arg3 harg3 arg4 harg4 arg5 harg5 arg6 harg6 x0 x1 x2 x3 x4, runA_v600 c i arg2 harg2 arg3 harg3 arg4 harg4 arg5 harg5 arg6 harg6 x0 x1 x2 x3 x4, runA_v602 c i arg2 harg2 arg3 harg3 arg4 harg4 arg5 harg5 arg6 harg6 x0 x1 x2 x3 x4]
  all_goals rfl

theorem runA_v831 :
    runA.sl.v831 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 5 := by
  rw [runA.sl.v831, runA.sl.v830, runA.sl.v829, runA.sl.v828, runA.sl.v827, runA.sl.v825, runA.sl.v680, runA.sl.cst_535, runA_v600 c i arg2 harg2 arg3 harg3 arg4 harg4 arg5 harg5 arg6 harg6 x0 x1 x2 x3 x4, runA_v602 c i arg2 harg2 arg3 harg3 arg4 harg4 arg5 harg5 arg6 harg6 x0 x1 x2 x3 x4, runA_v604 c i arg2 harg2 arg3 harg3 arg4 harg4 arg5 harg5 arg6 harg6 x0 x1 x2 x3 x4]
  all_goals rfl

theorem runA_v860 :
    runA.sl.v860 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 6 := by
  rw [runA.sl.v860, runA.sl.v859, runA.sl.v858, runA.sl.v857, runA.sl.v856, runA.sl.v854, runA.sl.v680, runA.sl.cst_535, runA_v602 c i arg2 harg2 arg3 harg3 arg4 harg4 arg5 harg5 arg6 harg6 x0 x1 x2 x3 x4, runA_v604 c i arg2 harg2 arg3 harg3 arg4 harg4 arg5 harg5 arg6 harg6 x0 x1 x2 x3 x4, runA_v606 c i arg2 harg2 arg3 harg3 arg4 harg4 arg5 harg5 arg6 harg6 x0 x1 x2 x3 x4]
  all_goals rfl

theorem runA_v889 :
    runA.sl.v889 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 7 := by
  rw [runA.sl.v889, runA.sl.v888, runA.sl.v887, runA.sl.v886, runA.sl.v885, runA.sl.v883, runA.sl.v680, runA.sl.cst_535, runA_v604 c i arg2 harg2 arg3 harg3 arg4 harg4 arg5 harg5 arg6 harg6 x0 x1 x2 x3 x4, runA_v606 c i arg2 harg2 arg3 harg3 arg4 harg4 arg5 harg5 arg6 harg6 x0 x1 x2 x3 x4, runA_v608 c i arg2 harg2 arg3 harg3 arg4 harg4 arg5 harg5 arg6 harg6 x0 x1 x2 x3 x4]
  all_goals rfl

theorem runA_v914 :
    runA.sl.v914 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 8 := by
  rw [runA.sl.v914, runA.sl.v913, runA.sl.v912, runA.sl.v910, runA.sl.v680, runA.sl.cst_535, runA_v606 c i arg2 harg2 arg3 harg3 arg4 harg4 arg5 harg5 arg6 harg6 x0 x1 x2 x3 x4, runA_v608 c i arg2 harg2 arg3 harg3 arg4 harg4 arg5 harg5 arg6 harg6 x0 x1 x2 x3 x4]
  all_goals rfl

theorem runA_v935 :
    runA.sl.v935 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 9 := by
  rw [runA.sl.v935, runA.sl.v933, runA.sl.v680, runA.sl.cst_535, runA_v608 c i arg2 harg2 arg3 harg3 arg4 harg4 arg5 harg5 arg6 harg6 x0 x1 x2 x3 x4]
  all_goals rfl

theorem runA_H6_2 :
    runA.sl.H6_2 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 1 (by decide) := by
  rw [runA.sl.H6_2, runA.sl.v682, runA.sl.v678, runA.sl.v677, runA.sl.H6_1, runA.sl.v1231, runA.sl.cst_535, runA_v681 c i arg2 harg2 arg3 harg3 arg4 harg4 arg5 harg5 arg6 harg6 x0 x1 x2 x3 x4]
  all_goals rfl

theorem runA_H6_3 :
    runA.sl.H6_3 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 2 (by decide) := by
  rw [runA.sl.H6_3, runA.sl.v705, runA.sl.v699, runA.sl.v698, runA_H6_2 c i arg2 harg2 arg3 harg3 arg4 harg4 arg5 harg5 arg6 harg6 arg8 x0 x1 x2 x3 x4, runA_v704 c i arg2 harg2 arg3 harg3 arg4 harg4 arg5 harg5 arg6 harg6 x0 x1 x2 x3 x4]
  all_goals rfl

theorem runA_H6_4 :
    runA.sl.H6_4 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 3 (by decide) := by
  rw [runA.sl.H6_4, runA.sl.v732, runA.sl.v724, runA.sl.v723, runA_H6_3 c i arg2 harg2 arg3 harg3 arg4 harg4 arg5 harg5 arg6 harg6 arg8 x0 x1 x2 x3 x4, runA_v731 c i arg2 harg2 arg3 harg3 arg4 harg4 arg5 harg5 arg6 harg6 x0 x1 x2 x3 x4]
  all_goals rfl

theorem runA_H6_5 :
    runA.sl.H6_5 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 4 (by decide) := by
  rw [runA.sl.H6_5, runA.sl.v761, runA.sl.v753, runA.sl.v752, runA_H6_4 c i arg2 harg2 arg3 harg3 arg4 harg4 arg5 harg5 arg6 harg6 arg8 x0 x1 x2 x3 x4, runA_v760 c i arg2 harg2 arg3 harg3 arg4 harg4 arg5 harg5 arg6 harg6 x0 x1 x2 x3 x4]
  all_goals rfl

theorem runA_H6_6 :
    runA.sl.H6_6 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 5 (by decide) := by
  rw [runA.sl.H6_6, runA.sl.v790, runA.sl.v782, runA.sl.v781, runA_H6_5 c i arg2 harg2 arg3 harg3 arg4 harg4 arg5 harg5 arg6 harg6 arg8 x0 x1 x2 x3 x4, runA_v789 c i arg2 harg2 arg3 harg3 arg4 harg4 arg5 harg5 arg6 harg6 x0 x1 x2 x3 x4]
  all_goals rfl

theorem runA_H6_7 :
    runA.sl.H6_7 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 6 (by decide) := by
  rw [runA.sl.H6_7, runA.sl.v819, runA.sl.v811, runA.sl.v810, runA_H6_6 c i arg2 harg2 arg3 harg3 arg4 harg4 arg5 harg5 arg6 harg6 arg8 x0 x1 x2 x3 x4, runA_v818 c i arg2 harg2 arg3 harg3 arg4 harg4 arg5 harg5 arg6 harg6 x0 x1 x2 x3 x4]
  all_goals rfl

theorem runA_H6_8 :
    runA.sl.H6_8 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 7 (by decide) := by
  rw [runA.sl.H6_8, runA.sl.v848, runA.sl.v840, runA.sl.v839, runA_H6_7 c i arg2 harg2 arg3 harg3 arg4 harg4 arg5 harg5 arg6 harg6 arg8 x0 x1 x2 x3 x4, runA_v847 c i arg2 harg2 arg3 harg3 arg4 harg4 arg5 harg5 arg6 harg6 x0 x1 x2 x3 x4]
  all_goals rfl

theorem runA_H6_9 :
    runA.sl.H6_9 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 8 (by decide) := by
  rw [runA.sl.H6_9, runA.sl.v877, runA.sl.v869, runA.sl.v868, runA_H6_8 c i arg2 harg2 arg3 harg3 arg4 harg4 arg5 harg5 arg6 harg6 arg8 x0 x1 x2 x3 x4, runA_v876 c i arg2 harg2 arg3 harg3 arg4 harg4 arg5 harg5 arg6 harg6 x0 x1 x2 x3 x4]
  all_goals rfl

theorem runA_H6_10 :
    runA.sl.H6_10 (F := F) c i arg2 harg2 arg3 harg3 arg4 harg4 arg5 harg5 arg6 harg6 arg8 x0 x1 x2 x3 x4 = accListA i arg8 (fun b => (blkAt i arg2 harg2 arg3 harg3 arg4 harg4 arg5 harg5 arg6 harg6 x0 x1 x2 x3 x4 b).dk) 9 (by decide) := by
  rw [runA.sl.H6_10, runA.sl.v904, runA.sl.v898, runA.sl.v897, runA_H6_9 c i arg2 harg2 arg3 harg3 arg4 harg4 arg5 harg5 arg6 harg6 arg8 x0 x1 x2 x3 x4, runA_v903 c i arg2 harg2 arg3 harg3 arg4 harg4 arg5 harg5 arg6 harg6 x0 x1 x2 x3 x4]
  all_goals rfl

theorem runA_H7_2 :
    runA.sl.H7_2 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 1 (by decide) := by
  rw [runA.sl.H7_2, runA.sl.v691, runA.sl.v687, runA.sl.v686, runA.sl.H6_1, runA.sl.v1231, runA.sl.cst_535, runA_v690 c i arg2 harg2 arg3 harg3 arg4 harg4 arg5 harg5 arg6 harg6 x0 x1 x2 x3 x4]
  all_goals rfl

theorem runA_H7_3 :
    runA.sl.H7_3 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 2 (by decide) := by
  rw [runA.sl.H7_3, runA.sl.v716, runA.sl.v710, runA.sl.v709, runA_H7_2 c i arg2 harg2 arg3 harg3 arg4 harg4 arg5 harg5 arg6 harg6 arg9 x0 x1 x2 x3 x4, runA_v715 c i arg2 harg2 arg3 harg3 arg4 harg4 arg5 harg5 arg6 harg6 x0 x1 x2 x3 x4]
  all_goals rfl

theorem runA_H7_4 :
    runA.sl.H7_4 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 3 (by decide) := by
  rw [runA.sl.H7_4, runA.sl.v745, runA.sl.v737, runA.sl.v736, runA_H7_3 c i arg2 harg2 arg3 harg3 arg4 harg4 arg5 harg5 arg6 harg6 arg9 x0 x1 x2 x3 x4, runA_v744 c i arg2 harg2 arg3 harg3 arg4 harg4 arg5 harg5 arg6 harg6 x0 x1 x2 x3 x4]
  all_goals rfl

theorem runA_H7_5 :
    runA.sl.H7_5 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 4 (by decide) := by
  rw [runA.sl.H7_5, runA.sl.v774, runA.sl.v766, runA.sl.v765, runA_H7_4 c i arg2 harg2 arg3 harg3 arg4 harg4 arg5 harg5 arg6 harg6 arg9 x0 x1 x2 x3 x4, runA_v773 c i arg2 harg2 arg3 harg3 arg4 harg4 arg5 harg5 arg6 harg6 x0 x1 x2 x3 x4]
  all_goals rfl

theorem runA_H7_6 :
    runA.sl.H7_6 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 5 (by decide) := by
  rw [runA.sl.H7_6, runA.sl.v803, runA.sl.v795, runA.sl.v794, runA_H7_5 c i arg2 harg2 arg3 harg3 arg4 harg4 arg5 harg5 arg6 harg6 arg9 x0 x1 x2 x3 x4, runA_v802 c i arg2 harg2 arg3 harg3 arg4 harg4 arg5 harg5 arg6 harg6 x0 x1 x2 x3 x4]
  all_goals rfl

theorem runA_H7_7 :
    runA.sl.H7_7 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 6 (by decide) := by
  rw [runA.sl.H7_7, runA.sl.v832, runA.sl.v824, runA.sl.v823, runA_H7_6 c i arg2 harg2 arg3 harg3 arg4 harg4 arg5 harg5 arg6 harg6 arg9 x0 x1 x2 x3 x4, runA_v831 c i arg2 harg2 arg3 harg3 arg4 harg4 arg5 harg5 arg6 harg6 x0 x1 x2 x3 x4]
  all_goals rfl

theorem runA_H7_8 :
    runA.sl.H7_8 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 7 (by decide) := by
  rw [runA.sl.H7_8, runA.sl.v861, runA.sl.v853, runA.sl.v852, runA_H7_7 c i arg2 harg2 arg3 harg3 arg4 harg4 arg5 harg5 arg6 harg6 arg9 x0 x1 x2 x3 x4, runA_v860 c i arg2 harg2 arg3 harg3 arg4 harg4 arg5 harg5 arg6 harg6 x0 x1 x2 x3 x4]
  all_goals rfl

theorem runA_H7_9 :
    runA.sl.H7_9 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 8 (by decide) := by
  rw [runA.sl.H7_9, runA.sl.v890, runA.sl.v882, runA.sl.v881, runA_H7_8 c i arg2 harg2 arg3 harg3 arg4 harg4 arg5 harg5 arg6 harg6 arg9 x0 x1 x2 x3 x4, runA_v889 c i arg2 harg2 arg3 harg3 arg4 harg4 arg5 harg5 arg6 harg6 x0 x1 x2 x3 x4]
  all_goals rfl

theorem runA_H7_10 :
    runA.sl.H7_10 (F := F) c i arg2 harg2 arg3 harg3 arg5 harg5 arg6 harg6 arg9 x0 x1 x3 x4 = accListA i arg9 (fun b => (blkAt i arg2 harg2 arg3 harg3 arg4 harg4 arg5 harg5 arg6 harg6 x0 x1 x2 x3 x4 b).dv) 9 (by decide) := by
  rw [runA.sl.H7_10, runA.sl.v915, runA.sl.v909, runA.sl.v908, runA_H7_9 c i arg2 harg2 arg3 harg3 arg4 harg4 arg5 harg5 arg6 harg6 arg9 x0 x1 x2 x3 x4, runA_v914 c i arg2 harg2 arg3 harg3 arg4 harg4 arg5 harg5 arg6 harg6 x0 x1 x2 x3 x4]
  all_goals rfl

theorem runA_H8_2 :
    runA.sl.H8_2 (F := F) c i arg2 harg2 arg3 harg3 arg4 harg4 arg5 harg5 arg6 harg6 arg10 x0 x1 x2 x3 x4 = sinkListA arg10 (fun b => (blkAt i arg2 harg2 arg3 harg3 arg4 harg4 arg5 harg5 arg6 harg6 x0 x1 x2 x3 x4 b).pe) (fun b => (blkAt i arg2 harg2 arg3 harg3 arg4 harg4 arg5 harg5 arg6 harg6 x0 x1 x2 x3 x4 b).dl) 1 (by decide) := by
  rw [runA.sl.H8_2, runA.sl.v1011, runA.sl.v1008, runA.sl.v1007, runA.sl.v1006, runA.sl.v1003, runA.sl.v1002, runA.sl.v1001, runA.sl.v1000, runA.sl.v999, runA.sl.v998, runA.sl.v996, runA.sl.v995, runA.sl.v994, runA.sl.v993, runA.sl.v992, runA.sl.v991, runA.sl.v990, runA.sl.v988, runA.sl.v987, runA.sl.v986, runA.sl.v985, runA.sl.v984, runA.sl.v983, runA.sl.v982, runA.sl.v980, runA.sl.v979, runA.sl.v978, runA.sl.v977, runA.sl.v976, runA.sl.v975, runA.sl.v974, runA.sl.v972, runA.sl.v971, runA.sl.v970, runA.sl.v969, runA.sl.v968, runA.sl.v967, runA.sl.v966, runA.sl.v964, runA.sl.v963, runA.sl.v962, runA.sl.v961, runA.sl.v960, runA.sl.v959, runA.sl.v958, runA.sl.v956, runA.sl.v955, runA.sl.v954, runA.sl.v953, runA.sl.v952, runA.sl.v951, runA.sl.v950, runA.sl.v948, runA.sl.v947, runA.sl.v945, runA.sl.v944, runA.sl.v943, runA.sl.v942, runA.sl.v941, runA.sl.v939, runA.sl.v940, runA.sl.v946, runA.sl.v1005, runA.sl.v1004, runA.sl.H8_1, runA.sl.v1238, runA.sl.v1235, runA.sl.cst_535, runA_r_16 c i arg2 harg2 arg3 harg3 arg4 harg4 arg5 harg5 arg6 harg6 x0 x1 x2 x3 x4, runA_r_39 c i arg2 harg2 arg3 harg3 arg4 harg4 arg5 harg5 arg6 harg6 x0 x1 x2 x3 x4, runA_r_18 c i arg2 harg2 arg3 harg3 arg4 harg4 arg5 harg5 arg6 harg6 x0 x1 x2 x3 x4, runA_r_40 c i arg2 harg2 arg3 harg3 arg4 harg4 arg5 harg5 arg6 harg6 x0 x1 x2 x3 x4, runA_r_21 c i arg2 harg2 arg3 harg3 arg4 harg4 arg5 harg5 arg6 harg6 x0 x1 x2 x3 x4, runA_r_41 c i arg2 harg2 arg3 harg3 arg4 harg4 arg5 harg5 arg6 harg6 x0 x1 x2 x3 x4, runA_r_26 c i arg2 harg2 arg3 harg3 arg4 harg4 arg5 harg5 arg6 harg6 x0 x1 x2 x3 x4, runA_v492 c i arg2 harg2 arg3 harg3 arg4 harg4 arg5 harg5 arg6 harg6 x0 x1 x2 x3 x4, runA_r_28 c i arg2 harg2 arg3 harg3 arg4 harg4 arg5 harg5 arg6 harg6 x0 x1 x2 x3 x4, runA_v495 c i arg2 harg2 arg3 harg3 arg4 harg4 arg5 harg5 arg6 harg6 x0 x1 x2 x3 x4, runA_r_31 c i arg2 harg2 arg3 harg3 arg4 harg4 arg5 harg5 arg6 harg6 x0 x1 x2 x3 x4, runA_v498 c i arg2 harg2 arg3 harg3 arg4 harg4 arg5 harg5 arg6 harg6 x0 x1 x2 x3 x4, runA_r_36 c i arg2 harg2 arg3 harg3 arg4 harg4 arg5 harg5 arg6 harg6 x0 x1 x2 x3 x4, runA_v501 c i arg2 harg2 arg3 harg3 arg4 harg4 arg5 harg5 arg6 harg6 x0 x1 x2 x3 x4, runA_r_38 c i arg2 harg2 arg3 harg3 arg4 harg4 arg5 harg5 arg6 harg6 x0 x1 x2 x3 x4, runA_v504 c i arg2 harg2 arg3 harg3 arg4 harg4 arg5 harg5 arg6 harg6 x0 x1 x2 x3 x4]
  all_goals rfl

theorem runA_H8_3 :
    runA.sl.H8_3 (F := F) c i arg2 harg2 arg3 harg3 arg4 harg4 arg5 harg5 arg6 harg6 arg10 x0 x1 x2 x3 x4 = sinkListA arg10 (fun b => (blkAt i arg2 harg2 arg3 harg3 arg4 harg4 arg5 harg5 arg6 harg6 x0 x1 x2 x3 x4 b).pe) (fun b => (blkAt i arg2 harg2 arg3 harg3 arg4 harg4 arg5 harg5 arg6 harg6 x0 x1 x2 x3 x4 b).dl) 2 (by decide) := by
  rw [runA.sl.H8_3, runA.sl.v1084, runA.sl.v1081, runA.sl.v1080, runA.sl.v1079, runA.sl.v1076, runA.sl.v1075, runA.sl.v1074, runA.sl.v1073, runA.sl.v1072, runA.sl.v1071, runA.sl.v1069, runA.sl.v1068, runA.sl.v1067, runA.sl.v1066, runA.sl.v1065, runA.sl.v1064, runA.sl.v1063, runA.sl.v1061, runA.sl.v1060, runA.sl.v1059, runA.sl.v1058, runA.sl.v1057, runA.sl.v1056, runA.sl.v1055, runA.sl.v1053, runA.sl.v1052, runA.sl.v1051, runA.sl.v1050, runA.sl.v1049, runA.sl.v1048, runA.sl.v1047, runA.sl.v1045, runA.sl.v1044, runA.sl.v1043, runA.sl.v1042, runA.sl.v1041, runA.sl.v1040, runA.sl.v1039, runA.sl.v1037, runA.sl.v1036, runA.sl.v1035, runA.sl.v1034, runA.sl.v1033, runA.sl.v1032, runA.sl.v1031, runA.sl.v1029, runA.sl.v1028, runA.sl.v1027, runA.sl.v1026, runA.sl.v1025, runA.sl.v1024, runA.sl.v1023, runA.sl.v1021, runA.sl.v1020, runA.sl.v1018, runA.sl.v1017, runA.sl.v1016, runA.sl.v1015, runA.sl.v1014, runA.sl.v1012, runA.sl.v940, runA.sl.v946, runA.sl.cst_535, runA.sl.v1078, runA.sl.v1077, runA_H8_2 c i arg2 harg2 arg3 harg3 arg4 harg4 arg5 harg5 arg6 harg6 arg10 x0 x1 x2 x3 x4, runA_r_16 c i arg2 harg2 arg3 harg3 arg4 harg4 arg5 harg5 arg6 harg6 x0 x1 x2 x3 x4, runA_r_39 c i arg2 harg2 arg3 harg3 arg4 harg4 arg5 harg5 arg6 harg6 x0 x1 x2 x3 x4, runA_r_18 c i arg2 harg2 arg3 harg3 arg4 harg4 arg5 harg5 arg6 harg6 x0 x1 x2 x3 x4, runA_r_40 c i arg2 harg2 arg3 harg3 arg4 harg4 arg5 harg5 arg6 harg6 x0 x1 x2 x3 x4, runA_r_21 c i arg2 harg2 arg3 harg3 arg4 harg4 arg5 harg5 arg6 harg6 x0 x1 x2 x3 x4, runA_r_41 c i arg2 harg2 arg3 harg3 arg4 harg4 arg5 harg5 arg6 harg6 x0 x1 x2 x3 x4, runA_r_26 c i arg2 harg2 arg3 harg3 arg4 harg4 arg5 harg5 arg6 harg6 x0 x1 x2 x3 x4, runA_v492 c i arg2 harg2 arg3 harg3 arg4 harg4 arg5 harg5 arg6 harg6 x0 x1 x2 x3 x4, runA_r_28 c i arg2 harg2 arg3 harg3 arg4 harg4 arg5 harg5 arg6 harg6 x0 x1 x2 x3 x4, runA_v495 c i arg2 harg2 arg3 harg3 arg4 harg4 arg5 harg5 arg6 harg6 x0 x1 x2 x3 x4, runA_r_31 c i arg2 harg2 arg3 harg3 arg4 harg4 arg5 harg5 arg6 harg6 x0 x1 x2 x3 x4, runA_v498 c i arg2 harg2 arg3 harg3 arg4 harg4 arg5 harg5 arg6 harg6 x0 x1 x2 x3 x4, runA_r_36 c i arg2 harg2 arg3 harg3 arg4 harg4 arg5 harg5 arg6 harg6 x0 x1 x2 x3 x4, runA_v501 c i arg2 harg2 arg3 harg3 arg4 harg4 arg5 harg5 arg6 harg6 x0 x1 x2 x3 x4, runA_r_38 c i arg2 harg2 arg3 harg3 arg4 harg4 arg5 harg5 arg6 harg6 x0 x1 x2 x3 x4, runA_v504 c i arg2 harg2 arg3 harg3 arg4 harg4 arg5 harg5 arg6 harg6 x0 x1 x2 x3 x4]
  all_goals rfl

theorem runA_H8_4 :
    runA.sl.H8_4 (F := F) c i arg2 harg2 arg3 harg3 arg4 harg4 arg5 harg5 arg6 harg6 arg10 x0 x1 x2 x3 x4 = sinkListA arg10 (fun b => (blkAt i arg2 harg2 arg3 harg3 arg4 harg4 arg5 harg5 arg6 harg6 x0 x1 x2 x3 x4 b).pe) (fun b => (blkAt i arg2 harg2 arg3 harg3 arg4 harg4 arg5 harg5 arg6 harg6 x0 x1 x2 x3 x4 b).dl) 3 (by decide) := by
  rw [runA.sl.H8_4, runA.sl.v1157, runA.sl.v1154, runA.sl.v1153, runA.sl.v1152, runA.sl.v1149, runA.sl.v1148, runA.sl.v1147, runA.sl.v1146, runA.sl.v1145, runA.sl.v1144, runA.sl.v1142, runA.sl.v1141, runA.sl.v1140, runA.sl.v1139, runA.sl.v1138, runA.sl.v1137, runA.sl.v1136, runA.sl.v1134, runA.sl.v1133, runA.sl.v1132, runA.sl.v1131, runA.sl.v1130, runA.sl.v1129, runA.sl.v1128, runA.sl.v1126, runA.sl.v1125, runA.sl.v1124, runA.sl.v1123, runA.sl.v1122, runA.sl.v1121, runA.sl.v1120, runA.sl.v1118, runA.sl.v1117, runA.sl.v1116, runA.sl.v1115, runA.sl.v1114, runA.sl.v1113, runA.sl.v1112, runA.sl.v1110, runA.sl.v1109, runA.sl.v1108, runA.sl.v1107, runA.sl.v1106, runA.sl.v1105, runA.sl.v1104, runA.sl.v1102, runA.sl.v1101, runA.sl.v1100, runA.sl.v1099, runA.sl.v1098, runA.sl.v1097, runA.sl.v1096, runA.sl.v1094, runA.sl.v1093, runA.sl.v1091, runA.sl.v1090, runA.sl.v1089, runA.sl.v1088, runA.sl.v1087, runA.sl.v1085, runA.sl.v940, runA.sl.v946, runA.sl.cst_535, runA.sl.v1151, runA.sl.v1150, runA_H8_3 c i arg2 harg2 arg3 harg3 arg4 harg4 arg5 harg5 arg6 harg6 arg10 x0 x1 x2 x3 x4, runA_r_16 c i arg2 harg2 arg3 harg3 arg4 harg4 arg5 harg5 arg6 harg6 x0 x1 x2 x3 x4, runA_r_39 c i arg2 harg2 arg3 harg3 arg4 harg4 arg5 harg5 arg6 harg6 x0 x1 x2 x3 x4, runA_r_18 c i arg2 harg2 arg3 harg3 arg4 harg4 arg5 harg5 arg6 harg6 x0 x1 x2 x3 x4, runA_r_40 c i arg2 harg2 arg3 harg3 arg4 harg4 arg5 harg5 arg6 harg6 x0 x1 x2 x3 x4, runA_r_21 c i arg2 harg2 arg3 harg3 arg4 harg4 arg5 harg5 arg6 harg6 x0 x1 x2 x3 x4, runA_r_41 c i arg2 harg2 arg3 harg3 arg4 harg4 arg5 harg5 arg6 harg6 x0 x1 x2 x3 x4, runA_r_26 c i arg2 harg2 arg3 harg3 arg4 harg4 arg5 harg5 arg6 harg6 x0 x1 x2 x3 x4, runA_v492 c i arg2 harg2 arg3 harg3 arg4 harg4 arg5 harg5 arg6 harg6 x0 x1 x2 x3 x4, runA_r_28 c i arg2 harg2 arg3 harg3 arg4 harg4 arg5 harg5 arg6 harg6 x0 x1 x2 x3 x4, runA_v495 c i arg2 harg2 arg3 harg3 arg4 harg4 arg5 harg5 arg6 harg6 x0 x1 x2 x3 x4, runA_r_31 c i arg2 harg2 arg3 harg3 arg4 harg4 arg5 harg5 arg6 harg6 x0 x1 x2 x3 x4, runA_v498 c i arg2 harg2 arg3 harg3 arg4 harg4 arg5 harg5 arg6 harg6 x0 x1 x2 x3 x4, runA_r_36 c i arg2 harg2 arg3 harg3 arg4 harg4 arg5 harg5 arg6 harg6 x0 x1 x2 x3 x4, runA_v501 c i arg2 harg2 arg3 harg3 arg4 harg4 arg5 harg5 arg6 harg6 x0 x1 x2 x3 x4, runA_r_38 c i arg2 harg2 arg3 harg3 arg4 harg4 arg5 harg5 arg6 harg6 x0 x1 x2 x3 x4, runA_v504 c i arg2 harg2 arg3 harg3 arg4 harg4 arg5 harg5 arg6 harg6 x0 x1 x2 x3 x4]
  all_goals rfl

set_option maxHeartbeats 2000000 in
theorem runA_L5 (hc0 : cond0_0 i) :
    (runA c i arg2 harg2 arg3 harg3 arg4 harg4 arg5 harg5 arg6 harg6 arg7 harg7 arg8 harg8 arg9 harg9 arg10 harg10 hc0 x0 x1 x2 x3 x4).1 = dqList (fun b => (blkAt i arg2 harg2 arg3 harg3 arg4 harg4 arg5 harg5 arg6 harg6 x0 x1 x2 x3 x4 b).dq) := by
  unfold runA
  dsimp only
  rw [runA.sl.v671, runA.sl.v669, runA.sl.v667, runA.sl.v665, runA.sl.v663, runA.sl.v661, runA.sl.v659, runA.sl.v657, runA.sl.v655, runA.sl.v653, runA.sl.v651, runA.sl.v649, runA.sl.v647, runA.sl.v645, runA.sl.v643, runA.sl.v641, runA.sl.v639, runA.sl.v637, runA.sl.v635, runA.sl.v633, runA.sl.v631, runA.sl.v629, runA.sl.v627, runA.sl.v625, runA.sl.v623, runA.sl.v621, runA.sl.v619, runA.sl.v617, runA.sl.v615, runA.sl.v613, runA.sl.v611, runA.sl.v609, runA_v556 c i arg2 harg2 arg3 harg3 arg4 harg4 arg5 harg5 arg6 harg6 x0 x1 x2 x3 x4, runA_v560 c i arg2 harg2 arg3 harg3 arg4 harg4 arg5 harg5 arg6 harg6 x0 x1 x2 x3 x4, runA_v564 c i arg2 harg2 arg3 harg3 arg4 harg4 arg5 harg5 arg6 harg6 x0 x1 x2 x3 x4, runA_v568 c i arg2 harg2 arg3 harg3 arg4 harg4 arg5 harg5 arg6 harg6 x0 x1 x2 x3 x4, runA_v572 c i arg2 harg2 arg3 harg3 arg4 harg4 arg5 harg5 arg6 harg6 x0 x1 x2 x3 x4, runA_v576 c i arg2 harg2 arg3 harg3 arg4 harg4 arg5 harg5 arg6 harg6 x0 x1 x2 x3 x4, runA_v580 c i arg2 harg2 arg3 harg3 arg4 harg4 arg5 harg5 arg6 harg6 x0 x1 x2 x3 x4, runA_v584 c i arg2 harg2 arg3 harg3 arg4 harg4 arg5 harg5 arg6 harg6 x0 x1 x2 x3 x4]
  all_goals rfl

set_option maxHeartbeats 2000000 in
theorem runA_L6 (hc0 : cond0_0 i) :
    (runA c i arg2 harg2 arg3 harg3 arg4 harg4 arg5 harg5 arg6 harg6 arg7 harg7 arg8 harg8 arg9 harg9 arg10 harg10 hc0 x0 x1 x2 x3 x4).2.1 = accListA i arg8 (fun b => (blkAt i arg2 harg2 arg3 harg3 arg4 harg4 arg5 harg5 arg6 harg6 x0 x1 x2 x3 x4 b).dk) 10 (by decide) := by
  unfold runA
  dsimp only
  rw [runA.sl.v927, runA.sl.v923, runA.sl.v922, runA_H6_10 c i arg2 harg2 arg3 harg3 arg4 harg4 arg5 harg5 arg6 harg6 arg8 x0 x1 x2 x3 x4, runA_v926 c i arg2 harg2 arg3 harg3 arg4 harg4 arg5 harg5 arg6 harg6 x0 x1 x2 x3 x4]
  all_goals rfl

set_option maxHeartbeats 2000000 in
theorem runA_L7 (hc0 : cond0_0 i) :
    (runA c i arg2 harg2 arg3 harg3 arg4 harg4 arg5 harg5 arg6 harg6 arg7 harg7 arg8 harg8 arg9 harg9 arg10 harg10 hc0 x0 x1 x2 x3 x4).2.2.1 = accListA i arg9 (fun b => (blkAt i arg2 harg2 arg3 harg3 arg4 harg4 arg5 harg5 arg6 harg6 x0 x1 x2 x3 x4 b).dv) 10 (by decide) := by
  unfold runA
  dsimp only
  rw [runA.sl.v936, runA.sl.v932, runA.sl.v931, runA_H7_10 c i arg2 harg2 arg3 harg3 arg4 harg4 arg5 harg5 arg6 harg6 arg9 x0 x1 x2 x3 x4, runA_v935 c i arg2 harg2 arg3 harg3 arg4 harg4 arg5 harg5 arg6 harg6 x0 x1 x2 x3 x4]
  all_goals rfl

set_option maxHeartbeats 2000000 in
theorem runA_L8 (hc0 : cond0_0 i) :
    (runA c i arg2 harg2 arg3 harg3 arg4 harg4 arg5 harg5 arg6 harg6 arg7 harg7 arg8 harg8 arg9 harg9 arg10 harg10 hc0 x0 x1 x2 x3 x4).2.2.2.1 = sinkListA arg10 (fun b => (blkAt i arg2 harg2 arg3 harg3 arg4 harg4 arg5 harg5 arg6 harg6 x0 x1 x2 x3 x4 b).pe) (fun b => (blkAt i arg2 harg2 arg3 harg3 arg4 harg4 arg5 harg5 arg6 harg6 x0 x1 x2 x3 x4 b).dl) 4 (by decide) := by
  unfold runA
  dsimp only
  rw [runA.sl.v1223, runA.sl.r_45, runA.sl.r_44, runA.sl.v1188, runA.sl.v1187, runA.sl.v1186, runA.sl.v1185, runA.sl.v1183, runA.sl.v1182, runA.sl.v1181, runA.sl.v1180, runA.sl.v1179, runA.sl.v1178, runA.sl.v1177, runA.sl.v1175, runA.sl.v1174, runA.sl.v1173, runA.sl.v1172, runA.sl.v1171, runA.sl.v1170, runA.sl.v1169, runA.sl.v1167, runA.sl.v1166, runA.sl.v1164, runA.sl.v1163, runA.sl.v1162, runA.sl.v1161, runA.sl.v1160, runA.sl.v1158, runA.sl.v940, runA.sl.v946, runA.sl.cst_535, runA_r_38 c i arg2 harg2 arg3 harg3 arg4 harg4 arg5 harg5 arg6 harg6 x0 x1 x2 x3 x4, runA_v504 c i arg2 harg2 arg3 harg3 arg4 harg4 arg5 harg5 arg6 harg6 x0 x1 x2 x3 x4, runA_r_28 c i arg2 harg2 arg3 harg3 arg4 harg4 arg5 harg5 arg6 harg6 x0 x1 x2 x3 x4, runA_r_31 c i arg2 harg2 arg3 harg3 arg4 harg4 arg5 harg5 arg6 harg6 x0 x1 x2 x3 x4, runA_v495 c i arg2 harg2 arg3 harg3 arg4 harg4 arg5 harg5 arg6 harg6 x0 x1 x2 x3 x4, runA_v498 c i arg2 harg2 arg3 harg3 arg4 harg4 arg5 harg5 arg6 harg6 x0 x1 x2 x3 x4, runA_r_16 c i arg2 harg2 arg3 harg3 arg4 harg4 arg5 harg5 arg6 harg6 x0 x1 x2 x3 x4, runA_r_39 c i arg2 harg2 arg3 harg3 arg4 harg4 arg5 harg5 arg6 harg6 x0 x1 x2 x3 x4, runA_r_18 c i arg2 harg2 arg3 harg3 arg4 harg4 arg5 harg5 arg6 harg6 x0 x1 x2 x3 x4, runA_r_40 c i arg2 harg2 arg3 harg3 arg4 harg4 arg5 harg5 arg6 harg6 x0 x1 x2 x3 x4, runA_r_21 c i arg2 harg2 arg3 harg3 arg4 harg4 arg5 harg5 arg6 harg6 x0 x1 x2 x3 x4, runA_r_41 c i arg2 harg2 arg3 harg3 arg4 harg4 arg5 harg5 arg6 harg6 x0 x1 x2 x3 x4, runA_r_26 c i arg2 harg2 arg3 harg3 arg4 harg4 arg5 harg5 arg6 harg6 x0 x1 x2 x3 x4, runA_v492 c i arg2 harg2 arg3 harg3 arg4 harg4 arg5 harg5 arg6 harg6 x0 x1 x2 x3 x4, runA_r_36 c i arg2 harg2 arg3 harg3 arg4 harg4 arg5 harg5 arg6 harg6 x0 x1 x2 x3 x4, runA_v501 c i arg2 harg2 arg3 harg3 arg4 harg4 arg5 harg5 arg6 harg6 x0 x1 x2 x3 x4, runA_H8_4 c i arg2 harg2 arg3 harg3 arg4 harg4 arg5 harg5 arg6 harg6 arg10 x0 x1 x2 x3 x4]
  all_goals rfl

end Cert.AttnBwdIdeal.Attn

end
-- ==== Proof.AttnTileB.lean ====
module

public import proofs.«01_k».proof.Proof.AttnTile

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen Cert.AttnBwdIdeal.Run

variable {F : FTy → Type} [FloatOps F] [Named F]

/-! The stores of a later tile's run, as the lists of the blocks' results: each value the run names is, in turn, the
    block's function of the same name. -/

variable (c : Dev nD) (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4352x128 .f32) (harg8 : arg8.IsWhole) (arg9 : Memref sig .tc .vmem S4352x128 .f32) (harg9 : arg9.IsWhole) (arg10 : Memref sig .tc .vmem S1x4x128 .f32) (harg10 : arg10.IsWhole) (x0 : Vec F S1024x512 .bf16) (x1 : Vec F S4352x128 .bf16) (x2 : Vec F S4352x128 .bf16) (x3 : Vec F S1x4x128 .f32) (x4 : Vec F S1024x512 .bf16) (y6 : Vec F S4352x128 .f32) (y7 : Vec F S4352x128 .f32) (y8 : Vec F S1x4x128 .f32)

theorem runB_v69 :
    runB.sl.v69 (F := F) c arg2 harg2 x0 = stk arg2 harg2 x0 0 := by
  rw [runB.sl.v69, runB.sl.r_3, runB.sl.r_2, runB.sl.r_1]
  all_goals rfl

theorem runB_v74 :
    runB.sl.v74 (F := F) c arg2 harg2 x0 = stk arg2 harg2 x0 1 := by
  rw [runB.sl.v74]
  all_goals rfl

theorem runB_v79 :
    runB.sl.v79 (F := F) c arg2 harg2 x0 = stk arg2 harg2 x0 2 := by
  rw [runB.sl.v79]
  all_goals rfl

theorem runB_v84 :
    runB.sl.v84 (F := F) c arg2 harg2 x0 = stk arg2 harg2 x0 3 := by
  rw [runB.sl.v84]
  all_goals rfl

theorem runB_v89 :
    runB.sl.v89 (F := F) c arg2 harg2 x0 = stk arg2 harg2 x0 4 := by
  rw [runB.sl.v89]
  all_goals rfl

theorem runB_v94 :
    runB.sl.v94 (F := F) c arg2 harg2 x0 = stk arg2 harg2 x0 5 := by
  rw [runB.sl.v94, runB.sl.r_4]
  all_goals rfl

theorem runB_v99 :
    runB.sl.v99 (F := F) c arg2 harg2 x0 = stk arg2 harg2 x0 6 := by
  rw [runB.sl.v99]
  all_goals rfl

theorem runB_v104 :
    runB.sl.v104 (F := F) c arg2 harg2 x0 = stk arg2 harg2 x0 7 := by
  rw [runB.sl.v104]
  all_goals rfl

theorem runB_v109 :
    runB.sl.v109 (F := F) c arg6 harg6 x4 = stk arg6 harg6 x4 0 := by
  rw [runB.sl.v109]
  all_goals rfl

theorem runB_v114 :
    runB.sl.v114 (F := F) c arg6 harg6 x4 = stk arg6 harg6 x4 1 := by
  rw [runB.sl.v114, runB.sl.r_8, runB.sl.r_7, runB.sl.r_6, runB.sl.r_5]
  all_goals rfl

theorem runB_v119 :
    runB.sl.v119 (F := F) c arg6 harg6 x4 = stk arg6 harg6 x4 2 := by
  rw [runB.sl.v119]
  all_goals rfl

theorem runB_v124 :
    runB.sl.v124 (F := F) c arg6 harg6 x4 = stk arg6 harg6 x4 3 := by
  rw [runB.sl.v124]
  all_goals rfl

theorem runB_v129 :
    runB.sl.v129 (F := F) c arg6 harg6 x4 = stk arg6 harg6 x4 4 := by
  rw [runB.sl.v129]
  all_goals rfl

theorem runB_v134 :
    runB.sl.v134 (F := F) c arg6 harg6 x4 = stk arg6 harg6 x4 5 := by
  rw [runB.sl.v134]
  all_goals rfl

theorem runB_v139 :
    runB.sl.v139 (F := F) c arg6 harg6 x4 = stk arg6 harg6 x4 6 := by
  rw [runB.sl.v139, runB.sl.r_10, runB.sl.r_9]
  all_goals rfl

theorem runB_v144 :
    runB.sl.v144 (F := F) c arg6 harg6 x4 = stk arg6 harg6 x4 7 := by
  rw [runB.sl.v144]
  all_goals rfl

theorem runB_r :
    runB.sl.r (F := F) c arg5 harg5 x3 = snk arg5 harg5 x3 := by
  rw [runB.sl.r]
  all_goals rfl

theorem runB_v150 :
    runB.sl.v150 (F := F) c i arg2 harg2 arg3 harg3 x0 x1 = (blkAt i arg2 harg2 arg3 harg3 arg4 harg4 arg5 harg5 arg6 harg6 x0 x1 x2 x3 x4 0).sc := by
  rw [runB.sl.v150, runB.sl.v149, runB.sl.cst_150, runB.sl.v148, runB.sl.cst_149, runB.sl.v147, runB_v69 c arg2 harg2 x0]
  all_goals rfl

theorem runB_r_15 :
    runB.sl.r_15 (F := F) c i arg2 harg2 arg3 harg3 arg5 harg5 x0 x1 x3 = (blkAt i arg2 harg2 arg3 harg3 arg4 harg4 arg5 harg5 arg6 harg6 x0 x1 x2 x3 x4 0).p := by
  rw [runB.sl.r_15, runB.sl.v4, runB.sl.v3, runB_r c arg5 harg5 x3, runB_v150 c i arg2 harg2 arg3 harg3 arg4 harg4 arg5 harg5 arg6 harg6 x0 x1 x2 x3 x4]
  all_goals rfl

theorem runB_r_16 :
    runB.sl.r_16 (F := F) c i arg2 harg2 arg3 harg3 arg5 harg5 x0 x1 x3 = (blkAt i arg2 harg2 arg3 harg3 arg4 harg4 arg5 harg5 arg6 harg6 x0 x1 x2 x3 x4 0).pe := by
  rw [runB.sl.r_16, runB.sl.v4, runB.sl.v3, runB_r c arg5 harg5 x3, runB_v150 c i arg2 harg2 arg3 harg3 arg4 harg4 arg5 harg5 arg6 harg6 x0 x1 x2 x3 x4]
  all_goals rfl

theorem runB_v196 :
    runB.sl.v196 (F := F) c i arg4 harg4 arg6 harg6 x2 x4 = (blkAt i arg2 harg2 arg3 harg3 arg4 harg4 arg5 harg5 arg6 harg6 x0 x1 x2 x3 x4 0).dp := by
  rw [runB.sl.v196, runB.sl.cst_149, runB.sl.v195, runB_v109 c arg6 harg6 x4]
  all_goals rfl

theorem runB_r_39 :
    runB.sl.r_39 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dl := by
  rw [runB.sl.r_39, runB_v196 c i arg2 harg2 arg3 harg3 arg4 harg4 arg5 harg5 arg6 harg6 x0 x1 x2 x3 x4, runB_r_15 c i arg2 harg2 arg3 harg3 arg4 harg4 arg5 harg5 arg6 harg6 x0 x1 x2 x3 x4]
  all_goals rfl

theorem runB_v510 :
    runB.sl.v510 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).ds := by
  rw [runB.sl.v510, runB.sl.v509, runB.sl.v149, runB.sl.cst_150, runB.sl.v507, runB.sl.v506, runB.sl.v505, runB_r_15 c i arg2 harg2 arg3 harg3 arg4 harg4 arg5 harg5 arg6 harg6 x0 x1 x2 x3 x4, runB_v196 c i arg2 harg2 arg3 harg3 arg4 harg4 arg5 harg5 arg6 harg6 x0 x1 x2 x3 x4, runB_r_39 c i arg2 harg2 arg3 harg3 arg4 harg4 arg5 harg5 arg6 harg6 x0 x1 x2 x3 x4]
  all_goals rfl

theorem runB_v556 :
    runB.sl.v556 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dq := by
  rw [runB.sl.v556, runB.sl.cst_276, runB.sl.v147, runB_v510 c i arg2 harg2 arg3 harg3 arg4 harg4 arg5 harg5 arg6 harg6 x0 x1 x2 x3 x4]
  all_goals rfl

theorem runB_v585 :
    runB.sl.v585 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 0).dk := by
  rw [runB.sl.v585, runB.sl.cst_291, runB_v510 c i arg2 harg2 arg3 harg3 arg4 harg4 arg5 harg5 arg6 harg6 x0 x1 x2 x3 x4, runB_v69 c arg2 harg2 x0]
  all_goals rfl

theorem runB_v594 :
    runB.sl.v594 (F := F) c i arg2 harg2 arg3 harg3 arg5 harg5 arg6 harg6 x0 x1 x3 x4 = (blkAt i arg2 harg2 arg3 harg3 arg4 harg4 arg5 harg5 arg6 harg6 x0 x1 x2 x3 x4 0).dv := by
  rw [runB.sl.v594, runB.sl.cst_291, runB.sl.v593, runB_r_15 c i arg2 harg2 arg3 harg3 arg4 harg4 arg5 harg5 arg6 harg6 x0 x1 x2 x3 x4, runB_v109 c arg6 harg6 x4]
  all_goals rfl

theorem runB_v156 :
    runB.sl.v156 (F := F) c i arg2 harg2 arg3 harg3 x0 x1 = (blkAt i arg2 harg2 arg3 harg3 arg4 harg4 arg5 harg5 arg6 harg6 x0 x1 x2 x3 x4 1).sc := by
  rw [runB.sl.v156, runB.sl.v149, runB.sl.cst_150, runB.sl.v154, runB.sl.cst_149, runB.sl.v153, runB_v74 c arg2 harg2 x0]
  all_goals rfl

theorem runB_r_17 :
    runB.sl.r_17 (F := F) c i arg2 harg2 arg3 harg3 arg5 harg5 x0 x1 x3 = (blkAt i arg2 harg2 arg3 harg3 arg4 harg4 arg5 harg5 arg6 harg6 x0 x1 x2 x3 x4 1).p := by
  rw [runB.sl.r_17, runB.sl.v6, runB.sl.v3, runB_r c arg5 harg5 x3, runB_v156 c i arg2 harg2 arg3 harg3 arg4 harg4 arg5 harg5 arg6 harg6 x0 x1 x2 x3 x4]
  all_goals rfl

theorem runB_r_18 :
    runB.sl.r_18 (F := F) c i arg2 harg2 arg3 harg3 arg5 harg5 x0 x1 x3 = (blkAt i arg2 harg2 arg3 harg3 arg4 harg4 arg5 harg5 arg6 harg6 x0 x1 x2 x3 x4 1).pe := by
  rw [runB.sl.r_18, runB.sl.v6, runB.sl.v3, runB_r c arg5 harg5 x3, runB_v156 c i arg2 harg2 arg3 harg3 arg4 harg4 arg5 harg5 arg6 harg6 x0 x1 x2 x3 x4]
  all_goals rfl

theorem runB_v200 :
    runB.sl.v200 (F := F) c i arg4 harg4 arg6 harg6 x2 x4 = (blkAt i arg2 harg2 arg3 harg3 arg4 harg4 arg5 harg5 arg6 harg6 x0 x1 x2 x3 x4 1).dp := by
  rw [runB.sl.v200, runB.sl.cst_149, runB.sl.v199, runB_v114 c arg6 harg6 x4]
  all_goals rfl

theorem runB_r_40 :
    runB.sl.r_40 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dl := by
  rw [runB.sl.r_40, runB_v200 c i arg2 harg2 arg3 harg3 arg4 harg4 arg5 harg5 arg6 harg6 x0 x1 x2 x3 x4, runB_r_17 c i arg2 harg2 arg3 harg3 arg4 harg4 arg5 harg5 arg6 harg6 x0 x1 x2 x3 x4]
  all_goals rfl

theorem runB_v516 :
    runB.sl.v516 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).ds := by
  rw [runB.sl.v516, runB.sl.v515, runB.sl.v149, runB.sl.cst_150, runB.sl.v513, runB.sl.v512, runB.sl.v511, runB_r_17 c i arg2 harg2 arg3 harg3 arg4 harg4 arg5 harg5 arg6 harg6 x0 x1 x2 x3 x4, runB_v200 c i arg2 harg2 arg3 harg3 arg4 harg4 arg5 harg5 arg6 harg6 x0 x1 x2 x3 x4, runB_r_40 c i arg2 harg2 arg3 harg3 arg4 harg4 arg5 harg5 arg6 harg6 x0 x1 x2 x3 x4]
  all_goals rfl

theorem runB_v560 :
    runB.sl.v560 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dq := by
  rw [runB.sl.v560, runB.sl.cst_276, runB.sl.v153, runB_v516 c i arg2 harg2 arg3 harg3 arg4 harg4 arg5 harg5 arg6 harg6 x0 x1 x2 x3 x4]
  all_goals rfl

theorem runB_v586 :
    runB.sl.v586 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 1).dk := by
  rw [runB.sl.v586, runB.sl.cst_291, runB_v516 c i arg2 harg2 arg3 harg3 arg4 harg4 arg5 harg5 arg6 harg6 x0 x1 x2 x3 x4, runB_v74 c arg2 harg2 x0]
  all_goals rfl

theorem runB_v596 :
    runB.sl.v596 (F := F) c i arg2 harg2 arg3 harg3 arg5 harg5 arg6 harg6 x0 x1 x3 x4 = (blkAt i arg2 harg2 arg3 harg3 arg4 harg4 arg5 harg5 arg6 harg6 x0 x1 x2 x3 x4 1).dv := by
  rw [runB.sl.v596, runB.sl.cst_291, runB.sl.v595, runB_r_17 c i arg2 harg2 arg3 harg3 arg4 harg4 arg5 harg5 arg6 harg6 x0 x1 x2 x3 x4, runB_v114 c arg6 harg6 x4]
  all_goals rfl

theorem runB_v162 :
    runB.sl.v162 (F := F) c i arg2 harg2 arg3 harg3 x0 x1 = (blkAt i arg2 harg2 arg3 harg3 arg4 harg4 arg5 harg5 arg6 harg6 x0 x1 x2 x3 x4 2).sc := by
  rw [runB.sl.v162, runB.sl.v149, runB.sl.cst_150, runB.sl.v160, runB.sl.cst_149, runB.sl.v159, runB_v79 c arg2 harg2 x0]
  all_goals rfl

theorem runB_r_20 :
    runB.sl.r_20 (F := F) c i arg2 harg2 arg3 harg3 arg5 harg5 x0 x1 x3 = (blkAt i arg2 harg2 arg3 harg3 arg4 harg4 arg5 harg5 arg6 harg6 x0 x1 x2 x3 x4 2).p := by
  rw [runB.sl.r_20, runB.sl.r_19, runB.sl.v8, runB.sl.v3, runB_r c arg5 harg5 x3, runB_v162 c i arg2 harg2 arg3 harg3 arg4 harg4 arg5 harg5 arg6 harg6 x0 x1 x2 x3 x4]
  all_goals rfl

theorem runB_r_21 :
    runB.sl.r_21 (F := F) c i arg2 harg2 arg3 harg3 arg5 harg5 x0 x1 x3 = (blkAt i arg2 harg2 arg3 harg3 arg4 harg4 arg5 harg5 arg6 harg6 x0 x1 x2 x3 x4 2).pe := by
  rw [runB.sl.r_21, runB.sl.r_19, runB.sl.v8, runB.sl.v3, runB_r c arg5 harg5 x3, runB_v162 c i arg2 harg2 arg3 harg3 arg4 harg4 arg5 harg5 arg6 harg6 x0 x1 x2 x3 x4]
  all_goals rfl

theorem runB_v204 :
    runB.sl.v204 (F := F) c i arg4 harg4 arg6 harg6 x2 x4 = (blkAt i arg2 harg2 arg3 harg3 arg4 harg4 arg5 harg5 arg6 harg6 x0 x1 x2 x3 x4 2).dp := by
  rw [runB.sl.v204, runB.sl.cst_149, runB.sl.v203, runB_v119 c arg6 harg6 x4]
  all_goals rfl

theorem runB_r_41 :
    runB.sl.r_41 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dl := by
  rw [runB.sl.r_41, runB_v204 c i arg2 harg2 arg3 harg3 arg4 harg4 arg5 harg5 arg6 harg6 x0 x1 x2 x3 x4, runB_r_20 c i arg2 harg2 arg3 harg3 arg4 harg4 arg5 harg5 arg6 harg6 x0 x1 x2 x3 x4]
  all_goals rfl

theorem runB_v522 :
    runB.sl.v522 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).ds := by
  rw [runB.sl.v522, runB.sl.v521, runB.sl.v149, runB.sl.cst_150, runB.sl.v519, runB.sl.v518, runB.sl.v517, runB_r_20 c i arg2 harg2 arg3 harg3 arg4 harg4 arg5 harg5 arg6 harg6 x0 x1 x2 x3 x4, runB_v204 c i arg2 harg2 arg3 harg3 arg4 harg4 arg5 harg5 arg6 harg6 x0 x1 x2 x3 x4, runB_r_41 c i arg2 harg2 arg3 harg3 arg4 harg4 arg5 harg5 arg6 harg6 x0 x1 x2 x3 x4]
  all_goals rfl

theorem runB_v564 :
    runB.sl.v564 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dq := by
  rw [runB.sl.v564, runB.sl.cst_276, runB.sl.v159, runB_v522 c i arg2 harg2 arg3 harg3 arg4 harg4 arg5 harg5 arg6 harg6 x0 x1 x2 x3 x4]
  all_goals rfl

theorem runB_v587 :
    runB.sl.v587 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 2).dk := by
  rw [runB.sl.v587, runB.sl.cst_291, runB_v522 c i arg2 harg2 arg3 harg3 arg4 harg4 arg5 harg5 arg6 harg6 x0 x1 x2 x3 x4, runB_v79 c arg2 harg2 x0]
  all_goals rfl

theorem runB_v598 :
    runB.sl.v598 (F := F) c i arg2 harg2 arg3 harg3 arg5 harg5 arg6 harg6 x0 x1 x3 x4 = (blkAt i arg2 harg2 arg3 harg3 arg4 harg4 arg5 harg5 arg6 harg6 x0 x1 x2 x3 x4 2).dv := by
  rw [runB.sl.v598, runB.sl.cst_291, runB.sl.v597, runB_r_20 c i arg2 harg2 arg3 harg3 arg4 harg4 arg5 harg5 arg6 harg6 x0 x1 x2 x3 x4, runB_v119 c arg6 harg6 x4]
  all_goals rfl

theorem runB_v168 :
    runB.sl.v168 (F := F) c i arg2 harg2 arg3 harg3 x0 x1 = (blkAt i arg2 harg2 arg3 harg3 arg4 harg4 arg5 harg5 arg6 harg6 x0 x1 x2 x3 x4 3).sc := by
  rw [runB.sl.v168, runB.sl.v149, runB.sl.cst_150, runB.sl.v166, runB.sl.cst_149, runB.sl.v165, runB_v84 c arg2 harg2 x0]
  all_goals rfl

theorem runB_r_25 :
    runB.sl.r_25 (F := F) c i arg2 harg2 arg3 harg3 arg5 harg5 x0 x1 x3 = (blkAt i arg2 harg2 arg3 harg3 arg4 harg4 arg5 harg5 arg6 harg6 x0 x1 x2 x3 x4 3).p := by
  rw [runB.sl.r_25, runB.sl.r_24, runB.sl.r_22, runB.sl.v10, runB.sl.v3, runB_r c arg5 harg5 x3, runB_v168 c i arg2 harg2 arg3 harg3 arg4 harg4 arg5 harg5 arg6 harg6 x0 x1 x2 x3 x4]
  all_goals rfl

theorem runB_r_26 :
    runB.sl.r_26 (F := F) c i arg2 harg2 arg3 harg3 arg5 harg5 x0 x1 x3 = (blkAt i arg2 harg2 arg3 harg3 arg4 harg4 arg5 harg5 arg6 harg6 x0 x1 x2 x3 x4 3).pe := by
  rw [runB.sl.r_26, runB.sl.r_24, runB.sl.r_23, runB.sl.v10, runB.sl.v3, runB_r c arg5 harg5 x3, runB_v168 c i arg2 harg2 arg3 harg3 arg4 harg4 arg5 harg5 arg6 harg6 x0 x1 x2 x3 x4]
  all_goals rfl

theorem runB_v208 :
    runB.sl.v208 (F := F) c i arg4 harg4 arg6 harg6 x2 x4 = (blkAt i arg2 harg2 arg3 harg3 arg4 harg4 arg5 harg5 arg6 harg6 x0 x1 x2 x3 x4 3).dp := by
  rw [runB.sl.v208, runB.sl.cst_149, runB.sl.v207, runB_v124 c arg6 harg6 x4]
  all_goals rfl

theorem runB_v492 :
    runB.sl.v492 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dl := by
  rw [runB.sl.v492, runB.sl.v491, runB.sl.r_42, runB_v208 c i arg2 harg2 arg3 harg3 arg4 harg4 arg5 harg5 arg6 harg6 x0 x1 x2 x3 x4, runB_r_25 c i arg2 harg2 arg3 harg3 arg4 harg4 arg5 harg5 arg6 harg6 x0 x1 x2 x3 x4]
  all_goals rfl

theorem runB_v528 :
    runB.sl.v528 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).ds := by
  rw [runB.sl.v528, runB.sl.v527, runB.sl.v149, runB.sl.cst_150, runB.sl.v525, runB.sl.v524, runB.sl.v523, runB_r_25 c i arg2 harg2 arg3 harg3 arg4 harg4 arg5 harg5 arg6 harg6 x0 x1 x2 x3 x4, runB_v208 c i arg2 harg2 arg3 harg3 arg4 harg4 arg5 harg5 arg6 harg6 x0 x1 x2 x3 x4, runB_v492 c i arg2 harg2 arg3 harg3 arg4 harg4 arg5 harg5 arg6 harg6 x0 x1 x2 x3 x4]
  all_goals rfl

theorem runB_v568 :
    runB.sl.v568 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dq := by
  rw [runB.sl.v568, runB.sl.cst_276, runB.sl.v165, runB_v528 c i arg2 harg2 arg3 harg3 arg4 harg4 arg5 harg5 arg6 harg6 x0 x1 x2 x3 x4]
  all_goals rfl

theorem runB_v588 :
    runB.sl.v588 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 3).dk := by
  rw [runB.sl.v588, runB.sl.cst_291, runB_v528 c i arg2 harg2 arg3 harg3 arg4 harg4 arg5 harg5 arg6 harg6 x0 x1 x2 x3 x4, runB_v84 c arg2 harg2 x0]
  all_goals rfl

theorem runB_v600 :
    runB.sl.v600 (F := F) c i arg2 harg2 arg3 harg3 arg5 harg5 arg6 harg6 x0 x1 x3 x4 = (blkAt i arg2 harg2 arg3 harg3 arg4 harg4 arg5 harg5 arg6 harg6 x0 x1 x2 x3 x4 3).dv := by
  rw [runB.sl.v600, runB.sl.cst_291, runB.sl.v599, runB_r_25 c i arg2 harg2 arg3 harg3 arg4 harg4 arg5 harg5 arg6 harg6 x0 x1 x2 x3 x4, runB_v124 c arg6 harg6 x4]
  all_goals rfl

theorem runB_v174 :
    runB.sl.v174 (F := F) c i arg2 harg2 arg3 harg3 x0 x1 = (blkAt i arg2 harg2 arg3 harg3 arg4 harg4 arg5 harg5 arg6 harg6 x0 x1 x2 x3 x4 4).sc := by
  rw [runB.sl.v174, runB.sl.v149, runB.sl.cst_150, runB.sl.v172, runB.sl.cst_149, runB.sl.v171, runB_v89 c arg2 harg2 x0]
  all_goals rfl

theorem runB_r_27 :
    runB.sl.r_27 (F := F) c i arg2 harg2 arg3 harg3 arg5 harg5 x0 x1 x3 = (blkAt i arg2 harg2 arg3 harg3 arg4 harg4 arg5 harg5 arg6 harg6 x0 x1 x2 x3 x4 4).p := by
  rw [runB.sl.r_27, runB.sl.v12, runB.sl.v3, runB_r c arg5 harg5 x3, runB_v174 c i arg2 harg2 arg3 harg3 arg4 harg4 arg5 harg5 arg6 harg6 x0 x1 x2 x3 x4]
  all_goals rfl

theorem runB_r_28 :
    runB.sl.r_28 (F := F) c i arg2 harg2 arg3 harg3 arg5 harg5 x0 x1 x3 = (blkAt i arg2 harg2 arg3 harg3 arg4 harg4 arg5 harg5 arg6 harg6 x0 x1 x2 x3 x4 4).pe := by
  rw [runB.sl.r_28, runB.sl.v12, runB.sl.v3, runB_r c arg5 harg5 x3, runB_v174 c i arg2 harg2 arg3 harg3 arg4 harg4 arg5 harg5 arg6 harg6 x0 x1 x2 x3 x4]
  all_goals rfl

theorem runB_r_11 :
    runB.sl.r_11 (F := F) c i arg4 harg4 arg6 harg6 x2 x4 = (blkAt i arg2 harg2 arg3 harg3 arg4 harg4 arg5 harg5 arg6 harg6 x0 x1 x2 x3 x4 4).dp := by
  rw [runB.sl.r_11, runB.sl.cst_149, runB.sl.v211, runB_v129 c arg6 harg6 x4]
  all_goals rfl

theorem runB_v495 :
    runB.sl.v495 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dl := by
  rw [runB.sl.v495, runB.sl.v494, runB.sl.v493, runB_r_27 c i arg2 harg2 arg3 harg3 arg4 harg4 arg5 harg5 arg6 harg6 x0 x1 x2 x3 x4, runB_r_11 c i arg2 harg2 arg3 harg3 arg4 harg4 arg5 harg5 arg6 harg6 x0 x1 x2 x3 x4]
  all_goals rfl

theorem runB_v534 :
    runB.sl.v534 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).ds := by
  rw [runB.sl.v534, runB.sl.v533, runB.sl.v149, runB.sl.cst_150, runB.sl.v531, runB.sl.v530, runB.sl.v529, runB_r_27 c i arg2 harg2 arg3 harg3 arg4 harg4 arg5 harg5 arg6 harg6 x0 x1 x2 x3 x4, runB_r_11 c i arg2 harg2 arg3 harg3 arg4 harg4 arg5 harg5 arg6 harg6 x0 x1 x2 x3 x4, runB_v495 c i arg2 harg2 arg3 harg3 arg4 harg4 arg5 harg5 arg6 harg6 x0 x1 x2 x3 x4]
  all_goals rfl

theorem runB_v572 :
    runB.sl.v572 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dq := by
  rw [runB.sl.v572, runB.sl.cst_276, runB.sl.v171, runB_v534 c i arg2 harg2 arg3 harg3 arg4 harg4 arg5 harg5 arg6 harg6 x0 x1 x2 x3 x4]
  all_goals rfl

theorem runB_v589 :
    runB.sl.v589 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 4).dk := by
  rw [runB.sl.v589, runB.sl.cst_291, runB_v534 c i arg2 harg2 arg3 harg3 arg4 harg4 arg5 harg5 arg6 harg6 x0 x1 x2 x3 x4, runB_v89 c arg2 harg2 x0]
  all_goals rfl

theorem runB_v602 :
    runB.sl.v602 (F := F) c i arg2 harg2 arg3 harg3 arg5 harg5 arg6 harg6 x0 x1 x3 x4 = (blkAt i arg2 harg2 arg3 harg3 arg4 harg4 arg5 harg5 arg6 harg6 x0 x1 x2 x3 x4 4).dv := by
  rw [runB.sl.v602, runB.sl.cst_291, runB.sl.v601, runB_r_27 c i arg2 harg2 arg3 harg3 arg4 harg4 arg5 harg5 arg6 harg6 x0 x1 x2 x3 x4, runB_v129 c arg6 harg6 x4]
  all_goals rfl

theorem runB_v180 :
    runB.sl.v180 (F := F) c i arg2 harg2 arg3 harg3 x0 x1 = (blkAt i arg2 harg2 arg3 harg3 arg4 harg4 arg5 harg5 arg6 harg6 x0 x1 x2 x3 x4 5).sc := by
  rw [runB.sl.v180, runB.sl.v149, runB.sl.cst_150, runB.sl.v178, runB.sl.cst_149, runB.sl.v177, runB_v94 c arg2 harg2 x0]
  all_goals rfl

theorem runB_r_30 :
    runB.sl.r_30 (F := F) c i arg2 harg2 arg3 harg3 arg5 harg5 x0 x1 x3 = (blkAt i arg2 harg2 arg3 harg3 arg4 harg4 arg5 harg5 arg6 harg6 x0 x1 x2 x3 x4 5).p := by
  rw [runB.sl.r_30, runB.sl.cst_237, runB.sl.cst_236, runB.sl.r_29, runB.sl.v14, runB.sl.v3, runB_r c arg5 harg5 x3, runB_v180 c i arg2 harg2 arg3 harg3 arg4 harg4 arg5 harg5 arg6 harg6 x0 x1 x2 x3 x4]
  all_goals rfl

theorem runB_r_31 :
    runB.sl.r_31 (F := F) c i arg2 harg2 arg3 harg3 arg5 harg5 x0 x1 x3 = (blkAt i arg2 harg2 arg3 harg3 arg4 harg4 arg5 harg5 arg6 harg6 x0 x1 x2 x3 x4 5).pe := by
  rw [runB.sl.r_31, runB.sl.cst_237, runB.sl.cst_236, runB.sl.r_29, runB.sl.v14, runB.sl.v3, runB_r c arg5 harg5 x3, runB_v180 c i arg2 harg2 arg3 harg3 arg4 harg4 arg5 harg5 arg6 harg6 x0 x1 x2 x3 x4]
  all_goals rfl

theorem runB_r_12 :
    runB.sl.r_12 (F := F) c i arg4 harg4 arg6 harg6 x2 x4 = (blkAt i arg2 harg2 arg3 harg3 arg4 harg4 arg5 harg5 arg6 harg6 x0 x1 x2 x3 x4 5).dp := by
  rw [runB.sl.r_12, runB_v134 c arg6 harg6 x4]
  all_goals rfl

theorem runB_v498 :
    runB.sl.v498 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dl := by
  rw [runB.sl.v498, runB.sl.v497, runB.sl.v496, runB_r_30 c i arg2 harg2 arg3 harg3 arg4 harg4 arg5 harg5 arg6 harg6 x0 x1 x2 x3 x4, runB_r_12 c i arg2 harg2 arg3 harg3 arg4 harg4 arg5 harg5 arg6 harg6 x0 x1 x2 x3 x4]
  all_goals rfl

theorem runB_v540 :
    runB.sl.v540 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).ds := by
  rw [runB.sl.v540, runB.sl.v539, runB.sl.v149, runB.sl.cst_150, runB.sl.v537, runB.sl.v536, runB.sl.v535, runB_r_30 c i arg2 harg2 arg3 harg3 arg4 harg4 arg5 harg5 arg6 harg6 x0 x1 x2 x3 x4, runB_r_12 c i arg2 harg2 arg3 harg3 arg4 harg4 arg5 harg5 arg6 harg6 x0 x1 x2 x3 x4, runB_v498 c i arg2 harg2 arg3 harg3 arg4 harg4 arg5 harg5 arg6 harg6 x0 x1 x2 x3 x4]
  all_goals rfl

theorem runB_v576 :
    runB.sl.v576 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dq := by
  rw [runB.sl.v576, runB.sl.cst_276, runB.sl.v177, runB_v540 c i arg2 harg2 arg3 harg3 arg4 harg4 arg5 harg5 arg6 harg6 x0 x1 x2 x3 x4]
  all_goals rfl

theorem runB_v590 :
    runB.sl.v590 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 5).dk := by
  rw [runB.sl.v590, runB.sl.cst_291, runB_v540 c i arg2 harg2 arg3 harg3 arg4 harg4 arg5 harg5 arg6 harg6 x0 x1 x2 x3 x4, runB_v94 c arg2 harg2 x0]
  all_goals rfl

theorem runB_v604 :
    runB.sl.v604 (F := F) c i arg2 harg2 arg3 harg3 arg5 harg5 arg6 harg6 x0 x1 x3 x4 = (blkAt i arg2 harg2 arg3 harg3 arg4 harg4 arg5 harg5 arg6 harg6 x0 x1 x2 x3 x4 5).dv := by
  rw [runB.sl.v604, runB.sl.cst_291, runB.sl.v603, runB_r_30 c i arg2 harg2 arg3 harg3 arg4 harg4 arg5 harg5 arg6 harg6 x0 x1 x2 x3 x4, runB_v134 c arg6 harg6 x4]
  all_goals rfl

theorem runB_v186 :
    runB.sl.v186 (F := F) c i arg2 harg2 arg3 harg3 x0 x1 = (blkAt i arg2 harg2 arg3 harg3 arg4 harg4 arg5 harg5 arg6 harg6 x0 x1 x2 x3 x4 6).sc := by
  rw [runB.sl.v186, runB.sl.v149, runB.sl.cst_150, runB.sl.v184, runB.sl.cst_149, runB.sl.v183, runB_v99 c arg2 harg2 x0]
  all_goals rfl

theorem runB_r_35 :
    runB.sl.r_35 (F := F) c i arg2 harg2 arg3 harg3 arg5 harg5 x0 x1 x3 = (blkAt i arg2 harg2 arg3 harg3 arg4 harg4 arg5 harg5 arg6 harg6 x0 x1 x2 x3 x4 6).p := by
  rw [runB.sl.r_35, runB.sl.r_34, runB.sl.r_32, runB.sl.v16, runB.sl.v3, runB_r c arg5 harg5 x3, runB_v186 c i arg2 harg2 arg3 harg3 arg4 harg4 arg5 harg5 arg6 harg6 x0 x1 x2 x3 x4]
  all_goals rfl

theorem runB_r_36 :
    runB.sl.r_36 (F := F) c i arg2 harg2 arg3 harg3 arg5 harg5 x0 x1 x3 = (blkAt i arg2 harg2 arg3 harg3 arg4 harg4 arg5 harg5 arg6 harg6 x0 x1 x2 x3 x4 6).pe := by
  rw [runB.sl.r_36, runB.sl.r_34, runB.sl.r_33, runB.sl.v16, runB.sl.v3, runB_r c arg5 harg5 x3, runB_v186 c i arg2 harg2 arg3 harg3 arg4 harg4 arg5 harg5 arg6 harg6 x0 x1 x2 x3 x4]
  all_goals rfl

theorem runB_r_13 :
    runB.sl.r_13 (F := F) c i arg4 harg4 arg6 harg6 x2 x4 = (blkAt i arg2 harg2 arg3 harg3 arg4 harg4 arg5 harg5 arg6 harg6 x0 x1 x2 x3 x4 6).dp := by
  rw [runB.sl.r_13, runB_v139 c arg6 harg6 x4]
  all_goals rfl

theorem runB_v501 :
    runB.sl.v501 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dl := by
  rw [runB.sl.v501, runB.sl.v500, runB.sl.v499, runB_r_35 c i arg2 harg2 arg3 harg3 arg4 harg4 arg5 harg5 arg6 harg6 x0 x1 x2 x3 x4, runB_r_13 c i arg2 harg2 arg3 harg3 arg4 harg4 arg5 harg5 arg6 harg6 x0 x1 x2 x3 x4]
  all_goals rfl

theorem runB_v546 :
    runB.sl.v546 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).ds := by
  rw [runB.sl.v546, runB.sl.v545, runB.sl.v149, runB.sl.cst_150, runB.sl.v543, runB.sl.v542, runB.sl.v541, runB_r_35 c i arg2 harg2 arg3 harg3 arg4 harg4 arg5 harg5 arg6 harg6 x0 x1 x2 x3 x4, runB_r_13 c i arg2 harg2 arg3 harg3 arg4 harg4 arg5 harg5 arg6 harg6 x0 x1 x2 x3 x4, runB_v501 c i arg2 harg2 arg3 harg3 arg4 harg4 arg5 harg5 arg6 harg6 x0 x1 x2 x3 x4]
  all_goals rfl

theorem runB_v580 :
    runB.sl.v580 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dq := by
  rw [runB.sl.v580, runB.sl.cst_276, runB.sl.v183, runB_v546 c i arg2 harg2 arg3 harg3 arg4 harg4 arg5 harg5 arg6 harg6 x0 x1 x2 x3 x4]
  all_goals rfl

theorem runB_v591 :
    runB.sl.v591 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 6).dk := by
  rw [runB.sl.v591, runB.sl.cst_291, runB_v546 c i arg2 harg2 arg3 harg3 arg4 harg4 arg5 harg5 arg6 harg6 x0 x1 x2 x3 x4, runB_v99 c arg2 harg2 x0]
  all_goals rfl

theorem runB_v606 :
    runB.sl.v606 (F := F) c i arg2 harg2 arg3 harg3 arg5 harg5 arg6 harg6 x0 x1 x3 x4 = (blkAt i arg2 harg2 arg3 harg3 arg4 harg4 arg5 harg5 arg6 harg6 x0 x1 x2 x3 x4 6).dv := by
  rw [runB.sl.v606, runB.sl.cst_291, runB.sl.v605, runB_r_35 c i arg2 harg2 arg3 harg3 arg4 harg4 arg5 harg5 arg6 harg6 x0 x1 x2 x3 x4, runB_v139 c arg6 harg6 x4]
  all_goals rfl

theorem runB_v192 :
    runB.sl.v192 (F := F) c i arg2 harg2 arg3 harg3 x0 x1 = (blkAt i arg2 harg2 arg3 harg3 arg4 harg4 arg5 harg5 arg6 harg6 x0 x1 x2 x3 x4 7).sc := by
  rw [runB.sl.v192, runB.sl.v149, runB.sl.cst_150, runB.sl.v190, runB.sl.cst_149, runB.sl.v189, runB_v104 c arg2 harg2 x0]
  all_goals rfl

theorem runB_r_37 :
    runB.sl.r_37 (F := F) c i arg2 harg2 arg3 harg3 arg5 harg5 x0 x1 x3 = (blkAt i arg2 harg2 arg3 harg3 arg4 harg4 arg5 harg5 arg6 harg6 x0 x1 x2 x3 x4 7).p := by
  rw [runB.sl.r_37, runB.sl.v18, runB.sl.v3, runB_r c arg5 harg5 x3, runB_v192 c i arg2 harg2 arg3 harg3 arg4 harg4 arg5 harg5 arg6 harg6 x0 x1 x2 x3 x4]
  all_goals rfl

theorem runB_r_38 :
    runB.sl.r_38 (F := F) c i arg2 harg2 arg3 harg3 arg5 harg5 x0 x1 x3 = (blkAt i arg2 harg2 arg3 harg3 arg4 harg4 arg5 harg5 arg6 harg6 x0 x1 x2 x3 x4 7).pe := by
  rw [runB.sl.r_38, runB.sl.v18, runB.sl.v3, runB_r c arg5 harg5 x3, runB_v192 c i arg2 harg2 arg3 harg3 arg4 harg4 arg5 harg5 arg6 harg6 x0 x1 x2 x3 x4]
  all_goals rfl

theorem runB_r_14 :
    runB.sl.r_14 (F := F) c i arg4 harg4 arg6 harg6 x2 x4 = (blkAt i arg2 harg2 arg3 harg3 arg4 harg4 arg5 harg5 arg6 harg6 x0 x1 x2 x3 x4 7).dp := by
  rw [runB.sl.r_14, runB_v144 c arg6 harg6 x4]
  all_goals rfl

theorem runB_v504 :
    runB.sl.v504 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dl := by
  rw [runB.sl.v504, runB.sl.v503, runB.sl.v502, runB_r_37 c i arg2 harg2 arg3 harg3 arg4 harg4 arg5 harg5 arg6 harg6 x0 x1 x2 x3 x4, runB_r_14 c i arg2 harg2 arg3 harg3 arg4 harg4 arg5 harg5 arg6 harg6 x0 x1 x2 x3 x4]
  all_goals rfl

theorem runB_v552 :
    runB.sl.v552 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).ds := by
  rw [runB.sl.v552, runB.sl.v551, runB.sl.v149, runB.sl.cst_150, runB.sl.v549, runB.sl.v548, runB.sl.v547, runB_r_37 c i arg2 harg2 arg3 harg3 arg4 harg4 arg5 harg5 arg6 harg6 x0 x1 x2 x3 x4, runB_r_14 c i arg2 harg2 arg3 harg3 arg4 harg4 arg5 harg5 arg6 harg6 x0 x1 x2 x3 x4, runB_v504 c i arg2 harg2 arg3 harg3 arg4 harg4 arg5 harg5 arg6 harg6 x0 x1 x2 x3 x4]
  all_goals rfl

theorem runB_v584 :
    runB.sl.v584 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dq := by
  rw [runB.sl.v584, runB.sl.cst_276, runB.sl.v583, runB.sl.r_43, runB_v552 c i arg2 harg2 arg3 harg3 arg4 harg4 arg5 harg5 arg6 harg6 x0 x1 x2 x3 x4]
  all_goals rfl

theorem runB_v592 :
    runB.sl.v592 (F := F) c i arg2 harg2 arg3 harg3 arg4 harg4 arg5 harg5 arg6 harg6 x0 x1 x2 x3 x4 = (blkAt i arg2 harg2 arg3 harg3 arg4 harg4 arg5 harg5 arg6 harg6 x0 x1 x2 x3 x4 7).dk := by
  rw [runB.sl.v592, runB.sl.cst_291, runB_v552 c i arg2 harg2 arg3 harg3 arg4 harg4 arg5 harg5 arg6 harg6 x0 x1 x2 x3 x4, runB_v104 c arg2 harg2 x0]
  all_goals rfl

theorem runB_v608 :
    runB.sl.v608 (F := F) c i arg2 harg2 arg3 harg3 arg5 harg5 arg6 harg6 x0 x1 x3 x4 = (blkAt i arg2 harg2 arg3 harg3 arg4 harg4 arg5 harg5 arg6 harg6 x0 x1 x2 x3 x4 7).dv := by
  rw [runB.sl.v608, runB.sl.cst_291, runB.sl.v607, runB_r_37 c i arg2 harg2 arg3 harg3 arg4 harg4 arg5 harg5 arg6 harg6 x0 x1 x2 x3 x4, runB_v144 c arg6 harg6 x4]
  all_goals rfl

theorem runB_v681 :
    runB.sl.v681 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 0 := by
  rw [runB.sl.v681, runB.sl.v679, runB.sl.v680, runB.sl.cst_236, runB_v585 c i arg2 harg2 arg3 harg3 arg4 harg4 arg5 harg5 arg6 harg6 x0 x1 x2 x3 x4]
  all_goals rfl

theorem runB_v704 :
    runB.sl.v704 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 1 := by
  rw [runB.sl.v704, runB.sl.v703, runB.sl.v702, runB.sl.v700, runB.sl.v680, runB.sl.cst_236, runB_v585 c i arg2 harg2 arg3 harg3 arg4 harg4 arg5 harg5 arg6 harg6 x0 x1 x2 x3 x4, runB_v586 c i arg2 harg2 arg3 harg3 arg4 harg4 arg5 harg5 arg6 harg6 x0 x1 x2 x3 x4]
  all_goals rfl

theorem runB_v731 :
    runB.sl.v731 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 2 := by
  rw [runB.sl.v731, runB.sl.v730, runB.sl.v729, runB.sl.v728, runB.sl.v727, runB.sl.v725, runB.sl.v680, runB.sl.cst_236, runB_v585 c i arg2 harg2 arg3 harg3 arg4 harg4 arg5 harg5 arg6 harg6 x0 x1 x2 x3 x4, runB_v586 c i arg2 harg2 arg3 harg3 arg4 harg4 arg5 harg5 arg6 harg6 x0 x1 x2 x3 x4, runB_v587 c i arg2 harg2 arg3 harg3 arg4 harg4 arg5 harg5 arg6 harg6 x0 x1 x2 x3 x4]
  all_goals rfl

theorem runB_v760 :
    runB.sl.v760 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 3 := by
  rw [runB.sl.v760, runB.sl.v759, runB.sl.v758, runB.sl.v757, runB.sl.v756, runB.sl.v754, runB.sl.v680, runB.sl.cst_236, runB_v586 c i arg2 harg2 arg3 harg3 arg4 harg4 arg5 harg5 arg6 harg6 x0 x1 x2 x3 x4, runB_v587 c i arg2 harg2 arg3 harg3 arg4 harg4 arg5 harg5 arg6 harg6 x0 x1 x2 x3 x4, runB_v588 c i arg2 harg2 arg3 harg3 arg4 harg4 arg5 harg5 arg6 harg6 x0 x1 x2 x3 x4]
  all_goals rfl

theorem runB_v789 :
    runB.sl.v789 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 4 := by
  rw [runB.sl.v789, runB.sl.v788, runB.sl.v787, runB.sl.v786, runB.sl.v785, runB.sl.v783, runB.sl.v680, runB.sl.cst_236, runB_v587 c i arg2 harg2 arg3 harg3 arg4 harg4 arg5 harg5 arg6 harg6 x0 x1 x2 x3 x4, runB_v588 c i arg2 harg2 arg3 harg3 arg4 harg4 arg5 harg5 arg6 harg6 x0 x1 x2 x3 x4, runB_v589 c i arg2 harg2 arg3 harg3 arg4 harg4 arg5 harg5 arg6 harg6 x0 x1 x2 x3 x4]
  all_goals rfl

theorem runB_v818 :
    runB.sl.v818 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 5 := by
  rw [runB.sl.v818, runB.sl.v817, runB.sl.v816, runB.sl.v815, runB.sl.v814, runB.sl.v812, runB.sl.v680, runB.sl.cst_236, runB_v588 c i arg2 harg2 arg3 harg3 arg4 harg4 arg5 harg5 arg6 harg6 x0 x1 x2 x3 x4, runB_v589 c i arg2 harg2 arg3 harg3 arg4 harg4 arg5 harg5 arg6 harg6 x0 x1 x2 x3 x4, runB_v590 c i arg2 harg2 arg3 harg3 arg4 harg4 arg5 harg5 arg6 harg6 x0 x1 x2 x3 x4]
  all_goals rfl

theorem runB_v847 :
    runB.sl.v847 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 6 := by
  rw [runB.sl.v847, runB.sl.v846, runB.sl.v845, runB.sl.v844, runB.sl.v843, runB.sl.v841, runB.sl.v680, runB.sl.cst_236, runB_v589 c i arg2 harg2 arg3 harg3 arg4 harg4 arg5 harg5 arg6 harg6 x0 x1 x2 x3 x4, runB_v590 c i arg2 harg2 arg3 harg3 arg4 harg4 arg5 harg5 arg6 harg6 x0 x1 x2 x3 x4, runB_v591 c i arg2 harg2 arg3 harg3 arg4 harg4 arg5 harg5 arg6 harg6 x0 x1 x2 x3 x4]
  all_goals rfl

theorem runB_v876 :
    runB.sl.v876 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 7 := by
  rw [runB.sl.v876, runB.sl.v875, runB.sl.v874, runB.sl.v873, runB.sl.v872, runB.sl.v870, runB.sl.v680, runB.sl.cst_236, runB_v590 c i arg2 harg2 arg3 harg3 arg4 harg4 arg5 harg5 arg6 harg6 x0 x1 x2 x3 x4, runB_v591 c i arg2 harg2 arg3 harg3 arg4 harg4 arg5 harg5 arg6 harg6 x0 x1 x2 x3 x4, runB_v592 c i arg2 harg2 arg3 harg3 arg4 harg4 arg5 harg5 arg6 harg6 x0 x1 x2 x3 x4]
  all_goals rfl

theorem runB_v903 :
    runB.sl.v903 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 8 := by
  rw [runB.sl.v903, runB.sl.v902, runB.sl.v901, runB.sl.v899, runB.sl.v680, runB.sl.cst_236, runB_v591 c i arg2 harg2 arg3 harg3 arg4 harg4 arg5 harg5 arg6 harg6 x0 x1 x2 x3 x4, runB_v592 c i arg2 harg2 arg3 harg3 arg4 harg4 arg5 harg5 arg6 harg6 x0 x1 x2 x3 x4]
  all_goals rfl

theorem runB_v926 :
    runB.sl.v926 (F := F) c i arg2 harg2 arg3 harg3 arg4 harg4 arg5 harg5 arg6 harg6 x0 x1 x2 x3 x4 = chunk (fun b => (blkAt i arg2 harg2 arg3 harg3 arg4 harg4 arg5 harg5 arg6 harg6 x0 x1 x2 x3 x4 b).dk) 9 := by
  rw [runB.sl.v926, runB.sl.v924, runB.sl.v680, runB.sl.cst_236, runB_v592 c i arg2 harg2 arg3 harg3 arg4 harg4 arg5 harg5 arg6 harg6 x0 x1 x2 x3 x4]
  all_goals rfl

theorem runB_v690 :
    runB.sl.v690 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 0 := by
  rw [runB.sl.v690, runB.sl.v688, runB.sl.v680, runB.sl.cst_236, runB_v594 c i arg2 harg2 arg3 harg3 arg4 harg4 arg5 harg5 arg6 harg6 x0 x1 x2 x3 x4]
  all_goals rfl

theorem runB_v715 :
    runB.sl.v715 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 1 := by
  rw [runB.sl.v715, runB.sl.v714, runB.sl.v713, runB.sl.v711, runB.sl.v680, runB.sl.cst_236, runB_v594 c i arg2 harg2 arg3 harg3 arg4 harg4 arg5 harg5 arg6 harg6 x0 x1 x2 x3 x4, runB_v596 c i arg2 harg2 arg3 harg3 arg4 harg4 arg5 harg5 arg6 harg6 x0 x1 x2 x3 x4]
  all_goals rfl

theorem runB_v744 :
    runB.sl.v744 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 2 := by
  rw [runB.sl.v744, runB.sl.v743, runB.sl.v742, runB.sl.v741, runB.sl.v740, runB.sl.v738, runB.sl.v680, runB.sl.cst_236, runB_v594 c i arg2 harg2 arg3 harg3 arg4 harg4 arg5 harg5 arg6 harg6 x0 x1 x2 x3 x4, runB_v596 c i arg2 harg2 arg3 harg3 arg4 harg4 arg5 harg5 arg6 harg6 x0 x1 x2 x3 x4, runB_v598 c i arg2 harg2 arg3 harg3 arg4 harg4 arg5 harg5 arg6 harg6 x0 x1 x2 x3 x4]
  all_goals rfl

theorem runB_v773 :
    runB.sl.v773 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 3 := by
  rw [runB.sl.v773, runB.sl.v772, runB.sl.v771, runB.sl.v770, runB.sl.v769, runB.sl.v767, runB.sl.v680, runB.sl.cst_236, runB_v596 c i arg2 harg2 arg3 harg3 arg4 harg4 arg5 harg5 arg6 harg6 x0 x1 x2 x3 x4, runB_v598 c i arg2 harg2 arg3 harg3 arg4 harg4 arg5 harg5 arg6 harg6 x0 x1 x2 x3 x4, runB_v600 c i arg2 harg2 arg3 harg3 arg4 harg4 arg5 harg5 arg6 harg6 x0 x1 x2 x3 x4]
  all_goals rfl

theorem runB_v802 :
    runB.sl.v802 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 4 := by
  rw [runB.sl.v802, runB.sl.v801, runB.sl.v800, runB.sl.v799, runB.sl.v798, runB.sl.v796, runB.sl.v680, runB.sl.cst_236, runB_v598 c i arg2 harg2 arg3 harg3 arg4 harg4 arg5 harg5 arg6 harg6 x0 x1 x2 x3 x4, runB_v600 c i arg2 harg2 arg3 harg3 arg4 harg4 arg5 harg5 arg6 harg6 x0 x1 x2 x3 x4, runB_v602 c i arg2 harg2 arg3 harg3 arg4 harg4 arg5 harg5 arg6 harg6 x0 x1 x2 x3 x4]
  all_goals rfl

theorem runB_v831 :
    runB.sl.v831 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 5 := by
  rw [runB.sl.v831, runB.sl.v830, runB.sl.v829, runB.sl.v828, runB.sl.v827, runB.sl.v825, runB.sl.v680, runB.sl.cst_236, runB_v600 c i arg2 harg2 arg3 harg3 arg4 harg4 arg5 harg5 arg6 harg6 x0 x1 x2 x3 x4, runB_v602 c i arg2 harg2 arg3 harg3 arg4 harg4 arg5 harg5 arg6 harg6 x0 x1 x2 x3 x4, runB_v604 c i arg2 harg2 arg3 harg3 arg4 harg4 arg5 harg5 arg6 harg6 x0 x1 x2 x3 x4]
  all_goals rfl

theorem runB_v860 :
    runB.sl.v860 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 6 := by
  rw [runB.sl.v860, runB.sl.v859, runB.sl.v858, runB.sl.v857, runB.sl.v856, runB.sl.v854, runB.sl.v680, runB.sl.cst_236, runB_v602 c i arg2 harg2 arg3 harg3 arg4 harg4 arg5 harg5 arg6 harg6 x0 x1 x2 x3 x4, runB_v604 c i arg2 harg2 arg3 harg3 arg4 harg4 arg5 harg5 arg6 harg6 x0 x1 x2 x3 x4, runB_v606 c i arg2 harg2 arg3 harg3 arg4 harg4 arg5 harg5 arg6 harg6 x0 x1 x2 x3 x4]
  all_goals rfl

theorem runB_v889 :
    runB.sl.v889 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 7 := by
  rw [runB.sl.v889, runB.sl.v888, runB.sl.v887, runB.sl.v886, runB.sl.v885, runB.sl.v883, runB.sl.v680, runB.sl.cst_236, runB_v604 c i arg2 harg2 arg3 harg3 arg4 harg4 arg5 harg5 arg6 harg6 x0 x1 x2 x3 x4, runB_v606 c i arg2 harg2 arg3 harg3 arg4 harg4 arg5 harg5 arg6 harg6 x0 x1 x2 x3 x4, runB_v608 c i arg2 harg2 arg3 harg3 arg4 harg4 arg5 harg5 arg6 harg6 x0 x1 x2 x3 x4]
  all_goals rfl

theorem runB_v914 :
    runB.sl.v914 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 8 := by
  rw [runB.sl.v914, runB.sl.v913, runB.sl.v912, runB.sl.v910, runB.sl.v680, runB.sl.cst_236, runB_v606 c i arg2 harg2 arg3 harg3 arg4 harg4 arg5 harg5 arg6 harg6 x0 x1 x2 x3 x4, runB_v608 c i arg2 harg2 arg3 harg3 arg4 harg4 arg5 harg5 arg6 harg6 x0 x1 x2 x3 x4]
  all_goals rfl

theorem runB_v935 :
    runB.sl.v935 (F := F) c i arg2 harg2 arg3 harg3 arg5 harg5 arg6 harg6 x0 x1 x3 x4 = chunk (fun b => (blkAt i arg2 harg2 arg3 harg3 arg4 harg4 arg5 harg5 arg6 harg6 x0 x1 x2 x3 x4 b).dv) 9 := by
  rw [runB.sl.v935, runB.sl.v933, runB.sl.v680, runB.sl.cst_236, runB_v608 c i arg2 harg2 arg3 harg3 arg4 harg4 arg5 harg5 arg6 harg6 x0 x1 x2 x3 x4]
  all_goals rfl

set_option maxHeartbeats 2000000 in
theorem runB_L5 (hc0 : ¬cond0_0 i) :
    (runB c i arg2 harg2 arg3 harg3 arg4 harg4 arg5 harg5 arg6 harg6 arg7 harg7 arg8 harg8 arg9 harg9 arg10 harg10 hc0 x0 x1 x2 x3 x4 y6 y7 y8).1 = dqList (fun b => (blkAt i arg2 harg2 arg3 harg3 arg4 harg4 arg5 harg5 arg6 harg6 x0 x1 x2 x3 x4 b).dq) := by
  unfold runB
  dsimp only
  rw [runB.sl.v671, runB.sl.v669, runB.sl.v667, runB.sl.v665, runB.sl.v663, runB.sl.v661, runB.sl.v659, runB.sl.v657, runB.sl.v655, runB.sl.v653, runB.sl.v651, runB.sl.v649, runB.sl.v647, runB.sl.v645, runB.sl.v643, runB.sl.v641, runB.sl.v639, runB.sl.v637, runB.sl.v635, runB.sl.v633, runB.sl.v631, runB.sl.v629, runB.sl.v627, runB.sl.v625, runB.sl.v623, runB.sl.v621, runB.sl.v619, runB.sl.v617, runB.sl.v615, runB.sl.v613, runB.sl.v611, runB.sl.v609, runB_v556 c i arg2 harg2 arg3 harg3 arg4 harg4 arg5 harg5 arg6 harg6 x0 x1 x2 x3 x4, runB_v560 c i arg2 harg2 arg3 harg3 arg4 harg4 arg5 harg5 arg6 harg6 x0 x1 x2 x3 x4, runB_v564 c i arg2 harg2 arg3 harg3 arg4 harg4 arg5 harg5 arg6 harg6 x0 x1 x2 x3 x4, runB_v568 c i arg2 harg2 arg3 harg3 arg4 harg4 arg5 harg5 arg6 harg6 x0 x1 x2 x3 x4, runB_v572 c i arg2 harg2 arg3 harg3 arg4 harg4 arg5 harg5 arg6 harg6 x0 x1 x2 x3 x4, runB_v576 c i arg2 harg2 arg3 harg3 arg4 harg4 arg5 harg5 arg6 harg6 x0 x1 x2 x3 x4, runB_v580 c i arg2 harg2 arg3 harg3 arg4 harg4 arg5 harg5 arg6 harg6 x0 x1 x2 x3 x4, runB_v584 c i arg2 harg2 arg3 harg3 arg4 harg4 arg5 harg5 arg6 harg6 x0 x1 x2 x3 x4]
  all_goals rfl

set_option maxHeartbeats 2000000 in
theorem runB_L6 (hc0 : ¬cond0_0 i) :
    (runB c i arg2 harg2 arg3 harg3 arg4 harg4 arg5 harg5 arg6 harg6 arg7 harg7 arg8 harg8 arg9 harg9 arg10 harg10 hc0 x0 x1 x2 x3 x4 y6 y7 y8).2.1 = accListB i arg8 (harg8.unread y6) (fun b => (blkAt i arg2 harg2 arg3 harg3 arg4 harg4 arg5 harg5 arg6 harg6 x0 x1 x2 x3 x4 b).dk) 10 (by decide) := by
  unfold runB
  dsimp only
  rw [runB.sl.v927, runB.sl.v923, runB.sl.v922, runB.sl.v904, runB.sl.v898, runB.sl.v897, runB.sl.v877, runB.sl.v869, runB.sl.v868, runB.sl.v848, runB.sl.v840, runB.sl.v839, runB.sl.v819, runB.sl.v811, runB.sl.v810, runB.sl.v790, runB.sl.v782, runB.sl.v781, runB.sl.v761, runB.sl.v753, runB.sl.v752, runB.sl.v732, runB.sl.v724, runB.sl.v723, runB.sl.v705, runB.sl.v699, runB.sl.v698, runB.sl.v682, runB.sl.v678, runB_v681 c i arg2 harg2 arg3 harg3 arg4 harg4 arg5 harg5 arg6 harg6 x0 x1 x2 x3 x4, runB_v704 c i arg2 harg2 arg3 harg3 arg4 harg4 arg5 harg5 arg6 harg6 x0 x1 x2 x3 x4, runB_v731 c i arg2 harg2 arg3 harg3 arg4 harg4 arg5 harg5 arg6 harg6 x0 x1 x2 x3 x4, runB_v760 c i arg2 harg2 arg3 harg3 arg4 harg4 arg5 harg5 arg6 harg6 x0 x1 x2 x3 x4, runB_v789 c i arg2 harg2 arg3 harg3 arg4 harg4 arg5 harg5 arg6 harg6 x0 x1 x2 x3 x4, runB_v818 c i arg2 harg2 arg3 harg3 arg4 harg4 arg5 harg5 arg6 harg6 x0 x1 x2 x3 x4, runB_v847 c i arg2 harg2 arg3 harg3 arg4 harg4 arg5 harg5 arg6 harg6 x0 x1 x2 x3 x4, runB_v876 c i arg2 harg2 arg3 harg3 arg4 harg4 arg5 harg5 arg6 harg6 x0 x1 x2 x3 x4, runB_v903 c i arg2 harg2 arg3 harg3 arg4 harg4 arg5 harg5 arg6 harg6 x0 x1 x2 x3 x4, runB_v926 c i arg2 harg2 arg3 harg3 arg4 harg4 arg5 harg5 arg6 harg6 x0 x1 x2 x3 x4]
  all_goals rfl

set_option maxHeartbeats 2000000 in
theorem runB_L7 (hc0 : ¬cond0_0 i) :
    (runB c i arg2 harg2 arg3 harg3 arg4 harg4 arg5 harg5 arg6 harg6 arg7 harg7 arg8 harg8 arg9 harg9 arg10 harg10 hc0 x0 x1 x2 x3 x4 y6 y7 y8).2.2.1 = accListB i arg9 (harg9.unread y7) (fun b => (blkAt i arg2 harg2 arg3 harg3 arg4 harg4 arg5 harg5 arg6 harg6 x0 x1 x2 x3 x4 b).dv) 10 (by decide) := by
  unfold runB
  dsimp only
  rw [runB.sl.v936, runB.sl.v932, runB.sl.v931, runB.sl.v915, runB.sl.v909, runB.sl.v908, runB.sl.v890, runB.sl.v882, runB.sl.v881, runB.sl.v861, runB.sl.v853, runB.sl.v852, runB.sl.v832, runB.sl.v824, runB.sl.v823, runB.sl.v803, runB.sl.v795, runB.sl.v794, runB.sl.v774, runB.sl.v766, runB.sl.v765, runB.sl.v745, runB.sl.v737, runB.sl.v736, runB.sl.v716, runB.sl.v710, runB.sl.v709, runB.sl.v691, runB.sl.v687, runB_v690 c i arg2 harg2 arg3 harg3 arg4 harg4 arg5 harg5 arg6 harg6 x0 x1 x2 x3 x4, runB_v715 c i arg2 harg2 arg3 harg3 arg4 harg4 arg5 harg5 arg6 harg6 x0 x1 x2 x3 x4, runB_v744 c i arg2 harg2 arg3 harg3 arg4 harg4 arg5 harg5 arg6 harg6 x0 x1 x2 x3 x4, runB_v773 c i arg2 harg2 arg3 harg3 arg4 harg4 arg5 harg5 arg6 harg6 x0 x1 x2 x3 x4, runB_v802 c i arg2 harg2 arg3 harg3 arg4 harg4 arg5 harg5 arg6 harg6 x0 x1 x2 x3 x4, runB_v831 c i arg2 harg2 arg3 harg3 arg4 harg4 arg5 harg5 arg6 harg6 x0 x1 x2 x3 x4, runB_v860 c i arg2 harg2 arg3 harg3 arg4 harg4 arg5 harg5 arg6 harg6 x0 x1 x2 x3 x4, runB_v889 c i arg2 harg2 arg3 harg3 arg4 harg4 arg5 harg5 arg6 harg6 x0 x1 x2 x3 x4, runB_v914 c i arg2 harg2 arg3 harg3 arg4 harg4 arg5 harg5 arg6 harg6 x0 x1 x2 x3 x4, runB_v935 c i arg2 harg2 arg3 harg3 arg4 harg4 arg5 harg5 arg6 harg6 x0 x1 x2 x3 x4]
  all_goals rfl

set_option maxHeartbeats 2000000 in
theorem runB_L8 (hc0 : ¬cond0_0 i) :
    (runB c i arg2 harg2 arg3 harg3 arg4 harg4 arg5 harg5 arg6 harg6 arg7 harg7 arg8 harg8 arg9 harg9 arg10 harg10 hc0 x0 x1 x2 x3 x4 y6 y7 y8).2.2.2.1 = sinkListB arg10 (harg10.unread y8) (fun b => (blkAt i arg2 harg2 arg3 harg3 arg4 harg4 arg5 harg5 arg6 harg6 x0 x1 x2 x3 x4 b).pe) (fun b => (blkAt i arg2 harg2 arg3 harg3 arg4 harg4 arg5 harg5 arg6 harg6 x0 x1 x2 x3 x4 b).dl) 4 (by decide) := by
  unfold runB
  dsimp only
  rw [runB.sl.v1011, runB.sl.v1008, runB.sl.v1007, runB.sl.v1006, runB.sl.v1003, runB.sl.v1002, runB.sl.v1001, runB.sl.v1000, runB.sl.v999, runB.sl.v998, runB.sl.v996, runB.sl.v995, runB.sl.v994, runB.sl.v993, runB.sl.v992, runB.sl.v991, runB.sl.v990, runB.sl.v988, runB.sl.v987, runB.sl.v986, runB.sl.v985, runB.sl.v984, runB.sl.v983, runB.sl.v982, runB.sl.v980, runB.sl.v979, runB.sl.v978, runB.sl.v977, runB.sl.v976, runB.sl.v975, runB.sl.v974, runB.sl.v972, runB.sl.v971, runB.sl.v970, runB.sl.v969, runB.sl.v968, runB.sl.v967, runB.sl.v966, runB.sl.v964, runB.sl.v963, runB.sl.v962, runB.sl.v961, runB.sl.v960, runB.sl.v959, runB.sl.v958, runB.sl.v956, runB.sl.v955, runB.sl.v954, runB.sl.v953, runB.sl.v952, runB.sl.v951, runB.sl.v950, runB.sl.v948, runB.sl.v947, runB.sl.v945, runB.sl.v944, runB.sl.v943, runB.sl.v942, runB.sl.v941, runB.sl.v939, runB.sl.v1005, runB.sl.v1084, runB.sl.v1081, runB.sl.v1080, runB.sl.v1079, runB.sl.v1076, runB.sl.v1075, runB.sl.v1074, runB.sl.v1073, runB.sl.v1072, runB.sl.v1071, runB.sl.v1069, runB.sl.v1068, runB.sl.v1067, runB.sl.v1066, runB.sl.v1065, runB.sl.v1064, runB.sl.v1063, runB.sl.v1061, runB.sl.v1060, runB.sl.v1059, runB.sl.v1058, runB.sl.v1057, runB.sl.v1056, runB.sl.v1055, runB.sl.v1053, runB.sl.v1052, runB.sl.v1051, runB.sl.v1050, runB.sl.v1049, runB.sl.v1048, runB.sl.v1047, runB.sl.v1045, runB.sl.v1044, runB.sl.v1043, runB.sl.v1042, runB.sl.v1041, runB.sl.v1040, runB.sl.v1039, runB.sl.v1037, runB.sl.v1036, runB.sl.v1035, runB.sl.v1034, runB.sl.v1033, runB.sl.v1032, runB.sl.v1031, runB.sl.v1029, runB.sl.v1028, runB.sl.v1027, runB.sl.v1026, runB.sl.v1025, runB.sl.v1024, runB.sl.v1023, runB.sl.v1021, runB.sl.v1020, runB.sl.v1018, runB.sl.v1017, runB.sl.v1016, runB.sl.v1015, runB.sl.v1014, runB.sl.v1012, runB.sl.v1078, runB.sl.v1077, runB.sl.v1157, runB.sl.v1154, runB.sl.v1153, runB.sl.v1152, runB.sl.v1149, runB.sl.v1148, runB.sl.v1147, runB.sl.v1146, runB.sl.v1145, runB.sl.v1144, runB.sl.v1142, runB.sl.v1141, runB.sl.v1140, runB.sl.v1139, runB.sl.v1138, runB.sl.v1137, runB.sl.v1136, runB.sl.v1134, runB.sl.v1133, runB.sl.v1132, runB.sl.v1131, runB.sl.v1130, runB.sl.v1129, runB.sl.v1128, runB.sl.v1126, runB.sl.v1125, runB.sl.v1124, runB.sl.v1123, runB.sl.v1122, runB.sl.v1121, runB.sl.v1120, runB.sl.v1118, runB.sl.v1117, runB.sl.v1116, runB.sl.v1115, runB.sl.v1114, runB.sl.v1113, runB.sl.v1112, runB.sl.v1110, runB.sl.v1109, runB.sl.v1108, runB.sl.v1107, runB.sl.v1106, runB.sl.v1105, runB.sl.v1104, runB.sl.v1102, runB.sl.v1101, runB.sl.v1100, runB.sl.v1099, runB.sl.v1098, runB.sl.v1097, runB.sl.v1096, runB.sl.v1094, runB.sl.v1093, runB.sl.v1091, runB.sl.v1090, runB.sl.v1089, runB.sl.v1088, runB.sl.v1087, runB.sl.v1085, runB.sl.v1151, runB.sl.v1150, runB.sl.v1223, runB.sl.r_45, runB.sl.r_44, runB.sl.v1188, runB.sl.v1187, runB.sl.v1186, runB.sl.v1185, runB.sl.v1183, runB.sl.v1182, runB.sl.v1181, runB.sl.v1180, runB.sl.v1179, runB.sl.v1178, runB.sl.v1177, runB.sl.v1175, runB.sl.v1174, runB.sl.v1173, runB.sl.v1172, runB.sl.v1171, runB.sl.v1170, runB.sl.v1169, runB.sl.v1167, runB.sl.v1166, runB.sl.v1164, runB.sl.v1163, runB.sl.v1162, runB.sl.v1161, runB.sl.v1160, runB.sl.v1158, runB.sl.v940, runB.sl.v946, runB.sl.cst_236, runB_r_38 c i arg2 harg2 arg3 harg3 arg4 harg4 arg5 harg5 arg6 harg6 x0 x1 x2 x3 x4, runB_v504 c i arg2 harg2 arg3 harg3 arg4 harg4 arg5 harg5 arg6 harg6 x0 x1 x2 x3 x4, runB_r_28 c i arg2 harg2 arg3 harg3 arg4 harg4 arg5 harg5 arg6 harg6 x0 x1 x2 x3 x4, runB_r_31 c i arg2 harg2 arg3 harg3 arg4 harg4 arg5 harg5 arg6 harg6 x0 x1 x2 x3 x4, runB_v495 c i arg2 harg2 arg3 harg3 arg4 harg4 arg5 harg5 arg6 harg6 x0 x1 x2 x3 x4, runB_v498 c i arg2 harg2 arg3 harg3 arg4 harg4 arg5 harg5 arg6 harg6 x0 x1 x2 x3 x4, runB_r_16 c i arg2 harg2 arg3 harg3 arg4 harg4 arg5 harg5 arg6 harg6 x0 x1 x2 x3 x4, runB_r_39 c i arg2 harg2 arg3 harg3 arg4 harg4 arg5 harg5 arg6 harg6 x0 x1 x2 x3 x4, runB_r_18 c i arg2 harg2 arg3 harg3 arg4 harg4 arg5 harg5 arg6 harg6 x0 x1 x2 x3 x4, runB_r_40 c i arg2 harg2 arg3 harg3 arg4 harg4 arg5 harg5 arg6 harg6 x0 x1 x2 x3 x4, runB_r_21 c i arg2 harg2 arg3 harg3 arg4 harg4 arg5 harg5 arg6 harg6 x0 x1 x2 x3 x4, runB_r_41 c i arg2 harg2 arg3 harg3 arg4 harg4 arg5 harg5 arg6 harg6 x0 x1 x2 x3 x4, runB_r_26 c i arg2 harg2 arg3 harg3 arg4 harg4 arg5 harg5 arg6 harg6 x0 x1 x2 x3 x4, runB_v492 c i arg2 harg2 arg3 harg3 arg4 harg4 arg5 harg5 arg6 harg6 x0 x1 x2 x3 x4, runB_r_36 c i arg2 harg2 arg3 harg3 arg4 harg4 arg5 harg5 arg6 harg6 x0 x1 x2 x3 x4, runB_v501 c i arg2 harg2 arg3 harg3 arg4 harg4 arg5 harg5 arg6 harg6 x0 x1 x2 x3 x4]
  all_goals rfl

end Cert.AttnBwdIdeal.Attn

end
-- ==== Proof.AttnFrame.lean ====
module

public import proofs.«01_k».proof.Proof.AttnTileA
public import proofs.«01_k».proof.Proof.AttnTileB
public import proofs.«01_k».proof.Proof.AttnRead
public import proofs.«01_k».proof.Proof.Gen.AttnBwdIdeal.Frame
public import Idealize.ShloMosaic.Lib.Claim

@[expose] public section

set_option maxRecDepth 16384

noncomputable section

namespace Cert.AttnBwdIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwdIdeal.Gen Cert.AttnBwdIdeal.Run

variable {F : FTy → Type} [FloatOps F] [Named F]

variable (m : (ℓ : Loc nD τ sig) → Buf (Elt F) ℓ) (ρ : Dev nD → PrngReg)

/-- The eight blocks of point `t`'s tile. -/
def blks (c : Dev nD) (t : Fin cfg0.N) : Fin 8 → Blk F := blkP (grid0.coords t) (iblk m c 0 t) (iblk m c 1 t) (iblk m c 2 t) (iblk m c 3 t) (iblk m c 4 t)

/-- The gradient of the keys after point `n`: the tiles of the group so far, added up. -/
def acc6 (c : Dev nD) : (n : ℕ) → n < cfg0.N → Vec F S4352x128 .f32
  | 0, h => accVal (1024 * (grid0.coords ⟨0, h⟩ 1).val) 10 (fun b => (blks m c ⟨0, h⟩ b).dk) k0_pay2
  | n + 1, h => if (n + 1) % 4 = 0 then accVal (1024 * (grid0.coords ⟨n + 1, h⟩ 1).val) 10 (fun b => (blks m c ⟨n + 1, h⟩ b).dk) k0_pay2 else accVal (1024 * (grid0.coords ⟨n + 1, h⟩ 1).val) 10 (fun b => (blks m c ⟨n + 1, h⟩ b).dk) (acc6 c n (Nat.lt_of_succ_lt h))

theorem acc6_A (c : Dev nD) (t : Fin cfg0.N) (h0 : t.val % 4 = 0) : acc6 m c t.val t.isLt = accVal (1024 * (grid0.coords t 1).val) 10 (fun b => (blks m c t b).dk) k0_pay2 := by
  obtain ⟨n, hn⟩ := t
  cases n with
  | zero => rfl
  | succ n => exact if_pos h0

theorem acc6_B (c : Dev nD) (t : Fin cfg0.N) (h0 : ¬t.val % 4 = 0) :
    acc6 m c t.val t.isLt = accVal (1024 * (grid0.coords t 1).val) 10 (fun b => (blks m c t b).dk) (acc6 m c (t.val - 1) (Nat.lt_of_le_of_lt (Nat.sub_le _ _) t.isLt)) := by
  obtain ⟨n, hn⟩ := t
  cases n with
  | zero => exact absurd rfl h0
  | succ n => exact if_neg h0

/-- The gradient of the values after point `n`. -/
def acc7 (c : Dev nD) : (n : ℕ) → n < cfg0.N → Vec F S4352x128 .f32
  | 0, h => accVal (1024 * (grid0.coords ⟨0, h⟩ 1).val) 10 (fun b => (blks m c ⟨0, h⟩ b).dv) k0_pay2
  | n + 1, h => if (n + 1) % 4 = 0 then accVal (1024 * (grid0.coords ⟨n + 1, h⟩ 1).val) 10 (fun b => (blks m c ⟨n + 1, h⟩ b).dv) k0_pay2 else accVal (1024 * (grid0.coords ⟨n + 1, h⟩ 1).val) 10 (fun b => (blks m c ⟨n + 1, h⟩ b).dv) (acc7 c n (Nat.lt_of_succ_lt h))

theorem acc7_A (c : Dev nD) (t : Fin cfg0.N) (h0 : t.val % 4 = 0) : acc7 m c t.val t.isLt = accVal (1024 * (grid0.coords t 1).val) 10 (fun b => (blks m c t b).dv) k0_pay2 := by
  obtain ⟨n, hn⟩ := t
  cases n with
  | zero => rfl
  | succ n => exact if_pos h0

theorem acc7_B (c : Dev nD) (t : Fin cfg0.N) (h0 : ¬t.val % 4 = 0) :
    acc7 m c t.val t.isLt = accVal (1024 * (grid0.coords t 1).val) 10 (fun b => (blks m c t b).dv) (acc7 m c (t.val - 1) (Nat.lt_of_le_of_lt (Nat.sub_le _ _) t.isLt)) := by
  obtain ⟨n, hn⟩ := t
  cases n with
  | zero => exact absurd rfl h0
  | succ n => exact if_neg h0

/-- The gradient of the sinks after point `n`, each along its row. -/
def acc8 (c : Dev nD) : (n : ℕ) → n < cfg0.N → Vec F S1x4x128 .f32
  | 0, h => sinkVal 4 (fun b => (blks m c ⟨0, h⟩ b).pe) (fun b => (blks m c ⟨0, h⟩ b).dl) k0_pay4
  | n + 1, h => if (n + 1) % 4 = 0 then sinkVal 4 (fun b => (blks m c ⟨n + 1, h⟩ b).pe) (fun b => (blks m c ⟨n + 1, h⟩ b).dl) k0_pay4 else sinkVal 4 (fun b => (blks m c ⟨n + 1, h⟩ b).pe) (fun b => (blks m c ⟨n + 1, h⟩ b).dl) (acc8 c n (Nat.lt_of_succ_lt h))

theorem acc8_A (c : Dev nD) (t : Fin cfg0.N) (h0 : t.val % 4 = 0) : acc8 m c t.val t.isLt = sinkVal 4 (fun b => (blks m c t b).pe) (fun b => (blks m c t b).dl) k0_pay4 := by
  obtain ⟨n, hn⟩ := t
  cases n with
  | zero => rfl
  | succ n => exact if_pos h0

theorem acc8_B (c : Dev nD) (t : Fin cfg0.N) (h0 : ¬t.val % 4 = 0) :
    acc8 m c t.val t.isLt = sinkVal 4 (fun b => (blks m c t b).pe) (fun b => (blks m c t b).dl) (acc8 m c (t.val - 1) (Nat.lt_of_le_of_lt (Nat.sub_le _ _) t.isLt)) := by
  obtain ⟨n, hn⟩ := t
  cases n with
  | zero => exact absurd rfl h0
  | succ n => exact if_neg h0

/-- The proof data of the one pipeline: after the body at `t` each input's buffer holds its block, the first output's the tile's
    gradient of the queries, the others' the sums over the group's tiles so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqVal fun b => (blks m c t b).dq
    | ⟨6, _⟩ => acc6 m c t.val t.isLt
    | ⟨7, _⟩ => acc7 m c t.val t.isLt
    | ⟨8, _⟩ => acc8 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqVal fun b => (blks m c t b).dq := by dsimp only [dats]
theorem after0_6 (c : Dev nD) (t : Fin cfg0.N) : (dats m 0 c).after 6 t = acc6 m c t.val t.isLt := by dsimp only [dats]
theorem after0_7 (c : Dev nD) (t : Fin cfg0.N) : (dats m 0 c).after 7 t = acc7 m c t.val t.isLt := by dsimp only [dats]
theorem after0_8 (c : Dev nD) (t : Fin cfg0.N) : (dats m 0 c).after 8 t = acc8 m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a later tile the buffer holds what the tile before left. -/
theorem before0_6 (c : Dev nD) (t : Fin cfg0.N) (h0 : ¬t.val % 4 = 0) (d) :
    (dats m 0 c).before 6 t d = acc6 m c (t.val - 1) (Nat.lt_of_le_of_lt (Nat.sub_le _ _) t.isLt) := by
  have ht : t.val ≠ 0 := fun h => h0 (by rw [h])
  rw [(dats m 0 c).before_out_acc 6 rfl t ht (by
    rw [Bool.eq_false_iff]; intro h
    have := (flush0_6 _).mp h
    dsimp only at this
    omega) (fun _ => rfl) d]
  unfold Dat.kept
  dsimp only [dats]
  rfl
/-- At a later tile the buffer holds what the tile before left. -/
theorem before0_7 (c : Dev nD) (t : Fin cfg0.N) (h0 : ¬t.val % 4 = 0) (d) :
    (dats m 0 c).before 7 t d = acc7 m c (t.val - 1) (Nat.lt_of_le_of_lt (Nat.sub_le _ _) t.isLt) := by
  have ht : t.val ≠ 0 := fun h => h0 (by rw [h])
  rw [(dats m 0 c).before_out_acc 7 rfl t ht (by
    rw [Bool.eq_false_iff]; intro h
    have := (flush0_7 _).mp h
    dsimp only at this
    omega) (fun _ => rfl) d]
  unfold Dat.kept
  dsimp only [dats]
  rfl
/-- At a later tile the buffer holds what the tile before left. -/
theorem before0_8 (c : Dev nD) (t : Fin cfg0.N) (h0 : ¬t.val % 4 = 0) (d) :
    (dats m 0 c).before 8 t d = acc8 m c (t.val - 1) (Nat.lt_of_le_of_lt (Nat.sub_le _ _) t.isLt) := by
  have ht : t.val ≠ 0 := fun h => h0 (by rw [h])
  rw [(dats m 0 c).before_out_acc 8 rfl t ht (by
    rw [Bool.eq_false_iff]; intro h
    have := (flush0_8 _).mp h
    dsimp only at this
    omega) (fun _ => rfl) d]
  unfold Dat.kept
  dsimp only [dats]
  rfl

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at a point of a first tile. -/
theorem sound_bodyA (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((hcond0_0 t).mpr h0) (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%f5, H5⟩, ⟨%f6, H6⟩, ⟨%f7, H7⟩, ⟨%f8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; isplitr
    swap; · iexact H5
    ipureintro
    rw [runA_L5, blkAt_eq]
    exact read_dq _ _ _
  isplitl [H6]
  · iexists _; isplitr
    swap; · iexact H6
    ipureintro
    rw [runA_L6, blkAt_eq]
    rw [acc6_A m c t h0]
    exact read_accA _ _ _ _ (by decide) _
  isplitl [H7]
  · iexists _; isplitr
    swap; · iexact H7
    ipureintro
    rw [runA_L7, blkAt_eq]
    rw [acc7_A m c t h0]
    exact read_accA _ _ _ _ (by decide) _
  iexists _; isplitr
  swap; · iexact H8
  ipureintro
  rw [runA_L8, blkAt_eq]
  rw [acc8_A m c t h0]
  exact read_sinkA _ _ _ _ (by decide) _

set_option maxHeartbeats 1600000 in
/-- The body at a point of a later tile. -/
theorem sound_bodyB (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_6 m c t h0, before0_7 m c t h0, before0_8 m c t h0]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((hcond0_0 t).mp h)) (iblk m c 0 t) (iblk m c 1 t) (iblk m c 2 t) (iblk m c 3 t) (iblk m c 4 t) (acc6 m c (t.val - 1) (Nat.lt_of_le_of_lt (Nat.sub_le _ _) t.isLt)) (acc7 m c (t.val - 1) (Nat.lt_of_le_of_lt (Nat.sub_le _ _) t.isLt)) (acc8 m c (t.val - 1) (Nat.lt_of_le_of_lt (Nat.sub_le _ _) t.isLt))).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, ⟨%f5, H5⟩, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; isplitr
    swap; · iexact H5
    ipureintro
    rw [runB_L5, blkAt_eq]
    exact read_dq _ _ _
  isplitl [H6]
  · iexists _; isplitr
    swap; · iexact H6
    ipureintro
    rw [runB_L6, blkAt_eq]
    rw [acc6_B m c t h0]
    exact read_accB _ _ _ _ _ _ (by decide)
  isplitl [H7]
  · iexists _; isplitr
    swap; · iexact H7
    ipureintro
    rw [runB_L7, blkAt_eq]
    rw [acc7_B m c t h0]
    exact read_accB _ _ _ _ _ _ (by decide)
  iexists _; isplitr
  swap; · iexact H8
  ipureintro
  rw [runB_L8, blkAt_eq]
  rw [acc8_B m c t h0]
  exact read_sinkB _ _ _ _ _ _ (by decide)

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_bodyA m c t h0
  · exact sound_bodyB m c t h0

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every run of @main ends, with the pipeline's arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnBwdIdeal.Attn

end
-- ==== Proof.AttnIn.lean ====
module

public import proofs.«01_k».proof.Proof.AttnFrame
public import proofs.«01_k».proof.Proof.AttnBlk
public import Idealize.ShloMosaic.Lib.StableHlo.ReadAt
public import Idealize.ShloMosaic.Lib.Pipeline.ValueKit
public import Idealize.ShloMosaic.Lib.Pointwise

@[expose] public section

set_option maxRecDepth 16384

noncomputable section

namespace Cert.AttnBwdIdeal.Attn

open Idealize.ShloMosaic Idealize.ShloMosaic.TcCoe Idealize.SL.Sem
open Idealize.ShloMosaic.Pipeline (Dat)
open Cert.AttnBwdIdeal Cert.AttnBwdIdeal.Gen Cert.AttnMath Cert.Reals

variable (m : (ℓ : Loc nD τ sig) → Buf (Elt Ideal) ℓ)

/-- The argument arrays hold the reals `A`. -/
structure Holds (c : Dev nD) (A : Args) : Prop where
  q : ∀ i j, m ((c.tc : Thread nD τ).loc main_arg0) (ix2 i j) = (A.q i j : EReal)
  k : ∀ i j, m ((c.tc : Thread nD τ).loc main_arg1) (ix2 i j) = (A.k i j : EReal)
  v : ∀ i j, m ((c.tc : Thread nD τ).loc main_arg2) (ix2 i j) = (A.v i j : EReal)
  s : ∀ i, m ((c.tc : Thread nD τ).loc main_arg3) (ix1 i) = (A.s i : EReal)
  g : ∀ i j, m ((c.tc : Thread nD τ).loc main_arg4) (ix2 i j) = (A.g i j : EReal)

/-! ## What the host operations before the region leave -/

theorem V_sink (c : Dev nD) (γ : Fin 2) (h : Fin 4) (l : Fin 128) :
    V m c main_v1 (ix3 γ h l) = m ((c.tc : Thread nD τ).loc main_arg3) (ix1 (⟨4 * γ.val + h.val, by omega⟩ : Fin 8)) := by
  unfold V
  after_reads_at
  show m ((c.tc : Thread nD τ).loc main_arg3) _ = _
  congr 2
  exact Fin.ext (by show γ.val * 4 + h.val = 4 * γ.val + h.val; omega)

theorem int_zero : (FloatOps.sitofp (F := Ideal) .bf16 0#32 : EReal) = 0 := by
  show (((0#32 : BitVec 32).toInt : ℝ) : EReal) = 0
  simp

theorem V_k (c : Dev nD) (y : Fin 4352) (j : Fin 256) :
    V m c main_v2 (ix2 y j) = (if h : 128 ≤ y.val ∧ y.val < 4224 then m ((c.tc : Thread nD τ).loc main_arg1) (ix2 (⟨y.val - 128, by omega⟩ : Fin 4096) j) else (0 : EReal)) := by
  unfold V
  after_reads_at
  by_cases h : 128 ≤ y.val ∧ y.val < 4224
  · rw [dif_pos (by omega), dif_pos h]
  · rw [dif_neg (by omega), dif_neg h]; exact int_zero

theorem V_v (c : Dev nD) (y : Fin 4352) (j : Fin 256) :
    V m c main_v3 (ix2 y j) = (if h : 128 ≤ y.val ∧ y.val < 4224 then m ((c.tc : Thread nD τ).loc main_arg2) (ix2 (⟨y.val - 128, by omega⟩ : Fin 4096) j) else (0 : EReal)) := by
  unfold V
  after_reads_at
  by_cases h : 128 ≤ y.val ∧ y.val < 4224
  · rw [dif_pos (by omega), dif_pos h]
  · rw [dif_neg (by omega), dif_neg h]; exact int_zero

/-- Where each window's block lies at a grid point. -/
theorem idx (t : Fin grid0.N) : win0_0.index t = ![t.val % 4, t.val / 4] ∧ win0_1.index t = ![0, t.val / 4] ∧ win0_2.index t = ![0, t.val / 4]
    ∧ win0_3.index t = ![t.val / 4, 0, 0] ∧ win0_4.index t = ![t.val % 4, t.val / 4] ∧ win0_5.index t = ![t.val % 4, t.val / 4]
    ∧ win0_6.index t = ![0, t.val / 4] ∧ win0_7.index t = ![0, t.val / 4] ∧ win0_8.index t = ![t.val / 4, 0, 0] :=
  (by decide +kernel : ∀ t : Fin grid0.N, win0_0.index t = ![t.val % 4, t.val / 4] ∧ win0_1.index t = ![0, t.val / 4] ∧ win0_2.index t = ![0, t.val / 4]
    ∧ win0_3.index t = ![t.val / 4, 0, 0] ∧ win0_4.index t = ![t.val % 4, t.val / 4] ∧ win0_5.index t = ![t.val % 4, t.val / 4]
    ∧ win0_6.index t = ![0, t.val / 4] ∧ win0_7.index t = ![0, t.val / 4] ∧ win0_8.index t = ![t.val / 4, 0, 0]) t

theorem blk_q (c : Dev nD) (t : Fin cfg0.N) (a : Fin 1024) (b : Fin 512) :
    iblk m c 0 t (ix2 a b) = m ((c.tc : Thread nD τ).loc main_arg0) (ix2 (⟨1024 * (t.val % 4) + a.val, by have := t.isLt; omega⟩ : Fin 4096) (⟨512 * (t.val / 4) + b.val, by have h : t.val < 8 := t.isLt; omega⟩ : Fin 1024)) := by
  obtain ⟨e0, e1, e2, e3, e4, e5, e6, e7, e8⟩ := idx t
  blk_point [iblk, e0]

theorem blk_g (c : Dev nD) (t : Fin cfg0.N) (a : Fin 1024) (b : Fin 512) :
    iblk m c 4 t (ix2 a b) = m ((c.tc : Thread nD τ).loc main_arg4) (ix2 (⟨1024 * (t.val % 4) + a.val, by have := t.isLt; omega⟩ : Fin 4096) (⟨512 * (t.val / 4) + b.val, by have h : t.val < 8 := t.isLt; omega⟩ : Fin 2048)) := by
  obtain ⟨e0, e1, e2, e3, e4, e5, e6, e7, e8⟩ := idx t
  blk_point [iblk, e4]

theorem blk_k (c : Dev nD) (t : Fin cfg0.N) (y : Fin 4352) (d : Fin 128) :
    iblk m c 1 t (ix2 y d) = V m c main_v2 (ix2 y (⟨128 * (t.val / 4) + d.val, by have h : t.val < 8 := t.isLt; omega⟩ : Fin 256)) := by
  obtain ⟨e0, e1, e2, e3, e4, e5, e6, e7, e8⟩ := idx t
  blk_point [iblk, e1]

theorem blk_v (c : Dev nD) (t : Fin cfg0.N) (y : Fin 4352) (d : Fin 128) :
    iblk m c 2 t (ix2 y d) = V m c main_v3 (ix2 y (⟨128 * (t.val / 4) + d.val, by have h : t.val < 8 := t.isLt; omega⟩ : Fin 256)) := by
  obtain ⟨e0, e1, e2, e3, e4, e5, e6, e7, e8⟩ := idx t
  blk_point [iblk, e2]

theorem blk_s (c : Dev nD) (t : Fin cfg0.N) (h : Fin 4) (l : Fin 128) :
    iblk m c 3 t (ix3 0 h l) = V m c main_v1 (ix3 (⟨t.val / 4, by have h : t.val < 8 := t.isLt; omega⟩ : Fin 2) h l) := by
  obtain ⟨e0, e1, e2, e3, e4, e5, e6, e7, e8⟩ := idx t
  blk_point [iblk, e3]

/-! ## The blocks of a tile -/

theorem win2_at {e : EltTy} {A B a b : ℕ} (x : Vec Ideal ⟨2, ![A, B]⟩ e) (o p : ℕ) (h : ∀ k, (![o, p] : Fin 2 → ℕ) k + (![a, b] : Fin 2 → ℕ) k ≤ (⟨2, ![A, B]⟩ : Shape).size k)
    (i : Fin a) (j : Fin b) (i' : Fin A) (j' : Fin B) (hi : i'.val = o + i.val) (hj : j'.val = p + j.val) :
    VecWindow.window x ![o, p] ![a, b] h (ix2 i j) = x (ix2 i' j') := by
  refine congrArg x (funext fun k => Fin.ext ?_)
  fin_cases k
  · show o + 1 * i.val = i'.val; omega
  · show p + 1 * j.val = j'.val; omega

theorem win3_at {e : EltTy} {A B C a b c : ℕ} (x : Vec Ideal ⟨3, ![A, B, C]⟩ e) (o p q : ℕ) (h : ∀ k, (![o, p, q] : Fin 3 → ℕ) k + (![a, b, c] : Fin 3 → ℕ) k ≤ (⟨3, ![A, B, C]⟩ : Shape).size k)
    (i : Fin a) (j : Fin b) (l : Fin c) (i' : Fin A) (j' : Fin B) (l' : Fin C) (hi : i'.val = o + i.val) (hj : j'.val = p + j.val) (hl : l'.val = q + l.val) :
    VecWindow.window x ![o, p, q] ![a, b, c] h (ix3 i j l) = x (ix3 i' j' l') := by
  refine congrArg x (funext fun k => Fin.ext ?_)
  fin_cases k
  · show o + 1 * i.val = i'.val; omega
  · show p + 1 * j.val = j'.val; omega
  · show q + 1 * l.val = l'.val; omega

theorem stkP_at (x : Vec Ideal S1024x512 .bf16) (b : Fin 8) (R : Fin 512) (d : Fin 128) :
    stkP x b (ix2 R d) = x (ix2 (⟨128 * b.val + R.val % 128, by omega⟩ : Fin 1024) (⟨128 * (R.val / 128) + d.val, by omega⟩ : Fin 512)) := by
  unfold stkP k0_pay7
  pointwise
  have hR := R.isLt
  by_cases h0 : R.val < 128
  · rw [dif_pos h0]
    exact win2_at x _ _ _ _ _ _ _ (by show 128 * b.val + R.val % 128 = 128 * b.val + R.val; omega) (by show 128 * (R.val / 128) + d.val = 0 + d.val; omega)
  rw [dif_neg h0]
  by_cases h1 : R.val - 128 < 128
  · rw [dif_pos h1]
    exact win2_at x _ _ _ _ _ _ _ (by show 128 * b.val + R.val % 128 = 128 * b.val + (R.val - 128); omega) (by show 128 * (R.val / 128) + d.val = 128 + d.val; omega)
  rw [dif_neg h1]
  by_cases h2 : R.val - 128 - 128 < 128
  · rw [dif_pos h2]
    exact win2_at x _ _ _ _ _ _ _ (by show 128 * b.val + R.val % 128 = 128 * b.val + (R.val - 128 - 128); omega) (by show 128 * (R.val / 128) + d.val = 256 + d.val; omega)
  rw [dif_neg h2]
  exact win2_at x _ _ _ _ _ _ _ (by show 128 * b.val + R.val % 128 = 128 * b.val + (R.val - 128 - 128 - 128); omega) (by show 128 * (R.val / 128) + d.val = 384 + d.val; omega)

theorem winP_at (I : Fin 4) (x : Vec Ideal S4352x128 .bf16) (b : Fin 8) (c : Fin 384) (d : Fin 128) :
    winP I x b (ix2 c d) = x (ix2 (⟨1024 * I.val + 128 * b.val + c.val, by omega⟩ : Fin 4352) d) := by
  unfold winP
  exact win2_at x _ _ _ _ _ _ _ rfl (zero_add _).symm

theorem snkP_at (x : Vec Ideal S1x4x128 .f32) (R : Fin 512) :
    snkP x (ix2 R 0) = x (ix3 0 (⟨R.val / 128, by omega⟩ : Fin 4) 0) := by
  unfold snkP k0_pay5
  pointwise
  have hR := R.isLt
  by_cases h0 : R.val < 128
  · rw [dif_pos h0]
    exact win3_at x _ _ _ _ _ _ _ _ _ _ rfl (by show R.val / 128 = 0; omega) rfl
  rw [dif_neg h0]
  by_cases h1 : R.val - 128 < 128
  · rw [dif_pos h1]
    exact win3_at x _ _ _ _ _ _ _ _ _ _ rfl (by show R.val / 128 = 1; omega) rfl
  rw [dif_neg h1]
  by_cases h2 : R.val - 128 - 128 < 128
  · rw [dif_pos h2]
    exact win3_at x _ _ _ _ _ _ _ _ _ _ rfl (by show R.val / 128 = 2; omega) rfl
  rw [dif_neg h2]
  exact win3_at x _ _ _ _ _ _ _ _ _ _ rfl (by show R.val / 128 = 3; omega) rfl

theorem nw_at : ∀ (I : Fin 4) (b : Fin 8), Scalar.addi (Scalar.muli (BitVec.ofNat 32 I.val) 8#32) (BitVec.ofNat 32 b.val) = BitVec.ofNat 32 (8 * I.val + b.val) := by decide +kernel

theorem coords_at : ∀ t : Fin cfg0.N, (grid0.coords t 1).val = t.val % 4 := by decide +kernel

/-- Block `b` at a grid point represents its block of reals. -/
theorem rep (c : Dev nD) (A : Args) (hA : Holds m c A) (t : Fin cfg0.N) (γ : Fin 2) (I : Fin 4) (ht : t.val = 4 * γ.val + I.val) (b : Fin 8) :
    Rep (blks m c t b) (A.blk γ ⟨8 * I.val + b.val, by omega⟩) ⟨8 * I.val + b.val, by omega⟩ := by
  have hc : (grid0.coords t 1).val = I.val := by
    have h := coords_at t
    rw [h, ht]
    omega
  have eI : (grid0.coords t 1 : Fin 4) = I := Fin.ext hc
  refine ⟨?_, ?_, ?_, ?_, ?_, ?_, ?_⟩
  · show Scalar.addi (Scalar.muli (BitVec.ofNat 32 (grid0.coords t 1).val) 8#32) (BitVec.ofNat 32 b.val) = _
    rw [hc, nw_at]
  · intro R
    show snkP (iblk m c 3 t) (ix2 R 0) = _
    rw [snkP_at, blk_s, V_sink, hA.s]
    show ((A.s _ : ℝ) : EReal) = ((A.s _ : ℝ) : EReal)
    congr 2
    exact Fin.ext (by show 4 * (t.val / 4) + R.val / 128 = 4 * γ.val + R.val / 128; omega)
  · intro R d
    show stkP (iblk m c 0 t) b (ix2 R d) = _
    rw [stkP_at, blk_q, hA.q]
    show ((A.q _ _ : ℝ) : EReal) = ((A.q _ _ : ℝ) : EReal)
    congr 2
    · exact Fin.ext (by show 1024 * (t.val % 4) + (128 * b.val + R.val % 128) = 128 * (8 * I.val + b.val) + R.val % 128; omega)
    · exact Fin.ext (by show 512 * (t.val / 4) + (128 * (R.val / 128) + d.val) = 512 * γ.val + (128 * (R.val / 128) + d.val); omega)
  · intro cc d
    show winP (grid0.coords t 1) (iblk m c 1 t) b (ix2 cc d) = _
    rw [eI, winP_at, blk_k, V_k]
    show _ = ((padded A.k (128 * (8 * I.val + b.val) + cc.val) ⟨128 * γ.val + d.val, by omega⟩ : ℝ) : EReal)
    unfold padded
    by_cases h : 128 ≤ 128 * (8 * I.val + b.val) + cc.val ∧ 128 * (8 * I.val + b.val) + cc.val < 4224
    · rw [dif_pos h, dif_pos (by show 128 ≤ 1024 * I.val + 128 * b.val + cc.val ∧ 1024 * I.val + 128 * b.val + cc.val < 4224; omega), hA.k]
      congr 2
      · exact Fin.ext (by show 1024 * I.val + 128 * b.val + cc.val - 128 = 128 * (8 * I.val + b.val) + cc.val - 128; omega)
      · exact Fin.ext (by show 128 * (t.val / 4) + d.val = 128 * γ.val + d.val; omega)
    · rw [dif_neg h, dif_neg (by show ¬(128 ≤ 1024 * I.val + 128 * b.val + cc.val ∧ 1024 * I.val + 128 * b.val + cc.val < 4224); omega)]
      rfl
  · intro cc d
    show winP (grid0.coords t 1) (iblk m c 2 t) b (ix2 cc d) = _
    rw [eI, winP_at, blk_v, V_v]
    show _ = ((padded A.v (128 * (8 * I.val + b.val) + cc.val) ⟨128 * γ.val + d.val, by omega⟩ : ℝ) : EReal)
    unfold padded
    by_cases h : 128 ≤ 128 * (8 * I.val + b.val) + cc.val ∧ 128 * (8 * I.val + b.val) + cc.val < 4224
    · rw [dif_pos h, dif_pos (by show 128 ≤ 1024 * I.val + 128 * b.val + cc.val ∧ 1024 * I.val + 128 * b.val + cc.val < 4224; omega), hA.v]
      congr 2
      · exact Fin.ext (by show 1024 * I.val + 128 * b.val + cc.val - 128 = 128 * (8 * I.val + b.val) + cc.val - 128; omega)
      · exact Fin.ext (by show 128 * (t.val / 4) + d.val = 128 * γ.val + d.val; omega)
    · rw [dif_neg h, dif_neg (by show ¬(128 ≤ 1024 * I.val + 128 * b.val + cc.val ∧ 1024 * I.val + 128 * b.val + cc.val < 4224); omega)]
      rfl
  · intro R d
    show stkP (iblk m c 4 t) b (ix2 R d) = _
    rw [stkP_at, blk_g, hA.g]
    show ((A.g _ _ : ℝ) : EReal) = ((A.g _ _ : ℝ) : EReal)
    congr 2
    · exact Fin.ext (by show 1024 * (t.val % 4) + (128 * b.val + R.val % 128) = 128 * (8 * I.val + b.val) + R.val % 128; omega)
    · exact Fin.ext (by show 512 * (t.val / 4) + (128 * (R.val / 128) + d.val) = 512 * γ.val + (128 * (R.val / 128) + d.val); omega)
  · exact fun R cc => rfl

end Cert.AttnBwdIdeal.Attn

end
-- ==== Proof.AttnVal.lean ====
module

public import proofs.«01_k».proof.Proof.AttnSum
public import proofs.«01_k».proof.Proof.AttnIn
public import Idealize.ShloMosaic.Lib.Pipeline.ValueKit
public import Idealize.ShloMosaic.Lib.Pointwise

@[expose] public section

set_option maxRecDepth 16384

noncomputable section

namespace Cert.AttnBwdIdeal.Attn

open Idealize.ShloMosaic Idealize.ShloMosaic.TcCoe Idealize.SL.Sem
open Idealize.ShloMosaic.Pipeline (Dat)
open Cert.AttnBwdIdeal Cert.AttnBwdIdeal.Gen Cert.AttnMath Cert.Reals

variable (m : (ℓ : Loc nD τ sig) → Buf (Elt Ideal) ℓ)

/-- The accumulated gradient of the keys when a group's four tiles are done. -/
theorem acc6_at (c : Dev nD) (A : Args) (hA : Holds m c A) (γ : Fin 2) (y : Fin 4352) (d : Fin 128) :
    acc6 m c (4 * γ.val + 3) (by show 4 * γ.val + 3 < 8; omega) (ix2 y d) = (A.dk y ⟨128 * γ.val + d.val, by omega⟩ : EReal) := by
  have s : ∀ (I : Fin 4) (t : Fin cfg0.N), t.val = 4 * γ.val + I.val → ∀ (Y : Vec Ideal S4352x128 .f32) (z : ℝ), Y (ix2 y d) = (z : EReal) →
      accVal (1024 * (grid0.coords t 1).val) 10 (fun b => (blks m c t b).dk) Y (ix2 y d) = ((z + tileR I (fun N => (A.blk γ N).dk) y d : ℝ) : EReal) := by
    intro I t ht Y z hY
    have hc : (grid0.coords t 1).val = I.val := by rw [coords_at t, ht]; omega
    rw [hc]
    exact accVal_at I _ (fun N => (A.blk γ N).dk) (fun b cc dd => dk_at (rep m c A hA t γ I ht b) cc dd) Y z y d hY
  have z0 : (k0_pay2 (F := Ideal)) (ix2 y d) = ((0 : ℝ) : EReal) := by unfold k0_pay2; pointwise; rfl
  have s0 := (congrFun (acc6_A m c ⟨4 * γ.val, by show 4 * γ.val < 8; omega⟩ (by show 4 * γ.val % 4 = 0; omega)) (ix2 y d)).trans (s 0 _ rfl _ _ z0)
  have s1 := (congrFun (acc6_B m c ⟨4 * γ.val + 1, by show 4 * γ.val + 1 < 8; omega⟩ (by show ¬(4 * γ.val + 1) % 4 = 0; omega)) (ix2 y d)).trans (s 1 _ rfl _ _ s0)
  have s2 := (congrFun (acc6_B m c ⟨4 * γ.val + 2, by show 4 * γ.val + 2 < 8; omega⟩ (by show ¬(4 * γ.val + 2) % 4 = 0; omega)) (ix2 y d)).trans (s 2 _ rfl _ _ s1)
  have s3 := (congrFun (acc6_B m c ⟨4 * γ.val + 3, by show 4 * γ.val + 3 < 8; omega⟩ (by show ¬(4 * γ.val + 3) % 4 = 0; omega)) (ix2 y d)).trans (s 3 _ rfl _ _ s2)
  refine s3.trans ?_
  rw [tiles_spread (fun γ N => (A.blk γ N).dk)]
  rfl

/-- The accumulated gradient of the values when a group's four tiles are done. -/
theorem acc7_at (c : Dev nD) (A : Args) (hA : Holds m c A) (γ : Fin 2) (y : Fin 4352) (d : Fin 128) :
    acc7 m c (4 * γ.val + 3) (by show 4 * γ.val + 3 < 8; omega) (ix2 y d) = (A.dv y ⟨128 * γ.val + d.val, by omega⟩ : EReal) := by
  have s : ∀ (I : Fin 4) (t : Fin cfg0.N), t.val = 4 * γ.val + I.val → ∀ (Y : Vec Ideal S4352x128 .f32) (z : ℝ), Y (ix2 y d) = (z : EReal) →
      accVal (1024 * (grid0.coords t 1).val) 10 (fun b => (blks m c t b).dv) Y (ix2 y d) = ((z + tileR I (fun N => (A.blk γ N).dv) y d : ℝ) : EReal) := by
    intro I t ht Y z hY
    have hc : (grid0.coords t 1).val = I.val := by rw [coords_at t, ht]; omega
    rw [hc]
    exact accVal_at I _ (fun N => (A.blk γ N).dv) (fun b cc dd => dv_at (rep m c A hA t γ I ht b) cc dd) Y z y d hY
  have z0 : (k0_pay2 (F := Ideal)) (ix2 y d) = ((0 : ℝ) : EReal) := by unfold k0_pay2; pointwise; rfl
  have s0 := (congrFun (acc7_A m c ⟨4 * γ.val, by show 4 * γ.val < 8; omega⟩ (by show 4 * γ.val % 4 = 0; omega)) (ix2 y d)).trans (s 0 _ rfl _ _ z0)
  have s1 := (congrFun (acc7_B m c ⟨4 * γ.val + 1, by show 4 * γ.val + 1 < 8; omega⟩ (by show ¬(4 * γ.val + 1) % 4 = 0; omega)) (ix2 y d)).trans (s 1 _ rfl _ _ s0)
  have s2 := (congrFun (acc7_B m c ⟨4 * γ.val + 2, by show 4 * γ.val + 2 < 8; omega⟩ (by show ¬(4 * γ.val + 2) % 4 = 0; omega)) (ix2 y d)).trans (s 2 _ rfl _ _ s1)
  have s3 := (congrFun (acc7_B m c ⟨4 * γ.val + 3, by show 4 * γ.val + 3 < 8; omega⟩ (by show ¬(4 * γ.val + 3) % 4 = 0; omega)) (ix2 y d)).trans (s 3 _ rfl _ _ s2)
  refine s3.trans ?_
  rw [tiles_spread (fun γ N => (A.blk γ N).dv)]
  rfl

/-- The accumulated gradient of the sinks when a group's four tiles are done. -/
theorem acc8_at (c : Dev nD) (A : Args) (hA : Holds m c A) (γ : Fin 2) (h : Fin 4) (l : Fin 128) :
    acc8 m c (4 * γ.val + 3) (by show 4 * γ.val + 3 < 8; omega) (ix3 0 h l) = (A.dsink γ h : EReal) := by
  have s : ∀ (I : Fin 4) (t : Fin cfg0.N), t.val = 4 * γ.val + I.val → ∀ (Y : Vec Ideal S1x4x128 .f32) (z : ℝ), Y (ix3 0 h l) = (z : EReal) →
      sinkVal 4 (fun b => (blks m c t b).pe) (fun b => (blks m c t b).dl) Y (ix3 0 h l) = ((z + tileS I (fun N => (A.blk γ N).de) h : ℝ) : EReal) := by
    intro I t ht Y z hY
    refine sinkVal_at I _ _ (fun N => (A.blk γ N).de) (fun b R => ?_) Y z h l hY
    have r := rep m c A hA t γ I ht b
    rw [pe_at r, dl_at r, ← EReal.coe_mul, ← EReal.coe_neg]
    rfl
  have z0 : (k0_pay4 (F := Ideal)) (ix3 0 h l) = ((0 : ℝ) : EReal) := by unfold k0_pay4; pointwise; rfl
  have s0 := (congrFun (acc8_A m c ⟨4 * γ.val, by show 4 * γ.val < 8; omega⟩ (by show 4 * γ.val % 4 = 0; omega)) (ix3 0 h l)).trans (s 0 _ rfl _ _ z0)
  have s1 := (congrFun (acc8_B m c ⟨4 * γ.val + 1, by show 4 * γ.val + 1 < 8; omega⟩ (by show ¬(4 * γ.val + 1) % 4 = 0; omega)) (ix3 0 h l)).trans (s 1 _ rfl _ _ s0)
  have s2 := (congrFun (acc8_B m c ⟨4 * γ.val + 2, by show 4 * γ.val + 2 < 8; omega⟩ (by show ¬(4 * γ.val + 2) % 4 = 0; omega)) (ix3 0 h l)).trans (s 2 _ rfl _ _ s1)
  have s3 := (congrFun (acc8_B m c ⟨4 * γ.val + 3, by show 4 * γ.val + 3 < 8; omega⟩ (by show ¬(4 * γ.val + 3) % 4 = 0; omega)) (ix3 0 h l)).trans (s 3 _ rfl _ _ s2)
  refine s3.trans ?_
  rw [tiles_sink (fun N => (A.blk γ N).de) h]
  rfl

/-! ## The result arrays after the run -/

/-- The four result arrays. -/
def dqArr (A : Args) : S4096x1024.Idx → EReal := fun x => (A.dq (x 0) (x 1) : EReal)
def kvArr (D : Fin 4352 → Fin 256 → ℝ) : S4352x256.Idx → EReal := fun x => (D (x 0) (x 1) : EReal)
def snArr (A : Args) : S2x4x128.Idx → EReal := fun x => (A.dsink (x 0) (x 1) : EReal)

theorem final5 (c : Dev nD) (A : Args) (hA : Holds m c A) : (dats m 0 c).arrAt 5 cfg0.N = dqArr A := by
  refine (dats m 0 c).arrAt_eq_of_covers 5 _ (by decide +kernel) fun t hf y => ?_
  have ht : t.val < 8 := t.isLt
  blk_simp
  rw [after0_5]
  obtain ⟨e0, e1, e2, e3, e4, e5, e6, e7, e8⟩ := idx t
  obtain ⟨a, b, rfl⟩ : ∃ (a : Fin 1024) (b : Fin 512), y = ix2 a b := ⟨y 0, y 1, eq_ix2 y⟩
  have e := dq_at (rep m c A hA t ⟨t.val / 4, by omega⟩ ⟨t.val % 4, by omega⟩ (by show t.val = 4 * (t.val / 4) + t.val % 4; omega) ⟨a.val / 128, by omega⟩)
    (⟨128 * (b.val / 128) + a.val % 128, by omega⟩ : Fin 512) (⟨b.val % 128, by omega⟩ : Fin 128)
  refine Eq.trans (α := EReal) e ?_
  have e' : (((A.blk ⟨t.val / 4, by omega⟩ ⟨8 * (t.val % 4) + a.val / 128, by omega⟩).dq ⟨128 * (b.val / 128) + a.val % 128, by omega⟩ ⟨b.val % 128, by omega⟩ : ℝ) : EReal)
      = dqArr A (ix2 (⟨1024 * (t.val % 4) + a.val, by omega⟩ : Fin 4096) (⟨512 * (t.val / 4) + b.val, by omega⟩ : Fin 1024)) := by
    show _ = ((A.dq _ _ : ℝ) : EReal)
    unfold Args.dq
    have i0 : (⟨(512 * (t.val / 4) + b.val) / 512, by omega⟩ : Fin 2) = ⟨t.val / 4, by omega⟩ := Fin.ext (by show (512 * (t.val / 4) + b.val) / 512 = t.val / 4; omega)
    have i1 : (⟨(1024 * (t.val % 4) + a.val) / 128, by omega⟩ : Fin 32) = ⟨8 * (t.val % 4) + a.val / 128, by omega⟩ := Fin.ext (by show (1024 * (t.val % 4) + a.val) / 128 = 8 * (t.val % 4) + a.val / 128; omega)
    have i2 : (⟨128 * ((512 * (t.val / 4) + b.val) % 512 / 128) + (1024 * (t.val % 4) + a.val) % 128, by omega⟩ : Fin 512) = ⟨128 * (b.val / 128) + a.val % 128, by omega⟩ := Fin.ext (by show 128 * ((512 * (t.val / 4) + b.val) % 512 / 128) + (1024 * (t.val % 4) + a.val) % 128 = 128 * (b.val / 128) + a.val % 128; omega)
    have i3 : (⟨(512 * (t.val / 4) + b.val) % 128, by omega⟩ : Fin 128) = ⟨b.val % 128, by omega⟩ := Fin.ext (by show (512 * (t.val / 4) + b.val) % 128 = b.val % 128; omega)
    rw [← i0, ← i1, ← i2, ← i3]
    rfl
  refine Eq.trans (α := EReal) e' ?_
  generalize dqArr A = X
  blk_point [e5]

theorem final6 (c : Dev nD) (A : Args) (hA : Holds m c A) : (dats m 0 c).arrAt 6 cfg0.N = kvArr A.dk := by
  refine (dats m 0 c).arrAt_eq_of_covers 6 _ (by decide +kernel) fun t hf y => ?_
  have h3 := (flush0_6 t).mp hf
  have ht : t.val < 8 := t.isLt
  blk_simp
  rw [after0_6]
  obtain ⟨e0, e1, e2, e3, e4, e5, e6, e7, e8⟩ := idx t
  obtain ⟨a, b, rfl⟩ : ∃ (a : Fin 4352) (b : Fin 128), y = ix2 a b := ⟨y 0, y 1, eq_ix2 y⟩
  have e := acc6_at m c A hA ⟨t.val / 4, by omega⟩ a b
  have et : 4 * (t.val / 4) + 3 = t.val := by omega
  simp only [et] at e
  refine e.trans ?_
  show kvArr A.dk (ix2 a (⟨128 * (t.val / 4) + b.val, by omega⟩ : Fin 256)) = _
  generalize kvArr A.dk = X
  blk_point [e6]

theorem final7 (c : Dev nD) (A : Args) (hA : Holds m c A) : (dats m 0 c).arrAt 7 cfg0.N = kvArr A.dv := by
  refine (dats m 0 c).arrAt_eq_of_covers 7 _ (by decide +kernel) fun t hf y => ?_
  have h3 := (flush0_7 t).mp hf
  have ht : t.val < 8 := t.isLt
  blk_simp
  rw [after0_7]
  obtain ⟨e0, e1, e2, e3, e4, e5, e6, e7, e8⟩ := idx t
  obtain ⟨a, b, rfl⟩ : ∃ (a : Fin 4352) (b : Fin 128), y = ix2 a b := ⟨y 0, y 1, eq_ix2 y⟩
  have e := acc7_at m c A hA ⟨t.val / 4, by omega⟩ a b
  have et : 4 * (t.val / 4) + 3 = t.val := by omega
  simp only [et] at e
  refine e.trans ?_
  show kvArr A.dv (ix2 a (⟨128 * (t.val / 4) + b.val, by omega⟩ : Fin 256)) = _
  generalize kvArr A.dv = X
  blk_point [e7]

theorem final8 (c : Dev nD) (A : Args) (hA : Holds m c A) : (dats m 0 c).arrAt 8 cfg0.N = snArr A := by
  refine (dats m 0 c).arrAt_eq_of_covers 8 _ (by decide +kernel) fun t hf y => ?_
  have h3 := (flush0_8 t).mp hf
  have ht : t.val < 8 := t.isLt
  blk_simp
  rw [after0_8]
  obtain ⟨e0, e1, e2, e3, e4, e5, e6, e7, e8⟩ := idx t
  obtain ⟨o, a, b, rfl⟩ : ∃ (o : Fin 1) (a : Fin 4) (b : Fin 128), y = ix3 o a b := ⟨y 0, y 1, y 2, eq_ix3 y⟩
  obtain rfl : o = 0 := Subsingleton.elim _ _
  have e := acc8_at m c A hA ⟨t.val / 4, by omega⟩ a b
  have et : 4 * (t.val / 4) + 3 = t.val := by omega
  simp only [et] at e
  refine e.trans ?_
  show snArr A (ix3 (⟨t.val / 4, by omega⟩ : Fin 2) a b) = _
  generalize snArr A = X
  blk_point [e8]

end Cert.AttnBwdIdeal.Attn

end
-- ==== Proof.AttnRefA.lean ====
/- The reference over the reals, first half: the windows, the masks, the scores and the exponentials. -/
module

public import proofs.«01_k».proof.Proof.AttnMath
public import proofs.«01_k».proof.Proof.Gen.AttnRefIdeal.Run
public import Idealize.ShloMosaic.Lib.Pipeline.ValueKit
public import Idealize.ShloMosaic.Lib.Pointwise

@[expose] public section

set_option maxRecDepth 16384

noncomputable section

namespace Cert.AttnRefIdeal.Attn

open Idealize.ShloMosaic Idealize.ShloMosaic.TcCoe Idealize.SL.Sem
open Idealize.ShloMosaic.Pipeline (Dat)
open Cert.AttnRefIdeal Cert.AttnRefIdeal.Gen Cert.AttnRefIdeal.Value Cert.Reals Cert.AttnMath Idealize.ShloMosaic.StableHlo

/-! ## Reductions of six axes -/

theorem fiber_last (h : S1x32x2x4x128x385.ReducesTo [5] S1x32x2x4x128) (N : Fin 32) (γ : Fin 2) (hh : Fin 4) (r : Fin 128) (i : S1x32x2x4x128x385.Idx) :
    h.drop i = ix5 (0 : Fin 1) N γ hh r ↔ ∃ k : Fin 385, ix6 (0 : Fin 1) N γ hh r k = i := by
  constructor
  · intro e
    refine ⟨i 5, ?_⟩
    funext a; apply Fin.ext
    match a with
    | ⟨0, _⟩ => exact (congrArg Fin.val (congrFun e ⟨0, by decide⟩)).symm
    | ⟨1, _⟩ => exact (congrArg Fin.val (congrFun e ⟨1, by decide⟩)).symm
    | ⟨2, _⟩ => exact (congrArg Fin.val (congrFun e ⟨2, by decide⟩)).symm
    | ⟨3, _⟩ => exact (congrArg Fin.val (congrFun e ⟨3, by decide⟩)).symm
    | ⟨4, _⟩ => exact (congrArg Fin.val (congrFun e ⟨4, by decide⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

theorem sum_last (h : S1x32x2x4x128x385.ReducesTo [5] S1x32x2x4x128) (v : S1x32x2x4x128x385.Idx → EReal) (init : EReal) (N : Fin 32) (γ : Fin 2) (hh : Fin 4) (r : Fin 128) :
    Ideal.hostReduceAdd h v init (ix5 (0 : Fin 1) N γ hh r) = init + ∑ k : Fin 385, v (ix6 (0 : Fin 1) N γ hh r k) :=
  congrArg (init + ·) (Finset.sum_filter_eq_sum_of_fiber _ (fun k : Fin 385 => ix6 (0 : Fin 1) N γ hh r k) (fun _ _ e => congrFun e 5) (fiber_last h N γ hh r) v)

theorem max_last (h : S1x32x2x4x128x385.ReducesTo [5] S1x32x2x4x128) (v : S1x32x2x4x128x385.Idx → EReal) (init : EReal) (N : Fin 32) (γ : Fin 2) (hh : Fin 4) (r : Fin 128) :
    (Finset.univ.filter fun i => h.drop i = ix5 (0 : Fin 1) N γ hh r).fold max init v = Finset.fold max init (fun k : Fin 385 => v (ix6 (0 : Fin 1) N γ hh r k)) Finset.univ :=
  Finset.fold_filter_eq_fold_of_fiber max _ (fun k : Fin 385 => ix6 (0 : Fin 1) N γ hh r k) (fun _ _ e => congrFun e 5) (fiber_last h N γ hh r) init v

theorem fiber_one (h : S1x32x2x4x128x1.ReducesTo [0, 5] S32x2x4x128) (N : Fin 32) (γ : Fin 2) (hh : Fin 4) (r : Fin 128) (i : S1x32x2x4x128x1.Idx) :
    h.drop i = ix4 N γ hh r ↔ ∃ k : Fin 1, ix6 (0 : Fin 1) N γ hh r k = i := by
  constructor
  · intro e
    refine ⟨i 5, ?_⟩
    funext a; apply Fin.ext
    match a with
    | ⟨0, _⟩ => have := (i 0).isLt; show 0 = (i 0).val; exact (Nat.lt_one_iff.mp this).symm
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => exact (congrArg Fin.val (congrFun e ⟨3, by decide⟩)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl

theorem sum_one (h : S1x32x2x4x128x1.ReducesTo [0, 5] S32x2x4x128) (v : S1x32x2x4x128x1.Idx → EReal) (init : EReal) (N : Fin 32) (γ : Fin 2) (hh : Fin 4) (r : Fin 128) :
    Ideal.hostReduceAdd h v init (ix4 N γ hh r) = init + v (ix6 (0 : Fin 1) N γ hh r (0 : Fin 1)) := by
  refine (congrArg (init + ·) (Finset.sum_filter_eq_sum_of_fiber _ (fun k : Fin 1 => ix6 (0 : Fin 1) N γ hh r k) (fun _ _ e => congrFun e 5) (fiber_one h N γ hh r) v)).trans ?_
  rw [Fin.sum_univ_one]

theorem fiber_sink (h : S1x32x2x4x128x1.ReducesTo [0, 1, 4, 5] S2x4) (γ : Fin 2) (hh : Fin 4) (i : S1x32x2x4x128x1.Idx) :
    h.drop i = ix2 γ hh ↔ ∃ k : Fin 32 × Fin 128, ix6 (0 : Fin 1) k.1 γ hh k.2 (0 : Fin 1) = i := by
  constructor
  · intro e
    refine ⟨(i 1, i 4), ?_⟩
    funext a; apply Fin.ext
    match a with
    | ⟨0, _⟩ => have := (i 0).isLt; show 0 = (i 0).val; exact (Nat.lt_one_iff.mp this).symm
    | ⟨1, _⟩ => rfl
    | ⟨2, _⟩ => exact (congrArg Fin.val (congrFun e ⟨0, by decide⟩)).symm
    | ⟨3, _⟩ => exact (congrArg Fin.val (congrFun e ⟨1, by decide⟩)).symm
    | ⟨4, _⟩ => rfl
    | ⟨5, _⟩ => have := (i 5).isLt; show 0 = (i 5).val; exact (Nat.lt_one_iff.mp this).symm
  · rintro ⟨k, rfl⟩
    funext b
    apply Fin.ext
    match b with
    | ⟨0, _⟩ => rfl
    | ⟨1, _⟩ => rfl

theorem sum_sink (h : S1x32x2x4x128x1.ReducesTo [0, 1, 4, 5] S2x4) (v : S1x32x2x4x128x1.Idx → EReal) (init : EReal) (γ : Fin 2) (hh : Fin 4) :
    Ideal.hostReduceAdd h v init (ix2 γ hh) = init + ∑ N : Fin 32, ∑ r : Fin 128, v (ix6 (0 : Fin 1) N γ hh r (0 : Fin 1)) := by
  refine (congrArg (init + ·) (Finset.sum_filter_eq_sum_of_fiber _ (fun k : Fin 32 × Fin 128 => ix6 (0 : Fin 1) k.1 γ hh k.2 (0 : Fin 1)) (fun _ _ e => Prod.ext (congrFun e 1) (congrFun e 4)) (fiber_sink h γ hh) v)).trans ?_
  rw [Fintype.sum_prod_type]

/-! ## The arguments -/

/-- The arguments hold the reals `A`. -/
structure Holds (V0 : Valuation τ sig (Elt Ideal)) (A : Args) : Prop where
  q : ∀ (i : Fin 4096) (j : Fin 1024), V0 (Proc.devRef .tc main_arg0) (ix2 i j) = (A.q i j : EReal)
  k : ∀ (i : Fin 4096) (j : Fin 256), V0 (Proc.devRef .tc main_arg1) (ix2 i j) = (A.k i j : EReal)
  v : ∀ (i : Fin 4096) (j : Fin 256), V0 (Proc.devRef .tc main_arg2) (ix2 i j) = (A.v i j : EReal)
  s : ∀ i : Fin 8, V0 (Proc.devRef .tc main_arg3) (ix1 i) = (A.s i : EReal)
  g : ∀ (i : Fin 4096) (j : Fin 2048), V0 (Proc.devRef .tc main_arg4) (ix2 i j) = (A.g i j : EReal)

theorem zero_word : FloatOps.sitofp (F := Ideal) .f32 (0#32) = (0 : EReal) := by
  show (((0#32 : BitVec 32).toInt : ℝ) : EReal) = 0
  simp

theorem row_mod (h : Fin 4) (r : Fin 128) : (row h r).val % 128 = r.val := by show (128 * h.val + r.val) % 128 = r.val; omega
theorem row_div (h : Fin 4) (r : Fin 128) : (row h r).val / 128 = h.val := by show (128 * h.val + r.val) / 128 = h.val; omega

/-! ## The masks -/

theorem edge_word : ∀ (N : Fin 32) (c : Fin 384),
    IntOp.andi (IntOp.cmpi .sge (IntOp.addi (IntOp.subi (IntOp.muli (BitVec.ofNat 32 N.val) 128#32) 128#32) (BitVec.ofNat 32 c.val)) 0#32)
      (IntOp.cmpi .slt (IntOp.addi (IntOp.subi (IntOp.muli (BitVec.ofNat 32 N.val) 128#32) 128#32) (BitVec.ofNat 32 c.val)) 4096#32)
    = BitVec.ofBool (decide (128 ≤ 128 * N.val + c.val ∧ 128 * N.val + c.val < 4224)) := by decide +kernel

theorem band_word : ∀ (r : Fin 128) (c : Fin 384), IntOp.cmpi .sle (IntOp.absi (BitVec.ofNat 32 r.val + 128#32 - BitVec.ofNat 32 c.val)) 128#32
    = BitVec.ofBool (decide (r.val ≤ c.val ∧ c.val ≤ 256 + r.val)) := by decide +kernel

theorem dist_word (N : Fin 32) (r : Fin 128) (c : Fin 384) :
    IntOp.subi (BitVec.ofNat 32 (N.val * 128 + r.val)) (IntOp.addi (IntOp.subi (IntOp.muli (BitVec.ofNat 32 N.val) 128#32) 128#32) (BitVec.ofNat 32 c.val))
      = BitVec.ofNat 32 r.val + 128#32 - BitVec.ofNat 32 c.val := by
  show BitVec.ofNat 32 (N.val * 128 + r.val) - (BitVec.ofNat 32 N.val * 128#32 - 128#32 + BitVec.ofNat 32 c.val) = _
  have e : BitVec.ofNat 32 (N.val * 128 + r.val) = BitVec.ofNat 32 N.val * 128#32 + BitVec.ofNat 32 r.val := by
    rw [BitVec.ofNat_add, BitVec.ofNat_mul]
  rw [e]
  generalize BitVec.ofNat 32 N.val * 128#32 = x
  generalize BitVec.ofNat 32 r.val = y
  generalize BitVec.ofNat 32 c.val = z
  bv_omega

theorem mask_at (V0 : Valuation τ sig (Elt Ideal)) (A : Args) (γ : Fin 2) (N : Fin 32) (hh : Fin 4) (r : Fin 128) (c : Fin 384) :
    res_main_v51_1 (F := Ideal) V0 (ix6 (0 : Fin 1) N γ hh r c) = BitVec.ofBool ((A.blk γ N).ok (row hh r) c) := by
  have e32 : ∀ (n : Fin 32) (x : Fin 384), res_main_v32 (F := Ideal) V0 (ix2 n x)
      = (IntOp.addi (IntOp.subi (IntOp.muli (BitVec.ofNat 32 n.val) 128#32) 128#32) (BitVec.ofNat 32 x.val) : BitVec 32) := fun n x => by
    unfold res_main_v32
    pointwise
  have e : res_main_v51_1 (F := Ideal) V0 (ix6 (0 : Fin 1) N γ hh r c)
      = (IntOp.andi (IntOp.andi (IntOp.cmpi .sge (res_main_v32 (F := Ideal) V0 (ix2 N c) : BitVec 32) 0#32) (IntOp.cmpi .slt (res_main_v32 (F := Ideal) V0 (ix2 N c) : BitVec 32) 4096#32))
          (IntOp.cmpi .sle (IntOp.absi (IntOp.subi (BitVec.ofNat 32 (N.val * 128 + r.val)) (res_main_v32 (F := Ideal) V0 (ix2 N c) : BitVec 32))) 128#32) : BitVec 1) := by
    unfold res_main_v51_1
    pointwise
  rw [e, e32, edge_word N c, dist_word, band_word r c]
  show _ = BitVec.ofBool (decide _)
  rw [row_mod]
  by_cases h1 : (r.val ≤ c.val ∧ c.val ≤ 256 + r.val) <;> by_cases h2 : (128 ≤ 128 * N.val + c.val ∧ 128 * N.val + c.val < 4224)
  · rw [decide_eq_true h1, decide_eq_true h2, decide_eq_true ⟨h1.1, h1.2, h2.1, h2.2⟩]; rfl
  · rw [decide_eq_true h1, decide_eq_false h2, decide_eq_false (by tauto)]; rfl
  · rw [decide_eq_false h1, decide_eq_true h2, decide_eq_false (by tauto)]; rfl
  · rw [decide_eq_false h1, decide_eq_false h2, decide_eq_false (by tauto)]; rfl

/-! ## The windows -/

variable {V0 : Valuation τ sig (Elt Ideal)} {A : Args} (hV : Holds V0 A)
include hV

theorem q_at (γ : Fin 2) (N : Fin 32) (hh : Fin 4) (r : Fin 128) (d : Fin 128) :
    res_main_v15 (F := Ideal) V0 (ix6 (0 : Fin 1) N r γ hh d) = ((A.blk γ N).Q (row hh r) d : EReal) := by
  have e : res_main_v15 (F := Ideal) V0 (ix6 (0 : Fin 1) N r γ hh d)
      = V0 (Proc.devRef .tc main_arg0) (ix2 (⟨N.val * 128 + r.val, by omega⟩ : Fin 4096) (⟨γ.val * 512 + hh.val * 128 + d.val, by omega⟩ : Fin 1024)) := by
    unfold res_main_v15; pointwise
  rw [e, hV.q]
  show ((A.q _ _ : ℝ) : EReal) = ((A.q _ _ : ℝ) : EReal)
  congr 2
  · apply Fin.ext; show N.val * 128 + r.val = 128 * N.val + (row hh r).val % 128; rw [row_mod]; omega
  · apply Fin.ext; show γ.val * 512 + hh.val * 128 + d.val = 512 * γ.val + (128 * ((row hh r).val / 128) + d.val); rw [row_div]; omega

theorem g_at (γ : Fin 2) (N : Fin 32) (hh : Fin 4) (r : Fin 128) (d : Fin 128) :
    res_main_v90 (F := Ideal) V0 (ix6 (0 : Fin 1) N γ d hh r) = ((A.blk γ N).G (row hh r) d : EReal) := by
  have e : res_main_v90 (F := Ideal) V0 (ix6 (0 : Fin 1) N γ d hh r)
      = V0 (Proc.devRef .tc main_arg4) (ix2 (⟨N.val * 128 + r.val, by omega⟩ : Fin 4096) (⟨γ.val * 512 + hh.val * 128 + d.val, by omega⟩ : Fin 2048)) := by
    unfold res_main_v90; pointwise
  rw [e, hV.g]
  show ((A.g _ _ : ℝ) : EReal) = ((A.g _ _ : ℝ) : EReal)
  congr 2
  · apply Fin.ext; show N.val * 128 + r.val = 128 * N.val + (row hh r).val % 128; rw [row_mod]; omega
  · apply Fin.ext; show γ.val * 512 + hh.val * 128 + d.val = 512 * γ.val + (128 * ((row hh r).val / 128) + d.val); rw [row_div]; omega

theorem k5_at (P : Fin 34) (r : Fin 128) (γ : Fin 2) (d : Fin 128) :
    res_main_v5 (F := Ideal) V0 (ix5 (0 : Fin 1) P r γ d) = (padded A.k (128 * P.val + r.val) ⟨128 * γ.val + d.val, by omega⟩ : EReal) := by
  unfold res_main_v5
  pointwise
  by_cases h : 128 ≤ 128 * P.val + r.val ∧ 128 * P.val + r.val < 4224
  · rw [dif_pos (by
      intro a
      match a with
      | ⟨0, _⟩ => show 128 ≤ P.val * 128 + r.val ∧ (P.val * 128 + r.val - 128) % (0 + 1) = 0 ∧ (P.val * 128 + r.val - 128) / (0 + 1) < 4096; omega
      | ⟨1, _⟩ => show 0 ≤ γ.val * 128 + d.val ∧ (γ.val * 128 + d.val - 0) % (0 + 1) = 0 ∧ (γ.val * 128 + d.val - 0) / (0 + 1) < 256; omega)]
    unfold padded
    rw [dif_pos h]
    refine (hV.k _ _).trans ?_
    congr 2
    · apply Fin.ext; show P.val * 128 + r.val - 128 = 128 * P.val + r.val - 128; omega
    · apply Fin.ext; show γ.val * 128 + d.val = 128 * γ.val + d.val; omega
  · rw [dif_neg (by
      intro hh
      have h0 : 128 ≤ P.val * 128 + r.val ∧ (P.val * 128 + r.val - 128) % (0 + 1) = 0 ∧ (P.val * 128 + r.val - 128) / (0 + 1) < 4096 := hh (0 : Fin 2)
      omega)]
    unfold padded
    rw [dif_neg h, zero_word]; rfl

theorem k_at (γ : Fin 2) (N : Fin 32) (c : Fin 384) (d : Fin 128) :
    res_main_v10 (F := Ideal) V0 (ix5 (0 : Fin 1) N c γ d) = ((A.blk γ N).K c d : EReal) := by
  unfold res_main_v10
  pointwise
  have e : ∀ (y z : ℕ) (j : Fin 256), y = z → (padded A.k y j : EReal) = (padded A.k z j : EReal) := fun y z j h => by rw [h]
  show _ = ((padded A.k (128 * N.val + c.val) ⟨128 * γ.val + d.val, by omega⟩ : ℝ) : EReal)
  by_cases h1 : c.val < 128
  · rw [dif_pos h1, k5_at hV]
  · rw [dif_neg h1]
    by_cases h2 : c.val - 128 < 128
    · rw [dif_pos h2, k5_at hV]
      refine e _ _ _ ?_
      show 128 * (1 + N.val) + (c.val - 128) = 128 * N.val + c.val; omega
    · rw [dif_neg h2, k5_at hV]
      refine e _ _ _ ?_
      show 128 * (2 + N.val) + (c.val - 128 - 128) = 128 * N.val + c.val; omega

theorem v5_at (P : Fin 34) (r : Fin 128) (γ : Fin 2) (d : Fin 128) :
    res_main_v6 (F := Ideal) V0 (ix5 (0 : Fin 1) P r γ d) = (padded A.v (128 * P.val + r.val) ⟨128 * γ.val + d.val, by omega⟩ : EReal) := by
  unfold res_main_v6
  pointwise
  by_cases h : 128 ≤ 128 * P.val + r.val ∧ 128 * P.val + r.val < 4224
  · rw [dif_pos (by
      intro a
      match a with
      | ⟨0, _⟩ => show 128 ≤ P.val * 128 + r.val ∧ (P.val * 128 + r.val - 128) % (0 + 1) = 0 ∧ (P.val * 128 + r.val - 128) / (0 + 1) < 4096; omega
      | ⟨1, _⟩ => show 0 ≤ γ.val * 128 + d.val ∧ (γ.val * 128 + d.val - 0) % (0 + 1) = 0 ∧ (γ.val * 128 + d.val - 0) / (0 + 1) < 256; omega)]
    unfold padded
    rw [dif_pos h]
    refine (hV.v _ _).trans ?_
    congr 2
    · apply Fin.ext; show P.val * 128 + r.val - 128 = 128 * P.val + r.val - 128; omega
    · apply Fin.ext; show γ.val * 128 + d.val = 128 * γ.val + d.val; omega
  · rw [dif_neg (by
      intro hh
      have h0 : 128 ≤ P.val * 128 + r.val ∧ (P.val * 128 + r.val - 128) % (0 + 1) = 0 ∧ (P.val * 128 + r.val - 128) / (0 + 1) < 4096 := hh (0 : Fin 2)
      omega)]
    unfold padded
    rw [dif_neg h, zero_word]; rfl

theorem v_at (γ : Fin 2) (N : Fin 32) (c : Fin 384) (d : Fin 128) :
    res_main_v14 (F := Ideal) V0 (ix5 (0 : Fin 1) N c γ d) = ((A.blk γ N).V c d : EReal) := by
  unfold res_main_v14
  pointwise
  have e : ∀ (y z : ℕ) (j : Fin 256), y = z → (padded A.v y j : EReal) = (padded A.v z j : EReal) := fun y z j h => by rw [h]
  show _ = ((padded A.v (128 * N.val + c.val) ⟨128 * γ.val + d.val, by omega⟩ : ℝ) : EReal)
  by_cases h1 : c.val < 128
  · rw [dif_pos h1, v5_at hV]
  · rw [dif_neg h1]
    by_cases h2 : c.val - 128 < 128
    · rw [dif_pos h2, v5_at hV]
      refine e _ _ _ ?_
      show 128 * (1 + N.val) + (c.val - 128) = 128 * N.val + c.val; omega
    · rw [dif_neg h2, v5_at hV]
      refine e _ _ _ ?_
      show 128 * (2 + N.val) + (c.val - 128 - 128) = 128 * N.val + c.val; omega

/-! ## The scores and their exponentials -/

theorem score_at (γ : Fin 2) (N : Fin 32) (hh : Fin 4) (r : Fin 128) (c : Fin 384) :
    res_main_v54 (F := Ideal) V0 (ix6 (0 : Fin 1) N γ hh r (⟨c.val, by omega⟩ : Fin 385))
      = if (A.blk γ N).ok (row hh r) c = true then ((A.blk γ N).sc (row hh r) c : EReal) else ⊥ := by
  have e : res_main_v54 (F := Ideal) V0 (ix6 (0 : Fin 1) N γ hh r (⟨c.val, by omega⟩ : Fin 385))
      = (if h : c.val < 384 then Scalar.select (res_main_v51_1 (F := Ideal) V0 (ix6 (0 : Fin 1) N γ hh r (⟨c.val, h⟩ : Fin 384)))
          (((∑ x : Fin 128, HMul.hMul (α := EReal) (β := EReal) (γ := EReal) (res_main_v10 (F := Ideal) V0 (ix5 (0 : Fin 1) N (⟨c.val, h⟩ : Fin 384) γ x)) (res_main_v15 (F := Ideal) V0 (ix6 (0 : Fin 1) N r γ hh x))) * Ideal.ofBits .f32 1035273459#32 : EReal))
          (Ideal.ofBits .f32 4286578688#32 : EReal)
        else V0 (Proc.devRef .tc main_arg3) (ix1 (⟨γ.val * 4 + hh.val, by omega⟩ : Fin 8))) := by
    unfold res_main_v54
    pointwise
    try rfl
  rw [e, dif_pos c.isLt, mask_at V0 A, negInf_eq, scale_eq]
  have e2 : (∑ x : Fin 128, HMul.hMul (α := EReal) (β := EReal) (γ := EReal) (res_main_v10 (F := Ideal) V0 (ix5 (0 : Fin 1) N (⟨c.val, c.isLt⟩ : Fin 384) γ x)) (res_main_v15 (F := Ideal) V0 (ix6 (0 : Fin 1) N r γ hh x)) : EReal)
      = ((∑ x, (A.blk γ N).Q (row hh r) x * (A.blk γ N).K c x : ℝ) : EReal) := by
    rw [coe_sum]
    refine Finset.sum_congr rfl fun x _ => ?_
    rw [k_at hV, q_at hV, ← EReal.coe_mul, mul_comm]
  rw [e2, ← EReal.coe_mul]
  cases hb : (A.blk γ N).ok (row hh r) c
  · rfl
  · rfl

theorem sink_at (γ : Fin 2) (N : Fin 32) (hh : Fin 4) (r : Fin 128) :
    res_main_v54 (F := Ideal) V0 (ix6 (0 : Fin 1) N γ hh r (⟨384, by decide⟩ : Fin 385)) = ((A.blk γ N).s (row hh r) : EReal) := by
  have e : res_main_v54 (F := Ideal) V0 (ix6 (0 : Fin 1) N γ hh r (⟨384, by decide⟩ : Fin 385))
      = V0 (Proc.devRef .tc main_arg3) (ix1 (⟨γ.val * 4 + hh.val, by omega⟩ : Fin 8)) := by
    unfold res_main_v54
    pointwise
    try rfl
  rw [e, hV.s]
  show ((A.s _ : ℝ) : EReal) = ((A.s _ : ℝ) : EReal)
  congr 2
  apply Fin.ext; show γ.val * 4 + hh.val = 4 * γ.val + (row hh r).val / 128; rw [row_div]; omega

theorem max_at (γ : Fin 2) (N : Fin 32) (hh : Fin 4) (r : Fin 128) : ∃ M : ℝ, res_main_v55 (F := Ideal) V0 (ix5 (0 : Fin 1) N γ hh r) = (M : EReal) := by
  have e : res_main_v55 (F := Ideal) V0 (ix5 (0 : Fin 1) N γ hh r)
      = (Finset.fold max (Ideal.ofBits .f32 4286578688#32) (fun k : Fin 385 => res_main_v54 (F := Ideal) V0 (ix6 (0 : Fin 1) N γ hh r k)) Finset.univ : EReal) := by
    unfold res_main_v55
    generalize res_main_v54 (F := Ideal) V0 = X
    pointwise
    exact max_last _ X _ N γ hh r
  rw [e, negInf_eq]
  refine isR_fold_max _ (fun k => ?_) (⟨384, by decide⟩ : Fin 385) _ (sink_at hV γ N hh r)
  by_cases hk : k.val < 384
  · have := score_at hV γ N hh r ⟨k.val, hk⟩
    rw [show k = (⟨(⟨k.val, hk⟩ : Fin 384).val, by have := k.isLt; omega⟩ : Fin 385) from rfl, this]
    split
    · exact EReal.coe_lt_top _
    · exact bot_lt_top
  · rw [show k = (⟨384, by decide⟩ : Fin 385) from Fin.ext (by show k.val = 384; have := k.isLt; omega), sink_at hV]
    exact EReal.coe_lt_top _

omit hV in
/-- The exponential of a score less its row's largest, whatever the scores and the largest are. -/
theorem exp_at (X : FVec Ideal S1x32x2x4x128x385 .f32) (Y : FVec Ideal S1x32x2x4x128 .f32) (N : Fin 32) (γ : Fin 2) (hh : Fin 4) (r : Fin 128) (k : Fin 385) :
    (Host.exp (subf X (broadcastInDim S1x32x2x4x128x385 ![0, 1, 2, 3, 4, 5] bcast_S1x32x2x4x128x1_S1x32x2x4x128x385_0_1_2_3_4_5 (broadcastInDim S1x32x2x4x128x1 ![0, 1, 2, 3, 4] bcast_S1x32x2x4x128_S1x32x2x4x128x1_0_1_2_3_4 (maximumf (broadcastInDim S1x32x2x4x128 ![] bcast_S_S1x32x2x4x128 (constant (F := Ideal) S_ .f32 0xFF800000#32)) Y)))) : FVec Ideal S1x32x2x4x128x385 .f32) (ix6 (0 : Fin 1) N γ hh r k)
      = Ideal.exp (X (ix6 (0 : Fin 1) N γ hh r k) - max (Ideal.ofBits .f32 4286578688#32) (Y (ix5 (0 : Fin 1) N γ hh r))) := by
  pointwise

/-- Each row's exponentials, over one shift. -/
theorem exps_at (γ : Fin 2) (N : Fin 32) (hh : Fin 4) (r : Fin 128) : ∃ e : ℝ, 0 < e
    ∧ (∀ c : Fin 384, res_main_v75 (F := Ideal) V0 (ix6 (0 : Fin 1) N γ hh r (⟨c.val, by omega⟩ : Fin 385)) = (((A.blk γ N).w (row hh r) c * e : ℝ) : EReal))
    ∧ res_main_v75 (F := Ideal) V0 (ix6 (0 : Fin 1) N γ hh r (⟨384, by decide⟩ : Fin 385)) = ((Real.exp ((A.blk γ N).s (row hh r)) * e : ℝ) : EReal)
    ∧ res_main_v77 (F := Ideal) V0 (ix6 (0 : Fin 1) N γ hh r (0 : Fin 1)) = (((A.blk γ N).Z (row hh r) * e : ℝ) : EReal) := by
  obtain ⟨M, hM⟩ := max_at hV γ N hh r
  have e75 : ∀ k : Fin 385, res_main_v75 (F := Ideal) V0 (ix6 (0 : Fin 1) N γ hh r k)
      = Ideal.exp (HSub.hSub (α := EReal) (β := EReal) (γ := EReal) (res_main_v54 (F := Ideal) V0 (ix6 (0 : Fin 1) N γ hh r k)) (M : EReal)) := fun k => by
    unfold res_main_v75
    refine (exp_at (res_main_v54 (F := Ideal) V0) (res_main_v55 (F := Ideal) V0) N γ hh r k).trans ?_
    rw [hM, negInf_eq, max_eq_right bot_le]
  have h1 : ∀ c : Fin 384, res_main_v75 (F := Ideal) V0 (ix6 (0 : Fin 1) N γ hh r (⟨c.val, by omega⟩ : Fin 385)) = (((A.blk γ N).w (row hh r) c * Real.exp (-M) : ℝ) : EReal) := fun c => by
    rw [e75, score_at hV, exp_masked]; rfl
  have h2 : res_main_v75 (F := Ideal) V0 (ix6 (0 : Fin 1) N γ hh r (⟨384, by decide⟩ : Fin 385)) = ((Real.exp ((A.blk γ N).s (row hh r)) * Real.exp (-M) : ℝ) : EReal) := by
    rw [e75, sink_at hV, exp_real]
  refine ⟨Real.exp (-M), Real.exp_pos _, h1, h2, ?_⟩
  have e77 : res_main_v77 (F := Ideal) V0 (ix6 (0 : Fin 1) N γ hh r (0 : Fin 1))
      = (Finset.sum (M := EReal) Finset.univ fun k : Fin 385 => res_main_v75 (F := Ideal) V0 (ix6 (0 : Fin 1) N γ hh r k) : EReal) := by
    unfold res_main_v77
    generalize res_main_v75 (F := Ideal) V0 = X
    pointwise
    exact (sum_last _ X _ N γ hh r).trans (zero_add _)
  rw [e77, Fin.sum_univ_castSucc]
  have e3 : (Finset.sum (M := EReal) Finset.univ fun c : Fin 384 => res_main_v75 (F := Ideal) V0 (ix6 (0 : Fin 1) N γ hh r c.castSucc) : EReal) = ((∑ c, (A.blk γ N).w (row hh r) c * Real.exp (-M) : ℝ) : EReal) := by
    rw [coe_sum]
    exact Finset.sum_congr rfl fun c _ => h1 c
  have e4 : res_main_v75 (F := Ideal) V0 (ix6 (0 : Fin 1) N γ hh r (Fin.last 384)) = ((Real.exp ((A.blk γ N).s (row hh r)) * Real.exp (-M) : ℝ) : EReal) := h2
  rw [e3, e4, ← EReal.coe_add, ← Finset.sum_mul, ← add_mul]
  rfl

end Cert.AttnRefIdeal.Attn

end
-- ==== Proof.AttnRefB.lean ====
/- The reference over the reals, second half: the probabilities, the gradients, and the four results. -/
module

public import proofs.«01_k».proof.Proof.AttnRefA
public import Idealize.ShloMosaic.Lib.Pipeline.ValueKit
public import Idealize.ShloMosaic.Lib.Pointwise

@[expose] public section

set_option maxRecDepth 16384

noncomputable section

namespace Cert.AttnRefIdeal.Attn

open Idealize.ShloMosaic Idealize.ShloMosaic.TcCoe Idealize.SL.Sem
open Idealize.ShloMosaic.Pipeline (Dat)
open Cert.AttnRefIdeal Cert.AttnRefIdeal.Gen Cert.AttnRefIdeal.Value Cert.Reals Cert.AttnMath Idealize.ShloMosaic.StableHlo

/-! ## The gradient through the quotient, whatever the exponentials -/

/-- The gradient of the scores at a position, from the gradient `D` of the probabilities, the exponentials `E` and their sums `S`. -/
theorem back_at (D E : FVec Ideal S1x32x2x4x128x385 .f32) (S : FVec Ideal S1x32x2x4x128x1 .f32) (N : Fin 32) (γ : Fin 2) (hh : Fin 4) (r : Fin 128) (k : Fin 385) :
    (mulf (addf (Host.divf D (broadcastInDim S1x32x2x4x128x385 ![0, 1, 2, 3, 4, 5] bcast_S1x32x2x4x128x1_S1x32x2x4x128x385_0_1_2_3_4_5 S)) (broadcastInDim S1x32x2x4x128x385 ![0, 1, 2, 3, 4] bcast_S1x32x2x4x128_S1x32x2x4x128x385_0_1_2_3_4 (broadcastInDim S1x32x2x4x128 ![1, 2, 3, 4] bcast_S32x2x4x128_S1x32x2x4x128_1_2_3_4 (Host.reduceAdd (Host.negf (shapeCast _ (Host.reduceAdd (mulf (mulf D (broadcastInDim S1x32x2x4x128x385 ![0, 1, 2, 3, 4, 5] bcast_S1x32x2x4x128x1_S1x32x2x4x128x385_0_1_2_3_4_5 (Host.divf (broadcastInDim S1x32x2x4x128x1 ![] bcast_S_S1x32x2x4x128x1 (constant (F := Ideal) S_ .f32 0x3F800000#32)) (mulf S S)))) E) (constant (F := Ideal) S_ .f32 0x00000000#32) reducesTo_S1x32x2x4x128x385_S1x32x2x4x128_d5 h_S_) shapeCasts_S1x32x2x4x128_S1x32x2x4x128x1)) (constant (F := Ideal) S_ .f32 0x00000000#32) reducesTo_S1x32x2x4x128x1_S32x2x4x128_d0_5 h_S_)))) E : FVec Ideal S1x32x2x4x128x385 .f32) (ix6 (0 : Fin 1) N γ hh r k)
      = (Ideal.div (D (ix6 (0 : Fin 1) N γ hh r k)) (S (ix6 (0 : Fin 1) N γ hh r (0 : Fin 1)))
          + -(∑ x : Fin 385, D (ix6 (0 : Fin 1) N γ hh r x) * Ideal.div 1 (S (ix6 (0 : Fin 1) N γ hh r (0 : Fin 1)) * S (ix6 (0 : Fin 1) N γ hh r (0 : Fin 1))) * E (ix6 (0 : Fin 1) N γ hh r x)))
        * E (ix6 (0 : Fin 1) N γ hh r k) := by
  pointwise
  rw [sum_one]
  pointwise
  rw [sum_last]
  pointwise

/-- That gradient over the reals. -/
theorem back_real (a w : Fin 384 → ℝ) (z e : ℝ) (hz : 0 < z) (he : 0 < e) (x y : ℝ) :
    (x / (z * e) + -(∑ k, a k * (1 / ((z * e) * (z * e))) * (w k * e))) * (y * e) = y / z * (x - ∑ k, w k / z * a k) := by
  have e1 : ∀ k, a k * (1 / ((z * e) * (z * e))) * (w k * e) = (w k / z * a k) * (1 / (z * e)) := fun k => by
    field_simp
  rw [Finset.sum_congr rfl fun k _ => e1 k, ← Finset.sum_mul]
  generalize (∑ k, w k / z * a k) = t
  field_simp
  ring

variable {V0 : Valuation τ sig (Elt Ideal)} {A : Args} (hV : Holds V0 A)
include hV

theorem p_at (γ : Fin 2) (N : Fin 32) (hh : Fin 4) (r : Fin 128) (c : Fin 384) :
    res_main_v83 (F := Ideal) V0 (ix6 (0 : Fin 1) N γ hh r c) = ((A.blk γ N).p (row hh r) c : EReal) := by
  have e : res_main_v83 (F := Ideal) V0 (ix6 (0 : Fin 1) N γ hh r c)
      = Ideal.div (res_main_v75 (F := Ideal) V0 (ix6 (0 : Fin 1) N γ hh r (⟨c.val, by omega⟩ : Fin 385))) (res_main_v77 (F := Ideal) V0 (ix6 (0 : Fin 1) N γ hh r (0 : Fin 1))) := by
    unfold res_main_v83; pointwise
  obtain ⟨x, hx, h1, h2, h3⟩ := exps_at hV γ N hh r
  rw [e, h1, h3, div_coe_coe _ (mul_ne_zero ((A.blk γ N).Z_pos _).ne' hx.ne'), shift_div _ _ hx.ne']
  rfl

theorem dp_at (γ : Fin 2) (N : Fin 32) (hh : Fin 4) (r : Fin 128) (c : Fin 384) :
    res_main_v94 (F := Ideal) V0 (ix6 (0 : Fin 1) N γ hh r (⟨c.val, by omega⟩ : Fin 385)) = ((A.blk γ N).dp (row hh r) c : EReal) := by
  have e : res_main_v94 (F := Ideal) V0 (ix6 (0 : Fin 1) N γ hh r (⟨c.val, by omega⟩ : Fin 385))
      = (if h : c.val < 384 then Finset.sum (M := EReal) Finset.univ fun x : Fin 128 => HMul.hMul (α := EReal) (β := EReal) (γ := EReal) (res_main_v90 (F := Ideal) V0 (ix6 (0 : Fin 1) N γ x hh r)) (res_main_v14 (F := Ideal) V0 (ix5 (0 : Fin 1) N (⟨c.val, h⟩ : Fin 384) γ x)) else (0 : EReal)) := by
    unfold res_main_v94; pointwise
  rw [e, dif_pos c.isLt]
  unfold RBlk.dp
  rw [coe_sum]
  exact Finset.sum_congr (M := EReal) rfl fun x _ => by rw [g_at hV, v_at hV, EReal.coe_mul]

omit hV in
theorem dp_sink (γ : Fin 2) (N : Fin 32) (hh : Fin 4) (r : Fin 128) :
    res_main_v94 (F := Ideal) V0 (ix6 (0 : Fin 1) N γ hh r (⟨384, by decide⟩ : Fin 385)) = (0 : EReal) := by
  unfold res_main_v94; pointwise

theorem back_row (γ : Fin 2) (N : Fin 32) (hh : Fin 4) (r : Fin 128) :
    (∀ c : Fin 384, res_main_v107 (F := Ideal) V0 (ix6 (0 : Fin 1) N γ hh r (⟨c.val, by omega⟩ : Fin 385))
        = (((A.blk γ N).p (row hh r) c * ((A.blk γ N).dp (row hh r) c - (A.blk γ N).dl (row hh r)) : ℝ) : EReal))
    ∧ res_main_v107 (F := Ideal) V0 (ix6 (0 : Fin 1) N γ hh r (⟨384, by decide⟩ : Fin 385)) = ((A.blk γ N).de (row hh r) : EReal) := by
  obtain ⟨x, hx, h1, h2, h3⟩ := exps_at hV γ N hh r
  have hz := (A.blk γ N).Z_pos (row hh r)
  have hzx := mul_ne_zero hz.ne' hx.ne'
  have key : ∀ (k : Fin 385) (d y : ℝ), res_main_v94 (F := Ideal) V0 (ix6 (0 : Fin 1) N γ hh r k) = (d : EReal) → res_main_v75 (F := Ideal) V0 (ix6 (0 : Fin 1) N γ hh r k) = ((y * x : ℝ) : EReal)
      → res_main_v107 (F := Ideal) V0 (ix6 (0 : Fin 1) N γ hh r k) = ((y / (A.blk γ N).Z (row hh r) * (d - (A.blk γ N).dl (row hh r)) : ℝ) : EReal) := by
    intro k d y hd hy
    unfold res_main_v107
    refine (back_at (res_main_v94 (F := Ideal) V0) (res_main_v75 (F := Ideal) V0) (res_main_v77 (F := Ideal) V0) N γ hh r k).trans ?_
    rw [hd, hy, h3, Fin.sum_univ_castSucc, ← EReal.coe_mul ((A.blk γ N).Z (row hh r) * x), ← EReal.coe_one, div_coe_coe _ (mul_ne_zero hzx hzx), div_coe_coe _ hzx]
    have e1 : ∀ c : Fin 384, res_main_v94 (F := Ideal) V0 (ix6 (0 : Fin 1) N γ hh r c.castSucc) = ((A.blk γ N).dp (row hh r) c : EReal) := fun c => dp_at hV γ N hh r c
    have e2 : ∀ c : Fin 384, res_main_v75 (F := Ideal) V0 (ix6 (0 : Fin 1) N γ hh r c.castSucc) = (((A.blk γ N).w (row hh r) c * x : ℝ) : EReal) := fun c => h1 c
    have e3 : res_main_v94 (F := Ideal) V0 (ix6 (0 : Fin 1) N γ hh r (Fin.last 384)) = (0 : EReal) := dp_sink γ N hh r
    have e5 : (∑ c : Fin 384, ((((A.blk γ N).dp (row hh r) c : ℝ) : EReal) * ((1 / ((A.blk γ N).Z (row hh r) * x * ((A.blk γ N).Z (row hh r) * x)) : ℝ) : EReal) * (((A.blk γ N).w (row hh r) c * x : ℝ) : EReal)) : EReal)
        = ((∑ c : Fin 384, (A.blk γ N).dp (row hh r) c * (1 / ((A.blk γ N).Z (row hh r) * x * ((A.blk γ N).Z (row hh r) * x))) * ((A.blk γ N).w (row hh r) c * x) : ℝ) : EReal) := by
      rw [coe_sum]
      exact Finset.sum_congr rfl fun c _ => by rw [← EReal.coe_mul, ← EReal.coe_mul]
    simp only [e1, e2, e3]
    rw [zero_mul, zero_mul, add_zero, e5, ← EReal.coe_neg, ← EReal.coe_add, ← EReal.coe_mul, back_real _ _ _ _ hz hx]
    rfl
  refine ⟨fun c => key _ _ _ (dp_at hV γ N hh r c) (h1 c), ?_⟩
  refine (key _ 0 _ (dp_sink γ N hh r) h2).trans ?_
  show ((_ : ℝ) : EReal) = ((-((A.blk γ N).pe (row hh r) * (A.blk γ N).dl (row hh r)) : ℝ) : EReal)
  congr 1
  rw [zero_sub, mul_neg]; rfl

theorem ds_at (γ : Fin 2) (N : Fin 32) (hh : Fin 4) (r : Fin 128) (c : Fin 384) :
    res_main_v116 (F := Ideal) V0 (ix6 (0 : Fin 1) N γ c r hh) = ((A.blk γ N).ds (row hh r) c : EReal) := by
  have e : res_main_v116 (F := Ideal) V0 (ix6 (0 : Fin 1) N γ c r hh)
      = (Scalar.select (res_main_v51_1 (F := Ideal) V0 (ix6 (0 : Fin 1) N γ hh r c)) (HMul.hMul (α := EReal) (β := EReal) (γ := EReal) (res_main_v107 (F := Ideal) V0 (ix6 (0 : Fin 1) N γ hh r (⟨c.val, by omega⟩ : Fin 385))) (Ideal.ofBits .f32 1035273459#32)) (0 : EReal)) := by
    unfold res_main_v116; pointwise
  rw [e, mask_at V0 A, (back_row hV γ N hh r).1 c, scale_eq, ← EReal.coe_mul]
  cases hb : (A.blk γ N).ok (row hh r) c
  · show (0 : EReal) = ((A.blk γ N).ds (row hh r) c : EReal)
    unfold RBlk.ds RBlk.p RBlk.w
    rw [hb]; simp
  · rfl

theorem dv_at (γ : Fin 2) (N : Fin 32) (c : Fin 384) (d : Fin 128) :
    res_main_v93 (F := Ideal) V0 (ix5 (0 : Fin 1) N c γ d) = ((A.blk γ N).dv c d : EReal) := by
  have e : res_main_v93 (F := Ideal) V0 (ix5 (0 : Fin 1) N c γ d)
      = Finset.sum (M := EReal) Finset.univ fun x : Fin 4 => Finset.sum (M := EReal) Finset.univ fun y : Fin 128 => HMul.hMul (α := EReal) (β := EReal) (γ := EReal) (res_main_v90 (F := Ideal) V0 (ix6 (0 : Fin 1) N γ d x y)) (res_main_v83 (F := Ideal) V0 (ix6 (0 : Fin 1) N γ x y c)) := by
    unfold res_main_v93; pointwise
  unfold RBlk.dv
  rw [e, sum_rows, coe_sum]
  refine Finset.sum_congr (M := EReal) rfl fun x _ => ?_
  rw [coe_sum]
  refine Finset.sum_congr rfl fun y _ => ?_
  rw [g_at hV, p_at hV, ← EReal.coe_mul, mul_comm]

theorem dk_at (γ : Fin 2) (N : Fin 32) (c : Fin 384) (d : Fin 128) :
    res_main_v120 (F := Ideal) V0 (ix5 (0 : Fin 1) N c γ d) = ((A.blk γ N).dk c d : EReal) := by
  have e : res_main_v120 (F := Ideal) V0 (ix5 (0 : Fin 1) N c γ d)
      = Finset.sum (M := EReal) Finset.univ fun y : Fin 128 => Finset.sum (M := EReal) Finset.univ fun x : Fin 4 => HMul.hMul (α := EReal) (β := EReal) (γ := EReal) (res_main_v116 (F := Ideal) V0 (ix6 (0 : Fin 1) N γ c y x)) (res_main_v15 (F := Ideal) V0 (ix6 (0 : Fin 1) N y γ x d)) := by
    unfold res_main_v120; pointwise
  unfold RBlk.dk
  rw [e, Finset.sum_comm, sum_rows, coe_sum]
  refine Finset.sum_congr (M := EReal) rfl fun x _ => ?_
  rw [coe_sum]
  refine Finset.sum_congr rfl fun y _ => ?_
  rw [ds_at hV, q_at hV, ← EReal.coe_mul]

/-! ## The results -/

omit hV in
theorem add_swap {a b c : EReal} {x y z : ℝ} (ha : a = (z : EReal)) (hb : b = (y : EReal)) (hc : c = (x : EReal)) :
    a + b + c = ((x + y + z : ℝ) : EReal) := by
  rw [ha, hb, hc, ← EReal.coe_add, ← EReal.coe_add]
  congr 1
  ring

omit hV in
theorem res_dq (i : Fin 4096) (j : Fin 1024) (X : FVec Ideal S1x32x2x384x128x4 .f32) (Y : FVec Ideal S1x32x384x2x128 .f32) :
    (shapeCast _ (transpose S1x32x128x2x4x128 [0, 1, 3, 2, 4, 5] (Host.dotGeneral dot_S1x32x2x384x128x4_S1x32x384x2x128_S1x32x2x128x4x128_3_2_45_4_012_013 none X Y) transposes_S1x32x2x128x4x128_S1x32x128x2x4x128_0_1_3_2_4_5) shapeCasts_S1x32x128x2x4x128_S4096x1024 : FVec Ideal S4096x1024 .f32) (ix2 i j)
      = ∑ x : Fin 384, X (ix6 (0 : Fin 1) (⟨i.val / 128, by omega⟩ : Fin 32) (⟨j.val / 512, by omega⟩ : Fin 2) x (⟨i.val % 128, by omega⟩ : Fin 128) (⟨j.val / 128 % 4, by omega⟩ : Fin 4))
          * Y (ix5 (0 : Fin 1) (⟨i.val / 128, by omega⟩ : Fin 32) x (⟨j.val / 512, by omega⟩ : Fin 2) (⟨j.val % 128, by omega⟩ : Fin 128)) := by
  pointwise

omit hV in
theorem spread_three (D : Fin 2 → Fin 32 → Fin 384 → Fin 128 → ℝ) (i : Fin 4352) (j : Fin 256) :
    spread D i j = (if h : 0 ≤ i.val / 128 ∧ i.val / 128 - 0 < 32 then D ⟨j.val / 128, by omega⟩ ⟨i.val / 128 - 0, h.2⟩ ⟨128 * 0 + i.val % 128, by omega⟩ ⟨j.val % 128, by omega⟩ else 0)
      + (if h : 1 ≤ i.val / 128 ∧ i.val / 128 - 1 < 32 then D ⟨j.val / 128, by omega⟩ ⟨i.val / 128 - 1, h.2⟩ ⟨128 * 1 + i.val % 128, by omega⟩ ⟨j.val % 128, by omega⟩ else 0)
      + (if h : 2 ≤ i.val / 128 ∧ i.val / 128 - 2 < 32 then D ⟨j.val / 128, by omega⟩ ⟨i.val / 128 - 2, h.2⟩ ⟨128 * 2 + i.val % 128, by omega⟩ ⟨j.val % 128, by omega⟩ else 0) := by
  unfold spread
  rw [Fin.sum_univ_three]
  rfl

omit hV in
theorem spread_form (i : Fin 4352) (j : Fin 256) (X : FVec Ideal S1x32x384x2x128 .f32) :
    (shapeCast _ (addf (addf (pad S1x34x128x2x128 ![0, 2, 0, 0, 0] ![0, 0, 0, 0, 0] ![0, 0, 0, 0, 0] (extractStridedSlice S1x32x128x2x128 ![0, 0, 256, 0, 0] X slices_S1x32x384x2x128_S1x32x128x2x128_0_0_256_0_0) (constant S_ .f32 0x00000000#32) pads_S1x32x128x2x128_S1x34x128x2x128_000_200_000_000_000 h_S_) (pad S1x34x128x2x128 ![0, 1, 0, 0, 0] ![0, 1, 0, 0, 0] ![0, 0, 0, 0, 0] (extractStridedSlice S1x32x128x2x128 ![0, 0, 128, 0, 0] X slices_S1x32x384x2x128_S1x32x128x2x128_0_0_128_0_0) (constant S_ .f32 0x00000000#32) pads_S1x32x128x2x128_S1x34x128x2x128_000_110_000_000_000 h_S_)) (pad S1x34x128x2x128 ![0, 0, 0, 0, 0] ![0, 2, 0, 0, 0] ![0, 0, 0, 0, 0] (extractStridedSlice S1x32x128x2x128 ![0, 0, 0, 0, 0] X slices_S1x32x384x2x128_S1x32x128x2x128_0_0_0_0_0) (constant S_ .f32 0x00000000#32) pads_S1x32x128x2x128_S1x34x128x2x128_000_020_000_000_000 h_S_)) shapeCasts_S1x34x128x2x128_S4352x256 : FVec Ideal S4352x256 .f32) (ix2 i j)
      = ((if h : (2 ≤ i.val / 128 ∧ i.val / 128 - 2 < 32) ∧ i.val % 128 < 128 ∧ j.val / 128 < 2 ∧ j.val % 128 < 128 then X (ix5 (0 : Fin 1) (⟨i.val / 128 - 2, h.1.2⟩ : Fin 32) (⟨256 + i.val % 128, by omega⟩ : Fin 384) (⟨j.val / 128, by omega⟩ : Fin 2) (⟨j.val % 128, by omega⟩ : Fin 128)) else (0 : EReal))
        + (if h : (1 ≤ i.val / 128 ∧ i.val / 128 - 1 < 32) ∧ i.val % 128 < 128 ∧ j.val / 128 < 2 ∧ j.val % 128 < 128 then X (ix5 (0 : Fin 1) (⟨i.val / 128 - 1, h.1.2⟩ : Fin 32) (⟨128 + i.val % 128, by omega⟩ : Fin 384) (⟨j.val / 128, by omega⟩ : Fin 2) (⟨j.val % 128, by omega⟩ : Fin 128)) else (0 : EReal)))
        + (if h : i.val / 128 < 32 ∧ i.val % 128 < 128 ∧ j.val / 128 < 2 ∧ j.val % 128 < 128 then X (ix5 (0 : Fin 1) (⟨i.val / 128, h.1⟩ : Fin 32) (⟨i.val % 128, by omega⟩ : Fin 384) (⟨j.val / 128, by omega⟩ : Fin 2) (⟨j.val % 128, by omega⟩ : Fin 128)) else (0 : EReal)) := by
  pointwise

omit hV in
theorem spread_of (i : Fin 4352) (j : Fin 256) (X : FVec Ideal S1x32x384x2x128 .f32) (D : Fin 2 → Fin 32 → Fin 384 → Fin 128 → ℝ) (hX : ∀ γ N c d, X (ix5 (0 : Fin 1) N c γ d) = (D γ N c d : EReal)) :
    (shapeCast _ (addf (addf (pad S1x34x128x2x128 ![0, 2, 0, 0, 0] ![0, 0, 0, 0, 0] ![0, 0, 0, 0, 0] (extractStridedSlice S1x32x128x2x128 ![0, 0, 256, 0, 0] X slices_S1x32x384x2x128_S1x32x128x2x128_0_0_256_0_0) (constant S_ .f32 0x00000000#32) pads_S1x32x128x2x128_S1x34x128x2x128_000_200_000_000_000 h_S_) (pad S1x34x128x2x128 ![0, 1, 0, 0, 0] ![0, 1, 0, 0, 0] ![0, 0, 0, 0, 0] (extractStridedSlice S1x32x128x2x128 ![0, 0, 128, 0, 0] X slices_S1x32x384x2x128_S1x32x128x2x128_0_0_128_0_0) (constant S_ .f32 0x00000000#32) pads_S1x32x128x2x128_S1x34x128x2x128_000_110_000_000_000 h_S_)) (pad S1x34x128x2x128 ![0, 0, 0, 0, 0] ![0, 2, 0, 0, 0] ![0, 0, 0, 0, 0] (extractStridedSlice S1x32x128x2x128 ![0, 0, 0, 0, 0] X slices_S1x32x384x2x128_S1x32x128x2x128_0_0_0_0_0) (constant S_ .f32 0x00000000#32) pads_S1x32x128x2x128_S1x34x128x2x128_000_020_000_000_000 h_S_)) shapeCasts_S1x34x128x2x128_S4352x256 : FVec Ideal S4352x256 .f32) (ix2 i j) = (spread D i j : EReal) := by
  have hi := i.isLt
  have hj := j.isLt
  rw [spread_form, spread_three]
  refine add_swap ?_ ?_ ?_
  · by_cases h : 2 ≤ i.val / 128 ∧ i.val / 128 - 2 < 32
    · rw [dif_pos (by omega), dif_pos h, hX]
    · rw [dif_neg (by omega), dif_neg h]; rfl
  · by_cases h : 1 ≤ i.val / 128 ∧ i.val / 128 - 1 < 32
    · rw [dif_pos (by omega), dif_pos h, hX]
    · rw [dif_neg (by omega), dif_neg h]; rfl
  · by_cases h : i.val / 128 < 32
    · rw [dif_pos (by omega), dif_pos (by omega), hX]
      have e : (⟨i.val % 128, by omega⟩ : Fin 384) = ⟨128 * 0 + i.val % 128, by omega⟩ := Fin.ext (by show i.val % 128 = 128 * 0 + i.val % 128; omega)
      rw [e]
      rfl
    · rw [dif_neg (by omega), dif_neg (by omega)]; rfl

omit hV in
theorem res_sink (i : Fin 2) (j : Fin 4) (l : Fin 128) (X : FVec Ideal S1x32x2x4x128x385 .f32) :
    (broadcastInDim S2x4x128 ![0, 1, 2] bcast_S2x4x1_S2x4x128_0_1_2 (shapeCast _ (shapeCast _ (broadcastInDim S1x1x2x4x1x1 ![2, 3] bcast_S2x4_S1x1x2x4x1x1_2_3 (Host.reduceAdd (extractStridedSlice S1x32x2x4x128x1 ![0, 0, 0, 0, 0, 384] X slices_S1x32x2x4x128x385_S1x32x2x4x128x1_0_0_0_0_0_384) (constant S_ .f32 0x00000000#32) reducesTo_S1x32x2x4x128x1_S2x4_d0_1_4_5 h_S_)) shapeCasts_S1x1x2x4x1x1_S8) shapeCasts_S8_S2x4x1) : FVec Ideal S2x4x128 .f32) (ix3 i j l)
      = ∑ N : Fin 32, ∑ r : Fin 128, X (ix6 (0 : Fin 1) N i j r (⟨384, by decide⟩ : Fin 385)) := by
  pointwise
  rw [sum_sink, zero_add]
  pointwise

theorem dq_final (i : Fin 4096) (j : Fin 1024) :
    (shapeCast _ (transpose S1x32x128x2x4x128 [0, 1, 3, 2, 4, 5] (Host.dotGeneral (F := Ideal) (φ₁ := .f32) (φ₂ := .f32) dot_S1x32x2x384x128x4_S1x32x384x2x128_S1x32x2x128x4x128_3_2_45_4_012_013 none (res_main_v116 (F := Ideal) V0) (res_main_v10 (F := Ideal) V0)) transposes_S1x32x2x128x4x128_S1x32x128x2x4x128_0_1_3_2_4_5) shapeCasts_S1x32x128x2x4x128_S4096x1024 : FVec Ideal S4096x1024 .f32) (ix2 i j) = (A.dq i j : EReal) := by
  refine (res_dq i j (res_main_v116 (F := Ideal) V0) (res_main_v10 (F := Ideal) V0)).trans ?_
  unfold Args.dq RBlk.dq
  rw [coe_sum]
  refine Finset.sum_congr (M := EReal) rfl fun x _ => ?_
  rw [ds_at hV, k_at hV, ← EReal.coe_mul]
  have e : row (⟨j.val / 128 % 4, by omega⟩ : Fin 4) (⟨i.val % 128, by omega⟩ : Fin 128) = (⟨128 * (j.val % 512 / 128) + i.val % 128, by omega⟩ : Fin 512) := by
    apply Fin.ext; show 128 * (j.val / 128 % 4) + i.val % 128 = 128 * (j.val % 512 / 128) + i.val % 128; omega
  rw [e]

theorem sink_final (i : Fin 2) (j : Fin 4) (l : Fin 128) :
    (broadcastInDim S2x4x128 ![0, 1, 2] bcast_S2x4x1_S2x4x128_0_1_2 (shapeCast _ (shapeCast _ (broadcastInDim S1x1x2x4x1x1 ![2, 3] bcast_S2x4_S1x1x2x4x1x1_2_3 (Host.reduceAdd (F := Ideal) (extractStridedSlice S1x32x2x4x128x1 ![0, 0, 0, 0, 0, 384] (res_main_v107 (F := Ideal) V0) slices_S1x32x2x4x128x385_S1x32x2x4x128x1_0_0_0_0_0_384) (constant S_ .f32 0x00000000#32) reducesTo_S1x32x2x4x128x1_S2x4_d0_1_4_5 h_S_)) shapeCasts_S1x1x2x4x1x1_S8) shapeCasts_S8_S2x4x1) : FVec Ideal S2x4x128 .f32) (ix3 i j l) = (A.dsink i j : EReal) := by
  refine (res_sink i j l (res_main_v107 (F := Ideal) V0)).trans ?_
  unfold Args.dsink
  rw [coe_sum]
  refine Finset.sum_congr (M := EReal) rfl fun N _ => ?_
  rw [coe_sum]
  exact Finset.sum_congr (M := EReal) rfl fun r _ => (back_row hV i N j r).2

end Cert.AttnRefIdeal.Attn

end
-- ==== Proof.AttnPRunB.lean ====
module

public import proofs.«01_k».proof.Proof.Gen.AttnBwd.Launch
public import proofs.«01_k».proof.Proof.Gen.AttnBwd.Skeleton
public import proofs.«01_k».proof.Proof.Gen.AttnBwd.Points
public import proofs.«01_k».proof.Proof.Gen.AttnBwd.Frame
public import Idealize.ShloMosaic.Lib.Tactic
public import Idealize.ShloMosaic.Lib.WordCmp

@[expose] public section

set_option maxRecDepth 16384

noncomputable section

namespace Cert.AttnBwd.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwd.Gen

variable {F : FTy → Type} [FloatOps F]

/-- The body's test: this tile is the first of its group. -/
abbrev cond0_0 (i : grid0.Coords) : Prop := (Scalar.cmpi .ne (Scalar.extui (Scalar.cmpi .eq (BitVec.ofNat 32 (i 1).val) 0#32)) 0#32) = 1#1

theorem hcond0_0 (t : Fin cfg0.N) : cond0_0 (grid0.coords t) ↔ t.val % 4 = 0 := by
  have ht : t.val < 8 := Nat.lt_of_lt_of_eq t.isLt N_0
  have e0 : (grid0.coords t 0).val = t.val / 4 % 2 := Pipeline.Grid.coords_val t 0 (by decide) rfl
  have e1 : (grid0.coords t 1).val = t.val / 1 % 4 := Pipeline.Grid.coords_val t 1 (by decide) rfl
  simp only [cond0_0, e0, e1]
  word_cmp

set_option maxHeartbeats 4000000 in
/-- The kernel's body at a point whose tile is a later one of its group, the accumulators found at `y6`, `y7`, `y8`: the lists of stores it
    leaves in its four outputs' buffers, newest first. -/
def runB (c : Dev nD) (i : grid0.Coords) (arg2 : Memref sig .tc .vmem S1024x512 .bf16) (harg2 : arg2.IsWhole) (arg3 : Memref sig .tc .vmem S4352x128 .bf16) (harg3 : arg3.IsWhole) (arg4 : Memref sig .tc .vmem S4352x128 .bf16) (harg4 : arg4.IsWhole) (arg5 : Memref sig .tc .vmem S1x4x128 .f32) (harg5 : arg5.IsWhole) (arg6 : Memref sig .tc .vmem S1024x512 .bf16) (harg6 : arg6.IsWhole) (arg7 : Memref sig .tc .vmem S1024x512 .f32) (harg7 : arg7.IsWhole) (arg8 : Memref sig .tc .vmem S4352x128 .f32) (harg8 : arg8.IsWhole) (arg9 : Memref sig .tc .vmem S4352x128 .f32) (harg9 : arg9.IsWhole) (arg10 : Memref sig .tc .vmem S1x4x128 .f32) (harg10 : arg10.IsWhole) (hc0 : ¬cond0_0 i)
    (x0 : Vec F S1024x512 .bf16) (x1 : Vec F S4352x128 .bf16) (x2 : Vec F S4352x128 .bf16) (x3 : Vec F S1x4x128 .f32) (x4 : Vec F S1024x512 .bf16) (y6 : Vec F S4352x128 .f32) (y7 : Vec F S4352x128 .f32) (y8 : Vec F S1x4x128 .f32) :
    Σ' (L5 : List (View.Piece (Elt F) S1024x512 .f32)) (L6 L7 : List (View.Piece (Elt F) S4352x128 .f32)), { L8 : List (View.Piece (Elt F) S1x4x128 .f32) //
      ∀ (E : Set ℕ) (K : PUnit → sProp (MT nD τ sig Unit (Elt F) ℕ (UR sig nD τ) ℕ)),
        iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
         ∗ (∃ d, owns (c : Thread nD τ) arg7 fullShare d) ∗ owns (c : Thread nD τ) arg8 fullShare y6 ∗ owns (c : Thread nD τ) arg9 fullShare y7 ∗ owns (c : Thread nD τ) arg10 fullShare y8
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ (∃ f, arg7.view.loc (c : Thread nD τ) ↦[arg7.view.set]{fullShare} arg7.view.writes (Elt F) f L5)
        ∗ (arg8.view.loc (c : Thread nD τ) ↦[arg8.view.set]{fullShare} arg8.view.writes (Elt F) (harg8.unread y6) L6)
        ∗ (arg9.view.loc (c : Thread nD τ) ↦[arg9.view.set]{fullShare} arg9.view.writes (Elt F) (harg9.unread y7) L7)
        ∗ (arg10.view.loc (c : Thread nD τ) ↦[arg10.view.set]{fullShare} arg10.view.writes (Elt F) (harg10.unread y8) L8)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10) K } := by
    refine ⟨?_, ?_, ?_, ?_, fun E K => ?run⟩
    case run =>
      simp only [cc0_attn_bwd_eq_skeleton]; unfold cc0_attn_bwd_skel
      simp only [k0_part31_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
      unfold owns
      iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
      obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hf7; obtain rfl := harg10.eq_unread hf8
      sl_exec (disch := first | sl_exact hc0)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; iexact H5
      isplitl [H6]
      · iexact H6
      isplitl [H7]
      · iexact H7
      iexact H8

end Cert.AttnBwd.Run

end
-- ==== Proof.AttnPFrame.lean ====
module

public import proofs.«01_k».proof.Proof.AttnPRunA
public import Idealize.ShloMosaic.Lib.Claim

@[expose] public section

set_option maxRecDepth 16384

noncomputable section

namespace Cert.AttnBwd.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnBwd.Gen

variable {F : FTy → Type} [FloatOps F]

variable (m : (ℓ : Loc nD τ sig) → Buf (Elt F) ℓ) (ρ : Dev nD → PrngReg)

/-- The outputs' contents are left unstated: the frame speaks of the arguments and the counters alone. -/
def forgets0 : Fin 9 → Bool := fun w => w.val == 5 || w.val == 6 || w.val == 7 || w.val == 8

/-- The proof data of the one pipeline: each input's buffer holds its block throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

set_option maxHeartbeats 1600000 in
/-- The body at a point of a first tile. -/
theorem sound_bodyA (c : Dev nD) (t : Fin cfg0.N) (h0 : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) ((hcond0_0 t).mpr h0) (iblk m c 0 t) (iblk m c 1 t) (iblk m c 2 t) (iblk m c 3 t) (iblk m c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  iintro ⟨H0, H1, H2, H3, H4, ⟨%f5, H5⟩, ⟨%f6, H6⟩, ⟨%f7, H7⟩, ⟨%f8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

set_option maxHeartbeats 1600000 in
/-- The body at a point of a later tile. -/
theorem sound_bodyB (c : Dev nD) (t : Fin cfg0.N) (h0 : ¬t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (fun h => h0 ((hcond0_0 t).mp h)) (iblk m c 0 t) (iblk m c 1 t) (iblk m c 2 t) (iblk m c 3 t) (iblk m c 4 t) d6 d7 d8).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [H7]; · iexact H7
  isplitl [H8]; · iexact H8
  iintro ⟨H0, H1, H2, H3, H4, ⟨%f5, H5⟩, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns
  isplitl [H5]
  · iexists _; iexists _; isplitr
    swap; · iexact H5
    ipureintro; rfl
  isplitl [H6]
  · iexists _; iexists _; isplitr
    swap; · iexact H6
    ipureintro; rfl
  isplitl [H7]
  · iexists _; iexists _; isplitr
    swap; · iexact H7
    ipureintro; rfl
  iexists _; iexists _; isplitr
  swap; · iexact H8
  ipureintro; rfl

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_bodyA m c t h0
  · exact sound_bodyB m c t h0

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- Every run of @main ends, with the pipeline's input arrays unchanged and every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans ((A_eq m c 4).trans (V_main_arg4 m c))⟩) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.AttnBwd.Run

end
-- ==== Proof.AttnAlg.lean ====
/- The attention backward kernel computes the gradients jax takes of the plain forward lines. -/
module

public import proofs.«01_k».proof.Proof.AttnVal
public import proofs.«01_k».proof.Proof.AttnRefB
public import proofs.«01_k».proof.Proof.AttnPFrame
public import proofs.«01_k».proof.Proof.Gen.AttnRefIdeal.Run
public import proofs.«01_k».proof.Proof.Gen.Pre_finite
public import proofs.«01_k».proof.Defs
public import Idealize.ShloMosaic.Lib.Claim
public import Idealize.ShloMosaic.Lib.Quiescent

@[expose] public section

set_option maxRecDepth 16384

noncomputable section

namespace Cert.AttnAlg

open Idealize.ShloMosaic Idealize.ShloMosaic.TcCoe Idealize.SL.Sem Cert.Reals Cert.AttnMath

/-- The precondition, read: every element of the five operands is a real number. -/
theorem pre (q : FVec Ideal Cert.Pre_finite.S4096x1024 .bf16) (k v : FVec Ideal Cert.Pre_finite.S4096x256 .bf16)
    (s : FVec Ideal Cert.Pre_finite.S8 .f32) (g : FVec Ideal Cert.Pre_finite.S4096x2048 .bf16)
    (h : Cert.Pre_finite.fn (F := Ideal) q k v s g = fun _ => 1#1) :
    (∀ i, IsR (q i)) ∧ (∀ i, IsR (k i)) ∧ (∀ i, IsR (v i)) ∧ (∀ i, IsR (s i)) ∧ (∀ i, IsR (g i)) := by
  have := congrFun h ix0
  pointwise [Cert.Pre_finite.fn, Cert.Pre_finite.fn_part1] at this
  obtain ⟨h, hg⟩ := andi_eq_one this
  obtain ⟨h, hs⟩ := andi_eq_one h
  obtain ⟨h, hv⟩ := andi_eq_one h
  obtain ⟨hq, hk⟩ := andi_eq_one h
  refine ⟨fun i => ?_, fun i => ?_, fun i => ?_, fun i => ?_, fun i => ?_⟩
  · rw [eq_ix2 i]; exact isR_of_abs_lt _ (of_fold_andi _ hq (i 0, i 1))
  · rw [eq_ix2 i]; exact isR_of_abs_lt _ (of_fold_andi _ hk (i 0, i 1))
  · rw [eq_ix2 i]; exact isR_of_abs_lt _ (of_fold_andi _ hv (i 0, i 1))
  · rw [eq_ix1 i]; exact isR_of_abs_lt _ (of_fold_andi _ hs (i 0))
  · rw [eq_ix2 i]; exact isR_of_abs_lt _ (of_fold_andi _ hg (i 0, i 1))

theorem IsR.eq_toReal {x : EReal} (h : IsR x) : x = (x.toReal : EReal) := by
  obtain ⟨a, rfl⟩ := h
  rw [EReal.toReal_coe]

/-- The reals the argument arrays of a device hold. -/
def args (m : (ℓ : Loc Cert.AttnBwdIdeal.nD Cert.AttnBwdIdeal.τ Cert.AttnBwdIdeal.sig) → Buf (Elt Ideal) ℓ) (c : Dev Cert.AttnBwdIdeal.nD) : Args where
  q i j := EReal.toReal (m ((c.tc : Thread _ Cert.AttnBwdIdeal.τ).loc Cert.AttnBwdIdeal.main_arg0) (ix2 i j))
  k i j := EReal.toReal (m ((c.tc : Thread _ Cert.AttnBwdIdeal.τ).loc Cert.AttnBwdIdeal.main_arg1) (ix2 i j))
  v i j := EReal.toReal (m ((c.tc : Thread _ Cert.AttnBwdIdeal.τ).loc Cert.AttnBwdIdeal.main_arg2) (ix2 i j))
  s i := EReal.toReal (m ((c.tc : Thread _ Cert.AttnBwdIdeal.τ).loc Cert.AttnBwdIdeal.main_arg3) (ix1 i))
  g i j := EReal.toReal (m ((c.tc : Thread _ Cert.AttnBwdIdeal.τ).loc Cert.AttnBwdIdeal.main_arg4) (ix2 i j))

theorem holds (m : (ℓ : Loc Cert.AttnBwdIdeal.nD Cert.AttnBwdIdeal.τ Cert.AttnBwdIdeal.sig) → Buf (Elt Ideal) ℓ) (hpre : Cert.Pre_AttnBwdIdeal_finite m)
    (c : Dev Cert.AttnBwdIdeal.nD) : Cert.AttnBwdIdeal.Attn.Holds m c (args m c) := by
  obtain ⟨hq, hk, hv, hs, hg⟩ := pre _ _ _ _ _ (hpre c)
  exact ⟨fun i j => IsR.eq_toReal (hq _), fun i j => IsR.eq_toReal (hk _), fun i j => IsR.eq_toReal (hv _), fun i => IsR.eq_toReal (hs _), fun i j => IsR.eq_toReal (hg _)⟩

section
open Cert.AttnBwdIdeal Cert.AttnBwdIdeal.Gen Cert.AttnBwdIdeal.Attn

/-- Every run of the kernel ends, its results the gradients of the reals its arguments hold. -/
theorem run (m : (ℓ : Loc nD τ sig) → Buf (Elt Ideal) ℓ) (ρ : Dev nD → PrngReg) (hpre : Cert.Pre_AttnBwdIdeal_finite m) :
    θ_run (defs (F := Ideal)) (onTc (τ := τ) (main (F := Ideal))) ⟨m, fun _ => 0, ρ⟩ (fun r => ∀ c : Dev nD,
      r.2.mem ((c.tc : Thread nD τ).loc main_v4_0) = dqArr (args m c)
      ∧ r.2.mem ((c.tc : Thread nD τ).loc main_v4_1) = kvArr (args m c).dk
      ∧ r.2.mem ((c.tc : Thread nD τ).loc main_v4_2) = kvArr (args m c).dv
      ∧ r.2.mem ((c.tc : Thread nD τ).loc main_v4_3) = snArr (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run _ _ _).mono (fun r h c => ?_) (θ_run_and (run_main m ρ) (unchanged m ρ))
  have hA := holds m hpre c
  exact ⟨((h.1 c).1 5).trans (final5 m c _ hA), ((h.1 c).1 6).trans (final6 m c _ hA), ((h.1 c).1 7).trans (final7 m c _ hA), ((h.1 c).1 8).trans (final8 m c _ hA), h.2 c⟩

end

/-- THE CLAIM: both programs run, and end with equal results. -/
theorem alg : Cert.algebraic_AttnBwdIdeal_AttnRefIdeal_pre_finite := by
  intro m g m' g' hpre hagree
  refine ⟨fun c => Cert.AttnBwdIdeal.Attn.dqArr (args m c), fun c => Cert.AttnBwdIdeal.Attn.kvArr (args m c).dk, fun c => Cert.AttnBwdIdeal.Attn.kvArr (args m c).dv,
    fun c => Cert.AttnBwdIdeal.Attn.snArr (args m c), run m g hpre, ?_⟩
  refine (θ_run _ _ _).mono (fun _ h c => ?_) (Cert.AttnRefIdeal.Value.run m' g')
  obtain ⟨a0, a1, a2, a3, a4⟩ := hagree c
  have hK := holds m hpre c
  have hV : Cert.AttnRefIdeal.Attn.Holds (StableHlo.launchContents m' c) (args m c) :=
    ⟨fun i j => (congrFun a0 _).trans (hK.q i j), fun i j => (congrFun a1 _).trans (hK.k i j), fun i j => (congrFun a2 _).trans (hK.v i j),
      fun i => (congrFun a3 _).trans (hK.s i), fun i j => (congrFun a4 _).trans (hK.g i j)⟩
  obtain ⟨h0, h1, h2, h3, hr⟩ := h c
  refine ⟨h0.trans ?_, h1.trans ?_, h2.trans ?_, h3.trans ?_, hr⟩
  · funext i
    obtain ⟨r, q, rfl⟩ : ∃ (r : Fin 4096) (q : Fin 1024), i = ix2 r q := ⟨i 0, i 1, eq_ix2 i⟩
    exact Cert.AttnRefIdeal.Attn.dq_final hV r q
  · funext i
    obtain ⟨r, q, rfl⟩ : ∃ (r : Fin 4352) (q : Fin 256), i = ix2 r q := ⟨i 0, i 1, eq_ix2 i⟩
    exact Cert.AttnRefIdeal.Attn.spread_of r q _ (fun γ N => ((args m c).blk γ N).dk) fun γ N cc d => Cert.AttnRefIdeal.Attn.dk_at hV γ N cc d
  · funext i
    obtain ⟨r, q, rfl⟩ : ∃ (r : Fin 4352) (q : Fin 256), i = ix2 r q := ⟨i 0, i 1, eq_ix2 i⟩
    exact Cert.AttnRefIdeal.Attn.spread_of r q _ (fun γ N => ((args m c).blk γ N).dv) fun γ N cc d => Cert.AttnRefIdeal.Attn.dv_at hV γ N cc d
  · funext i
    obtain ⟨r, q, l, rfl⟩ : ∃ (r : Fin 2) (q : Fin 4) (l : Fin 128), i = ix3 r q l := ⟨i 0, i 1, i 2, eq_ix3 i⟩
    exact Cert.AttnRefIdeal.Attn.sink_final hV r q l

theorem frame_p : Cert.quiescent_AttnBwd := fun m ρ _ => Cert.AttnBwd.Run.frame m ρ
theorem frame_pi : Cert.quiescent_AttnBwdIdeal := fun m ρ _ => Cert.AttnBwdIdeal.Attn.frame m ρ
theorem frame_pi_pre : Cert.quiescent_AttnBwdIdeal_pre_finite := fun m ρ _ => Cert.AttnBwdIdeal.Attn.frame m ρ
theorem frame_ri : Cert.quiescent_AttnRefIdeal := fun m ρ _ =>
  (θ_run Cert.AttnRefIdeal.defs _ _).mono (fun r h => ⟨fun c => (h c).2.2.2.2,
      Idealize.ShloMosaic.sem_eq_zero_of_no_sems (by decide) r.2⟩)
    (Cert.AttnRefIdeal.Value.run (F := Ideal) m ρ)
theorem frame_ri_pre : Cert.quiescent_AttnRefIdeal_pre_finite := fun m ρ _ => frame_ri m ρ trivial

/-- The mask's constant is named, its value at the extended reals being minus infinity. -/
theorem preserves : Cert.preserves_AttnBwd_AttnBwdIdeal := IdealRules.named_const.statement Cert.AttnBwdIdeal.κ "mask" .f32 0xF149F2CA#32 ⊥ rfl

end Cert.AttnAlg

end
-- ==== Proof.FfnValue.lean ====
/- What the down-projection's backward kernel leaves in its two result arrays, index by index, over the extended reals. -/
module

public import proofs.«01_k».proof.Proof.Gen.FfnBwdIdeal.Value
public import Idealize.ShloMosaic.Lib.Pipeline.ValueKit
public import Idealize.ShloMosaic.Lib.Pointwise

@[expose] public section

set_option maxRecDepth 16384

noncomputable section

namespace Cert.FfnBwdIdeal.Closed

open Cert.FfnBwdIdeal Cert.FfnBwdIdeal.Gen Idealize.ShloMosaic Idealize.ShloMosaic.TcCoe Idealize.SL.Sem
open Idealize.ShloMosaic.Pipeline (Dat)

/-- The gradient of the activation at one place: the row of `dy` times the row of the weight. -/
def dact {R C : Nat} (dy : (⟨2, ![R, 2048]⟩ : Shape).Idx → EReal) (w : (⟨2, ![C, 2048]⟩ : Shape).Idx → EReal)
    (r : Fin R) (c : Fin C) : EReal := ∑ k : Fin 2048, dy (ix2 r k) * w (ix2 c k)

/-- The logistic function as the kernel spells it. -/
def sg (g : EReal) : EReal := Ideal.div 1 (1 + Ideal.exp (0 - g))

/-- The gradient of the gate from the gradient of the activation. -/
def dgate (a g u : EReal) : EReal := a * u * sg g * (1 + g * (1 - sg g))

/-- The gradient of the other factor from the gradient of the activation. -/
def dup (a g : EReal) : EReal := a * g * sg g

/-- One tile of the gate's gradient. -/
theorem out5_apply (x0 : Vec Ideal S1024x2048 .bf16) (x1 : Vec Ideal S512x2048 .bf16) (x2 x3 : Vec Ideal S1024x512 .bf16)
    (x4 : Vec Ideal S8x128 .f32) (y : S1024x512.Idx) :
    out0_5 x0 x1 x2 x3 x4 y = dgate (dact x0 x1 (y 0) (y 1)) (x2 (ix2 (y 0) (y 1))) (x3 (ix2 (y 0) (y 1))) := by
  unfold_out out0_5
  refine View.canon_apply_of_pieces (Val := Elt Ideal) (e := .bf16) (fun y : S1024x512.Idx => dgate (dact x0 x1 (y 0) (y 1)) (x2 (ix2 (y 0) (y 1))) (x3 (ix2 (y 0) (y 1)))) _ ?_ y (cover0_5 _ _ _ _ y)
  intro p hp
  simp only [List.mem_cons, List.not_mem_nil, or_false] at hp
  rcases hp with rfl | rfl | rfl | rfl <;> intro x
  all_goals
    dsimp only
    unfold_payloads
    pointwise [dgate, dact, sg]
    blk_point [r0_2, r0_4, r0_6, r0_8]

/-- One tile of the other factor's gradient. -/
theorem out6_apply (x0 : Vec Ideal S1024x2048 .bf16) (x1 : Vec Ideal S512x2048 .bf16) (x2 x3 : Vec Ideal S1024x512 .bf16)
    (x4 : Vec Ideal S8x128 .f32) (y : S1024x512.Idx) :
    out0_6 x0 x1 x2 x3 x4 y = dup (dact x0 x1 (y 0) (y 1)) (x2 (ix2 (y 0) (y 1))) := by
  unfold_out out0_6
  refine View.canon_apply_of_pieces (Val := Elt Ideal) (e := .bf16) (fun y : S1024x512.Idx => dup (dact x0 x1 (y 0) (y 1)) (x2 (ix2 (y 0) (y 1)))) _ ?_ y (cover0_6 _ _ _ _ y)
  intro p hp
  simp only [List.mem_cons, List.not_mem_nil, or_false] at hp
  rcases hp with rfl | rfl | rfl | rfl <;> intro x
  all_goals
    dsimp only
    unfold_payloads
    pointwise [dup, dact, sg]
    blk_point [r0_2, r0_4, r0_6, r0_8]

/-- Where each window's block lies at a grid point. -/
theorem idx (t : Fin grid0.N) : win0_0.index t = ![t.val / 11, 0] ∧ win0_1.index t = ![t.val % 11, 0]
    ∧ win0_2.index t = ![t.val / 11, t.val % 11] ∧ win0_3.index t = ![t.val / 11, t.val % 11]
    ∧ win0_5.index t = ![t.val / 11, t.val % 11] ∧ win0_6.index t = ![t.val / 11, t.val % 11] :=
  (by decide +kernel : ∀ t : Fin grid0.N, win0_0.index t = ![t.val / 11, 0] ∧ win0_1.index t = ![t.val % 11, 0]
    ∧ win0_2.index t = ![t.val / 11, t.val % 11] ∧ win0_3.index t = ![t.val / 11, t.val % 11]
    ∧ win0_5.index t = ![t.val / 11, t.val % 11] ∧ win0_6.index t = ![t.val / 11, t.val % 11]) t

variable (m : (ℓ : Loc nD τ sig) → Buf (Elt Ideal) ℓ) (ρ : Dev nD → PrngReg)

/-- The gate's gradient as one function of the argument arrays. -/
def G5 (c : Dev nD) : S4096x5632.Idx → EReal := fun y =>
  dgate (dact (m ((c.tc : Thread nD τ).loc main_arg0)) (m ((c.tc : Thread nD τ).loc main_arg1)) (y 0) (y 1))
    (m ((c.tc : Thread nD τ).loc main_arg2) (ix2 (y 0) (y 1))) (m ((c.tc : Thread nD τ).loc main_arg3) (ix2 (y 0) (y 1)))

/-- The other factor's gradient as one function of the argument arrays. -/
def G6 (c : Dev nD) : S4096x5632.Idx → EReal := fun y =>
  dup (dact (m ((c.tc : Thread nD τ).loc main_arg0)) (m ((c.tc : Thread nD τ).loc main_arg1)) (y 0) (y 1))
    (m ((c.tc : Thread nD τ).loc main_arg2) (ix2 (y 0) (y 1)))

/-- The first result array after the run. -/
theorem final5 (c : Dev nD) : (dats m 0 c).arrAt 5 cfg0.N = G5 m c := by
  refine (dats m 0 c).arrAt_eq_of_covers 5 _ (by decide +kernel) fun t hf y => ?_
  blk_simp
  rw [after0_5, out5_apply]
  obtain ⟨e0, e1, e2, e3, e5, -⟩ := idx t
  unfold G5 dgate dact sg
  blk_point [iblk, V, e0, e1, e2, e3, e5]

/-- The second result array after the run. -/
theorem final6 (c : Dev nD) : (dats m 0 c).arrAt 6 cfg0.N = G6 m c := by
  refine (dats m 0 c).arrAt_eq_of_covers 6 _ (by decide +kernel) fun t hf y => ?_
  blk_simp
  rw [after0_6, out6_apply]
  obtain ⟨e0, e1, e2, e3, -, e6⟩ := idx t
  unfold G6 dup dact sg
  blk_point [iblk, V, e0, e1, e2, e3, e6]

end Cert.FfnBwdIdeal.Closed

end
-- ==== Proof.FfnAlg.lean ====
/- The down-projection's backward kernel computes the gradients jax takes of the plain forward lines. -/
module

public import proofs.«01_k».proof.Proof.FfnValue
public import proofs.«01_k».proof.Proof.Reals
public import proofs.«01_k».proof.Proof.Gen.FfnRefIdeal.Run
public import proofs.«01_k».proof.Proof.Gen.Pre_finite2
public import proofs.«01_k».proof.Proof.Gen.FfnBwd.Frame
public import proofs.«01_k».proof.Defs
public import Idealize.ShloMosaic.Lib.Claim
public import Idealize.ShloMosaic.Lib.Quiescent

@[expose] public section

set_option maxRecDepth 16384

noncomputable section

namespace Cert.FfnAlg

open Idealize.ShloMosaic Idealize.ShloMosaic.TcCoe Idealize.SL.Sem Cert.Reals
open Cert.FfnBwdIdeal.Closed

/-- The precondition, read: every element of the four operands is a real number. -/
theorem pre (x : FVec Ideal Cert.Pre_finite2.S4096x2048 .bf16) (y : FVec Ideal Cert.Pre_finite2.S5632x2048 .bf16)
    (z u : FVec Ideal Cert.Pre_finite2.S4096x5632 .bf16) (v : FVec Ideal Cert.Pre_finite2.S8x128 .f32)
    (h : Cert.Pre_finite2.fn (F := Ideal) x y z u v = fun _ => 1#1) :
    (∀ i, IsR (x i)) ∧ (∀ i, IsR (y i)) ∧ (∀ i, IsR (z i)) ∧ (∀ i, IsR (u i)) := by
  have := congrFun h ix0
  pointwise [Cert.Pre_finite2.fn, Cert.Pre_finite2.fn_part1] at this
  obtain ⟨h, hu⟩ := andi_eq_one this
  obtain ⟨h, hz⟩ := andi_eq_one h
  obtain ⟨hx, hy⟩ := andi_eq_one h
  refine ⟨fun i => ?_, fun i => ?_, fun i => ?_, fun i => ?_⟩ <;> rw [eq_ix2 i]
  · exact isR_of_abs_lt _ (of_fold_andi _ hx (i 0, i 1))
  · exact isR_of_abs_lt _ (of_fold_andi _ hy (i 0, i 1))
  · exact isR_of_abs_lt _ (of_fold_andi _ hz (i 0, i 1))
  · exact isR_of_abs_lt _ (of_fold_andi _ hu (i 0, i 1))

/-- The logistic function of a real is a real. -/
theorem sg_coe (r : ℝ) : sg (r : EReal) = ((1 / (1 + Real.exp (-r)) : ℝ) : EReal) := by
  unfold sg
  have e : (1 : EReal) + Ideal.exp (0 - (r : EReal)) = ((1 + Real.exp (-r) : ℝ) : EReal) := by
    have : (0 : EReal) - (r : EReal) = ((-r : ℝ) : EReal) := by push_cast; simp
    rw [this, Ideal.exp_coe]; push_cast; rfl
  rw [e]
  exact_mod_cast div_coe_coe 1 (by positivity)

/-- The gate's gradient: the kernel's product is the sum of the two terms of jax's derivative. -/
theorem dgate_eq {a g u : EReal} (ha : IsR a) (hg : IsR g) (hu : IsR u) :
    dgate a g u = a * u * sg g + g * (a * u) * (sg g * (1 - sg g)) := by
  obtain ⟨a, rfl⟩ := ha; obtain ⟨g, rfl⟩ := hg; obtain ⟨u, rfl⟩ := hu
  unfold dgate
  rw [sg_coe]
  generalize (1 / (1 + Real.exp (-g)) : ℝ) = s
  exact_mod_cast (by ring : a * u * s * (1 + g * (1 - s)) = a * u * s + g * (a * u) * (s * (1 - s)))

/-- The other factor's gradient, its factors in jax's order. -/
theorem dup_eq (a g : EReal) : dup a g = g * sg g * a := by
  unfold dup; rw [mul_assoc, mul_comm]

section
open Cert.FfnRefIdeal Cert.FfnRefIdeal.Gen

variable (dy : FVec Ideal S4096x2048 .bf16) (w : FVec Ideal S5632x2048 .bf16) (gate up : FVec Ideal S4096x5632 .bf16)

/-- The reference's logistic array. -/
abbrev refSg : FVec Ideal S4096x5632 .f32 :=
  Host.divf (broadcastInDim S4096x5632 ![] bcast_S_S4096x5632 (constant S_ .f32 0x3F800000#32)) (addf (broadcastInDim S4096x5632 ![] bcast_S_S4096x5632 (constant S_ .f32 0x3F800000#32)) (Host.exp (Host.negf (extf .f32 gate bitsLt_bf16_f32))))

/-- The reference's gradient of the activation. -/
abbrev refDact : FVec Ideal S4096x5632 .f32 :=
  Host.dotGeneral dot_S4096x2048_S5632x2048_S4096x5632_1_1_0_0_n_n none (extf .f32 dy bitsLt_bf16_f32) (extf .f32 w bitsLt_bf16_f32)

/-- The reference's gradient of the gate, as its operations compose. -/
abbrev refGate : FVec Ideal S4096x5632 .bf16 :=
  truncf .bf16 (addf (mulf (mulf (refDact dy w) (extf .f32 up bitsLt_bf16_f32)) (refSg gate))
    (mulf (mulf (extf .f32 gate bitsLt_bf16_f32) (mulf (refDact dy w) (extf .f32 up bitsLt_bf16_f32)))
      (mulf (refSg gate) (subf (broadcastInDim S4096x5632 ![] bcast_S_S4096x5632 (constant S_ .f32 0x3F800000#32)) (refSg gate))))) bitsLt_bf16_f32

/-- The reference's gradient of the other factor. -/
abbrev refUp : FVec Ideal S4096x5632 .bf16 :=
  truncf .bf16 (mulf (mulf (extf .f32 gate bitsLt_bf16_f32) (refSg gate)) (refDact dy w)) bitsLt_bf16_f32

/-- The reference's gradient of the gate at an index, for real operands. -/
theorem refGate_apply (r0 : ∀ i, IsR (dy i)) (r1 : ∀ i, IsR (w i)) (r2 : ∀ i, IsR (gate i)) (r3 : ∀ i, IsR (up i))
    (r : Fin 4096) (c : Fin 5632) :
    refGate dy w gate up (ix2 r c) = dgate (dact dy w r c) (gate (ix2 r c)) (up (ix2 r c)) := by
  have hd : IsR (dact dy w r c) := IsR.sum _ fun k _ => (r0 _).mul (r1 _)
  rw [dgate_eq hd (r2 _) (r3 _)]
  pointwise [dact, sg]
  simp only [zero_sub]

/-- The reference's gradient of the other factor at an index. -/
theorem refUp_apply (r : Fin 4096) (c : Fin 5632) :
    refUp dy w gate (ix2 r c) = dup (dact dy w r c) (gate (ix2 r c)) := by
  rw [dup_eq]
  pointwise [dact, sg]
  simp only [zero_sub]

end

/-- THE CLAIM: both programs run, and end with equal gradients of the gate and of the other factor. -/
theorem alg : Cert.algebraic_FfnBwdIdeal_FfnRefIdeal_pre_finite2 := by
  intro m g m' g' hpre hagree
  refine ⟨fun c => Cert.FfnBwdIdeal.Closed.G5 m c, fun c => Cert.FfnBwdIdeal.Closed.G6 m c, ?_, ?_⟩
  · refine (θ_run _ _ _).mono (fun _ h c => ?_) (Cert.FfnBwdIdeal.Value.run_blocks m g)
    obtain ⟨h5, h6, hr⟩ := h c
    exact ⟨h5.trans (final5 m c), h6.trans (final6 m c), hr⟩
  · refine (θ_run _ _ _).mono (fun _ h c => ?_) (Cert.FfnRefIdeal.Value.run m' g')
    obtain ⟨h5, h6, hr⟩ := h c
    obtain ⟨a0, a1, a2, a3, a4⟩ := hagree c
    obtain ⟨r0, r1, r2, r3⟩ := pre _ _ _ _ _ (hpre c)
    refine ⟨h5.trans ?_, h6.trans ?_, hr⟩
    · rw [a0, a1, a2, a3]
      funext i
      obtain ⟨r, q, rfl⟩ : ∃ (r : Fin 4096) (q : Fin 5632), i = ix2 r q := ⟨i 0, i 1, eq_ix2 i⟩
      exact refGate_apply _ _ _ _ r0 r1 r2 r3 r q
    · rw [a0, a1, a2]
      funext i
      obtain ⟨r, q, rfl⟩ : ∃ (r : Fin 4096) (q : Fin 5632), i = ix2 r q := ⟨i 0, i 1, eq_ix2 i⟩
      exact refUp_apply _ _ _ r q

theorem frame_p : Cert.quiescent_FfnBwd := fun m ρ _ => Cert.FfnBwd.Gen.frame m ρ
theorem frame_pi : Cert.quiescent_FfnBwdIdeal := fun m ρ _ => Cert.FfnBwdIdeal.Gen.frame m ρ
theorem frame_ri : Cert.quiescent_FfnRefIdeal := fun m ρ _ =>
  (θ_run Cert.FfnRefIdeal.defs _ _).mono (fun r h => ⟨fun c => (h c).2.2,
      Idealize.ShloMosaic.sem_eq_zero_of_no_sems (by decide) r.2⟩)
    (Cert.FfnRefIdeal.Value.run (F := Ideal) m ρ)

end Cert.FfnAlg

end
-- ==== Proof.FfnIn.lean ====
/- The gradient of the feed-forward's input: the kernel's accumulated products with the shards of the two weights are the gradient jax takes of the plain products. -/
module

public import proofs.«01_k».proof.Proof.Gen.FfnInIdeal.Value
public import proofs.«01_k».proof.Proof.Gen.FfnInRefIdeal.Run
public import proofs.«01_k».proof.Proof.Gen.FfnIn.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.FfnInProof

open Idealize.ShloMosaic Idealize.ShloMosaic.TcCoe Idealize.SL.Sem
open Idealize.ShloMosaic.Pipeline (Dat)

section
open Cert.FfnInIdeal Cert.FfnInIdeal.Gen

/-- The part of a product that one shard gives. -/
def part {R : Nat} (x : (⟨2, ![R, 1408]⟩ : Shape).Idx → EReal) (w : (⟨3, ![1, 2048, 1408]⟩ : Shape).Idx → EReal)
    (r : Fin R) (c : Fin 2048) : EReal := ∑ k : Fin 1408, x (ix2 r k) * w (ix3 0 c k)

/-- What one grid point adds, at an index. -/
theorem pay1_apply (x0 : Vec Ideal S512x1408 .bf16) (x1 : Vec Ideal S1x2048x1408 .bf16) (x2 : Vec Ideal S512x1408 .bf16) (x3 : Vec Ideal S1x2048x1408 .bf16) (y : S512x2048.Idx) :
    k0_pay1 x0 x1 x2 x3 y = part x0 x1 (y 0) (y 1) + part x2 x3 (y 0) (y 1) := by
  unfold_payloads
  pointwise [part]

/-- What the first point of a run stores in the carried tile, at an index. -/
theorem pay2_apply (x0 : Vec Ideal S512x1408 .bf16) (x1 : Vec Ideal S1x2048x1408 .bf16) (x2 : Vec Ideal S512x1408 .bf16) (x3 : Vec Ideal S1x2048x1408 .bf16) (y : S512x2048.Idx) :
    k0_pay2 x0 x1 x2 x3 y = part x0 x1 (y 0) (y 1) + part x2 x3 (y 0) (y 1) := by
  unfold_payloads
  pointwise [part]

/-- What the other points of a run store in the carried tile, at an index. -/
theorem pay3_apply (x0 : Vec Ideal S512x1408 .bf16) (x1 : Vec Ideal S1x2048x1408 .bf16) (x2 : Vec Ideal S512x1408 .bf16) (x3 : Vec Ideal S1x2048x1408 .bf16)
    (a : Vec Ideal S512x2048 .f32) (y : S512x2048.Idx) :
    k0_pay3 x0 x1 x2 x3 a y = a y + (part x0 x1 (y 0) (y 1) + part x2 x3 (y 0) (y 1)) := by
  unfold_payloads
  idx_vars y
  pointwise [part]

variable (m : (ℓ : Loc nD τ sig) → Buf (Elt Ideal) ℓ)

/-- What grid point `t` adds to its tile. -/
def term (c : Dev nD) (t : Fin cfg0.N) (y : S512x2048.Idx) : EReal :=
  part (iblk m c 0 t) (iblk m c 1 t) (y 0) (y 1) + part (iblk m c 2 t) (iblk m c 3 t) (y 0) (y 1)

/-- The carried tile at the first point of a run. -/
theorem first (c : Dev nD) (t : Fin cfg0.N) (h : t.val % 4 = 0) (y : S512x2048.Idx) :
    (outsAt0 m c t.val t.isLt).2 y = 0 + term m c t y := by
  rw [outsAt0_A m c t h (by omega) (by omega)]
  frame_out
  rw [zero_add]
  exact pay2_apply _ _ _ _ y

/-- The carried tile at the other points. -/
theorem step (c : Dev nD) (t : Fin cfg0.N) (h : ¬t.val % 4 = 0) (y : S512x2048.Idx) :
    (outsAt0 m c t.val t.isLt).2 y = (outsAt0 m c (t.val - 1) (Nat.lt_of_le_of_lt (Nat.sub_le _ _) t.isLt)).2 y + term m c t y := by
  by_cases h2 : t.val % 4 = 3
  · rw [outsAt0_C m c t h (by omega) h2]
    frame_out
    exact (congrFun (congrArg (k0_pay3 _ _ _ _) (Memref.IsWhole.read_unread _ _)) y).trans (pay3_apply _ _ _ _ _ y)
  · rw [outsAt0_B m c t h (by omega) h2]
    frame_out
    exact (congrFun (congrArg (k0_pay3 _ _ _ _) (Memref.IsWhole.read_unread _ _)) y).trans (pay3_apply _ _ _ _ _ y)

/-- What the last point of a run stores is the carried tile. -/
theorem last (c : Dev nD) (t : Fin cfg0.N) (h : t.val % 4 = 3) (y : S512x2048.Idx) :
    (outsAt0 m c t.val t.isLt).1 y = (outsAt0 m c t.val t.isLt).2 y := by
  rw [outsAt0_C m c t (by omega) (by omega) h]
  frame_out
  rfl

/-- Where each window's block lies at a grid point. -/
theorem idx (t : Fin grid0.N) : win0_0.index t = ![t.val / 4, t.val % 4] ∧ win0_1.index t = ![t.val % 4, 0, 0]
    ∧ win0_2.index t = ![t.val / 4, t.val % 4] ∧ win0_3.index t = ![t.val % 4, 0, 0] ∧ win0_4.index t = ![t.val / 4, 0] :=
  (by decide +kernel : ∀ t : Fin grid0.N, win0_0.index t = ![t.val / 4, t.val % 4] ∧ win0_1.index t = ![t.val % 4, 0, 0]
    ∧ win0_2.index t = ![t.val / 4, t.val % 4] ∧ win0_3.index t = ![t.val % 4, 0, 0] ∧ win0_4.index t = ![t.val / 4, 0]) t

/-- The shard that holds a column of the whole weight. -/
def shard (q : Fin 5632) : Fin 4 := ⟨q.val / 1408, by omega⟩

/-- Where in its shard a column of the whole weight lies. -/
def lane (q : Fin 5632) : Fin 1408 := ⟨q.val % 1408, by omega⟩

/-- Column `k` of shard `s` as a column of the whole array. -/
def col (s : Fin 4) (k : Fin 1408) : Fin 5632 := ⟨s.val * 1408 + k.val, by omega⟩

theorem shard_col (s : Fin 4) (k : Fin 1408) : shard (col s k) = s := Fin.ext (by simp only [shard, col]; omega)

theorem lane_col (s : Fin 4) (k : Fin 1408) : lane (col s k) = k := Fin.ext (by simp only [lane, col]; omega)

/-- A sum over the whole array's columns, shard by shard. -/
theorem sum_cols (f : Fin 5632 → EReal) : ∑ q, f q = ∑ s : Fin 4, ∑ k : Fin 1408, f (col s k) := by
  rw [← Fintype.sum_prod_type']
  exact (Fintype.sum_equiv (finProdFinEquiv (m := 4) (n := 1408)) _ _
    (fun p => congrArg f (Fin.ext (by simp [col, finProdFinEquiv]; omega)))).symm

/-- A row of the left operand times a row of one shard of the weight. -/
def dot (x : (⟨2, ![4096, 5632]⟩ : Shape).Idx → EReal) (w : (⟨3, ![4, 2048, 1408]⟩ : Shape).Idx → EReal)
    (r : Fin 4096) (c : Fin 2048) (s : Fin 4) : EReal := ∑ k : Fin 1408, x (ix2 r (col s k)) * w (ix3 s c k)

/-- The result as one function of the argument arrays. -/
def G (c : Dev nD) : S4096x2048.Idx → EReal := fun y => ∑ s : Fin 4,
  (dot (m ((c.tc : Thread nD τ).loc main_arg0)) (m ((c.tc : Thread nD τ).loc main_arg1)) (y 0) (y 1) s
    + dot (m ((c.tc : Thread nD τ).loc main_arg2)) (m ((c.tc : Thread nD τ).loc main_arg3)) (y 0) (y 1) s)

/-- One point's term over the argument arrays. -/
theorem term_eq (c : Dev nD) (t : Fin cfg0.N) (ht : t.val % 4 = 3) (s : Fin 4) (y : S512x2048.Idx) (r : Fin 4096) (q : Fin 2048)
    (hr : r.val = t.val / 4 * 512 + (y 0).val) (hq : q.val = (y 1).val) :
    term m c ⟨4 * (t.val / 4) + s.val, Pipeline.run_point_lt_of_flush t ht s⟩ y
      = dot (m ((c.tc : Thread nD τ).loc main_arg0)) (m ((c.tc : Thread nD τ).loc main_arg1)) r q s
        + dot (m ((c.tc : Thread nD τ).loc main_arg2)) (m ((c.tc : Thread nD τ).loc main_arg3)) r q s := by
  obtain ⟨e0, e1, e2, e3, -⟩ := idx ⟨4 * (t.val / 4) + s.val, Pipeline.run_point_lt_of_flush t ht s⟩
  have h1 : (4 * (t.val / 4) + s.val) / 4 = t.val / 4 := by omega
  have h2 : (4 * (t.val / 4) + s.val) % 4 = s.val := by omega
  simp only [h1, h2] at e0 e1 e2 e3
  unfold term dot part col
  blk_point [iblk, V, e0, e1, e2, e3, hr, hq]

/-- The result array after the run. -/
theorem final (c : Dev nD) : (dats m 0 c).arrAt 4 cfg0.N = G m c := by
  refine (dats m 0 c).arrAt_eq_of_covers 4 _ (by decide +kernel) fun t hf y => ?_
  have ht : t.val % 4 = 3 := (flush0_4 t).mp hf
  blk_simp
  rw [after0_4, last m c t ht,
    Pipeline.eq_sum_fin_of_reset_step_apply_of_flush (fun n h => (outsAt0 m c n h).2) 4 (fun _ => (0 : EReal)) (term m c)
      (first m c) (step m c) t ht]
  obtain ⟨-, -, -, -, e4⟩ := idx t
  refine (zero_add (M := EReal) _).trans ?_
  unfold G
  refine Fin.sum_fin_congr fun s => term_eq m c t ht s _ _ _ ?_ ?_
  · blk_point [e4]
  · blk_point [e4]

end

section
open Cert.FfnInRefIdeal Cert.FfnInRefIdeal.Gen

/-- The weight put together from its four shards, at an index. -/
theorem whole_apply (w : FVec Ideal S4x2048x1408 .bf16) (k : Fin 2048) (q : Fin 5632) :
    ((concatenate S2048x5632 1 [⟨S2048x1408, ((shapeCast _ (extractStridedSlice S1x2048x1408 ![0, 0, 0] w slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 k q) = w (ix3 (shard q) k (lane q)) := by
  pointwise [shard, lane]
  split_ifs <;> (refine congrArg w ((ix3_inj _ _ _ _ _ _).mpr ⟨Fin.ext ?_, rfl, Fin.ext ?_⟩) <;> (try simp only [Fin.coe_ofNat_eq_mod]) <;> omega)

/-- The reference's products at an index. -/
theorem prod_apply (x x' : FVec Ideal S4096x5632 .bf16) (w w' : FVec Ideal S2048x5632 .bf16) (r : Fin 4096) (q : Fin 2048) :
    truncf .bf16 (addf (Host.dotGeneral dot_S4096x5632_S2048x5632_S4096x2048_1_1_0_0_n_n none (extf .f32 x' bitsLt_bf16_f32) (extf .f32 w' bitsLt_bf16_f32)) (Host.dotGeneral dot_S4096x5632_S2048x5632_S4096x2048_1_1_0_0_n_n none (extf .f32 x bitsLt_bf16_f32) (extf .f32 w bitsLt_bf16_f32))) bitsLt_bf16_f32 (ix2 r q)
      = ∑ k : Fin 5632, x' (ix2 r k) * w' (ix2 q k) + ∑ k : Fin 5632, x (ix2 r k) * w (ix2 q k) := by
  pointwise

/-- One product's sum, shard by shard. -/
theorem sum_apply (x : FVec Ideal S4096x5632 .bf16) (w : FVec Ideal S4x2048x1408 .bf16) (r : Fin 4096) (q : Fin 2048) :
    ∑ k : Fin 5632, x (ix2 r k) * ((concatenate S2048x5632 1 [⟨S2048x1408, ((shapeCast _ (extractStridedSlice S1x2048x1408 ![0, 0, 0] w slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 q k) = ∑ s, dot x w r q s :=
  (Finset.sum_congr rfl fun k _ => congrArg (x (ix2 r k) * ·) (whole_apply w q k)).trans
    ((sum_cols _).trans (Finset.sum_congr rfl fun s _ => Finset.sum_congr rfl fun k _ => by rw [shard_col, lane_col]))

/-- Both products' sums, shard by shard. -/
theorem sums_apply (x x' : FVec Ideal S4096x5632 .bf16) (w w' : FVec Ideal S4x2048x1408 .bf16) (r : Fin 4096) (q : Fin 2048) :
    ∑ k : Fin 5632, x' (ix2 r k) * ((concatenate S2048x5632 1 [⟨S2048x1408, ((shapeCast _ (extractStridedSlice S1x2048x1408 ![0, 0, 0] w' slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w' slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w' slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w' slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 q k) + ∑ k : Fin 5632, x (ix2 r k) * ((concatenate S2048x5632 1 [⟨S2048x1408, ((shapeCast _ (extractStridedSlice S1x2048x1408 ![0, 0, 0] w slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 q k)
      = ∑ s, (dot x w r q s + dot x' w' r q s) := by
  rw [sum_apply, sum_apply, Finset.sum_add_distrib, add_comm]

end

/-- THE CLAIM: both programs run, and end with equal results. -/
theorem alg : Cert.algebraic_FfnInIdeal_FfnInRefIdeal := by
  intro m g m' g' hpre hagree
  refine ⟨fun c => G m c, ?_, ?_⟩
  · refine (θ_run _ _ _).mono (fun _ h c => ?_) (Cert.FfnInIdeal.Value.run_blocks m g)
    exact ⟨(h c).1.trans (final m c), (h c).2⟩
  · refine (θ_run _ _ _).mono (fun _ h c => ?_) (Cert.FfnInRefIdeal.Value.run m' g')
    obtain ⟨a0, a1, a2, a3⟩ := hagree c
    refine ⟨(h c).1.trans ?_, (h c).2⟩
    rw [a0, a1, a2, a3]
    funext i
    obtain ⟨r, q, rfl⟩ : ∃ (r : Fin 4096) (q : Fin 2048), i = ix2 r q := ⟨i 0, i 1, eq_ix2 i⟩
    exact (prod_apply _ _ _ _ r q).trans (sums_apply _ _ _ _ r q)

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ =>
  (θ_run Cert.FfnInRefIdeal.defs _ _).mono (fun r h => ⟨fun c => (h c).2,
      Idealize.ShloMosaic.sem_eq_zero_of_no_sems (by decide) r.2⟩)
    (Cert.FfnInRefIdeal.Value.run (F := Ideal) m ρ)

end Cert.FfnInProof

end
-- ==== Proof.FfnUpW.lean ====
/- The gradient of the gate's or up-projection's weight, shard by shard: the kernel's product over the tokens is the gradient jax takes of the plain product. -/
module

public import proofs.«01_k».proof.Proof.Gen.FfnUpWIdeal.Value
public import proofs.«01_k».proof.Proof.Gen.FfnUpWRefIdeal.Run
public import proofs.«01_k».proof.Proof.Gen.FfnUpW.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.FfnUpWProof

open Idealize.ShloMosaic Idealize.ShloMosaic.TcCoe Idealize.SL.Sem
open Idealize.ShloMosaic.Pipeline (Dat)

section
open Cert.FfnUpWIdeal Cert.FfnUpWIdeal.Gen

/-- A column of the left operand times a column of the right one. -/
def dot {R C : Nat} (x : (⟨2, ![4096, R]⟩ : Shape).Idx → EReal) (dz : (⟨2, ![4096, C]⟩ : Shape).Idx → EReal)
    (r : Fin R) (c : Fin C) : EReal := ∑ k : Fin 4096, x (ix2 k r) * dz (ix2 k c)

/-- One tile of the result. -/
theorem out_apply (x0 : Vec Ideal S4096x512 .bf16) (x1 : Vec Ideal S4096x1408 .bf16) (y : S1x512x1408.Idx) :
    out0_2 x0 x1 y = dot x0 x1 (y 1) (y 2) := by
  unfold out0_2
  refine View.canon_apply_of_pieces (Val := Elt Ideal) (e := .bf16) (fun y : S1x512x1408.Idx => dot x0 x1 (y 1) (y 2)) _ ?_ y (cover0_2 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![0, t.val % 4] ∧ win0_1.index t = ![0, t.val / 4]
    ∧ win0_2.index t = ![t.val / 4, t.val % 4, 0] :=
  (by decide +kernel : ∀ t : Fin grid0.N, win0_0.index t = ![0, t.val % 4] ∧ win0_1.index t = ![0, t.val / 4]
    ∧ win0_2.index t = ![t.val / 4, t.val % 4, 0]) t

variable (m : (ℓ : Loc nD τ sig) → Buf (Elt Ideal) ℓ)

/-- Column `c` of shard `j` as a column of the whole array. -/
def col (j : Fin 4) (c : Fin 1408) : Fin 5632 := ⟨j.val * 1408 + c.val, by omega⟩

/-- The result as one function of the argument arrays. -/
def G (c : Dev nD) : S4x2048x1408.Idx → EReal := fun y =>
  dot (m ((c.tc : Thread nD τ).loc main_arg0)) (m ((c.tc : Thread nD τ).loc main_arg1)) (y 1) (col (y 0) (y 2))

/-- The result array after the run. -/
theorem final (c : Dev nD) : (dats m 0 c).arrAt 2 cfg0.N = G m c := by
  refine (dats m 0 c).arrAt_eq_of_covers 2 _ (by decide +kernel) fun t hf y => ?_
  blk_simp
  rw [after0_2, out_apply]
  obtain ⟨e0, e1, e2⟩ := idx t
  unfold G dot col
  blk_point [iblk, V, e0, e1, e2]

end

section
open Cert.FfnUpWRefIdeal Cert.FfnUpWRefIdeal.Gen

/-- The reference's product at an index: the same sum with the factors the other way round. -/
theorem prod_apply (x : FVec Ideal S4096x2048 .bf16) (dz : FVec Ideal S4096x5632 .bf16) (r : Fin 2048) (q : Fin 5632) :
    transpose S2048x5632 [1, 0] (Host.dotGeneral dot_S4096x5632_S4096x2048_S5632x2048_0_0_1_1_n_n none (extf .f32 dz bitsLt_bf16_f32) (extf .f32 x bitsLt_bf16_f32)) transposes_S5632x2048_S2048x5632_1_0 (ix2 r q)
      = dot x dz r q := by
  pointwise [dot]
  exact Finset.sum_congr rfl fun k _ => mul_comm _ _

/-- The whole array cut into its four shards, at an index. -/
theorem cut_apply (y : FVec Ideal S2048x5632 .f32) (j : Fin 4) (r : Fin 2048) (c : Fin 1408) :
    (truncf .bf16 ((concatenate S4x2048x1408 0 [⟨S1x2048x1408, ((broadcastInDim S1x2048x1408 ![1, 2] bcast_S2048x1408_S1x2048x1408_1_2 (extractStridedSlice S2048x1408 ![0, 0] y slices_S2048x5632_S2048x1408_0_0)) : (⟨S1x2048x1408, .f32⟩ : BufTy).Contents (Elt Ideal))⟩, ⟨S1x2048x1408, ((broadcastInDim S1x2048x1408 ![1, 2] bcast_S2048x1408_S1x2048x1408_1_2 (extractStridedSlice S2048x1408 ![0, 1408] y slices_S2048x5632_S2048x1408_0_1408)) : (⟨S1x2048x1408, .f32⟩ : BufTy).Contents (Elt Ideal))⟩, ⟨S1x2048x1408, ((broadcastInDim S1x2048x1408 ![1, 2] bcast_S2048x1408_S1x2048x1408_1_2 (extractStridedSlice S2048x1408 ![0, 2816] y slices_S2048x5632_S2048x1408_0_2816)) : (⟨S1x2048x1408, .f32⟩ : BufTy).Contents (Elt Ideal))⟩, ⟨S1x2048x1408, ((broadcastInDim S1x2048x1408 ![1, 2] bcast_S2048x1408_S1x2048x1408_1_2 (extractStridedSlice S2048x1408 ![0, 4224] y slices_S2048x5632_S2048x1408_0_4224)) : (⟨S1x2048x1408, .f32⟩ : BufTy).Contents (Elt Ideal))⟩] concatenates_S1x2048x1408_S1x2048x1408_S1x2048x1408_S1x2048x1408_S4x2048x1408_d0 : (⟨S4x2048x1408, .f32⟩ : BufTy).Contents (Elt Ideal))) bitsLt_bf16_f32 : FVec Ideal S4x2048x1408 .bf16) (ix3 j r c)
      = (y (ix2 r (col j c)) : EReal) := by
  pointwise [col]
  fin_vals j with hj
  all_goals
    simp [hj]
    try (congr 1; idx_ext)

end

/-- THE CLAIM: both programs run, and end with equal results. -/
theorem alg : Cert.algebraic_FfnUpWIdeal_FfnUpWRefIdeal := by
  intro m g m' g' hpre hagree
  refine ⟨fun c => G m c, ?_, ?_⟩
  · refine (θ_run _ _ _).mono (fun _ h c => ?_) (Cert.FfnUpWIdeal.Value.run_blocks m g)
    exact ⟨(h c).1.trans (final m c), (h c).2⟩
  · refine (θ_run _ _ _).mono (fun _ h c => ?_) (Cert.FfnUpWRefIdeal.Value.run m' g')
    obtain ⟨a0, a1⟩ := hagree c
    refine ⟨(h c).1.trans ?_, (h c).2⟩
    rw [a0, a1]
    funext i
    obtain ⟨j, r, q, rfl⟩ : ∃ (j : Fin 4) (r : Fin 2048) (q : Fin 1408), i = ix3 j r q := ⟨i 0, i 1, i 2, eq_ix3 i⟩
    exact (cut_apply _ j r q).trans (prod_apply _ _ r (col j q))

theorem frame_p : Cert.quiescent_FfnUpW := fun m ρ _ => Cert.FfnUpW.Gen.frame m ρ
theorem frame_pi : Cert.quiescent_FfnUpWIdeal := fun m ρ _ => Cert.FfnUpWIdeal.Gen.frame m ρ
theorem frame_ri : Cert.quiescent_FfnUpWRefIdeal := fun m ρ _ =>
  (θ_run Cert.FfnUpWRefIdeal.defs _ _).mono (fun r h => ⟨fun c => (h c).2,
      Idealize.ShloMosaic.sem_eq_zero_of_no_sems (by decide) r.2⟩)
    (Cert.FfnUpWRefIdeal.Value.run (F := Ideal) m ρ)

end Cert.FfnUpWProof

end
-- ==== Proof.FfnDownW.lean ====
/- The gradient of the down-projection's weight: the kernel's product over the tokens is the gradient jax takes of the plain product. -/
module

public import proofs.«01_k».proof.Proof.Gen.FfnDownWIdeal.Value
public import proofs.«01_k».proof.Proof.Gen.FfnDownWRefIdeal.Run
public import proofs.«01_k».proof.Proof.Gen.FfnDownW.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.FfnDownWProof

open Idealize.ShloMosaic Idealize.ShloMosaic.TcCoe Idealize.SL.Sem
open Idealize.ShloMosaic.Pipeline (Dat)

section
open Cert.FfnDownWIdeal Cert.FfnDownWIdeal.Gen

/-- A column of the left operand times a column of the right one. -/
def dot {R C : Nat} (x : (⟨2, ![4096, R]⟩ : Shape).Idx → EReal) (dy : (⟨2, ![4096, C]⟩ : Shape).Idx → EReal)
    (r : Fin R) (c : Fin C) : EReal := ∑ k : Fin 4096, x (ix2 k r) * dy (ix2 k c)

/-- One tile of the result. -/
theorem out_apply (x0 : Vec Ideal S4096x512 .bf16) (x1 : Vec Ideal S4096x2048 .bf16) (y : S512x2048.Idx) :
    out0_2 x0 x1 y = dot x0 x1 (y 0) (y 1) := by
  unfold out0_2
  refine View.canon_apply_of_pieces (Val := Elt Ideal) (e := .bf16) (fun y : S512x2048.Idx => dot x0 x1 (y 0) (y 1)) _ ?_ y (cover0_2 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0]) t

variable (m : (ℓ : Loc nD τ sig) → Buf (Elt Ideal) ℓ)

/-- The result as one function of the argument arrays. -/
def G (c : Dev nD) : S5632x2048.Idx → EReal := fun y =>
  dot (m ((c.tc : Thread nD τ).loc main_arg0)) (m ((c.tc : Thread nD τ).loc main_arg1)) (y 0) (y 1)

/-- The result array after the run. -/
theorem final (c : Dev nD) : (dats m 0 c).arrAt 2 cfg0.N = G m c := by
  refine (dats m 0 c).arrAt_eq_of_covers 2 _ (by decide +kernel) fun t hf y => ?_
  blk_simp
  rw [after0_2, out_apply]
  obtain ⟨e0, e1, e2⟩ := idx t
  unfold G dot
  blk_point [iblk, V, e0, e1, e2]

end

section
open Cert.FfnDownWRefIdeal Cert.FfnDownWRefIdeal.Gen

/-- The reference's product at an index: the same sum with the factors the other way round. -/
theorem ref_apply (x : FVec Ideal S4096x5632 .bf16) (dy : FVec Ideal S4096x2048 .bf16) (r : Fin 5632) (q : Fin 2048) :
    truncf .bf16 (transpose S5632x2048 [1, 0] (Host.dotGeneral dot_S4096x2048_S4096x5632_S2048x5632_0_0_1_1_n_n none (extf .f32 dy bitsLt_bf16_f32) (extf .f32 x bitsLt_bf16_f32)) transposes_S2048x5632_S5632x2048_1_0) bitsLt_bf16_f32 (ix2 r q)
      = dot x dy r q := by
  pointwise [dot]
  exact Finset.sum_congr rfl fun k _ => mul_comm _ _

end

/-- THE CLAIM: both programs run, and end with equal results. -/
theorem alg : Cert.algebraic_FfnDownWIdeal_FfnDownWRefIdeal := by
  intro m g m' g' hpre hagree
  refine ⟨fun c => G m c, ?_, ?_⟩
  · refine (θ_run _ _ _).mono (fun _ h c => ?_) (Cert.FfnDownWIdeal.Value.run_blocks m g)
    exact ⟨(h c).1.trans (final m c), (h c).2⟩
  · refine (θ_run _ _ _).mono (fun _ h c => ?_) (Cert.FfnDownWRefIdeal.Value.run m' g')
    obtain ⟨a0, a1⟩ := hagree c
    refine ⟨(h c).1.trans ?_, (h c).2⟩
    rw [a0, a1]
    funext i
    obtain ⟨r, q, rfl⟩ : ∃ (r : Fin 5632) (q : Fin 2048), i = ix2 r q := ⟨i 0, i 1, eq_ix2 i⟩
    exact ref_apply _ _ r q

theorem frame_p : Cert.quiescent_FfnDownW := fun m ρ _ => Cert.FfnDownW.Gen.frame m ρ
theorem frame_pi : Cert.quiescent_FfnDownWIdeal := fun m ρ _ => Cert.FfnDownWIdeal.Gen.frame m ρ
theorem frame_ri : Cert.quiescent_FfnDownWRefIdeal := fun m ρ _ =>
  (θ_run Cert.FfnDownWRefIdeal.defs _ _).mono (fun r h => ⟨fun c => (h c).2,
      Idealize.ShloMosaic.sem_eq_zero_of_no_sems (by decide) r.2⟩)
    (Cert.FfnDownWRefIdeal.Value.run (F := Ideal) m ρ)

end Cert.FfnDownWProof

end
-- ==== Proof.MixIn.lean ====
/- The gradient of the mixer's input: the kernel's product with the shards of the weight is the gradient jax takes of the plain product. -/
module

public import proofs.«01_k».proof.Proof.Gen.MixInIdeal.Value
public import proofs.«01_k».proof.Proof.Gen.MixInRefIdeal.Run
public import proofs.«01_k».proof.Proof.Gen.MixIn.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixInProof

open Idealize.ShloMosaic Idealize.ShloMosaic.TcCoe Idealize.SL.Sem
open Idealize.ShloMosaic.Pipeline (Dat)

section
open Cert.MixInIdeal Cert.MixInIdeal.Gen

/-- The part of the product that one shard gives. -/
def part {R : Nat} (x : (⟨2, ![R, 896]⟩ : Shape).Idx → EReal) (w : (⟨3, ![1, 2048, 896]⟩ : Shape).Idx → EReal)
    (r : Fin R) (c : Fin 2048) : EReal := ∑ k : Fin 896, x (ix2 r k) * w (ix3 0 c k)

/-- One tile of the result: the four shards' parts. -/
theorem out_apply (x0 : Vec Ideal S512x896 .bf16) (x1 : Vec Ideal S1x2048x896 .bf16) (x2 : Vec Ideal S512x896 .bf16) (x3 : Vec Ideal S1x2048x896 .bf16)
    (x4 : Vec Ideal S512x896 .bf16) (x5 : Vec Ideal S1x2048x896 .bf16) (x6 : Vec Ideal S512x896 .bf16) (x7 : Vec Ideal S1x2048x896 .bf16) (y : S512x2048.Idx) :
    out0_8 x0 x1 x2 x3 x4 x5 x6 x7 y
      = part x0 x1 (y 0) (y 1) + part x2 x3 (y 0) (y 1) + part x4 x5 (y 0) (y 1) + part x6 x7 (y 0) (y 1) := by
  unfold out0_8
  refine View.canon_apply_of_pieces (Val := Elt Ideal) (e := .bf16) (fun y : S512x2048.Idx => part x0 x1 (y 0) (y 1) + part x2 x3 (y 0) (y 1) + part x4 x5 (y 0) (y 1) + part x6 x7 (y 0) (y 1)) _ ?_ y (cover0_8 _ y)
  intro p hp
  simp only [List.mem_cons, List.not_mem_nil, or_false] at hp
  subst hp
  intro x
  dsimp only
  unfold_payloads
  pointwise [part]
  blk_point [r0_0, r0_1, r0_2]

/-- Where each window's block lies at a grid point. -/
theorem idx (t : Fin grid0.N) : win0_0.index t = ![t.val, 0] ∧ win0_1.index t = ![0, 0, 0] ∧ win0_2.index t = ![t.val, 1] ∧ win0_3.index t = ![1, 0, 0]
    ∧ win0_4.index t = ![t.val, 2] ∧ win0_5.index t = ![2, 0, 0] ∧ win0_6.index t = ![t.val, 3] ∧ win0_7.index t = ![3, 0, 0] ∧ win0_8.index t = ![t.val, 0] :=
  (by decide +kernel : ∀ t : Fin grid0.N, win0_0.index t = ![t.val, 0] ∧ win0_1.index t = ![0, 0, 0] ∧ win0_2.index t = ![t.val, 1] ∧ win0_3.index t = ![1, 0, 0]
    ∧ win0_4.index t = ![t.val, 2] ∧ win0_5.index t = ![2, 0, 0] ∧ win0_6.index t = ![t.val, 3] ∧ win0_7.index t = ![3, 0, 0] ∧ win0_8.index t = ![t.val, 0]) t

/-- The shard that holds a column of the whole weight. -/
def shard (q : Fin 3584) : Fin 4 := ⟨q.val / 896, by omega⟩

/-- Where in its shard a column of the whole weight lies. -/
def lane (q : Fin 3584) : Fin 896 := ⟨q.val % 896, by omega⟩

/-- Column `k` of shard `s` as a column of the whole array. -/
def col (s : Fin 4) (k : Fin 896) : Fin 3584 := ⟨s.val * 896 + k.val, by omega⟩

theorem shard_col (s : Fin 4) (k : Fin 896) : shard (col s k) = s := Fin.ext (by simp only [shard, col]; omega)

theorem lane_col (s : Fin 4) (k : Fin 896) : lane (col s k) = k := Fin.ext (by simp only [lane, col]; omega)

/-- A sum over the whole array's columns, shard by shard. -/
theorem sum_cols (f : Fin 3584 → EReal) : ∑ q, f q = ∑ s : Fin 4, ∑ k : Fin 896, f (col s k) := by
  rw [← Fintype.sum_prod_type']
  exact (Fintype.sum_equiv (finProdFinEquiv (m := 4) (n := 896)) _ _
    (fun p => congrArg f (Fin.ext (by simp [col, finProdFinEquiv]; omega)))).symm

/-- A row of the left operand times a row of the weight, shard by shard. -/
def dot (x : (⟨2, ![4096, 3584]⟩ : Shape).Idx → EReal) (w : (⟨3, ![4, 2048, 896]⟩ : Shape).Idx → EReal)
    (r : Fin 4096) (c : Fin 2048) : EReal := ∑ s : Fin 4, ∑ k : Fin 896, x (ix2 r (col s k)) * w (ix3 s c k)

variable (m : (ℓ : Loc nD τ sig) → Buf (Elt Ideal) ℓ)

/-- The result as one function of the argument arrays. -/
def G (c : Dev nD) : S4096x2048.Idx → EReal := fun y =>
  dot (m ((c.tc : Thread nD τ).loc main_arg0)) (m ((c.tc : Thread nD τ).loc main_arg1)) (y 0) (y 1)

/-- The result array after the run. -/
theorem final (c : Dev nD) : (dats m 0 c).arrAt 8 cfg0.N = G m c := by
  refine (dats m 0 c).arrAt_eq_of_covers 8 _ (by decide +kernel) fun t hf y => ?_
  blk_simp
  rw [after0_8, out_apply]
  obtain ⟨e0, e1, e2, e3, e4, e5, e6, e7, e8⟩ := idx t
  unfold G dot part col
  simp only [Fin.sum_univ_four]
  blk_point [iblk, V, e0, e1, e2, e3, e4, e5, e6, e7, e8]

end

section
open Cert.MixInRefIdeal Cert.MixInRefIdeal.Gen

/-- The weight put together from its four shards, at an index. -/
theorem whole_apply (w : FVec Ideal S4x2048x896 .bf16) (k : Fin 2048) (q : Fin 3584) :
    ((concatenate S2048x3584 1 [⟨S2048x896, ((shapeCast _ (extractStridedSlice S1x2048x896 ![0, 0, 0] w slices_S4x2048x896_S1x2048x896_0_0_0) shapeCasts_S1x2048x896_S2048x896) : (⟨S2048x896, .bf16⟩ : BufTy).Contents (Elt Ideal))⟩, ⟨S2048x896, ((shapeCast _ (extractStridedSlice S1x2048x896 ![1, 0, 0] w slices_S4x2048x896_S1x2048x896_1_0_0) shapeCasts_S1x2048x896_S2048x896) : (⟨S2048x896, .bf16⟩ : BufTy).Contents (Elt Ideal))⟩, ⟨S2048x896, ((shapeCast _ (extractStridedSlice S1x2048x896 ![2, 0, 0] w slices_S4x2048x896_S1x2048x896_2_0_0) shapeCasts_S1x2048x896_S2048x896) : (⟨S2048x896, .bf16⟩ : BufTy).Contents (Elt Ideal))⟩, ⟨S2048x896, ((shapeCast _ (extractStridedSlice S1x2048x896 ![3, 0, 0] w slices_S4x2048x896_S1x2048x896_3_0_0) shapeCasts_S1x2048x896_S2048x896) : (⟨S2048x896, .bf16⟩ : BufTy).Contents (Elt Ideal))⟩] concatenates_S2048x896_S2048x896_S2048x896_S2048x896_S2048x3584_d1 : (⟨S2048x3584, .bf16⟩ : BufTy).Contents (Elt Ideal))) (ix2 k q) = w (ix3 (shard q) k (lane q)) := by
  pointwise [shard, lane]
  split_ifs <;> (congr 1; idx_ext)

/-- The reference's product at an index. -/
theorem prod_apply (x : FVec Ideal S4096x3584 .bf16) (w : FVec Ideal S2048x3584 .bf16) (r : Fin 4096) (q : Fin 2048) :
    truncf .bf16 (Host.dotGeneral dot_S4096x3584_S2048x3584_S4096x2048_1_1_0_0_n_n none (extf .f32 x bitsLt_bf16_f32) (extf .f32 w bitsLt_bf16_f32)) bitsLt_bf16_f32 (ix2 r q)
      = ∑ k : Fin 3584, x (ix2 r k) * w (ix2 q k) := by
  pointwise

/-- The reference's sum, shard by shard. -/
theorem sum_apply (x : FVec Ideal S4096x3584 .bf16) (w : FVec Ideal S4x2048x896 .bf16) (r : Fin 4096) (q : Fin 2048) :
    ∑ k : Fin 3584, x (ix2 r k) * w (ix3 (shard k) q (lane k)) = dot x w r q :=
  (sum_cols _).trans (Finset.sum_congr rfl fun s _ => Finset.sum_congr rfl fun k _ => by rw [shard_col, lane_col])

end

/-- THE CLAIM: both programs run, and end with equal results. -/
theorem alg : Cert.algebraic_MixInIdeal_MixInRefIdeal := by
  intro m g m' g' hpre hagree
  refine ⟨fun c => G m c, ?_, ?_⟩
  · refine (θ_run _ _ _).mono (fun _ h c => ?_) (Cert.MixInIdeal.Value.run_blocks m g)
    exact ⟨(h c).1.trans (final m c), (h c).2⟩
  · refine (θ_run _ _ _).mono (fun _ h c => ?_) (Cert.MixInRefIdeal.Value.run m' g')
    obtain ⟨a0, a1⟩ := hagree c
    refine ⟨(h c).1.trans ?_, (h c).2⟩
    rw [a0, a1]
    funext i
    obtain ⟨r, q, rfl⟩ : ∃ (r : Fin 4096) (q : Fin 2048), i = ix2 r q := ⟨i 0, i 1, eq_ix2 i⟩
    exact (prod_apply _ _ r q).trans ((Finset.sum_congr rfl fun k _ => congrArg _ (whole_apply _ q k)).trans (sum_apply _ _ r q))

theorem frame_p : Cert.quiescent_MixIn := fun m ρ _ => Cert.MixIn.Gen.frame m ρ
theorem frame_pi : Cert.quiescent_MixInIdeal := fun m ρ _ => Cert.MixInIdeal.Gen.frame m ρ
theorem frame_ri : Cert.quiescent_MixInRefIdeal := fun m ρ _ =>
  (θ_run Cert.MixInRefIdeal.defs _ _).mono (fun r h => ⟨fun c => (h c).2,
      Idealize.ShloMosaic.sem_eq_zero_of_no_sems (by decide) r.2⟩)
    (Cert.MixInRefIdeal.Value.run (F := Ideal) m ρ)

end Cert.MixInProof

end
-- ==== Proof.MixInW.lean ====
/- The gradient of the mixer's input weight, shard by shard: the kernel's product over the tokens is the gradient jax takes of the plain product. -/
module

public import proofs.«01_k».proof.Proof.Gen.MixInWIdeal.Value
public import proofs.«01_k».proof.Proof.Gen.MixInWRefIdeal.Run
public import proofs.«01_k».proof.Proof.Gen.MixInW.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixInWProof

open Idealize.ShloMosaic Idealize.ShloMosaic.TcCoe Idealize.SL.Sem
open Idealize.ShloMosaic.Pipeline (Dat)

section
open Cert.MixInWIdeal Cert.MixInWIdeal.Gen

/-- A column of the left operand times a column of the right one. -/
def dot {R C : Nat} (x : (⟨2, ![4096, R]⟩ : Shape).Idx → EReal) (dz : (⟨2, ![4096, C]⟩ : Shape).Idx → EReal)
    (r : Fin R) (c : Fin C) : EReal := ∑ k : Fin 4096, x (ix2 k r) * dz (ix2 k c)

/-- One tile of the result. -/
theorem out_apply (x0 : Vec Ideal S4096x512 .bf16) (x1 : Vec Ideal S4096x896 .bf16) (y : S1x512x896.Idx) :
    out0_2 x0 x1 y = dot x0 x1 (y 1) (y 2) := by
  unfold out0_2
  refine View.canon_apply_of_pieces (Val := Elt Ideal) (e := .bf16) (fun y : S1x512x896.Idx => dot x0 x1 (y 1) (y 2)) _ ?_ y (cover0_2 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![0, t.val % 4] ∧ win0_1.index t = ![0, t.val / 4]
    ∧ win0_2.index t = ![t.val / 4, t.val % 4, 0] :=
  (by decide +kernel : ∀ t : Fin grid0.N, win0_0.index t = ![0, t.val % 4] ∧ win0_1.index t = ![0, t.val / 4]
    ∧ win0_2.index t = ![t.val / 4, t.val % 4, 0]) t

variable (m : (ℓ : Loc nD τ sig) → Buf (Elt Ideal) ℓ)

/-- Column `c` of shard `j` as a column of the whole array. -/
def col (j : Fin 4) (c : Fin 896) : Fin 3584 := ⟨j.val * 896 + c.val, by omega⟩

/-- The result as one function of the argument arrays. -/
def G (c : Dev nD) : S4x2048x896.Idx → EReal := fun y =>
  dot (m ((c.tc : Thread nD τ).loc main_arg0)) (m ((c.tc : Thread nD τ).loc main_arg1)) (y 1) (col (y 0) (y 2))

/-- The result array after the run. -/
theorem final (c : Dev nD) : (dats m 0 c).arrAt 2 cfg0.N = G m c := by
  refine (dats m 0 c).arrAt_eq_of_covers 2 _ (by decide +kernel) fun t hf y => ?_
  blk_simp
  rw [after0_2, out_apply]
  obtain ⟨e0, e1, e2⟩ := idx t
  unfold G dot col
  blk_point [iblk, V, e0, e1, e2]

end

section
open Cert.MixInWRefIdeal Cert.MixInWRefIdeal.Gen

/-- The reference's product at an index: the same sum with the factors the other way round. -/
theorem prod_apply (x : FVec Ideal S4096x2048 .bf16) (dz : FVec Ideal S4096x3584 .bf16) (r : Fin 2048) (q : Fin 3584) :
    transpose S2048x3584 [1, 0] (Host.dotGeneral dot_S4096x3584_S4096x2048_S3584x2048_0_0_1_1_n_n none (extf .f32 dz bitsLt_bf16_f32) (extf .f32 x bitsLt_bf16_f32)) transposes_S3584x2048_S2048x3584_1_0 (ix2 r q)
      = dot x dz r q := by
  pointwise [dot]
  exact Finset.sum_congr rfl fun k _ => mul_comm _ _

/-- The whole array cut into its four shards, at an index. -/
theorem cut_apply (y : FVec Ideal S2048x3584 .f32) (j : Fin 4) (r : Fin 2048) (c : Fin 896) :
    (truncf .bf16 ((concatenate S4x2048x896 0 [⟨S1x2048x896, ((broadcastInDim S1x2048x896 ![1, 2] bcast_S2048x896_S1x2048x896_1_2 (extractStridedSlice S2048x896 ![0, 0] y slices_S2048x3584_S2048x896_0_0)) : (⟨S1x2048x896, .f32⟩ : BufTy).Contents (Elt Ideal))⟩, ⟨S1x2048x896, ((broadcastInDim S1x2048x896 ![1, 2] bcast_S2048x896_S1x2048x896_1_2 (extractStridedSlice S2048x896 ![0, 896] y slices_S2048x3584_S2048x896_0_896)) : (⟨S1x2048x896, .f32⟩ : BufTy).Contents (Elt Ideal))⟩, ⟨S1x2048x896, ((broadcastInDim S1x2048x896 ![1, 2] bcast_S2048x896_S1x2048x896_1_2 (extractStridedSlice S2048x896 ![0, 1792] y slices_S2048x3584_S2048x896_0_1792)) : (⟨S1x2048x896, .f32⟩ : BufTy).Contents (Elt Ideal))⟩, ⟨S1x2048x896, ((broadcastInDim S1x2048x896 ![1, 2] bcast_S2048x896_S1x2048x896_1_2 (extractStridedSlice S2048x896 ![0, 2688] y slices_S2048x3584_S2048x896_0_2688)) : (⟨S1x2048x896, .f32⟩ : BufTy).Contents (Elt Ideal))⟩] concatenates_S1x2048x896_S1x2048x896_S1x2048x896_S1x2048x896_S4x2048x896_d0 : (⟨S4x2048x896, .f32⟩ : BufTy).Contents (Elt Ideal))) bitsLt_bf16_f32 : FVec Ideal S4x2048x896 .bf16) (ix3 j r c)
      = (y (ix2 r (col j c)) : EReal) := by
  pointwise [col]
  fin_vals j with hj
  all_goals
    simp [hj]
    try (congr 1; idx_ext)

end

/-- THE CLAIM: both programs run, and end with equal results. -/
theorem alg : Cert.algebraic_MixInWIdeal_MixInWRefIdeal := by
  intro m g m' g' hpre hagree
  refine ⟨fun c => G m c, ?_, ?_⟩
  · refine (θ_run _ _ _).mono (fun _ h c => ?_) (Cert.MixInWIdeal.Value.run_blocks m g)
    exact ⟨(h c).1.trans (final m c), (h c).2⟩
  · refine (θ_run _ _ _).mono (fun _ h c => ?_) (Cert.MixInWRefIdeal.Value.run m' g')
    obtain ⟨a0, a1⟩ := hagree c
    refine ⟨(h c).1.trans ?_, (h c).2⟩
    rw [a0, a1]
    funext i
    obtain ⟨j, r, q, rfl⟩ : ∃ (j : Fin 4) (r : Fin 2048) (q : Fin 896), i = ix3 j r q := ⟨i 0, i 1, i 2, eq_ix3 i⟩
    exact (cut_apply _ j r q).trans (prod_apply _ _ r (col j q))

theorem frame_p : Cert.quiescent_MixInW := fun m ρ _ => Cert.MixInW.Gen.frame m ρ
theorem frame_pi : Cert.quiescent_MixInWIdeal := fun m ρ _ => Cert.MixInWIdeal.Gen.frame m ρ
theorem frame_ri : Cert.quiescent_MixInWRefIdeal := fun m ρ _ =>
  (θ_run Cert.MixInWRefIdeal.defs _ _).mono (fun r h => ⟨fun c => (h c).2,
      Idealize.ShloMosaic.sem_eq_zero_of_no_sems (by decide) r.2⟩)
    (Cert.MixInWRefIdeal.Value.run (F := Ideal) m ρ)

end Cert.MixInWProof

end
-- ==== Proof.MixOutW.lean ====
/- The gradient of the mixer's output weight: the kernel's product over the tokens is the gradient jax takes of the plain product. -/
module

public import proofs.«01_k».proof.Proof.Gen.MixOutWIdeal.Value
public import proofs.«01_k».proof.Proof.Gen.MixOutWRefIdeal.Run
public import proofs.«01_k».proof.Proof.Gen.MixOutW.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixOutWProof

open Idealize.ShloMosaic Idealize.ShloMosaic.TcCoe Idealize.SL.Sem
open Idealize.ShloMosaic.Pipeline (Dat)

section
open Cert.MixOutWIdeal Cert.MixOutWIdeal.Gen

/-- A column of the left operand times a column of the right one. -/
def dot {R C : Nat} (x : (⟨2, ![4096, R]⟩ : Shape).Idx → EReal) (dy : (⟨2, ![4096, C]⟩ : Shape).Idx → EReal)
    (r : Fin R) (c : Fin C) : EReal := ∑ k : Fin 4096, x (ix2 k r) * dy (ix2 k c)

/-- One tile of the result. -/
theorem out_apply (x0 : Vec Ideal S4096x512 .bf16) (x1 : Vec Ideal S4096x2048 .bf16) (y : S512x2048.Idx) :
    out0_2 x0 x1 y = dot x0 x1 (y 0) (y 1) := by
  unfold out0_2
  refine View.canon_apply_of_pieces (Val := Elt Ideal) (e := .bf16) (fun y : S512x2048.Idx => dot x0 x1 (y 0) (y 1)) _ ?_ y (cover0_2 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![0, t.val] ∧ win0_1.index t = ![0, 0] ∧ win0_2.index t = ![t.val, 0] :=
  (by decide +kernel : ∀ t : Fin grid0.N, win0_0.index t = ![0, t.val] ∧ win0_1.index t = ![0, 0] ∧ win0_2.index t = ![t.val, 0]) t

variable (m : (ℓ : Loc nD τ sig) → Buf (Elt Ideal) ℓ)

/-- The result as one function of the argument arrays. -/
def G (c : Dev nD) : S2048x2048.Idx → EReal := fun y =>
  dot (m ((c.tc : Thread nD τ).loc main_arg0)) (m ((c.tc : Thread nD τ).loc main_arg1)) (y 0) (y 1)

/-- The result array after the run. -/
theorem final (c : Dev nD) : (dats m 0 c).arrAt 2 cfg0.N = G m c := by
  refine (dats m 0 c).arrAt_eq_of_covers 2 _ (by decide +kernel) fun t hf y => ?_
  blk_simp
  rw [after0_2, out_apply]
  obtain ⟨e0, e1, e2⟩ := idx t
  unfold G dot
  blk_point [iblk, V, e0, e1, e2]

end

section
open Cert.MixOutWRefIdeal Cert.MixOutWRefIdeal.Gen

/-- The reference's product at an index: the same sum with the factors the other way round. -/
theorem ref_apply (x : FVec Ideal S4096x2048 .bf16) (dy : FVec Ideal S4096x2048 .bf16) (r : Fin 2048) (q : Fin 2048) :
    truncf .bf16 (transpose S2048x2048 [1, 0] (Host.dotGeneral dot_S4096x2048_S4096x2048_S2048x2048_0_0_1_1_n_n none (extf .f32 dy bitsLt_bf16_f32) (extf .f32 x bitsLt_bf16_f32)) transposes_S2048x2048_S2048x2048_1_0) bitsLt_bf16_f32 (ix2 r q)
      = dot x dy r q := by
  pointwise [dot]
  exact Finset.sum_congr rfl fun k _ => mul_comm _ _

end

/-- THE CLAIM: both programs run, and end with equal results. -/
theorem alg : Cert.algebraic_MixOutWIdeal_MixOutWRefIdeal := by
  intro m g m' g' hpre hagree
  refine ⟨fun c => G m c, ?_, ?_⟩
  · refine (θ_run _ _ _).mono (fun _ h c => ?_) (Cert.MixOutWIdeal.Value.run_blocks m g)
    exact ⟨(h c).1.trans (final m c), (h c).2⟩
  · refine (θ_run _ _ _).mono (fun _ h c => ?_) (Cert.MixOutWRefIdeal.Value.run m' g')
    obtain ⟨a0, a1⟩ := hagree c
    refine ⟨(h c).1.trans ?_, (h c).2⟩
    rw [a0, a1]
    funext i
    obtain ⟨r, q, rfl⟩ : ∃ (r : Fin 2048) (q : Fin 2048), i = ix2 r q := ⟨i 0, i 1, eq_ix2 i⟩
    exact ref_apply _ _ r q

theorem frame_p : Cert.quiescent_MixOutW := fun m ρ _ => Cert.MixOutW.Gen.frame m ρ
theorem frame_pi : Cert.quiescent_MixOutWIdeal := fun m ρ _ => Cert.MixOutWIdeal.Gen.frame m ρ
theorem frame_ri : Cert.quiescent_MixOutWRefIdeal := fun m ρ _ =>
  (θ_run Cert.MixOutWRefIdeal.defs _ _).mono (fun r h => ⟨fun c => (h c).2,
      Idealize.ShloMosaic.sem_eq_zero_of_no_sems (by decide) r.2⟩)
    (Cert.MixOutWRefIdeal.Value.run (F := Ideal) m ρ)

end Cert.MixOutWProof

end
-- ==== Proof.MixOut.lean ====
/- The product with the mixer's output weight, transposed: the kernel's result is the gradient jax takes of the plain product. -/
module

public import proofs.«01_k».proof.Proof.Gen.MixOutIdeal.Value
public import proofs.«01_k».proof.Proof.Gen.MixOutRefIdeal.Run
public import proofs.«01_k».proof.Proof.Gen.MixOut.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixOutProof

open Idealize.ShloMosaic Idealize.ShloMosaic.TcCoe Idealize.SL.Sem
open Idealize.ShloMosaic.Pipeline (Dat)

section
open Cert.MixOutIdeal Cert.MixOutIdeal.Gen

/-- A row of the output's gradient times a row of the weight. -/
def dot {R C : Nat} (dy : (⟨2, ![R, 2048]⟩ : Shape).Idx → EReal) (w : (⟨2, ![C, 2048]⟩ : Shape).Idx → EReal)
    (r : Fin R) (c : Fin C) : EReal := ∑ k : Fin 2048, dy (ix2 r k) * w (ix2 c k)

/-- One tile of the result. -/
theorem out_apply (x0 : Vec Ideal S1024x2048 .bf16) (x1 : Vec Ideal S512x2048 .bf16) (x2 : Vec Ideal S8x128 .f32) (y : S1024x512.Idx) :
    out0_3 x0 x1 x2 y = dot x0 x1 (y 0) (y 1) := by
  unfold out0_3
  refine View.canon_apply_of_pieces (Val := Elt Ideal) (e := .bf16) (fun y : S1024x512.Idx => dot x0 x1 (y 0) (y 1)) _ ?_ y (cover0_3 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![t.val / 4, 0] ∧ win0_1.index t = ![t.val % 4, 0]
    ∧ win0_3.index t = ![t.val / 4, t.val % 4] :=
  (by decide +kernel : ∀ t : Fin grid0.N, win0_0.index t = ![t.val / 4, 0] ∧ win0_1.index t = ![t.val % 4, 0]
    ∧ win0_3.index t = ![t.val / 4, t.val % 4]) t

variable (m : (ℓ : Loc nD τ sig) → Buf (Elt Ideal) ℓ)

/-- The result as one function of the argument arrays. -/
def G (c : Dev nD) : S4096x2048.Idx → EReal := fun y =>
  dot (m ((c.tc : Thread nD τ).loc main_arg0)) (m ((c.tc : Thread nD τ).loc main_arg1)) (y 0) (y 1)

/-- The result array after the run. -/
theorem final (c : Dev nD) : (dats m 0 c).arrAt 3 cfg0.N = G m c := by
  refine (dats m 0 c).arrAt_eq_of_covers 3 _ (by decide +kernel) fun t hf y => ?_
  blk_simp
  rw [after0_3, out_apply]
  obtain ⟨e0, e1, e3⟩ := idx t
  unfold G dot
  blk_point [iblk, V, e0, e1, e3]

end

section
open Cert.MixOutRefIdeal Cert.MixOutRefIdeal.Gen

/-- The reference's product at an index. -/
theorem ref_apply (dy : FVec Ideal S4096x2048 .bf16) (w : FVec Ideal S2048x2048 .bf16) (r : Fin 4096) (q : Fin 2048) :
    truncf .bf16 (Host.dotGeneral dot_S4096x2048_S2048x2048_S4096x2048_1_1_0_0_n_n none (extf .f32 dy bitsLt_bf16_f32) (extf .f32 w bitsLt_bf16_f32)) bitsLt_bf16_f32 (ix2 r q)
      = dot dy w r q := by
  pointwise [dot]

end

/-- THE CLAIM: both programs run, and end with equal results. -/
theorem alg : Cert.algebraic_MixOutIdeal_MixOutRefIdeal := by
  intro m g m' g' hpre hagree
  refine ⟨fun c => G m c, ?_, ?_⟩
  · refine (θ_run _ _ _).mono (fun _ h c => ?_) (Cert.MixOutIdeal.Value.run_blocks m g)
    exact ⟨(h c).1.trans (final m c), (h c).2⟩
  · refine (θ_run _ _ _).mono (fun _ h c => ?_) (Cert.MixOutRefIdeal.Value.run m' g')
    obtain ⟨a0, a1, a2⟩ := hagree c
    refine ⟨(h c).1.trans ?_, (h c).2⟩
    rw [a0, a1]
    funext i
    obtain ⟨r, q, rfl⟩ : ∃ (r : Fin 4096) (q : Fin 2048), i = ix2 r q := ⟨i 0, i 1, eq_ix2 i⟩
    exact ref_apply _ _ r q

theorem frame_p : Cert.quiescent_MixOut := fun m ρ _ => Cert.MixOut.Gen.frame m ρ
theorem frame_pi : Cert.quiescent_MixOutIdeal := fun m ρ _ => Cert.MixOutIdeal.Gen.frame m ρ
theorem frame_ri : Cert.quiescent_MixOutRefIdeal := fun m ρ _ =>
  (θ_run Cert.MixOutRefIdeal.defs _ _).mono (fun r h => ⟨fun c => (h c).2,
      Idealize.ShloMosaic.sem_eq_zero_of_no_sems (by decide) r.2⟩)
    (Cert.MixOutRefIdeal.Value.run (F := Ideal) m ρ)

end Cert.MixOutProof

end
-- ==== Proof.FfnFwd.lean ====
/- The feed-forward's first half: the kernel's gate, other factor and gated activation are those of the plain products with the weights put together from their shards. -/
module

public import proofs.«01_k».proof.Proof.Gen.FfnFwdIdeal.Value
public import proofs.«01_k».proof.Proof.Gen.FfnFwdRefIdeal.Run
public import proofs.«01_k».proof.Proof.Gen.FfnFwd.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.FfnFwdProof

open Idealize.ShloMosaic Idealize.ShloMosaic.TcCoe Idealize.SL.Sem
open Idealize.ShloMosaic.Pipeline (Dat)

section
open Cert.FfnFwdIdeal Cert.FfnFwdIdeal.Gen

/-- A row of the left operand times a column of a shard of the weight. -/
def dot {R S C : Nat} (x : (⟨2, ![R, 2048]⟩ : Shape).Idx → EReal) (w : (⟨3, ![S, 2048, C]⟩ : Shape).Idx → EReal)
    (r : Fin R) (s : Fin S) (c : Fin C) : EReal := ∑ k : Fin 2048, x (ix2 r k) * w (ix3 s k c)

/-- The gated activation from the gate and the other factor. -/
def act (g u : EReal) : EReal := g * Ideal.div 1 (1 + Ideal.exp (0 - g)) * u

/-- One tile of the gate. -/
theorem out4_apply (x0 : Vec Ideal S512x2048 .bf16) (x1 : Vec Ideal S1x2048x1408 .bf16) (x2 : Vec Ideal S1x2048x1408 .bf16) (x3 : Vec Ideal S8x128 .f32) (y : S512x1408.Idx) :
    out0_4 x0 x1 x2 x3 y = dot x0 x1 (y 0) 0 (y 1) := by
  unfold_out out0_4
  refine View.canon_apply_of_pieces (Val := Elt Ideal) (e := .bf16) (fun y : S512x1408.Idx => dot x0 x1 (y 0) 0 (y 1)) _ ?_ y (cover0_4 _ _ y)
  intro p hp
  simp only [List.mem_cons, List.not_mem_nil, or_false] at hp
  rcases hp with rfl | rfl <;> intro x
  all_goals
    dsimp only
    unfold_payloads
    pointwise [dot]
    blk_point [r0_0, r0_1, r0_2, r0_3, r0_4]

/-- One tile of the other factor. -/
theorem out5_apply (x0 : Vec Ideal S512x2048 .bf16) (x1 : Vec Ideal S1x2048x1408 .bf16) (x2 : Vec Ideal S1x2048x1408 .bf16) (x3 : Vec Ideal S8x128 .f32) (y : S512x1408.Idx) :
    out0_5 x0 x1 x2 x3 y = dot x0 x2 (y 0) 0 (y 1) := by
  unfold_out out0_5
  refine View.canon_apply_of_pieces (Val := Elt Ideal) (e := .bf16) (fun y : S512x1408.Idx => dot x0 x2 (y 0) 0 (y 1)) _ ?_ y (cover0_5 _ _ y)
  intro p hp
  simp only [List.mem_cons, List.not_mem_nil, or_false] at hp
  rcases hp with rfl | rfl <;> intro x
  all_goals
    dsimp only
    unfold_payloads
    pointwise [dot]
    blk_point [r0_0, r0_1, r0_2, r0_3, r0_4]

/-- One tile of the gated activation. -/
theorem out6_apply (x0 : Vec Ideal S512x2048 .bf16) (x1 : Vec Ideal S1x2048x1408 .bf16) (x2 : Vec Ideal S1x2048x1408 .bf16) (x3 : Vec Ideal S8x128 .f32) (y : S512x1408.Idx) :
    out0_6 x0 x1 x2 x3 y = act (dot x0 x1 (y 0) 0 (y 1)) (dot x0 x2 (y 0) 0 (y 1)) := by
  unfold_out out0_6
  refine View.canon_apply_of_pieces (Val := Elt Ideal) (e := .bf16) (fun y : S512x1408.Idx => act (dot x0 x1 (y 0) 0 (y 1)) (dot x0 x2 (y 0) 0 (y 1))) _ ?_ y (cover0_6 _ _ y)
  intro p hp
  simp only [List.mem_cons, List.not_mem_nil, or_false] at hp
  rcases hp with rfl | rfl <;> intro x
  all_goals
    dsimp only
    unfold_payloads
    pointwise [act, dot]
    blk_point [r0_0, r0_1, r0_2, r0_3, r0_4]

/-- Where each window's block lies at a grid point. -/
theorem idx (t : Fin grid0.N) : win0_0.index t = ![t.val % 8, 0] ∧ win0_1.index t = ![t.val / 8, 0, 0] ∧ win0_2.index t = ![t.val / 8, 0, 0]
    ∧ win0_4.index t = ![t.val % 8, t.val / 8] ∧ win0_5.index t = ![t.val % 8, t.val / 8] ∧ win0_6.index t = ![t.val % 8, t.val / 8] :=
  (by decide +kernel : ∀ t : Fin grid0.N, win0_0.index t = ![t.val % 8, 0] ∧ win0_1.index t = ![t.val / 8, 0, 0] ∧ win0_2.index t = ![t.val / 8, 0, 0]
    ∧ win0_4.index t = ![t.val % 8, t.val / 8] ∧ win0_5.index t = ![t.val % 8, t.val / 8] ∧ win0_6.index t = ![t.val % 8, t.val / 8]) t

/-- The shard that holds a column of the whole weight. -/
def shard (q : Fin 5632) : Fin 4 := ⟨q.val / 1408, by omega⟩

/-- Where in its shard a column of the whole weight lies. -/
def lane (q : Fin 5632) : Fin 1408 := ⟨q.val % 1408, by omega⟩

variable (m : (ℓ : Loc nD τ sig) → Buf (Elt Ideal) ℓ)

/-- The gate as one function of the argument arrays. -/
def G4 (c : Dev nD) : S4096x5632.Idx → EReal := fun y =>
  dot (m ((c.tc : Thread nD τ).loc main_arg0)) (m ((c.tc : Thread nD τ).loc main_arg1)) (y 0) (shard (y 1)) (lane (y 1))

/-- The other factor as one function of the argument arrays. -/
def G5 (c : Dev nD) : S4096x5632.Idx → EReal := fun y =>
  dot (m ((c.tc : Thread nD τ).loc main_arg0)) (m ((c.tc : Thread nD τ).loc main_arg2)) (y 0) (shard (y 1)) (lane (y 1))

/-- The gated activation as one function of the argument arrays. -/
def G6 (c : Dev nD) : S4096x5632.Idx → EReal := fun y =>
  act (dot (m ((c.tc : Thread nD τ).loc main_arg0)) (m ((c.tc : Thread nD τ).loc main_arg1)) (y 0) (shard (y 1)) (lane (y 1)))
    (dot (m ((c.tc : Thread nD τ).loc main_arg0)) (m ((c.tc : Thread nD τ).loc main_arg2)) (y 0) (shard (y 1)) (lane (y 1)))

/-- The gate after the run. -/
theorem final4 (c : Dev nD) : (dats m 0 c).arrAt 4 cfg0.N = G4 m c := by
  refine (dats m 0 c).arrAt_eq_of_covers 4 _ (by decide +kernel) fun t hf y => ?_
  blk_simp
  rw [after0_4, out4_apply]
  obtain ⟨e0, e1, e2, e4, e5, e6⟩ := idx t
  unfold G4 dot shard lane
  blk_point [iblk, V, e0, e1, e2, e4]

/-- The other factor after the run. -/
theorem final5 (c : Dev nD) : (dats m 0 c).arrAt 5 cfg0.N = G5 m c := by
  refine (dats m 0 c).arrAt_eq_of_covers 5 _ (by decide +kernel) fun t hf y => ?_
  blk_simp
  rw [after0_5, out5_apply]
  obtain ⟨e0, e1, e2, e4, e5, e6⟩ := idx t
  unfold G5 dot shard lane
  blk_point [iblk, V, e0, e1, e2, e5]

/-- The gated activation after the run. -/
theorem final6 (c : Dev nD) : (dats m 0 c).arrAt 6 cfg0.N = G6 m c := by
  refine (dats m 0 c).arrAt_eq_of_covers 6 _ (by decide +kernel) fun t hf y => ?_
  blk_simp
  rw [after0_6, out6_apply]
  obtain ⟨e0, e1, e2, e4, e5, e6⟩ := idx t
  unfold G6 act dot shard lane
  blk_point [iblk, V, e0, e1, e2, e6]

end

section
open Cert.FfnFwdRefIdeal Cert.FfnFwdRefIdeal.Gen

/-- The weight put together from its four shards, at an index. -/
theorem whole_apply (w : FVec Ideal S4x2048x1408 .bf16) (k : Fin 2048) (q : Fin 5632) :
    ((concatenate S2048x5632 1 [⟨S2048x1408, ((shapeCast _ (extractStridedSlice S1x2048x1408 ![0, 0, 0] w slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 k q) = w (ix3 (shard q) k (lane q)) := by
  pointwise [shard, lane]
  split_ifs <;> (refine congrArg w ((ix3_inj _ _ _ _ _ _).mpr ⟨Fin.ext ?_, rfl, Fin.ext ?_⟩) <;> (try simp only [Fin.coe_ofNat_eq_mod]) <;> omega)

/-- The reference's product at an index. -/
theorem prod_apply (x : FVec Ideal S4096x2048 .bf16) (w : FVec Ideal S2048x5632 .bf16) (r : Fin 4096) (q : Fin 5632) :
    truncf .bf16 (Host.dotGeneral dot_S4096x2048_S2048x5632_S4096x5632_1_0_0_1_n_n none (extf .f32 x bitsLt_bf16_f32) (extf .f32 w bitsLt_bf16_f32)) bitsLt_bf16_f32 (ix2 r q)
      = ∑ k : Fin 2048, x (ix2 r k) * w (ix2 k q) := by
  pointwise

/-- The reference's gated activation at an index. -/
theorem act_apply (x : FVec Ideal S4096x2048 .bf16) (wg wu : FVec Ideal S2048x5632 .bf16) (r : Fin 4096) (q : Fin 5632) :
    truncf .bf16 (mulf (mulf (Host.dotGeneral dot_S4096x2048_S2048x5632_S4096x5632_1_0_0_1_n_n none (extf .f32 x bitsLt_bf16_f32) (extf .f32 wg bitsLt_bf16_f32)) (Host.divf (broadcastInDim S4096x5632 ![] bcast_S_S4096x5632 (constant S_ .f32 0x3F800000#32)) (addf (broadcastInDim S4096x5632 ![] bcast_S_S4096x5632 (constant S_ .f32 0x3F800000#32)) (Host.exp (Host.negf (Host.dotGeneral dot_S4096x2048_S2048x5632_S4096x5632_1_0_0_1_n_n none (extf .f32 x bitsLt_bf16_f32) (extf .f32 wg bitsLt_bf16_f32))))))) (Host.dotGeneral dot_S4096x2048_S2048x5632_S4096x5632_1_0_0_1_n_n none (extf .f32 x bitsLt_bf16_f32) (extf .f32 wu bitsLt_bf16_f32))) bitsLt_bf16_f32 (ix2 r q)
      = act (∑ k : Fin 2048, x (ix2 r k) * wg (ix2 k q)) (∑ k : Fin 2048, x (ix2 r k) * wu (ix2 k q)) := by
  pointwise [act]
  rw [zero_sub]

/-- A row times a column of the weight put together from its shards. -/
theorem sum_apply (x : FVec Ideal S4096x2048 .bf16) (w : FVec Ideal S4x2048x1408 .bf16) (r : Fin 4096) (q : Fin 5632) :
    ∑ k : Fin 2048, x (ix2 r k) * ((concatenate S2048x5632 1 [⟨S2048x1408, ((shapeCast _ (extractStridedSlice S1x2048x1408 ![0, 0, 0] w slices_S4x2048x1408_S1x2048x1408_0_0_0) shapeCasts_S1x2048x1408_S2048x1408) : (⟨S2048x1408, .bf16⟩ : BufTy).Contents (Elt Ideal))⟩, ⟨S2048x1408, ((shapeCast _ (extractStridedSlice S1x2048x1408 ![1, 0, 0] w slices_S4x2048x1408_S1x2048x1408_1_0_0) shapeCasts_S1x2048x1408_S2048x1408) : (⟨S2048x1408, .bf16⟩ : BufTy).Contents (Elt Ideal))⟩, ⟨S2048x1408, ((shapeCast _ (extractStridedSlice S1x2048x1408 ![2, 0, 0] w slices_S4x2048x1408_S1x2048x1408_2_0_0) shapeCasts_S1x2048x1408_S2048x1408) : (⟨S2048x1408, .bf16⟩ : BufTy).Contents (Elt Ideal))⟩, ⟨S2048x1408, ((shapeCast _ (extractStridedSlice S1x2048x1408 ![3, 0, 0] w slices_S4x2048x1408_S1x2048x1408_3_0_0) shapeCasts_S1x2048x1408_S2048x1408) : (⟨S2048x1408, .bf16⟩ : BufTy).Contents (Elt Ideal))⟩] concatenates_S2048x1408_S2048x1408_S2048x1408_S2048x1408_S2048x5632_d1 : (⟨S2048x5632, .bf16⟩ : BufTy).Contents (Elt Ideal))) (ix2 k q) = dot x w r (shard q) (lane q) :=
  Finset.sum_congr rfl fun k _ => congrArg (x (ix2 r k) * ·) (whole_apply w k q)

end

/-- THE CLAIM: both programs run, and end with equal results. -/
theorem alg : Cert.algebraic_FfnFwdIdeal_FfnFwdRefIdeal := by
  intro m g m' g' hpre hagree
  refine ⟨fun c => G4 m c, fun c => G5 m c, fun c => G6 m c, ?_, ?_⟩
  · refine (θ_run _ _ _).mono (fun _ h c => ?_) (Cert.FfnFwdIdeal.Value.run_blocks m g)
    exact ⟨(h c).1.trans (final4 m c), (h c).2.1.trans (final5 m c), (h c).2.2.1.trans (final6 m c), (h c).2.2.2⟩
  · refine (θ_run _ _ _).mono (fun _ h c => ?_) (Cert.FfnFwdRefIdeal.Value.run m' g')
    obtain ⟨a0, a1, a2, a3⟩ := hagree c
    refine ⟨(h c).1.trans ?_, (h c).2.1.trans ?_, (h c).2.2.1.trans ?_, (h c).2.2.2⟩
    · rw [a0, a1]
      funext i
      obtain ⟨r, q, rfl⟩ : ∃ (r : Fin 4096) (q : Fin 5632), i = ix2 r q := ⟨i 0, i 1, eq_ix2 i⟩
      exact (prod_apply _ _ r q).trans (sum_apply _ _ r q)
    · rw [a0, a2]
      funext i
      obtain ⟨r, q, rfl⟩ : ∃ (r : Fin 4096) (q : Fin 5632), i = ix2 r q := ⟨i 0, i 1, eq_ix2 i⟩
      exact (prod_apply _ _ r q).trans (sum_apply _ _ r q)
    · unfold Cert.FfnFwdRefIdeal.Value.res_main_v27
      rw [a0, a1, a2]
      funext i
      obtain ⟨r, q, rfl⟩ : ∃ (r : Fin 4096) (q : Fin 5632), i = ix2 r q := ⟨i 0, i 1, eq_ix2 i⟩
      exact (act_apply _ _ _ r q).trans (congrArg₂ act (sum_apply _ _ r q) (sum_apply _ _ r q))

theorem frame_p : Cert.quiescent_FfnFwd := fun m ρ _ => Cert.FfnFwd.Gen.frame m ρ
theorem frame_pi : Cert.quiescent_FfnFwdIdeal := fun m ρ _ => Cert.FfnFwdIdeal.Gen.frame m ρ
theorem frame_ri : Cert.quiescent_FfnFwdRefIdeal := fun m ρ _ =>
  (θ_run Cert.FfnFwdRefIdeal.defs _ _).mono (fun r h => ⟨fun c => (h c).2.2.2,
      Idealize.ShloMosaic.sem_eq_zero_of_no_sems (by decide) r.2⟩)
    (Cert.FfnFwdRefIdeal.Value.run (F := Ideal) m ρ)

end Cert.FfnFwdProof

end
-- ==== Proof.MixFwd.lean ====
/- The mixer's input projection: the kernel's product is the plain product with the weight put together from its shards. -/
module

public import proofs.«01_k».proof.Proof.Gen.MixFwdIdeal.Value
public import proofs.«01_k».proof.Proof.Gen.MixFwdRefIdeal.Run
public import proofs.«01_k».proof.Proof.Gen.MixFwd.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixFwdProof

open Idealize.ShloMosaic Idealize.ShloMosaic.TcCoe Idealize.SL.Sem
open Idealize.ShloMosaic.Pipeline (Dat)

section
open Cert.MixFwdIdeal Cert.MixFwdIdeal.Gen

/-- A row of the left operand times a column of a shard of the weight. -/
def dot {R S C : Nat} (x : (⟨2, ![R, 2048]⟩ : Shape).Idx → EReal) (w : (⟨3, ![S, 2048, C]⟩ : Shape).Idx → EReal)
    (r : Fin R) (s : Fin S) (c : Fin C) : EReal := ∑ k : Fin 2048, x (ix2 r k) * w (ix3 s k c)

/-- One tile of the result. -/
theorem out_apply (x0 : Vec Ideal S512x2048 .bf16) (x1 : Vec Ideal S1x2048x896 .bf16) (x2 : Vec Ideal S8x128 .f32) (y : S512x896.Idx) :
    out0_3 x0 x1 x2 y = dot x0 x1 (y 0) 0 (y 1) := by
  unfold out0_3
  refine View.canon_apply_of_pieces (Val := Elt Ideal) (e := .bf16) (fun y : S512x896.Idx => dot x0 x1 (y 0) 0 (y 1)) _ ?_ y (cover0_3 _ y)
  intro p hp
  simp only [List.mem_cons, List.not_mem_nil, or_false] at hp
  subst hp
  intro x
  dsimp only
  unfold_payloads
  pointwise [dot]
  blk_point [r0_0, r0_1, r0_2]

/-- Where each window's block lies at a grid point. -/
theorem idx (t : Fin grid0.N) : win0_0.index t = ![t.val % 8, 0] ∧ win0_1.index t = ![t.val / 8, 0, 0]
    ∧ win0_3.index t = ![t.val % 8, t.val / 8] :=
  (by decide +kernel : ∀ t : Fin grid0.N, win0_0.index t = ![t.val % 8, 0] ∧ win0_1.index t = ![t.val / 8, 0, 0]
    ∧ win0_3.index t = ![t.val % 8, t.val / 8]) t

/-- The shard that holds a column of the whole weight. -/
def shard (q : Fin 3584) : Fin 4 := ⟨q.val / 896, by omega⟩

/-- Where in its shard a column of the whole weight lies. -/
def lane (q : Fin 3584) : Fin 896 := ⟨q.val % 896, by omega⟩

variable (m : (ℓ : Loc nD τ sig) → Buf (Elt Ideal) ℓ)

/-- The result as one function of the argument arrays. -/
def G (c : Dev nD) : S4096x3584.Idx → EReal := fun y =>
  dot (m ((c.tc : Thread nD τ).loc main_arg0)) (m ((c.tc : Thread nD τ).loc main_arg1)) (y 0) (shard (y 1)) (lane (y 1))

/-- The result array after the run. -/
theorem final (c : Dev nD) : (dats m 0 c).arrAt 3 cfg0.N = G m c := by
  refine (dats m 0 c).arrAt_eq_of_covers 3 _ (by decide +kernel) fun t hf y => ?_
  blk_simp
  rw [after0_3, out_apply]
  obtain ⟨e0, e1, e3⟩ := idx t
  unfold G dot shard lane
  blk_point [iblk, V, e0, e1, e3]

end

section
open Cert.MixFwdRefIdeal Cert.MixFwdRefIdeal.Gen

/-- The weight put together from its four shards, at an index. -/
theorem whole_apply (w : FVec Ideal S4x2048x896 .bf16) (k : Fin 2048) (q : Fin 3584) :
    ((concatenate S2048x3584 1 [⟨S2048x896, ((shapeCast _ (extractStridedSlice S1x2048x896 ![0, 0, 0] w slices_S4x2048x896_S1x2048x896_0_0_0) shapeCasts_S1x2048x896_S2048x896) : (⟨S2048x896, .bf16⟩ : BufTy).Contents (Elt Ideal))⟩, ⟨S2048x896, ((shapeCast _ (extractStridedSlice S1x2048x896 ![1, 0, 0] w slices_S4x2048x896_S1x2048x896_1_0_0) shapeCasts_S1x2048x896_S2048x896) : (⟨S2048x896, .bf16⟩ : BufTy).Contents (Elt Ideal))⟩, ⟨S2048x896, ((shapeCast _ (extractStridedSlice S1x2048x896 ![2, 0, 0] w slices_S4x2048x896_S1x2048x896_2_0_0) shapeCasts_S1x2048x896_S2048x896) : (⟨S2048x896, .bf16⟩ : BufTy).Contents (Elt Ideal))⟩, ⟨S2048x896, ((shapeCast _ (extractStridedSlice S1x2048x896 ![3, 0, 0] w slices_S4x2048x896_S1x2048x896_3_0_0) shapeCasts_S1x2048x896_S2048x896) : (⟨S2048x896, .bf16⟩ : BufTy).Contents (Elt Ideal))⟩] concatenates_S2048x896_S2048x896_S2048x896_S2048x896_S2048x3584_d1 : (⟨S2048x3584, .bf16⟩ : BufTy).Contents (Elt Ideal))) (ix2 k q) = w (ix3 (shard q) k (lane q)) := by
  pointwise [shard, lane]
  split_ifs <;> (congr 1; idx_ext)

/-- The reference's product at an index. -/
theorem prod_apply (x : FVec Ideal S4096x2048 .bf16) (w : FVec Ideal S2048x3584 .bf16) (r : Fin 4096) (q : Fin 3584) :
    truncf .bf16 (Host.dotGeneral dot_S4096x2048_S2048x3584_S4096x3584_1_0_0_1_n_n none (extf .f32 x bitsLt_bf16_f32) (extf .f32 w bitsLt_bf16_f32)) bitsLt_bf16_f32 (ix2 r q)
      = ∑ k : Fin 2048, x (ix2 r k) * w (ix2 k q) := by
  pointwise

end

/-- THE CLAIM: both programs run, and end with equal results. -/
theorem alg : Cert.algebraic_MixFwdIdeal_MixFwdRefIdeal := by
  intro m g m' g' hpre hagree
  refine ⟨fun c => G m c, ?_, ?_⟩
  · refine (θ_run _ _ _).mono (fun _ h c => ?_) (Cert.MixFwdIdeal.Value.run_blocks m g)
    exact ⟨(h c).1.trans (final m c), (h c).2⟩
  · refine (θ_run _ _ _).mono (fun _ h c => ?_) (Cert.MixFwdRefIdeal.Value.run m' g')
    obtain ⟨a0, a1, a2⟩ := hagree c
    refine ⟨(h c).1.trans ?_, (h c).2⟩
    rw [a0, a1]
    funext i
    obtain ⟨r, q, rfl⟩ : ∃ (r : Fin 4096) (q : Fin 3584), i = ix2 r q := ⟨i 0, i 1, eq_ix2 i⟩
    exact (prod_apply _ _ r q).trans (Finset.sum_congr rfl fun k _ => congrArg _ (whole_apply _ k q))

theorem frame_p : Cert.quiescent_MixFwd := fun m ρ _ => Cert.MixFwd.Gen.frame m ρ
theorem frame_pi : Cert.quiescent_MixFwdIdeal := fun m ρ _ => Cert.MixFwdIdeal.Gen.frame m ρ
theorem frame_ri : Cert.quiescent_MixFwdRefIdeal := fun m ρ _ =>
  (θ_run Cert.MixFwdRefIdeal.defs _ _).mono (fun r h => ⟨fun c => (h c).2,
      Idealize.ShloMosaic.sem_eq_zero_of_no_sems (by decide) r.2⟩)
    (Cert.MixFwdRefIdeal.Value.run (F := Ideal) m ρ)

end Cert.MixFwdProof

end
-- ==== Proof.MixRes.lean ====
/- The mixer's output projection with the residual sum and the normalisation after it: the kernel's two results are those of the plain product, sum and normalisation. -/
module

public import proofs.«01_k».proof.Proof.Gen.MixResIdeal.Value
public import proofs.«01_k».proof.Proof.Gen.MixResRefIdeal.Run
public import proofs.«01_k».proof.Proof.Gen.MixRes.Frame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.MixResProof

open Idealize.ShloMosaic Idealize.ShloMosaic.TcCoe Idealize.SL.Sem
open Idealize.ShloMosaic.Pipeline (Dat)

section
open Cert.MixResIdeal Cert.MixResIdeal.Gen

/-- The residual stream after the block, at an index: the product plus the stream before. -/
def res {R : Nat} (x : (⟨2, ![R, 2048]⟩ : Shape).Idx → EReal) (w : (⟨2, ![2048, 2048]⟩ : Shape).Idx → EReal)
    (a : (⟨2, ![R, 2048]⟩ : Shape).Idx → EReal) (r : Fin R) (c : Fin 2048) : EReal :=
  (∑ k : Fin 2048, x (ix2 r k) * w (ix2 k c)) + a (ix2 r c)

/-- A row divided by its root mean square, times the gain; the two numbers are 2048 and the small one added under the root. -/
def norm (x : Fin 2048 → EReal) (gain : EReal) (c : Fin 2048) : EReal :=
  x c * Ideal.rsqrt (Ideal.div (∑ k : Fin 2048, x k * x k) (Ideal.ofBits .f32 0x45000000#32) + Ideal.ofBits .f32 0x358637BD#32) * gain

/-- One tile of the residual stream. -/
theorem out4_apply (x0 : Vec Ideal S512x2048 .bf16) (x1 : Vec Ideal S2048x2048 .bf16) (x2 : Vec Ideal S512x2048 .f32) (x3 : Vec Ideal S1x2048 .f32) (y : S512x2048.Idx) :
    out0_4 x0 x1 x2 x3 y = res x0 x1 x2 (y 0) (y 1) := by
  unfold out0_4
  refine View.canon_apply_of_pieces (Val := Elt Ideal) (e := .f32) (fun y : S512x2048.Idx => res x0 x1 x2 (y 0) (y 1)) _ ?_ y (cover0_4 _ y)
  intro p hp
  simp only [List.mem_cons, List.not_mem_nil, or_false] at hp
  subst hp
  intro x
  dsimp only
  unfold_payloads
  pointwise [res]
  blk_point [r0_0, r0_1, r0_2]

/-- One tile of the normalised stream. -/
theorem out5_apply (x0 : Vec Ideal S512x2048 .bf16) (x1 : Vec Ideal S2048x2048 .bf16) (x2 : Vec Ideal S512x2048 .f32) (x3 : Vec Ideal S1x2048 .f32) (y : S512x2048.Idx) :
    out0_5 x0 x1 x2 x3 y = norm (res x0 x1 x2 (y 0)) (x3 (ix2 0 (y 1))) (y 1) := by
  unfold out0_5
  refine View.canon_apply_of_pieces (Val := Elt Ideal) (e := .bf16) (fun y : S512x2048.Idx => norm (res x0 x1 x2 (y 0)) (x3 (ix2 0 (y 1))) (y 1)) _ ?_ y (cover0_5 _ y)
  intro p hp
  simp only [List.mem_cons, List.not_mem_nil, or_false] at hp
  subst hp
  intro x
  dsimp only
  unfold_payloads
  pointwise [norm, res]
  blk_point [r0_0, r0_1, r0_2]

/-- Where each window's block lies at a grid point. -/
theorem idx (t : Fin grid0.N) : win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0]
    ∧ win0_4.index t = ![t.val, 0] ∧ win0_5.index t = ![t.val, 0]) t

variable (m : (ℓ : Loc nD τ sig) → Buf (Elt Ideal) ℓ)

/-- The residual stream as one function of the argument arrays. -/
def G4 (c : Dev nD) : S4096x2048.Idx → EReal := fun y =>
  res (m ((c.tc : Thread nD τ).loc main_arg0)) (m ((c.tc : Thread nD τ).loc main_arg1)) (m ((c.tc : Thread nD τ).loc main_arg2)) (y 0) (y 1)

/-- The normalised stream as one function of the argument arrays. -/
def G5 (c : Dev nD) : S4096x2048.Idx → EReal := fun y =>
  norm (res (m ((c.tc : Thread nD τ).loc main_arg0)) (m ((c.tc : Thread nD τ).loc main_arg1)) (m ((c.tc : Thread nD τ).loc main_arg2)) (y 0)) ((m ((c.tc : Thread nD τ).loc main_arg3)) (ix2 0 (y 1))) (y 1)

/-- The residual stream after the run. -/
theorem final4 (c : Dev nD) : (dats m 0 c).arrAt 4 cfg0.N = G4 m c := by
  refine (dats m 0 c).arrAt_eq_of_covers 4 _ (by decide +kernel) fun t hf y => ?_
  blk_simp
  rw [after0_4, out4_apply]
  obtain ⟨e0, e1, e2, e3, e4, e5⟩ := idx t
  unfold G4 res
  blk_point [iblk, V, e0, e1, e2, e3, e4]

/-- The normalised stream after the run. -/
theorem final5 (c : Dev nD) : (dats m 0 c).arrAt 5 cfg0.N = G5 m c := by
  refine (dats m 0 c).arrAt_eq_of_covers 5 _ (by decide +kernel) fun t hf y => ?_
  blk_simp
  rw [after0_5, out5_apply]
  obtain ⟨e0, e1, e2, e3, e4, e5⟩ := idx t
  unfold G5 norm res
  blk_point [iblk, V, e0, e1, e2, e3, e5]

end

section
open Cert.MixResRefIdeal Cert.MixResRefIdeal.Gen

/-- The reference's residual stream at an index. -/
theorem res_apply (x : FVec Ideal S4096x2048 .bf16) (w : FVec Ideal S2048x2048 .bf16) (a : FVec Ideal S4096x2048 .f32) (r : Fin 4096) (q : Fin 2048) :
    addf a (Host.dotGeneral dot_S4096x2048_S2048x2048_S4096x2048_1_0_0_1_n_n none (extf .f32 x bitsLt_bf16_f32) (extf .f32 w bitsLt_bf16_f32)) (ix2 r q)
      = res x w a r q := by
  pointwise [res]
  exact add_comm _ _

/-- The reference's normalisation at an index. -/
theorem norm_apply (X : FVec Ideal S4096x2048 .f32) (gain : FVec Ideal S1x2048 .f32) (r : Fin 4096) (q : Fin 2048) :
    truncf .bf16 (mulf (mulf X (broadcastInDim S4096x2048 ![0, 1] bcast_S4096x1_S4096x2048_0_1 (Host.rsqrt (addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ gain shapeCasts_S1x2048_S2048)))) bitsLt_bf16_f32 (ix2 r q)
      = norm (fun k => X (ix2 r k)) (gain (ix2 0 q)) q := by
  pointwise [norm]

end

/-- THE CLAIM: both programs run, and end with equal results. -/
theorem alg : Cert.algebraic_MixResIdeal_MixResRefIdeal := by
  intro m g m' g' hpre hagree
  refine ⟨fun c => G4 m c, fun c => G5 m c, ?_, ?_⟩
  · refine (θ_run _ _ _).mono (fun _ h c => ?_) (Cert.MixResIdeal.Value.run_blocks m g)
    exact ⟨(h c).1.trans (final4 m c), (h c).2.1.trans (final5 m c), (h c).2.2⟩
  · refine (θ_run _ _ _).mono (fun _ h c => ?_) (Cert.MixResRefIdeal.Value.run m' g')
    obtain ⟨a0, a1, a2, a3⟩ := hagree c
    refine ⟨(h c).1.trans ?_, (h c).2.1.trans ?_, (h c).2.2⟩
    · rw [a0, a1, a2]
      funext i
      obtain ⟨r, q, rfl⟩ : ∃ (r : Fin 4096) (q : Fin 2048), i = ix2 r q := ⟨i 0, i 1, eq_ix2 i⟩
      exact res_apply _ _ _ r q
    · rw [a0, a1, a2, a3]
      funext i
      obtain ⟨r, q, rfl⟩ : ∃ (r : Fin 4096) (q : Fin 2048), i = ix2 r q := ⟨i 0, i 1, eq_ix2 i⟩
      exact (norm_apply _ _ r q).trans (congrArg (norm · _ q) (funext fun k => res_apply _ _ _ r k))

theorem frame_p : Cert.quiescent_MixRes := fun m ρ _ => Cert.MixRes.Gen.frame m ρ
theorem frame_pi : Cert.quiescent_MixResIdeal := fun m ρ _ => Cert.MixResIdeal.Gen.frame m ρ
theorem frame_ri : Cert.quiescent_MixResRefIdeal := fun m ρ _ =>
  (θ_run Cert.MixResRefIdeal.defs _ _).mono (fun r h => ⟨fun c => (h c).2.2,
      Idealize.ShloMosaic.sem_eq_zero_of_no_sems (by decide) r.2⟩)
    (Cert.MixResRefIdeal.Value.run (F := Ideal) m ρ)

end Cert.MixResProof

end
-- ==== Proof.FfnOutRun.lean ====
/- The kernel's body, run once in each of its three cases: what it stores, as a function of what its buffers hold. -/
module

public import proofs.«01_k».proof.Proof.Gen.FfnOutIdeal.Skeleton
public import proofs.«01_k».proof.Proof.Gen.FfnOutIdeal.Frame
public import Idealize.ShloMosaic.Lib.VecWindow
public import Idealize.ShloMosaic.Lib.Exec

@[expose] public section

set_option maxRecDepth 16384

noncomputable section

namespace Cert.FfnOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.FfnOutIdeal.Gen

variable {F : FTy → Type} [FloatOps F]

/-- The left half of a tile of rows. -/
def lh (x : Vec F S512x2048 .f32) : Vec F S512x1024 .f32 := VecWindow.window (s := S512x2048) x ![0, 0] S512x1024.size inb_S512x2048_S512x1024_0_0
/-- The right half of a tile of rows. -/
def rh (x : Vec F S512x2048 .f32) : Vec F S512x1024 .f32 := VecWindow.window (s := S512x2048) x ![0, 1024] S512x1024.size inb_S512x2048_S512x1024_0_1024
/-- A tile of rows with its left half replaced. -/
def putl (x : Vec F S512x2048 .f32) (w : Vec F S512x1024 .f32) : Vec F S512x2048 .f32 := VecWindow.put (s := S512x2048) x ![0, 0] S512x1024.size w
/-- A tile of rows with its right half replaced. -/
def putr (x : Vec F S512x2048 .f32) (w : Vec F S512x1024 .f32) : Vec F S512x2048 .f32 := VecWindow.put (s := S512x2048) x ![0, 1024] S512x1024.size w

/-- The depth step is the first. -/
abbrev condA (i : grid0.Coords) : Prop := (Scalar.cmpi .ne (Scalar.extui (Scalar.cmpi .eq (BitVec.ofNat 32 (i 2).val) 0#32)) 0#32) = 1#1
/-- The depth step is not the first. -/
abbrev condB (i : grid0.Coords) : Prop := (Scalar.cmpi .ne (Scalar.extui (Scalar.cmpi .sgt (BitVec.ofNat 32 (i 2).val) 0#32)) 0#32) = 1#1

set_option maxHeartbeats 1600000 in
/-- The body at the first step along the depth: the scratch tile is the step's product. -/
theorem runA (c : Dev nD) (i : grid0.Coords) (arg3 : Memref sig .tc .vmem S512x2816 .bf16) (harg3 : arg3.IsWhole) (arg4 : Memref sig .tc .vmem S2816x1024 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x1024 .f32) (harg9 : arg9.IsWhole)
    (h0 : condA i) (h1 : ¬condB i) (h3 : ¬k0_cond3 i = 1#1)
    (x0 : Vec F S512x2816 .bf16) (x1 : Vec F S2816x1024 .bf16) (E : Set ℕ) (K : PUnit → sProp (MT nD τ sig Unit (Elt F) ℕ (UR sig nD τ) ℕ)) :
    iprop(owns (c : Thread nD τ) arg3 fullShare x0
        ∗ owns (c : Thread nD τ) arg4 fullShare x1
        ∗ (∃ d, owns (c : Thread nD τ) arg9 fullShare d)
        ∗ (iprop(owns (c : Thread nD τ) arg3 fullShare x0
        ∗ owns (c : Thread nD τ) arg4 fullShare x1
        ∗ owns (c : Thread nD τ) arg9 fullShare (k0_pay2 x0 x1)) -∗ K ⟨⟩))
      ⊢ wp frame (wpE (defs₀ (F := F)) Variants.none c none) E (cc0_mm_nn_rows_res i arg3 harg3 arg4 harg4 arg5 harg5 arg6 harg6 arg7 harg7 arg8 harg8 arg9 harg9) K := by
  simp only [cc0_mm_nn_rows_res_eq_skeleton]; unfold cc0_mm_nn_rows_res_skel
  unfold owns
  iintro ⟨⟨%f3, %hf3, H3⟩, ⟨%f4, %hf4, H4⟩, ⟨%d9, %f9, -, H9⟩, Hk⟩
  obtain rfl := harg3.eq_unread hf3; obtain rfl := harg4.eq_unread hf4
  sl_exec (disch := first | sl_exact h0 | sl_exact h1 | sl_exact h3)
  sl_step
  iapply Hk
  isplitl [H3]
  · iexists _; isplitr; · ipureintro; exact harg3.read_unread _
    iexact H3
  isplitl [H4]
  · iexists _; isplitr; · ipureintro; exact harg4.read_unread _
    iexact H4
  iexists _; isplitr
  swap; · iexact H9
  ipureintro
  rw [View.read_writes_full, View.readAt_full, View.readAt_full, harg3.read_unread, harg4.read_unread]

set_option maxHeartbeats 1600000 in
/-- The body at the last step along the depth of the left column tile: the tile's sum and the residual go to the left half of the rows. -/
theorem runB (c : Dev nD) (i : grid0.Coords) (arg3 : Memref sig .tc .vmem S512x2816 .bf16) (harg3 : arg3.IsWhole) (arg4 : Memref sig .tc .vmem S2816x1024 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x1024 .f32) (harg9 : arg9.IsWhole)
    (h0 : ¬condA i) (h1 : condB i) (h3 : k0_cond3 i = 1#1) (h4 : k0_cond4 i = 1#1) (h5 : ¬k0_cond5 i = 1#1) (h6 : ¬k0_cond6 i = 1#1)
    (x0 : Vec F S512x2816 .bf16) (x1 : Vec F S2816x1024 .bf16) (x2 : Vec F S512x2048 .f32) (d : Vec F S512x2048 .f32) (s : Vec F S512x1024 .f32) (E : Set ℕ) (K : PUnit → sProp (MT nD τ sig Unit (Elt F) ℕ (UR sig nD τ) ℕ)) :
    iprop(owns (c : Thread nD τ) arg3 fullShare x0
        ∗ owns (c : Thread nD τ) arg4 fullShare x1
        ∗ owns (c : Thread nD τ) arg5 fullShare x2
        ∗ owns (c : Thread nD τ) arg7 fullShare d
        ∗ owns (c : Thread nD τ) arg9 fullShare s
        ∗ (iprop(owns (c : Thread nD τ) arg3 fullShare x0
        ∗ owns (c : Thread nD τ) arg4 fullShare x1
        ∗ owns (c : Thread nD τ) arg5 fullShare x2
        ∗ owns (c : Thread nD τ) arg7 fullShare (putl d (k0_pay4 (k0_pay3 x0 x1 s) (lh x2)))
        ∗ owns (c : Thread nD τ) arg9 fullShare (k0_pay3 x0 x1 s)) -∗ K ⟨⟩))
      ⊢ wp frame (wpE (defs₀ (F := F)) Variants.none c none) E (cc0_mm_nn_rows_res i arg3 harg3 arg4 harg4 arg5 harg5 arg6 harg6 arg7 harg7 arg8 harg8 arg9 harg9) K := by
  simp only [cc0_mm_nn_rows_res_eq_skeleton]; unfold cc0_mm_nn_rows_res_skel
  unfold owns
  iintro ⟨⟨%f3, %hf3, H3⟩, ⟨%f4, %hf4, H4⟩, ⟨%f5, %hf5, H5⟩, ⟨%f7, %hf7, H7⟩, ⟨%f9, %hf9, H9⟩, Hk⟩
  obtain rfl := harg3.eq_unread hf3; obtain rfl := harg4.eq_unread hf4; obtain rfl := harg5.eq_unread hf5; obtain rfl := harg7.eq_unread hf7; obtain rfl := harg9.eq_unread hf9
  sl_exec (disch := first | sl_exact h0 | sl_exact h1 | sl_exact h3 | sl_exact h4 | sl_exact h5 | sl_exact h6)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H7]
  · iexists _; isplitr
    swap; · iexact H7
    ipureintro
    unfold runB.sl.v12 runB.sl.H9_1
    rw [View.read_writes_cons_put _ _ _ _ _ rfl, View.writes_nil, harg7.read_unread, View.readAt_unit arg5.view _ _ rfl inb_S512x2048_S512x1024_0_0, harg5.read_unread]
    rw [View.readCov_full]
    rw [View.readAt_full, View.readAt_full, View.readAt_full, harg3.read_unread, harg4.read_unread, harg9.read_unread]
    rfl
  iexists _; isplitr
  swap; · iexact H9
  ipureintro
  unfold runB.sl.H9_1
  rw [View.read_writes_full, View.readAt_full, View.readAt_full, View.readAt_full, harg3.read_unread, harg4.read_unread, harg9.read_unread]

set_option maxHeartbeats 1600000 in
/-- The body at the last step along the depth of the right column tile: the right half of the rows likewise, and the norm of the whole rows. -/
theorem runC (c : Dev nD) (i : grid0.Coords) (arg3 : Memref sig .tc .vmem S512x2816 .bf16) (harg3 : arg3.IsWhole) (arg4 : Memref sig .tc .vmem S2816x1024 .bf16) (harg4 : arg4.IsWhole) (arg5 : Memref sig .tc .vmem S512x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S512x2048 .bf16) (harg8 : arg8.IsWhole) (arg9 : Memref sig .tc .vmem S512x1024 .f32) (harg9 : arg9.IsWhole)
    (h0 : ¬condA i) (h1 : condB i) (h3 : k0_cond3 i = 1#1) (h4 : ¬k0_cond4 i = 1#1) (h5 : k0_cond5 i = 1#1) (h6 : k0_cond6 i = 1#1)
    (x0 : Vec F S512x2816 .bf16) (x1 : Vec F S2816x1024 .bf16) (x2 : Vec F S512x2048 .f32) (x3 : Vec F S1x2048 .f32) (d : Vec F S512x2048 .f32) (s : Vec F S512x1024 .f32) (E : Set ℕ) (K : PUnit → sProp (MT nD τ sig Unit (Elt F) ℕ (UR sig nD τ) ℕ)) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare d
        ∗ (∃ d, owns (c : Thread nD τ) arg8 fullShare d)
        ∗ owns (c : Thread nD τ) arg9 fullShare s
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare (putr d (k0_pay5 (k0_pay3 x0 x1 s) (rh x2)))
        ∗ owns (c : Thread nD τ) arg8 fullShare (k0_pay6 (putr d (k0_pay5 (k0_pay3 x0 x1 s) (rh x2))) x3)
        ∗ owns (c : Thread nD τ) arg9 fullShare (k0_pay3 x0 x1 s)) -∗ K ⟨⟩))
      ⊢ wp frame (wpE (defs₀ (F := F)) Variants.none c none) E (cc0_mm_nn_rows_res i arg3 harg3 arg4 harg4 arg5 harg5 arg6 harg6 arg7 harg7 arg8 harg8 arg9 harg9) K := by
  simp only [cc0_mm_nn_rows_res_eq_skeleton]; unfold cc0_mm_nn_rows_res_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9
  sl_exec (disch := first | sl_exact h0 | sl_exact h1 | sl_exact h3 | sl_exact h4 | sl_exact h5 | sl_exact h6)
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    unfold runC.sl.H7_1 runC.sl.v12 runC.sl.H9_1
    rw [View.read_writes_cons_put _ _ _ _ _ rfl, View.writes_nil, harg7.read_unread, View.readAt_unit arg5.view _ _ rfl inb_S512x2048_S512x1024_0_1024, harg5.read_unread]
    rw [View.readCov_full]
    rw [View.readAt_full, View.readAt_full, View.readAt_full, harg3.read_unread, harg4.read_unread, harg9.read_unread]
    rfl
  isplitl [H8]
  · iexists _; isplitr
    swap; · iexact H8
    ipureintro
    unfold runC.sl.v22 runC.sl.H7_1 runC.sl.v12 runC.sl.H9_1
    rw [View.read_writes_full, View.readAt_full arg6.view, harg6.read_unread, View.readAt_full arg7.view, View.read_writes_cons_put _ _ _ _ _ rfl, View.writes_nil, harg7.read_unread, View.readAt_unit arg5.view _ _ rfl inb_S512x2048_S512x1024_0_1024, harg5.read_unread]
    rw [View.readCov_full]
    rw [View.readAt_full, View.readAt_full, View.readAt_full, harg3.read_unread, harg4.read_unread, harg9.read_unread]
    rfl
  iexists _; isplitr
  swap; · iexact H9
  ipureintro
  unfold runC.sl.H9_1
  rw [View.read_writes_full, View.readAt_full, View.readAt_full, View.readAt_full, harg3.read_unread, harg4.read_unread, harg9.read_unread]

end Cert.FfnOutIdeal.Run

end
-- ==== Proof.FfnOutFrame.lean ====
/- The run of the whole grid. The scratch tile and the two result tiles are followed point by point; of the first result's tile, whose halves
   are stored at different points, only the halves stored so far are told. -/
module

public import proofs.«01_k».proof.Proof.FfnOutRun
public import Idealize.ShloMosaic.Lib.Pipeline.DatRel
public import Idealize.ShloMosaic.Lib.Pipeline.ArrRel
public import Idealize.ShloMosaic.Lib.Claim

@[expose] public section

set_option maxRecDepth 16384

noncomputable section

namespace Cert.FfnOutIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)
open Cert.FfnOutIdeal.Gen

variable {F : FTy → Type} [FloatOps F]

variable (m : (ℓ : Loc nD τ sig) → Buf (Elt F) ℓ) (ρ : Dev nD → PrngReg)

/-! ## Which case a point is -/

theorem condA_iff : ∀ t : Fin cfg0.N, condA (grid0.coords t) ↔ t.val % 2 = 0 :=
  (by decide +kernel : ∀ t : Fin grid0.N, condA (grid0.coords t) ↔ t.val % 2 = 0)
theorem condB_iff : ∀ t : Fin cfg0.N, condB (grid0.coords t) ↔ t.val % 2 = 1 :=
  (by decide +kernel : ∀ t : Fin grid0.N, condB (grid0.coords t) ↔ t.val % 2 = 1)
theorem cond3_iff : ∀ t : Fin cfg0.N, k0_cond3 (grid0.coords t) = 1#1 ↔ t.val % 2 = 1 :=
  (by decide +kernel : ∀ t : Fin grid0.N, k0_cond3 (grid0.coords t) = 1#1 ↔ t.val % 2 = 1)
theorem cond4_iff : ∀ t : Fin cfg0.N, k0_cond4 (grid0.coords t) = 1#1 ↔ t.val % 4 < 2 :=
  (by decide +kernel : ∀ t : Fin grid0.N, k0_cond4 (grid0.coords t) = 1#1 ↔ t.val % 4 < 2)
theorem cond5_iff : ∀ t : Fin cfg0.N, k0_cond5 (grid0.coords t) = 1#1 ↔ 2 ≤ t.val % 4 :=
  (by decide +kernel : ∀ t : Fin grid0.N, k0_cond5 (grid0.coords t) = 1#1 ↔ 2 ≤ t.val % 4)
theorem cond6_iff : ∀ t : Fin cfg0.N, k0_cond6 (grid0.coords t) = 1#1 ↔ 2 ≤ t.val % 4 :=
  (by decide +kernel : ∀ t : Fin grid0.N, k0_cond6 (grid0.coords t) = 1#1 ↔ 2 ≤ t.val % 4)

/-! ## What the buffers hold -/

/-- The point before. -/
def pr (t : Fin cfg0.N) : Fin cfg0.N := ⟨t.val - 1, Nat.lt_of_le_of_lt (Nat.sub_le _ _) t.isLt⟩

/-- The scratch tile after point `n`: the products of the depth steps so far. -/
def acc (c : Dev nD) : (n : ℕ) → n < cfg0.N → Vec F S512x1024 .f32
  | 0, h => k0_pay2 (iblk m c 0 ⟨0, h⟩) (iblk m c 1 ⟨0, h⟩)
  | n + 1, h => if (n + 1) % 2 = 0 then k0_pay2 (iblk m c 0 ⟨n + 1, h⟩) (iblk m c 1 ⟨n + 1, h⟩)
      else k0_pay3 (iblk m c 0 ⟨n + 1, h⟩) (iblk m c 1 ⟨n + 1, h⟩) (acc c n (Nat.lt_of_succ_lt h))

theorem acc_A (c : Dev nD) (t : Fin cfg0.N) (h : t.val % 2 = 0) : acc m c t.val t.isLt = k0_pay2 (iblk m c 0 t) (iblk m c 1 t) := by
  obtain ⟨n, hn⟩ := t
  cases n with
  | zero => rfl
  | succ n => exact if_pos h

theorem acc_B (c : Dev nD) (t : Fin cfg0.N) (h : t.val % 2 = 1) :
    acc m c t.val t.isLt = k0_pay3 (iblk m c 0 t) (iblk m c 1 t) (acc m c (pr t).val (pr t).isLt) := by
  obtain ⟨n, hn⟩ := t
  cases n with
  | zero => exact absurd h (by show ¬(0 % 2 = 1); decide)
  | succ n => exact if_neg (fun e : (n + 1) % 2 = 0 => by have h' : (n + 1) % 2 = 1 := h; omega)

/-- The left half of the rows' sum, stored at point `t`. -/
def lval (c : Dev nD) (t : Fin cfg0.N) : Vec F S512x1024 .f32 := k0_pay4 (acc m c t.val t.isLt) (lh (iblk m c 2 t))
/-- The right half of the rows' sum, stored at point `t`. -/
def rval (c : Dev nD) (t : Fin cfg0.N) : Vec F S512x1024 .f32 := k0_pay5 (acc m c t.val t.isLt) (rh (iblk m c 2 t))

/-- The rows' sum after the last point `t` of a row tile, the buffer having held `d` before. -/
def rows (c : Dev nD) (t : Fin cfg0.N) (d : Vec F S512x2048 .f32) : Vec F S512x2048 .f32 :=
  putr (putl d (lval m c (pr (pr t)))) (rval m c t)

/-- What is told of the first result's tile after point `t`. -/
def R4 (c : Dev nD) (t : Fin cfg0.N) (X : Vec F S512x2048 .f32) : Prop :=
  (t.val % 4 = 1 → ∃ d, X = putl d (lval m c t)) ∧ (t.val % 4 = 2 → ∃ d, X = putl d (lval m c (pr t)))
    ∧ (t.val % 4 = 3 → ∃ d, X = rows m c t d)
/-- What is told of the second result's tile after point `t`. -/
def R5 (c : Dev nD) (t : Fin cfg0.N) (X : Vec F S512x2048 .bf16) : Prop :=
  t.val % 4 = 3 → ∃ d, X = k0_pay6 (rows m c t d) (iblk m c 3 t)

/-- The windows of which only a predicate is told: the results'. -/
abbrev fgt : Fin cfg0.W → Bool := ![false, false, false, false, true, true]

/-- What is told of them. -/
def Rl (c : Dev nD) : (w : Fin cfg0.W) → (t : Fin cfg0.N) → ((cfg0.win w).block.Idx → Elt F (cfg0.win w).elt) → Prop
  | ⟨4, _⟩, t, X => R4 m c t X
  | ⟨5, _⟩, t, X => R5 m c t X
  | ⟨0, _⟩, _, _ => True
  | ⟨1, _⟩, _, _ => True
  | ⟨2, _⟩, _, _ => True
  | ⟨3, _⟩, _, _ => True

/-- The scratch operand. -/
abbrev scM0_0 : Memref sig .tc .vmem S512x1024 .f32 := Memref.whole cc0_scratch0

theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

/-- What is held between the points: the scratch tile, after the first point at its value. -/
def PhiS (c : Dev nD) : (n : ℕ) → n ≤ cfg0.N → sProp (MT nD τ sig Unit (Elt F) ℕ (UR sig nD τ) ℕ)
  | 0, _ => Pipeline.ΦA spec0 c
  | n + 1, hn => iprop(owns (c : Thread nD τ) scM0_0 fullShare (acc m c n hn) ∗ (∃ r, prngReg c r))

theorem PhiS_pos (c : Dev nD) (t : Fin cfg0.N) (h : t.val ≠ 0) :
    PhiS m c t.val (Nat.le_of_lt t.isLt) = iprop(owns (c : Thread nD τ) scM0_0 fullShare (acc m c (pr t).val (pr t).isLt) ∗ (∃ r, prngReg c r)) := by
  obtain ⟨n, hn⟩ := t
  cases n with
  | zero => exact absurd rfl h
  | succ n => rfl

theorem PhiS_any (c : Dev nD) (n : ℕ) (h : n ≤ cfg0.N) : PhiS m c n h ⊢ iprop((∃ d, owns (c : Thread nD τ) scM0_0 fullShare d) ∗ (∃ r, prngReg c r)) := by
  cases n with
  | zero => exact (show PhiS m c 0 h = _ from PhiA0_eq c) ▸ .rfl
  | succ n =>
    show iprop(owns (c : Thread nD τ) scM0_0 fullShare (acc m c n h) ∗ (∃ r, prngReg c r)) ⊢ _
    iintro ⟨H, Hg⟩
    isplitl [H]
    · iexists _; iexact H
    iexact Hg

/-- The proof data of the one pipeline: the inputs' buffers hold their blocks (the results' entries are placeholders). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rows m c t (iblk m c 2 t)
    | ⟨5, _⟩ => k0_pay6 (rows m c t (iblk m c 2 t)) (iblk m c 3 t)
  Φ t := PhiS m c t.val (Nat.le_of_lt_succ t.isLt)
  q _ := fullShare
  owed _ := 0

/-- The same, with the results' tiles held to what is told of them. -/
abbrev rdat (c : Dev nD) : RDat τ (Elt F) Unit ℕ (UR sig nD τ) ℕ cfg0 c := (dats m 0 c).toRRel fgt (Rl m c)

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Inside a row tile the first result's buffer is found as the point before left it. -/
theorem finds4 (c : Dev nD) (t : Fin cfg0.N) (h : ¬t.val % 4 = 0) (Y) (hY : (rdat m c).Finds 4 t Y) : R4 m c (pr t) Y := by
  have ht : t.val ≠ 0 := fun e => h (by rw [e])
  rcases ((rdat m c).finds_of_pos ((cfg0.win 4).fetch_out rfl t) ht Y).mp hY with hf | hl
  · have := (flush0_4 _).mp hf
    dsimp only at this
    omega
  · exact (dats m 0 c).toRRel_leaves (fgt := fgt) (Rl := Rl m c) rfl hl

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜(rdat m c).Finds 4 t Y⌝ ∗ owns (c : Thread nD τ) (st0_4 t) fullShare Y)
    ∗ (∃ Y, ⌜(rdat m c).Finds 5 t Y⌝ ∗ owns (c : Thread nD τ) (st0_5 t) fullShare Y))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜Rl m c 4 t X⌝ ∗ owns (c : Thread nD τ) (st0_4 t) fullShare X)
    ∗ (∃ X, ⌜Rl m c 5 t X⌝ ∗ owns (c : Thread nD τ) (st0_5 t) fullShare X))

set_option maxHeartbeats 1600000 in
/-- The body at a first step along the depth. -/
theorem sound_bodyA (c : Dev nD) (t : Fin cfg0.N) (h : t.val % 2 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = iprop(owns (c : Thread nD τ) scM0_0 fullShare (acc m c t.val t.isLt) ∗ (∃ r, prngReg c r)) from rfl,
    show (dats m 0 c).Φ t.castSucc = PhiS m c t.val (Nat.le_of_lt t.isLt) from rfl,
    show (dats m 0 c).owesAt () t.succ = (dats m 0 c).owesAt () t.castSucc from rfl,
    after0_0, after0_1, after0_2, after0_3]
  refine (sep_mono (PhiS_any m c _ _) .rfl).trans ?_
  rw [acc_A m c t h]
  iintro ⟨⟨HS, Hg⟩, Ho, ⟨%d0, H0⟩, ⟨%d1, H1⟩, ⟨%d2, H2⟩, ⟨%d3, H3⟩, ⟨%Y4, %h4, H4⟩, ⟨%Y5, %h5, H5⟩⟩
  iapply (runA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0_0 (Memref.isWhole_whole _) ((condA_iff t).mpr h) (fun e => by have := (condB_iff t).mp e; omega) (fun e => by have := (cond3_iff t).mp e; omega) (iblk m c 0 t) (iblk m c 1 t) Set.univ _)
  isplitl [H0]; · iexact H0
  isplitl [H1]; · iexact H1
  isplitl [HS]; · iexact HS
  iintro ⟨H0, H1, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]
  · iexists Y4; isplitr
    · ipureintro
      refine ⟨fun e => absurd e (by omega), fun e => ?_, fun e => absurd e (by omega)⟩
      exact (finds4 m c t (by omega) Y4 h4).1 (by show (t.val - 1) % 4 = 1; omega)
    · iexact H4
  iexists Y5; isplitr
  · ipureintro; exact fun e => absurd e (by omega)
  · iexact H5

set_option maxHeartbeats 1600000 in
/-- The body where it stores the left half. -/
theorem sound_bodyB (c : Dev nD) (t : Fin cfg0.N) (h : t.val % 4 = 1) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = iprop(owns (c : Thread nD τ) scM0_0 fullShare (acc m c t.val t.isLt) ∗ (∃ r, prngReg c r)) from rfl,
    show (dats m 0 c).Φ t.castSucc = PhiS m c t.val (Nat.le_of_lt t.isLt) from rfl,
    show (dats m 0 c).owesAt () t.succ = (dats m 0 c).owesAt () t.castSucc from rfl,
    after0_0, after0_1, after0_2, after0_3]
  rw [PhiS_pos m c t (by omega), acc_B m c t (by omega)]
  iintro ⟨⟨HS, Hg⟩, Ho, ⟨%d0, H0⟩, ⟨%d1, H1⟩, ⟨%d2, H2⟩, ⟨%d3, H3⟩, ⟨%Y4, %h4, H4⟩, ⟨%Y5, %h5, H5⟩⟩
  iapply (runB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0_0 (Memref.isWhole_whole _) (fun e => by have := (condA_iff t).mp e; omega) ((condB_iff t).mpr (by omega)) ((cond3_iff t).mpr (by omega)) ((cond4_iff t).mpr (by omega)) (fun e => by have := (cond5_iff t).mp e; omega) (fun e => by have := (cond6_iff t).mp e; omega) (iblk m c 0 t) (iblk m c 1 t) (iblk m c 2 t) Y4 (acc m c (pr t).val (pr t).isLt) Set.univ _)
  isplitl [H0]; · iexact H0
  isplitl [H1]; · iexact H1
  isplitl [H2]; · iexact H2
  isplitl [H4]; · iexact H4
  isplitl [HS]; · iexact HS
  iintro ⟨H0, H1, H2, H4, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]
  · iexists _; isplitr
    swap; · iexact H4
    ipureintro
    refine ⟨fun _ => ⟨Y4, ?_⟩, fun e => absurd e (by omega), fun e => absurd e (by omega)⟩
    unfold lval
    rw [acc_B m c t (by omega)]
  iexists Y5; isplitr
  · ipureintro; exact fun e => absurd e (by omega)
  · iexact H5

set_option maxHeartbeats 1600000 in
/-- The body where it stores the right half and the norm. -/
theorem sound_bodyC (c : Dev nD) (t : Fin cfg0.N) (h : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = iprop(owns (c : Thread nD τ) scM0_0 fullShare (acc m c t.val t.isLt) ∗ (∃ r, prngReg c r)) from rfl,
    show (dats m 0 c).Φ t.castSucc = PhiS m c t.val (Nat.le_of_lt t.isLt) from rfl,
    show (dats m 0 c).owesAt () t.succ = (dats m 0 c).owesAt () t.castSucc from rfl,
    after0_0, after0_1, after0_2, after0_3]
  rw [PhiS_pos m c t (by omega), acc_B m c t (by omega)]
  iintro ⟨⟨HS, Hg⟩, Ho, ⟨%d0, H0⟩, ⟨%d1, H1⟩, ⟨%d2, H2⟩, ⟨%d3, H3⟩, ⟨%Y4, %h4, H4⟩, ⟨%Y5, %h5, H5⟩⟩
  obtain ⟨d, rfl⟩ := (finds4 m c t (by omega) Y4 h4).2.1 (by show (t.val - 1) % 4 = 2; omega)
  have er : rows m c t d = putr (putl d (lval m c (pr (pr t)))) (k0_pay5 (k0_pay3 (iblk m c 0 t) (iblk m c 1 t) (acc m c (pr t).val (pr t).isLt)) (rh (iblk m c 2 t))) := by
    unfold rows rval
    rw [acc_B m c t (by omega)]
  iapply (runC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) scM0_0 (Memref.isWhole_whole _) (fun e => by have := (condA_iff t).mp e; omega) ((condB_iff t).mpr (by omega)) ((cond3_iff t).mpr (by omega)) (fun e => by have := (cond4_iff t).mp e; omega) ((cond5_iff t).mpr (by omega)) ((cond6_iff t).mpr (by omega)) (iblk m c 0 t) (iblk m c 1 t) (iblk m c 2 t) (iblk m c 3 t) (putl d (lval m c (pr (pr t)))) (acc m c (pr t).val (pr t).isLt) Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]
  · iexists _; isplitr
    swap; · iexact H4
    ipureintro
    exact ⟨fun e => absurd e (by omega), fun e => absurd e (by omega), fun _ => ⟨d, er.symm⟩⟩
  iexists _; isplitr
  swap; · iexact H5
  ipureintro
  exact fun _ => ⟨d, congrArg (fun x => k0_pay6 x (iblk m c 3 t)) er.symm⟩

theorem sound_body (c : Dev nD) (t : Fin cfg0.N) :
    bodyPre m c t ⊢ wp frame (wpE (defs₀ (F := F)) Variants.none c none) Set.univ (bodyAt0 t) (fun _ => bodyPost m c t) := by
  by_cases h0 : t.val % 2 = 0
  · exact sound_bodyA m c t h0
  · by_cases h1 : t.val % 4 = 1
    · exact sound_bodyB m c t h1
    · exact sound_bodyC m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ fgt (Rl m c) := fun t => by
  rw [bigSep_W0, bigSep_W0, defs₀_row]
  exact sound_body m c t

theorem hin (c : Dev nD) : Pipeline.ΦA spec0 c ⊢ (dats m 0 c).Φ 0 := .rfl

theorem hout (c : Dev nD) : (dats m 0 c).Φ (Fin.last cfg0.N) ⊢ Pipeline.ΦA spec0 c := by
  rw [PhiA0_eq]; exact PhiS_any m c cfg0.N le_rfl

set_option backward.isDefEq.respectTransparency.types false in
set_option maxHeartbeats 800000 in
/-- Every run of @main ends, with the pipeline's arrays as the proof data allow and every counter at zero. -/
theorem run_main_quiescent : θ_run defs (onTc (τ := τ) (main (F := F))) (s₀ m ρ) (fun r => RDat.FramePost cfg0 (rdat m) (V m) r ∧ r.2.sem = fun _ => 0) :=
  RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(RDat.FramePost.arr_in h.1 c 0 rfl).trans (A_eq m c 0), (RDat.FramePost.arr_in h.1 c 1 rfl).trans (A_eq m c 1),
    (RDat.FramePost.arr_in h.1 c 2 rfl).trans (A_eq m c 2), (RDat.FramePost.arr_in h.1 c 3 rfl).trans (A_eq m c 3)⟩, h.2⟩) (run_main_quiescent m ρ)

end Cert.FfnOutIdeal.Run

end
-- ==== Proof.FfnOut.lean ====
/- The feed-forward's down projection with the residual sum and the normalisation after it: the kernel's two results, stored half by half,
   are those of the plain product, sum and normalisation. -/
module

public import proofs.«01_k».proof.Proof.FfnOutFrame
public import proofs.«01_k».proof.Proof.Gen.FfnOutRefIdeal.Run
public import proofs.«01_k».proof.Proof.FfnOutPFrame
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.FfnOutProof

open Idealize.ShloMosaic Idealize.ShloMosaic.TcCoe Idealize.SL.Sem
open Idealize.ShloMosaic.Pipeline (Dat RDat)

section
open Cert.FfnOutIdeal Cert.FfnOutIdeal.Gen Cert.FfnOutIdeal.Run

/-- The residual stream after the block, at an index: the product plus the stream before. -/
def res {R : Nat} (x : (⟨2, ![R, 5632]⟩ : Shape).Idx → EReal) (w : (⟨2, ![5632, 2048]⟩ : Shape).Idx → EReal)
    (a : (⟨2, ![R, 2048]⟩ : Shape).Idx → EReal) (r : Fin R) (c : Fin 2048) : EReal :=
  (∑ k : Fin 5632, x (ix2 r k) * w (ix2 k c)) + a (ix2 r c)

/-- A row divided by its root mean square, times the gain; the two numbers are 2048 and the small one added under the root. -/
def norm (x : Fin 2048 → EReal) (gain : EReal) (c : Fin 2048) : EReal :=
  x c * Ideal.rsqrt (Ideal.div (∑ k : Fin 2048, x k * x k) (Ideal.ofBits .f32 0x45000000#32) + Ideal.ofBits .f32 0x358637BD#32) * gain

/-! ## The halves of a tile -/

theorem lh_apply (x : Vec Ideal S512x2048 .f32) (i : Fin 512) (j : Fin 1024) (q : Fin 2048) (h : q.val = j.val) : lh x (ix2 i j) = x (ix2 i q) :=
  congrArg x (funext fun a => Fin.ext (by
    match a with
    | ⟨0, _⟩ => show 0 + 1 * i.val = i.val; omega
    | ⟨1, _⟩ => show 0 + 1 * j.val = q.val; omega))

theorem rh_apply (x : Vec Ideal S512x2048 .f32) (i : Fin 512) (j : Fin 1024) (q : Fin 2048) (h : q.val = 1024 + j.val) : rh x (ix2 i j) = x (ix2 i q) :=
  congrArg x (funext fun a => Fin.ext (by
    match a with
    | ⟨0, _⟩ => show 0 + 1 * i.val = i.val; omega
    | ⟨1, _⟩ => show 1024 + 1 * j.val = q.val; omega))

/-- A left half just put, at an index of it. -/
theorem putl_apply (x : Vec Ideal S512x2048 .f32) (w : Vec Ideal S512x1024 .f32) (i : Fin 512) (j : Fin 1024) (q : Fin 2048) (h : q.val = j.val) :
    putl x w (ix2 i q) = w (ix2 i j) := by
  refine (dif_pos (fun a => ?_)).trans (congrArg w (funext fun a => Fin.ext ?_))
  · match a with
    | ⟨0, _⟩ => show 0 ≤ i.val ∧ i.val < 0 + 512; omega
    | ⟨1, _⟩ => show 0 ≤ q.val ∧ q.val < 0 + 1024; omega
  · match a with
    | ⟨0, _⟩ => show i.val - 0 = i.val; omega
    | ⟨1, _⟩ => show q.val - 0 = j.val; omega

/-- A right half just put, at an index of it, -/
theorem putr_apply (x : Vec Ideal S512x2048 .f32) (w : Vec Ideal S512x1024 .f32) (i : Fin 512) (j : Fin 1024) (q : Fin 2048) (h : q.val = 1024 + j.val) :
    putr x w (ix2 i q) = w (ix2 i j) := by
  refine (dif_pos (fun a => ?_)).trans (congrArg w (funext fun a => Fin.ext ?_))
  · match a with
    | ⟨0, _⟩ => show 0 ≤ i.val ∧ i.val < 0 + 512; omega
    | ⟨1, _⟩ => show 1024 ≤ q.val ∧ q.val < 1024 + 1024; omega
  · match a with
    | ⟨0, _⟩ => show i.val - 0 = i.val; omega
    | ⟨1, _⟩ => show q.val - 1024 = j.val; omega

/-- and at an index of the left half. -/
theorem putr_left (x : Vec Ideal S512x2048 .f32) (w : Vec Ideal S512x1024 .f32) (i : Fin 512) (q : Fin 2048) (h : q.val < 1024) :
    putr x w (ix2 i q) = x (ix2 i q) :=
  dif_neg (fun e => by
    have h1 : 1024 ≤ q.val := (e (1 : Fin 2)).1
    omega)

/-! ## What the body computes -/

/-- The product of one depth step, at an index. -/
theorem pay2_apply (x0 : Vec Ideal S512x2816 .bf16) (x1 : Vec Ideal S2816x1024 .bf16) (y : S512x1024.Idx) :
    k0_pay2 x0 x1 y = ∑ k : Fin 2816, x0 (ix2 (y 0) k) * x1 (ix2 k (y 1)) := by
  unfold_payloads
  pointwise

/-- The second depth step's product on top of the first's, at an index. -/
theorem pay3_apply (x0 : Vec Ideal S512x2816 .bf16) (x1 : Vec Ideal S2816x1024 .bf16) (a : Vec Ideal S512x1024 .f32) (y : S512x1024.Idx) :
    k0_pay3 x0 x1 a y = (a y + ∑ k : Fin 2816, x0 (ix2 (y 0) k) * x1 (ix2 k (y 1)) : EReal) := by
  unfold_payloads
  idx_vars y
  pointwise

/-- The norm of a tile of rows, at an index. -/
theorem pay6_apply (x : Vec Ideal S512x2048 .f32) (g : Vec Ideal S1x2048 .f32) (i : Fin 512) (q : Fin 2048) :
    k0_pay6 x g (ix2 i q) = norm (fun k => x (ix2 i k)) (g (ix2 0 q)) q := by
  unfold_payloads
  pointwise [norm]

/-- Where each window's block lies at a grid point. -/
theorem idx (t : Fin grid0.N) : win0_0.index t = ![t.val / 4, t.val % 2] ∧ win0_1.index t = ![t.val % 2, t.val / 2 % 2] ∧ win0_2.index t = ![t.val / 4, 0]
    ∧ win0_3.index t = ![0, 0] ∧ win0_4.index t = ![t.val / 4, 0] ∧ win0_5.index t = ![t.val / 4, 0] :=
  (by decide +kernel : ∀ t : Fin grid0.N, win0_0.index t = ![t.val / 4, t.val % 2] ∧ win0_1.index t = ![t.val % 2, t.val / 2 % 2] ∧ win0_2.index t = ![t.val / 4, 0]
    ∧ win0_3.index t = ![0, 0] ∧ win0_4.index t = ![t.val / 4, 0] ∧ win0_5.index t = ![t.val / 4, 0]) t

/-- Depth `k` of depth step `s` as a depth of the whole product. -/
def col (s : Fin 2) (k : Fin 2816) : Fin 5632 := ⟨s.val * 2816 + k.val, by omega⟩

/-- A sum over the whole depth, step by step. -/
theorem sum_cols (f : Fin 5632 → EReal) : ∑ q, f q = ∑ k : Fin 2816, f (col 0 k) + ∑ k : Fin 2816, f (col 1 k) := by
  rw [← Fin.sum_univ_two (fun s => ∑ k : Fin 2816, f (col s k)), ← Fintype.sum_prod_type']
  exact (Fintype.sum_equiv (finProdFinEquiv (m := 2) (n := 2816)) _ _
    (fun p => congrArg f (Fin.ext (by simp [col, finProdFinEquiv]; omega)))).symm

/-- One depth step's part of the product. -/
def dot (x : (⟨2, ![4096, 5632]⟩ : Shape).Idx → EReal) (w : (⟨2, ![5632, 2048]⟩ : Shape).Idx → EReal) (r : Fin 4096) (q : Fin 2048) (s : Fin 2) : EReal :=
  ∑ k : Fin 2816, x (ix2 r (col s k)) * w (ix2 (col s k) q)

/-- The product. -/
def prod (x : (⟨2, ![4096, 5632]⟩ : Shape).Idx → EReal) (w : (⟨2, ![5632, 2048]⟩ : Shape).Idx → EReal) (r : Fin 4096) (q : Fin 2048) : EReal :=
  ∑ k : Fin 5632, x (ix2 r k) * w (ix2 k q)

theorem prod_eq (x : (⟨2, ![4096, 5632]⟩ : Shape).Idx → EReal) (w : (⟨2, ![5632, 2048]⟩ : Shape).Idx → EReal) (r : Fin 4096) (q : Fin 2048) :
    prod x w r q = dot x w r q 0 + dot x w r q 1 := sum_cols _

variable (m : (ℓ : Loc nD τ sig) → Buf (Elt Ideal) ℓ)

/-- One depth step's product over the argument arrays. -/
theorem step_eq (c : Dev nD) (t : Fin cfg0.N) (s : Fin 2) (hs : t.val % 2 = s.val) (i : Fin 512) (j : Fin 1024) (r : Fin 4096) (q : Fin 2048)
    (hr : r.val = t.val / 4 * 512 + i.val) (hq : q.val = t.val / 2 % 2 * 1024 + j.val) :
    k0_pay2 (iblk m c 0 t) (iblk m c 1 t) (ix2 i j)
      = dot (m ((c.tc : Thread nD τ).loc main_arg0)) (m ((c.tc : Thread nD τ).loc main_arg1)) r q s := by
  rw [pay2_apply]
  obtain ⟨e0, e1, -⟩ := idx t
  rw [hs] at e0 e1
  unfold dot col
  blk_point [iblk, V, e0, e1, hr, hq]

/-- The scratch tile after the second depth step over the argument arrays. -/
theorem acc_eq (c : Dev nD) (t : Fin cfg0.N) (h : t.val % 2 = 1) (i : Fin 512) (j : Fin 1024) (r : Fin 4096) (q : Fin 2048)
    (hr : r.val = t.val / 4 * 512 + i.val) (hq : q.val = t.val / 2 % 2 * 1024 + j.val) :
    acc m c t.val t.isLt (ix2 i j) = prod (m ((c.tc : Thread nD τ).loc main_arg0)) (m ((c.tc : Thread nD τ).loc main_arg1)) r q := by
  have hp : (pr t).val = t.val - 1 := rfl
  rw [acc_B m c t h, acc_A m c (pr t) (by omega), pay3_apply]
  refine Eq.trans ?_ (prod_eq _ _ r q).symm
  refine congrArg₂ (fun a b : EReal => a + b) (step_eq m c (pr t) 0 (by show (pr t).val % 2 = 0; omega) i j r q (by omega) (by omega)) ?_
  exact (pay2_apply _ _ _).symm.trans (step_eq m c t 1 h i j r q hr hq)

/-- The rows' sum after the last point of a row tile over the argument arrays. -/
theorem rows_eq (c : Dev nD) (t : Fin cfg0.N) (h : t.val % 4 = 3) (d : Vec Ideal S512x2048 .f32) (i : Fin 512) (q : Fin 2048) (r : Fin 4096)
    (hr : r.val = t.val / 4 * 512 + i.val) :
    rows m c t d (ix2 i q) = res (m ((c.tc : Thread nD τ).loc main_arg0)) (m ((c.tc : Thread nD τ).loc main_arg1)) (m ((c.tc : Thread nD τ).loc main_arg2)) r q := by
  have hp : (pr (pr t)).val = t.val - 1 - 1 := rfl
  unfold rows
  by_cases hq : q.val < 1024
  · rw [putr_left _ _ _ _ hq, putl_apply _ _ i ⟨q.val, hq⟩ q rfl]
    unfold lval res
    refine congrArg₂ (fun a b : EReal => a + b) (acc_eq m c (pr (pr t)) (by omega) i ⟨q.val, hq⟩ r q (by omega) (by show q.val = (pr (pr t)).val / 2 % 2 * 1024 + q.val; omega)) ?_
    rw [lh_apply _ i ⟨q.val, hq⟩ q rfl]
    obtain ⟨-, -, e2, -⟩ := idx (pr (pr t))
    have e : (pr (pr t)).val / 4 = t.val / 4 := by omega
    rw [e] at e2
    blk_point [iblk, V, e2, hr]
  · have hj : q.val - 1024 < 1024 := by omega
    rw [putr_apply _ _ i ⟨q.val - 1024, hj⟩ q (by show q.val = 1024 + (q.val - 1024); omega)]
    unfold rval res
    refine congrArg₂ (fun a b : EReal => a + b) (acc_eq m c t (by omega) i ⟨q.val - 1024, hj⟩ r q hr (by show q.val = t.val / 2 % 2 * 1024 + (q.val - 1024); omega)) ?_
    rw [rh_apply _ i ⟨q.val - 1024, hj⟩ q (by show q.val = 1024 + (q.val - 1024); omega)]
    obtain ⟨-, -, e2, -⟩ := idx t
    blk_point [iblk, V, e2, hr]

/-- The residual stream as one function of the argument arrays. -/
def G4 (c : Dev nD) : S4096x2048.Idx → EReal := fun y => res (m ((c.tc : Thread nD τ).loc main_arg0)) (m ((c.tc : Thread nD τ).loc main_arg1)) (m ((c.tc : Thread nD τ).loc main_arg2)) (y 0) (y 1)

/-- The normalised stream as one function of the argument arrays. -/
def G5 (c : Dev nD) : S4096x2048.Idx → EReal := fun y => norm (res (m ((c.tc : Thread nD τ).loc main_arg0)) (m ((c.tc : Thread nD τ).loc main_arg1)) (m ((c.tc : Thread nD τ).loc main_arg2)) (y 0)) ((m ((c.tc : Thread nD τ).loc main_arg3)) (ix2 0 (y 1))) (y 1)

variable (c : Dev nD)

/-- The residual stream after the run. -/
theorem final4 (r) (h : RDat.FramePost cfg0 (rdat m) (V m) r) : r.2.mem ((c.tc : Thread nD τ).loc main_v0_0) = G4 m c := by
  obtain ⟨after, ha, he⟩ := RDat.FramePost.exists_exact h c
  refine (he 4).trans (((rdat m c).withAfter after).arrAt_eq_of_covers 4 _ (by decide +kernel) fun t hf y => ?_)
  have ht : t.val % 4 = 3 := (flush0_4 t).mp hf
  obtain ⟨d, hd⟩ := ((dats m 0 c).toRRel_leaves (fgt := fgt) (Rl := Rl m c) (w := 4) rfl (ha 4 t hf)).2.2 ht
  blk_simp
  obtain ⟨i, q, rfl⟩ : ∃ (i : Fin 512) (q : Fin 2048), y = ix2 i q := ⟨y 0, y 1, eq_ix2 y⟩
  have hb : t.val / 4 * 512 + i.val < 4096 := by
    have ht' : t.val < 32 := t.isLt
    omega
  refine (congrFun hd (ix2 i q)).trans ((rows_eq m c t ht d i q ⟨t.val / 4 * 512 + i.val, hb⟩ rfl).trans ?_)
  obtain ⟨-, -, -, -, e4, -⟩ := idx t
  unfold G4
  refine congrArg₂ (res _ _ _) (Fin.ext ?_) (Fin.ext ?_)
  · blk_point [e4]
  · blk_point [e4]

/-- The normalised stream after the run. -/
theorem final5 (r) (h : RDat.FramePost cfg0 (rdat m) (V m) r) : r.2.mem ((c.tc : Thread nD τ).loc main_v0_1) = G5 m c := by
  obtain ⟨after, ha, he⟩ := RDat.FramePost.exists_exact h c
  refine (he 5).trans (((rdat m c).withAfter after).arrAt_eq_of_covers 5 _ (by decide +kernel) fun t hf y => ?_)
  have ht : t.val % 4 = 3 := (flush0_5 t).mp hf
  obtain ⟨d, hd⟩ := (dats m 0 c).toRRel_leaves (fgt := fgt) (Rl := Rl m c) (w := 5) rfl (ha 5 t hf) ht
  blk_simp
  obtain ⟨i, q, rfl⟩ : ∃ (i : Fin 512) (q : Fin 2048), y = ix2 i q := ⟨y 0, y 1, eq_ix2 y⟩
  have hb : t.val / 4 * 512 + i.val < 4096 := by
    have ht' : t.val < 32 := t.isLt
    omega
  obtain ⟨-, -, -, e3, -, e5⟩ := idx t
  refine (congrFun hd (ix2 i q)).trans ((pay6_apply _ _ i q).trans ?_)
  have e0 : ((win0_5.blk t).view.emb (ix2 i q)) 0 = (⟨t.val / 4 * 512 + i.val, hb⟩ : Fin 4096) := Fin.ext (by blk_point [e5])
  have e1 : ((win0_5.blk t).view.emb (ix2 i q)) 1 = q := Fin.ext (by blk_point [e5])
  unfold G5
  rw [e0, e1]
  refine congrArg₂ (fun (x : Fin 2048 → EReal) (g : EReal) => norm x g q) (funext fun k => rows_eq m c t ht d i k ⟨t.val / 4 * 512 + i.val, hb⟩ rfl) ?_
  blk_point [iblk, V, e3]

end

section
open Cert.FfnOutRefIdeal Cert.FfnOutRefIdeal.Gen

/-- The reference's residual stream at an index. -/
theorem res_apply (x : FVec Ideal S4096x5632 .bf16) (w : FVec Ideal S5632x2048 .bf16) (a : FVec Ideal S4096x2048 .f32) (r : Fin 4096) (q : Fin 2048) :
    addf a (Host.dotGeneral dot_S4096x5632_S5632x2048_S4096x2048_1_0_0_1_n_n none (extf .f32 x bitsLt_bf16_f32) (extf .f32 w bitsLt_bf16_f32)) (ix2 r q)
      = res x w a r q := by
  pointwise [res]
  exact add_comm _ _

/-- The reference's normalisation at an index. -/
theorem norm_apply (X : FVec Ideal S4096x2048 .f32) (gain : FVec Ideal S1x2048 .f32) (r : Fin 4096) (q : Fin 2048) :
    truncf .bf16 (mulf (mulf X (broadcastInDim S4096x2048 ![0, 1] bcast_S4096x1_S4096x2048_0_1 (Host.rsqrt (addf (Host.divf (broadcastInDim S4096x1 ![0] bcast_S4096_S4096x1_0 (Host.reduceAdd (mulf X X) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32)))))) (broadcastInDim S4096x2048 ![0, 1] bcast_S1x2048_S4096x2048_0_1 (broadcastInDim S1x2048 ![1] bcast_S2048_S1x2048_1 (shapeCast _ gain shapeCasts_S1x2048_S2048)))) bitsLt_bf16_f32 (ix2 r q)
      = norm (fun k => X (ix2 r k)) (gain (ix2 0 q)) q := by
  pointwise [norm]

end

open Cert.FfnOutIdeal.Run in
/-- THE CLAIM: both programs run, and end with equal results. -/
theorem alg : Cert.algebraic_FfnOutIdeal_FfnOutRefIdeal := by
  intro m g m' g' hpre hagree
  refine ⟨fun c => G4 m c, fun c => G5 m c, ?_, ?_⟩
  · refine (θ_run _ _ _).mono (fun r h c => ?_) (run_main_quiescent m g)
    exact ⟨final4 m c r h.1, final5 m c r h.1, (RDat.FramePost.arr_in h.1 c 0 rfl).trans (A_eq m c 0), (RDat.FramePost.arr_in h.1 c 1 rfl).trans (A_eq m c 1),
      (RDat.FramePost.arr_in h.1 c 2 rfl).trans (A_eq m c 2), (RDat.FramePost.arr_in h.1 c 3 rfl).trans (A_eq m c 3)⟩
  · refine (θ_run _ _ _).mono (fun _ h c => ?_) (Cert.FfnOutRefIdeal.Value.run m' g')
    obtain ⟨a0, a1, a2, a3⟩ := hagree c
    refine ⟨(h c).1.trans ?_, (h c).2.1.trans ?_, (h c).2.2⟩
    · rw [a0, a1, a2]
      funext i
      obtain ⟨r, q, rfl⟩ : ∃ (r : Fin 4096) (q : Fin 2048), i = ix2 r q := ⟨i 0, i 1, eq_ix2 i⟩
      exact res_apply _ _ _ r q
    · rw [a0, a1, a2, a3]
      funext i
      obtain ⟨r, q, rfl⟩ : ∃ (r : Fin 4096) (q : Fin 2048), i = ix2 r q := ⟨i 0, i 1, eq_ix2 i⟩
      exact (norm_apply _ _ r q).trans (congrArg (norm · _ q) (funext fun k => res_apply _ _ _ r k))

theorem frame_p : Cert.quiescent_FfnOut := fun m ρ _ => Cert.FfnOut.Run.frame m ρ
theorem frame_pi : Cert.quiescent_FfnOutIdeal := fun m ρ _ => Cert.FfnOutIdeal.Run.frame m ρ
theorem frame_ri : Cert.quiescent_FfnOutRefIdeal := fun m ρ _ =>
  (θ_run Cert.FfnOutRefIdeal.defs _ _).mono (fun r h => ⟨fun c => (h c).2.2,
      Idealize.ShloMosaic.sem_eq_zero_of_no_sems (by decide) r.2⟩)
    (Cert.FfnOutRefIdeal.Value.run (F := Ideal) m ρ)

end Cert.FfnOutProof

end
-- ==== Proof.RmsBwd.lean ====
/- The normalisation's backward kernel computes the two gradients jax takes of the plain normalisation, the residual's gradient added to the first. -/
module

public import proofs.«01_k».proof.Proof.Reals
public import proofs.«01_k».proof.Proof.Gen.RmsBwdIdeal.Value
public import proofs.«01_k».proof.Proof.Gen.RmsBwdRefIdeal.Run
public import proofs.«01_k».proof.Proof.Gen.RmsBwd.Frame
public import proofs.«01_k».proof.Proof.Gen.Pre_finite14
public import proofs.«01_k».proof.Defs
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.RmsBwdProof

open Idealize.ShloMosaic Idealize.ShloMosaic.TcCoe Idealize.SL.Sem Cert.Reals
open Idealize.ShloMosaic.Pipeline (Dat)

/-- The mean square of a row plus the small number; the two numbers are 2048 and the small one. -/
def ms (x : Fin 2048 → EReal) : EReal :=
  Ideal.div (∑ k : Fin 2048, x k * x k) (Ideal.ofBits .f32 0x45000000#32) + Ideal.ofBits .f32 0x358637BD#32

/-- The gradient of a row as the kernel takes it: `d` is the gradient of the row divided by its root mean square. -/
def dx (x d : Fin 2048 → EReal) (c : Fin 2048) : EReal :=
  Ideal.rsqrt (ms x) * (d c - x c * Ideal.rsqrt (ms x)
    * Ideal.div (∑ k : Fin 2048, d k * (x k * Ideal.rsqrt (ms x))) (Ideal.ofBits .f32 0x45000000#32))

/-- What one row adds to the gradient of the gain. -/
def dg (h : EReal) (x : Fin 2048 → EReal) (c : Fin 2048) : EReal := h * (x c * Ideal.rsqrt (ms x))

section
open Cert.RmsBwdIdeal Cert.RmsBwdIdeal.Gen

/-- A row of a tile. -/
def row {R : Nat} (x : (⟨2, ![R, 2048]⟩ : Shape).Idx → EReal) (r : Fin R) : Fin 2048 → EReal := fun k => x (ix2 r k)

/-- The gradient of a normalised row: the result's gradient times the gain. -/
def dn {R : Nat} (h : (⟨2, ![R, 2048]⟩ : Shape).Idx → EReal) (g : (⟨2, ![1, 2048]⟩ : Shape).Idx → EReal) (r : Fin R) : Fin 2048 → EReal :=
  fun k => h (ix2 r k) * g (ix2 0 k)

/-- What one tile stores of the input's gradient, at an index. -/
theorem pay6_apply (x0 : Vec Ideal S512x2048 .f32) (x1 : Vec Ideal S1x2048 .f32) (x2 x3 : Vec Ideal S512x2048 .bf16) (y : S512x2048.Idx) :
    k0_pay6 x0 x1 x2 x3 y = dx (row x0 (y 0)) (dn x2 x1 (y 0)) (y 1) + x3 y := by
  unfold_payloads
  idx_vars y
  pointwise [dx, dn, row, ms]

/-- What one tile adds to the gain's gradient, at an index. -/
theorem pay5_apply (x0 : Vec Ideal S512x2048 .f32) (x2 : Vec Ideal S512x2048 .bf16) (y : S1x2048.Idx) :
    k0_pay5 x0 x2 y = ∑ r : Fin 512, dg (x2 (ix2 r (y 1))) (row x0 r) (y 1) := by
  unfold_payloads
  idx_vars y
  pointwise [dg, row, ms]

/-- What the points after the first store of the gain's gradient, at an index. -/
theorem pay1_apply (v a : Vec Ideal S1x2048 .f32) (y : S1x2048.Idx) : k0_pay1 v a y = a y + v y := by
  unfold_payloads
  idx_vars y
  pointwise

variable (m : (ℓ : Loc nD τ sig) → Buf (Elt Ideal) ℓ)

/-- What grid point `t` adds to the gain's gradient. -/
def term (c : Dev nD) (t : Fin cfg0.N) (y : S1x2048.Idx) : EReal := k0_pay5 (iblk m c 0 t) (iblk m c 2 t) y

/-- The gain's gradient at the first point. -/
theorem first (c : Dev nD) (t : Fin cfg0.N) (h : t.val % 8 = 0) (y : S1x2048.Idx) :
    (outsAt0 m c t.val t.isLt).2 y = 0 + term m c t y := by
  have hN : t.val < 8 := lt_of_lt_of_eq t.isLt N_0
  rw [outsAt0_A m c t h (by omega)]
  frame_out
  rw [zero_add]
  rfl

/-- The gain's gradient at the other points. -/
theorem step (c : Dev nD) (t : Fin cfg0.N) (h : ¬t.val % 8 = 0) (y : S1x2048.Idx) :
    (outsAt0 m c t.val t.isLt).2 y = (outsAt0 m c (t.val - 1) (Nat.lt_of_le_of_lt (Nat.sub_le _ _) t.isLt)).2 y + term m c t y := by
  rw [outsAt0_B m c t h (by omega)]
  frame_out
  exact pay1_apply _ _ y

/-- The tile of the input's gradient at any point. -/
theorem tile (c : Dev nD) (t : Fin cfg0.N) (y : S512x2048.Idx) :
    (outsAt0 m c t.val t.isLt).1 y = k0_pay6 (iblk m c 0 t) (iblk m c 1 t) (iblk m c 2 t) (iblk m c 3 t) y := by
  have hN : t.val < 8 := lt_of_lt_of_eq t.isLt N_0
  by_cases h : t.val % 8 = 0
  · rw [outsAt0_A m c t h (by omega)]
    frame_out
  · rw [outsAt0_B m c t h (by omega)]
    frame_out

/-- Where each window's block lies at a grid point. -/
theorem idx (t : Fin grid0.N) : win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![0, 0]) t

/-- Row `k` of tile `s` as a row of the whole array. -/
def at_ (s : Fin 8) (k : Fin 512) : Fin 4096 := ⟨s.val * 512 + k.val, by omega⟩

/-- A sum over the whole array's rows, tile by tile. -/
theorem sum_rows (f : Fin 4096 → EReal) : ∑ q, f q = ∑ s : Fin 8, ∑ k : Fin 512, f (at_ s k) := by
  rw [← Fintype.sum_prod_type']
  exact (Fintype.sum_equiv (finProdFinEquiv (m := 8) (n := 512)) _ _
    (fun p => congrArg f (Fin.ext (by simp [at_, finProdFinEquiv]; omega)))).symm

/-- The input's gradient as one function of the argument arrays. -/
def G4 (c : Dev nD) : S4096x2048.Idx → EReal := fun y =>
  dx (row (m ((c.tc : Thread nD τ).loc main_arg0)) (y 0)) (dn (m ((c.tc : Thread nD τ).loc main_arg2)) (m ((c.tc : Thread nD τ).loc main_arg1)) (y 0)) (y 1)
    + m ((c.tc : Thread nD τ).loc main_arg3) y

/-- What one tile of rows gives of the gain's gradient. -/
def rows (x h : (⟨2, ![4096, 2048]⟩ : Shape).Idx → EReal) (c : Fin 2048) (s : Fin 8) : EReal :=
  ∑ k : Fin 512, dg (h (ix2 (at_ s k) c)) (row x (at_ s k)) c

/-- The gain's gradient as one function of the argument arrays. -/
def G5 (c : Dev nD) : S1x2048.Idx → EReal := fun y =>
  ∑ s : Fin 8, rows (m ((c.tc : Thread nD τ).loc main_arg0)) (m ((c.tc : Thread nD τ).loc main_arg2)) (y 1) s

/-- A row of a tile of the input is a row of the whole input. -/
theorem row_eq (c : Dev nD) (t : Fin cfg0.N) (a : Fin 512) (r : Fin 4096) (hr : r.val = t.val * 512 + a.val) :
    row (iblk m c 0 t) a = row (m ((c.tc : Thread nD τ).loc main_arg0)) r := by
  obtain ⟨e0, -⟩ := idx t
  funext k
  unfold row
  blk_point [iblk, V, e0, hr]

/-- An element of a tile of the result's gradient is one of the whole gradient. -/
theorem grad_eq (c : Dev nD) (t : Fin cfg0.N) (a : Fin 512) (k : Fin 2048) (r : Fin 4096) (hr : r.val = t.val * 512 + a.val) :
    iblk m c 2 t (ix2 a k) = m ((c.tc : Thread nD τ).loc main_arg2) (ix2 r k) := by
  obtain ⟨-, -, e2, -⟩ := idx t
  blk_point [iblk, V, e2, hr]

/-- A row of a tile's gradient of the normalised rows is one of the whole gradient. -/
theorem dn_eq (c : Dev nD) (t : Fin cfg0.N) (a : Fin 512) (r : Fin 4096) (hr : r.val = t.val * 512 + a.val) :
    dn (iblk m c 2 t) (iblk m c 1 t) a = dn (m ((c.tc : Thread nD τ).loc main_arg2)) (m ((c.tc : Thread nD τ).loc main_arg1)) r := by
  obtain ⟨-, e1, -⟩ := idx t
  funext k
  refine congrArg₂ (fun u v : EReal => u * v) (grad_eq m c t a k r hr) ?_
  blk_point [iblk, V, e1]

/-- The input's gradient after the run. -/
theorem final4 (c : Dev nD) : (dats m 0 c).arrAt 4 cfg0.N = G4 m c := by
  refine (dats m 0 c).arrAt_eq_of_covers 4 _ (by decide +kernel) fun t hf y => ?_
  blk_simp
  rw [after0_4, tile, pay6_apply]
  obtain ⟨e0, e1, e2, e3, e4, e5⟩ := idx t
  have h0 : ((((cfg0.win 4).blk t).view.emb y) 0).val = t.val * 512 + (y 0).val := by
    blk_point [e4]
  have h1 : (y 1 : Fin 2048) = (((cfg0.win 4).blk t).view.emb y) 1 := by
    apply Fin.ext
    blk_point [e4]
  unfold G4
  refine congrArg₂ (fun u v : EReal => u + v) ?_ ?_
  · rw [row_eq m c t (y 0) _ h0, dn_eq m c t (y 0) _ h0]
    exact congrArg (dx _ _) h1
  · blk_point [iblk, V, e3, e4]

/-- One point's term over the argument arrays. -/
theorem term_at (c : Dev nD) (t : Fin cfg0.N) (s : Fin 8) (h : t.val = s.val) (y : S1x2048.Idx) (q : Fin 2048) (hq : (y 1 : Fin 2048) = q) :
    term m c t y = rows (m ((c.tc : Thread nD τ).loc main_arg0)) (m ((c.tc : Thread nD τ).loc main_arg2)) q s := by
  unfold term
  rw [pay5_apply, hq]
  unfold rows
  refine Finset.sum_congr rfl fun k _ => ?_
  have hr : (at_ s k).val = t.val * 512 + k.val := by rw [h]; rfl
  rw [row_eq m c t k _ hr, grad_eq m c t k q _ hr]

/-- The gain's gradient after the run. -/
theorem final5 (c : Dev nD) : (dats m 0 c).arrAt 5 cfg0.N = G5 m c := by
  refine (dats m 0 c).arrAt_eq_of_covers 5 _ (by decide +kernel) fun t hf y => ?_
  have ht : t.val % 8 = 7 := (flush0_5 t).mp hf
  blk_simp
  rw [after0_5,
    Pipeline.eq_sum_fin_of_reset_step_apply_of_flush (fun n h => (outsAt0 m c n h).2) 8 (fun _ => (0 : EReal)) (term m c)
      (first m c) (step m c) t ht]
  obtain ⟨-, -, -, -, -, e5⟩ := idx t
  refine (zero_add (M := EReal) _).trans ?_
  unfold G5
  have hN : t.val < 8 := lt_of_lt_of_eq t.isLt N_0
  refine Fin.sum_fin_congr fun s => term_at m c _ s (show 8 * (t.val / 8) + s.val = s.val by omega) _ _ ?_
  apply Fin.ext
  blk_point [e5]

end

/-- The count of a row's elements, read from its bits. -/
theorem n_eq : Ideal.ofBits .f32 0x45000000#32 = ((2048 : ℝ) : EReal) := by
  simp [Ideal.ofBits, Ideal.ieee, -EReal.coe_mul]; norm_num

/-- The small number is a positive real. -/
theorem eps_eq : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

/-- Minus one half, read from its bits. -/
theorem half_eq : Ideal.ofBits .f32 0xBF000000#32 = ((-(1 / 2) : ℝ) : EReal) := by
  simp [Ideal.ofBits, Ideal.ieee, -EReal.coe_mul]; norm_num

/-- The factor jax's derivative of the mean square has, for a row `x` with gradient `d`. -/
def kk (x d : Fin 2048 → EReal) : EReal :=
  Ideal.div ((∑ k : Fin 2048, x k * d k) * (Ideal.ofBits .f32 0xBF000000#32 * Ideal.div (Ideal.rsqrt (ms x)) (ms x))) (Ideal.ofBits .f32 0x45000000#32)

/-- For real operands the kernel's gradient of a row is the one jax takes. -/
theorem dx_eq (x d : Fin 2048 → EReal) (hx : ∀ k, IsR (x k)) (hd : ∀ k, IsR (d k)) (c : Fin 2048) :
    dx x d c = d c * Ideal.rsqrt (ms x) + x c * kk x d + kk x d * x c := by
  choose x' hx' using hx
  choose d' hd' using hd
  obtain rfl : x = fun k => (x' k : EReal) := funext hx'
  obtain rfl : d = fun k => (d' k : EReal) := funext hd'
  obtain ⟨e, he, hE⟩ := eps_eq
  have hms : ms (fun k => (x' k : EReal)) = (((∑ k, x' k * x' k) / 2048 + e : ℝ) : EReal) := by
    unfold ms
    rw [n_eq, hE, EReal.coe_add, ← div_coe_coe _ (by norm_num), coe_sum]
    simp only [EReal.coe_mul]
  have hpos : 0 < (∑ k, x' k * x' k) / 2048 + e :=
    add_pos_of_nonneg_of_pos (div_nonneg (Finset.sum_nonneg fun k _ => mul_self_nonneg _) (by norm_num)) he
  unfold dx kk
  rw [hms]
  beta_reduce
  generalize (∑ k, x' k * x' k) / 2048 + e = s at hpos
  have hr : Ideal.rsqrt (s : EReal) = (((Real.sqrt s)⁻¹ : ℝ) : EReal) := by
    rw [Ideal.rsqrt_coe, if_neg (not_lt.mpr hpos.le), if_neg hpos.ne']
  have hq : (Real.sqrt s)⁻¹ / s = (Real.sqrt s)⁻¹ * ((Real.sqrt s)⁻¹ * (Real.sqrt s)⁻¹) := by
    rw [← mul_inv, Real.mul_self_sqrt hpos.le, div_eq_mul_inv]
  rw [hr, div_coe_coe _ hpos.ne', hq, n_eq, half_eq]
  generalize (Real.sqrt s)⁻¹ = r
  have h1 : (∑ k : Fin 2048, (d' k : EReal) * ((x' k : EReal) * (r : EReal))) = ((r * ∑ k, x' k * d' k : ℝ) : EReal) := by
    rw [Finset.mul_sum, coe_sum]
    exact Finset.sum_congr rfl fun k _ => by rw [← EReal.coe_mul, ← EReal.coe_mul]; congr 1; ring
  have h2 : (∑ k : Fin 2048, (x' k : EReal) * (d' k : EReal)) = ((∑ k, x' k * d' k : ℝ) : EReal) := by
    rw [coe_sum]
    simp only [EReal.coe_mul]
  rw [h1, h2]
  generalize (∑ k, x' k * d' k) = w
  simp only [← EReal.coe_mul, ← EReal.coe_sub, ← EReal.coe_add, div_coe_coe _ (show (2048 : ℝ) ≠ 0 by norm_num)]
  refine congrArg (fun t : ℝ => (t : EReal)) ?_
  ring

section
open Cert.RmsBwdRefIdeal Cert.RmsBwdRefIdeal.Gen

/-- The reference's mean square of each row plus the small number. -/
abbrev refMs (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The reference's gradient of the normalised rows. -/
abbrev refDn (g : FVec Ideal S1x2048 .f32) (h : FVec Ideal S4096x2048 .bf16) : FVec Ideal S4096x2048 .f32 :=
  mulf (extf .f32 h bitsLt_bf16_f32) (broadcastInDim S4096x2048 ![0, 1] bcast_S1x2048_S4096x2048_0_1 (broadcastInDim S1x2048 ![1] bcast_S2048_S1x2048_1 (shapeCast _ g shapeCasts_S1x2048_S2048)))

/-- The reference's factor from the mean square, for each row. -/
abbrev refK (x d : FVec Ideal S4096x2048 .f32) : FVec Ideal S4096x2048 .f32 :=
  broadcastInDim S4096x2048 ![0] bcast_S4096_S4096x2048_0 (Host.reduceAdd (Host.divf (mulf (shapeCast S4096x1 (Host.reduceAdd (mulf x d) (constant S_ .f32 0x00000000#32) reducesTo_S4096x2048_S4096_d1 h_S_) shapeCasts_S4096_S4096x1) (mulf (broadcastInDim S4096x1 ![] bcast_S_S4096x1 (constant S_ .f32 0xBF000000#32)) (Host.divf (Host.rsqrt (refMs x)) (refMs x)))) (broadcastInDim S4096x1 ![] bcast_S_S4096x1 (constant S_ .f32 0x45000000#32))) (constant S_ .f32 0x00000000#32) reducesTo_S4096x1_S4096_d1 h_S_)

/-- The reference's gradient of the input, as its operations compose. -/
abbrev refDx (x d : FVec Ideal S4096x2048 .f32) (e : FVec Ideal S4096x2048 .bf16) : FVec Ideal S4096x2048 .f32 :=
  addf (addf (addf (mulf d (broadcastInDim S4096x2048 ![0, 1] bcast_S4096x1_S4096x2048_0_1 (Host.rsqrt (refMs x)))) (mulf x (refK x d))) (mulf (refK x d) x)) (extf .f32 e bitsLt_bf16_f32)

/-- The reference's gradient of the gain, as its operations compose. -/
abbrev refDg (x : FVec Ideal S4096x2048 .f32) (h : FVec Ideal S4096x2048 .bf16) : FVec Ideal S1x2048 .f32 :=
  broadcastInDim S1x2048 ![1] bcast_S2048_S1x2048_1 (Host.reduceAdd (shapeCast S1x2048 (Host.reduceAdd (mulf (mulf x (broadcastInDim S4096x2048 ![0, 1] bcast_S4096x1_S4096x2048_0_1 (Host.rsqrt (refMs x)))) (extf .f32 h bitsLt_bf16_f32)) (constant S_ .f32 0x00000000#32) reducesTo_S4096x2048_S2048_d0 h_S_) shapeCasts_S2048_S1x2048) (constant S_ .f32 0x00000000#32) reducesTo_S1x2048_S2048_d0 h_S_)

/-- The reference's gradient of the input at an index. -/
theorem refDx_apply (x : FVec Ideal S4096x2048 .f32) (g : FVec Ideal S1x2048 .f32) (h e : FVec Ideal S4096x2048 .bf16)
    (rx : ∀ i, IsR (x i)) (rg : ∀ i, IsR (g i)) (rh : ∀ i, IsR (h i)) (r : Fin 4096) (q : Fin 2048) :
    refDx x (refDn g h) e (ix2 r q) = dx (row x r) (dn h g r) q + e (ix2 r q) := by
  rw [dx_eq (row x r) (dn h g r) (fun k => rx _) (fun k => (rh _).mul (rg _))]
  pointwise [kk, ms, row, dn]
  simp only [Fin.sum_univ_one]

/-- The reference's gradient of the gain at an index. -/
theorem refDg_apply (x : FVec Ideal S4096x2048 .f32) (h : FVec Ideal S4096x2048 .bf16) (z : Fin 1) (q : Fin 2048) :
    refDg x h (ix2 z q) = ∑ s : Fin 8, rows x h q s := by
  have hs : refDg x h (ix2 z q) = ∑ r : Fin 4096, x (ix2 r q) * Ideal.rsqrt (ms (row x r)) * h (ix2 r q) := by
    pointwise [ms, row]
    simp only [Fin.sum_univ_one]
  rw [hs]
  exact (sum_rows _).trans (Finset.sum_congr rfl fun s _ => Finset.sum_congr rfl fun k _ => mul_comm _ _)

end

/-- The precondition, read: every element of the first three operands is a real number. -/
theorem pre (x : FVec Ideal Cert.Pre_finite14.S4096x2048 .f32) (g : FVec Ideal Cert.Pre_finite14.S1x2048 .f32)
    (h e : FVec Ideal Cert.Pre_finite14.S4096x2048 .bf16) (H : Cert.Pre_finite14.fn (F := Ideal) x g h e = fun _ => 1#1) :
    (∀ i, IsR (x i)) ∧ (∀ i, IsR (g i)) ∧ (∀ i, IsR (h i)) := by
  have := congrFun H ix0
  pointwise [Cert.Pre_finite14.fn] at this
  obtain ⟨H, hh⟩ := andi_eq_one this
  obtain ⟨hx, hg⟩ := andi_eq_one H
  refine ⟨fun i => ?_, fun i => ?_, fun i => ?_⟩ <;> rw [eq_ix2 i]
  · exact isR_of_abs_lt _ (of_fold_andi _ hx (i 0, i 1))
  · exact isR_of_abs_lt _ (of_fold_andi _ hg (i 0, i 1))
  · exact isR_of_abs_lt _ (of_fold_andi _ hh (i 0, i 1))

/-- THE CLAIM: both programs run, and end with equal gradients of the input and of the gain. -/
theorem alg : Cert.algebraic_RmsBwdIdeal_RmsBwdRefIdeal_pre_finite14 := by
  intro m g m' g' hpre hagree
  refine ⟨fun c => G4 m c, fun c => G5 m c, ?_, ?_⟩
  · refine (θ_run _ _ _).mono (fun _ h c => ?_) (Cert.RmsBwdIdeal.Value.run_blocks m g)
    exact ⟨(h c).1.trans (final4 m c), (h c).2.1.trans (final5 m c), (h c).2.2⟩
  · refine (θ_run _ _ _).mono (fun _ h c => ?_) (Cert.RmsBwdRefIdeal.Value.run m' g')
    obtain ⟨a0, a1, a2, a3⟩ := hagree c
    obtain ⟨r0, r1, r2⟩ := pre _ _ _ _ (hpre c)
    refine ⟨(h c).1.trans ?_, (h c).2.1.trans ?_, (h c).2.2⟩
    · unfold Cert.RmsBwdRefIdeal.Value.res_main_v40
      rw [a0, a1, a2, a3]
      funext i
      obtain ⟨r, q, rfl⟩ : ∃ (r : Fin 4096) (q : Fin 2048), i = ix2 r q := ⟨i 0, i 1, eq_ix2 i⟩
      exact refDx_apply _ _ _ _ r0 r1 r2 r q
    · rw [a0, a2]
      funext i
      obtain ⟨z, q, rfl⟩ : ∃ (z : Fin 1) (q : Fin 2048), i = ix2 z q := ⟨i 0, i 1, eq_ix2 i⟩
      exact refDg_apply _ _ z q

theorem frame_p : Cert.quiescent_RmsBwd := fun m ρ _ => Cert.RmsBwd.Gen.frame m ρ
theorem frame_pi : Cert.quiescent_RmsBwdIdeal := fun m ρ _ => Cert.RmsBwdIdeal.Gen.frame m ρ
theorem frame_ri : Cert.quiescent_RmsBwdRefIdeal := fun m ρ _ =>
  (θ_run Cert.RmsBwdRefIdeal.defs _ _).mono (fun r h => ⟨fun c => (h c).2.2,
      Idealize.ShloMosaic.sem_eq_zero_of_no_sems (by decide) r.2⟩)
    (Cert.RmsBwdRefIdeal.Value.run (F := Ideal) m ρ)

end Cert.RmsBwdProof

end
-- ==== Proof.AdamStep.lean ====
/- AdamW's step of one number, and the reference's steps at an index, for arrays of any shape. -/
module

public import Idealize.ShloMosaic.Lib.Pipeline.ValueKit
public import Idealize.ShloMosaic.Lib.Pipeline.Covers
public import Idealize.ShloMosaic.Lib.Pointwise
public import Idealize.ShloMosaic.Lib.Claim
public import Idealize.ShloMosaic.Lib.Quiescent

@[expose] public section

noncomputable section

namespace Cert.AdamStep

open Idealize.ShloMosaic

/-- The shape of a scalar. -/
abbrev Sc : Shape := ⟨0, ![]⟩

/-- A constant of the program as a number. -/
def k (b : BitVec 32) : EReal := Ideal.ofBits .f32 b

/-- The first moment after the step. -/
def mom (m g : EReal) : EReal := k 0x3f666666#32 * m + k 0x3dcccccd#32 * g

/-- The second moment after the step. -/
def mom2 (v g : EReal) : EReal := k 0x3f7fbe77#32 * v + k 0x3a83126f#32 * (g * g)

/-- The change of the weight, from the moments after the step. -/
def step (w m v : EReal) : EReal :=
  k 0xba83126f#32 * (Ideal.div (Ideal.div m (k 0x3f26bd02#32)) (Ideal.sqrt (Ideal.div v (k 0x3c231acc#32)) + k 0x322bcc77#32) + k 0x3c23d70a#32 * w)

/-- The array of one word has one index. -/
theorem one_idx (i j : (⟨1, ![1]⟩ : Shape).Idx) : i = j := by
  rw [eq_ix1 i, eq_ix1 j]
  exact congrArg ix1 (Subsingleton.elim (α := Fin 1) _ _)

/-- A choice between two values, each needed only where it is chosen. -/
theorem select_congr (b : BitVec 1) (x x' z z' : EReal) (h1 : b = 1#1 → x = x') (h0 : b = 0#1 → z = z') : Scalar.select b x z = Scalar.select b x' z' := by
  rcases (by decide +kernel : ∀ b : BitVec 1, b = 1#1 ∨ b = 0#1) b with h | h
  · rw [h]; exact h1 h
  · rw [h]; exact h0 h

/-- Whether two words are equal does not depend on their order. -/
theorem cmpi_comm (x y : BitVec 32) : IntOp.cmpi .eq x y = Scalar.cmpi .eq y x := by
  show BitVec.ofBool (x == y) = BitVec.ofBool (y == x)
  rw [BEq.comm]

/-- The reference's change of the weight at an index. -/
theorem ref_step {S : Shape} (hb : Sc.BroadcastsInDim S (![] : Fin 0 → Fin S.rank)) (w m v g : FVec Ideal S .f32) (i : S.Idx) :
    mulf (broadcastInDim S ![] hb (constant Sc .f32 0xba83126f#32)) (addf (Host.divf (Host.divf (addf (mulf (broadcastInDim S ![] hb (constant Sc .f32 0x3f666666#32)) m) (mulf (broadcastInDim S ![] hb (constant Sc .f32 0x3dcccccd#32)) g)) (broadcastInDim S ![] hb (constant Sc .f32 0x3f26bd02#32))) (addf (Host.sqrt (Host.divf (addf (mulf (broadcastInDim S ![] hb (constant Sc .f32 0x3f7fbe77#32)) v) (mulf (broadcastInDim S ![] hb (constant Sc .f32 0x3a83126f#32)) (mulf g g))) (broadcastInDim S ![] hb (constant Sc .f32 0x3c231acc#32)))) (broadcastInDim S ![] hb (constant Sc .f32 0x322bcc77#32)))) (mulf (broadcastInDim S ![] hb (constant Sc .f32 0x3c23d70a#32)) w)) i
      = step (w i) (mom (m i) (g i)) (mom2 (v i) (g i)) := by
  pointwise [step, mom, mom2, k]

/-- The reference's first moment at an index. -/
theorem ref_mom {S : Shape} (hb : Sc.BroadcastsInDim S (![] : Fin 0 → Fin S.rank)) (m g : FVec Ideal S .f32) (i : S.Idx) :
    addf (mulf (broadcastInDim S ![] hb (constant Sc .f32 0x3f666666#32)) m) (mulf (broadcastInDim S ![] hb (constant Sc .f32 0x3dcccccd#32)) g) i
      = mom (m i) (g i) := by
  pointwise [mom, k]

/-- The reference's second moment at an index. -/
theorem ref_sq {S : Shape} (hb : Sc.BroadcastsInDim S (![] : Fin 0 → Fin S.rank)) (v g : FVec Ideal S .f32) (i : S.Idx) :
    addf (mulf (broadcastInDim S ![] hb (constant Sc .f32 0x3f7fbe77#32)) v) (mulf (broadcastInDim S ![] hb (constant Sc .f32 0x3a83126f#32)) (mulf g g)) i
      = mom2 (v i) (g i) := by
  pointwise [mom2, k]

end Cert.AdamStep

end
-- ==== Proof.AdamOut.lean ====
/- The optimiser's step of w_out: the kernel's gradient, change and moments are those of AdamW on the gradient put together from its two halves. -/
module

public import proofs.«01_k».proof.Proof.Gen.AdamOutIdeal.Frame
public import proofs.«01_k».proof.Proof.Gen.AdamOutRefIdeal.Run
public import proofs.«01_k».proof.Proof.Gen.AdamOut.Frame
public import proofs.«01_k».proof.Defs
public import proofs.«01_k».proof.Proof.AdamStep

@[expose] public section

set_option maxRecDepth 16384

noncomputable section

namespace Cert.AdamOutProof

open Idealize.ShloMosaic Idealize.ShloMosaic.TcCoe Idealize.SL.Sem
open Idealize.ShloMosaic.Pipeline (Dat)
open Cert.AdamStep

section
open Cert.AdamOutIdeal Cert.AdamOutIdeal.Gen

variable (m : (ℓ : Loc nD τ sig) → Buf (Elt Ideal) ℓ)

/-- Whatever is chosen, window 1's block lies inside its half. -/
theorem inside1 : ∀ (i : grid0.Coords) (b : BitVec 1) (a : Fin 3),
    ((![(BitVec.ofNat 32 (i 0).val).toNat, (Scalar.select b (BitVec.ofNat 32 (i 2).val) 0#32).toNat, (0#32).toNat] : Fin 3 → Nat) a + 1) * S1x256x2048.size a ≤ S4x256x2048.size a := by decide +kernel

/-- Whatever is chosen, window 2's block lies inside its half. -/
theorem inside2 : ∀ (i : grid0.Coords) (b : BitVec 1) (a : Fin 3),
    ((![(BitVec.ofNat 32 (i 0).val).toNat, (Scalar.select b 0#32 (BitVec.ofNat 32 (i 2).val)).toNat, (0#32).toNat] : Fin 3 → Nat) a + 1) * S1x256x2048.size a ≤ S4x256x2048.size a := by decide +kernel

/-- The table's word names blocks inside the halves, whatever it is. -/
theorem ok : Ok m := by
  refine ⟨fun i => ⟨?_, .inl rfl⟩, fun i => ⟨?_, .inl rfl⟩⟩
  · unfold cc0_transform_1
    exact inside1 i _
  · unfold cc0_transform_2
    exact inside2 i _

variable (c : Dev nD) (t : Fin (cfgM m (ok m)).N) (y : S1x256x2048.Idx) (x0 x1 x2 x3 x4 : Vec Ideal S1x256x2048 .f32)

/-- The table's word. -/
def word : BitVec 32 := tbl m 0 (ix1 0)

/-- Whether the half of a grid point is the chip's own. -/
def own (t : Fin grid0.N) : BitVec 1 := Scalar.cmpi .eq (BitVec.ofNat 32 (grid0.coords t 1).val) (word m)

/-- The body reads the table's word. -/
theorem word_read (h) : View.readAt (Elt Ideal) (View.whole main_arg0) (Rect.unit ![0] ![1] inb_S1_S1_0).toLoadRect (tbl m 0) (Shape.Idx.first h) = word m :=
  congrArg (fun i : S1.Idx => tbl m 0 i) (one_idx _ _)

/-- The index maps read the same word. -/
theorem word_at : (tbl m).at 0 (Rect.unit (s := S1) ![0] S1.size inb_S1_S1_0) numel1_S1 = word m :=
  congrArg (fun i : S1.Idx => tbl m 0 i) (one_idx _ _)

/-- The gradient's tile: the own half's or the other's. -/
def gtile : EReal :=
  Scalar.select (own m t) (iblk m (ok m) c 1 t y) (iblk m (ok m) c 2 t y)

/-- The tile of the gradient, of any blocks. -/
theorem out5 :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = Scalar.select (own m t) (x1 y) (x2 y) := by
  frame_out
  rw [word_read]
  unfold_payloads
  pointwise [own, mom, mom2, step, k]

/-- The tile of the gradient. -/
theorem tile5 :
    (outsAt0 m (ok m) c t).1 y = gtile m c t y := by
  unfold outsAt0 gtile
  dsimp only
  exact out5 m c t y _ _ _ _ _

/-- The tile of the first moment, of any blocks. -/
theorem out7 :
    out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom (x3 y) (Scalar.select (own m t) (x1 y) (x2 y)) := by
  frame_out
  rw [word_read]
  unfold_payloads
  pointwise [own, mom, mom2, step, k]

/-- The tile of the first moment. -/
theorem tile7 :
    (outsAt0 m (ok m) c t).2.2.1 y = mom (iblk m (ok m) c 3 t y) (gtile m c t y) := by
  unfold outsAt0 gtile
  dsimp only
  exact out7 m c t y _ _ _ _ _

/-- The tile of the second moment, of any blocks. -/
theorem out8 :
    out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom2 (x4 y) (Scalar.select (own m t) (x1 y) (x2 y)) := by
  frame_out
  rw [word_read]
  unfold_payloads
  pointwise [own, mom, mom2, step, k]

/-- The tile of the second moment. -/
theorem tile8 :
    (outsAt0 m (ok m) c t).2.2.2 y = mom2 (iblk m (ok m) c 4 t y) (gtile m c t y) := by
  unfold outsAt0 gtile
  dsimp only
  exact out8 m c t y _ _ _ _ _

/-- The tile of the change, of any blocks. -/
theorem out6 :
    out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = step (x0 y) (mom (x3 y) (Scalar.select (own m t) (x1 y) (x2 y))) (mom2 (x4 y) (Scalar.select (own m t) (x1 y) (x2 y))) := by
  frame_out
  rw [word_read]
  unfold_payloads
  pointwise [own, mom, mom2, step, k]

/-- The tile of the change. -/
theorem tile6 :
    (outsAt0 m (ok m) c t).2.1 y = step (iblk m (ok m) c 0 t y) (mom (iblk m (ok m) c 3 t y) (gtile m c t y)) (mom2 (iblk m (ok m) c 4 t y) (gtile m c t y)) := by
  unfold outsAt0 gtile
  dsimp only
  exact out6 m c t y _ _ _ _ _

/-- Where a block of the whole weight lies. -/
theorem ix_out (t : Fin grid0.N) : cc0_transform_5 (grid0.coords t) = ![(grid0.coords t 0).val, (grid0.coords t 1).val * 1 + (grid0.coords t 2).val, 0] :=
  (by decide +kernel : ∀ t : Fin grid0.N, cc0_transform_5 (grid0.coords t) = ![(grid0.coords t 0).val, (grid0.coords t 1).val * 1 + (grid0.coords t 2).val, 0]) t

/-- Where the own half's block lies, if it is the one used. -/
theorem ix_own (t : Fin grid0.N) (h : own m t = 1#1) : ((cfgM m (ok m)).win 1).index t = ![(grid0.coords t 0).val, (grid0.coords t 2).val, 0] := by
  have e : ((cfgM m (ok m)).win 1).index t = ![(BitVec.ofNat 32 (grid0.coords t 0).val).toNat, (Scalar.select (own m t) (BitVec.ofNat 32 (grid0.coords t 2).val) 0#32).toNat, (0#32).toNat] := by
    show cc0_transform_1 inb_S1_S1_0 numel1_S1 (tbl m) (grid0.coords t) = _
    unfold cc0_transform_1
    dsimp only
    rw [word_at]
    rfl
  rw [e, h]
  exact (by decide +kernel : ∀ t : Fin grid0.N, (![(BitVec.ofNat 32 (grid0.coords t 0).val).toNat, (Scalar.select 1#1 (BitVec.ofNat 32 (grid0.coords t 2).val) 0#32).toNat, (0#32).toNat] : Fin 3 → Nat)
    = ![(grid0.coords t 0).val, (grid0.coords t 2).val, 0]) t

/-- Where the other half's block lies, if it is the one used. -/
theorem ix_other (t : Fin grid0.N) (h : own m t = 0#1) : ((cfgM m (ok m)).win 2).index t = ![(grid0.coords t 0).val, (grid0.coords t 2).val, 0] := by
  have e : ((cfgM m (ok m)).win 2).index t = ![(BitVec.ofNat 32 (grid0.coords t 0).val).toNat, (Scalar.select (own m t) 0#32 (BitVec.ofNat 32 (grid0.coords t 2).val)).toNat, (0#32).toNat] := by
    show cc0_transform_2 inb_S1_S1_0 numel1_S1 (tbl m) (grid0.coords t) = _
    unfold cc0_transform_2
    dsimp only
    rw [word_at]
    rfl
  rw [e, h]
  exact (by decide +kernel : ∀ t : Fin grid0.N, (![(BitVec.ofNat 32 (grid0.coords t 0).val).toNat, (Scalar.select 0#1 0#32 (BitVec.ofNat 32 (grid0.coords t 2).val)).toNat, (0#32).toNat] : Fin 3 → Nat)
    = ![(grid0.coords t 0).val, (grid0.coords t 2).val, 0]) t

/-- Every block of the whole weight is some grid point's. -/
theorem surj : ∀ β : (a : Fin 3) → Fin ((S4x512x2048.size a + S1x256x2048.size a - 1) / S1x256x2048.size a), ∃ i : grid0.Coords, ∀ a, cc0_transform_5 i a = β a := by
  decide +kernel

theorem cov5 : ((cfgM m (ok m)).win 5).Covers :=
  ((cfgM m (ok m)).win 5).covers_of_indexMap_surj rfl (by decide : ∀ a : Fin 3, 0 < S1x256x2048.size a) fun β => surj β
theorem cov6 : ((cfgM m (ok m)).win 6).Covers :=
  ((cfgM m (ok m)).win 6).covers_of_indexMap_surj rfl (by decide : ∀ a : Fin 3, 0 < S1x256x2048.size a) fun β => surj β
theorem cov7 : ((cfgM m (ok m)).win 7).Covers :=
  ((cfgM m (ok m)).win 7).covers_of_indexMap_surj rfl (by decide : ∀ a : Fin 3, 0 < S1x256x2048.size a) fun β => surj β
theorem cov8 : ((cfgM m (ok m)).win 8).Covers :=
  ((cfgM m (ok m)).win 8).covers_of_indexMap_surj rfl (by decide : ∀ a : Fin 3, 0 < S1x256x2048.size a) fun β => surj β

/-- The gradient at an index of the whole weight: the own half's or the other's. -/
def grad (w : BitVec 32) (mine theirs : S4x256x2048.Idx → EReal) (y : S4x512x2048.Idx) : EReal :=
  Scalar.select (Scalar.cmpi .eq (BitVec.ofNat 32 ((y 1).val / 256)) w)
    (mine (ix3 (y 0) ⟨(y 1).val % 256, Nat.mod_lt _ (by decide)⟩ (y 2)))
    (theirs (ix3 (y 0) ⟨(y 1).val % 256, Nat.mod_lt _ (by decide)⟩ (y 2)))

/-- The gradient of the whole weight, of the argument arrays. -/
def G5 : S4x512x2048.Idx → EReal := grad (m ((c.tc : Thread nD τ).loc main_arg0) (ix1 0)) (m ((c.tc : Thread nD τ).loc main_arg2)) (m ((c.tc : Thread nD τ).loc main_arg3))

/-- The first moment after the step, of the argument arrays. -/
def G7 : S4x512x2048.Idx → EReal := fun z => mom (m ((c.tc : Thread nD τ).loc main_arg4) z) (G5 m c z)

/-- The second moment after the step, of the argument arrays. -/
def G8 : S4x512x2048.Idx → EReal := fun z => mom2 (m ((c.tc : Thread nD τ).loc main_arg5) z) (G5 m c z)

/-- The change of the weight, of the argument arrays. -/
def G6 : S4x512x2048.Idx → EReal := fun z => step (m ((c.tc : Thread nD τ).loc main_arg1) z) (G7 m c z) (G8 m c z)

/-- `z` is where the index `y` of a grid point's block lies in the whole weight. -/
def At (t : Fin grid0.N) (y : S1x256x2048.Idx) (z : S4x512x2048.Idx) : Prop :=
  (z 0).val = (grid0.coords t 0).val + (y 0).val ∧ (z 1).val = ((grid0.coords t 1).val * 1 + (grid0.coords t 2).val) * 256 + (y 1).val ∧ (z 2).val = (y 2).val

/-- Where the blocks of the whole weight lie. -/
theorem at5 : At t y ((((cfgM m (ok m)).win 5).blk t).view.emb y) := by
  have e : ((cfgM m (ok m)).win 5).index t = ![(grid0.coords t 0).val, (grid0.coords t 1).val * 1 + (grid0.coords t 2).val, 0] := ix_out t
  refine ⟨?_, ?_, ?_⟩ <;> blk_point [e]

/-- An index is its three coordinates. -/
theorem ext_whole {z z' : S4x512x2048.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- An index is its three coordinates. -/
theorem ext_half {z z' : S4x256x2048.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- One index lies in one place. -/
theorem At.eq {t : Fin grid0.N} {y : S1x256x2048.Idx} {z z' : S4x512x2048.Idx} (h : At t y z) (h' : At t y z') : z = z' := by
  obtain ⟨a, b, c⟩ := h
  obtain ⟨a', b', c'⟩ := h'
  exact ext_whole (a.trans a'.symm) (b.trans b'.symm) (c.trans c'.symm)

/-- The block of window 0, read off its array. -/
theorem iblk0 (z : S4x512x2048.Idx) (h : At t y z) : iblk m (ok m) c 0 t y = m ((c.tc : Thread nD τ).loc main_arg1) z :=
  congrArg (fun z : S4x512x2048.Idx => m ((c.tc : Thread nD τ).loc main_arg1) z) ((at5 m t y).eq h)

/-- The block of window 3, read off its array. -/
theorem iblk3 (z : S4x512x2048.Idx) (h : At t y z) : iblk m (ok m) c 3 t y = m ((c.tc : Thread nD τ).loc main_arg4) z :=
  congrArg (fun z : S4x512x2048.Idx => m ((c.tc : Thread nD τ).loc main_arg4) z) ((at5 m t y).eq h)

/-- The block of window 4, read off its array. -/
theorem iblk4 (z : S4x512x2048.Idx) (h : At t y z) : iblk m (ok m) c 4 t y = m ((c.tc : Thread nD τ).loc main_arg5) z :=
  congrArg (fun z : S4x512x2048.Idx => m ((c.tc : Thread nD τ).loc main_arg5) z) ((at5 m t y).eq h)

/-- `z` is where the index `y` of a grid point's block lies in its half of the weight. -/
def AtHalf (t : Fin grid0.N) (y : S1x256x2048.Idx) (z : S4x256x2048.Idx) : Prop :=
  (z 0).val = (grid0.coords t 0).val + (y 0).val ∧ (z 1).val = (grid0.coords t 2).val * 256 + (y 1).val ∧ (z 2).val = (y 2).val

/-- One index lies in one place. -/
theorem AtHalf.eq {t : Fin grid0.N} {y : S1x256x2048.Idx} {z z' : S4x256x2048.Idx} (h : AtHalf t y z) (h' : AtHalf t y z') : z = z' := by
  obtain ⟨a, b, c⟩ := h
  obtain ⟨a', b', c'⟩ := h'
  exact ext_half (a.trans a'.symm) (b.trans b'.symm) (c.trans c'.symm)

/-- Where window 1's block lies, at the grid points that use it. -/
theorem at1 (hb : own m t = 1#1) : AtHalf t y ((((cfgM m (ok m)).win 1).blk t).view.emb y) := by
  have e := ix_own m t hb
  refine ⟨?_, ?_, ?_⟩ <;> blk_point [e]

/-- The block of window 1, read off its array. -/
theorem iblk1 (hb : own m t = 1#1) (z : S4x256x2048.Idx) (h : AtHalf t y z) : iblk m (ok m) c 1 t y = m ((c.tc : Thread nD τ).loc main_arg2) z :=
  congrArg (fun z : S4x256x2048.Idx => m ((c.tc : Thread nD τ).loc main_arg2) z) ((at1 m t y hb).eq h)

/-- Where window 2's block lies, at the grid points that use it. -/
theorem at2 (hb : own m t = 0#1) : AtHalf t y ((((cfgM m (ok m)).win 2).blk t).view.emb y) := by
  have e := ix_other m t hb
  refine ⟨?_, ?_, ?_⟩ <;> blk_point [e]

/-- The block of window 2, read off its array. -/
theorem iblk2 (hb : own m t = 0#1) (z : S4x256x2048.Idx) (h : AtHalf t y z) : iblk m (ok m) c 2 t y = m ((c.tc : Thread nD τ).loc main_arg3) z :=
  congrArg (fun z : S4x256x2048.Idx => m ((c.tc : Thread nD τ).loc main_arg3) z) ((at2 m t y hb).eq h)

/-- The gradient's tile, read off the halves. -/
theorem gtile_at (z : S4x512x2048.Idx) (h : At t y z) : gtile m c t y = G5 m c z := by
  obtain ⟨a, b, d⟩ := h
  have h1 : (grid0.coords t 1).val < 2 := (grid0.coords t 1).isLt
  have h2 : (grid0.coords t 2).val < 1 := (grid0.coords t 2).isLt
  have hy : (y 1).val < 256 := (y 1).isLt
  have eq : (z 1).val / 256 = (grid0.coords t 1).val := by omega
  have er : (z 1).val % 256 = (grid0.coords t 2).val * 256 + (y 1).val := by omega
  have hw : word m = m ((c.tc : Thread nD τ).loc main_arg0) (ix1 0) := by
    obtain rfl : c = 0 := Subsingleton.elim _ _
    rfl
  unfold gtile G5 grad
  rw [eq, ← hw]
  exact select_congr _ _ _ _ _ (fun hb => iblk1 m c t y hb _ ⟨a, er, d⟩) fun hb => iblk2 m c t y hb _ ⟨a, er, d⟩

/-- The gradient after the run. -/
theorem final5 : (dats m (ok m) 0 c).arrAt 5 (cfgM m (ok m)).N = G5 m c := by
  refine (dats m (ok m) 0 c).arrAt_eq_of_covers 5 _ (cov5 m) fun t hf y => ?_
  have z := at5 m t y
  blk_simp
  rw [after0_5]
  exact (tile5 m c t y).trans (gtile_at m c t y _ z)

/-- The first moment after the run. -/
theorem final7 : (dats m (ok m) 0 c).arrAt 7 (cfgM m (ok m)).N = G7 m c := by
  refine (dats m (ok m) 0 c).arrAt_eq_of_covers 7 _ (cov7 m) fun t hf y => ?_
  have z := at5 m t y
  blk_simp
  rw [after0_7]
  exact (tile7 m c t y).trans (congrArg₂ mom (iblk3 m c t y _ z) (gtile_at m c t y _ z))

/-- The second moment after the run. -/
theorem final8 : (dats m (ok m) 0 c).arrAt 8 (cfgM m (ok m)).N = G8 m c := by
  refine (dats m (ok m) 0 c).arrAt_eq_of_covers 8 _ (cov8 m) fun t hf y => ?_
  have z := at5 m t y
  blk_simp
  rw [after0_8]
  exact (tile8 m c t y).trans (congrArg₂ mom2 (iblk4 m c t y _ z) (gtile_at m c t y _ z))

/-- The change after the run. -/
theorem final6 : (dats m (ok m) 0 c).arrAt 6 (cfgM m (ok m)).N = G6 m c := by
  refine (dats m (ok m) 0 c).arrAt_eq_of_covers 6 _ (cov6 m) fun t hf y => ?_
  have z := at5 m t y
  blk_simp
  rw [after0_6]
  exact (tile6 m c t y).trans (by rw [iblk0 m c t y _ z, iblk3 m c t y _ z, iblk4 m c t y _ z, gtile_at m c t y _ z]; rfl)

end

section
open Cert.AdamOutRefIdeal Cert.AdamOutRefIdeal.Gen

/-- The reference's gradient at an index. -/
theorem ref_grad (w : IVec S1 32) (mine theirs : FVec Ideal S4x256x2048 .f32) (i : S4x512x2048.Idx) :
    concatenate S4x512x2048 1 [⟨S4x256x2048, (select (broadcastInDim S4x256x2048 ![] bcast_S_S4x256x2048 (cmpi .eq (shapeCast _ w shapeCasts_S1_S_) (constantI S_ 32 0#32))) mine theirs)⟩, ⟨S4x256x2048, (select (broadcastInDim S4x256x2048 ![] bcast_S_S4x256x2048 (cmpi .eq (shapeCast _ w shapeCasts_S1_S_) (constantI S_ 32 1#32))) mine theirs)⟩] concatenates_S4x256x2048_S4x256x2048_S4x512x2048_d1 i
      = grad (w (ix1 0)) mine theirs i := by
  obtain ⟨l, r, q, rfl⟩ : ∃ (l : Fin 4) (r : Fin 512) (q : Fin 2048), i = ix3 l r q := ⟨i 0, i 1, i 2, eq_ix3 i⟩
  pointwise [grad]
  split_ifs with h
  · rw [cmpi_comm, show r.val / 256 = 0 by omega]
    congr 3 <;> exact Fin.ext (by show r.val = r.val % 256; omega)
  · have hr := r.isLt
    rw [cmpi_comm, show r.val / 256 = 1 by omega]
    congr 3 <;> exact Fin.ext (by show r.val - 256 = r.val % 256; omega)
  · rename_i h'
    exact absurd rfl h'

end

/-- THE CLAIM: both programs run, and end with equal results. -/
theorem alg : Cert.algebraic_AdamOutIdeal_AdamOutRefIdeal := by
  intro m g m' g' hpre hagree
  refine ⟨fun c => G5 m c, fun c => G6 m c, fun c => G7 m c, fun c => G8 m c, ?_, ?_⟩
  · refine (θ_run _ _ _).mono (fun _ h c => ?_) (θ_run_and (Cert.AdamOutIdeal.Gen.run_main m g (ok m)) (Cert.AdamOutIdeal.Gen.unchanged m g (ok m)))
    exact ⟨((h.1 c).1 5).trans (final5 m c), ((h.1 c).1 6).trans (final6 m c), ((h.1 c).1 7).trans (final7 m c), ((h.1 c).1 8).trans (final8 m c), h.2 c⟩
  · refine (θ_run _ _ _).mono (fun _ h c => ?_) (Cert.AdamOutRefIdeal.Value.run m' g')
    obtain ⟨a0, a1, a2, a3, a4, a5⟩ := hagree c
    refine ⟨(h c).1.trans ?_, (h c).2.1.trans ?_, (h c).2.2.1.trans ?_, (h c).2.2.2.1.trans ?_, (h c).2.2.2.2⟩
    · rw [a0, a2, a3]
      exact funext fun i => ref_grad _ _ _ i
    · rw [a0, a1, a2, a3, a4, a5]
      exact funext fun i => (ref_step _ _ _ _ _ i).trans (by rw [ref_grad]; rfl)
    · rw [a0, a2, a3, a4]
      exact funext fun i => (ref_mom _ _ _ i).trans (by rw [ref_grad]; rfl)
    · rw [a0, a2, a3, a5]
      exact funext fun i => (ref_sq _ _ _ i).trans (by rw [ref_grad]; rfl)

/-- The same of the kernel. -/
theorem ok_p {F : FTy → Type} [FloatOps F] (m : (ℓ : Loc Cert.AdamOut.nD Cert.AdamOut.τ Cert.AdamOut.sig) → Buf (Elt F) ℓ) : Cert.AdamOut.Gen.Ok m := by
  refine ⟨fun i => ⟨?_, .inl rfl⟩, fun i => ⟨?_, .inl rfl⟩⟩
  · unfold Cert.AdamOut.cc0_transform_1
    exact inside1 i _
  · unfold Cert.AdamOut.cc0_transform_2
    exact inside2 i _

theorem frame_p : Cert.quiescent_AdamOut := fun m ρ _ => Cert.AdamOut.Gen.frame m ρ (ok_p m)
theorem frame_pi : Cert.quiescent_AdamOutIdeal := fun m ρ _ => Cert.AdamOutIdeal.Gen.frame m ρ (ok m)
theorem frame_ri : Cert.quiescent_AdamOutRefIdeal := fun m ρ _ =>
  (θ_run Cert.AdamOutRefIdeal.defs _ _).mono (fun r h => ⟨fun c => (h c).2.2.2.2,
      Idealize.ShloMosaic.sem_eq_zero_of_no_sems (by decide) r.2⟩)
    (Cert.AdamOutRefIdeal.Value.run (F := Ideal) m ρ)

end Cert.AdamOutProof

end
-- ==== Proof.AdamIn.lean ====
/- The optimiser's step of w_in: the kernel's gradient, change and moments are those of AdamW on the gradient put together from its two halves. -/
module

public import proofs.«01_k».proof.Proof.Gen.AdamInIdeal.Frame
public import proofs.«01_k».proof.Proof.Gen.AdamInRefIdeal.Run
public import proofs.«01_k».proof.Proof.Gen.AdamIn.Frame
public import proofs.«01_k».proof.Defs
public import proofs.«01_k».proof.Proof.AdamStep

@[expose] public section

set_option maxRecDepth 16384

noncomputable section

namespace Cert.AdamInProof

open Idealize.ShloMosaic Idealize.ShloMosaic.TcCoe Idealize.SL.Sem
open Idealize.ShloMosaic.Pipeline (Dat)
open Cert.AdamStep

section
open Cert.AdamInIdeal Cert.AdamInIdeal.Gen

variable (m : (ℓ : Loc nD τ sig) → Buf (Elt Ideal) ℓ)

/-- Whatever is chosen, window 1's block lies inside its half. -/
theorem inside1 : ∀ (i : grid0.Coords) (b : BitVec 1) (a : Fin 3),
    ((![(BitVec.ofNat 32 (i 0).val).toNat, (Scalar.select b (BitVec.ofNat 32 (i 2).val) 0#32).toNat, (0#32).toNat] : Fin 3 → Nat) a + 1) * S1x512x896.size a ≤ S4x1024x896.size a := by decide +kernel

/-- Whatever is chosen, window 2's block lies inside its half. -/
theorem inside2 : ∀ (i : grid0.Coords) (b : BitVec 1) (a : Fin 3),
    ((![(BitVec.ofNat 32 (i 0).val).toNat, (Scalar.select b 0#32 (BitVec.ofNat 32 (i 2).val)).toNat, (0#32).toNat] : Fin 3 → Nat) a + 1) * S1x512x896.size a ≤ S4x1024x896.size a := by decide +kernel

/-- The table's word names blocks inside the halves, whatever it is. -/
theorem ok : Ok m := by
  refine ⟨fun i => ⟨?_, .inl rfl⟩, fun i => ⟨?_, .inl rfl⟩⟩
  · unfold cc0_transform_1
    exact inside1 i _
  · unfold cc0_transform_2
    exact inside2 i _

variable (c : Dev nD) (t : Fin (cfgM m (ok m)).N) (y : S1x512x896.Idx) (x0 x1 x2 x3 x4 : Vec Ideal S1x512x896 .f32)

/-- The table's word. -/
def word : BitVec 32 := tbl m 0 (ix1 0)

/-- Whether the half of a grid point is the chip's own. -/
def own (t : Fin grid0.N) : BitVec 1 := Scalar.cmpi .eq (BitVec.ofNat 32 (grid0.coords t 1).val) (word m)

/-- The body reads the table's word. -/
theorem word_read (h) : View.readAt (Elt Ideal) (View.whole main_arg0) (Rect.unit ![0] ![1] inb_S1_S1_0).toLoadRect (tbl m 0) (Shape.Idx.first h) = word m :=
  congrArg (fun i : S1.Idx => tbl m 0 i) (one_idx _ _)

/-- The index maps read the same word. -/
theorem word_at : (tbl m).at 0 (Rect.unit (s := S1) ![0] S1.size inb_S1_S1_0) numel1_S1 = word m :=
  congrArg (fun i : S1.Idx => tbl m 0 i) (one_idx _ _)

/-- The gradient's tile: the own half's or the other's. -/
def gtile : EReal :=
  Scalar.select (own m t) (iblk m (ok m) c 1 t y) (iblk m (ok m) c 2 t y)

/-- The tile of the gradient, of any blocks. -/
theorem out5 :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = Scalar.select (own m t) (x1 y) (x2 y) := by
  frame_out
  rw [word_read]
  unfold_payloads
  pointwise [own, mom, mom2, step, k]

/-- The tile of the gradient. -/
theorem tile5 :
    (outsAt0 m (ok m) c t).1 y = gtile m c t y := by
  unfold outsAt0 gtile
  dsimp only
  exact out5 m c t y _ _ _ _ _

/-- The tile of the first moment, of any blocks. -/
theorem out7 :
    out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom (x3 y) (Scalar.select (own m t) (x1 y) (x2 y)) := by
  frame_out
  rw [word_read]
  unfold_payloads
  pointwise [own, mom, mom2, step, k]

/-- The tile of the first moment. -/
theorem tile7 :
    (outsAt0 m (ok m) c t).2.2.1 y = mom (iblk m (ok m) c 3 t y) (gtile m c t y) := by
  unfold outsAt0 gtile
  dsimp only
  exact out7 m c t y _ _ _ _ _

/-- The tile of the second moment, of any blocks. -/
theorem out8 :
    out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom2 (x4 y) (Scalar.select (own m t) (x1 y) (x2 y)) := by
  frame_out
  rw [word_read]
  unfold_payloads
  pointwise [own, mom, mom2, step, k]

/-- The tile of the second moment. -/
theorem tile8 :
    (outsAt0 m (ok m) c t).2.2.2 y = mom2 (iblk m (ok m) c 4 t y) (gtile m c t y) := by
  unfold outsAt0 gtile
  dsimp only
  exact out8 m c t y _ _ _ _ _

/-- The tile of the change, of any blocks. -/
theorem out6 :
    out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = step (x0 y) (mom (x3 y) (Scalar.select (own m t) (x1 y) (x2 y))) (mom2 (x4 y) (Scalar.select (own m t) (x1 y) (x2 y))) := by
  frame_out
  rw [word_read]
  unfold_payloads
  pointwise [own, mom, mom2, step, k]

/-- The tile of the change. -/
theorem tile6 :
    (outsAt0 m (ok m) c t).2.1 y = step (iblk m (ok m) c 0 t y) (mom (iblk m (ok m) c 3 t y) (gtile m c t y)) (mom2 (iblk m (ok m) c 4 t y) (gtile m c t y)) := by
  unfold outsAt0 gtile
  dsimp only
  exact out6 m c t y _ _ _ _ _

/-- Where a block of the whole weight lies. -/
theorem ix_out (t : Fin grid0.N) : cc0_transform_5 (grid0.coords t) = ![(grid0.coords t 0).val, (grid0.coords t 1).val * 2 + (grid0.coords t 2).val, 0] :=
  (by decide +kernel : ∀ t : Fin grid0.N, cc0_transform_5 (grid0.coords t) = ![(grid0.coords t 0).val, (grid0.coords t 1).val * 2 + (grid0.coords t 2).val, 0]) t

/-- Where the own half's block lies, if it is the one used. -/
theorem ix_own (t : Fin grid0.N) (h : own m t = 1#1) : ((cfgM m (ok m)).win 1).index t = ![(grid0.coords t 0).val, (grid0.coords t 2).val, 0] := by
  have e : ((cfgM m (ok m)).win 1).index t = ![(BitVec.ofNat 32 (grid0.coords t 0).val).toNat, (Scalar.select (own m t) (BitVec.ofNat 32 (grid0.coords t 2).val) 0#32).toNat, (0#32).toNat] := by
    show cc0_transform_1 inb_S1_S1_0 numel1_S1 (tbl m) (grid0.coords t) = _
    unfold cc0_transform_1
    dsimp only
    rw [word_at]
    rfl
  rw [e, h]
  exact (by decide +kernel : ∀ t : Fin grid0.N, (![(BitVec.ofNat 32 (grid0.coords t 0).val).toNat, (Scalar.select 1#1 (BitVec.ofNat 32 (grid0.coords t 2).val) 0#32).toNat, (0#32).toNat] : Fin 3 → Nat)
    = ![(grid0.coords t 0).val, (grid0.coords t 2).val, 0]) t

/-- Where the other half's block lies, if it is the one used. -/
theorem ix_other (t : Fin grid0.N) (h : own m t = 0#1) : ((cfgM m (ok m)).win 2).index t = ![(grid0.coords t 0).val, (grid0.coords t 2).val, 0] := by
  have e : ((cfgM m (ok m)).win 2).index t = ![(BitVec.ofNat 32 (grid0.coords t 0).val).toNat, (Scalar.select (own m t) 0#32 (BitVec.ofNat 32 (grid0.coords t 2).val)).toNat, (0#32).toNat] := by
    show cc0_transform_2 inb_S1_S1_0 numel1_S1 (tbl m) (grid0.coords t) = _
    unfold cc0_transform_2
    dsimp only
    rw [word_at]
    rfl
  rw [e, h]
  exact (by decide +kernel : ∀ t : Fin grid0.N, (![(BitVec.ofNat 32 (grid0.coords t 0).val).toNat, (Scalar.select 0#1 0#32 (BitVec.ofNat 32 (grid0.coords t 2).val)).toNat, (0#32).toNat] : Fin 3 → Nat)
    = ![(grid0.coords t 0).val, (grid0.coords t 2).val, 0]) t

/-- Every block of the whole weight is some grid point's. -/
theorem surj : ∀ β : (a : Fin 3) → Fin ((S4x2048x896.size a + S1x512x896.size a - 1) / S1x512x896.size a), ∃ i : grid0.Coords, ∀ a, cc0_transform_5 i a = β a := by
  decide +kernel

theorem cov5 : ((cfgM m (ok m)).win 5).Covers :=
  ((cfgM m (ok m)).win 5).covers_of_indexMap_surj rfl (by decide : ∀ a : Fin 3, 0 < S1x512x896.size a) fun β => surj β
theorem cov6 : ((cfgM m (ok m)).win 6).Covers :=
  ((cfgM m (ok m)).win 6).covers_of_indexMap_surj rfl (by decide : ∀ a : Fin 3, 0 < S1x512x896.size a) fun β => surj β
theorem cov7 : ((cfgM m (ok m)).win 7).Covers :=
  ((cfgM m (ok m)).win 7).covers_of_indexMap_surj rfl (by decide : ∀ a : Fin 3, 0 < S1x512x896.size a) fun β => surj β
theorem cov8 : ((cfgM m (ok m)).win 8).Covers :=
  ((cfgM m (ok m)).win 8).covers_of_indexMap_surj rfl (by decide : ∀ a : Fin 3, 0 < S1x512x896.size a) fun β => surj β

/-- The gradient at an index of the whole weight: the own half's or the other's. -/
def grad (w : BitVec 32) (mine theirs : S4x1024x896.Idx → EReal) (y : S4x2048x896.Idx) : EReal :=
  Scalar.select (Scalar.cmpi .eq (BitVec.ofNat 32 ((y 1).val / 1024)) w)
    (mine (ix3 (y 0) ⟨(y 1).val % 1024, Nat.mod_lt _ (by decide)⟩ (y 2)))
    (theirs (ix3 (y 0) ⟨(y 1).val % 1024, Nat.mod_lt _ (by decide)⟩ (y 2)))

/-- The gradient of the whole weight, of the argument arrays. -/
def G5 : S4x2048x896.Idx → EReal := grad (m ((c.tc : Thread nD τ).loc main_arg0) (ix1 0)) (m ((c.tc : Thread nD τ).loc main_arg2)) (m ((c.tc : Thread nD τ).loc main_arg3))

/-- The first moment after the step, of the argument arrays. -/
def G7 : S4x2048x896.Idx → EReal := fun z => mom (m ((c.tc : Thread nD τ).loc main_arg4) z) (G5 m c z)

/-- The second moment after the step, of the argument arrays. -/
def G8 : S4x2048x896.Idx → EReal := fun z => mom2 (m ((c.tc : Thread nD τ).loc main_arg5) z) (G5 m c z)

/-- The change of the weight, of the argument arrays. -/
def G6 : S4x2048x896.Idx → EReal := fun z => step (m ((c.tc : Thread nD τ).loc main_arg1) z) (G7 m c z) (G8 m c z)

/-- `z` is where the index `y` of a grid point's block lies in the whole weight. -/
def At (t : Fin grid0.N) (y : S1x512x896.Idx) (z : S4x2048x896.Idx) : Prop :=
  (z 0).val = (grid0.coords t 0).val + (y 0).val ∧ (z 1).val = ((grid0.coords t 1).val * 2 + (grid0.coords t 2).val) * 512 + (y 1).val ∧ (z 2).val = (y 2).val

/-- Where the blocks of the whole weight lie. -/
theorem at5 : At t y ((((cfgM m (ok m)).win 5).blk t).view.emb y) := by
  have e : ((cfgM m (ok m)).win 5).index t = ![(grid0.coords t 0).val, (grid0.coords t 1).val * 2 + (grid0.coords t 2).val, 0] := ix_out t
  refine ⟨?_, ?_, ?_⟩ <;> blk_point [e]

/-- An index is its three coordinates. -/
theorem ext_whole {z z' : S4x2048x896.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- An index is its three coordinates. -/
theorem ext_half {z z' : S4x1024x896.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- One index lies in one place. -/
theorem At.eq {t : Fin grid0.N} {y : S1x512x896.Idx} {z z' : S4x2048x896.Idx} (h : At t y z) (h' : At t y z') : z = z' := by
  obtain ⟨a, b, c⟩ := h
  obtain ⟨a', b', c'⟩ := h'
  exact ext_whole (a.trans a'.symm) (b.trans b'.symm) (c.trans c'.symm)

/-- The block of window 0, read off its array. -/
theorem iblk0 (z : S4x2048x896.Idx) (h : At t y z) : iblk m (ok m) c 0 t y = m ((c.tc : Thread nD τ).loc main_arg1) z :=
  congrArg (fun z : S4x2048x896.Idx => m ((c.tc : Thread nD τ).loc main_arg1) z) ((at5 m t y).eq h)

/-- The block of window 3, read off its array. -/
theorem iblk3 (z : S4x2048x896.Idx) (h : At t y z) : iblk m (ok m) c 3 t y = m ((c.tc : Thread nD τ).loc main_arg4) z :=
  congrArg (fun z : S4x2048x896.Idx => m ((c.tc : Thread nD τ).loc main_arg4) z) ((at5 m t y).eq h)

/-- The block of window 4, read off its array. -/
theorem iblk4 (z : S4x2048x896.Idx) (h : At t y z) : iblk m (ok m) c 4 t y = m ((c.tc : Thread nD τ).loc main_arg5) z :=
  congrArg (fun z : S4x2048x896.Idx => m ((c.tc : Thread nD τ).loc main_arg5) z) ((at5 m t y).eq h)

/-- `z` is where the index `y` of a grid point's block lies in its half of the weight. -/
def AtHalf (t : Fin grid0.N) (y : S1x512x896.Idx) (z : S4x1024x896.Idx) : Prop :=
  (z 0).val = (grid0.coords t 0).val + (y 0).val ∧ (z 1).val = (grid0.coords t 2).val * 512 + (y 1).val ∧ (z 2).val = (y 2).val

/-- One index lies in one place. -/
theorem AtHalf.eq {t : Fin grid0.N} {y : S1x512x896.Idx} {z z' : S4x1024x896.Idx} (h : AtHalf t y z) (h' : AtHalf t y z') : z = z' := by
  obtain ⟨a, b, c⟩ := h
  obtain ⟨a', b', c'⟩ := h'
  exact ext_half (a.trans a'.symm) (b.trans b'.symm) (c.trans c'.symm)

/-- Where window 1's block lies, at the grid points that use it. -/
theorem at1 (hb : own m t = 1#1) : AtHalf t y ((((cfgM m (ok m)).win 1).blk t).view.emb y) := by
  have e := ix_own m t hb
  refine ⟨?_, ?_, ?_⟩ <;> blk_point [e]

/-- The block of window 1, read off its array. -/
theorem iblk1 (hb : own m t = 1#1) (z : S4x1024x896.Idx) (h : AtHalf t y z) : iblk m (ok m) c 1 t y = m ((c.tc : Thread nD τ).loc main_arg2) z :=
  congrArg (fun z : S4x1024x896.Idx => m ((c.tc : Thread nD τ).loc main_arg2) z) ((at1 m t y hb).eq h)

/-- Where window 2's block lies, at the grid points that use it. -/
theorem at2 (hb : own m t = 0#1) : AtHalf t y ((((cfgM m (ok m)).win 2).blk t).view.emb y) := by
  have e := ix_other m t hb
  refine ⟨?_, ?_, ?_⟩ <;> blk_point [e]

/-- The block of window 2, read off its array. -/
theorem iblk2 (hb : own m t = 0#1) (z : S4x1024x896.Idx) (h : AtHalf t y z) : iblk m (ok m) c 2 t y = m ((c.tc : Thread nD τ).loc main_arg3) z :=
  congrArg (fun z : S4x1024x896.Idx => m ((c.tc : Thread nD τ).loc main_arg3) z) ((at2 m t y hb).eq h)

/-- The gradient's tile, read off the halves. -/
theorem gtile_at (z : S4x2048x896.Idx) (h : At t y z) : gtile m c t y = G5 m c z := by
  obtain ⟨a, b, d⟩ := h
  have h1 : (grid0.coords t 1).val < 2 := (grid0.coords t 1).isLt
  have h2 : (grid0.coords t 2).val < 2 := (grid0.coords t 2).isLt
  have hy : (y 1).val < 512 := (y 1).isLt
  have eq : (z 1).val / 1024 = (grid0.coords t 1).val := by omega
  have er : (z 1).val % 1024 = (grid0.coords t 2).val * 512 + (y 1).val := by omega
  have hw : word m = m ((c.tc : Thread nD τ).loc main_arg0) (ix1 0) := by
    obtain rfl : c = 0 := Subsingleton.elim _ _
    rfl
  unfold gtile G5 grad
  rw [eq, ← hw]
  exact select_congr _ _ _ _ _ (fun hb => iblk1 m c t y hb _ ⟨a, er, d⟩) fun hb => iblk2 m c t y hb _ ⟨a, er, d⟩

/-- The gradient after the run. -/
theorem final5 : (dats m (ok m) 0 c).arrAt 5 (cfgM m (ok m)).N = G5 m c := by
  refine (dats m (ok m) 0 c).arrAt_eq_of_covers 5 _ (cov5 m) fun t hf y => ?_
  have z := at5 m t y
  blk_simp
  rw [after0_5]
  exact (tile5 m c t y).trans (gtile_at m c t y _ z)

/-- The first moment after the run. -/
theorem final7 : (dats m (ok m) 0 c).arrAt 7 (cfgM m (ok m)).N = G7 m c := by
  refine (dats m (ok m) 0 c).arrAt_eq_of_covers 7 _ (cov7 m) fun t hf y => ?_
  have z := at5 m t y
  blk_simp
  rw [after0_7]
  exact (tile7 m c t y).trans (congrArg₂ mom (iblk3 m c t y _ z) (gtile_at m c t y _ z))

/-- The second moment after the run. -/
theorem final8 : (dats m (ok m) 0 c).arrAt 8 (cfgM m (ok m)).N = G8 m c := by
  refine (dats m (ok m) 0 c).arrAt_eq_of_covers 8 _ (cov8 m) fun t hf y => ?_
  have z := at5 m t y
  blk_simp
  rw [after0_8]
  exact (tile8 m c t y).trans (congrArg₂ mom2 (iblk4 m c t y _ z) (gtile_at m c t y _ z))

/-- The change after the run. -/
theorem final6 : (dats m (ok m) 0 c).arrAt 6 (cfgM m (ok m)).N = G6 m c := by
  refine (dats m (ok m) 0 c).arrAt_eq_of_covers 6 _ (cov6 m) fun t hf y => ?_
  have z := at5 m t y
  blk_simp
  rw [after0_6]
  exact (tile6 m c t y).trans (by rw [iblk0 m c t y _ z, iblk3 m c t y _ z, iblk4 m c t y _ z, gtile_at m c t y _ z]; rfl)

end

section
open Cert.AdamInRefIdeal Cert.AdamInRefIdeal.Gen

/-- The reference's gradient at an index. -/
theorem ref_grad (w : IVec S1 32) (mine theirs : FVec Ideal S4x1024x896 .f32) (i : S4x2048x896.Idx) :
    concatenate S4x2048x896 1 [⟨S4x1024x896, (select (broadcastInDim S4x1024x896 ![] bcast_S_S4x1024x896 (cmpi .eq (shapeCast _ w shapeCasts_S1_S_) (constantI S_ 32 0#32))) mine theirs)⟩, ⟨S4x1024x896, (select (broadcastInDim S4x1024x896 ![] bcast_S_S4x1024x896 (cmpi .eq (shapeCast _ w shapeCasts_S1_S_) (constantI S_ 32 1#32))) mine theirs)⟩] concatenates_S4x1024x896_S4x1024x896_S4x2048x896_d1 i
      = grad (w (ix1 0)) mine theirs i := by
  obtain ⟨l, r, q, rfl⟩ : ∃ (l : Fin 4) (r : Fin 2048) (q : Fin 896), i = ix3 l r q := ⟨i 0, i 1, i 2, eq_ix3 i⟩
  pointwise [grad]
  split_ifs with h
  · rw [cmpi_comm, show r.val / 1024 = 0 by omega]
    congr 3 <;> exact Fin.ext (by show r.val = r.val % 1024; omega)
  · have hr := r.isLt
    rw [cmpi_comm, show r.val / 1024 = 1 by omega]
    congr 3 <;> exact Fin.ext (by show r.val - 1024 = r.val % 1024; omega)
  · rename_i h'
    exact absurd rfl h'

end

/-- THE CLAIM: both programs run, and end with equal results. -/
theorem alg : Cert.algebraic_AdamInIdeal_AdamInRefIdeal := by
  intro m g m' g' hpre hagree
  refine ⟨fun c => G5 m c, fun c => G6 m c, fun c => G7 m c, fun c => G8 m c, ?_, ?_⟩
  · refine (θ_run _ _ _).mono (fun _ h c => ?_) (θ_run_and (Cert.AdamInIdeal.Gen.run_main m g (ok m)) (Cert.AdamInIdeal.Gen.unchanged m g (ok m)))
    exact ⟨((h.1 c).1 5).trans (final5 m c), ((h.1 c).1 6).trans (final6 m c), ((h.1 c).1 7).trans (final7 m c), ((h.1 c).1 8).trans (final8 m c), h.2 c⟩
  · refine (θ_run _ _ _).mono (fun _ h c => ?_) (Cert.AdamInRefIdeal.Value.run m' g')
    obtain ⟨a0, a1, a2, a3, a4, a5⟩ := hagree c
    refine ⟨(h c).1.trans ?_, (h c).2.1.trans ?_, (h c).2.2.1.trans ?_, (h c).2.2.2.1.trans ?_, (h c).2.2.2.2⟩
    · rw [a0, a2, a3]
      exact funext fun i => ref_grad _ _ _ i
    · rw [a0, a1, a2, a3, a4, a5]
      exact funext fun i => (ref_step _ _ _ _ _ i).trans (by rw [ref_grad]; rfl)
    · rw [a0, a2, a3, a4]
      exact funext fun i => (ref_mom _ _ _ i).trans (by rw [ref_grad]; rfl)
    · rw [a0, a2, a3, a5]
      exact funext fun i => (ref_sq _ _ _ i).trans (by rw [ref_grad]; rfl)

/-- The same of the kernel. -/
theorem ok_p {F : FTy → Type} [FloatOps F] (m : (ℓ : Loc Cert.AdamIn.nD Cert.AdamIn.τ Cert.AdamIn.sig) → Buf (Elt F) ℓ) : Cert.AdamIn.Gen.Ok m := by
  refine ⟨fun i => ⟨?_, .inl rfl⟩, fun i => ⟨?_, .inl rfl⟩⟩
  · unfold Cert.AdamIn.cc0_transform_1
    exact inside1 i _
  · unfold Cert.AdamIn.cc0_transform_2
    exact inside2 i _

theorem frame_p : Cert.quiescent_AdamIn := fun m ρ _ => Cert.AdamIn.Gen.frame m ρ (ok_p m)
theorem frame_pi : Cert.quiescent_AdamInIdeal := fun m ρ _ => Cert.AdamInIdeal.Gen.frame m ρ (ok m)
theorem frame_ri : Cert.quiescent_AdamInRefIdeal := fun m ρ _ =>
  (θ_run Cert.AdamInRefIdeal.defs _ _).mono (fun r h => ⟨fun c => (h c).2.2.2.2,
      Idealize.ShloMosaic.sem_eq_zero_of_no_sems (by decide) r.2⟩)
    (Cert.AdamInRefIdeal.Value.run (F := Ideal) m ρ)

end Cert.AdamInProof

end
-- ==== Proof.AdamUp.lean ====
/- The optimiser's step of w_gate or w_up: the kernel's gradient, change and moments are those of AdamW on the gradient put together from its two halves. -/
module

public import proofs.«01_k».proof.Proof.Gen.AdamUpIdeal.Frame
public import proofs.«01_k».proof.Proof.Gen.AdamUpRefIdeal.Run
public import proofs.«01_k».proof.Proof.Gen.AdamUp.Frame
public import proofs.«01_k».proof.Defs
public import proofs.«01_k».proof.Proof.AdamStep

@[expose] public section

set_option maxRecDepth 16384

noncomputable section

namespace Cert.AdamUpProof

open Idealize.ShloMosaic Idealize.ShloMosaic.TcCoe Idealize.SL.Sem
open Idealize.ShloMosaic.Pipeline (Dat)
open Cert.AdamStep

section
open Cert.AdamUpIdeal Cert.AdamUpIdeal.Gen

variable (m : (ℓ : Loc nD τ sig) → Buf (Elt Ideal) ℓ)

/-- Whatever is chosen, window 1's block lies inside its half. -/
theorem inside1 : ∀ (i : grid0.Coords) (b : BitVec 1) (a : Fin 3),
    ((![(BitVec.ofNat 32 (i 0).val).toNat, (Scalar.select b (BitVec.ofNat 32 (i 2).val) 0#32).toNat, (0#32).toNat] : Fin 3 → Nat) a + 1) * S1x256x1408.size a ≤ S4x1024x1408.size a := by decide +kernel

/-- Whatever is chosen, window 2's block lies inside its half. -/
theorem inside2 : ∀ (i : grid0.Coords) (b : BitVec 1) (a : Fin 3),
    ((![(BitVec.ofNat 32 (i 0).val).toNat, (Scalar.select b 0#32 (BitVec.ofNat 32 (i 2).val)).toNat, (0#32).toNat] : Fin 3 → Nat) a + 1) * S1x256x1408.size a ≤ S4x1024x1408.size a := by decide +kernel

/-- The table's word names blocks inside the halves, whatever it is. -/
theorem ok : Ok m := by
  refine ⟨fun i => ⟨?_, .inl rfl⟩, fun i => ⟨?_, .inl rfl⟩⟩
  · unfold cc0_transform_1
    exact inside1 i _
  · unfold cc0_transform_2
    exact inside2 i _

variable (c : Dev nD) (t : Fin (cfgM m (ok m)).N) (y : S1x256x1408.Idx) (x0 x1 x2 x3 x4 : Vec Ideal S1x256x1408 .f32)

/-- The table's word. -/
def word : BitVec 32 := tbl m 0 (ix1 0)

/-- Whether the half of a grid point is the chip's own. -/
def own (t : Fin grid0.N) : BitVec 1 := Scalar.cmpi .eq (BitVec.ofNat 32 (grid0.coords t 1).val) (word m)

/-- The body reads the table's word. -/
theorem word_read (h) : View.readAt (Elt Ideal) (View.whole main_arg0) (Rect.unit ![0] ![1] inb_S1_S1_0).toLoadRect (tbl m 0) (Shape.Idx.first h) = word m :=
  congrArg (fun i : S1.Idx => tbl m 0 i) (one_idx _ _)

/-- The index maps read the same word. -/
theorem word_at : (tbl m).at 0 (Rect.unit (s := S1) ![0] S1.size inb_S1_S1_0) numel1_S1 = word m :=
  congrArg (fun i : S1.Idx => tbl m 0 i) (one_idx _ _)

/-- The gradient's tile: the own half's or the other's. -/
def gtile : EReal :=
  Scalar.select (own m t) (iblk m (ok m) c 1 t y) (iblk m (ok m) c 2 t y)

/-- The tile of the gradient, of any blocks. -/
theorem out5 :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = Scalar.select (own m t) (x1 y) (x2 y) := by
  frame_out
  rw [word_read]
  unfold_payloads
  pointwise [own, mom, mom2, step, k]

/-- The tile of the gradient. -/
theorem tile5 :
    (outsAt0 m (ok m) c t).1 y = gtile m c t y := by
  unfold outsAt0 gtile
  dsimp only
  exact out5 m c t y _ _ _ _ _

/-- The tile of the first moment, of any blocks. -/
theorem out7 :
    out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom (x3 y) (Scalar.select (own m t) (x1 y) (x2 y)) := by
  frame_out
  rw [word_read]
  unfold_payloads
  pointwise [own, mom, mom2, step, k]

/-- The tile of the first moment. -/
theorem tile7 :
    (outsAt0 m (ok m) c t).2.2.1 y = mom (iblk m (ok m) c 3 t y) (gtile m c t y) := by
  unfold outsAt0 gtile
  dsimp only
  exact out7 m c t y _ _ _ _ _

/-- The tile of the second moment, of any blocks. -/
theorem out8 :
    out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom2 (x4 y) (Scalar.select (own m t) (x1 y) (x2 y)) := by
  frame_out
  rw [word_read]
  unfold_payloads
  pointwise [own, mom, mom2, step, k]

/-- The tile of the second moment. -/
theorem tile8 :
    (outsAt0 m (ok m) c t).2.2.2 y = mom2 (iblk m (ok m) c 4 t y) (gtile m c t y) := by
  unfold outsAt0 gtile
  dsimp only
  exact out8 m c t y _ _ _ _ _

/-- The tile of the change, of any blocks. -/
theorem out6 :
    out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = step (x0 y) (mom (x3 y) (Scalar.select (own m t) (x1 y) (x2 y))) (mom2 (x4 y) (Scalar.select (own m t) (x1 y) (x2 y))) := by
  frame_out
  rw [word_read]
  unfold_payloads
  pointwise [own, mom, mom2, step, k]

/-- The tile of the change. -/
theorem tile6 :
    (outsAt0 m (ok m) c t).2.1 y = step (iblk m (ok m) c 0 t y) (mom (iblk m (ok m) c 3 t y) (gtile m c t y)) (mom2 (iblk m (ok m) c 4 t y) (gtile m c t y)) := by
  unfold outsAt0 gtile
  dsimp only
  exact out6 m c t y _ _ _ _ _

/-- Where a block of the whole weight lies. -/
theorem ix_out (t : Fin grid0.N) : cc0_transform_5 (grid0.coords t) = ![(grid0.coords t 0).val, (grid0.coords t 1).val * 4 + (grid0.coords t 2).val, 0] :=
  (by decide +kernel : ∀ t : Fin grid0.N, cc0_transform_5 (grid0.coords t) = ![(grid0.coords t 0).val, (grid0.coords t 1).val * 4 + (grid0.coords t 2).val, 0]) t

/-- Where the own half's block lies, if it is the one used. -/
theorem ix_own (t : Fin grid0.N) (h : own m t = 1#1) : ((cfgM m (ok m)).win 1).index t = ![(grid0.coords t 0).val, (grid0.coords t 2).val, 0] := by
  have e : ((cfgM m (ok m)).win 1).index t = ![(BitVec.ofNat 32 (grid0.coords t 0).val).toNat, (Scalar.select (own m t) (BitVec.ofNat 32 (grid0.coords t 2).val) 0#32).toNat, (0#32).toNat] := by
    show cc0_transform_1 inb_S1_S1_0 numel1_S1 (tbl m) (grid0.coords t) = _
    unfold cc0_transform_1
    dsimp only
    rw [word_at]
    rfl
  rw [e, h]
  exact (by decide +kernel : ∀ t : Fin grid0.N, (![(BitVec.ofNat 32 (grid0.coords t 0).val).toNat, (Scalar.select 1#1 (BitVec.ofNat 32 (grid0.coords t 2).val) 0#32).toNat, (0#32).toNat] : Fin 3 → Nat)
    = ![(grid0.coords t 0).val, (grid0.coords t 2).val, 0]) t

/-- Where the other half's block lies, if it is the one used. -/
theorem ix_other (t : Fin grid0.N) (h : own m t = 0#1) : ((cfgM m (ok m)).win 2).index t = ![(grid0.coords t 0).val, (grid0.coords t 2).val, 0] := by
  have e : ((cfgM m (ok m)).win 2).index t = ![(BitVec.ofNat 32 (grid0.coords t 0).val).toNat, (Scalar.select (own m t) 0#32 (BitVec.ofNat 32 (grid0.coords t 2).val)).toNat, (0#32).toNat] := by
    show cc0_transform_2 inb_S1_S1_0 numel1_S1 (tbl m) (grid0.coords t) = _
    unfold cc0_transform_2
    dsimp only
    rw [word_at]
    rfl
  rw [e, h]
  exact (by decide +kernel : ∀ t : Fin grid0.N, (![(BitVec.ofNat 32 (grid0.coords t 0).val).toNat, (Scalar.select 0#1 0#32 (BitVec.ofNat 32 (grid0.coords t 2).val)).toNat, (0#32).toNat] : Fin 3 → Nat)
    = ![(grid0.coords t 0).val, (grid0.coords t 2).val, 0]) t

/-- Every block of the whole weight is some grid point's. -/
theorem surj : ∀ β : (a : Fin 3) → Fin ((S4x2048x1408.size a + S1x256x1408.size a - 1) / S1x256x1408.size a), ∃ i : grid0.Coords, ∀ a, cc0_transform_5 i a = β a := by
  decide +kernel

theorem cov5 : ((cfgM m (ok m)).win 5).Covers :=
  ((cfgM m (ok m)).win 5).covers_of_indexMap_surj rfl (by decide : ∀ a : Fin 3, 0 < S1x256x1408.size a) fun β => surj β
theorem cov6 : ((cfgM m (ok m)).win 6).Covers :=
  ((cfgM m (ok m)).win 6).covers_of_indexMap_surj rfl (by decide : ∀ a : Fin 3, 0 < S1x256x1408.size a) fun β => surj β
theorem cov7 : ((cfgM m (ok m)).win 7).Covers :=
  ((cfgM m (ok m)).win 7).covers_of_indexMap_surj rfl (by decide : ∀ a : Fin 3, 0 < S1x256x1408.size a) fun β => surj β
theorem cov8 : ((cfgM m (ok m)).win 8).Covers :=
  ((cfgM m (ok m)).win 8).covers_of_indexMap_surj rfl (by decide : ∀ a : Fin 3, 0 < S1x256x1408.size a) fun β => surj β

/-- The gradient at an index of the whole weight: the own half's or the other's. -/
def grad (w : BitVec 32) (mine theirs : S4x1024x1408.Idx → EReal) (y : S4x2048x1408.Idx) : EReal :=
  Scalar.select (Scalar.cmpi .eq (BitVec.ofNat 32 ((y 1).val / 1024)) w)
    (mine (ix3 (y 0) ⟨(y 1).val % 1024, Nat.mod_lt _ (by decide)⟩ (y 2)))
    (theirs (ix3 (y 0) ⟨(y 1).val % 1024, Nat.mod_lt _ (by decide)⟩ (y 2)))

/-- The gradient of the whole weight, of the argument arrays. -/
def G5 : S4x2048x1408.Idx → EReal := grad (m ((c.tc : Thread nD τ).loc main_arg0) (ix1 0)) (m ((c.tc : Thread nD τ).loc main_arg2)) (m ((c.tc : Thread nD τ).loc main_arg3))

/-- The first moment after the step, of the argument arrays. -/
def G7 : S4x2048x1408.Idx → EReal := fun z => mom (m ((c.tc : Thread nD τ).loc main_arg4) z) (G5 m c z)

/-- The second moment after the step, of the argument arrays. -/
def G8 : S4x2048x1408.Idx → EReal := fun z => mom2 (m ((c.tc : Thread nD τ).loc main_arg5) z) (G5 m c z)

/-- The change of the weight, of the argument arrays. -/
def G6 : S4x2048x1408.Idx → EReal := fun z => step (m ((c.tc : Thread nD τ).loc main_arg1) z) (G7 m c z) (G8 m c z)

/-- `z` is where the index `y` of a grid point's block lies in the whole weight. -/
def At (t : Fin grid0.N) (y : S1x256x1408.Idx) (z : S4x2048x1408.Idx) : Prop :=
  (z 0).val = (grid0.coords t 0).val + (y 0).val ∧ (z 1).val = ((grid0.coords t 1).val * 4 + (grid0.coords t 2).val) * 256 + (y 1).val ∧ (z 2).val = (y 2).val

/-- Where the blocks of the whole weight lie. -/
theorem at5 : At t y ((((cfgM m (ok m)).win 5).blk t).view.emb y) := by
  have e : ((cfgM m (ok m)).win 5).index t = ![(grid0.coords t 0).val, (grid0.coords t 1).val * 4 + (grid0.coords t 2).val, 0] := ix_out t
  refine ⟨?_, ?_, ?_⟩ <;> blk_point [e]

/-- An index is its three coordinates. -/
theorem ext_whole {z z' : S4x2048x1408.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- An index is its three coordinates. -/
theorem ext_half {z z' : S4x1024x1408.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- One index lies in one place. -/
theorem At.eq {t : Fin grid0.N} {y : S1x256x1408.Idx} {z z' : S4x2048x1408.Idx} (h : At t y z) (h' : At t y z') : z = z' := by
  obtain ⟨a, b, c⟩ := h
  obtain ⟨a', b', c'⟩ := h'
  exact ext_whole (a.trans a'.symm) (b.trans b'.symm) (c.trans c'.symm)

/-- The block of window 0, read off its array. -/
theorem iblk0 (z : S4x2048x1408.Idx) (h : At t y z) : iblk m (ok m) c 0 t y = m ((c.tc : Thread nD τ).loc main_arg1) z :=
  congrArg (fun z : S4x2048x1408.Idx => m ((c.tc : Thread nD τ).loc main_arg1) z) ((at5 m t y).eq h)

/-- The block of window 3, read off its array. -/
theorem iblk3 (z : S4x2048x1408.Idx) (h : At t y z) : iblk m (ok m) c 3 t y = m ((c.tc : Thread nD τ).loc main_arg4) z :=
  congrArg (fun z : S4x2048x1408.Idx => m ((c.tc : Thread nD τ).loc main_arg4) z) ((at5 m t y).eq h)

/-- The block of window 4, read off its array. -/
theorem iblk4 (z : S4x2048x1408.Idx) (h : At t y z) : iblk m (ok m) c 4 t y = m ((c.tc : Thread nD τ).loc main_arg5) z :=
  congrArg (fun z : S4x2048x1408.Idx => m ((c.tc : Thread nD τ).loc main_arg5) z) ((at5 m t y).eq h)

/-- `z` is where the index `y` of a grid point's block lies in its half of the weight. -/
def AtHalf (t : Fin grid0.N) (y : S1x256x1408.Idx) (z : S4x1024x1408.Idx) : Prop :=
  (z 0).val = (grid0.coords t 0).val + (y 0).val ∧ (z 1).val = (grid0.coords t 2).val * 256 + (y 1).val ∧ (z 2).val = (y 2).val

/-- One index lies in one place. -/
theorem AtHalf.eq {t : Fin grid0.N} {y : S1x256x1408.Idx} {z z' : S4x1024x1408.Idx} (h : AtHalf t y z) (h' : AtHalf t y z') : z = z' := by
  obtain ⟨a, b, c⟩ := h
  obtain ⟨a', b', c'⟩ := h'
  exact ext_half (a.trans a'.symm) (b.trans b'.symm) (c.trans c'.symm)

/-- Where window 1's block lies, at the grid points that use it. -/
theorem at1 (hb : own m t = 1#1) : AtHalf t y ((((cfgM m (ok m)).win 1).blk t).view.emb y) := by
  have e := ix_own m t hb
  refine ⟨?_, ?_, ?_⟩ <;> blk_point [e]

/-- The block of window 1, read off its array. -/
theorem iblk1 (hb : own m t = 1#1) (z : S4x1024x1408.Idx) (h : AtHalf t y z) : iblk m (ok m) c 1 t y = m ((c.tc : Thread nD τ).loc main_arg2) z :=
  congrArg (fun z : S4x1024x1408.Idx => m ((c.tc : Thread nD τ).loc main_arg2) z) ((at1 m t y hb).eq h)

/-- Where window 2's block lies, at the grid points that use it. -/
theorem at2 (hb : own m t = 0#1) : AtHalf t y ((((cfgM m (ok m)).win 2).blk t).view.emb y) := by
  have e := ix_other m t hb
  refine ⟨?_, ?_, ?_⟩ <;> blk_point [e]

/-- The block of window 2, read off its array. -/
theorem iblk2 (hb : own m t = 0#1) (z : S4x1024x1408.Idx) (h : AtHalf t y z) : iblk m (ok m) c 2 t y = m ((c.tc : Thread nD τ).loc main_arg3) z :=
  congrArg (fun z : S4x1024x1408.Idx => m ((c.tc : Thread nD τ).loc main_arg3) z) ((at2 m t y hb).eq h)

/-- The gradient's tile, read off the halves. -/
theorem gtile_at (z : S4x2048x1408.Idx) (h : At t y z) : gtile m c t y = G5 m c z := by
  obtain ⟨a, b, d⟩ := h
  have h1 : (grid0.coords t 1).val < 2 := (grid0.coords t 1).isLt
  have h2 : (grid0.coords t 2).val < 4 := (grid0.coords t 2).isLt
  have hy : (y 1).val < 256 := (y 1).isLt
  have eq : (z 1).val / 1024 = (grid0.coords t 1).val := by omega
  have er : (z 1).val % 1024 = (grid0.coords t 2).val * 256 + (y 1).val := by omega
  have hw : word m = m ((c.tc : Thread nD τ).loc main_arg0) (ix1 0) := by
    obtain rfl : c = 0 := Subsingleton.elim _ _
    rfl
  unfold gtile G5 grad
  rw [eq, ← hw]
  exact select_congr _ _ _ _ _ (fun hb => iblk1 m c t y hb _ ⟨a, er, d⟩) fun hb => iblk2 m c t y hb _ ⟨a, er, d⟩

/-- The gradient after the run. -/
theorem final5 : (dats m (ok m) 0 c).arrAt 5 (cfgM m (ok m)).N = G5 m c := by
  refine (dats m (ok m) 0 c).arrAt_eq_of_covers 5 _ (cov5 m) fun t hf y => ?_
  have z := at5 m t y
  blk_simp
  rw [after0_5]
  exact (tile5 m c t y).trans (gtile_at m c t y _ z)

/-- The first moment after the run. -/
theorem final7 : (dats m (ok m) 0 c).arrAt 7 (cfgM m (ok m)).N = G7 m c := by
  refine (dats m (ok m) 0 c).arrAt_eq_of_covers 7 _ (cov7 m) fun t hf y => ?_
  have z := at5 m t y
  blk_simp
  rw [after0_7]
  exact (tile7 m c t y).trans (congrArg₂ mom (iblk3 m c t y _ z) (gtile_at m c t y _ z))

/-- The second moment after the run. -/
theorem final8 : (dats m (ok m) 0 c).arrAt 8 (cfgM m (ok m)).N = G8 m c := by
  refine (dats m (ok m) 0 c).arrAt_eq_of_covers 8 _ (cov8 m) fun t hf y => ?_
  have z := at5 m t y
  blk_simp
  rw [after0_8]
  exact (tile8 m c t y).trans (congrArg₂ mom2 (iblk4 m c t y _ z) (gtile_at m c t y _ z))

/-- The change after the run. -/
theorem final6 : (dats m (ok m) 0 c).arrAt 6 (cfgM m (ok m)).N = G6 m c := by
  refine (dats m (ok m) 0 c).arrAt_eq_of_covers 6 _ (cov6 m) fun t hf y => ?_
  have z := at5 m t y
  blk_simp
  rw [after0_6]
  exact (tile6 m c t y).trans (by rw [iblk0 m c t y _ z, iblk3 m c t y _ z, iblk4 m c t y _ z, gtile_at m c t y _ z]; rfl)

end

section
open Cert.AdamUpRefIdeal Cert.AdamUpRefIdeal.Gen

/-- The reference's gradient at an index. -/
theorem ref_grad (w : IVec S1 32) (mine theirs : FVec Ideal S4x1024x1408 .f32) (i : S4x2048x1408.Idx) :
    concatenate S4x2048x1408 1 [⟨S4x1024x1408, (select (broadcastInDim S4x1024x1408 ![] bcast_S_S4x1024x1408 (cmpi .eq (shapeCast _ w shapeCasts_S1_S_) (constantI S_ 32 0#32))) mine theirs)⟩, ⟨S4x1024x1408, (select (broadcastInDim S4x1024x1408 ![] bcast_S_S4x1024x1408 (cmpi .eq (shapeCast _ w shapeCasts_S1_S_) (constantI S_ 32 1#32))) mine theirs)⟩] concatenates_S4x1024x1408_S4x1024x1408_S4x2048x1408_d1 i
      = grad (w (ix1 0)) mine theirs i := by
  obtain ⟨l, r, q, rfl⟩ : ∃ (l : Fin 4) (r : Fin 2048) (q : Fin 1408), i = ix3 l r q := ⟨i 0, i 1, i 2, eq_ix3 i⟩
  pointwise [grad]
  split_ifs with h
  · rw [cmpi_comm, show r.val / 1024 = 0 by omega]
    congr 3 <;> exact Fin.ext (by show r.val = r.val % 1024; omega)
  · have hr := r.isLt
    rw [cmpi_comm, show r.val / 1024 = 1 by omega]
    congr 3 <;> exact Fin.ext (by show r.val - 1024 = r.val % 1024; omega)
  · rename_i h'
    exact absurd rfl h'

end

/-- THE CLAIM: both programs run, and end with equal results. -/
theorem alg : Cert.algebraic_AdamUpIdeal_AdamUpRefIdeal := by
  intro m g m' g' hpre hagree
  refine ⟨fun c => G5 m c, fun c => G6 m c, fun c => G7 m c, fun c => G8 m c, ?_, ?_⟩
  · refine (θ_run _ _ _).mono (fun _ h c => ?_) (θ_run_and (Cert.AdamUpIdeal.Gen.run_main m g (ok m)) (Cert.AdamUpIdeal.Gen.unchanged m g (ok m)))
    exact ⟨((h.1 c).1 5).trans (final5 m c), ((h.1 c).1 6).trans (final6 m c), ((h.1 c).1 7).trans (final7 m c), ((h.1 c).1 8).trans (final8 m c), h.2 c⟩
  · refine (θ_run _ _ _).mono (fun _ h c => ?_) (Cert.AdamUpRefIdeal.Value.run m' g')
    obtain ⟨a0, a1, a2, a3, a4, a5⟩ := hagree c
    refine ⟨(h c).1.trans ?_, (h c).2.1.trans ?_, (h c).2.2.1.trans ?_, (h c).2.2.2.1.trans ?_, (h c).2.2.2.2⟩
    · rw [a0, a2, a3]
      exact funext fun i => ref_grad _ _ _ i
    · rw [a0, a1, a2, a3, a4, a5]
      exact funext fun i => (ref_step _ _ _ _ _ i).trans (by rw [ref_grad]; rfl)
    · rw [a0, a2, a3, a4]
      exact funext fun i => (ref_mom _ _ _ i).trans (by rw [ref_grad]; rfl)
    · rw [a0, a2, a3, a5]
      exact funext fun i => (ref_sq _ _ _ i).trans (by rw [ref_grad]; rfl)

/-- The same of the kernel. -/
theorem ok_p {F : FTy → Type} [FloatOps F] (m : (ℓ : Loc Cert.AdamUp.nD Cert.AdamUp.τ Cert.AdamUp.sig) → Buf (Elt F) ℓ) : Cert.AdamUp.Gen.Ok m := by
  refine ⟨fun i => ⟨?_, .inl rfl⟩, fun i => ⟨?_, .inl rfl⟩⟩
  · unfold Cert.AdamUp.cc0_transform_1
    exact inside1 i _
  · unfold Cert.AdamUp.cc0_transform_2
    exact inside2 i _

theorem frame_p : Cert.quiescent_AdamUp := fun m ρ _ => Cert.AdamUp.Gen.frame m ρ (ok_p m)
theorem frame_pi : Cert.quiescent_AdamUpIdeal := fun m ρ _ => Cert.AdamUpIdeal.Gen.frame m ρ (ok m)
theorem frame_ri : Cert.quiescent_AdamUpRefIdeal := fun m ρ _ =>
  (θ_run Cert.AdamUpRefIdeal.defs _ _).mono (fun r h => ⟨fun c => (h c).2.2.2.2,
      Idealize.ShloMosaic.sem_eq_zero_of_no_sems (by decide) r.2⟩)
    (Cert.AdamUpRefIdeal.Value.run (F := Ideal) m ρ)

end Cert.AdamUpProof

end
-- ==== Proof.AdamDown.lean ====
/- The optimiser's step of w_down: the kernel's gradient, change and moments are those of AdamW on the gradient put together from its two halves. -/
module

public import proofs.«01_k».proof.Proof.Gen.AdamDownIdeal.Frame
public import proofs.«01_k».proof.Proof.Gen.AdamDownRefIdeal.Run
public import proofs.«01_k».proof.Proof.Gen.AdamDown.Frame
public import proofs.«01_k».proof.Defs
public import proofs.«01_k».proof.Proof.AdamStep

@[expose] public section

set_option maxRecDepth 16384

noncomputable section

namespace Cert.AdamDownProof

open Idealize.ShloMosaic Idealize.ShloMosaic.TcCoe Idealize.SL.Sem
open Idealize.ShloMosaic.Pipeline (Dat)
open Cert.AdamStep

section
open Cert.AdamDownIdeal Cert.AdamDownIdeal.Gen

variable (m : (ℓ : Loc nD τ sig) → Buf (Elt Ideal) ℓ)

/-- Whatever is chosen, window 1's block lies inside its half. -/
theorem inside1 : ∀ (i : grid0.Coords) (b : BitVec 1) (a : Fin 3),
    ((![(BitVec.ofNat 32 (i 0).val).toNat, (Scalar.select b (BitVec.ofNat 32 (i 2).val) 0#32).toNat, (0#32).toNat] : Fin 3 → Nat) a + 1) * S1x176x2048.size a ≤ S4x704x2048.size a := by decide +kernel

/-- Whatever is chosen, window 2's block lies inside its half. -/
theorem inside2 : ∀ (i : grid0.Coords) (b : BitVec 1) (a : Fin 3),
    ((![(BitVec.ofNat 32 (i 0).val).toNat, (Scalar.select b 0#32 (BitVec.ofNat 32 (i 2).val)).toNat, (0#32).toNat] : Fin 3 → Nat) a + 1) * S1x176x2048.size a ≤ S4x704x2048.size a := by decide +kernel

/-- The table's word names blocks inside the halves, whatever it is. -/
theorem ok : Ok m := by
  refine ⟨fun i => ⟨?_, .inl rfl⟩, fun i => ⟨?_, .inl rfl⟩⟩
  · unfold cc0_transform_1
    exact inside1 i _
  · unfold cc0_transform_2
    exact inside2 i _

variable (c : Dev nD) (t : Fin (cfgM m (ok m)).N) (y : S1x176x2048.Idx) (x0 x1 x2 x3 x4 : Vec Ideal S1x176x2048 .f32)

/-- The table's word. -/
def word : BitVec 32 := tbl m 0 (ix1 0)

/-- Whether the half of a grid point is the chip's own. -/
def own (t : Fin grid0.N) : BitVec 1 := Scalar.cmpi .eq (BitVec.ofNat 32 (grid0.coords t 1).val) (word m)

/-- The body reads the table's word. -/
theorem word_read (h) : View.readAt (Elt Ideal) (View.whole main_arg0) (Rect.unit ![0] ![1] inb_S1_S1_0).toLoadRect (tbl m 0) (Shape.Idx.first h) = word m :=
  congrArg (fun i : S1.Idx => tbl m 0 i) (one_idx _ _)

/-- The index maps read the same word. -/
theorem word_at : (tbl m).at 0 (Rect.unit (s := S1) ![0] S1.size inb_S1_S1_0) numel1_S1 = word m :=
  congrArg (fun i : S1.Idx => tbl m 0 i) (one_idx _ _)

/-- The gradient's tile: the own half's or the other's. -/
def gtile : EReal :=
  Scalar.select (own m t) (iblk m (ok m) c 1 t y) (iblk m (ok m) c 2 t y)

/-- The tile of the gradient, of any blocks. -/
theorem out5 :
    out0_A_5 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = Scalar.select (own m t) (x1 y) (x2 y) := by
  frame_out
  rw [word_read]
  unfold_payloads
  pointwise [own, mom, mom2, step, k]

/-- The tile of the gradient. -/
theorem tile5 :
    (outsAt0 m (ok m) c t).1 y = gtile m c t y := by
  unfold outsAt0 gtile
  dsimp only
  exact out5 m c t y _ _ _ _ _

/-- The tile of the first moment, of any blocks. -/
theorem out7 :
    out0_A_7 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom (x3 y) (Scalar.select (own m t) (x1 y) (x2 y)) := by
  frame_out
  rw [word_read]
  unfold_payloads
  pointwise [own, mom, mom2, step, k]

/-- The tile of the first moment. -/
theorem tile7 :
    (outsAt0 m (ok m) c t).2.2.1 y = mom (iblk m (ok m) c 3 t y) (gtile m c t y) := by
  unfold outsAt0 gtile
  dsimp only
  exact out7 m c t y _ _ _ _ _

/-- The tile of the second moment, of any blocks. -/
theorem out8 :
    out0_A_8 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = mom2 (x4 y) (Scalar.select (own m t) (x1 y) (x2 y)) := by
  frame_out
  rw [word_read]
  unfold_payloads
  pointwise [own, mom, mom2, step, k]

/-- The tile of the second moment. -/
theorem tile8 :
    (outsAt0 m (ok m) c t).2.2.2 y = mom2 (iblk m (ok m) c 4 t y) (gtile m c t y) := by
  unfold outsAt0 gtile
  dsimp only
  exact out8 m c t y _ _ _ _ _

/-- The tile of the change, of any blocks. -/
theorem out6 :
    out0_A_6 c (grid0.coords t) _ (hs0_0 m (ok m) t) _ (hs0_1 m (ok m) t) _ (hs0_2 m (ok m) t) _ (hs0_3 m (ok m) t) _ (hs0_4 m (ok m) t) _ (hs0_5 m (ok m) t) _ (hs0_6 m (ok m) t) _ (hs0_7 m (ok m) t) _ (hs0_8 m (ok m) t) x0 x1 x2 x3 x4 (tbl m 0) y
      = step (x0 y) (mom (x3 y) (Scalar.select (own m t) (x1 y) (x2 y))) (mom2 (x4 y) (Scalar.select (own m t) (x1 y) (x2 y))) := by
  frame_out
  rw [word_read]
  unfold_payloads
  pointwise [own, mom, mom2, step, k]

/-- The tile of the change. -/
theorem tile6 :
    (outsAt0 m (ok m) c t).2.1 y = step (iblk m (ok m) c 0 t y) (mom (iblk m (ok m) c 3 t y) (gtile m c t y)) (mom2 (iblk m (ok m) c 4 t y) (gtile m c t y)) := by
  unfold outsAt0 gtile
  dsimp only
  exact out6 m c t y _ _ _ _ _

/-- Where a block of the whole weight lies. -/
theorem ix_out (t : Fin grid0.N) : cc0_transform_5 (grid0.coords t) = ![(grid0.coords t 0).val, (grid0.coords t 1).val * 4 + (grid0.coords t 2).val, 0] :=
  (by decide +kernel : ∀ t : Fin grid0.N, cc0_transform_5 (grid0.coords t) = ![(grid0.coords t 0).val, (grid0.coords t 1).val * 4 + (grid0.coords t 2).val, 0]) t

/-- Where the own half's block lies, if it is the one used. -/
theorem ix_own (t : Fin grid0.N) (h : own m t = 1#1) : ((cfgM m (ok m)).win 1).index t = ![(grid0.coords t 0).val, (grid0.coords t 2).val, 0] := by
  have e : ((cfgM m (ok m)).win 1).index t = ![(BitVec.ofNat 32 (grid0.coords t 0).val).toNat, (Scalar.select (own m t) (BitVec.ofNat 32 (grid0.coords t 2).val) 0#32).toNat, (0#32).toNat] := by
    show cc0_transform_1 inb_S1_S1_0 numel1_S1 (tbl m) (grid0.coords t) = _
    unfold cc0_transform_1
    dsimp only
    rw [word_at]
    rfl
  rw [e, h]
  exact (by decide +kernel : ∀ t : Fin grid0.N, (![(BitVec.ofNat 32 (grid0.coords t 0).val).toNat, (Scalar.select 1#1 (BitVec.ofNat 32 (grid0.coords t 2).val) 0#32).toNat, (0#32).toNat] : Fin 3 → Nat)
    = ![(grid0.coords t 0).val, (grid0.coords t 2).val, 0]) t

/-- Where the other half's block lies, if it is the one used. -/
theorem ix_other (t : Fin grid0.N) (h : own m t = 0#1) : ((cfgM m (ok m)).win 2).index t = ![(grid0.coords t 0).val, (grid0.coords t 2).val, 0] := by
  have e : ((cfgM m (ok m)).win 2).index t = ![(BitVec.ofNat 32 (grid0.coords t 0).val).toNat, (Scalar.select (own m t) 0#32 (BitVec.ofNat 32 (grid0.coords t 2).val)).toNat, (0#32).toNat] := by
    show cc0_transform_2 inb_S1_S1_0 numel1_S1 (tbl m) (grid0.coords t) = _
    unfold cc0_transform_2
    dsimp only
    rw [word_at]
    rfl
  rw [e, h]
  exact (by decide +kernel : ∀ t : Fin grid0.N, (![(BitVec.ofNat 32 (grid0.coords t 0).val).toNat, (Scalar.select 0#1 0#32 (BitVec.ofNat 32 (grid0.coords t 2).val)).toNat, (0#32).toNat] : Fin 3 → Nat)
    = ![(grid0.coords t 0).val, (grid0.coords t 2).val, 0]) t

/-- Every block of the whole weight is some grid point's. -/
theorem surj : ∀ β : (a : Fin 3) → Fin ((S4x1408x2048.size a + S1x176x2048.size a - 1) / S1x176x2048.size a), ∃ i : grid0.Coords, ∀ a, cc0_transform_5 i a = β a := by
  decide +kernel

theorem cov5 : ((cfgM m (ok m)).win 5).Covers :=
  ((cfgM m (ok m)).win 5).covers_of_indexMap_surj rfl (by decide : ∀ a : Fin 3, 0 < S1x176x2048.size a) fun β => surj β
theorem cov6 : ((cfgM m (ok m)).win 6).Covers :=
  ((cfgM m (ok m)).win 6).covers_of_indexMap_surj rfl (by decide : ∀ a : Fin 3, 0 < S1x176x2048.size a) fun β => surj β
theorem cov7 : ((cfgM m (ok m)).win 7).Covers :=
  ((cfgM m (ok m)).win 7).covers_of_indexMap_surj rfl (by decide : ∀ a : Fin 3, 0 < S1x176x2048.size a) fun β => surj β
theorem cov8 : ((cfgM m (ok m)).win 8).Covers :=
  ((cfgM m (ok m)).win 8).covers_of_indexMap_surj rfl (by decide : ∀ a : Fin 3, 0 < S1x176x2048.size a) fun β => surj β

/-- The gradient at an index of the whole weight: the own half's or the other's. -/
def grad (w : BitVec 32) (mine theirs : S4x704x2048.Idx → EReal) (y : S4x1408x2048.Idx) : EReal :=
  Scalar.select (Scalar.cmpi .eq (BitVec.ofNat 32 ((y 1).val / 704)) w)
    (mine (ix3 (y 0) ⟨(y 1).val % 704, Nat.mod_lt _ (by decide)⟩ (y 2)))
    (theirs (ix3 (y 0) ⟨(y 1).val % 704, Nat.mod_lt _ (by decide)⟩ (y 2)))

/-- The gradient of the whole weight, of the argument arrays. -/
def G5 : S4x1408x2048.Idx → EReal := grad (m ((c.tc : Thread nD τ).loc main_arg0) (ix1 0)) (m ((c.tc : Thread nD τ).loc main_arg2)) (m ((c.tc : Thread nD τ).loc main_arg3))

/-- The first moment after the step, of the argument arrays. -/
def G7 : S4x1408x2048.Idx → EReal := fun z => mom (m ((c.tc : Thread nD τ).loc main_arg4) z) (G5 m c z)

/-- The second moment after the step, of the argument arrays. -/
def G8 : S4x1408x2048.Idx → EReal := fun z => mom2 (m ((c.tc : Thread nD τ).loc main_arg5) z) (G5 m c z)

/-- The change of the weight, of the argument arrays. -/
def G6 : S4x1408x2048.Idx → EReal := fun z => step (m ((c.tc : Thread nD τ).loc main_arg1) z) (G7 m c z) (G8 m c z)

/-- `z` is where the index `y` of a grid point's block lies in the whole weight. -/
def At (t : Fin grid0.N) (y : S1x176x2048.Idx) (z : S4x1408x2048.Idx) : Prop :=
  (z 0).val = (grid0.coords t 0).val + (y 0).val ∧ (z 1).val = ((grid0.coords t 1).val * 4 + (grid0.coords t 2).val) * 176 + (y 1).val ∧ (z 2).val = (y 2).val

/-- Where the blocks of the whole weight lie. -/
theorem at5 : At t y ((((cfgM m (ok m)).win 5).blk t).view.emb y) := by
  have e : ((cfgM m (ok m)).win 5).index t = ![(grid0.coords t 0).val, (grid0.coords t 1).val * 4 + (grid0.coords t 2).val, 0] := ix_out t
  refine ⟨?_, ?_, ?_⟩ <;> blk_point [e]

/-- An index is its three coordinates. -/
theorem ext_whole {z z' : S4x1408x2048.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- An index is its three coordinates. -/
theorem ext_half {z z' : S4x704x2048.Idx} (h0 : (z 0).val = (z' 0).val) (h1 : (z 1).val = (z' 1).val) (h2 : (z 2).val = (z' 2).val) : z = z' := by
  rw [eq_ix3 z, eq_ix3 z', show z 0 = z' 0 from Fin.ext h0, show z 1 = z' 1 from Fin.ext h1, show z 2 = z' 2 from Fin.ext h2]

/-- One index lies in one place. -/
theorem At.eq {t : Fin grid0.N} {y : S1x176x2048.Idx} {z z' : S4x1408x2048.Idx} (h : At t y z) (h' : At t y z') : z = z' := by
  obtain ⟨a, b, c⟩ := h
  obtain ⟨a', b', c'⟩ := h'
  exact ext_whole (a.trans a'.symm) (b.trans b'.symm) (c.trans c'.symm)

/-- The block of window 0, read off its array. -/
theorem iblk0 (z : S4x1408x2048.Idx) (h : At t y z) : iblk m (ok m) c 0 t y = m ((c.tc : Thread nD τ).loc main_arg1) z :=
  congrArg (fun z : S4x1408x2048.Idx => m ((c.tc : Thread nD τ).loc main_arg1) z) ((at5 m t y).eq h)

/-- The block of window 3, read off its array. -/
theorem iblk3 (z : S4x1408x2048.Idx) (h : At t y z) : iblk m (ok m) c 3 t y = m ((c.tc : Thread nD τ).loc main_arg4) z :=
  congrArg (fun z : S4x1408x2048.Idx => m ((c.tc : Thread nD τ).loc main_arg4) z) ((at5 m t y).eq h)

/-- The block of window 4, read off its array. -/
theorem iblk4 (z : S4x1408x2048.Idx) (h : At t y z) : iblk m (ok m) c 4 t y = m ((c.tc : Thread nD τ).loc main_arg5) z :=
  congrArg (fun z : S4x1408x2048.Idx => m ((c.tc : Thread nD τ).loc main_arg5) z) ((at5 m t y).eq h)

/-- `z` is where the index `y` of a grid point's block lies in its half of the weight. -/
def AtHalf (t : Fin grid0.N) (y : S1x176x2048.Idx) (z : S4x704x2048.Idx) : Prop :=
  (z 0).val = (grid0.coords t 0).val + (y 0).val ∧ (z 1).val = (grid0.coords t 2).val * 176 + (y 1).val ∧ (z 2).val = (y 2).val

/-- One index lies in one place. -/
theorem AtHalf.eq {t : Fin grid0.N} {y : S1x176x2048.Idx} {z z' : S4x704x2048.Idx} (h : AtHalf t y z) (h' : AtHalf t y z') : z = z' := by
  obtain ⟨a, b, c⟩ := h
  obtain ⟨a', b', c'⟩ := h'
  exact ext_half (a.trans a'.symm) (b.trans b'.symm) (c.trans c'.symm)

/-- Where window 1's block lies, at the grid points that use it. -/
theorem at1 (hb : own m t = 1#1) : AtHalf t y ((((cfgM m (ok m)).win 1).blk t).view.emb y) := by
  have e := ix_own m t hb
  refine ⟨?_, ?_, ?_⟩ <;> blk_point [e]

/-- The block of window 1, read off its array. -/
theorem iblk1 (hb : own m t = 1#1) (z : S4x704x2048.Idx) (h : AtHalf t y z) : iblk m (ok m) c 1 t y = m ((c.tc : Thread nD τ).loc main_arg2) z :=
  congrArg (fun z : S4x704x2048.Idx => m ((c.tc : Thread nD τ).loc main_arg2) z) ((at1 m t y hb).eq h)

/-- Where window 2's block lies, at the grid points that use it. -/
theorem at2 (hb : own m t = 0#1) : AtHalf t y ((((cfgM m (ok m)).win 2).blk t).view.emb y) := by
  have e := ix_other m t hb
  refine ⟨?_, ?_, ?_⟩ <;> blk_point [e]

/-- The block of window 2, read off its array. -/
theorem iblk2 (hb : own m t = 0#1) (z : S4x704x2048.Idx) (h : AtHalf t y z) : iblk m (ok m) c 2 t y = m ((c.tc : Thread nD τ).loc main_arg3) z :=
  congrArg (fun z : S4x704x2048.Idx => m ((c.tc : Thread nD τ).loc main_arg3) z) ((at2 m t y hb).eq h)

/-- The gradient's tile, read off the halves. -/
theorem gtile_at (z : S4x1408x2048.Idx) (h : At t y z) : gtile m c t y = G5 m c z := by
  obtain ⟨a, b, d⟩ := h
  have h1 : (grid0.coords t 1).val < 2 := (grid0.coords t 1).isLt
  have h2 : (grid0.coords t 2).val < 4 := (grid0.coords t 2).isLt
  have hy : (y 1).val < 176 := (y 1).isLt
  have eq : (z 1).val / 704 = (grid0.coords t 1).val := by omega
  have er : (z 1).val % 704 = (grid0.coords t 2).val * 176 + (y 1).val := by omega
  have hw : word m = m ((c.tc : Thread nD τ).loc main_arg0) (ix1 0) := by
    obtain rfl : c = 0 := Subsingleton.elim _ _
    rfl
  unfold gtile G5 grad
  rw [eq, ← hw]
  exact select_congr _ _ _ _ _ (fun hb => iblk1 m c t y hb _ ⟨a, er, d⟩) fun hb => iblk2 m c t y hb _ ⟨a, er, d⟩

/-- The gradient after the run. -/
theorem final5 : (dats m (ok m) 0 c).arrAt 5 (cfgM m (ok m)).N = G5 m c := by
  refine (dats m (ok m) 0 c).arrAt_eq_of_covers 5 _ (cov5 m) fun t hf y => ?_
  have z := at5 m t y
  blk_simp
  rw [after0_5]
  exact (tile5 m c t y).trans (gtile_at m c t y _ z)

/-- The first moment after the run. -/
theorem final7 : (dats m (ok m) 0 c).arrAt 7 (cfgM m (ok m)).N = G7 m c := by
  refine (dats m (ok m) 0 c).arrAt_eq_of_covers 7 _ (cov7 m) fun t hf y => ?_
  have z := at5 m t y
  blk_simp
  rw [after0_7]
  exact (tile7 m c t y).trans (congrArg₂ mom (iblk3 m c t y _ z) (gtile_at m c t y _ z))

/-- The second moment after the run. -/
theorem final8 : (dats m (ok m) 0 c).arrAt 8 (cfgM m (ok m)).N = G8 m c := by
  refine (dats m (ok m) 0 c).arrAt_eq_of_covers 8 _ (cov8 m) fun t hf y => ?_
  have z := at5 m t y
  blk_simp
  rw [after0_8]
  exact (tile8 m c t y).trans (congrArg₂ mom2 (iblk4 m c t y _ z) (gtile_at m c t y _ z))

/-- The change after the run. -/
theorem final6 : (dats m (ok m) 0 c).arrAt 6 (cfgM m (ok m)).N = G6 m c := by
  refine (dats m (ok m) 0 c).arrAt_eq_of_covers 6 _ (cov6 m) fun t hf y => ?_
  have z := at5 m t y
  blk_simp
  rw [after0_6]
  exact (tile6 m c t y).trans (by rw [iblk0 m c t y _ z, iblk3 m c t y _ z, iblk4 m c t y _ z, gtile_at m c t y _ z]; rfl)

end

section
open Cert.AdamDownRefIdeal Cert.AdamDownRefIdeal.Gen

/-- The reference's gradient at an index. -/
theorem ref_grad (w : IVec S1 32) (mine theirs : FVec Ideal S4x704x2048 .f32) (i : S4x1408x2048.Idx) :
    concatenate S4x1408x2048 1 [⟨S4x704x2048, (select (broadcastInDim S4x704x2048 ![] bcast_S_S4x704x2048 (cmpi .eq (shapeCast _ w shapeCasts_S1_S_) (constantI S_ 32 0#32))) mine theirs)⟩, ⟨S4x704x2048, (select (broadcastInDim S4x704x2048 ![] bcast_S_S4x704x2048 (cmpi .eq (shapeCast _ w shapeCasts_S1_S_) (constantI S_ 32 1#32))) mine theirs)⟩] concatenates_S4x704x2048_S4x704x2048_S4x1408x2048_d1 i
      = grad (w (ix1 0)) mine theirs i := by
  obtain ⟨l, r, q, rfl⟩ : ∃ (l : Fin 4) (r : Fin 1408) (q : Fin 2048), i = ix3 l r q := ⟨i 0, i 1, i 2, eq_ix3 i⟩
  pointwise [grad]
  split_ifs with h
  · rw [cmpi_comm, show r.val / 704 = 0 by omega]
    congr 3 <;> exact Fin.ext (by show r.val = r.val % 704; omega)
  · have hr := r.isLt
    rw [cmpi_comm, show r.val / 704 = 1 by omega]
    congr 3 <;> exact Fin.ext (by show r.val - 704 = r.val % 704; omega)
  · rename_i h'
    exact absurd rfl h'

end

/-- THE CLAIM: both programs run, and end with equal results. -/
theorem alg : Cert.algebraic_AdamDownIdeal_AdamDownRefIdeal := by
  intro m g m' g' hpre hagree
  refine ⟨fun c => G5 m c, fun c => G6 m c, fun c => G7 m c, fun c => G8 m c, ?_, ?_⟩
  · refine (θ_run _ _ _).mono (fun _ h c => ?_) (θ_run_and (Cert.AdamDownIdeal.Gen.run_main m g (ok m)) (Cert.AdamDownIdeal.Gen.unchanged m g (ok m)))
    exact ⟨((h.1 c).1 5).trans (final5 m c), ((h.1 c).1 6).trans (final6 m c), ((h.1 c).1 7).trans (final7 m c), ((h.1 c).1 8).trans (final8 m c), h.2 c⟩
  · refine (θ_run _ _ _).mono (fun _ h c => ?_) (Cert.AdamDownRefIdeal.Value.run m' g')
    obtain ⟨a0, a1, a2, a3, a4, a5⟩ := hagree c
    refine ⟨(h c).1.trans ?_, (h c).2.1.trans ?_, (h c).2.2.1.trans ?_, (h c).2.2.2.1.trans ?_, (h c).2.2.2.2⟩
    · rw [a0, a2, a3]
      exact funext fun i => ref_grad _ _ _ i
    · rw [a0, a1, a2, a3, a4, a5]
      exact funext fun i => (ref_step _ _ _ _ _ i).trans (by rw [ref_grad]; rfl)
    · rw [a0, a2, a3, a4]
      exact funext fun i => (ref_mom _ _ _ i).trans (by rw [ref_grad]; rfl)
    · rw [a0, a2, a3, a5]
      exact funext fun i => (ref_sq _ _ _ i).trans (by rw [ref_grad]; rfl)

/-- The same of the kernel. -/
theorem ok_p {F : FTy → Type} [FloatOps F] (m : (ℓ : Loc Cert.AdamDown.nD Cert.AdamDown.τ Cert.AdamDown.sig) → Buf (Elt F) ℓ) : Cert.AdamDown.Gen.Ok m := by
  refine ⟨fun i => ⟨?_, .inl rfl⟩, fun i => ⟨?_, .inl rfl⟩⟩
  · unfold Cert.AdamDown.cc0_transform_1
    exact inside1 i _
  · unfold Cert.AdamDown.cc0_transform_2
    exact inside2 i _

theorem frame_p : Cert.quiescent_AdamDown := fun m ρ _ => Cert.AdamDown.Gen.frame m ρ (ok_p m)
theorem frame_pi : Cert.quiescent_AdamDownIdeal := fun m ρ _ => Cert.AdamDownIdeal.Gen.frame m ρ (ok m)
theorem frame_ri : Cert.quiescent_AdamDownRefIdeal := fun m ρ _ =>
  (θ_run Cert.AdamDownRefIdeal.defs _ _).mono (fun r h => ⟨fun c => (h c).2.2.2.2,
      Idealize.ShloMosaic.sem_eq_zero_of_no_sems (by decide) r.2⟩)
    (Cert.AdamDownRefIdeal.Value.run (F := Ideal) m ρ)

end Cert.AdamDownProof

end
-- ==== Proof.lean ====
/- The claim put together: every program's run, and for each kernel its agreement with the reference. -/
module

public import proofs.«01_k».proof.Defs
public import proofs.«01_k».proof.Proof.AttnAlg
public import proofs.«01_k».proof.Proof.FfnAlg
public import proofs.«01_k».proof.Proof.FfnIn
public import proofs.«01_k».proof.Proof.FfnUpW
public import proofs.«01_k».proof.Proof.FfnDownW
public import proofs.«01_k».proof.Proof.MixIn
public import proofs.«01_k».proof.Proof.MixInW
public import proofs.«01_k».proof.Proof.MixOutW
public import proofs.«01_k».proof.Proof.MixOut
public import proofs.«01_k».proof.Proof.FfnFwd
public import proofs.«01_k».proof.Proof.MixFwd
public import proofs.«01_k».proof.Proof.MixRes
public import proofs.«01_k».proof.Proof.FfnOut
public import proofs.«01_k».proof.Proof.RmsBwd
public import proofs.«01_k».proof.Proof.AdamOut
public import proofs.«01_k».proof.Proof.AdamIn
public import proofs.«01_k».proof.Proof.AdamUp
public import proofs.«01_k».proof.Proof.AdamDown
public import Idealize.ShloMosaic.Adequacy
public import Idealize.ShloMosaic.Init

@[expose] public section

noncomputable section

namespace Cert.Proof

/-- Every claim of `proofs.certify`, in its order. -/
theorem claim : Cert.Claim := ⟨Cert.AttnBwd.Gen.facts, Cert.AttnBwdIdeal.Gen.facts, Cert.AttnRefIdeal.Gen.facts, Cert.FfnBwd.Gen.facts, Cert.FfnBwdIdeal.Gen.facts, Cert.FfnRefIdeal.Gen.facts, Cert.FfnIn.Gen.facts, Cert.FfnInIdeal.Gen.facts, Cert.FfnInRefIdeal.Gen.facts, Cert.FfnUpW.Gen.facts, Cert.FfnUpWIdeal.Gen.facts, Cert.FfnUpWRefIdeal.Gen.facts, Cert.FfnDownW.Gen.facts, Cert.FfnDownWIdeal.Gen.facts, Cert.FfnDownWRefIdeal.Gen.facts, Cert.MixIn.Gen.facts, Cert.MixInIdeal.Gen.facts, Cert.MixInRefIdeal.Gen.facts, Cert.MixInW.Gen.facts, Cert.MixInWIdeal.Gen.facts, Cert.MixInWRefIdeal.Gen.facts, Cert.MixOutW.Gen.facts, Cert.MixOutWIdeal.Gen.facts, Cert.MixOutWRefIdeal.Gen.facts, Cert.MixOut.Gen.facts, Cert.MixOutIdeal.Gen.facts, Cert.MixOutRefIdeal.Gen.facts, Cert.FfnFwd.Gen.facts, Cert.FfnFwdIdeal.Gen.facts, Cert.FfnFwdRefIdeal.Gen.facts, Cert.MixFwd.Gen.facts, Cert.MixFwdIdeal.Gen.facts, Cert.MixFwdRefIdeal.Gen.facts, Cert.MixRes.Gen.facts, Cert.MixResIdeal.Gen.facts, Cert.MixResRefIdeal.Gen.facts, Cert.FfnOut.Gen.facts, Cert.FfnOutIdeal.Gen.facts, Cert.FfnOutRefIdeal.Gen.facts, Cert.RmsBwd.Gen.facts, Cert.RmsBwdIdeal.Gen.facts, Cert.RmsBwdRefIdeal.Gen.facts, Cert.AdamOut.Gen.facts, Cert.AdamOutIdeal.Gen.facts, Cert.AdamOutRefIdeal.Gen.facts, Cert.AdamIn.Gen.facts, Cert.AdamInIdeal.Gen.facts, Cert.AdamInRefIdeal.Gen.facts, Cert.AdamUp.Gen.facts, Cert.AdamUpIdeal.Gen.facts, Cert.AdamUpRefIdeal.Gen.facts, Cert.AdamDown.Gen.facts, Cert.AdamDownIdeal.Gen.facts, Cert.AdamDownRefIdeal.Gen.facts, Cert.Pre_finite.Gen.facts, Cert.Pre_finite2.Gen.facts, Cert.Pre_finite14.Gen.facts,
  ⟨Cert.AttnAlg.frame_p, Cert.AttnAlg.frame_pi, Cert.AttnAlg.frame_pi_pre,
    Cert.AttnAlg.frame_ri, Cert.AttnAlg.frame_ri_pre,
    Cert.FfnAlg.frame_p, Cert.FfnAlg.frame_pi, fun m ρ _ => Cert.FfnAlg.frame_pi m ρ trivial,
    Cert.FfnAlg.frame_ri, fun m ρ _ => Cert.FfnAlg.frame_ri m ρ trivial,
    Cert.FfnInProof.frame_p, Cert.FfnInProof.frame_pi, Cert.FfnInProof.frame_ri,
    Cert.FfnUpWProof.frame_p, Cert.FfnUpWProof.frame_pi, Cert.FfnUpWProof.frame_ri,
    Cert.FfnDownWProof.frame_p, Cert.FfnDownWProof.frame_pi, Cert.FfnDownWProof.frame_ri,
    Cert.MixInProof.frame_p, Cert.MixInProof.frame_pi, Cert.MixInProof.frame_ri,
    Cert.MixInWProof.frame_p, Cert.MixInWProof.frame_pi, Cert.MixInWProof.frame_ri,
    Cert.MixOutWProof.frame_p, Cert.MixOutWProof.frame_pi, Cert.MixOutWProof.frame_ri,
    Cert.MixOutProof.frame_p, Cert.MixOutProof.frame_pi, Cert.MixOutProof.frame_ri,
    Cert.FfnFwdProof.frame_p, Cert.FfnFwdProof.frame_pi, Cert.FfnFwdProof.frame_ri,
    Cert.MixFwdProof.frame_p, Cert.MixFwdProof.frame_pi, Cert.MixFwdProof.frame_ri,
    Cert.MixResProof.frame_p, Cert.MixResProof.frame_pi, Cert.MixResProof.frame_ri,
    Cert.FfnOutProof.frame_p, Cert.FfnOutProof.frame_pi, Cert.FfnOutProof.frame_ri,
    Cert.RmsBwdProof.frame_p, Cert.RmsBwdProof.frame_pi, fun m ρ _ => Cert.RmsBwdProof.frame_pi m ρ trivial, Cert.RmsBwdProof.frame_ri, fun m ρ _ => Cert.RmsBwdProof.frame_ri m ρ trivial,
    Cert.AdamOutProof.frame_p, Cert.AdamOutProof.frame_pi, Cert.AdamOutProof.frame_ri,
    Cert.AdamInProof.frame_p, Cert.AdamInProof.frame_pi, Cert.AdamInProof.frame_ri,
    Cert.AdamUpProof.frame_p, Cert.AdamUpProof.frame_pi, Cert.AdamUpProof.frame_ri,
    Cert.AdamDownProof.frame_p, Cert.AdamDownProof.frame_pi, Cert.AdamDownProof.frame_ri,
    Cert.AttnAlg.preserves, Cert.AttnAlg.alg,
    trivial, Cert.FfnAlg.alg,
    trivial, Cert.FfnInProof.alg,
    trivial, Cert.FfnUpWProof.alg,
    trivial, Cert.FfnDownWProof.alg,
    trivial, Cert.MixInProof.alg,
    trivial, Cert.MixInWProof.alg,
    trivial, Cert.MixOutWProof.alg,
    trivial, Cert.MixOutProof.alg,
    trivial, Cert.FfnFwdProof.alg,
    trivial, Cert.MixFwdProof.alg,
    trivial, Cert.MixResProof.alg,
    trivial, Cert.FfnOutProof.alg,
    trivial, Cert.RmsBwdProof.alg,
    trivial, Cert.AdamOutProof.alg,
    trivial, Cert.AdamInProof.alg,
    trivial, Cert.AdamUpProof.alg,
    trivial, Cert.AdamDownProof.alg⟩⟩

end Cert.Proof

end
